-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_FfnMid (m : (ℓ : Loc Cert.FfnMid.nD Cert.FfnMid.τ Cert.FfnMid.sig) → Buf (Elt Bits) ℓ) : Prop :=
  True

def Pre_FfnMidIdeal (m : (ℓ : Loc Cert.FfnMidIdeal.nD Cert.FfnMidIdeal.τ Cert.FfnMidIdeal.sig) → Buf (Elt Ideal) ℓ) : Prop :=
  True

def Pre_FfnMidReferenceIdeal (m : (ℓ : Loc Cert.FfnMidReferenceIdeal.nD Cert.FfnMidReferenceIdeal.τ Cert.FfnMidReferenceIdeal.sig) → Buf (Elt Ideal) ℓ) : Prop :=
  True

def Pre_FfnFirst (m : (ℓ : Loc Cert.FfnFirst.nD Cert.FfnFirst.τ Cert.FfnFirst.sig) → Buf (Elt Bits) ℓ) : Prop :=
  True

def Pre_FfnFirstIdeal (m : (ℓ : Loc Cert.FfnFirstIdeal.nD Cert.FfnFirstIdeal.τ Cert.FfnFirstIdeal.sig) → Buf (Elt Ideal) ℓ) : Prop :=
  True

def Pre_FfnFirstReferenceIdeal (m : (ℓ : Loc Cert.FfnFirstReferenceIdeal.nD Cert.FfnFirstReferenceIdeal.τ Cert.FfnFirstReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_MergeFirst (m : (ℓ : Loc Cert.MergeFirst.nD Cert.MergeFirst.τ Cert.MergeFirst.sig) → Buf (Elt Bits) ℓ) : Prop :=
  True

def Pre_MergeFirstIdeal (m : (ℓ : Loc Cert.MergeFirstIdeal.nD Cert.MergeFirstIdeal.τ Cert.MergeFirstIdeal.sig) → Buf (Elt Ideal) ℓ) : Prop :=
  True

def Pre_MergeFirstReferenceIdeal (m : (ℓ : Loc Cert.MergeFirstReferenceIdeal.nD Cert.MergeFirstReferenceIdeal.τ Cert.MergeFirstReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_ProjFirst (m : (ℓ : Loc Cert.ProjFirst.nD Cert.ProjFirst.τ Cert.ProjFirst.sig) → Buf (Elt Bits) ℓ) : Prop :=
  True

def Pre_ProjFirstIdeal (m : (ℓ : Loc Cert.ProjFirstIdeal.nD Cert.ProjFirstIdeal.τ Cert.ProjFirstIdeal.sig) → Buf (Elt Ideal) ℓ) : Prop :=
  True

def Pre_ProjFirstReferenceIdeal (m : (ℓ : Loc Cert.ProjFirstReferenceIdeal.nD Cert.ProjFirstReferenceIdeal.τ Cert.ProjFirstReferenceIdeal.sig) → Buf (Elt Ideal) ℓ) : Prop :=
  True

def Pre_Compress (m : (ℓ : Loc Cert.Compress.nD Cert.Compress.τ Cert.Compress.sig) → Buf (Elt Bits) ℓ) : Prop :=
  True

def Pre_CompressIdeal (m : (ℓ : Loc Cert.CompressIdeal.nD Cert.CompressIdeal.τ Cert.CompressIdeal.sig) → Buf (Elt Ideal) ℓ) : Prop :=
  True

def Pre_CompressReferenceIdeal (m : (ℓ : Loc Cert.CompressReferenceIdeal.nD Cert.CompressReferenceIdeal.τ Cert.CompressReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_FfnMid [hFfnMid : Cert.FfnMid.Facts] : Prop :=
  ∀ (m : (ℓ : Loc Cert.FfnMid.nD Cert.FfnMid.τ Cert.FfnMid.sig) → Buf (Elt Bits) ℓ) (g : Dev Cert.FfnMid.nD → PrngReg), Pre_FfnMid m →
    θ_run (Cert.FfnMid.defs (F := Bits)) (onTc (τ := Cert.FfnMid.τ) (Cert.FfnMid.main (F := Bits))) ⟨m, fun _ => 0, g⟩ (fun r => (∀ c : Dev Cert.FfnMid.nD,
      r.2.mem ((c.tc : Thread Cert.FfnMid.nD Cert.FfnMid.τ).loc Cert.FfnMid.main_arg0) = m ((c.tc : Thread Cert.FfnMid.nD Cert.FfnMid.τ).loc Cert.FfnMid.main_arg0)
      ∧ r.2.mem ((c.tc : Thread Cert.FfnMid.nD Cert.FfnMid.τ).loc Cert.FfnMid.main_arg1) = m ((c.tc : Thread Cert.FfnMid.nD Cert.FfnMid.τ).loc Cert.FfnMid.main_arg1)
      ∧ r.2.mem ((c.tc : Thread Cert.FfnMid.nD Cert.FfnMid.τ).loc Cert.FfnMid.main_arg2) = m ((c.tc : Thread Cert.FfnMid.nD Cert.FfnMid.τ).loc Cert.FfnMid.main_arg2)
      ∧ r.2.mem ((c.tc : Thread Cert.FfnMid.nD Cert.FfnMid.τ).loc Cert.FfnMid.main_arg3) = m ((c.tc : Thread Cert.FfnMid.nD Cert.FfnMid.τ).loc Cert.FfnMid.main_arg3)
      ∧ r.2.mem ((c.tc : Thread Cert.FfnMid.nD Cert.FfnMid.τ).loc Cert.FfnMid.main_arg4) = m ((c.tc : Thread Cert.FfnMid.nD Cert.FfnMid.τ).loc Cert.FfnMid.main_arg4)
      ∧ r.2.mem ((c.tc : Thread Cert.FfnMid.nD Cert.FfnMid.τ).loc Cert.FfnMid.main_arg5) = m ((c.tc : Thread Cert.FfnMid.nD Cert.FfnMid.τ).loc Cert.FfnMid.main_arg5))
      ∧ r.2.sem = fun _ => 0)

def quiescent_FfnMidIdeal [hFfnMidIdeal : Cert.FfnMidIdeal.Facts] : Prop :=
  ∀ (m : (ℓ : Loc Cert.FfnMidIdeal.nD Cert.FfnMidIdeal.τ Cert.FfnMidIdeal.sig) → Buf (Elt Ideal) ℓ) (g : Dev Cert.FfnMidIdeal.nD → PrngReg), Pre_FfnMidIdeal m →
    θ_run (Cert.FfnMidIdeal.defs (F := Ideal)) (onTc (τ := Cert.FfnMidIdeal.τ) (Cert.FfnMidIdeal.main (F := Ideal))) ⟨m, fun _ => 0, g⟩ (fun r => (∀ c : Dev Cert.FfnMidIdeal.nD,
      r.2.mem ((c.tc : Thread Cert.FfnMidIdeal.nD Cert.FfnMidIdeal.τ).loc Cert.FfnMidIdeal.main_arg0) = m ((c.tc : Thread Cert.FfnMidIdeal.nD Cert.FfnMidIdeal.τ).loc Cert.FfnMidIdeal.main_arg0)
      ∧ r.2.mem ((c.tc : Thread Cert.FfnMidIdeal.nD Cert.FfnMidIdeal.τ).loc Cert.FfnMidIdeal.main_arg1) = m ((c.tc : Thread Cert.FfnMidIdeal.nD Cert.FfnMidIdeal.τ).loc Cert.FfnMidIdeal.main_arg1)
      ∧ r.2.mem ((c.tc : Thread Cert.FfnMidIdeal.nD Cert.FfnMidIdeal.τ).loc Cert.FfnMidIdeal.main_arg2) = m ((c.tc : Thread Cert.FfnMidIdeal.nD Cert.FfnMidIdeal.τ).loc Cert.FfnMidIdeal.main_arg2)
      ∧ r.2.mem ((c.tc : Thread Cert.FfnMidIdeal.nD Cert.FfnMidIdeal.τ).loc Cert.FfnMidIdeal.main_arg3) = m ((c.tc : Thread Cert.FfnMidIdeal.nD Cert.FfnMidIdeal.τ).loc Cert.FfnMidIdeal.main_arg3)
      ∧ r.2.mem ((c.tc : Thread Cert.FfnMidIdeal.nD Cert.FfnMidIdeal.τ).loc Cert.FfnMidIdeal.main_arg4) = m ((c.tc : Thread Cert.FfnMidIdeal.nD Cert.FfnMidIdeal.τ).loc Cert.FfnMidIdeal.main_arg4)
      ∧ r.2.mem ((c.tc : Thread Cert.FfnMidIdeal.nD Cert.FfnMidIdeal.τ).loc Cert.FfnMidIdeal.main_arg5) = m ((c.tc : Thread Cert.FfnMidIdeal.nD Cert.FfnMidIdeal.τ).loc Cert.FfnMidIdeal.main_arg5))
      ∧ r.2.sem = fun _ => 0)

def quiescent_FfnMidReferenceIdeal [hFfnMidReferenceIdeal : Cert.FfnMidReferenceIdeal.Facts] : Prop :=
  ∀ (m : (ℓ : Loc Cert.FfnMidReferenceIdeal.nD Cert.FfnMidReferenceIdeal.τ Cert.FfnMidReferenceIdeal.sig) → Buf (Elt Ideal) ℓ) (g : Dev Cert.FfnMidReferenceIdeal.nD → PrngReg), Pre_FfnMidReferenceIdeal m →
    θ_run (Cert.FfnMidReferenceIdeal.defs (F := Ideal)) (onTc (τ := Cert.FfnMidReferenceIdeal.τ) (Cert.FfnMidReferenceIdeal.main (F := Ideal))) ⟨m, fun _ => 0, g⟩ (fun r => (∀ c : Dev Cert.FfnMidReferenceIdeal.nD,
      r.2.mem ((c.tc : Thread Cert.FfnMidReferenceIdeal.nD Cert.FfnMidReferenceIdeal.τ).loc Cert.FfnMidReferenceIdeal.main_arg0) = m ((c.tc : Thread Cert.FfnMidReferenceIdeal.nD Cert.FfnMidReferenceIdeal.τ).loc Cert.FfnMidReferenceIdeal.main_arg0)
      ∧ r.2.mem ((c.tc : Thread Cert.FfnMidReferenceIdeal.nD Cert.FfnMidReferenceIdeal.τ).loc Cert.FfnMidReferenceIdeal.main_arg1) = m ((c.tc : Thread Cert.FfnMidReferenceIdeal.nD Cert.FfnMidReferenceIdeal.τ).loc Cert.FfnMidReferenceIdeal.main_arg1)
      ∧ r.2.mem ((c.tc : Thread Cert.FfnMidReferenceIdeal.nD Cert.FfnMidReferenceIdeal.τ).loc Cert.FfnMidReferenceIdeal.main_arg2) = m ((c.tc : Thread Cert.FfnMidReferenceIdeal.nD Cert.FfnMidReferenceIdeal.τ).loc Cert.FfnMidReferenceIdeal.main_arg2)
      ∧ r.2.mem ((c.tc : Thread Cert.FfnMidReferenceIdeal.nD Cert.FfnMidReferenceIdeal.τ).loc Cert.FfnMidReferenceIdeal.main_arg3) = m ((c.tc : Thread Cert.FfnMidReferenceIdeal.nD Cert.FfnMidReferenceIdeal.τ).loc Cert.FfnMidReferenceIdeal.main_arg3)
      ∧ r.2.mem ((c.tc : Thread Cert.FfnMidReferenceIdeal.nD Cert.FfnMidReferenceIdeal.τ).loc Cert.FfnMidReferenceIdeal.main_arg4) = m ((c.tc : Thread Cert.FfnMidReferenceIdeal.nD Cert.FfnMidReferenceIdeal.τ).loc Cert.FfnMidReferenceIdeal.main_arg4)
      ∧ r.2.mem ((c.tc : Thread Cert.FfnMidReferenceIdeal.nD Cert.FfnMidReferenceIdeal.τ).loc Cert.FfnMidReferenceIdeal.main_arg5) = m ((c.tc : Thread Cert.FfnMidReferenceIdeal.nD Cert.FfnMidReferenceIdeal.τ).loc Cert.FfnMidReferenceIdeal.main_arg5))
      ∧ r.2.sem = fun _ => 0)

def quiescent_FfnFirst [hFfnFirst : Cert.FfnFirst.Facts] : Prop :=
  ∀ (m : (ℓ : Loc Cert.FfnFirst.nD Cert.FfnFirst.τ Cert.FfnFirst.sig) → Buf (Elt Bits) ℓ) (g : Dev Cert.FfnFirst.nD → PrngReg), Pre_FfnFirst m →
    θ_run (Cert.FfnFirst.defs (F := Bits)) (onTc (τ := Cert.FfnFirst.τ) (Cert.FfnFirst.main (F := Bits))) ⟨m, fun _ => 0, g⟩ (fun r => (∀ c : Dev Cert.FfnFirst.nD,
      r.2.mem ((c.tc : Thread Cert.FfnFirst.nD Cert.FfnFirst.τ).loc Cert.FfnFirst.main_arg0) = m ((c.tc : Thread Cert.FfnFirst.nD Cert.FfnFirst.τ).loc Cert.FfnFirst.main_arg0)
      ∧ r.2.mem ((c.tc : Thread Cert.FfnFirst.nD Cert.FfnFirst.τ).loc Cert.FfnFirst.main_arg1) = m ((c.tc : Thread Cert.FfnFirst.nD Cert.FfnFirst.τ).loc Cert.FfnFirst.main_arg1)
      ∧ r.2.mem ((c.tc : Thread Cert.FfnFirst.nD Cert.FfnFirst.τ).loc Cert.FfnFirst.main_arg2) = m ((c.tc : Thread Cert.FfnFirst.nD Cert.FfnFirst.τ).loc Cert.FfnFirst.main_arg2)
      ∧ r.2.mem ((c.tc : Thread Cert.FfnFirst.nD Cert.FfnFirst.τ).loc Cert.FfnFirst.main_arg3) = m ((c.tc : Thread Cert.FfnFirst.nD Cert.FfnFirst.τ).loc Cert.FfnFirst.main_arg3)
      ∧ r.2.mem ((c.tc : Thread Cert.FfnFirst.nD Cert.FfnFirst.τ).loc Cert.FfnFirst.main_arg4) = m ((c.tc : Thread Cert.FfnFirst.nD Cert.FfnFirst.τ).loc Cert.FfnFirst.main_arg4)
      ∧ r.2.mem ((c.tc : Thread Cert.FfnFirst.nD Cert.FfnFirst.τ).loc Cert.FfnFirst.main_arg5) = m ((c.tc : Thread Cert.FfnFirst.nD Cert.FfnFirst.τ).loc Cert.FfnFirst.main_arg5))
      ∧ r.2.sem = fun _ => 0)

def quiescent_FfnFirstIdeal [hFfnFirstIdeal : Cert.FfnFirstIdeal.Facts] : Prop :=
  ∀ (m : (ℓ : Loc Cert.FfnFirstIdeal.nD Cert.FfnFirstIdeal.τ Cert.FfnFirstIdeal.sig) → Buf (Elt Ideal) ℓ) (g : Dev Cert.FfnFirstIdeal.nD → PrngReg), Pre_FfnFirstIdeal m →
    θ_run (Cert.FfnFirstIdeal.defs (F := Ideal)) (onTc (τ := Cert.FfnFirstIdeal.τ) (Cert.FfnFirstIdeal.main (F := Ideal))) ⟨m, fun _ => 0, g⟩ (fun r => (∀ c : Dev Cert.FfnFirstIdeal.nD,
      r.2.mem ((c.tc : Thread Cert.FfnFirstIdeal.nD Cert.FfnFirstIdeal.τ).loc Cert.FfnFirstIdeal.main_arg0) = m ((c.tc : Thread Cert.FfnFirstIdeal.nD Cert.FfnFirstIdeal.τ).loc Cert.FfnFirstIdeal.main_arg0)
      ∧ r.2.mem ((c.tc : Thread Cert.FfnFirstIdeal.nD Cert.FfnFirstIdeal.τ).loc Cert.FfnFirstIdeal.main_arg1) = m ((c.tc : Thread Cert.FfnFirstIdeal.nD Cert.FfnFirstIdeal.τ).loc Cert.FfnFirstIdeal.main_arg1)
      ∧ r.2.mem ((c.tc : Thread Cert.FfnFirstIdeal.nD Cert.FfnFirstIdeal.τ).loc Cert.FfnFirstIdeal.main_arg2) = m ((c.tc : Thread Cert.FfnFirstIdeal.nD Cert.FfnFirstIdeal.τ).loc Cert.FfnFirstIdeal.main_arg2)
      ∧ r.2.mem ((c.tc : Thread Cert.FfnFirstIdeal.nD Cert.FfnFirstIdeal.τ).loc Cert.FfnFirstIdeal.main_arg3) = m ((c.tc : Thread Cert.FfnFirstIdeal.nD Cert.FfnFirstIdeal.τ).loc Cert.FfnFirstIdeal.main_arg3)
      ∧ r.2.mem ((c.tc : Thread Cert.FfnFirstIdeal.nD Cert.FfnFirstIdeal.τ).loc Cert.FfnFirstIdeal.main_arg4) = m ((c.tc : Thread Cert.FfnFirstIdeal.nD Cert.FfnFirstIdeal.τ).loc Cert.FfnFirstIdeal.main_arg4)
      ∧ r.2.mem ((c.tc : Thread Cert.FfnFirstIdeal.nD Cert.FfnFirstIdeal.τ).loc Cert.FfnFirstIdeal.main_arg5) = m ((c.tc : Thread Cert.FfnFirstIdeal.nD Cert.FfnFirstIdeal.τ).loc Cert.FfnFirstIdeal.main_arg5))
      ∧ r.2.sem = fun _ => 0)

def quiescent_FfnFirstReferenceIdeal [hFfnFirstReferenceIdeal : Cert.FfnFirstReferenceIdeal.Facts] : Prop :=
  ∀ (m : (ℓ : Loc Cert.FfnFirstReferenceIdeal.nD Cert.FfnFirstReferenceIdeal.τ Cert.FfnFirstReferenceIdeal.sig) → Buf (Elt Ideal) ℓ) (g : Dev Cert.FfnFirstReferenceIdeal.nD → PrngReg), Pre_FfnFirstReferenceIdeal m →
    θ_run (Cert.FfnFirstReferenceIdeal.defs (F := Ideal)) (onTc (τ := Cert.FfnFirstReferenceIdeal.τ) (Cert.FfnFirstReferenceIdeal.main (F := Ideal))) ⟨m, fun _ => 0, g⟩ (fun r => (∀ c : Dev Cert.FfnFirstReferenceIdeal.nD,
      r.2.mem ((c.tc : Thread Cert.FfnFirstReferenceIdeal.nD Cert.FfnFirstReferenceIdeal.τ).loc Cert.FfnFirstReferenceIdeal.main_arg0) = m ((c.tc : Thread Cert.FfnFirstReferenceIdeal.nD Cert.FfnFirstReferenceIdeal.τ).loc Cert.FfnFirstReferenceIdeal.main_arg0)
      ∧ r.2.mem ((c.tc : Thread Cert.FfnFirstReferenceIdeal.nD Cert.FfnFirstReferenceIdeal.τ).loc Cert.FfnFirstReferenceIdeal.main_arg1) = m ((c.tc : Thread Cert.FfnFirstReferenceIdeal.nD Cert.FfnFirstReferenceIdeal.τ).loc Cert.FfnFirstReferenceIdeal.main_arg1)
      ∧ r.2.mem ((c.tc : Thread Cert.FfnFirstReferenceIdeal.nD Cert.FfnFirstReferenceIdeal.τ).loc Cert.FfnFirstReferenceIdeal.main_arg2) = m ((c.tc : Thread Cert.FfnFirstReferenceIdeal.nD Cert.FfnFirstReferenceIdeal.τ).loc Cert.FfnFirstReferenceIdeal.main_arg2)
      ∧ r.2.mem ((c.tc : Thread Cert.FfnFirstReferenceIdeal.nD Cert.FfnFirstReferenceIdeal.τ).loc Cert.FfnFirstReferenceIdeal.main_arg3) = m ((c.tc : Thread Cert.FfnFirstReferenceIdeal.nD Cert.FfnFirstReferenceIdeal.τ).loc Cert.FfnFirstReferenceIdeal.main_arg3)
      ∧ r.2.mem ((c.tc : Thread Cert.FfnFirstReferenceIdeal.nD Cert.FfnFirstReferenceIdeal.τ).loc Cert.FfnFirstReferenceIdeal.main_arg4) = m ((c.tc : Thread Cert.FfnFirstReferenceIdeal.nD Cert.FfnFirstReferenceIdeal.τ).loc Cert.FfnFirstReferenceIdeal.main_arg4)
      ∧ r.2.mem ((c.tc : Thread Cert.FfnFirstReferenceIdeal.nD Cert.FfnFirstReferenceIdeal.τ).loc Cert.FfnFirstReferenceIdeal.main_arg5) = m ((c.tc : Thread Cert.FfnFirstReferenceIdeal.nD Cert.FfnFirstReferenceIdeal.τ).loc Cert.FfnFirstReferenceIdeal.main_arg5))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7))
      ∧ r.2.sem = fun _ => 0)

def quiescent_MergeFirst [hMergeFirst : Cert.MergeFirst.Facts] : Prop :=
  ∀ (m : (ℓ : Loc Cert.MergeFirst.nD Cert.MergeFirst.τ Cert.MergeFirst.sig) → Buf (Elt Bits) ℓ) (g : Dev Cert.MergeFirst.nD → PrngReg), Pre_MergeFirst m →
    θ_run (Cert.MergeFirst.defs (F := Bits)) (onTc (τ := Cert.MergeFirst.τ) (Cert.MergeFirst.main (F := Bits))) ⟨m, fun _ => 0, g⟩ (fun r => (∀ c : Dev Cert.MergeFirst.nD,
      r.2.mem ((c.tc : Thread Cert.MergeFirst.nD Cert.MergeFirst.τ).loc Cert.MergeFirst.main_arg0) = m ((c.tc : Thread Cert.MergeFirst.nD Cert.MergeFirst.τ).loc Cert.MergeFirst.main_arg0)
      ∧ r.2.mem ((c.tc : Thread Cert.MergeFirst.nD Cert.MergeFirst.τ).loc Cert.MergeFirst.main_arg1) = m ((c.tc : Thread Cert.MergeFirst.nD Cert.MergeFirst.τ).loc Cert.MergeFirst.main_arg1)
      ∧ r.2.mem ((c.tc : Thread Cert.MergeFirst.nD Cert.MergeFirst.τ).loc Cert.MergeFirst.main_arg2) = m ((c.tc : Thread Cert.MergeFirst.nD Cert.MergeFirst.τ).loc Cert.MergeFirst.main_arg2)
      ∧ r.2.mem ((c.tc : Thread Cert.MergeFirst.nD Cert.MergeFirst.τ).loc Cert.MergeFirst.main_arg3) = m ((c.tc : Thread Cert.MergeFirst.nD Cert.MergeFirst.τ).loc Cert.MergeFirst.main_arg3)
      ∧ r.2.mem ((c.tc : Thread Cert.MergeFirst.nD Cert.MergeFirst.τ).loc Cert.MergeFirst.main_arg4) = m ((c.tc : Thread Cert.MergeFirst.nD Cert.MergeFirst.τ).loc Cert.MergeFirst.main_arg4)
      ∧ r.2.mem ((c.tc : Thread Cert.MergeFirst.nD Cert.MergeFirst.τ).loc Cert.MergeFirst.main_arg5) = m ((c.tc : Thread Cert.MergeFirst.nD Cert.MergeFirst.τ).loc Cert.MergeFirst.main_arg5)
      ∧ r.2.mem ((c.tc : Thread Cert.MergeFirst.nD Cert.MergeFirst.τ).loc Cert.MergeFirst.main_arg6) = m ((c.tc : Thread Cert.MergeFirst.nD Cert.MergeFirst.τ).loc Cert.MergeFirst.main_arg6)
      ∧ r.2.mem ((c.tc : Thread Cert.MergeFirst.nD Cert.MergeFirst.τ).loc Cert.MergeFirst.main_arg7) = m ((c.tc : Thread Cert.MergeFirst.nD Cert.MergeFirst.τ).loc Cert.MergeFirst.main_arg7))
      ∧ r.2.sem = fun _ => 0)

def quiescent_MergeFirstIdeal [hMergeFirstIdeal : Cert.MergeFirstIdeal.Facts] : Prop :=
  ∀ (m : (ℓ : Loc Cert.MergeFirstIdeal.nD Cert.MergeFirstIdeal.τ Cert.MergeFirstIdeal.sig) → Buf (Elt Ideal) ℓ) (g : Dev Cert.MergeFirstIdeal.nD → PrngReg), Pre_MergeFirstIdeal m →
    θ_run (Cert.MergeFirstIdeal.defs (F := Ideal)) (onTc (τ := Cert.MergeFirstIdeal.τ) (Cert.MergeFirstIdeal.main (F := Ideal))) ⟨m, fun _ => 0, g⟩ (fun r => (∀ c : Dev Cert.MergeFirstIdeal.nD,
      r.2.mem ((c.tc : Thread Cert.MergeFirstIdeal.nD Cert.MergeFirstIdeal.τ).loc Cert.MergeFirstIdeal.main_arg0) = m ((c.tc : Thread Cert.MergeFirstIdeal.nD Cert.MergeFirstIdeal.τ).loc Cert.MergeFirstIdeal.main_arg0)
      ∧ r.2.mem ((c.tc : Thread Cert.MergeFirstIdeal.nD Cert.MergeFirstIdeal.τ).loc Cert.MergeFirstIdeal.main_arg1) = m ((c.tc : Thread Cert.MergeFirstIdeal.nD Cert.MergeFirstIdeal.τ).loc Cert.MergeFirstIdeal.main_arg1)
      ∧ r.2.mem ((c.tc : Thread Cert.MergeFirstIdeal.nD Cert.MergeFirstIdeal.τ).loc Cert.MergeFirstIdeal.main_arg2) = m ((c.tc : Thread Cert.MergeFirstIdeal.nD Cert.MergeFirstIdeal.τ).loc Cert.MergeFirstIdeal.main_arg2)
      ∧ r.2.mem ((c.tc : Thread Cert.MergeFirstIdeal.nD Cert.MergeFirstIdeal.τ).loc Cert.MergeFirstIdeal.main_arg3) = m ((c.tc : Thread Cert.MergeFirstIdeal.nD Cert.MergeFirstIdeal.τ).loc Cert.MergeFirstIdeal.main_arg3)
      ∧ r.2.mem ((c.tc : Thread Cert.MergeFirstIdeal.nD Cert.MergeFirstIdeal.τ).loc Cert.MergeFirstIdeal.main_arg4) = m ((c.tc : Thread Cert.MergeFirstIdeal.nD Cert.MergeFirstIdeal.τ).loc Cert.MergeFirstIdeal.main_arg4)
      ∧ r.2.mem ((c.tc : Thread Cert.MergeFirstIdeal.nD Cert.MergeFirstIdeal.τ).loc Cert.MergeFirstIdeal.main_arg5) = m ((c.tc : Thread Cert.MergeFirstIdeal.nD Cert.MergeFirstIdeal.τ).loc Cert.MergeFirstIdeal.main_arg5)
      ∧ r.2.mem ((c.tc : Thread Cert.MergeFirstIdeal.nD Cert.MergeFirstIdeal.τ).loc Cert.MergeFirstIdeal.main_arg6) = m ((c.tc : Thread Cert.MergeFirstIdeal.nD Cert.MergeFirstIdeal.τ).loc Cert.MergeFirstIdeal.main_arg6)
      ∧ r.2.mem ((c.tc : Thread Cert.MergeFirstIdeal.nD Cert.MergeFirstIdeal.τ).loc Cert.MergeFirstIdeal.main_arg7) = m ((c.tc : Thread Cert.MergeFirstIdeal.nD Cert.MergeFirstIdeal.τ).loc Cert.MergeFirstIdeal.main_arg7))
      ∧ r.2.sem = fun _ => 0)

def quiescent_MergeFirstReferenceIdeal [hMergeFirstReferenceIdeal : Cert.MergeFirstReferenceIdeal.Facts] : Prop :=
  ∀ (m : (ℓ : Loc Cert.MergeFirstReferenceIdeal.nD Cert.MergeFirstReferenceIdeal.τ Cert.MergeFirstReferenceIdeal.sig) → Buf (Elt Ideal) ℓ) (g : Dev Cert.MergeFirstReferenceIdeal.nD → PrngReg), Pre_MergeFirstReferenceIdeal m →
    θ_run (Cert.MergeFirstReferenceIdeal.defs (F := Ideal)) (onTc (τ := Cert.MergeFirstReferenceIdeal.τ) (Cert.MergeFirstReferenceIdeal.main (F := Ideal))) ⟨m, fun _ => 0, g⟩ (fun r => (∀ c : Dev Cert.MergeFirstReferenceIdeal.nD,
      r.2.mem ((c.tc : Thread Cert.MergeFirstReferenceIdeal.nD Cert.MergeFirstReferenceIdeal.τ).loc Cert.MergeFirstReferenceIdeal.main_arg0) = m ((c.tc : Thread Cert.MergeFirstReferenceIdeal.nD Cert.MergeFirstReferenceIdeal.τ).loc Cert.MergeFirstReferenceIdeal.main_arg0)
      ∧ r.2.mem ((c.tc : Thread Cert.MergeFirstReferenceIdeal.nD Cert.MergeFirstReferenceIdeal.τ).loc Cert.MergeFirstReferenceIdeal.main_arg1) = m ((c.tc : Thread Cert.MergeFirstReferenceIdeal.nD Cert.MergeFirstReferenceIdeal.τ).loc Cert.MergeFirstReferenceIdeal.main_arg1)
      ∧ r.2.mem ((c.tc : Thread Cert.MergeFirstReferenceIdeal.nD Cert.MergeFirstReferenceIdeal.τ).loc Cert.MergeFirstReferenceIdeal.main_arg2) = m ((c.tc : Thread Cert.MergeFirstReferenceIdeal.nD Cert.MergeFirstReferenceIdeal.τ).loc Cert.MergeFirstReferenceIdeal.main_arg2)
      ∧ r.2.mem ((c.tc : Thread Cert.MergeFirstReferenceIdeal.nD Cert.MergeFirstReferenceIdeal.τ).loc Cert.MergeFirstReferenceIdeal.main_arg3) = m ((c.tc : Thread Cert.MergeFirstReferenceIdeal.nD Cert.MergeFirstReferenceIdeal.τ).loc Cert.MergeFirstReferenceIdeal.main_arg3)
      ∧ r.2.mem ((c.tc : Thread Cert.MergeFirstReferenceIdeal.nD Cert.MergeFirstReferenceIdeal.τ).loc Cert.MergeFirstReferenceIdeal.main_arg4) = m ((c.tc : Thread Cert.MergeFirstReferenceIdeal.nD Cert.MergeFirstReferenceIdeal.τ).loc Cert.MergeFirstReferenceIdeal.main_arg4)
      ∧ r.2.mem ((c.tc : Thread Cert.MergeFirstReferenceIdeal.nD Cert.MergeFirstReferenceIdeal.τ).loc Cert.MergeFirstReferenceIdeal.main_arg5) = m ((c.tc : Thread Cert.MergeFirstReferenceIdeal.nD Cert.MergeFirstReferenceIdeal.τ).loc Cert.MergeFirstReferenceIdeal.main_arg5)
      ∧ r.2.mem ((c.tc : Thread Cert.MergeFirstReferenceIdeal.nD Cert.MergeFirstReferenceIdeal.τ).loc Cert.MergeFirstReferenceIdeal.main_arg6) = m ((c.tc : Thread Cert.MergeFirstReferenceIdeal.nD Cert.MergeFirstReferenceIdeal.τ).loc Cert.MergeFirstReferenceIdeal.main_arg6)
      ∧ r.2.mem ((c.tc : Thread Cert.MergeFirstReferenceIdeal.nD Cert.MergeFirstReferenceIdeal.τ).loc Cert.MergeFirstReferenceIdeal.main_arg7) = m ((c.tc : Thread Cert.MergeFirstReferenceIdeal.nD Cert.MergeFirstReferenceIdeal.τ).loc Cert.MergeFirstReferenceIdeal.main_arg7))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4))
      ∧ r.2.sem = fun _ => 0)

def quiescent_ProjFirst [hProjFirst : Cert.ProjFirst.Facts] : Prop :=
  ∀ (m : (ℓ : Loc Cert.ProjFirst.nD Cert.ProjFirst.τ Cert.ProjFirst.sig) → Buf (Elt Bits) ℓ) (g : Dev Cert.ProjFirst.nD → PrngReg), Pre_ProjFirst m →
    θ_run (Cert.ProjFirst.defs (F := Bits)) (onTc (τ := Cert.ProjFirst.τ) (Cert.ProjFirst.main (F := Bits))) ⟨m, fun _ => 0, g⟩ (fun r => (∀ c : Dev Cert.ProjFirst.nD,
      r.2.mem ((c.tc : Thread Cert.ProjFirst.nD Cert.ProjFirst.τ).loc Cert.ProjFirst.main_arg0) = m ((c.tc : Thread Cert.ProjFirst.nD Cert.ProjFirst.τ).loc Cert.ProjFirst.main_arg0)
      ∧ r.2.mem ((c.tc : Thread Cert.ProjFirst.nD Cert.ProjFirst.τ).loc Cert.ProjFirst.main_arg1) = m ((c.tc : Thread Cert.ProjFirst.nD Cert.ProjFirst.τ).loc Cert.ProjFirst.main_arg1)
      ∧ r.2.mem ((c.tc : Thread Cert.ProjFirst.nD Cert.ProjFirst.τ).loc Cert.ProjFirst.main_arg2) = m ((c.tc : Thread Cert.ProjFirst.nD Cert.ProjFirst.τ).loc Cert.ProjFirst.main_arg2)
      ∧ r.2.mem ((c.tc : Thread Cert.ProjFirst.nD Cert.ProjFirst.τ).loc Cert.ProjFirst.main_arg3) = m ((c.tc : Thread Cert.ProjFirst.nD Cert.ProjFirst.τ).loc Cert.ProjFirst.main_arg3)
      ∧ r.2.mem ((c.tc : Thread Cert.ProjFirst.nD Cert.ProjFirst.τ).loc Cert.ProjFirst.main_arg4) = m ((c.tc : Thread Cert.ProjFirst.nD Cert.ProjFirst.τ).loc Cert.ProjFirst.main_arg4))
      ∧ r.2.sem = fun _ => 0)

def quiescent_ProjFirstIdeal [hProjFirstIdeal : Cert.ProjFirstIdeal.Facts] : Prop :=
  ∀ (m : (ℓ : Loc Cert.ProjFirstIdeal.nD Cert.ProjFirstIdeal.τ Cert.ProjFirstIdeal.sig) → Buf (Elt Ideal) ℓ) (g : Dev Cert.ProjFirstIdeal.nD → PrngReg), Pre_ProjFirstIdeal m →
    θ_run (Cert.ProjFirstIdeal.defs (F := Ideal)) (onTc (τ := Cert.ProjFirstIdeal.τ) (Cert.ProjFirstIdeal.main (F := Ideal))) ⟨m, fun _ => 0, g⟩ (fun r => (∀ c : Dev Cert.ProjFirstIdeal.nD,
      r.2.mem ((c.tc : Thread Cert.ProjFirstIdeal.nD Cert.ProjFirstIdeal.τ).loc Cert.ProjFirstIdeal.main_arg0) = m ((c.tc : Thread Cert.ProjFirstIdeal.nD Cert.ProjFirstIdeal.τ).loc Cert.ProjFirstIdeal.main_arg0)
      ∧ r.2.mem ((c.tc : Thread Cert.ProjFirstIdeal.nD Cert.ProjFirstIdeal.τ).loc Cert.ProjFirstIdeal.main_arg1) = m ((c.tc : Thread Cert.ProjFirstIdeal.nD Cert.ProjFirstIdeal.τ).loc Cert.ProjFirstIdeal.main_arg1)
      ∧ r.2.mem ((c.tc : Thread Cert.ProjFirstIdeal.nD Cert.ProjFirstIdeal.τ).loc Cert.ProjFirstIdeal.main_arg2) = m ((c.tc : Thread Cert.ProjFirstIdeal.nD Cert.ProjFirstIdeal.τ).loc Cert.ProjFirstIdeal.main_arg2)
      ∧ r.2.mem ((c.tc : Thread Cert.ProjFirstIdeal.nD Cert.ProjFirstIdeal.τ).loc Cert.ProjFirstIdeal.main_arg3) = m ((c.tc : Thread Cert.ProjFirstIdeal.nD Cert.ProjFirstIdeal.τ).loc Cert.ProjFirstIdeal.main_arg3)
      ∧ r.2.mem ((c.tc : Thread Cert.ProjFirstIdeal.nD Cert.ProjFirstIdeal.τ).loc Cert.ProjFirstIdeal.main_arg4) = m ((c.tc : Thread Cert.ProjFirstIdeal.nD Cert.ProjFirstIdeal.τ).loc Cert.ProjFirstIdeal.main_arg4))
      ∧ r.2.sem = fun _ => 0)

def quiescent_ProjFirstReferenceIdeal [hProjFirstReferenceIdeal : Cert.ProjFirstReferenceIdeal.Facts] : Prop :=
  ∀ (m : (ℓ : Loc Cert.ProjFirstReferenceIdeal.nD Cert.ProjFirstReferenceIdeal.τ Cert.ProjFirstReferenceIdeal.sig) → Buf (Elt Ideal) ℓ) (g : Dev Cert.ProjFirstReferenceIdeal.nD → PrngReg), Pre_ProjFirstReferenceIdeal m →
    θ_run (Cert.ProjFirstReferenceIdeal.defs (F := Ideal)) (onTc (τ := Cert.ProjFirstReferenceIdeal.τ) (Cert.ProjFirstReferenceIdeal.main (F := Ideal))) ⟨m, fun _ => 0, g⟩ (fun r => (∀ c : Dev Cert.ProjFirstReferenceIdeal.nD,
      r.2.mem ((c.tc : Thread Cert.ProjFirstReferenceIdeal.nD Cert.ProjFirstReferenceIdeal.τ).loc Cert.ProjFirstReferenceIdeal.main_arg0) = m ((c.tc : Thread Cert.ProjFirstReferenceIdeal.nD Cert.ProjFirstReferenceIdeal.τ).loc Cert.ProjFirstReferenceIdeal.main_arg0)
      ∧ r.2.mem ((c.tc : Thread Cert.ProjFirstReferenceIdeal.nD Cert.ProjFirstReferenceIdeal.τ).loc Cert.ProjFirstReferenceIdeal.main_arg1) = m ((c.tc : Thread Cert.ProjFirstReferenceIdeal.nD Cert.ProjFirstReferenceIdeal.τ).loc Cert.ProjFirstReferenceIdeal.main_arg1)
      ∧ r.2.mem ((c.tc : Thread Cert.ProjFirstReferenceIdeal.nD Cert.ProjFirstReferenceIdeal.τ).loc Cert.ProjFirstReferenceIdeal.main_arg2) = m ((c.tc : Thread Cert.ProjFirstReferenceIdeal.nD Cert.ProjFirstReferenceIdeal.τ).loc Cert.ProjFirstReferenceIdeal.main_arg2)
      ∧ r.2.mem ((c.tc : Thread Cert.ProjFirstReferenceIdeal.nD Cert.ProjFirstReferenceIdeal.τ).loc Cert.ProjFirstReferenceIdeal.main_arg3) = m ((c.tc : Thread Cert.ProjFirstReferenceIdeal.nD Cert.ProjFirstReferenceIdeal.τ).loc Cert.ProjFirstReferenceIdeal.main_arg3)
      ∧ r.2.mem ((c.tc : Thread Cert.ProjFirstReferenceIdeal.nD Cert.ProjFirstReferenceIdeal.τ).loc Cert.ProjFirstReferenceIdeal.main_arg4) = m ((c.tc : Thread Cert.ProjFirstReferenceIdeal.nD Cert.ProjFirstReferenceIdeal.τ).loc Cert.ProjFirstReferenceIdeal.main_arg4))
      ∧ r.2.sem = fun _ => 0)

def quiescent_Compress [hCompress : Cert.Compress.Facts] : Prop :=
  ∀ (m : (ℓ : Loc Cert.Compress.nD Cert.Compress.τ Cert.Compress.sig) → Buf (Elt Bits) ℓ) (g : Dev Cert.Compress.nD → PrngReg), Pre_Compress m →
    θ_run (Cert.Compress.defs (F := Bits)) (onTc (τ := Cert.Compress.τ) (Cert.Compress.main (F := Bits))) ⟨m, fun _ => 0, g⟩ (fun r => (∀ c : Dev Cert.Compress.nD,
      r.2.mem ((c.tc : Thread Cert.Compress.nD Cert.Compress.τ).loc Cert.Compress.main_arg0) = m ((c.tc : Thread Cert.Compress.nD Cert.Compress.τ).loc Cert.Compress.main_arg0)
      ∧ r.2.mem ((c.tc : Thread Cert.Compress.nD Cert.Compress.τ).loc Cert.Compress.main_arg1) = m ((c.tc : Thread Cert.Compress.nD Cert.Compress.τ).loc Cert.Compress.main_arg1)
      ∧ r.2.mem ((c.tc : Thread Cert.Compress.nD Cert.Compress.τ).loc Cert.Compress.main_arg2) = m ((c.tc : Thread Cert.Compress.nD Cert.Compress.τ).loc Cert.Compress.main_arg2)
      ∧ r.2.mem ((c.tc : Thread Cert.Compress.nD Cert.Compress.τ).loc Cert.Compress.main_arg3) = m ((c.tc : Thread Cert.Compress.nD Cert.Compress.τ).loc Cert.Compress.main_arg3)
      ∧ r.2.mem ((c.tc : Thread Cert.Compress.nD Cert.Compress.τ).loc Cert.Compress.main_arg4) = m ((c.tc : Thread Cert.Compress.nD Cert.Compress.τ).loc Cert.Compress.main_arg4)
      ∧ r.2.mem ((c.tc : Thread Cert.Compress.nD Cert.Compress.τ).loc Cert.Compress.main_arg5) = m ((c.tc : Thread Cert.Compress.nD Cert.Compress.τ).loc Cert.Compress.main_arg5)
      ∧ r.2.mem ((c.tc : Thread Cert.Compress.nD Cert.Compress.τ).loc Cert.Compress.main_arg6) = m ((c.tc : Thread Cert.Compress.nD Cert.Compress.τ).loc Cert.Compress.main_arg6)
      ∧ r.2.mem ((c.tc : Thread Cert.Compress.nD Cert.Compress.τ).loc Cert.Compress.main_arg7) = m ((c.tc : Thread Cert.Compress.nD Cert.Compress.τ).loc Cert.Compress.main_arg7)
      ∧ r.2.mem ((c.tc : Thread Cert.Compress.nD Cert.Compress.τ).loc Cert.Compress.main_arg8) = m ((c.tc : Thread Cert.Compress.nD Cert.Compress.τ).loc Cert.Compress.main_arg8)
      ∧ r.2.mem ((c.tc : Thread Cert.Compress.nD Cert.Compress.τ).loc Cert.Compress.main_arg9) = m ((c.tc : Thread Cert.Compress.nD Cert.Compress.τ).loc Cert.Compress.main_arg9))
      ∧ r.2.sem = fun _ => 0)

def quiescent_CompressIdeal [hCompressIdeal : Cert.CompressIdeal.Facts] : Prop :=
  ∀ (m : (ℓ : Loc Cert.CompressIdeal.nD Cert.CompressIdeal.τ Cert.CompressIdeal.sig) → Buf (Elt Ideal) ℓ) (g : Dev Cert.CompressIdeal.nD → PrngReg), Pre_CompressIdeal m →
    θ_run (Cert.CompressIdeal.defs (F := Ideal)) (onTc (τ := Cert.CompressIdeal.τ) (Cert.CompressIdeal.main (F := Ideal))) ⟨m, fun _ => 0, g⟩ (fun r => (∀ c : Dev Cert.CompressIdeal.nD,
      r.2.mem ((c.tc : Thread Cert.CompressIdeal.nD Cert.CompressIdeal.τ).loc Cert.CompressIdeal.main_arg0) = m ((c.tc : Thread Cert.CompressIdeal.nD Cert.CompressIdeal.τ).loc Cert.CompressIdeal.main_arg0)
      ∧ r.2.mem ((c.tc : Thread Cert.CompressIdeal.nD Cert.CompressIdeal.τ).loc Cert.CompressIdeal.main_arg1) = m ((c.tc : Thread Cert.CompressIdeal.nD Cert.CompressIdeal.τ).loc Cert.CompressIdeal.main_arg1)
      ∧ r.2.mem ((c.tc : Thread Cert.CompressIdeal.nD Cert.CompressIdeal.τ).loc Cert.CompressIdeal.main_arg2) = m ((c.tc : Thread Cert.CompressIdeal.nD Cert.CompressIdeal.τ).loc Cert.CompressIdeal.main_arg2)
      ∧ r.2.mem ((c.tc : Thread Cert.CompressIdeal.nD Cert.CompressIdeal.τ).loc Cert.CompressIdeal.main_arg3) = m ((c.tc : Thread Cert.CompressIdeal.nD Cert.CompressIdeal.τ).loc Cert.CompressIdeal.main_arg3)
      ∧ r.2.mem ((c.tc : Thread Cert.CompressIdeal.nD Cert.CompressIdeal.τ).loc Cert.CompressIdeal.main_arg4) = m ((c.tc : Thread Cert.CompressIdeal.nD Cert.CompressIdeal.τ).loc Cert.CompressIdeal.main_arg4)
      ∧ r.2.mem ((c.tc : Thread Cert.CompressIdeal.nD Cert.CompressIdeal.τ).loc Cert.CompressIdeal.main_arg5) = m ((c.tc : Thread Cert.CompressIdeal.nD Cert.CompressIdeal.τ).loc Cert.CompressIdeal.main_arg5)
      ∧ r.2.mem ((c.tc : Thread Cert.CompressIdeal.nD Cert.CompressIdeal.τ).loc Cert.CompressIdeal.main_arg6) = m ((c.tc : Thread Cert.CompressIdeal.nD Cert.CompressIdeal.τ).loc Cert.CompressIdeal.main_arg6)
      ∧ r.2.mem ((c.tc : Thread Cert.CompressIdeal.nD Cert.CompressIdeal.τ).loc Cert.CompressIdeal.main_arg7) = m ((c.tc : Thread Cert.CompressIdeal.nD Cert.CompressIdeal.τ).loc Cert.CompressIdeal.main_arg7)
      ∧ r.2.mem ((c.tc : Thread Cert.CompressIdeal.nD Cert.CompressIdeal.τ).loc Cert.CompressIdeal.main_arg8) = m ((c.tc : Thread Cert.CompressIdeal.nD Cert.CompressIdeal.τ).loc Cert.CompressIdeal.main_arg8)
      ∧ r.2.mem ((c.tc : Thread Cert.CompressIdeal.nD Cert.CompressIdeal.τ).loc Cert.CompressIdeal.main_arg9) = m ((c.tc : Thread Cert.CompressIdeal.nD Cert.CompressIdeal.τ).loc Cert.CompressIdeal.main_arg9))
      ∧ r.2.sem = fun _ => 0)

def quiescent_CompressReferenceIdeal [hCompressReferenceIdeal : Cert.CompressReferenceIdeal.Facts] : Prop :=
  ∀ (m : (ℓ : Loc Cert.CompressReferenceIdeal.nD Cert.CompressReferenceIdeal.τ Cert.CompressReferenceIdeal.sig) → Buf (Elt Ideal) ℓ) (g : Dev Cert.CompressReferenceIdeal.nD → PrngReg), Pre_CompressReferenceIdeal m →
    θ_run (Cert.CompressReferenceIdeal.defs (F := Ideal)) (onTc (τ := Cert.CompressReferenceIdeal.τ) (Cert.CompressReferenceIdeal.main (F := Ideal))) ⟨m, fun _ => 0, g⟩ (fun r => (∀ c : Dev Cert.CompressReferenceIdeal.nD,
      r.2.mem ((c.tc : Thread Cert.CompressReferenceIdeal.nD Cert.CompressReferenceIdeal.τ).loc Cert.CompressReferenceIdeal.main_arg0) = m ((c.tc : Thread Cert.CompressReferenceIdeal.nD Cert.CompressReferenceIdeal.τ).loc Cert.CompressReferenceIdeal.main_arg0)
      ∧ r.2.mem ((c.tc : Thread Cert.CompressReferenceIdeal.nD Cert.CompressReferenceIdeal.τ).loc Cert.CompressReferenceIdeal.main_arg1) = m ((c.tc : Thread Cert.CompressReferenceIdeal.nD Cert.CompressReferenceIdeal.τ).loc Cert.CompressReferenceIdeal.main_arg1)
      ∧ r.2.mem ((c.tc : Thread Cert.CompressReferenceIdeal.nD Cert.CompressReferenceIdeal.τ).loc Cert.CompressReferenceIdeal.main_arg2) = m ((c.tc : Thread Cert.CompressReferenceIdeal.nD Cert.CompressReferenceIdeal.τ).loc Cert.CompressReferenceIdeal.main_arg2)
      ∧ r.2.mem ((c.tc : Thread Cert.CompressReferenceIdeal.nD Cert.CompressReferenceIdeal.τ).loc Cert.CompressReferenceIdeal.main_arg3) = m ((c.tc : Thread Cert.CompressReferenceIdeal.nD Cert.CompressReferenceIdeal.τ).loc Cert.CompressReferenceIdeal.main_arg3)
      ∧ r.2.mem ((c.tc : Thread Cert.CompressReferenceIdeal.nD Cert.CompressReferenceIdeal.τ).loc Cert.CompressReferenceIdeal.main_arg4) = m ((c.tc : Thread Cert.CompressReferenceIdeal.nD Cert.CompressReferenceIdeal.τ).loc Cert.CompressReferenceIdeal.main_arg4)
      ∧ r.2.mem ((c.tc : Thread Cert.CompressReferenceIdeal.nD Cert.CompressReferenceIdeal.τ).loc Cert.CompressReferenceIdeal.main_arg5) = m ((c.tc : Thread Cert.CompressReferenceIdeal.nD Cert.CompressReferenceIdeal.τ).loc Cert.CompressReferenceIdeal.main_arg5)
      ∧ r.2.mem ((c.tc : Thread Cert.CompressReferenceIdeal.nD Cert.CompressReferenceIdeal.τ).loc Cert.CompressReferenceIdeal.main_arg6) = m ((c.tc : Thread Cert.CompressReferenceIdeal.nD Cert.CompressReferenceIdeal.τ).loc Cert.CompressReferenceIdeal.main_arg6)
      ∧ r.2.mem ((c.tc : Thread Cert.CompressReferenceIdeal.nD Cert.CompressReferenceIdeal.τ).loc Cert.CompressReferenceIdeal.main_arg7) = m ((c.tc : Thread Cert.CompressReferenceIdeal.nD Cert.CompressReferenceIdeal.τ).loc Cert.CompressReferenceIdeal.main_arg7)
      ∧ r.2.mem ((c.tc : Thread Cert.CompressReferenceIdeal.nD Cert.CompressReferenceIdeal.τ).loc Cert.CompressReferenceIdeal.main_arg8) = m ((c.tc : Thread Cert.CompressReferenceIdeal.nD Cert.CompressReferenceIdeal.τ).loc Cert.CompressReferenceIdeal.main_arg8)
      ∧ r.2.mem ((c.tc : Thread Cert.CompressReferenceIdeal.nD Cert.CompressReferenceIdeal.τ).loc Cert.CompressReferenceIdeal.main_arg9) = m ((c.tc : Thread Cert.CompressReferenceIdeal.nD Cert.CompressReferenceIdeal.τ).loc Cert.CompressReferenceIdeal.main_arg9))
      ∧ r.2.sem = fun _ => 0)

def preserves_Kernel_KernelIdeal : Prop :=
  IdealRules.named_const.Statement Cert.KernelIdeal.κ "mask" .f32 0xF149F2CA#32 ⊥

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v41) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5))

def preserves_FfnMid_FfnMidIdeal : Prop :=
  True

def algebraic_FfnMidIdeal_FfnMidReferenceIdeal [hFfnMidIdeal : Cert.FfnMidIdeal.Facts] [hFfnMidReferenceIdeal : Cert.FfnMidReferenceIdeal.Facts] : Prop :=
  ∀ (m : (ℓ : Loc Cert.FfnMidIdeal.nD Cert.FfnMidIdeal.τ Cert.FfnMidIdeal.sig) → Buf (Elt Ideal) ℓ) (g : Dev Cert.FfnMidIdeal.nD → PrngReg)
    (m' : (ℓ : Loc Cert.FfnMidReferenceIdeal.nD Cert.FfnMidReferenceIdeal.τ Cert.FfnMidReferenceIdeal.sig) → Buf (Elt Ideal) ℓ) (g' : Dev Cert.FfnMidReferenceIdeal.nD → PrngReg), Pre_FfnMidIdeal m →
    (∀ c : Dev Cert.FfnMidIdeal.nD,
      m' ((c.tc : Thread Cert.FfnMidReferenceIdeal.nD Cert.FfnMidReferenceIdeal.τ).loc Cert.FfnMidReferenceIdeal.main_arg0) = m ((c.tc : Thread Cert.FfnMidIdeal.nD Cert.FfnMidIdeal.τ).loc Cert.FfnMidIdeal.main_arg0)
      ∧ m' ((c.tc : Thread Cert.FfnMidReferenceIdeal.nD Cert.FfnMidReferenceIdeal.τ).loc Cert.FfnMidReferenceIdeal.main_arg1) = m ((c.tc : Thread Cert.FfnMidIdeal.nD Cert.FfnMidIdeal.τ).loc Cert.FfnMidIdeal.main_arg1)
      ∧ m' ((c.tc : Thread Cert.FfnMidReferenceIdeal.nD Cert.FfnMidReferenceIdeal.τ).loc Cert.FfnMidReferenceIdeal.main_arg2) = m ((c.tc : Thread Cert.FfnMidIdeal.nD Cert.FfnMidIdeal.τ).loc Cert.FfnMidIdeal.main_arg2)
      ∧ m' ((c.tc : Thread Cert.FfnMidReferenceIdeal.nD Cert.FfnMidReferenceIdeal.τ).loc Cert.FfnMidReferenceIdeal.main_arg3) = m ((c.tc : Thread Cert.FfnMidIdeal.nD Cert.FfnMidIdeal.τ).loc Cert.FfnMidIdeal.main_arg3)
      ∧ m' ((c.tc : Thread Cert.FfnMidReferenceIdeal.nD Cert.FfnMidReferenceIdeal.τ).loc Cert.FfnMidReferenceIdeal.main_arg4) = m ((c.tc : Thread Cert.FfnMidIdeal.nD Cert.FfnMidIdeal.τ).loc Cert.FfnMidIdeal.main_arg4)
      ∧ m' ((c.tc : Thread Cert.FfnMidReferenceIdeal.nD Cert.FfnMidReferenceIdeal.τ).loc Cert.FfnMidReferenceIdeal.main_arg5) = m ((c.tc : Thread Cert.FfnMidIdeal.nD Cert.FfnMidIdeal.τ).loc Cert.FfnMidIdeal.main_arg5)) →
    ∃ (v0 : (c : Dev Cert.FfnMidIdeal.nD) → Buf (Elt Ideal) ((c.tc : Thread Cert.FfnMidIdeal.nD Cert.FfnMidIdeal.τ).loc Cert.FfnMidIdeal.main_v5)),
      θ_run (Cert.FfnMidIdeal.defs (F := Ideal)) (onTc (τ := Cert.FfnMidIdeal.τ) (Cert.FfnMidIdeal.main (F := Ideal))) ⟨m, fun _ => 0, g⟩ (fun r => ∀ c : Dev Cert.FfnMidIdeal.nD,
          r.2.mem ((c.tc : Thread Cert.FfnMidIdeal.nD Cert.FfnMidIdeal.τ).loc Cert.FfnMidIdeal.main_v5) = v0 c
          ∧ r.2.mem ((c.tc : Thread Cert.FfnMidIdeal.nD Cert.FfnMidIdeal.τ).loc Cert.FfnMidIdeal.main_arg0) = m ((c.tc : Thread Cert.FfnMidIdeal.nD Cert.FfnMidIdeal.τ).loc Cert.FfnMidIdeal.main_arg0)
          ∧ r.2.mem ((c.tc : Thread Cert.FfnMidIdeal.nD Cert.FfnMidIdeal.τ).loc Cert.FfnMidIdeal.main_arg1) = m ((c.tc : Thread Cert.FfnMidIdeal.nD Cert.FfnMidIdeal.τ).loc Cert.FfnMidIdeal.main_arg1)
          ∧ r.2.mem ((c.tc : Thread Cert.FfnMidIdeal.nD Cert.FfnMidIdeal.τ).loc Cert.FfnMidIdeal.main_arg2) = m ((c.tc : Thread Cert.FfnMidIdeal.nD Cert.FfnMidIdeal.τ).loc Cert.FfnMidIdeal.main_arg2)
          ∧ r.2.mem ((c.tc : Thread Cert.FfnMidIdeal.nD Cert.FfnMidIdeal.τ).loc Cert.FfnMidIdeal.main_arg3) = m ((c.tc : Thread Cert.FfnMidIdeal.nD Cert.FfnMidIdeal.τ).loc Cert.FfnMidIdeal.main_arg3)
          ∧ r.2.mem ((c.tc : Thread Cert.FfnMidIdeal.nD Cert.FfnMidIdeal.τ).loc Cert.FfnMidIdeal.main_arg4) = m ((c.tc : Thread Cert.FfnMidIdeal.nD Cert.FfnMidIdeal.τ).loc Cert.FfnMidIdeal.main_arg4)
          ∧ r.2.mem ((c.tc : Thread Cert.FfnMidIdeal.nD Cert.FfnMidIdeal.τ).loc Cert.FfnMidIdeal.main_arg5) = m ((c.tc : Thread Cert.FfnMidIdeal.nD Cert.FfnMidIdeal.τ).loc Cert.FfnMidIdeal.main_arg5))
      ∧ θ_run (Cert.FfnMidReferenceIdeal.defs (F := Ideal)) (onTc (τ := Cert.FfnMidReferenceIdeal.τ) (Cert.FfnMidReferenceIdeal.main (F := Ideal))) ⟨m', fun _ => 0, g'⟩ (fun r => ∀ c : Dev Cert.FfnMidReferenceIdeal.nD,
          r.2.mem ((c.tc : Thread Cert.FfnMidReferenceIdeal.nD Cert.FfnMidReferenceIdeal.τ).loc Cert.FfnMidReferenceIdeal.main_v28) = v0 c
          ∧ r.2.mem ((c.tc : Thread Cert.FfnMidReferenceIdeal.nD Cert.FfnMidReferenceIdeal.τ).loc Cert.FfnMidReferenceIdeal.main_arg0) = m' ((c.tc : Thread Cert.FfnMidReferenceIdeal.nD Cert.FfnMidReferenceIdeal.τ).loc Cert.FfnMidReferenceIdeal.main_arg0)
          ∧ r.2.mem ((c.tc : Thread Cert.FfnMidReferenceIdeal.nD Cert.FfnMidReferenceIdeal.τ).loc Cert.FfnMidReferenceIdeal.main_arg1) = m' ((c.tc : Thread Cert.FfnMidReferenceIdeal.nD Cert.FfnMidReferenceIdeal.τ).loc Cert.FfnMidReferenceIdeal.main_arg1)
          ∧ r.2.mem ((c.tc : Thread Cert.FfnMidReferenceIdeal.nD Cert.FfnMidReferenceIdeal.τ).loc Cert.FfnMidReferenceIdeal.main_arg2) = m' ((c.tc : Thread Cert.FfnMidReferenceIdeal.nD Cert.FfnMidReferenceIdeal.τ).loc Cert.FfnMidReferenceIdeal.main_arg2)
          ∧ r.2.mem ((c.tc : Thread Cert.FfnMidReferenceIdeal.nD Cert.FfnMidReferenceIdeal.τ).loc Cert.FfnMidReferenceIdeal.main_arg3) = m' ((c.tc : Thread Cert.FfnMidReferenceIdeal.nD Cert.FfnMidReferenceIdeal.τ).loc Cert.FfnMidReferenceIdeal.main_arg3)
          ∧ r.2.mem ((c.tc : Thread Cert.FfnMidReferenceIdeal.nD Cert.FfnMidReferenceIdeal.τ).loc Cert.FfnMidReferenceIdeal.main_arg4) = m' ((c.tc : Thread Cert.FfnMidReferenceIdeal.nD Cert.FfnMidReferenceIdeal.τ).loc Cert.FfnMidReferenceIdeal.main_arg4)
          ∧ r.2.mem ((c.tc : Thread Cert.FfnMidReferenceIdeal.nD Cert.FfnMidReferenceIdeal.τ).loc Cert.FfnMidReferenceIdeal.main_arg5) = m' ((c.tc : Thread Cert.FfnMidReferenceIdeal.nD Cert.FfnMidReferenceIdeal.τ).loc Cert.FfnMidReferenceIdeal.main_arg5))

def preserves_FfnFirst_FfnFirstIdeal : Prop :=
  True

def algebraic_FfnFirstIdeal_FfnFirstReferenceIdeal [hFfnFirstIdeal : Cert.FfnFirstIdeal.Facts] [hFfnFirstReferenceIdeal : Cert.FfnFirstReferenceIdeal.Facts] : Prop :=
  ∀ (m : (ℓ : Loc Cert.FfnFirstIdeal.nD Cert.FfnFirstIdeal.τ Cert.FfnFirstIdeal.sig) → Buf (Elt Ideal) ℓ) (g : Dev Cert.FfnFirstIdeal.nD → PrngReg)
    (m' : (ℓ : Loc Cert.FfnFirstReferenceIdeal.nD Cert.FfnFirstReferenceIdeal.τ Cert.FfnFirstReferenceIdeal.sig) → Buf (Elt Ideal) ℓ) (g' : Dev Cert.FfnFirstReferenceIdeal.nD → PrngReg), Pre_FfnFirstIdeal m →
    (∀ c : Dev Cert.FfnFirstIdeal.nD,
      m' ((c.tc : Thread Cert.FfnFirstReferenceIdeal.nD Cert.FfnFirstReferenceIdeal.τ).loc Cert.FfnFirstReferenceIdeal.main_arg0) = m ((c.tc : Thread Cert.FfnFirstIdeal.nD Cert.FfnFirstIdeal.τ).loc Cert.FfnFirstIdeal.main_arg0)
      ∧ m' ((c.tc : Thread Cert.FfnFirstReferenceIdeal.nD Cert.FfnFirstReferenceIdeal.τ).loc Cert.FfnFirstReferenceIdeal.main_arg1) = m ((c.tc : Thread Cert.FfnFirstIdeal.nD Cert.FfnFirstIdeal.τ).loc Cert.FfnFirstIdeal.main_arg1)
      ∧ m' ((c.tc : Thread Cert.FfnFirstReferenceIdeal.nD Cert.FfnFirstReferenceIdeal.τ).loc Cert.FfnFirstReferenceIdeal.main_arg2) = m ((c.tc : Thread Cert.FfnFirstIdeal.nD Cert.FfnFirstIdeal.τ).loc Cert.FfnFirstIdeal.main_arg2)
      ∧ m' ((c.tc : Thread Cert.FfnFirstReferenceIdeal.nD Cert.FfnFirstReferenceIdeal.τ).loc Cert.FfnFirstReferenceIdeal.main_arg3) = m ((c.tc : Thread Cert.FfnFirstIdeal.nD Cert.FfnFirstIdeal.τ).loc Cert.FfnFirstIdeal.main_arg3)
      ∧ m' ((c.tc : Thread Cert.FfnFirstReferenceIdeal.nD Cert.FfnFirstReferenceIdeal.τ).loc Cert.FfnFirstReferenceIdeal.main_arg4) = m ((c.tc : Thread Cert.FfnFirstIdeal.nD Cert.FfnFirstIdeal.τ).loc Cert.FfnFirstIdeal.main_arg4)
      ∧ m' ((c.tc : Thread Cert.FfnFirstReferenceIdeal.nD Cert.FfnFirstReferenceIdeal.τ).loc Cert.FfnFirstReferenceIdeal.main_arg5) = m ((c.tc : Thread Cert.FfnFirstIdeal.nD Cert.FfnFirstIdeal.τ).loc Cert.FfnFirstIdeal.main_arg5)) →
    ∃ (v0 : (c : Dev Cert.FfnFirstIdeal.nD) → Buf (Elt Ideal) ((c.tc : Thread Cert.FfnFirstIdeal.nD Cert.FfnFirstIdeal.τ).loc Cert.FfnFirstIdeal.main_v5)),
      θ_run (Cert.FfnFirstIdeal.defs (F := Ideal)) (onTc (τ := Cert.FfnFirstIdeal.τ) (Cert.FfnFirstIdeal.main (F := Ideal))) ⟨m, fun _ => 0, g⟩ (fun r => ∀ c : Dev Cert.FfnFirstIdeal.nD,
          r.2.mem ((c.tc : Thread Cert.FfnFirstIdeal.nD Cert.FfnFirstIdeal.τ).loc Cert.FfnFirstIdeal.main_v5) = v0 c
          ∧ r.2.mem ((c.tc : Thread Cert.FfnFirstIdeal.nD Cert.FfnFirstIdeal.τ).loc Cert.FfnFirstIdeal.main_arg0) = m ((c.tc : Thread Cert.FfnFirstIdeal.nD Cert.FfnFirstIdeal.τ).loc Cert.FfnFirstIdeal.main_arg0)
          ∧ r.2.mem ((c.tc : Thread Cert.FfnFirstIdeal.nD Cert.FfnFirstIdeal.τ).loc Cert.FfnFirstIdeal.main_arg1) = m ((c.tc : Thread Cert.FfnFirstIdeal.nD Cert.FfnFirstIdeal.τ).loc Cert.FfnFirstIdeal.main_arg1)
          ∧ r.2.mem ((c.tc : Thread Cert.FfnFirstIdeal.nD Cert.FfnFirstIdeal.τ).loc Cert.FfnFirstIdeal.main_arg2) = m ((c.tc : Thread Cert.FfnFirstIdeal.nD Cert.FfnFirstIdeal.τ).loc Cert.FfnFirstIdeal.main_arg2)
          ∧ r.2.mem ((c.tc : Thread Cert.FfnFirstIdeal.nD Cert.FfnFirstIdeal.τ).loc Cert.FfnFirstIdeal.main_arg3) = m ((c.tc : Thread Cert.FfnFirstIdeal.nD Cert.FfnFirstIdeal.τ).loc Cert.FfnFirstIdeal.main_arg3)
          ∧ r.2.mem ((c.tc : Thread Cert.FfnFirstIdeal.nD Cert.FfnFirstIdeal.τ).loc Cert.FfnFirstIdeal.main_arg4) = m ((c.tc : Thread Cert.FfnFirstIdeal.nD Cert.FfnFirstIdeal.τ).loc Cert.FfnFirstIdeal.main_arg4)
          ∧ r.2.mem ((c.tc : Thread Cert.FfnFirstIdeal.nD Cert.FfnFirstIdeal.τ).loc Cert.FfnFirstIdeal.main_arg5) = m ((c.tc : Thread Cert.FfnFirstIdeal.nD Cert.FfnFirstIdeal.τ).loc Cert.FfnFirstIdeal.main_arg5))
      ∧ θ_run (Cert.FfnFirstReferenceIdeal.defs (F := Ideal)) (onTc (τ := Cert.FfnFirstReferenceIdeal.τ) (Cert.FfnFirstReferenceIdeal.main (F := Ideal))) ⟨m', fun _ => 0, g'⟩ (fun r => ∀ c : Dev Cert.FfnFirstReferenceIdeal.nD,
          r.2.mem ((c.tc : Thread Cert.FfnFirstReferenceIdeal.nD Cert.FfnFirstReferenceIdeal.τ).loc Cert.FfnFirstReferenceIdeal.main_v28) = v0 c
          ∧ r.2.mem ((c.tc : Thread Cert.FfnFirstReferenceIdeal.nD Cert.FfnFirstReferenceIdeal.τ).loc Cert.FfnFirstReferenceIdeal.main_arg0) = m' ((c.tc : Thread Cert.FfnFirstReferenceIdeal.nD Cert.FfnFirstReferenceIdeal.τ).loc Cert.FfnFirstReferenceIdeal.main_arg0)
          ∧ r.2.mem ((c.tc : Thread Cert.FfnFirstReferenceIdeal.nD Cert.FfnFirstReferenceIdeal.τ).loc Cert.FfnFirstReferenceIdeal.main_arg1) = m' ((c.tc : Thread Cert.FfnFirstReferenceIdeal.nD Cert.FfnFirstReferenceIdeal.τ).loc Cert.FfnFirstReferenceIdeal.main_arg1)
          ∧ r.2.mem ((c.tc : Thread Cert.FfnFirstReferenceIdeal.nD Cert.FfnFirstReferenceIdeal.τ).loc Cert.FfnFirstReferenceIdeal.main_arg2) = m' ((c.tc : Thread Cert.FfnFirstReferenceIdeal.nD Cert.FfnFirstReferenceIdeal.τ).loc Cert.FfnFirstReferenceIdeal.main_arg2)
          ∧ r.2.mem ((c.tc : Thread Cert.FfnFirstReferenceIdeal.nD Cert.FfnFirstReferenceIdeal.τ).loc Cert.FfnFirstReferenceIdeal.main_arg3) = m' ((c.tc : Thread Cert.FfnFirstReferenceIdeal.nD Cert.FfnFirstReferenceIdeal.τ).loc Cert.FfnFirstReferenceIdeal.main_arg3)
          ∧ r.2.mem ((c.tc : Thread Cert.FfnFirstReferenceIdeal.nD Cert.FfnFirstReferenceIdeal.τ).loc Cert.FfnFirstReferenceIdeal.main_arg4) = m' ((c.tc : Thread Cert.FfnFirstReferenceIdeal.nD Cert.FfnFirstReferenceIdeal.τ).loc Cert.FfnFirstReferenceIdeal.main_arg4)
          ∧ r.2.mem ((c.tc : Thread Cert.FfnFirstReferenceIdeal.nD Cert.FfnFirstReferenceIdeal.τ).loc Cert.FfnFirstReferenceIdeal.main_arg5) = m' ((c.tc : Thread Cert.FfnFirstReferenceIdeal.nD Cert.FfnFirstReferenceIdeal.τ).loc Cert.FfnFirstReferenceIdeal.main_arg5))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v4)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v4) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v50) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7))

def preserves_MergeFirst_MergeFirstIdeal : Prop :=
  True

def algebraic_MergeFirstIdeal_MergeFirstReferenceIdeal [hMergeFirstIdeal : Cert.MergeFirstIdeal.Facts] [hMergeFirstReferenceIdeal : Cert.MergeFirstReferenceIdeal.Facts] : Prop :=
  ∀ (m : (ℓ : Loc Cert.MergeFirstIdeal.nD Cert.MergeFirstIdeal.τ Cert.MergeFirstIdeal.sig) → Buf (Elt Ideal) ℓ) (g : Dev Cert.MergeFirstIdeal.nD → PrngReg)
    (m' : (ℓ : Loc Cert.MergeFirstReferenceIdeal.nD Cert.MergeFirstReferenceIdeal.τ Cert.MergeFirstReferenceIdeal.sig) → Buf (Elt Ideal) ℓ) (g' : Dev Cert.MergeFirstReferenceIdeal.nD → PrngReg), Pre_MergeFirstIdeal m →
    (∀ c : Dev Cert.MergeFirstIdeal.nD,
      m' ((c.tc : Thread Cert.MergeFirstReferenceIdeal.nD Cert.MergeFirstReferenceIdeal.τ).loc Cert.MergeFirstReferenceIdeal.main_arg0) = m ((c.tc : Thread Cert.MergeFirstIdeal.nD Cert.MergeFirstIdeal.τ).loc Cert.MergeFirstIdeal.main_arg0)
      ∧ m' ((c.tc : Thread Cert.MergeFirstReferenceIdeal.nD Cert.MergeFirstReferenceIdeal.τ).loc Cert.MergeFirstReferenceIdeal.main_arg1) = m ((c.tc : Thread Cert.MergeFirstIdeal.nD Cert.MergeFirstIdeal.τ).loc Cert.MergeFirstIdeal.main_arg1)
      ∧ m' ((c.tc : Thread Cert.MergeFirstReferenceIdeal.nD Cert.MergeFirstReferenceIdeal.τ).loc Cert.MergeFirstReferenceIdeal.main_arg2) = m ((c.tc : Thread Cert.MergeFirstIdeal.nD Cert.MergeFirstIdeal.τ).loc Cert.MergeFirstIdeal.main_arg2)
      ∧ m' ((c.tc : Thread Cert.MergeFirstReferenceIdeal.nD Cert.MergeFirstReferenceIdeal.τ).loc Cert.MergeFirstReferenceIdeal.main_arg3) = m ((c.tc : Thread Cert.MergeFirstIdeal.nD Cert.MergeFirstIdeal.τ).loc Cert.MergeFirstIdeal.main_arg3)
      ∧ m' ((c.tc : Thread Cert.MergeFirstReferenceIdeal.nD Cert.MergeFirstReferenceIdeal.τ).loc Cert.MergeFirstReferenceIdeal.main_arg4) = m ((c.tc : Thread Cert.MergeFirstIdeal.nD Cert.MergeFirstIdeal.τ).loc Cert.MergeFirstIdeal.main_arg4)
      ∧ m' ((c.tc : Thread Cert.MergeFirstReferenceIdeal.nD Cert.MergeFirstReferenceIdeal.τ).loc Cert.MergeFirstReferenceIdeal.main_arg5) = m ((c.tc : Thread Cert.MergeFirstIdeal.nD Cert.MergeFirstIdeal.τ).loc Cert.MergeFirstIdeal.main_arg5)
      ∧ m' ((c.tc : Thread Cert.MergeFirstReferenceIdeal.nD Cert.MergeFirstReferenceIdeal.τ).loc Cert.MergeFirstReferenceIdeal.main_arg6) = m ((c.tc : Thread Cert.MergeFirstIdeal.nD Cert.MergeFirstIdeal.τ).loc Cert.MergeFirstIdeal.main_arg6)
      ∧ m' ((c.tc : Thread Cert.MergeFirstReferenceIdeal.nD Cert.MergeFirstReferenceIdeal.τ).loc Cert.MergeFirstReferenceIdeal.main_arg7) = m ((c.tc : Thread Cert.MergeFirstIdeal.nD Cert.MergeFirstIdeal.τ).loc Cert.MergeFirstIdeal.main_arg7)) →
    ∃ (v0 : (c : Dev Cert.MergeFirstIdeal.nD) → Buf (Elt Ideal) ((c.tc : Thread Cert.MergeFirstIdeal.nD Cert.MergeFirstIdeal.τ).loc Cert.MergeFirstIdeal.main_v4)),
      θ_run (Cert.MergeFirstIdeal.defs (F := Ideal)) (onTc (τ := Cert.MergeFirstIdeal.τ) (Cert.MergeFirstIdeal.main (F := Ideal))) ⟨m, fun _ => 0, g⟩ (fun r => ∀ c : Dev Cert.MergeFirstIdeal.nD,
          r.2.mem ((c.tc : Thread Cert.MergeFirstIdeal.nD Cert.MergeFirstIdeal.τ).loc Cert.MergeFirstIdeal.main_v4) = v0 c
          ∧ r.2.mem ((c.tc : Thread Cert.MergeFirstIdeal.nD Cert.MergeFirstIdeal.τ).loc Cert.MergeFirstIdeal.main_arg0) = m ((c.tc : Thread Cert.MergeFirstIdeal.nD Cert.MergeFirstIdeal.τ).loc Cert.MergeFirstIdeal.main_arg0)
          ∧ r.2.mem ((c.tc : Thread Cert.MergeFirstIdeal.nD Cert.MergeFirstIdeal.τ).loc Cert.MergeFirstIdeal.main_arg1) = m ((c.tc : Thread Cert.MergeFirstIdeal.nD Cert.MergeFirstIdeal.τ).loc Cert.MergeFirstIdeal.main_arg1)
          ∧ r.2.mem ((c.tc : Thread Cert.MergeFirstIdeal.nD Cert.MergeFirstIdeal.τ).loc Cert.MergeFirstIdeal.main_arg2) = m ((c.tc : Thread Cert.MergeFirstIdeal.nD Cert.MergeFirstIdeal.τ).loc Cert.MergeFirstIdeal.main_arg2)
          ∧ r.2.mem ((c.tc : Thread Cert.MergeFirstIdeal.nD Cert.MergeFirstIdeal.τ).loc Cert.MergeFirstIdeal.main_arg3) = m ((c.tc : Thread Cert.MergeFirstIdeal.nD Cert.MergeFirstIdeal.τ).loc Cert.MergeFirstIdeal.main_arg3)
          ∧ r.2.mem ((c.tc : Thread Cert.MergeFirstIdeal.nD Cert.MergeFirstIdeal.τ).loc Cert.MergeFirstIdeal.main_arg4) = m ((c.tc : Thread Cert.MergeFirstIdeal.nD Cert.MergeFirstIdeal.τ).loc Cert.MergeFirstIdeal.main_arg4)
          ∧ r.2.mem ((c.tc : Thread Cert.MergeFirstIdeal.nD Cert.MergeFirstIdeal.τ).loc Cert.MergeFirstIdeal.main_arg5) = m ((c.tc : Thread Cert.MergeFirstIdeal.nD Cert.MergeFirstIdeal.τ).loc Cert.MergeFirstIdeal.main_arg5)
          ∧ r.2.mem ((c.tc : Thread Cert.MergeFirstIdeal.nD Cert.MergeFirstIdeal.τ).loc Cert.MergeFirstIdeal.main_arg6) = m ((c.tc : Thread Cert.MergeFirstIdeal.nD Cert.MergeFirstIdeal.τ).loc Cert.MergeFirstIdeal.main_arg6)
          ∧ r.2.mem ((c.tc : Thread Cert.MergeFirstIdeal.nD Cert.MergeFirstIdeal.τ).loc Cert.MergeFirstIdeal.main_arg7) = m ((c.tc : Thread Cert.MergeFirstIdeal.nD Cert.MergeFirstIdeal.τ).loc Cert.MergeFirstIdeal.main_arg7))
      ∧ θ_run (Cert.MergeFirstReferenceIdeal.defs (F := Ideal)) (onTc (τ := Cert.MergeFirstReferenceIdeal.τ) (Cert.MergeFirstReferenceIdeal.main (F := Ideal))) ⟨m', fun _ => 0, g'⟩ (fun r => ∀ c : Dev Cert.MergeFirstReferenceIdeal.nD,
          r.2.mem ((c.tc : Thread Cert.MergeFirstReferenceIdeal.nD Cert.MergeFirstReferenceIdeal.τ).loc Cert.MergeFirstReferenceIdeal.main_v50) = v0 c
          ∧ r.2.mem ((c.tc : Thread Cert.MergeFirstReferenceIdeal.nD Cert.MergeFirstReferenceIdeal.τ).loc Cert.MergeFirstReferenceIdeal.main_arg0) = m' ((c.tc : Thread Cert.MergeFirstReferenceIdeal.nD Cert.MergeFirstReferenceIdeal.τ).loc Cert.MergeFirstReferenceIdeal.main_arg0)
          ∧ r.2.mem ((c.tc : Thread Cert.MergeFirstReferenceIdeal.nD Cert.MergeFirstReferenceIdeal.τ).loc Cert.MergeFirstReferenceIdeal.main_arg1) = m' ((c.tc : Thread Cert.MergeFirstReferenceIdeal.nD Cert.MergeFirstReferenceIdeal.τ).loc Cert.MergeFirstReferenceIdeal.main_arg1)
          ∧ r.2.mem ((c.tc : Thread Cert.MergeFirstReferenceIdeal.nD Cert.MergeFirstReferenceIdeal.τ).loc Cert.MergeFirstReferenceIdeal.main_arg2) = m' ((c.tc : Thread Cert.MergeFirstReferenceIdeal.nD Cert.MergeFirstReferenceIdeal.τ).loc Cert.MergeFirstReferenceIdeal.main_arg2)
          ∧ r.2.mem ((c.tc : Thread Cert.MergeFirstReferenceIdeal.nD Cert.MergeFirstReferenceIdeal.τ).loc Cert.MergeFirstReferenceIdeal.main_arg3) = m' ((c.tc : Thread Cert.MergeFirstReferenceIdeal.nD Cert.MergeFirstReferenceIdeal.τ).loc Cert.MergeFirstReferenceIdeal.main_arg3)
          ∧ r.2.mem ((c.tc : Thread Cert.MergeFirstReferenceIdeal.nD Cert.MergeFirstReferenceIdeal.τ).loc Cert.MergeFirstReferenceIdeal.main_arg4) = m' ((c.tc : Thread Cert.MergeFirstReferenceIdeal.nD Cert.MergeFirstReferenceIdeal.τ).loc Cert.MergeFirstReferenceIdeal.main_arg4)
          ∧ r.2.mem ((c.tc : Thread Cert.MergeFirstReferenceIdeal.nD Cert.MergeFirstReferenceIdeal.τ).loc Cert.MergeFirstReferenceIdeal.main_arg5) = m' ((c.tc : Thread Cert.MergeFirstReferenceIdeal.nD Cert.MergeFirstReferenceIdeal.τ).loc Cert.MergeFirstReferenceIdeal.main_arg5)
          ∧ r.2.mem ((c.tc : Thread Cert.MergeFirstReferenceIdeal.nD Cert.MergeFirstReferenceIdeal.τ).loc Cert.MergeFirstReferenceIdeal.main_arg6) = m' ((c.tc : Thread Cert.MergeFirstReferenceIdeal.nD Cert.MergeFirstReferenceIdeal.τ).loc Cert.MergeFirstReferenceIdeal.main_arg6)
          ∧ r.2.mem ((c.tc : Thread Cert.MergeFirstReferenceIdeal.nD Cert.MergeFirstReferenceIdeal.τ).loc Cert.MergeFirstReferenceIdeal.main_arg7) = m' ((c.tc : Thread Cert.MergeFirstReferenceIdeal.nD Cert.MergeFirstReferenceIdeal.τ).loc Cert.MergeFirstReferenceIdeal.main_arg7))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)
      ∧ m' ((c.tc : Thread Cert.ProjReferenceIdeal.nD Cert.ProjReferenceIdeal.τ).loc Cert.ProjReferenceIdeal.main_arg4) = m ((c.tc : Thread Cert.ProjIdeal.nD Cert.ProjIdeal.τ).loc Cert.ProjIdeal.main_arg4)) →
    ∃ (v0 : (c : Dev Cert.ProjIdeal.nD) → Buf (Elt Ideal) ((c.tc : Thread Cert.ProjIdeal.nD Cert.ProjIdeal.τ).loc Cert.ProjIdeal.main_v10_0)) (v1 : (c : Dev Cert.ProjIdeal.nD) → Buf (Elt Ideal) ((c.tc : Thread Cert.ProjIdeal.nD Cert.ProjIdeal.τ).loc Cert.ProjIdeal.main_v10_1)) (v2 : (c : Dev Cert.ProjIdeal.nD) → Buf (Elt Ideal) ((c.tc : Thread Cert.ProjIdeal.nD Cert.ProjIdeal.τ).loc Cert.ProjIdeal.main_v10_2)) (v3 : (c : Dev Cert.ProjIdeal.nD) → Buf (Elt Ideal) ((c.tc : Thread Cert.ProjIdeal.nD Cert.ProjIdeal.τ).loc Cert.ProjIdeal.main_v10_3)) (v4 : (c : Dev Cert.ProjIdeal.nD) → Buf (Elt Ideal) ((c.tc : Thread Cert.ProjIdeal.nD Cert.ProjIdeal.τ).loc Cert.ProjIdeal.main_v10_4)) (v5 : (c : Dev Cert.ProjIdeal.nD) → Buf (Elt Ideal) ((c.tc : Thread Cert.ProjIdeal.nD Cert.ProjIdeal.τ).loc Cert.ProjIdeal.main_v10_5)) (v6 : (c : Dev Cert.ProjIdeal.nD) → Buf (Elt Ideal) ((c.tc : Thread Cert.ProjIdeal.nD Cert.ProjIdeal.τ).loc Cert.ProjIdeal.main_v10_6)) (v7 : (c : Dev Cert.ProjIdeal.nD) → Buf (Elt Ideal) ((c.tc : Thread Cert.ProjIdeal.nD Cert.ProjIdeal.τ).loc Cert.ProjIdeal.main_v10_7)) (v8 : (c : Dev Cert.ProjIdeal.nD) → Buf (Elt Ideal) ((c.tc : Thread Cert.ProjIdeal.nD Cert.ProjIdeal.τ).loc Cert.ProjIdeal.main_v10_8)) (v9 : (c : Dev Cert.ProjIdeal.nD) → Buf (Elt Ideal) ((c.tc : Thread Cert.ProjIdeal.nD Cert.ProjIdeal.τ).loc Cert.ProjIdeal.main_v10_9)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v10_0) = v0 c
          ∧ r.2.mem ((c.tc : Thread Cert.ProjIdeal.nD Cert.ProjIdeal.τ).loc Cert.ProjIdeal.main_v10_1) = v1 c
          ∧ r.2.mem ((c.tc : Thread Cert.ProjIdeal.nD Cert.ProjIdeal.τ).loc Cert.ProjIdeal.main_v10_2) = v2 c
          ∧ r.2.mem ((c.tc : Thread Cert.ProjIdeal.nD Cert.ProjIdeal.τ).loc Cert.ProjIdeal.main_v10_3) = v3 c
          ∧ r.2.mem ((c.tc : Thread Cert.ProjIdeal.nD Cert.ProjIdeal.τ).loc Cert.ProjIdeal.main_v10_4) = v4 c
          ∧ r.2.mem ((c.tc : Thread Cert.ProjIdeal.nD Cert.ProjIdeal.τ).loc Cert.ProjIdeal.main_v10_5) = v5 c
          ∧ r.2.mem ((c.tc : Thread Cert.ProjIdeal.nD Cert.ProjIdeal.τ).loc Cert.ProjIdeal.main_v10_6) = v6 c
          ∧ r.2.mem ((c.tc : Thread Cert.ProjIdeal.nD Cert.ProjIdeal.τ).loc Cert.ProjIdeal.main_v10_7) = v7 c
          ∧ r.2.mem ((c.tc : Thread Cert.ProjIdeal.nD Cert.ProjIdeal.τ).loc Cert.ProjIdeal.main_v10_8) = v8 c
          ∧ r.2.mem ((c.tc : Thread Cert.ProjIdeal.nD Cert.ProjIdeal.τ).loc Cert.ProjIdeal.main_v10_9) = v9 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v77) = v0 c
          ∧ r.2.mem ((c.tc : Thread Cert.ProjReferenceIdeal.nD Cert.ProjReferenceIdeal.τ).loc Cert.ProjReferenceIdeal.main_v80) = v1 c
          ∧ r.2.mem ((c.tc : Thread Cert.ProjReferenceIdeal.nD Cert.ProjReferenceIdeal.τ).loc Cert.ProjReferenceIdeal.main_v83) = v2 c
          ∧ r.2.mem ((c.tc : Thread Cert.ProjReferenceIdeal.nD Cert.ProjReferenceIdeal.τ).loc Cert.ProjReferenceIdeal.main_v119) = v3 c
          ∧ r.2.mem ((c.tc : Thread Cert.ProjReferenceIdeal.nD Cert.ProjReferenceIdeal.τ).loc Cert.ProjReferenceIdeal.main_v122) = v4 c
          ∧ r.2.mem ((c.tc : Thread Cert.ProjReferenceIdeal.nD Cert.ProjReferenceIdeal.τ).loc Cert.ProjReferenceIdeal.main_v146) = v5 c
          ∧ r.2.mem ((c.tc : Thread Cert.ProjReferenceIdeal.nD Cert.ProjReferenceIdeal.τ).loc Cert.ProjReferenceIdeal.main_v147) = v6 c
          ∧ r.2.mem ((c.tc : Thread Cert.ProjReferenceIdeal.nD Cert.ProjReferenceIdeal.τ).loc Cert.ProjReferenceIdeal.main_v152) = v7 c
          ∧ r.2.mem ((c.tc : Thread Cert.ProjReferenceIdeal.nD Cert.ProjReferenceIdeal.τ).loc Cert.ProjReferenceIdeal.main_v162) = v8 c
          ∧ r.2.mem ((c.tc : Thread Cert.ProjReferenceIdeal.nD Cert.ProjReferenceIdeal.τ).loc Cert.ProjReferenceIdeal.main_v53) = v9 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4))

def preserves_ProjFirst_ProjFirstIdeal : Prop :=
  True

def algebraic_ProjFirstIdeal_ProjFirstReferenceIdeal [hProjFirstIdeal : Cert.ProjFirstIdeal.Facts] [hProjFirstReferenceIdeal : Cert.ProjFirstReferenceIdeal.Facts] : Prop :=
  ∀ (m : (ℓ : Loc Cert.ProjFirstIdeal.nD Cert.ProjFirstIdeal.τ Cert.ProjFirstIdeal.sig) → Buf (Elt Ideal) ℓ) (g : Dev Cert.ProjFirstIdeal.nD → PrngReg)
    (m' : (ℓ : Loc Cert.ProjFirstReferenceIdeal.nD Cert.ProjFirstReferenceIdeal.τ Cert.ProjFirstReferenceIdeal.sig) → Buf (Elt Ideal) ℓ) (g' : Dev Cert.ProjFirstReferenceIdeal.nD → PrngReg), Pre_ProjFirstIdeal m →
    (∀ c : Dev Cert.ProjFirstIdeal.nD,
      m' ((c.tc : Thread Cert.ProjFirstReferenceIdeal.nD Cert.ProjFirstReferenceIdeal.τ).loc Cert.ProjFirstReferenceIdeal.main_arg0) = m ((c.tc : Thread Cert.ProjFirstIdeal.nD Cert.ProjFirstIdeal.τ).loc Cert.ProjFirstIdeal.main_arg0)
      ∧ m' ((c.tc : Thread Cert.ProjFirstReferenceIdeal.nD Cert.ProjFirstReferenceIdeal.τ).loc Cert.ProjFirstReferenceIdeal.main_arg1) = m ((c.tc : Thread Cert.ProjFirstIdeal.nD Cert.ProjFirstIdeal.τ).loc Cert.ProjFirstIdeal.main_arg1)
      ∧ m' ((c.tc : Thread Cert.ProjFirstReferenceIdeal.nD Cert.ProjFirstReferenceIdeal.τ).loc Cert.ProjFirstReferenceIdeal.main_arg2) = m ((c.tc : Thread Cert.ProjFirstIdeal.nD Cert.ProjFirstIdeal.τ).loc Cert.ProjFirstIdeal.main_arg2)
      ∧ m' ((c.tc : Thread Cert.ProjFirstReferenceIdeal.nD Cert.ProjFirstReferenceIdeal.τ).loc Cert.ProjFirstReferenceIdeal.main_arg3) = m ((c.tc : Thread Cert.ProjFirstIdeal.nD Cert.ProjFirstIdeal.τ).loc Cert.ProjFirstIdeal.main_arg3)
      ∧ m' ((c.tc : Thread Cert.ProjFirstReferenceIdeal.nD Cert.ProjFirstReferenceIdeal.τ).loc Cert.ProjFirstReferenceIdeal.main_arg4) = m ((c.tc : Thread Cert.ProjFirstIdeal.nD Cert.ProjFirstIdeal.τ).loc Cert.ProjFirstIdeal.main_arg4)) →
    ∃ (v0 : (c : Dev Cert.ProjFirstIdeal.nD) → Buf (Elt Ideal) ((c.tc : Thread Cert.ProjFirstIdeal.nD Cert.ProjFirstIdeal.τ).loc Cert.ProjFirstIdeal.main_v10_0)) (v1 : (c : Dev Cert.ProjFirstIdeal.nD) → Buf (Elt Ideal) ((c.tc : Thread Cert.ProjFirstIdeal.nD Cert.ProjFirstIdeal.τ).loc Cert.ProjFirstIdeal.main_v10_1)) (v2 : (c : Dev Cert.ProjFirstIdeal.nD) → Buf (Elt Ideal) ((c.tc : Thread Cert.ProjFirstIdeal.nD Cert.ProjFirstIdeal.τ).loc Cert.ProjFirstIdeal.main_v10_2)) (v3 : (c : Dev Cert.ProjFirstIdeal.nD) → Buf (Elt Ideal) ((c.tc : Thread Cert.ProjFirstIdeal.nD Cert.ProjFirstIdeal.τ).loc Cert.ProjFirstIdeal.main_v10_3)) (v4 : (c : Dev Cert.ProjFirstIdeal.nD) → Buf (Elt Ideal) ((c.tc : Thread Cert.ProjFirstIdeal.nD Cert.ProjFirstIdeal.τ).loc Cert.ProjFirstIdeal.main_v10_4)) (v5 : (c : Dev Cert.ProjFirstIdeal.nD) → Buf (Elt Ideal) ((c.tc : Thread Cert.ProjFirstIdeal.nD Cert.ProjFirstIdeal.τ).loc Cert.ProjFirstIdeal.main_v10_5)) (v6 : (c : Dev Cert.ProjFirstIdeal.nD) → Buf (Elt Ideal) ((c.tc : Thread Cert.ProjFirstIdeal.nD Cert.ProjFirstIdeal.τ).loc Cert.ProjFirstIdeal.main_v10_6)) (v7 : (c : Dev Cert.ProjFirstIdeal.nD) → Buf (Elt Ideal) ((c.tc : Thread Cert.ProjFirstIdeal.nD Cert.ProjFirstIdeal.τ).loc Cert.ProjFirstIdeal.main_v10_7)) (v8 : (c : Dev Cert.ProjFirstIdeal.nD) → Buf (Elt Ideal) ((c.tc : Thread Cert.ProjFirstIdeal.nD Cert.ProjFirstIdeal.τ).loc Cert.ProjFirstIdeal.main_v10_8)) (v9 : (c : Dev Cert.ProjFirstIdeal.nD) → Buf (Elt Ideal) ((c.tc : Thread Cert.ProjFirstIdeal.nD Cert.ProjFirstIdeal.τ).loc Cert.ProjFirstIdeal.main_v10_9)),
      θ_run (Cert.ProjFirstIdeal.defs (F := Ideal)) (onTc (τ := Cert.ProjFirstIdeal.τ) (Cert.ProjFirstIdeal.main (F := Ideal))) ⟨m, fun _ => 0, g⟩ (fun r => ∀ c : Dev Cert.ProjFirstIdeal.nD,
          r.2.mem ((c.tc : Thread Cert.ProjFirstIdeal.nD Cert.ProjFirstIdeal.τ).loc Cert.ProjFirstIdeal.main_v10_0) = v0 c
          ∧ r.2.mem ((c.tc : Thread Cert.ProjFirstIdeal.nD Cert.ProjFirstIdeal.τ).loc Cert.ProjFirstIdeal.main_v10_1) = v1 c
          ∧ r.2.mem ((c.tc : Thread Cert.ProjFirstIdeal.nD Cert.ProjFirstIdeal.τ).loc Cert.ProjFirstIdeal.main_v10_2) = v2 c
          ∧ r.2.mem ((c.tc : Thread Cert.ProjFirstIdeal.nD Cert.ProjFirstIdeal.τ).loc Cert.ProjFirstIdeal.main_v10_3) = v3 c
          ∧ r.2.mem ((c.tc : Thread Cert.ProjFirstIdeal.nD Cert.ProjFirstIdeal.τ).loc Cert.ProjFirstIdeal.main_v10_4) = v4 c
          ∧ r.2.mem ((c.tc : Thread Cert.ProjFirstIdeal.nD Cert.ProjFirstIdeal.τ).loc Cert.ProjFirstIdeal.main_v10_5) = v5 c
          ∧ r.2.mem ((c.tc : Thread Cert.ProjFirstIdeal.nD Cert.ProjFirstIdeal.τ).loc Cert.ProjFirstIdeal.main_v10_6) = v6 c
          ∧ r.2.mem ((c.tc : Thread Cert.ProjFirstIdeal.nD Cert.ProjFirstIdeal.τ).loc Cert.ProjFirstIdeal.main_v10_7) = v7 c
          ∧ r.2.mem ((c.tc : Thread Cert.ProjFirstIdeal.nD Cert.ProjFirstIdeal.τ).loc Cert.ProjFirstIdeal.main_v10_8) = v8 c
          ∧ r.2.mem ((c.tc : Thread Cert.ProjFirstIdeal.nD Cert.ProjFirstIdeal.τ).loc Cert.ProjFirstIdeal.main_v10_9) = v9 c
          ∧ r.2.mem ((c.tc : Thread Cert.ProjFirstIdeal.nD Cert.ProjFirstIdeal.τ).loc Cert.ProjFirstIdeal.main_arg0) = m ((c.tc : Thread Cert.ProjFirstIdeal.nD Cert.ProjFirstIdeal.τ).loc Cert.ProjFirstIdeal.main_arg0)
          ∧ r.2.mem ((c.tc : Thread Cert.ProjFirstIdeal.nD Cert.ProjFirstIdeal.τ).loc Cert.ProjFirstIdeal.main_arg1) = m ((c.tc : Thread Cert.ProjFirstIdeal.nD Cert.ProjFirstIdeal.τ).loc Cert.ProjFirstIdeal.main_arg1)
          ∧ r.2.mem ((c.tc : Thread Cert.ProjFirstIdeal.nD Cert.ProjFirstIdeal.τ).loc Cert.ProjFirstIdeal.main_arg2) = m ((c.tc : Thread Cert.ProjFirstIdeal.nD Cert.ProjFirstIdeal.τ).loc Cert.ProjFirstIdeal.main_arg2)
          ∧ r.2.mem ((c.tc : Thread Cert.ProjFirstIdeal.nD Cert.ProjFirstIdeal.τ).loc Cert.ProjFirstIdeal.main_arg3) = m ((c.tc : Thread Cert.ProjFirstIdeal.nD Cert.ProjFirstIdeal.τ).loc Cert.ProjFirstIdeal.main_arg3)
          ∧ r.2.mem ((c.tc : Thread Cert.ProjFirstIdeal.nD Cert.ProjFirstIdeal.τ).loc Cert.ProjFirstIdeal.main_arg4) = m ((c.tc : Thread Cert.ProjFirstIdeal.nD Cert.ProjFirstIdeal.τ).loc Cert.ProjFirstIdeal.main_arg4))
      ∧ θ_run (Cert.ProjFirstReferenceIdeal.defs (F := Ideal)) (onTc (τ := Cert.ProjFirstReferenceIdeal.τ) (Cert.ProjFirstReferenceIdeal.main (F := Ideal))) ⟨m', fun _ => 0, g'⟩ (fun r => ∀ c : Dev Cert.ProjFirstReferenceIdeal.nD,
          r.2.mem ((c.tc : Thread Cert.ProjFirstReferenceIdeal.nD Cert.ProjFirstReferenceIdeal.τ).loc Cert.ProjFirstReferenceIdeal.main_v77) = v0 c
          ∧ r.2.mem ((c.tc : Thread Cert.ProjFirstReferenceIdeal.nD Cert.ProjFirstReferenceIdeal.τ).loc Cert.ProjFirstReferenceIdeal.main_v80) = v1 c
          ∧ r.2.mem ((c.tc : Thread Cert.ProjFirstReferenceIdeal.nD Cert.ProjFirstReferenceIdeal.τ).loc Cert.ProjFirstReferenceIdeal.main_v83) = v2 c
          ∧ r.2.mem ((c.tc : Thread Cert.ProjFirstReferenceIdeal.nD Cert.ProjFirstReferenceIdeal.τ).loc Cert.ProjFirstReferenceIdeal.main_v119) = v3 c
          ∧ r.2.mem ((c.tc : Thread Cert.ProjFirstReferenceIdeal.nD Cert.ProjFirstReferenceIdeal.τ).loc Cert.ProjFirstReferenceIdeal.main_v122) = v4 c
          ∧ r.2.mem ((c.tc : Thread Cert.ProjFirstReferenceIdeal.nD Cert.ProjFirstReferenceIdeal.τ).loc Cert.ProjFirstReferenceIdeal.main_v146) = v5 c
          ∧ r.2.mem ((c.tc : Thread Cert.ProjFirstReferenceIdeal.nD Cert.ProjFirstReferenceIdeal.τ).loc Cert.ProjFirstReferenceIdeal.main_v147) = v6 c
          ∧ r.2.mem ((c.tc : Thread Cert.ProjFirstReferenceIdeal.nD Cert.ProjFirstReferenceIdeal.τ).loc Cert.ProjFirstReferenceIdeal.main_v152) = v7 c
          ∧ r.2.mem ((c.tc : Thread Cert.ProjFirstReferenceIdeal.nD Cert.ProjFirstReferenceIdeal.τ).loc Cert.ProjFirstReferenceIdeal.main_v162) = v8 c
          ∧ r.2.mem ((c.tc : Thread Cert.ProjFirstReferenceIdeal.nD Cert.ProjFirstReferenceIdeal.τ).loc Cert.ProjFirstReferenceIdeal.main_v53) = v9 c
          ∧ r.2.mem ((c.tc : Thread Cert.ProjFirstReferenceIdeal.nD Cert.ProjFirstReferenceIdeal.τ).loc Cert.ProjFirstReferenceIdeal.main_arg0) = m' ((c.tc : Thread Cert.ProjFirstReferenceIdeal.nD Cert.ProjFirstReferenceIdeal.τ).loc Cert.ProjFirstReferenceIdeal.main_arg0)
          ∧ r.2.mem ((c.tc : Thread Cert.ProjFirstReferenceIdeal.nD Cert.ProjFirstReferenceIdeal.τ).loc Cert.ProjFirstReferenceIdeal.main_arg1) = m' ((c.tc : Thread Cert.ProjFirstReferenceIdeal.nD Cert.ProjFirstReferenceIdeal.τ).loc Cert.ProjFirstReferenceIdeal.main_arg1)
          ∧ r.2.mem ((c.tc : Thread Cert.ProjFirstReferenceIdeal.nD Cert.ProjFirstReferenceIdeal.τ).loc Cert.ProjFirstReferenceIdeal.main_arg2) = m' ((c.tc : Thread Cert.ProjFirstReferenceIdeal.nD Cert.ProjFirstReferenceIdeal.τ).loc Cert.ProjFirstReferenceIdeal.main_arg2)
          ∧ r.2.mem ((c.tc : Thread Cert.ProjFirstReferenceIdeal.nD Cert.ProjFirstReferenceIdeal.τ).loc Cert.ProjFirstReferenceIdeal.main_arg3) = m' ((c.tc : Thread Cert.ProjFirstReferenceIdeal.nD Cert.ProjFirstReferenceIdeal.τ).loc Cert.ProjFirstReferenceIdeal.main_arg3)
          ∧ r.2.mem ((c.tc : Thread Cert.ProjFirstReferenceIdeal.nD Cert.ProjFirstReferenceIdeal.τ).loc Cert.ProjFirstReferenceIdeal.main_arg4) = m' ((c.tc : Thread Cert.ProjFirstReferenceIdeal.nD Cert.ProjFirstReferenceIdeal.τ).loc Cert.ProjFirstReferenceIdeal.main_arg4))

def preserves_Compress_CompressIdeal : Prop :=
  True

def algebraic_CompressIdeal_CompressReferenceIdeal [hCompressIdeal : Cert.CompressIdeal.Facts] [hCompressReferenceIdeal : Cert.CompressReferenceIdeal.Facts] : Prop :=
  ∀ (m : (ℓ : Loc Cert.CompressIdeal.nD Cert.CompressIdeal.τ Cert.CompressIdeal.sig) → Buf (Elt Ideal) ℓ) (g : Dev Cert.CompressIdeal.nD → PrngReg)
    (m' : (ℓ : Loc Cert.CompressReferenceIdeal.nD Cert.CompressReferenceIdeal.τ Cert.CompressReferenceIdeal.sig) → Buf (Elt Ideal) ℓ) (g' : Dev Cert.CompressReferenceIdeal.nD → PrngReg), Pre_CompressIdeal m →
    (∀ c : Dev Cert.CompressIdeal.nD,
      m' ((c.tc : Thread Cert.CompressReferenceIdeal.nD Cert.CompressReferenceIdeal.τ).loc Cert.CompressReferenceIdeal.main_arg0) = m ((c.tc : Thread Cert.CompressIdeal.nD Cert.CompressIdeal.τ).loc Cert.CompressIdeal.main_arg0)
      ∧ m' ((c.tc : Thread Cert.CompressReferenceIdeal.nD Cert.CompressReferenceIdeal.τ).loc Cert.CompressReferenceIdeal.main_arg1) = m ((c.tc : Thread Cert.CompressIdeal.nD Cert.CompressIdeal.τ).loc Cert.CompressIdeal.main_arg1)
      ∧ m' ((c.tc : Thread Cert.CompressReferenceIdeal.nD Cert.CompressReferenceIdeal.τ).loc Cert.CompressReferenceIdeal.main_arg2) = m ((c.tc : Thread Cert.CompressIdeal.nD Cert.CompressIdeal.τ).loc Cert.CompressIdeal.main_arg2)
      ∧ m' ((c.tc : Thread Cert.CompressReferenceIdeal.nD Cert.CompressReferenceIdeal.τ).loc Cert.CompressReferenceIdeal.main_arg3) = m ((c.tc : Thread Cert.CompressIdeal.nD Cert.CompressIdeal.τ).loc Cert.CompressIdeal.main_arg3)
      ∧ m' ((c.tc : Thread Cert.CompressReferenceIdeal.nD Cert.CompressReferenceIdeal.τ).loc Cert.CompressReferenceIdeal.main_arg4) = m ((c.tc : Thread Cert.CompressIdeal.nD Cert.CompressIdeal.τ).loc Cert.CompressIdeal.main_arg4)
      ∧ m' ((c.tc : Thread Cert.CompressReferenceIdeal.nD Cert.CompressReferenceIdeal.τ).loc Cert.CompressReferenceIdeal.main_arg5) = m ((c.tc : Thread Cert.CompressIdeal.nD Cert.CompressIdeal.τ).loc Cert.CompressIdeal.main_arg5)
      ∧ m' ((c.tc : Thread Cert.CompressReferenceIdeal.nD Cert.CompressReferenceIdeal.τ).loc Cert.CompressReferenceIdeal.main_arg6) = m ((c.tc : Thread Cert.CompressIdeal.nD Cert.CompressIdeal.τ).loc Cert.CompressIdeal.main_arg6)
      ∧ m' ((c.tc : Thread Cert.CompressReferenceIdeal.nD Cert.CompressReferenceIdeal.τ).loc Cert.CompressReferenceIdeal.main_arg7) = m ((c.tc : Thread Cert.CompressIdeal.nD Cert.CompressIdeal.τ).loc Cert.CompressIdeal.main_arg7)
      ∧ m' ((c.tc : Thread Cert.CompressReferenceIdeal.nD Cert.CompressReferenceIdeal.τ).loc Cert.CompressReferenceIdeal.main_arg8) = m ((c.tc : Thread Cert.CompressIdeal.nD Cert.CompressIdeal.τ).loc Cert.CompressIdeal.main_arg8)
      ∧ m' ((c.tc : Thread Cert.CompressReferenceIdeal.nD Cert.CompressReferenceIdeal.τ).loc Cert.CompressReferenceIdeal.main_arg9) = m ((c.tc : Thread Cert.CompressIdeal.nD Cert.CompressIdeal.τ).loc Cert.CompressIdeal.main_arg9)) →
    ∃ (v0 : (c : Dev Cert.CompressIdeal.nD) → Buf (Elt Ideal) ((c.tc : Thread Cert.CompressIdeal.nD Cert.CompressIdeal.τ).loc Cert.CompressIdeal.main_v43_0)) (v1 : (c : Dev Cert.CompressIdeal.nD) → Buf (Elt Ideal) ((c.tc : Thread Cert.CompressIdeal.nD Cert.CompressIdeal.τ).loc Cert.CompressIdeal.main_v43_1)),
      θ_run (Cert.CompressIdeal.defs (F := Ideal)) (onTc (τ := Cert.CompressIdeal.τ) (Cert.CompressIdeal.main (F := Ideal))) ⟨m, fun _ => 0, g⟩ (fun r => ∀ c : Dev Cert.CompressIdeal.nD,
          r.2.mem ((c.tc : Thread Cert.CompressIdeal.nD Cert.CompressIdeal.τ).loc Cert.CompressIdeal.main_v43_0) = v0 c
          ∧ r.2.mem ((c.tc : Thread Cert.CompressIdeal.nD Cert.CompressIdeal.τ).loc Cert.CompressIdeal.main_v43_1) = v1 c
          ∧ r.2.mem ((c.tc : Thread Cert.CompressIdeal.nD Cert.CompressIdeal.τ).loc Cert.CompressIdeal.main_arg0) = m ((c.tc : Thread Cert.CompressIdeal.nD Cert.CompressIdeal.τ).loc Cert.CompressIdeal.main_arg0)
          ∧ r.2.mem ((c.tc : Thread Cert.CompressIdeal.nD Cert.CompressIdeal.τ).loc Cert.CompressIdeal.main_arg1) = m ((c.tc : Thread Cert.CompressIdeal.nD Cert.CompressIdeal.τ).loc Cert.CompressIdeal.main_arg1)
          ∧ r.2.mem ((c.tc : Thread Cert.CompressIdeal.nD Cert.CompressIdeal.τ).loc Cert.CompressIdeal.main_arg2) = m ((c.tc : Thread Cert.CompressIdeal.nD Cert.CompressIdeal.τ).loc Cert.CompressIdeal.main_arg2)
          ∧ r.2.mem ((c.tc : Thread Cert.CompressIdeal.nD Cert.CompressIdeal.τ).loc Cert.CompressIdeal.main_arg3) = m ((c.tc : Thread Cert.CompressIdeal.nD Cert.CompressIdeal.τ).loc Cert.CompressIdeal.main_arg3)
          ∧ r.2.mem ((c.tc : Thread Cert.CompressIdeal.nD Cert.CompressIdeal.τ).loc Cert.CompressIdeal.main_arg4) = m ((c.tc : Thread Cert.CompressIdeal.nD Cert.CompressIdeal.τ).loc Cert.CompressIdeal.main_arg4)
          ∧ r.2.mem ((c.tc : Thread Cert.CompressIdeal.nD Cert.CompressIdeal.τ).loc Cert.CompressIdeal.main_arg5) = m ((c.tc : Thread Cert.CompressIdeal.nD Cert.CompressIdeal.τ).loc Cert.CompressIdeal.main_arg5)
          ∧ r.2.mem ((c.tc : Thread Cert.CompressIdeal.nD Cert.CompressIdeal.τ).loc Cert.CompressIdeal.main_arg6) = m ((c.tc : Thread Cert.CompressIdeal.nD Cert.CompressIdeal.τ).loc Cert.CompressIdeal.main_arg6)
          ∧ r.2.mem ((c.tc : Thread Cert.CompressIdeal.nD Cert.CompressIdeal.τ).loc Cert.CompressIdeal.main_arg7) = m ((c.tc : Thread Cert.CompressIdeal.nD Cert.CompressIdeal.τ).loc Cert.CompressIdeal.main_arg7)
          ∧ r.2.mem ((c.tc : Thread Cert.CompressIdeal.nD Cert.CompressIdeal.τ).loc Cert.CompressIdeal.main_arg8) = m ((c.tc : Thread Cert.CompressIdeal.nD Cert.CompressIdeal.τ).loc Cert.CompressIdeal.main_arg8)
          ∧ r.2.mem ((c.tc : Thread Cert.CompressIdeal.nD Cert.CompressIdeal.τ).loc Cert.CompressIdeal.main_arg9) = m ((c.tc : Thread Cert.CompressIdeal.nD Cert.CompressIdeal.τ).loc Cert.CompressIdeal.main_arg9))
      ∧ θ_run (Cert.CompressReferenceIdeal.defs (F := Ideal)) (onTc (τ := Cert.CompressReferenceIdeal.τ) (Cert.CompressReferenceIdeal.main (F := Ideal))) ⟨m', fun _ => 0, g'⟩ (fun r => ∀ c : Dev Cert.CompressReferenceIdeal.nD,
          r.2.mem ((c.tc : Thread Cert.CompressReferenceIdeal.nD Cert.CompressReferenceIdeal.τ).loc Cert.CompressReferenceIdeal.main_v47) = v0 c
          ∧ r.2.mem ((c.tc : Thread Cert.CompressReferenceIdeal.nD Cert.CompressReferenceIdeal.τ).loc Cert.CompressReferenceIdeal.main_v78) = v1 c
          ∧ r.2.mem ((c.tc : Thread Cert.CompressReferenceIdeal.nD Cert.CompressReferenceIdeal.τ).loc Cert.CompressReferenceIdeal.main_arg0) = m' ((c.tc : Thread Cert.CompressReferenceIdeal.nD Cert.CompressReferenceIdeal.τ).loc Cert.CompressReferenceIdeal.main_arg0)
          ∧ r.2.mem ((c.tc : Thread Cert.CompressReferenceIdeal.nD Cert.CompressReferenceIdeal.τ).loc Cert.CompressReferenceIdeal.main_arg1) = m' ((c.tc : Thread Cert.CompressReferenceIdeal.nD Cert.CompressReferenceIdeal.τ).loc Cert.CompressReferenceIdeal.main_arg1)
          ∧ r.2.mem ((c.tc : Thread Cert.CompressReferenceIdeal.nD Cert.CompressReferenceIdeal.τ).loc Cert.CompressReferenceIdeal.main_arg2) = m' ((c.tc : Thread Cert.CompressReferenceIdeal.nD Cert.CompressReferenceIdeal.τ).loc Cert.CompressReferenceIdeal.main_arg2)
          ∧ r.2.mem ((c.tc : Thread Cert.CompressReferenceIdeal.nD Cert.CompressReferenceIdeal.τ).loc Cert.CompressReferenceIdeal.main_arg3) = m' ((c.tc : Thread Cert.CompressReferenceIdeal.nD Cert.CompressReferenceIdeal.τ).loc Cert.CompressReferenceIdeal.main_arg3)
          ∧ r.2.mem ((c.tc : Thread Cert.CompressReferenceIdeal.nD Cert.CompressReferenceIdeal.τ).loc Cert.CompressReferenceIdeal.main_arg4) = m' ((c.tc : Thread Cert.CompressReferenceIdeal.nD Cert.CompressReferenceIdeal.τ).loc Cert.CompressReferenceIdeal.main_arg4)
          ∧ r.2.mem ((c.tc : Thread Cert.CompressReferenceIdeal.nD Cert.CompressReferenceIdeal.τ).loc Cert.CompressReferenceIdeal.main_arg5) = m' ((c.tc : Thread Cert.CompressReferenceIdeal.nD Cert.CompressReferenceIdeal.τ).loc Cert.CompressReferenceIdeal.main_arg5)
          ∧ r.2.mem ((c.tc : Thread Cert.CompressReferenceIdeal.nD Cert.CompressReferenceIdeal.τ).loc Cert.CompressReferenceIdeal.main_arg6) = m' ((c.tc : Thread Cert.CompressReferenceIdeal.nD Cert.CompressReferenceIdeal.τ).loc Cert.CompressReferenceIdeal.main_arg6)
          ∧ r.2.mem ((c.tc : Thread Cert.CompressReferenceIdeal.nD Cert.CompressReferenceIdeal.τ).loc Cert.CompressReferenceIdeal.main_arg7) = m' ((c.tc : Thread Cert.CompressReferenceIdeal.nD Cert.CompressReferenceIdeal.τ).loc Cert.CompressReferenceIdeal.main_arg7)
          ∧ r.2.mem ((c.tc : Thread Cert.CompressReferenceIdeal.nD Cert.CompressReferenceIdeal.τ).loc Cert.CompressReferenceIdeal.main_arg8) = m' ((c.tc : Thread Cert.CompressReferenceIdeal.nD Cert.CompressReferenceIdeal.τ).loc Cert.CompressReferenceIdeal.main_arg8)
          ∧ r.2.mem ((c.tc : Thread Cert.CompressReferenceIdeal.nD Cert.CompressReferenceIdeal.τ).loc Cert.CompressReferenceIdeal.main_arg9) = m' ((c.tc : Thread Cert.CompressReferenceIdeal.nD Cert.CompressReferenceIdeal.τ).loc Cert.CompressReferenceIdeal.main_arg9))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hFfnMid : Cert.FfnMid.Facts) (hFfnMidIdeal : Cert.FfnMidIdeal.Facts) (hFfnMidReferenceIdeal : Cert.FfnMidReferenceIdeal.Facts) (hFfnFirst : Cert.FfnFirst.Facts) (hFfnFirstIdeal : Cert.FfnFirstIdeal.Facts) (hFfnFirstReferenceIdeal : Cert.FfnFirstReferenceIdeal.Facts) (hMerge : Cert.Merge.Facts) (hMergeIdeal : Cert.MergeIdeal.Facts) (hMergeReferenceIdeal : Cert.MergeReferenceIdeal.Facts) (hMergeFirst : Cert.MergeFirst.Facts) (hMergeFirstIdeal : Cert.MergeFirstIdeal.Facts) (hMergeFirstReferenceIdeal : Cert.MergeFirstReferenceIdeal.Facts) (hProj : Cert.Proj.Facts) (hProjIdeal : Cert.ProjIdeal.Facts) (hProjReferenceIdeal : Cert.ProjReferenceIdeal.Facts) (hProjFirst : Cert.ProjFirst.Facts) (hProjFirstIdeal : Cert.ProjFirstIdeal.Facts) (hProjFirstReferenceIdeal : Cert.ProjFirstReferenceIdeal.Facts) (hCompress : Cert.Compress.Facts) (hCompressIdeal : Cert.CompressIdeal.Facts) (hCompressReferenceIdeal : Cert.CompressReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Ffn (hFfn := hFfn)
    ∧ quiescent_FfnIdeal (hFfnIdeal := hFfnIdeal)
    ∧ quiescent_FfnReferenceIdeal (hFfnReferenceIdeal := hFfnReferenceIdeal)
    ∧ quiescent_FfnMid (hFfnMid := hFfnMid)
    ∧ quiescent_FfnMidIdeal (hFfnMidIdeal := hFfnMidIdeal)
    ∧ quiescent_FfnMidReferenceIdeal (hFfnMidReferenceIdeal := hFfnMidReferenceIdeal)
    ∧ quiescent_FfnFirst (hFfnFirst := hFfnFirst)
    ∧ quiescent_FfnFirstIdeal (hFfnFirstIdeal := hFfnFirstIdeal)
    ∧ quiescent_FfnFirstReferenceIdeal (hFfnFirstReferenceIdeal := hFfnFirstReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_MergeFirst (hMergeFirst := hMergeFirst)
    ∧ quiescent_MergeFirstIdeal (hMergeFirstIdeal := hMergeFirstIdeal)
    ∧ quiescent_MergeFirstReferenceIdeal (hMergeFirstReferenceIdeal := hMergeFirstReferenceIdeal)
    ∧ quiescent_Proj (hProj := hProj)
    ∧ quiescent_ProjIdeal (hProjIdeal := hProjIdeal)
    ∧ quiescent_ProjReferenceIdeal (hProjReferenceIdeal := hProjReferenceIdeal)
    ∧ quiescent_ProjFirst (hProjFirst := hProjFirst)
    ∧ quiescent_ProjFirstIdeal (hProjFirstIdeal := hProjFirstIdeal)
    ∧ quiescent_ProjFirstReferenceIdeal (hProjFirstReferenceIdeal := hProjFirstReferenceIdeal)
    ∧ quiescent_Compress (hCompress := hCompress)
    ∧ quiescent_CompressIdeal (hCompressIdeal := hCompressIdeal)
    ∧ quiescent_CompressReferenceIdeal (hCompressReferenceIdeal := hCompressReferenceIdeal)
    ∧ preserves_Kernel_KernelIdeal
    ∧ preserves_Ffn_FfnIdeal
    ∧ algebraic_FfnIdeal_FfnReferenceIdeal (hFfnIdeal := hFfnIdeal) (hFfnReferenceIdeal := hFfnReferenceIdeal)
    ∧ preserves_FfnMid_FfnMidIdeal
    ∧ algebraic_FfnMidIdeal_FfnMidReferenceIdeal (hFfnMidIdeal := hFfnMidIdeal) (hFfnMidReferenceIdeal := hFfnMidReferenceIdeal)
    ∧ preserves_FfnFirst_FfnFirstIdeal
    ∧ algebraic_FfnFirstIdeal_FfnFirstReferenceIdeal (hFfnFirstIdeal := hFfnFirstIdeal) (hFfnFirstReferenceIdeal := hFfnFirstReferenceIdeal)
    ∧ preserves_Merge_MergeIdeal
    ∧ algebraic_MergeIdeal_MergeReferenceIdeal (hMergeIdeal := hMergeIdeal) (hMergeReferenceIdeal := hMergeReferenceIdeal)
    ∧ preserves_MergeFirst_MergeFirstIdeal
    ∧ algebraic_MergeFirstIdeal_MergeFirstReferenceIdeal (hMergeFirstIdeal := hMergeFirstIdeal) (hMergeFirstReferenceIdeal := hMergeFirstReferenceIdeal)
    ∧ preserves_Proj_ProjIdeal
    ∧ algebraic_ProjIdeal_ProjReferenceIdeal (hProjIdeal := hProjIdeal) (hProjReferenceIdeal := hProjReferenceIdeal)
    ∧ preserves_ProjFirst_ProjFirstIdeal
    ∧ algebraic_ProjFirstIdeal_ProjFirstReferenceIdeal (hProjFirstIdeal := hProjFirstIdeal) (hProjFirstReferenceIdeal := hProjFirstReferenceIdeal)
    ∧ preserves_Compress_CompressIdeal
    ∧ algebraic_CompressIdeal_CompressReferenceIdeal (hCompressIdeal := hCompressIdeal) (hCompressReferenceIdeal := hCompressReferenceIdeal)
-- ==== Kernel.lean ====
abbrev S8x512x2048 : Shape := ⟨3, ![8, 512, 2048]⟩
abbrev S8x2048x512 : Shape := ⟨3, ![8, 2048, 512]⟩
abbrev S8x8x512 : Shape := ⟨3, ![8, 8, 512]⟩
abbrev S1x512x256 : Shape := ⟨3, ![1, 512, 256]⟩
abbrev S1x2048x512 : Shape := ⟨3, ![1, 2048, 512]⟩
abbrev S1x512x2048 : Shape := ⟨3, ![1, 512, 2048]⟩
abbrev S1x8x512 : Shape := ⟨3, ![1, 8, 512]⟩
abbrev S1x256x512 : Shape := ⟨3, ![1, 256, 512]⟩
abbrev S2x8x256x256 : Shape := ⟨4, ![2, 8, 256, 256]⟩
abbrev S8x1x256 : Shape := ⟨3, ![8, 1, 256]⟩
abbrev S512x256 : Shape := ⟨2, ![512, 256]⟩
abbrev S16x256 : Shape := ⟨2, ![16, 256]⟩
abbrev S8x128 : Shape := ⟨2, ![8, 128]⟩
abbrev S64x256 : Shape := ⟨2, ![64, 256]⟩
abbrev S1x64x256 : Shape := ⟨3, ![1, 64, 256]⟩
abbrev S128x256 : Shape := ⟨2, ![128, 256]⟩
abbrev S1x8x128 : Shape := ⟨3, ![1, 8, 128]⟩
abbrev S16x128 : Shape := ⟨2, ![16, 128]⟩
abbrev S1x256 : Shape := ⟨2, ![1, 256]⟩
abbrev S1x256x128 : Shape := ⟨3, ![1, 256, 128]⟩
abbrev S256x128 : Shape := ⟨2, ![256, 128]⟩
abbrev S256x256 : Shape := ⟨2, ![256, 256]⟩
abbrev S1x1x256x256 : Shape := ⟨4, ![1, 1, 256, 256]⟩
abbrev S256 : Shape := ⟨1, ![256]⟩
abbrev S1x1x256 : Shape := ⟨3, ![1, 1, 256]⟩
abbrev S80x256 : Shape := ⟨2, ![80, 256]⟩
abbrev S256x512 : Shape := ⟨2, ![256, 512]⟩

abbrev nBuf : Space → Nat
  | .hbm => 5
  | .vmem => 14
  | .smem => 0
  | _ => 0

abbrev bufTy : (tb : Table) → Fin (tcTables nBuf tb) → BufTy
  | .hbm, ⟨0, _⟩ => ⟨S8x512x2048, .bf16⟩
  | .hbm, ⟨1, _⟩ => ⟨S8x2048x512, .bf16⟩
  | .hbm, ⟨2, _⟩ => ⟨S8x512x2048, .bf16⟩
  | .hbm, ⟨3, _⟩ => ⟨S8x8x512, .f32⟩
  | .hbm, ⟨4, _⟩ => ⟨S8x2048x512, .bf16⟩
  | .local _ .vmem, ⟨0, _⟩ => ⟨S1x512x256, .bf16⟩
  | .local _ .vmem, ⟨1, _⟩ => ⟨S1x512x256, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x512x2048, .bf16⟩
  | .local _ .vmem, ⟨5, _⟩ => ⟨S1x512x2048, .bf16⟩
  | .local _ .vmem, ⟨6, _⟩ => ⟨S1x8x512, .f32⟩
  | .local _ .vmem, ⟨7, _⟩ => ⟨S1x8x512, .f32⟩
  | .local _ .vmem, ⟨8, _⟩ => ⟨S1x256x512, .bf16⟩
  | .local _ .vmem, ⟨9, _⟩ => ⟨S1x256x512, .bf16⟩
  | .local _ .vmem, ⟨10, _⟩ => ⟨S2x8x256x256, .f32⟩
  | .local _ .vmem, ⟨11, _⟩ => ⟨S8x1x256, .f32⟩
  | .local _ .vmem, ⟨12, _⟩ => ⟨S8x1x256, .f32⟩
  | .local _ .vmem, ⟨13, _⟩ => ⟨S512x256, .f32⟩
  | _, _ => ⟨S8x512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c256_i32 : BitVec 32 := 256#32
  let v0 : BitVec 32 := Scalar.muli arg1 c256_i32
  v0
def k0_mult2 : BitVec 32 :=
  let c0_i32_415 : BitVec 32 := 0#32
  c0_i32_415
def k0_mult3 : BitVec 32 :=
  let c0_i32_423 : BitVec 32 := 0#32
  c0_i32_423
def k0_mult4 : BitVec 32 :=
  let c0_i32_430 : BitVec 32 := 0#32
  c0_i32_430
def k0_mult5 : BitVec 32 :=
  let c0_i32_437 : BitVec 32 := 0#32
  c0_i32_437
def k0_mult6 : BitVec 32 :=
  let c0_i32_444 : BitVec 32 := 0#32
  c0_i32_444
def k0_mult7 : BitVec 32 :=
  let c0_i32_451 : BitVec 32 := 0#32
  c0_i32_451
def k0_mult8 : BitVec 32 :=
  let c0_i32_458 : BitVec 32 := 0#32
  c0_i32_458
def k0_mult9 : BitVec 32 :=
  let c0_i32_465 : BitVec 32 := 0#32
  c0_i32_465
@[reducible] def k0_t1_loop (i : grid0.Coords) : Scf.Loop 32 :=
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let c1_i32_482 : BitVec 32 := 1#32
  ⟨c0_i32_479, v1215, c1_i32_482⟩
def k0_mult10 (i : grid0.Coords) (k0_t1 : Fin (k0_t1_loop i).trips) : BitVec 32 :=
  let c2_i32_721 : BitVec 32 := 2#32
  let c0_i32_479 : BitVec 32 := 0#32
  let c1_i32_482 : BitVec 32 := 1#32
  let arg11 : BitVec 32 := Scf.iv c0_i32_479 c1_i32_482 k0_t1
  let v1680 : BitVec 32 := Scalar.muli c2_i32_721 arg11
  let c1_i32_722 : BitVec 32 := 1#32
  let v1681 : BitVec 32 := Scalar.addi v1680 c1_i32_722
  let c256_i32_723 : BitVec 32 := 256#32
  let v1682 : BitVec 32 := Scalar.muli v1681 c256_i32_723
  v1682
def k0_off1 (i : grid0.Coords) (k0_t1 : Fin (k0_t1_loop i).trips) (c1_i32_722 : BitVec 32) : Fin 3 → Nat :=
  let c0_724 : Index := 0#32
  let c2_i32_721 : BitVec 32 := 2#32
  let c0_i32_479 : BitVec 32 := 0#32
  let c1_i32_482 : BitVec 32 := 1#32
  let arg11 : BitVec 32 := Scf.iv c0_i32_479 c1_i32_482 k0_t1
  let v1680 : BitVec 32 := Scalar.muli c2_i32_721 arg11
  let v1681 : BitVec 32 := Scalar.addi v1680 c1_i32_722
  let c256_i32_723 : BitVec 32 := 256#32
  let v1682 : BitVec 32 := Scalar.muli v1681 c256_i32_723
  let v1683 : BitVec 32 := v1682
  let v1684 : Index := Scalar.indexCast v1683
  let c0_725 : Index := 0#32
  ![0, v1684.toNat, 0]
def k0_mult11 (i : grid0.Coords) (k0_t1 : Fin (k0_t1_loop i).trips) : BitVec 32 :=
  let c2_i32_721 : BitVec 32 := 2#32
  let c0_i32_479 : BitVec 32 := 0#32
  let c1_i32_482 : BitVec 32 := 1#32
  let arg11 : BitVec 32 := Scf.iv c0_i32_479 c1_i32_482 k0_t1
  let v1680 : BitVec 32 := Scalar.muli c2_i32_721 arg11
  let c1_i32_722 : BitVec 32 := 1#32
  let v1681 : BitVec 32 := Scalar.addi v1680 c1_i32_722
  let c256_i32_731 : BitVec 32 := 256#32
  let v1691 : BitVec 32 := Scalar.muli v1681 c256_i32_731
  v1691
def k0_mult12 (i : grid0.Coords) (k0_t1 : Fin (k0_t1_loop i).trips) : BitVec 32 :=
  let c2_i32_721 : BitVec 32 := 2#32
  let c0_i32_479 : BitVec 32 := 0#32
  let c1_i32_482 : BitVec 32 := 1#32
  let arg11 : BitVec 32 := Scf.iv c0_i32_479 c1_i32_482 k0_t1
  let v1680 : BitVec 32 := Scalar.muli c2_i32_721 arg11
  let c256_i32_755 : BitVec 32 := 256#32
  let v1727 : BitVec 32 := Scalar.muli v1680 c256_i32_755
  v1727
def k0_off2 (i : grid0.Coords) (k0_t1 : Fin (k0_t1_loop i).trips) : Fin 3 → Nat :=
  let c0_756 : Index := 0#32
  let c0_757 : Index := 0#32
  let c2_i32_721 : BitVec 32 := 2#32
  let c0_i32_479 : BitVec 32 := 0#32
  let c1_i32_482 : BitVec 32 := 1#32
  let arg11 : BitVec 32 := Scf.iv c0_i32_479 c1_i32_482 k0_t1
  let v1680 : BitVec 32 := Scalar.muli c2_i32_721 arg11
  let c256_i32_755 : BitVec 32 := 256#32
  let v1727 : BitVec 32 := Scalar.muli v1680 c256_i32_755
  let v1728 : BitVec 32 := v1727
  let v1729 : Index := Scalar.indexCast v1728
  ![0, 0, v1729.toNat]
def k0_mult13 (i : grid0.Coords) (k0_t1 : Fin (k0_t1_loop i).trips) : BitVec 32 :=
  let c2_i32_721 : BitVec 32 := 2#32
  let c0_i32_479 : BitVec 32 := 0#32
  let c1_i32_482 : BitVec 32 := 1#32
  let arg11 : BitVec 32 := Scf.iv c0_i32_479 c1_i32_482 k0_t1
  let v1680 : BitVec 32 := Scalar.muli c2_i32_721 arg11
  let c256_i32_785 : BitVec 32 := 256#32
  let v1778 : BitVec 32 := Scalar.muli v1680 c256_i32_785
  v1778
def k0_off3 (i : grid0.Coords) (k0_t1 : Fin (k0_t1_loop i).trips) : Fin 3 → Nat :=
  let c0_786 : Index := 0#32
  let c64_787 : Index := 64#32
  let c2_i32_721 : BitVec 32 := 2#32
  let c0_i32_479 : BitVec 32 := 0#32
  let c1_i32_482 : BitVec 32 := 1#32
  let arg11 : BitVec 32 := Scf.iv c0_i32_479 c1_i32_482 k0_t1
  let v1680 : BitVec 32 := Scalar.muli c2_i32_721 arg11
  let c256_i32_785 : BitVec 32 := 256#32
  let v1778 : BitVec 32 := Scalar.muli v1680 c256_i32_785
  let v1779 : BitVec 32 := v1778
  let v1780 : Index := Scalar.indexCast v1779
  ![0, 64, v1780.toNat]
def k0_mult14 (i : grid0.Coords) (k0_t1 : Fin (k0_t1_loop i).trips) : BitVec 32 :=
  let c2_i32_721 : BitVec 32 := 2#32
  let c0_i32_479 : BitVec 32 := 0#32
  let c1_i32_482 : BitVec 32 := 1#32
  let arg11 : BitVec 32 := Scf.iv c0_i32_479 c1_i32_482 k0_t1
  let v1680 : BitVec 32 := Scalar.muli c2_i32_721 arg11
  let c1_i32_799 : BitVec 32 := 1#32
  let v1802 : BitVec 32 := Scalar.addi v1680 c1_i32_799
  let c256_i32_800 : BitVec 32 := 256#32
  let v1803 : BitVec 32 := Scalar.muli v1802 c256_i32_800
  v1803
def k0_off4 (i : grid0.Coords) (k0_t1 : Fin (k0_t1_loop i).trips) (c1_i32_799 : BitVec 32) : Fin 3 → Nat :=
  let c0_801 : Index := 0#32
  let c2_i32_721 : BitVec 32 := 2#32
  let c0_i32_479 : BitVec 32 := 0#32
  let c1_i32_482 : BitVec 32 := 1#32
  let arg11 : BitVec 32 := Scf.iv c0_i32_479 c1_i32_482 k0_t1
  let v1680 : BitVec 32 := Scalar.muli c2_i32_721 arg11
  let v1802 : BitVec 32 := Scalar.addi v1680 c1_i32_799
  let c256_i32_800 : BitVec 32 := 256#32
  let v1803 : BitVec 32 := Scalar.muli v1802 c256_i32_800
  let v1804 : BitVec 32 := v1803
  let v1805 : Index := Scalar.indexCast v1804
  let c128_802 : Index := 128#32
  ![0, v1805.toNat, 128]
def k0_mult15 (i : grid0.Coords) (k0_t1 : Fin (k0_t1_loop i).trips) : BitVec 32 :=
  let c2_i32_721 : BitVec 32 := 2#32
  let c0_i32_479 : BitVec 32 := 0#32
  let c1_i32_482 : BitVec 32 := 1#32
  let arg11 : BitVec 32 := Scf.iv c0_i32_479 c1_i32_482 k0_t1
  let v1680 : BitVec 32 := Scalar.muli c2_i32_721 arg11
  let c1_i32_799 : BitVec 32 := 1#32
  let v1802 : BitVec 32 := Scalar.addi v1680 c1_i32_799
  let c256_i32_808 : BitVec 32 := 256#32
  let v1812 : BitVec 32 := Scalar.muli v1802 c256_i32_808
  v1812
def k0_mult16 (i : grid0.Coords) (k0_t1 : Fin (k0_t1_loop i).trips) : BitVec 32 :=
  let c2_i32_721 : BitVec 32 := 2#32
  let c0_i32_479 : BitVec 32 := 0#32
  let c1_i32_482 : BitVec 32 := 1#32
  let arg11 : BitVec 32 := Scf.iv c0_i32_479 c1_i32_482 k0_t1
  let v1680 : BitVec 32 := Scalar.muli c2_i32_721 arg11
  let c256_i32_832 : BitVec 32 := 256#32
  let v1848 : BitVec 32 := Scalar.muli v1680 c256_i32_832
  v1848
def k0_off5 (i : grid0.Coords) (k0_t1 : Fin (k0_t1_loop i).trips) : Fin 3 → Nat :=
  let c0_833 : Index := 0#32
  let c128_834 : Index := 128#32
  let c2_i32_721 : BitVec 32 := 2#32
  let c0_i32_479 : BitVec 32 := 0#32
  let c1_i32_482 : BitVec 32 := 1#32
  let arg11 : BitVec 32 := Scf.iv c0_i32_479 c1_i32_482 k0_t1
  let v1680 : BitVec 32 := Scalar.muli c2_i32_721 arg11
  let c256_i32_832 : BitVec 32 := 256#32
  let v1848 : BitVec 32 := Scalar.muli v1680 c256_i32_832
  let v1849 : BitVec 32 := v1848
  let v1850 : Index := Scalar.indexCast v1849
  ![0, 128, v1850.toNat]
def k0_mult17 (i : grid0.Coords) (k0_t1 : Fin (k0_t1_loop i).trips) : BitVec 32 :=
  let c2_i32_721 : BitVec 32 := 2#32
  let c0_i32_479 : BitVec 32 := 0#32
  let c1_i32_482 : BitVec 32 := 1#32
  let arg11 : BitVec 32 := Scf.iv c0_i32_479 c1_i32_482 k0_t1
  let v1680 : BitVec 32 := Scalar.muli c2_i32_721 arg11
  let c256_i32_862 : BitVec 32 := 256#32
  let v1899 : BitVec 32 := Scalar.muli v1680 c256_i32_862
  v1899
def k0_off6 (i : grid0.Coords) (k0_t1 : Fin (k0_t1_loop i).trips) : Fin 3 → Nat :=
  let c0_863 : Index := 0#32
  let c192_864 : Index := 192#32
  let c2_i32_721 : BitVec 32 := 2#32
  let c0_i32_479 : BitVec 32 := 0#32
  let c1_i32_482 : BitVec 32 := 1#32
  let arg11 : BitVec 32 := Scf.iv c0_i32_479 c1_i32_482 k0_t1
  let v1680 : BitVec 32 := Scalar.muli c2_i32_721 arg11
  let c256_i32_862 : BitVec 32 := 256#32
  let v1899 : BitVec 32 := Scalar.muli v1680 c256_i32_862
  let v1900 : BitVec 32 := v1899
  let v1901 : Index := Scalar.indexCast v1900
  ![0, 192, v1901.toNat]
def k0_mult18 (i : grid0.Coords) (k0_t1 : Fin (k0_t1_loop i).trips) : BitVec 32 :=
  let c2_i32_721 : BitVec 32 := 2#32
  let c0_i32_479 : BitVec 32 := 0#32
  let c1_i32_482 : BitVec 32 := 1#32
  let arg11 : BitVec 32 := Scf.iv c0_i32_479 c1_i32_482 k0_t1
  let v1680 : BitVec 32 := Scalar.muli c2_i32_721 arg11
  let c1_i32_876 : BitVec 32 := 1#32
  let v1923 : BitVec 32 := Scalar.addi v1680 c1_i32_876
  let c256_i32_877 : BitVec 32 := 256#32
  let v1924 : BitVec 32 := Scalar.muli v1923 c256_i32_877
  v1924
def k0_off7 (i : grid0.Coords) (k0_t1 : Fin (k0_t1_loop i).trips) (c1_i32_876 : BitVec 32) : Fin 3 → Nat :=
  let c0_878 : Index := 0#32
  let c2_i32_721 : BitVec 32 := 2#32
  let c0_i32_479 : BitVec 32 := 0#32
  let c1_i32_482 : BitVec 32 := 1#32
  let arg11 : BitVec 32 := Scf.iv c0_i32_479 c1_i32_482 k0_t1
  let v1680 : BitVec 32 := Scalar.muli c2_i32_721 arg11
  let v1923 : BitVec 32 := Scalar.addi v1680 c1_i32_876
  let c256_i32_877 : BitVec 32 := 256#32
  let v1924 : BitVec 32 := Scalar.muli v1923 c256_i32_877
  let v1925 : BitVec 32 := v1924
  let v1926 : Index := Scalar.indexCast v1925
  let c256_879 : Index := 256#32
  ![0, v1926.toNat, 256]
def k0_mult19 (i : grid0.Coords) (k0_t1 : Fin (k0_t1_loop i).trips) : BitVec 32 :=
  let c2_i32_721 : BitVec 32 := 2#32
  let c0_i32_479 : BitVec 32 := 0#32
  let c1_i32_482 : BitVec 32 := 1#32
  let arg11 : BitVec 32 := Scf.iv c0_i32_479 c1_i32_482 k0_t1
  let v1680 : BitVec 32 := Scalar.muli c2_i32_721 arg11
  let c1_i32_876 : BitVec 32 := 1#32
  let v1923 : BitVec 32 := Scalar.addi v1680 c1_i32_876
  let c256_i32_885 : BitVec 32 := 256#32
  let v1933 : BitVec 32 := Scalar.muli v1923 c256_i32_885
  v1933
def k0_mult20 (i : grid0.Coords) (k0_t1 : Fin (k0_t1_loop i).trips) : BitVec 32 :=
  let c2_i32_721 : BitVec 32 := 2#32
  let c0_i32_479 : BitVec 32 := 0#32
  let c1_i32_482 : BitVec 32 := 1#32
  let arg11 : BitVec 32 := Scf.iv c0_i32_479 c1_i32_482 k0_t1
  let v1680 : BitVec 32 := Scalar.muli c2_i32_721 arg11
  let c256_i32_909 : BitVec 32 := 256#32
  let v1969 : BitVec 32 := Scalar.muli v1680 c256_i32_909
  v1969
def k0_off8 (i : grid0.Coords) (k0_t1 : Fin (k0_t1_loop i).trips) : Fin 3 → Nat :=
  let c0_910 : Index := 0#32
  let c256_911 : Index := 256#32
  let c2_i32_721 : BitVec 32 := 2#32
  let c0_i32_479 : BitVec 32 := 0#32
  let c1_i32_482 : BitVec 32 := 1#32
  let arg11 : BitVec 32 := Scf.iv c0_i32_479 c1_i32_482 k0_t1
  let v1680 : BitVec 32 := Scalar.muli c2_i32_721 arg11
  let c256_i32_909 : BitVec 32 := 256#32
  let v1969 : BitVec 32 := Scalar.muli v1680 c256_i32_909
  let v1970 : BitVec 32 := v1969
  let v1971 : Index := Scalar.indexCast v1970
  ![0, 256, v1971.toNat]
def k0_mult21 (i : grid0.Coords) (k0_t1 : Fin (k0_t1_loop i).trips) : BitVec 32 :=
  let c2_i32_721 : BitVec 32 := 2#32
  let c0_i32_479 : BitVec 32 := 0#32
  let c1_i32_482 : BitVec 32 := 1#32
  let arg11 : BitVec 32 := Scf.iv c0_i32_479 c1_i32_482 k0_t1
  let v1680 : BitVec 32 := Scalar.muli c2_i32_721 arg11
  let c256_i32_939 : BitVec 32 := 256#32
  let v2020 : BitVec 32 := Scalar.muli v1680 c256_i32_939
  v2020
def k0_off9 (i : grid0.Coords) (k0_t1 : Fin (k0_t1_loop i).trips) : Fin 3 → Nat :=
  let c0_940 : Index := 0#32
  let c320_941 : Index := 320#32
  let c2_i32_721 : BitVec 32 := 2#32
  let c0_i32_479 : BitVec 32 := 0#32
  let c1_i32_482 : BitVec 32 := 1#32
  let arg11 : BitVec 32 := Scf.iv c0_i32_479 c1_i32_482 k0_t1
  let v1680 : BitVec 32 := Scalar.muli c2_i32_721 arg11
  let c256_i32_939 : BitVec 32 := 256#32
  let v2020 : BitVec 32 := Scalar.muli v1680 c256_i32_939
  let v2021 : BitVec 32 := v2020
  let v2022 : Index := Scalar.indexCast v2021
  ![0, 320, v2022.toNat]
def k0_mult22 (i : grid0.Coords) (k0_t1 : Fin (k0_t1_loop i).trips) : BitVec 32 :=
  let c2_i32_721 : BitVec 32 := 2#32
  let c0_i32_479 : BitVec 32 := 0#32
  let c1_i32_482 : BitVec 32 := 1#32
  let arg11 : BitVec 32 := Scf.iv c0_i32_479 c1_i32_482 k0_t1
  let v1680 : BitVec 32 := Scalar.muli c2_i32_721 arg11
  let c1_i32_953 : BitVec 32 := 1#32
  let v2044 : BitVec 32 := Scalar.addi v1680 c1_i32_953
  let c256_i32_954 : BitVec 32 := 256#32
  let v2045 : BitVec 32 := Scalar.muli v2044 c256_i32_954
  v2045
def k0_off10 (i : grid0.Coords) (k0_t1 : Fin (k0_t1_loop i).trips) (c1_i32_953 : BitVec 32) : Fin 3 → Nat :=
  let c0_955 : Index := 0#32
  let c2_i32_721 : BitVec 32 := 2#32
  let c0_i32_479 : BitVec 32 := 0#32
  let c1_i32_482 : BitVec 32 := 1#32
  let arg11 : BitVec 32 := Scf.iv c0_i32_479 c1_i32_482 k0_t1
  let v1680 : BitVec 32 := Scalar.muli c2_i32_721 arg11
  let v2044 : BitVec 32 := Scalar.addi v1680 c1_i32_953
  let c256_i32_954 : BitVec 32 := 256#32
  let v2045 : BitVec 32 := Scalar.muli v2044 c256_i32_954
  let v2046 : BitVec 32 := v2045
  let v2047 : Index := Scalar.indexCast v2046
  let c384_956 : Index := 384#32
  ![0, v2047.toNat, 384]
def k0_mult23 (i : grid0.Coords) (k0_t1 : Fin (k0_t1_loop i).trips) : BitVec 32 :=
  let c2_i32_721 : BitVec 32 := 2#32
  let c0_i32_479 : BitVec 32 := 0#32
  let c1_i32_482 : BitVec 32 := 1#32
  let arg11 : BitVec 32 := Scf.iv c0_i32_479 c1_i32_482 k0_t1
  let v1680 : BitVec 32 := Scalar.muli c2_i32_721 arg11
  let c1_i32_953 : BitVec 32 := 1#32
  let v2044 : BitVec 32 := Scalar.addi v1680 c1_i32_953
  let c256_i32_962 : BitVec 32 := 256#32
  let v2054 : BitVec 32 := Scalar.muli v2044 c256_i32_962
  v2054
def k0_mult24 (i : grid0.Coords) (k0_t1 : Fin (k0_t1_loop i).trips) : BitVec 32 :=
  let c2_i32_721 : BitVec 32 := 2#32
  let c0_i32_479 : BitVec 32 := 0#32
  let c1_i32_482 : BitVec 32 := 1#32
  let arg11 : BitVec 32 := Scf.iv c0_i32_479 c1_i32_482 k0_t1
  let v1680 : BitVec 32 := Scalar.muli c2_i32_721 arg11
  let c256_i32_986 : BitVec 32 := 256#32
  let v2090 : BitVec 32 := Scalar.muli v1680 c256_i32_986
  v2090
def k0_off11 (i : grid0.Coords) (k0_t1 : Fin (k0_t1_loop i).trips) : Fin 3 → Nat :=
  let c0_987 : Index := 0#32
  let c384_988 : Index := 384#32
  let c2_i32_721 : BitVec 32 := 2#32
  let c0_i32_479 : BitVec 32 := 0#32
  let c1_i32_482 : BitVec 32 := 1#32
  let arg11 : BitVec 32 := Scf.iv c0_i32_479 c1_i32_482 k0_t1
  let v1680 : BitVec 32 := Scalar.muli c2_i32_721 arg11
  let c256_i32_986 : BitVec 32 := 256#32
  let v2090 : BitVec 32 := Scalar.muli v1680 c256_i32_986
  let v2091 : BitVec 32 := v2090
  let v2092 : Index := Scalar.indexCast v2091
  ![0, 384, v2092.toNat]
def k0_mult25 (i : grid0.Coords) (k0_t1 : Fin (k0_t1_loop i).trips) : BitVec 32 :=
  let c2_i32_721 : BitVec 32 := 2#32
  let c0_i32_479 : BitVec 32 := 0#32
  let c1_i32_482 : BitVec 32 := 1#32
  let arg11 : BitVec 32 := Scf.iv c0_i32_479 c1_i32_482 k0_t1
  let v1680 : BitVec 32 := Scalar.muli c2_i32_721 arg11
  let c256_i32_1016 : BitVec 32 := 256#32
  let v2141 : BitVec 32 := Scalar.muli v1680 c256_i32_1016
  v2141
def k0_off12 (i : grid0.Coords) (k0_t1 : Fin (k0_t1_loop i).trips) : Fin 3 → Nat :=
  let c0_1017 : Index := 0#32
  let c448_1018 : Index := 448#32
  let c2_i32_721 : BitVec 32 := 2#32
  let c0_i32_479 : BitVec 32 := 0#32
  let c1_i32_482 : BitVec 32 := 1#32
  let arg11 : BitVec 32 := Scf.iv c0_i32_479 c1_i32_482 k0_t1
  let v1680 : BitVec 32 := Scalar.muli c2_i32_721 arg11
  let c256_i32_1016 : BitVec 32 := 256#32
  let v2141 : BitVec 32 := Scalar.muli v1680 c256_i32_1016
  let v2142 : BitVec 32 := v2141
  let v2143 : Index := Scalar.indexCast v2142
  ![0, 448, v2143.toNat]
def k0_mult26 (i : grid0.Coords) (k0_t1 : Fin (k0_t1_loop i).trips) : BitVec 32 :=
  let c2_i32_721 : BitVec 32 := 2#32
  let c0_i32_479 : BitVec 32 := 0#32
  let c1_i32_482 : BitVec 32 := 1#32
  let arg11 : BitVec 32 := Scf.iv c0_i32_479 c1_i32_482 k0_t1
  let v1680 : BitVec 32 := Scalar.muli c2_i32_721 arg11
  let c2_i32_1030 : BitVec 32 := 2#32
  let v2165 : BitVec 32 := Scalar.addi v1680 c2_i32_1030
  let c256_i32_1031 : BitVec 32 := 256#32
  let v2166 : BitVec 32 := Scalar.muli v2165 c256_i32_1031
  v2166
def k0_mult27 (i : grid0.Coords) (k0_t1 : Fin (k0_t1_loop i).trips) : BitVec 32 :=
  let c2_i32_721 : BitVec 32 := 2#32
  let c0_i32_479 : BitVec 32 := 0#32
  let c1_i32_482 : BitVec 32 := 1#32
  let arg11 : BitVec 32 := Scf.iv c0_i32_479 c1_i32_482 k0_t1
  let v1680 : BitVec 32 := Scalar.muli c2_i32_721 arg11
  let c2_i32_1030 : BitVec 32 := 2#32
  let v2165 : BitVec 32 := Scalar.addi v1680 c2_i32_1030
  let c256_i32_1039 : BitVec 32 := 256#32
  let v2175 : BitVec 32 := Scalar.muli v2165 c256_i32_1039
  v2175
def k0_mult28 (i : grid0.Coords) (k0_t1 : Fin (k0_t1_loop i).trips) : BitVec 32 :=
  let c2_i32_721 : BitVec 32 := 2#32
  let c0_i32_479 : BitVec 32 := 0#32
  let c1_i32_482 : BitVec 32 := 1#32
  let arg11 : BitVec 32 := Scf.iv c0_i32_479 c1_i32_482 k0_t1
  let v1680 : BitVec 32 := Scalar.muli c2_i32_721 arg11
  let c1_i32_1047 : BitVec 32 := 1#32
  let v2184 : BitVec 32 := Scalar.addi v1680 c1_i32_1047
  let c256_i32_1064 : BitVec 32 := 256#32
  let v2212 : BitVec 32 := Scalar.muli v2184 c256_i32_1064
  v2212
def k0_off13 (i : grid0.Coords) (k0_t1 : Fin (k0_t1_loop i).trips) : Fin 3 → Nat :=
  let c0_1065 : Index := 0#32
  let c0_1066 : Index := 0#32
  let c2_i32_721 : BitVec 32 := 2#32
  let c0_i32_479 : BitVec 32 := 0#32
  let c1_i32_482 : BitVec 32 := 1#32
  let arg11 : BitVec 32 := Scf.iv c0_i32_479 c1_i32_482 k0_t1
  let v1680 : BitVec 32 := Scalar.muli c2_i32_721 arg11
  let c1_i32_1047 : BitVec 32 := 1#32
  let v2184 : BitVec 32 := Scalar.addi v1680 c1_i32_1047
  let c256_i32_1064 : BitVec 32 := 256#32
  let v2212 : BitVec 32 := Scalar.muli v2184 c256_i32_1064
  let v2213 : BitVec 32 := v2212
  let v2214 : Index := Scalar.indexCast v2213
  ![0, 0, v2214.toNat]
def k0_mult29 (i : grid0.Coords) (k0_t1 : Fin (k0_t1_loop i).trips) : BitVec 32 :=
  let c2_i32_721 : BitVec 32 := 2#32
  let c0_i32_479 : BitVec 32 := 0#32
  let c1_i32_482 : BitVec 32 := 1#32
  let arg11 : BitVec 32 := Scf.iv c0_i32_479 c1_i32_482 k0_t1
  let v1680 : BitVec 32 := Scalar.muli c2_i32_721 arg11
  let c1_i32_1047 : BitVec 32 := 1#32
  let v2184 : BitVec 32 := Scalar.addi v1680 c1_i32_1047
  let c256_i32_1094 : BitVec 32 := 256#32
  let v2263 : BitVec 32 := Scalar.muli v2184 c256_i32_1094
  v2263
def k0_off14 (i : grid0.Coords) (k0_t1 : Fin (k0_t1_loop i).trips) : Fin 3 → Nat :=
  let c0_1095 : Index := 0#32
  let c64_1096 : Index := 64#32
  let c2_i32_721 : BitVec 32 := 2#32
  let c0_i32_479 : BitVec 32 := 0#32
  let c1_i32_482 : BitVec 32 := 1#32
  let arg11 : BitVec 32 := Scf.iv c0_i32_479 c1_i32_482 k0_t1
  let v1680 : BitVec 32 := Scalar.muli c2_i32_721 arg11
  let c1_i32_1047 : BitVec 32 := 1#32
  let v2184 : BitVec 32 := Scalar.addi v1680 c1_i32_1047
  let c256_i32_1094 : BitVec 32 := 256#32
  let v2263 : BitVec 32 := Scalar.muli v2184 c256_i32_1094
  let v2264 : BitVec 32 := v2263
  let v2265 : Index := Scalar.indexCast v2264
  ![0, 64, v2265.toNat]
def k0_mult30 (i : grid0.Coords) (k0_t1 : Fin (k0_t1_loop i).trips) : BitVec 32 :=
  let c2_i32_721 : BitVec 32 := 2#32
  let c0_i32_479 : BitVec 32 := 0#32
  let c1_i32_482 : BitVec 32 := 1#32
  let arg11 : BitVec 32 := Scf.iv c0_i32_479 c1_i32_482 k0_t1
  let v1680 : BitVec 32 := Scalar.muli c2_i32_721 arg11
  let c2_i32_1108 : BitVec 32 := 2#32
  let v2287 : BitVec 32 := Scalar.addi v1680 c2_i32_1108
  let c256_i32_1109 : BitVec 32 := 256#32
  let v2288 : BitVec 32 := Scalar.muli v2287 c256_i32_1109
  v2288
def k0_mult31 (i : grid0.Coords) (k0_t1 : Fin (k0_t1_loop i).trips) : BitVec 32 :=
  let c2_i32_721 : BitVec 32 := 2#32
  let c0_i32_479 : BitVec 32 := 0#32
  let c1_i32_482 : BitVec 32 := 1#32
  let arg11 : BitVec 32 := Scf.iv c0_i32_479 c1_i32_482 k0_t1
  let v1680 : BitVec 32 := Scalar.muli c2_i32_721 arg11
  let c2_i32_1108 : BitVec 32 := 2#32
  let v2287 : BitVec 32 := Scalar.addi v1680 c2_i32_1108
  let c256_i32_1117 : BitVec 32 := 256#32
  let v2297 : BitVec 32 := Scalar.muli v2287 c256_i32_1117
  v2297
def k0_mult32 (i : grid0.Coords) (k0_t1 : Fin (k0_t1_loop i).trips) : BitVec 32 :=
  let c2_i32_721 : BitVec 32 := 2#32
  let c0_i32_479 : BitVec 32 := 0#32
  let c1_i32_482 : BitVec 32 := 1#32
  let arg11 : BitVec 32 := Scf.iv c0_i32_479 c1_i32_482 k0_t1
  let v1680 : BitVec 32 := Scalar.muli c2_i32_721 arg11
  let c1_i32_1125 : BitVec 32 := 1#32
  let v2306 : BitVec 32 := Scalar.addi v1680 c1_i32_1125
  let c256_i32_1142 : BitVec 32 := 256#32
  let v2334 : BitVec 32 := Scalar.muli v2306 c256_i32_1142
  v2334
def k0_off15 (i : grid0.Coords) (k0_t1 : Fin (k0_t1_loop i).trips) : Fin 3 → Nat :=
  let c0_1143 : Index := 0#32
  let c128_1144 : Index := 128#32
  let c2_i32_721 : BitVec 32 := 2#32
  let c0_i32_479 : BitVec 32 := 0#32
  let c1_i32_482 : BitVec 32 := 1#32
  let arg11 : BitVec 32 := Scf.iv c0_i32_479 c1_i32_482 k0_t1
  let v1680 : BitVec 32 := Scalar.muli c2_i32_721 arg11
  let c1_i32_1125 : BitVec 32 := 1#32
  let v2306 : BitVec 32 := Scalar.addi v1680 c1_i32_1125
  let c256_i32_1142 : BitVec 32 := 256#32
  let v2334 : BitVec 32 := Scalar.muli v2306 c256_i32_1142
  let v2335 : BitVec 32 := v2334
  let v2336 : Index := Scalar.indexCast v2335
  ![0, 128, v2336.toNat]
def k0_mult33 (i : grid0.Coords) (k0_t1 : Fin (k0_t1_loop i).trips) : BitVec 32 :=
  let c2_i32_721 : BitVec 32 := 2#32
  let c0_i32_479 : BitVec 32 := 0#32
  let c1_i32_482 : BitVec 32 := 1#32
  let arg11 : BitVec 32 := Scf.iv c0_i32_479 c1_i32_482 k0_t1
  let v1680 : BitVec 32 := Scalar.muli c2_i32_721 arg11
  let c1_i32_1125 : BitVec 32 := 1#32
  let v2306 : BitVec 32 := Scalar.addi v1680 c1_i32_1125
  let c256_i32_1172 : BitVec 32 := 256#32
  let v2385 : BitVec 32 := Scalar.muli v2306 c256_i32_1172
  v2385
def k0_off16 (i : grid0.Coords) (k0_t1 : Fin (k0_t1_loop i).trips) : Fin 3 → Nat :=
  let c0_1173 : Index := 0#32
  let c192_1174 : Index := 192#32
  let c2_i32_721 : BitVec 32 := 2#32
  let c0_i32_479 : BitVec 32 := 0#32
  let c1_i32_482 : BitVec 32 := 1#32
  let arg11 : BitVec 32 := Scf.iv c0_i32_479 c1_i32_482 k0_t1
  let v1680 : BitVec 32 := Scalar.muli c2_i32_721 arg11
  let c1_i32_1125 : BitVec 32 := 1#32
  let v2306 : BitVec 32 := Scalar.addi v1680 c1_i32_1125
  let c256_i32_1172 : BitVec 32 := 256#32
  let v2385 : BitVec 32 := Scalar.muli v2306 c256_i32_1172
  let v2386 : BitVec 32 := v2385
  let v2387 : Index := Scalar.indexCast v2386
  ![0, 192, v2387.toNat]
def k0_mult34 (i : grid0.Coords) (k0_t1 : Fin (k0_t1_loop i).trips) : BitVec 32 :=
  let c2_i32_721 : BitVec 32 := 2#32
  let c0_i32_479 : BitVec 32 := 0#32
  let c1_i32_482 : BitVec 32 := 1#32
  let arg11 : BitVec 32 := Scf.iv c0_i32_479 c1_i32_482 k0_t1
  let v1680 : BitVec 32 := Scalar.muli c2_i32_721 arg11
  let c2_i32_1186 : BitVec 32 := 2#32
  let v2409 : BitVec 32 := Scalar.addi v1680 c2_i32_1186
  let c256_i32_1187 : BitVec 32 := 256#32
  let v2410 : BitVec 32 := Scalar.muli v2409 c256_i32_1187
  v2410
def k0_mult35 (i : grid0.Coords) (k0_t1 : Fin (k0_t1_loop i).trips) : BitVec 32 :=
  let c2_i32_721 : BitVec 32 := 2#32
  let c0_i32_479 : BitVec 32 := 0#32
  let c1_i32_482 : BitVec 32 := 1#32
  let arg11 : BitVec 32 := Scf.iv c0_i32_479 c1_i32_482 k0_t1
  let v1680 : BitVec 32 := Scalar.muli c2_i32_721 arg11
  let c2_i32_1186 : BitVec 32 := 2#32
  let v2409 : BitVec 32 := Scalar.addi v1680 c2_i32_1186
  let c256_i32_1195 : BitVec 32 := 256#32
  let v2419 : BitVec 32 := Scalar.muli v2409 c256_i32_1195
  v2419
def k0_mult36 (i : grid0.Coords) (k0_t1 : Fin (k0_t1_loop i).trips) : BitVec 32 :=
  let c2_i32_721 : BitVec 32 := 2#32
  let c0_i32_479 : BitVec 32 := 0#32
  let c1_i32_482 : BitVec 32 := 1#32
  let arg11 : BitVec 32 := Scf.iv c0_i32_479 c1_i32_482 k0_t1
  let v1680 : BitVec 32 := Scalar.muli c2_i32_721 arg11
  let c1_i32_1203 : BitVec 32 := 1#32
  let v2428 : BitVec 32 := Scalar.addi v1680 c1_i32_1203
  let c256_i32_1220 : BitVec 32 := 256#32
  let v2456 : BitVec 32 := Scalar.muli v2428 c256_i32_1220
  v2456
def k0_off17 (i : grid0.Coords) (k0_t1 : Fin (k0_t1_loop i).trips) : Fin 3 → Nat :=
  let c0_1221 : Index := 0#32
  let c256_1222 : Index := 256#32
  let c2_i32_721 : BitVec 32 := 2#32
  let c0_i32_479 : BitVec 32 := 0#32
  let c1_i32_482 : BitVec 32 := 1#32
  let arg11 : BitVec 32 := Scf.iv c0_i32_479 c1_i32_482 k0_t1
  let v1680 : BitVec 32 := Scalar.muli c2_i32_721 arg11
  let c1_i32_1203 : BitVec 32 := 1#32
  let v2428 : BitVec 32 := Scalar.addi v1680 c1_i32_1203
  let c256_i32_1220 : BitVec 32 := 256#32
  let v2456 : BitVec 32 := Scalar.muli v2428 c256_i32_1220
  let v2457 : BitVec 32 := v2456
  let v2458 : Index := Scalar.indexCast v2457
  ![0, 256, v2458.toNat]
def k0_mult37 (i : grid0.Coords) (k0_t1 : Fin (k0_t1_loop i).trips) : BitVec 32 :=
  let c2_i32_721 : BitVec 32 := 2#32
  let c0_i32_479 : BitVec 32 := 0#32
  let c1_i32_482 : BitVec 32 := 1#32
  let arg11 : BitVec 32 := Scf.iv c0_i32_479 c1_i32_482 k0_t1
  let v1680 : BitVec 32 := Scalar.muli c2_i32_721 arg11
  let c1_i32_1203 : BitVec 32 := 1#32
  let v2428 : BitVec 32 := Scalar.addi v1680 c1_i32_1203
  let c256_i32_1250 : BitVec 32 := 256#32
  let v2507 : BitVec 32 := Scalar.muli v2428 c256_i32_1250
  v2507
def k0_off18 (i : grid0.Coords) (k0_t1 : Fin (k0_t1_loop i).trips) : Fin 3 → Nat :=
  let c0_1251 : Index := 0#32
  let c320_1252 : Index := 320#32
  let c2_i32_721 : BitVec 32 := 2#32
  let c0_i32_479 : BitVec 32 := 0#32
  let c1_i32_482 : BitVec 32 := 1#32
  let arg11 : BitVec 32 := Scf.iv c0_i32_479 c1_i32_482 k0_t1
  let v1680 : BitVec 32 := Scalar.muli c2_i32_721 arg11
  let c1_i32_1203 : BitVec 32 := 1#32
  let v2428 : BitVec 32 := Scalar.addi v1680 c1_i32_1203
  let c256_i32_1250 : BitVec 32 := 256#32
  let v2507 : BitVec 32 := Scalar.muli v2428 c256_i32_1250
  let v2508 : BitVec 32 := v2507
  let v2509 : Index := Scalar.indexCast v2508
  ![0, 320, v2509.toNat]
def k0_mult38 (i : grid0.Coords) (k0_t1 : Fin (k0_t1_loop i).trips) : BitVec 32 :=
  let c2_i32_721 : BitVec 32 := 2#32
  let c0_i32_479 : BitVec 32 := 0#32
  let c1_i32_482 : BitVec 32 := 1#32
  let arg11 : BitVec 32 := Scf.iv c0_i32_479 c1_i32_482 k0_t1
  let v1680 : BitVec 32 := Scalar.muli c2_i32_721 arg11
  let c2_i32_1264 : BitVec 32 := 2#32
  let v2531 : BitVec 32 := Scalar.addi v1680 c2_i32_1264
  let c256_i32_1265 : BitVec 32 := 256#32
  let v2532 : BitVec 32 := Scalar.muli v2531 c256_i32_1265
  v2532
def k0_mult39 (i : grid0.Coords) (k0_t1 : Fin (k0_t1_loop i).trips) : BitVec 32 :=
  let c2_i32_721 : BitVec 32 := 2#32
  let c0_i32_479 : BitVec 32 := 0#32
  let c1_i32_482 : BitVec 32 := 1#32
  let arg11 : BitVec 32 := Scf.iv c0_i32_479 c1_i32_482 k0_t1
  let v1680 : BitVec 32 := Scalar.muli c2_i32_721 arg11
  let c2_i32_1264 : BitVec 32 := 2#32
  let v2531 : BitVec 32 := Scalar.addi v1680 c2_i32_1264
  let c256_i32_1273 : BitVec 32 := 256#32
  let v2541 : BitVec 32 := Scalar.muli v2531 c256_i32_1273
  v2541
def k0_mult40 (i : grid0.Coords) (k0_t1 : Fin (k0_t1_loop i).trips) : BitVec 32 :=
  let c2_i32_721 : BitVec 32 := 2#32
  let c0_i32_479 : BitVec 32 := 0#32
  let c1_i32_482 : BitVec 32 := 1#32
  let arg11 : BitVec 32 := Scf.iv c0_i32_479 c1_i32_482 k0_t1
  let v1680 : BitVec 32 := Scalar.muli c2_i32_721 arg11
  let c1_i32_1281 : BitVec 32 := 1#32
  let v2550 : BitVec 32 := Scalar.addi v1680 c1_i32_1281
  let c256_i32_1298 : BitVec 32 := 256#32
  let v2578 : BitVec 32 := Scalar.muli v2550 c256_i32_1298
  v2578
def k0_off19 (i : grid0.Coords) (k0_t1 : Fin (k0_t1_loop i).trips) : Fin 3 → Nat :=
  let c0_1299 : Index := 0#32
  let c384_1300 : Index := 384#32
  let c2_i32_721 : BitVec 32 := 2#32
  let c0_i32_479 : BitVec 32 := 0#32
  let c1_i32_482 : BitVec 32 := 1#32
  let arg11 : BitVec 32 := Scf.iv c0_i32_479 c1_i32_482 k0_t1
  let v1680 : BitVec 32 := Scalar.muli c2_i32_721 arg11
  let c1_i32_1281 : BitVec 32 := 1#32
  let v2550 : BitVec 32 := Scalar.addi v1680 c1_i32_1281
  let c256_i32_1298 : BitVec 32 := 256#32
  let v2578 : BitVec 32 := Scalar.muli v2550 c256_i32_1298
  let v2579 : BitVec 32 := v2578
  let v2580 : Index := Scalar.indexCast v2579
  ![0, 384, v2580.toNat]
def k0_mult41 (i : grid0.Coords) (k0_t1 : Fin (k0_t1_loop i).trips) : BitVec 32 :=
  let c2_i32_721 : BitVec 32 := 2#32
  let c0_i32_479 : BitVec 32 := 0#32
  let c1_i32_482 : BitVec 32 := 1#32
  let arg11 : BitVec 32 := Scf.iv c0_i32_479 c1_i32_482 k0_t1
  let v1680 : BitVec 32 := Scalar.muli c2_i32_721 arg11
  let c1_i32_1281 : BitVec 32 := 1#32
  let v2550 : BitVec 32 := Scalar.addi v1680 c1_i32_1281
  let c256_i32_1328 : BitVec 32 := 256#32
  let v2629 : BitVec 32 := Scalar.muli v2550 c256_i32_1328
  v2629
def k0_off20 (i : grid0.Coords) (k0_t1 : Fin (k0_t1_loop i).trips) : Fin 3 → Nat :=
  let c0_1329 : Index := 0#32
  let c448_1330 : Index := 448#32
  let c2_i32_721 : BitVec 32 := 2#32
  let c0_i32_479 : BitVec 32 := 0#32
  let c1_i32_482 : BitVec 32 := 1#32
  let arg11 : BitVec 32 := Scf.iv c0_i32_479 c1_i32_482 k0_t1
  let v1680 : BitVec 32 := Scalar.muli c2_i32_721 arg11
  let c1_i32_1281 : BitVec 32 := 1#32
  let v2550 : BitVec 32 := Scalar.addi v1680 c1_i32_1281
  let c256_i32_1328 : BitVec 32 := 256#32
  let v2629 : BitVec 32 := Scalar.muli v2550 c256_i32_1328
  let v2630 : BitVec 32 := v2629
  let v2631 : Index := Scalar.indexCast v2630
  ![0, 448, v2631.toNat]
@[reducible] def k0_t2_loop (i : grid0.Coords) : Scf.Loop 32 :=
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let v1212 : BitVec 32 := Scalar.addi c0_i32_479 v1211
  let c1_i32_483 : BitVec 32 := 1#32
  ⟨v1215, v1212, c1_i32_483⟩
def k0_mult42 (i : grid0.Coords) (k0_t2 : Fin (k0_t2_loop i).trips) : BitVec 32 :=
  let c2_i32_721 : BitVec 32 := 2#32
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let c1_i32_483 : BitVec 32 := 1#32
  let arg11 : BitVec 32 := Scf.iv v1215 c1_i32_483 k0_t2
  let v1680 : BitVec 32 := Scalar.muli c2_i32_721 arg11
  let c1_i32_722 : BitVec 32 := 1#32
  let v1681 : BitVec 32 := Scalar.addi v1680 c1_i32_722
  let c256_i32_723 : BitVec 32 := 256#32
  let v1682 : BitVec 32 := Scalar.muli v1681 c256_i32_723
  v1682
def k0_off21 (i : grid0.Coords) (k0_t2 : Fin (k0_t2_loop i).trips) (c1_i32_722 : BitVec 32) : Fin 3 → Nat :=
  let c0_724 : Index := 0#32
  let c2_i32_721 : BitVec 32 := 2#32
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let c1_i32_483 : BitVec 32 := 1#32
  let arg11 : BitVec 32 := Scf.iv v1215 c1_i32_483 k0_t2
  let v1680 : BitVec 32 := Scalar.muli c2_i32_721 arg11
  let v1681 : BitVec 32 := Scalar.addi v1680 c1_i32_722
  let c256_i32_723 : BitVec 32 := 256#32
  let v1682 : BitVec 32 := Scalar.muli v1681 c256_i32_723
  let v1683 : BitVec 32 := v1682
  let v1684 : Index := Scalar.indexCast v1683
  let c0_725 : Index := 0#32
  ![0, v1684.toNat, 0]
def k0_mult43 (i : grid0.Coords) (k0_t2 : Fin (k0_t2_loop i).trips) : BitVec 32 :=
  let c2_i32_721 : BitVec 32 := 2#32
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let c1_i32_483 : BitVec 32 := 1#32
  let arg11 : BitVec 32 := Scf.iv v1215 c1_i32_483 k0_t2
  let v1680 : BitVec 32 := Scalar.muli c2_i32_721 arg11
  let c1_i32_722 : BitVec 32 := 1#32
  let v1681 : BitVec 32 := Scalar.addi v1680 c1_i32_722
  let c256_i32_731 : BitVec 32 := 256#32
  let v1691 : BitVec 32 := Scalar.muli v1681 c256_i32_731
  v1691
def k0_mult44 (i : grid0.Coords) (k0_t2 : Fin (k0_t2_loop i).trips) : BitVec 32 :=
  let c2_i32_721 : BitVec 32 := 2#32
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let c1_i32_483 : BitVec 32 := 1#32
  let arg11 : BitVec 32 := Scf.iv v1215 c1_i32_483 k0_t2
  let v1680 : BitVec 32 := Scalar.muli c2_i32_721 arg11
  let c256_i32_755 : BitVec 32 := 256#32
  let v1727 : BitVec 32 := Scalar.muli v1680 c256_i32_755
  v1727
def k0_off22 (i : grid0.Coords) (k0_t2 : Fin (k0_t2_loop i).trips) : Fin 3 → Nat :=
  let c0_756 : Index := 0#32
  let c0_757 : Index := 0#32
  let c2_i32_721 : BitVec 32 := 2#32
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let c1_i32_483 : BitVec 32 := 1#32
  let arg11 : BitVec 32 := Scf.iv v1215 c1_i32_483 k0_t2
  let v1680 : BitVec 32 := Scalar.muli c2_i32_721 arg11
  let c256_i32_755 : BitVec 32 := 256#32
  let v1727 : BitVec 32 := Scalar.muli v1680 c256_i32_755
  let v1728 : BitVec 32 := v1727
  let v1729 : Index := Scalar.indexCast v1728
  ![0, 0, v1729.toNat]
def k0_mult45 (i : grid0.Coords) (k0_t2 : Fin (k0_t2_loop i).trips) : BitVec 32 :=
  let c2_i32_721 : BitVec 32 := 2#32
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let c1_i32_483 : BitVec 32 := 1#32
  let arg11 : BitVec 32 := Scf.iv v1215 c1_i32_483 k0_t2
  let v1680 : BitVec 32 := Scalar.muli c2_i32_721 arg11
  let c256_i32_785 : BitVec 32 := 256#32
  let v1778 : BitVec 32 := Scalar.muli v1680 c256_i32_785
  v1778
def k0_off23 (i : grid0.Coords) (k0_t2 : Fin (k0_t2_loop i).trips) : Fin 3 → Nat :=
  let c0_786 : Index := 0#32
  let c64_787 : Index := 64#32
  let c2_i32_721 : BitVec 32 := 2#32
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let c1_i32_483 : BitVec 32 := 1#32
  let arg11 : BitVec 32 := Scf.iv v1215 c1_i32_483 k0_t2
  let v1680 : BitVec 32 := Scalar.muli c2_i32_721 arg11
  let c256_i32_785 : BitVec 32 := 256#32
  let v1778 : BitVec 32 := Scalar.muli v1680 c256_i32_785
  let v1779 : BitVec 32 := v1778
  let v1780 : Index := Scalar.indexCast v1779
  ![0, 64, v1780.toNat]
def k0_mult46 (i : grid0.Coords) (k0_t2 : Fin (k0_t2_loop i).trips) : BitVec 32 :=
  let c2_i32_721 : BitVec 32 := 2#32
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let c1_i32_483 : BitVec 32 := 1#32
  let arg11 : BitVec 32 := Scf.iv v1215 c1_i32_483 k0_t2
  let v1680 : BitVec 32 := Scalar.muli c2_i32_721 arg11
  let c1_i32_799 : BitVec 32 := 1#32
  let v1802 : BitVec 32 := Scalar.addi v1680 c1_i32_799
  let c256_i32_800 : BitVec 32 := 256#32
  let v1803 : BitVec 32 := Scalar.muli v1802 c256_i32_800
  v1803
def k0_off24 (i : grid0.Coords) (k0_t2 : Fin (k0_t2_loop i).trips) (c1_i32_799 : BitVec 32) : Fin 3 → Nat :=
  let c0_801 : Index := 0#32
  let c2_i32_721 : BitVec 32 := 2#32
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let c1_i32_483 : BitVec 32 := 1#32
  let arg11 : BitVec 32 := Scf.iv v1215 c1_i32_483 k0_t2
  let v1680 : BitVec 32 := Scalar.muli c2_i32_721 arg11
  let v1802 : BitVec 32 := Scalar.addi v1680 c1_i32_799
  let c256_i32_800 : BitVec 32 := 256#32
  let v1803 : BitVec 32 := Scalar.muli v1802 c256_i32_800
  let v1804 : BitVec 32 := v1803
  let v1805 : Index := Scalar.indexCast v1804
  let c128_802 : Index := 128#32
  ![0, v1805.toNat, 128]
def k0_mult47 (i : grid0.Coords) (k0_t2 : Fin (k0_t2_loop i).trips) : BitVec 32 :=
  let c2_i32_721 : BitVec 32 := 2#32
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let c1_i32_483 : BitVec 32 := 1#32
  let arg11 : BitVec 32 := Scf.iv v1215 c1_i32_483 k0_t2
  let v1680 : BitVec 32 := Scalar.muli c2_i32_721 arg11
  let c1_i32_799 : BitVec 32 := 1#32
  let v1802 : BitVec 32 := Scalar.addi v1680 c1_i32_799
  let c256_i32_808 : BitVec 32 := 256#32
  let v1812 : BitVec 32 := Scalar.muli v1802 c256_i32_808
  v1812
def k0_mult48 (i : grid0.Coords) (k0_t2 : Fin (k0_t2_loop i).trips) : BitVec 32 :=
  let c2_i32_721 : BitVec 32 := 2#32
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let c1_i32_483 : BitVec 32 := 1#32
  let arg11 : BitVec 32 := Scf.iv v1215 c1_i32_483 k0_t2
  let v1680 : BitVec 32 := Scalar.muli c2_i32_721 arg11
  let c256_i32_832 : BitVec 32 := 256#32
  let v1848 : BitVec 32 := Scalar.muli v1680 c256_i32_832
  v1848
def k0_off25 (i : grid0.Coords) (k0_t2 : Fin (k0_t2_loop i).trips) : Fin 3 → Nat :=
  let c0_833 : Index := 0#32
  let c128_834 : Index := 128#32
  let c2_i32_721 : BitVec 32 := 2#32
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let c1_i32_483 : BitVec 32 := 1#32
  let arg11 : BitVec 32 := Scf.iv v1215 c1_i32_483 k0_t2
  let v1680 : BitVec 32 := Scalar.muli c2_i32_721 arg11
  let c256_i32_832 : BitVec 32 := 256#32
  let v1848 : BitVec 32 := Scalar.muli v1680 c256_i32_832
  let v1849 : BitVec 32 := v1848
  let v1850 : Index := Scalar.indexCast v1849
  ![0, 128, v1850.toNat]
def k0_mult49 (i : grid0.Coords) (k0_t2 : Fin (k0_t2_loop i).trips) : BitVec 32 :=
  let c2_i32_721 : BitVec 32 := 2#32
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let c1_i32_483 : BitVec 32 := 1#32
  let arg11 : BitVec 32 := Scf.iv v1215 c1_i32_483 k0_t2
  let v1680 : BitVec 32 := Scalar.muli c2_i32_721 arg11
  let c256_i32_862 : BitVec 32 := 256#32
  let v1899 : BitVec 32 := Scalar.muli v1680 c256_i32_862
  v1899
def k0_off26 (i : grid0.Coords) (k0_t2 : Fin (k0_t2_loop i).trips) : Fin 3 → Nat :=
  let c0_863 : Index := 0#32
  let c192_864 : Index := 192#32
  let c2_i32_721 : BitVec 32 := 2#32
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let c1_i32_483 : BitVec 32 := 1#32
  let arg11 : BitVec 32 := Scf.iv v1215 c1_i32_483 k0_t2
  let v1680 : BitVec 32 := Scalar.muli c2_i32_721 arg11
  let c256_i32_862 : BitVec 32 := 256#32
  let v1899 : BitVec 32 := Scalar.muli v1680 c256_i32_862
  let v1900 : BitVec 32 := v1899
  let v1901 : Index := Scalar.indexCast v1900
  ![0, 192, v1901.toNat]
def k0_mult50 (i : grid0.Coords) (k0_t2 : Fin (k0_t2_loop i).trips) : BitVec 32 :=
  let c2_i32_721 : BitVec 32 := 2#32
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let c1_i32_483 : BitVec 32 := 1#32
  let arg11 : BitVec 32 := Scf.iv v1215 c1_i32_483 k0_t2
  let v1680 : BitVec 32 := Scalar.muli c2_i32_721 arg11
  let c1_i32_876 : BitVec 32 := 1#32
  let v1923 : BitVec 32 := Scalar.addi v1680 c1_i32_876
  let c256_i32_877 : BitVec 32 := 256#32
  let v1924 : BitVec 32 := Scalar.muli v1923 c256_i32_877
  v1924
def k0_off27 (i : grid0.Coords) (k0_t2 : Fin (k0_t2_loop i).trips) (c1_i32_876 : BitVec 32) : Fin 3 → Nat :=
  let c0_878 : Index := 0#32
  let c2_i32_721 : BitVec 32 := 2#32
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let c1_i32_483 : BitVec 32 := 1#32
  let arg11 : BitVec 32 := Scf.iv v1215 c1_i32_483 k0_t2
  let v1680 : BitVec 32 := Scalar.muli c2_i32_721 arg11
  let v1923 : BitVec 32 := Scalar.addi v1680 c1_i32_876
  let c256_i32_877 : BitVec 32 := 256#32
  let v1924 : BitVec 32 := Scalar.muli v1923 c256_i32_877
  let v1925 : BitVec 32 := v1924
  let v1926 : Index := Scalar.indexCast v1925
  let c256_879 : Index := 256#32
  ![0, v1926.toNat, 256]
def k0_mult51 (i : grid0.Coords) (k0_t2 : Fin (k0_t2_loop i).trips) : BitVec 32 :=
  let c2_i32_721 : BitVec 32 := 2#32
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let c1_i32_483 : BitVec 32 := 1#32
  let arg11 : BitVec 32 := Scf.iv v1215 c1_i32_483 k0_t2
  let v1680 : BitVec 32 := Scalar.muli c2_i32_721 arg11
  let c1_i32_876 : BitVec 32 := 1#32
  let v1923 : BitVec 32 := Scalar.addi v1680 c1_i32_876
  let c256_i32_885 : BitVec 32 := 256#32
  let v1933 : BitVec 32 := Scalar.muli v1923 c256_i32_885
  v1933
def k0_mult52 (i : grid0.Coords) (k0_t2 : Fin (k0_t2_loop i).trips) : BitVec 32 :=
  let c2_i32_721 : BitVec 32 := 2#32
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let c1_i32_483 : BitVec 32 := 1#32
  let arg11 : BitVec 32 := Scf.iv v1215 c1_i32_483 k0_t2
  let v1680 : BitVec 32 := Scalar.muli c2_i32_721 arg11
  let c256_i32_909 : BitVec 32 := 256#32
  let v1969 : BitVec 32 := Scalar.muli v1680 c256_i32_909
  v1969
def k0_off28 (i : grid0.Coords) (k0_t2 : Fin (k0_t2_loop i).trips) : Fin 3 → Nat :=
  let c0_910 : Index := 0#32
  let c256_911 : Index := 256#32
  let c2_i32_721 : BitVec 32 := 2#32
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let c1_i32_483 : BitVec 32 := 1#32
  let arg11 : BitVec 32 := Scf.iv v1215 c1_i32_483 k0_t2
  let v1680 : BitVec 32 := Scalar.muli c2_i32_721 arg11
  let c256_i32_909 : BitVec 32 := 256#32
  let v1969 : BitVec 32 := Scalar.muli v1680 c256_i32_909
  let v1970 : BitVec 32 := v1969
  let v1971 : Index := Scalar.indexCast v1970
  ![0, 256, v1971.toNat]
def k0_mult53 (i : grid0.Coords) (k0_t2 : Fin (k0_t2_loop i).trips) : BitVec 32 :=
  let c2_i32_721 : BitVec 32 := 2#32
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let c1_i32_483 : BitVec 32 := 1#32
  let arg11 : BitVec 32 := Scf.iv v1215 c1_i32_483 k0_t2
  let v1680 : BitVec 32 := Scalar.muli c2_i32_721 arg11
  let c256_i32_939 : BitVec 32 := 256#32
  let v2020 : BitVec 32 := Scalar.muli v1680 c256_i32_939
  v2020
def k0_off29 (i : grid0.Coords) (k0_t2 : Fin (k0_t2_loop i).trips) : Fin 3 → Nat :=
  let c0_940 : Index := 0#32
  let c320_941 : Index := 320#32
  let c2_i32_721 : BitVec 32 := 2#32
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let c1_i32_483 : BitVec 32 := 1#32
  let arg11 : BitVec 32 := Scf.iv v1215 c1_i32_483 k0_t2
  let v1680 : BitVec 32 := Scalar.muli c2_i32_721 arg11
  let c256_i32_939 : BitVec 32 := 256#32
  let v2020 : BitVec 32 := Scalar.muli v1680 c256_i32_939
  let v2021 : BitVec 32 := v2020
  let v2022 : Index := Scalar.indexCast v2021
  ![0, 320, v2022.toNat]
def k0_mult54 (i : grid0.Coords) (k0_t2 : Fin (k0_t2_loop i).trips) : BitVec 32 :=
  let c2_i32_721 : BitVec 32 := 2#32
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let c1_i32_483 : BitVec 32 := 1#32
  let arg11 : BitVec 32 := Scf.iv v1215 c1_i32_483 k0_t2
  let v1680 : BitVec 32 := Scalar.muli c2_i32_721 arg11
  let c1_i32_953 : BitVec 32 := 1#32
  let v2044 : BitVec 32 := Scalar.addi v1680 c1_i32_953
  let c256_i32_954 : BitVec 32 := 256#32
  let v2045 : BitVec 32 := Scalar.muli v2044 c256_i32_954
  v2045
def k0_off30 (i : grid0.Coords) (k0_t2 : Fin (k0_t2_loop i).trips) (c1_i32_953 : BitVec 32) : Fin 3 → Nat :=
  let c0_955 : Index := 0#32
  let c2_i32_721 : BitVec 32 := 2#32
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let c1_i32_483 : BitVec 32 := 1#32
  let arg11 : BitVec 32 := Scf.iv v1215 c1_i32_483 k0_t2
  let v1680 : BitVec 32 := Scalar.muli c2_i32_721 arg11
  let v2044 : BitVec 32 := Scalar.addi v1680 c1_i32_953
  let c256_i32_954 : BitVec 32 := 256#32
  let v2045 : BitVec 32 := Scalar.muli v2044 c256_i32_954
  let v2046 : BitVec 32 := v2045
  let v2047 : Index := Scalar.indexCast v2046
  let c384_956 : Index := 384#32
  ![0, v2047.toNat, 384]
def k0_mult55 (i : grid0.Coords) (k0_t2 : Fin (k0_t2_loop i).trips) : BitVec 32 :=
  let c2_i32_721 : BitVec 32 := 2#32
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let c1_i32_483 : BitVec 32 := 1#32
  let arg11 : BitVec 32 := Scf.iv v1215 c1_i32_483 k0_t2
  let v1680 : BitVec 32 := Scalar.muli c2_i32_721 arg11
  let c1_i32_953 : BitVec 32 := 1#32
  let v2044 : BitVec 32 := Scalar.addi v1680 c1_i32_953
  let c256_i32_962 : BitVec 32 := 256#32
  let v2054 : BitVec 32 := Scalar.muli v2044 c256_i32_962
  v2054
def k0_mult56 (i : grid0.Coords) (k0_t2 : Fin (k0_t2_loop i).trips) : BitVec 32 :=
  let c2_i32_721 : BitVec 32 := 2#32
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let c1_i32_483 : BitVec 32 := 1#32
  let arg11 : BitVec 32 := Scf.iv v1215 c1_i32_483 k0_t2
  let v1680 : BitVec 32 := Scalar.muli c2_i32_721 arg11
  let c256_i32_986 : BitVec 32 := 256#32
  let v2090 : BitVec 32 := Scalar.muli v1680 c256_i32_986
  v2090
def k0_off31 (i : grid0.Coords) (k0_t2 : Fin (k0_t2_loop i).trips) : Fin 3 → Nat :=
  let c0_987 : Index := 0#32
  let c384_988 : Index := 384#32
  let c2_i32_721 : BitVec 32 := 2#32
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let c1_i32_483 : BitVec 32 := 1#32
  let arg11 : BitVec 32 := Scf.iv v1215 c1_i32_483 k0_t2
  let v1680 : BitVec 32 := Scalar.muli c2_i32_721 arg11
  let c256_i32_986 : BitVec 32 := 256#32
  let v2090 : BitVec 32 := Scalar.muli v1680 c256_i32_986
  let v2091 : BitVec 32 := v2090
  let v2092 : Index := Scalar.indexCast v2091
  ![0, 384, v2092.toNat]
def k0_mult57 (i : grid0.Coords) (k0_t2 : Fin (k0_t2_loop i).trips) : BitVec 32 :=
  let c2_i32_721 : BitVec 32 := 2#32
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let c1_i32_483 : BitVec 32 := 1#32
  let arg11 : BitVec 32 := Scf.iv v1215 c1_i32_483 k0_t2
  let v1680 : BitVec 32 := Scalar.muli c2_i32_721 arg11
  let c256_i32_1016 : BitVec 32 := 256#32
  let v2141 : BitVec 32 := Scalar.muli v1680 c256_i32_1016
  v2141
def k0_off32 (i : grid0.Coords) (k0_t2 : Fin (k0_t2_loop i).trips) : Fin 3 → Nat :=
  let c0_1017 : Index := 0#32
  let c448_1018 : Index := 448#32
  let c2_i32_721 : BitVec 32 := 2#32
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let c1_i32_483 : BitVec 32 := 1#32
  let arg11 : BitVec 32 := Scf.iv v1215 c1_i32_483 k0_t2
  let v1680 : BitVec 32 := Scalar.muli c2_i32_721 arg11
  let c256_i32_1016 : BitVec 32 := 256#32
  let v2141 : BitVec 32 := Scalar.muli v1680 c256_i32_1016
  let v2142 : BitVec 32 := v2141
  let v2143 : Index := Scalar.indexCast v2142
  ![0, 448, v2143.toNat]
def k0_mult58 (i : grid0.Coords) (k0_t2 : Fin (k0_t2_loop i).trips) : BitVec 32 :=
  let c2_i32_721 : BitVec 32 := 2#32
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let c1_i32_483 : BitVec 32 := 1#32
  let arg11 : BitVec 32 := Scf.iv v1215 c1_i32_483 k0_t2
  let v1680 : BitVec 32 := Scalar.muli c2_i32_721 arg11
  let c2_i32_1030 : BitVec 32 := 2#32
  let v2165 : BitVec 32 := Scalar.addi v1680 c2_i32_1030
  let c256_i32_1031 : BitVec 32 := 256#32
  let v2166 : BitVec 32 := Scalar.muli v2165 c256_i32_1031
  v2166
def k0_mult59 (i : grid0.Coords) (k0_t2 : Fin (k0_t2_loop i).trips) : BitVec 32 :=
  let c2_i32_721 : BitVec 32 := 2#32
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let c1_i32_483 : BitVec 32 := 1#32
  let arg11 : BitVec 32 := Scf.iv v1215 c1_i32_483 k0_t2
  let v1680 : BitVec 32 := Scalar.muli c2_i32_721 arg11
  let c2_i32_1030 : BitVec 32 := 2#32
  let v2165 : BitVec 32 := Scalar.addi v1680 c2_i32_1030
  let c256_i32_1039 : BitVec 32 := 256#32
  let v2175 : BitVec 32 := Scalar.muli v2165 c256_i32_1039
  v2175
def k0_mult60 (i : grid0.Coords) (k0_t2 : Fin (k0_t2_loop i).trips) : BitVec 32 :=
  let c2_i32_721 : BitVec 32 := 2#32
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let c1_i32_483 : BitVec 32 := 1#32
  let arg11 : BitVec 32 := Scf.iv v1215 c1_i32_483 k0_t2
  let v1680 : BitVec 32 := Scalar.muli c2_i32_721 arg11
  let c1_i32_1047 : BitVec 32 := 1#32
  let v2184 : BitVec 32 := Scalar.addi v1680 c1_i32_1047
  let c256_i32_1064 : BitVec 32 := 256#32
  let v2212 : BitVec 32 := Scalar.muli v2184 c256_i32_1064
  v2212
def k0_off33 (i : grid0.Coords) (k0_t2 : Fin (k0_t2_loop i).trips) : Fin 3 → Nat :=
  let c0_1065 : Index := 0#32
  let c0_1066 : Index := 0#32
  let c2_i32_721 : BitVec 32 := 2#32
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let c1_i32_483 : BitVec 32 := 1#32
  let arg11 : BitVec 32 := Scf.iv v1215 c1_i32_483 k0_t2
  let v1680 : BitVec 32 := Scalar.muli c2_i32_721 arg11
  let c1_i32_1047 : BitVec 32 := 1#32
  let v2184 : BitVec 32 := Scalar.addi v1680 c1_i32_1047
  let c256_i32_1064 : BitVec 32 := 256#32
  let v2212 : BitVec 32 := Scalar.muli v2184 c256_i32_1064
  let v2213 : BitVec 32 := v2212
  let v2214 : Index := Scalar.indexCast v2213
  ![0, 0, v2214.toNat]
def k0_mult61 (i : grid0.Coords) (k0_t2 : Fin (k0_t2_loop i).trips) : BitVec 32 :=
  let c2_i32_721 : BitVec 32 := 2#32
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let c1_i32_483 : BitVec 32 := 1#32
  let arg11 : BitVec 32 := Scf.iv v1215 c1_i32_483 k0_t2
  let v1680 : BitVec 32 := Scalar.muli c2_i32_721 arg11
  let c1_i32_1047 : BitVec 32 := 1#32
  let v2184 : BitVec 32 := Scalar.addi v1680 c1_i32_1047
  let c256_i32_1094 : BitVec 32 := 256#32
  let v2263 : BitVec 32 := Scalar.muli v2184 c256_i32_1094
  v2263
def k0_off34 (i : grid0.Coords) (k0_t2 : Fin (k0_t2_loop i).trips) : Fin 3 → Nat :=
  let c0_1095 : Index := 0#32
  let c64_1096 : Index := 64#32
  let c2_i32_721 : BitVec 32 := 2#32
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let c1_i32_483 : BitVec 32 := 1#32
  let arg11 : BitVec 32 := Scf.iv v1215 c1_i32_483 k0_t2
  let v1680 : BitVec 32 := Scalar.muli c2_i32_721 arg11
  let c1_i32_1047 : BitVec 32 := 1#32
  let v2184 : BitVec 32 := Scalar.addi v1680 c1_i32_1047
  let c256_i32_1094 : BitVec 32 := 256#32
  let v2263 : BitVec 32 := Scalar.muli v2184 c256_i32_1094
  let v2264 : BitVec 32 := v2263
  let v2265 : Index := Scalar.indexCast v2264
  ![0, 64, v2265.toNat]
def k0_mult62 (i : grid0.Coords) (k0_t2 : Fin (k0_t2_loop i).trips) : BitVec 32 :=
  let c2_i32_721 : BitVec 32 := 2#32
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let c1_i32_483 : BitVec 32 := 1#32
  let arg11 : BitVec 32 := Scf.iv v1215 c1_i32_483 k0_t2
  let v1680 : BitVec 32 := Scalar.muli c2_i32_721 arg11
  let c2_i32_1108 : BitVec 32 := 2#32
  let v2287 : BitVec 32 := Scalar.addi v1680 c2_i32_1108
  let c256_i32_1109 : BitVec 32 := 256#32
  let v2288 : BitVec 32 := Scalar.muli v2287 c256_i32_1109
  v2288
def k0_mult63 (i : grid0.Coords) (k0_t2 : Fin (k0_t2_loop i).trips) : BitVec 32 :=
  let c2_i32_721 : BitVec 32 := 2#32
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let c1_i32_483 : BitVec 32 := 1#32
  let arg11 : BitVec 32 := Scf.iv v1215 c1_i32_483 k0_t2
  let v1680 : BitVec 32 := Scalar.muli c2_i32_721 arg11
  let c2_i32_1108 : BitVec 32 := 2#32
  let v2287 : BitVec 32 := Scalar.addi v1680 c2_i32_1108
  let c256_i32_1117 : BitVec 32 := 256#32
  let v2297 : BitVec 32 := Scalar.muli v2287 c256_i32_1117
  v2297
def k0_mult64 (i : grid0.Coords) (k0_t2 : Fin (k0_t2_loop i).trips) : BitVec 32 :=
  let c2_i32_721 : BitVec 32 := 2#32
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let c1_i32_483 : BitVec 32 := 1#32
  let arg11 : BitVec 32 := Scf.iv v1215 c1_i32_483 k0_t2
  let v1680 : BitVec 32 := Scalar.muli c2_i32_721 arg11
  let c1_i32_1125 : BitVec 32 := 1#32
  let v2306 : BitVec 32 := Scalar.addi v1680 c1_i32_1125
  let c256_i32_1142 : BitVec 32 := 256#32
  let v2334 : BitVec 32 := Scalar.muli v2306 c256_i32_1142
  v2334
def k0_off35 (i : grid0.Coords) (k0_t2 : Fin (k0_t2_loop i).trips) : Fin 3 → Nat :=
  let c0_1143 : Index := 0#32
  let c128_1144 : Index := 128#32
  let c2_i32_721 : BitVec 32 := 2#32
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let c1_i32_483 : BitVec 32 := 1#32
  let arg11 : BitVec 32 := Scf.iv v1215 c1_i32_483 k0_t2
  let v1680 : BitVec 32 := Scalar.muli c2_i32_721 arg11
  let c1_i32_1125 : BitVec 32 := 1#32
  let v2306 : BitVec 32 := Scalar.addi v1680 c1_i32_1125
  let c256_i32_1142 : BitVec 32 := 256#32
  let v2334 : BitVec 32 := Scalar.muli v2306 c256_i32_1142
  let v2335 : BitVec 32 := v2334
  let v2336 : Index := Scalar.indexCast v2335
  ![0, 128, v2336.toNat]
def k0_mult65 (i : grid0.Coords) (k0_t2 : Fin (k0_t2_loop i).trips) : BitVec 32 :=
  let c2_i32_721 : BitVec 32 := 2#32
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let c1_i32_483 : BitVec 32 := 1#32
  let arg11 : BitVec 32 := Scf.iv v1215 c1_i32_483 k0_t2
  let v1680 : BitVec 32 := Scalar.muli c2_i32_721 arg11
  let c1_i32_1125 : BitVec 32 := 1#32
  let v2306 : BitVec 32 := Scalar.addi v1680 c1_i32_1125
  let c256_i32_1172 : BitVec 32 := 256#32
  let v2385 : BitVec 32 := Scalar.muli v2306 c256_i32_1172
  v2385
def k0_off36 (i : grid0.Coords) (k0_t2 : Fin (k0_t2_loop i).trips) : Fin 3 → Nat :=
  let c0_1173 : Index := 0#32
  let c192_1174 : Index := 192#32
  let c2_i32_721 : BitVec 32 := 2#32
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let c1_i32_483 : BitVec 32 := 1#32
  let arg11 : BitVec 32 := Scf.iv v1215 c1_i32_483 k0_t2
  let v1680 : BitVec 32 := Scalar.muli c2_i32_721 arg11
  let c1_i32_1125 : BitVec 32 := 1#32
  let v2306 : BitVec 32 := Scalar.addi v1680 c1_i32_1125
  let c256_i32_1172 : BitVec 32 := 256#32
  let v2385 : BitVec 32 := Scalar.muli v2306 c256_i32_1172
  let v2386 : BitVec 32 := v2385
  let v2387 : Index := Scalar.indexCast v2386
  ![0, 192, v2387.toNat]
def k0_mult66 (i : grid0.Coords) (k0_t2 : Fin (k0_t2_loop i).trips) : BitVec 32 :=
  let c2_i32_721 : BitVec 32 := 2#32
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let c1_i32_483 : BitVec 32 := 1#32
  let arg11 : BitVec 32 := Scf.iv v1215 c1_i32_483 k0_t2
  let v1680 : BitVec 32 := Scalar.muli c2_i32_721 arg11
  let c2_i32_1186 : BitVec 32 := 2#32
  let v2409 : BitVec 32 := Scalar.addi v1680 c2_i32_1186
  let c256_i32_1187 : BitVec 32 := 256#32
  let v2410 : BitVec 32 := Scalar.muli v2409 c256_i32_1187
  v2410
def k0_mult67 (i : grid0.Coords) (k0_t2 : Fin (k0_t2_loop i).trips) : BitVec 32 :=
  let c2_i32_721 : BitVec 32 := 2#32
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let c1_i32_483 : BitVec 32 := 1#32
  let arg11 : BitVec 32 := Scf.iv v1215 c1_i32_483 k0_t2
  let v1680 : BitVec 32 := Scalar.muli c2_i32_721 arg11
  let c2_i32_1186 : BitVec 32 := 2#32
  let v2409 : BitVec 32 := Scalar.addi v1680 c2_i32_1186
  let c256_i32_1195 : BitVec 32 := 256#32
  let v2419 : BitVec 32 := Scalar.muli v2409 c256_i32_1195
  v2419
def k0_mult68 (i : grid0.Coords) (k0_t2 : Fin (k0_t2_loop i).trips) : BitVec 32 :=
  let c2_i32_721 : BitVec 32 := 2#32
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let c1_i32_483 : BitVec 32 := 1#32
  let arg11 : BitVec 32 := Scf.iv v1215 c1_i32_483 k0_t2
  let v1680 : BitVec 32 := Scalar.muli c2_i32_721 arg11
  let c1_i32_1203 : BitVec 32 := 1#32
  let v2428 : BitVec 32 := Scalar.addi v1680 c1_i32_1203
  let c256_i32_1220 : BitVec 32 := 256#32
  let v2456 : BitVec 32 := Scalar.muli v2428 c256_i32_1220
  v2456
def k0_off37 (i : grid0.Coords) (k0_t2 : Fin (k0_t2_loop i).trips) : Fin 3 → Nat :=
  let c0_1221 : Index := 0#32
  let c256_1222 : Index := 256#32
  let c2_i32_721 : BitVec 32 := 2#32
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let c1_i32_483 : BitVec 32 := 1#32
  let arg11 : BitVec 32 := Scf.iv v1215 c1_i32_483 k0_t2
  let v1680 : BitVec 32 := Scalar.muli c2_i32_721 arg11
  let c1_i32_1203 : BitVec 32 := 1#32
  let v2428 : BitVec 32 := Scalar.addi v1680 c1_i32_1203
  let c256_i32_1220 : BitVec 32 := 256#32
  let v2456 : BitVec 32 := Scalar.muli v2428 c256_i32_1220
  let v2457 : BitVec 32 := v2456
  let v2458 : Index := Scalar.indexCast v2457
  ![0, 256, v2458.toNat]
def k0_mult69 (i : grid0.Coords) (k0_t2 : Fin (k0_t2_loop i).trips) : BitVec 32 :=
  let c2_i32_721 : BitVec 32 := 2#32
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let c1_i32_483 : BitVec 32 := 1#32
  let arg11 : BitVec 32 := Scf.iv v1215 c1_i32_483 k0_t2
  let v1680 : BitVec 32 := Scalar.muli c2_i32_721 arg11
  let c1_i32_1203 : BitVec 32 := 1#32
  let v2428 : BitVec 32 := Scalar.addi v1680 c1_i32_1203
  let c256_i32_1250 : BitVec 32 := 256#32
  let v2507 : BitVec 32 := Scalar.muli v2428 c256_i32_1250
  v2507
def k0_off38 (i : grid0.Coords) (k0_t2 : Fin (k0_t2_loop i).trips) : Fin 3 → Nat :=
  let c0_1251 : Index := 0#32
  let c320_1252 : Index := 320#32
  let c2_i32_721 : BitVec 32 := 2#32
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let c1_i32_483 : BitVec 32 := 1#32
  let arg11 : BitVec 32 := Scf.iv v1215 c1_i32_483 k0_t2
  let v1680 : BitVec 32 := Scalar.muli c2_i32_721 arg11
  let c1_i32_1203 : BitVec 32 := 1#32
  let v2428 : BitVec 32 := Scalar.addi v1680 c1_i32_1203
  let c256_i32_1250 : BitVec 32 := 256#32
  let v2507 : BitVec 32 := Scalar.muli v2428 c256_i32_1250
  let v2508 : BitVec 32 := v2507
  let v2509 : Index := Scalar.indexCast v2508
  ![0, 320, v2509.toNat]
def k0_mult70 (i : grid0.Coords) (k0_t2 : Fin (k0_t2_loop i).trips) : BitVec 32 :=
  let c2_i32_721 : BitVec 32 := 2#32
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let c1_i32_483 : BitVec 32 := 1#32
  let arg11 : BitVec 32 := Scf.iv v1215 c1_i32_483 k0_t2
  let v1680 : BitVec 32 := Scalar.muli c2_i32_721 arg11
  let c2_i32_1264 : BitVec 32 := 2#32
  let v2531 : BitVec 32 := Scalar.addi v1680 c2_i32_1264
  let c256_i32_1265 : BitVec 32 := 256#32
  let v2532 : BitVec 32 := Scalar.muli v2531 c256_i32_1265
  v2532
def k0_mult71 (i : grid0.Coords) (k0_t2 : Fin (k0_t2_loop i).trips) : BitVec 32 :=
  let c2_i32_721 : BitVec 32 := 2#32
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let c1_i32_483 : BitVec 32 := 1#32
  let arg11 : BitVec 32 := Scf.iv v1215 c1_i32_483 k0_t2
  let v1680 : BitVec 32 := Scalar.muli c2_i32_721 arg11
  let c2_i32_1264 : BitVec 32 := 2#32
  let v2531 : BitVec 32 := Scalar.addi v1680 c2_i32_1264
  let c256_i32_1273 : BitVec 32 := 256#32
  let v2541 : BitVec 32 := Scalar.muli v2531 c256_i32_1273
  v2541
def k0_mult72 (i : grid0.Coords) (k0_t2 : Fin (k0_t2_loop i).trips) : BitVec 32 :=
  let c2_i32_721 : BitVec 32 := 2#32
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let c1_i32_483 : BitVec 32 := 1#32
  let arg11 : BitVec 32 := Scf.iv v1215 c1_i32_483 k0_t2
  let v1680 : BitVec 32 := Scalar.muli c2_i32_721 arg11
  let c1_i32_1281 : BitVec 32 := 1#32
  let v2550 : BitVec 32 := Scalar.addi v1680 c1_i32_1281
  let c256_i32_1298 : BitVec 32 := 256#32
  let v2578 : BitVec 32 := Scalar.muli v2550 c256_i32_1298
  v2578
def k0_off39 (i : grid0.Coords) (k0_t2 : Fin (k0_t2_loop i).trips) : Fin 3 → Nat :=
  let c0_1299 : Index := 0#32
  let c384_1300 : Index := 384#32
  let c2_i32_721 : BitVec 32 := 2#32
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let c1_i32_483 : BitVec 32 := 1#32
  let arg11 : BitVec 32 := Scf.iv v1215 c1_i32_483 k0_t2
  let v1680 : BitVec 32 := Scalar.muli c2_i32_721 arg11
  let c1_i32_1281 : BitVec 32 := 1#32
  let v2550 : BitVec 32 := Scalar.addi v1680 c1_i32_1281
  let c256_i32_1298 : BitVec 32 := 256#32
  let v2578 : BitVec 32 := Scalar.muli v2550 c256_i32_1298
  let v2579 : BitVec 32 := v2578
  let v2580 : Index := Scalar.indexCast v2579
  ![0, 384, v2580.toNat]
def k0_mult73 (i : grid0.Coords) (k0_t2 : Fin (k0_t2_loop i).trips) : BitVec 32 :=
  let c2_i32_721 : BitVec 32 := 2#32
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let c1_i32_483 : BitVec 32 := 1#32
  let arg11 : BitVec 32 := Scf.iv v1215 c1_i32_483 k0_t2
  let v1680 : BitVec 32 := Scalar.muli c2_i32_721 arg11
  let c1_i32_1281 : BitVec 32 := 1#32
  let v2550 : BitVec 32 := Scalar.addi v1680 c1_i32_1281
  let c256_i32_1328 : BitVec 32 := 256#32
  let v2629 : BitVec 32 := Scalar.muli v2550 c256_i32_1328
  v2629
def k0_off40 (i : grid0.Coords) (k0_t2 : Fin (k0_t2_loop i).trips) : Fin 3 → Nat :=
  let c0_1329 : Index := 0#32
  let c448_1330 : Index := 448#32
  let c2_i32_721 : BitVec 32 := 2#32
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let c1_i32_483 : BitVec 32 := 1#32
  let arg11 : BitVec 32 := Scf.iv v1215 c1_i32_483 k0_t2
  let v1680 : BitVec 32 := Scalar.muli c2_i32_721 arg11
  let c1_i32_1281 : BitVec 32 := 1#32
  let v2550 : BitVec 32 := Scalar.addi v1680 c1_i32_1281
  let c256_i32_1328 : BitVec 32 := 256#32
  let v2629 : BitVec 32 := Scalar.muli v2550 c256_i32_1328
  let v2630 : BitVec 32 := v2629
  let v2631 : Index := Scalar.indexCast v2630
  ![0, 448, v2631.toNat]
def k0_cond1 (i : grid0.Coords) : BitVec 1 :=
  let arg1 : BitVec 32 := BitVec.ofNat 32 (i 1).val
  let c2_i32_484 : BitVec 32 := 2#32
  let c0_i32_485 : BitVec 32 := 0#32
  let v1218 : BitVec 1 := Scalar.cmpi .eq c2_i32_484 c0_i32_485
  let c1_i32_486 : BitVec 32 := 1#32
  let v1219 : BitVec 32 := Scalar.select v1218 c1_i32_486 c2_i32_484
  let v1220 : BitVec 32 := Scalar.remsi arg1 v1219
  let c0_i32_488 : BitVec 32 := 0#32
  let v1222 : BitVec 1 := Scalar.cmpi .slt v1220 c0_i32_488
  let c0_i32_489 : BitVec 32 := 0#32
  let v1223 : BitVec 1 := Scalar.cmpi .slt v1219 c0_i32_489
  let v1224 : BitVec 1 := Scalar.xori v1222 v1223
  let c0_i32_487 : BitVec 32 := 0#32
  let v1221 : BitVec 1 := Scalar.cmpi .ne v1220 c0_i32_487
  let v1225 : BitVec 1 := Scalar.andi v1224 v1221
  let v1226 : BitVec 32 := Scalar.addi v1220 v1219
  let v1227 : BitVec 32 := Scalar.select v1225 v1226 v1220
  let c1_i32_490 : BitVec 32 := 1#32
  let v1228 : BitVec 1 := Scalar.cmpi .eq v1227 c1_i32_490
  let v1229 : BitVec 32 := Scalar.extui v1228
  let c0_i32_491 : BitVec 32 := 0#32
  let v1230 : BitVec 1 := Scalar.cmpi .ne v1229 c0_i32_491
  v1230

def k0_mult74 (i : grid0.Coords) : BitVec 32 :=
  let arg1 : BitVec 32 := BitVec.ofNat 32 (i 1).val
  let c256_i32_721 : BitVec 32 := 256#32
  let v1680 : BitVec 32 := Scalar.muli arg1 c256_i32_721
  v1680
def k0_off41 (i : grid0.Coords) : Fin 3 → Nat :=
  let c0_722 : Index := 0#32
  let arg1 : BitVec 32 := BitVec.ofNat 32 (i 1).val
  let c256_i32_721 : BitVec 32 := 256#32
  let v1680 : BitVec 32 := Scalar.muli arg1 c256_i32_721
  let v1681 : BitVec 32 := v1680
  let v1682 : Index := Scalar.indexCast v1681
  let c0_723 : Index := 0#32
  ![0, v1682.toNat, 0]
def k0_mult75 (i : grid0.Coords) : BitVec 32 :=
  let arg1 : BitVec 32 := BitVec.ofNat 32 (i 1).val
  let c256_i32_729 : BitVec 32 := 256#32
  let v1689 : BitVec 32 := Scalar.muli arg1 c256_i32_729
  v1689
def k0_mult76 (i : grid0.Coords) : BitVec 32 :=
  let arg1 : BitVec 32 := BitVec.ofNat 32 (i 1).val
  let c1_i32_737 : BitVec 32 := 1#32
  let v1698 : BitVec 32 := Scalar.subi arg1 c1_i32_737
  let c256_i32_754 : BitVec 32 := 256#32
  let v1726 : BitVec 32 := Scalar.muli v1698 c256_i32_754
  v1726
def k0_off42 (i : grid0.Coords) : Fin 3 → Nat :=
  let c0_755 : Index := 0#32
  let c0_756 : Index := 0#32
  let arg1 : BitVec 32 := BitVec.ofNat 32 (i 1).val
  let c1_i32_737 : BitVec 32 := 1#32
  let v1698 : BitVec 32 := Scalar.subi arg1 c1_i32_737
  let c256_i32_754 : BitVec 32 := 256#32
  let v1726 : BitVec 32 := Scalar.muli v1698 c256_i32_754
  let v1727 : BitVec 32 := v1726
  let v1728 : Index := Scalar.indexCast v1727
  ![0, 0, v1728.toNat]
def k0_mult77 (i : grid0.Coords) : BitVec 32 :=
  let arg1 : BitVec 32 := BitVec.ofNat 32 (i 1).val
  let c1_i32_737 : BitVec 32 := 1#32
  let v1698 : BitVec 32 := Scalar.subi arg1 c1_i32_737
  let c256_i32_784 : BitVec 32 := 256#32
  let v1777 : BitVec 32 := Scalar.muli v1698 c256_i32_784
  v1777
def k0_off43 (i : grid0.Coords) : Fin 3 → Nat :=
  let c0_785 : Index := 0#32
  let c64_786 : Index := 64#32
  let arg1 : BitVec 32 := BitVec.ofNat 32 (i 1).val
  let c1_i32_737 : BitVec 32 := 1#32
  let v1698 : BitVec 32 := Scalar.subi arg1 c1_i32_737
  let c256_i32_784 : BitVec 32 := 256#32
  let v1777 : BitVec 32 := Scalar.muli v1698 c256_i32_784
  let v1778 : BitVec 32 := v1777
  let v1779 : Index := Scalar.indexCast v1778
  ![0, 64, v1779.toNat]
def k0_mult78 (i : grid0.Coords) : BitVec 32 :=
  let arg1 : BitVec 32 := BitVec.ofNat 32 (i 1).val
  let c256_i32_798 : BitVec 32 := 256#32
  let v1801 : BitVec 32 := Scalar.muli arg1 c256_i32_798
  v1801
def k0_off44 (i : grid0.Coords) : Fin 3 → Nat :=
  let c0_799 : Index := 0#32
  let arg1 : BitVec 32 := BitVec.ofNat 32 (i 1).val
  let c256_i32_798 : BitVec 32 := 256#32
  let v1801 : BitVec 32 := Scalar.muli arg1 c256_i32_798
  let v1802 : BitVec 32 := v1801
  let v1803 : Index := Scalar.indexCast v1802
  let c128_800 : Index := 128#32
  ![0, v1803.toNat, 128]
def k0_mult79 (i : grid0.Coords) : BitVec 32 :=
  let arg1 : BitVec 32 := BitVec.ofNat 32 (i 1).val
  let c256_i32_806 : BitVec 32 := 256#32
  let v1810 : BitVec 32 := Scalar.muli arg1 c256_i32_806
  v1810
def k0_mult80 (i : grid0.Coords) : BitVec 32 :=
  let arg1 : BitVec 32 := BitVec.ofNat 32 (i 1).val
  let c1_i32_814 : BitVec 32 := 1#32
  let v1819 : BitVec 32 := Scalar.subi arg1 c1_i32_814
  let c256_i32_831 : BitVec 32 := 256#32
  let v1847 : BitVec 32 := Scalar.muli v1819 c256_i32_831
  v1847
def k0_off45 (i : grid0.Coords) : Fin 3 → Nat :=
  let c0_832 : Index := 0#32
  let c128_833 : Index := 128#32
  let arg1 : BitVec 32 := BitVec.ofNat 32 (i 1).val
  let c1_i32_814 : BitVec 32 := 1#32
  let v1819 : BitVec 32 := Scalar.subi arg1 c1_i32_814
  let c256_i32_831 : BitVec 32 := 256#32
  let v1847 : BitVec 32 := Scalar.muli v1819 c256_i32_831
  let v1848 : BitVec 32 := v1847
  let v1849 : Index := Scalar.indexCast v1848
  ![0, 128, v1849.toNat]
def k0_mult81 (i : grid0.Coords) : BitVec 32 :=
  let arg1 : BitVec 32 := BitVec.ofNat 32 (i 1).val
  let c1_i32_814 : BitVec 32 := 1#32
  let v1819 : BitVec 32 := Scalar.subi arg1 c1_i32_814
  let c256_i32_861 : BitVec 32 := 256#32
  let v1898 : BitVec 32 := Scalar.muli v1819 c256_i32_861
  v1898
def k0_off46 (i : grid0.Coords) : Fin 3 → Nat :=
  let c0_862 : Index := 0#32
  let c192_863 : Index := 192#32
  let arg1 : BitVec 32 := BitVec.ofNat 32 (i 1).val
  let c1_i32_814 : BitVec 32 := 1#32
  let v1819 : BitVec 32 := Scalar.subi arg1 c1_i32_814
  let c256_i32_861 : BitVec 32 := 256#32
  let v1898 : BitVec 32 := Scalar.muli v1819 c256_i32_861
  let v1899 : BitVec 32 := v1898
  let v1900 : Index := Scalar.indexCast v1899
  ![0, 192, v1900.toNat]
def k0_mult82 (i : grid0.Coords) : BitVec 32 :=
  let arg1 : BitVec 32 := BitVec.ofNat 32 (i 1).val
  let c256_i32_875 : BitVec 32 := 256#32
  let v1922 : BitVec 32 := Scalar.muli arg1 c256_i32_875
  v1922
def k0_off47 (i : grid0.Coords) : Fin 3 → Nat :=
  let c0_876 : Index := 0#32
  let arg1 : BitVec 32 := BitVec.ofNat 32 (i 1).val
  let c256_i32_875 : BitVec 32 := 256#32
  let v1922 : BitVec 32 := Scalar.muli arg1 c256_i32_875
  let v1923 : BitVec 32 := v1922
  let v1924 : Index := Scalar.indexCast v1923
  let c256_877 : Index := 256#32
  ![0, v1924.toNat, 256]
def k0_mult83 (i : grid0.Coords) : BitVec 32 :=
  let arg1 : BitVec 32 := BitVec.ofNat 32 (i 1).val
  let c256_i32_883 : BitVec 32 := 256#32
  let v1931 : BitVec 32 := Scalar.muli arg1 c256_i32_883
  v1931
def k0_mult84 (i : grid0.Coords) : BitVec 32 :=
  let arg1 : BitVec 32 := BitVec.ofNat 32 (i 1).val
  let c1_i32_891 : BitVec 32 := 1#32
  let v1940 : BitVec 32 := Scalar.subi arg1 c1_i32_891
  let c256_i32_908 : BitVec 32 := 256#32
  let v1968 : BitVec 32 := Scalar.muli v1940 c256_i32_908
  v1968
def k0_off48 (i : grid0.Coords) : Fin 3 → Nat :=
  let c0_909 : Index := 0#32
  let c256_910 : Index := 256#32
  let arg1 : BitVec 32 := BitVec.ofNat 32 (i 1).val
  let c1_i32_891 : BitVec 32 := 1#32
  let v1940 : BitVec 32 := Scalar.subi arg1 c1_i32_891
  let c256_i32_908 : BitVec 32 := 256#32
  let v1968 : BitVec 32 := Scalar.muli v1940 c256_i32_908
  let v1969 : BitVec 32 := v1968
  let v1970 : Index := Scalar.indexCast v1969
  ![0, 256, v1970.toNat]
def k0_mult85 (i : grid0.Coords) : BitVec 32 :=
  let arg1 : BitVec 32 := BitVec.ofNat 32 (i 1).val
  let c1_i32_891 : BitVec 32 := 1#32
  let v1940 : BitVec 32 := Scalar.subi arg1 c1_i32_891
  let c256_i32_938 : BitVec 32 := 256#32
  let v2019 : BitVec 32 := Scalar.muli v1940 c256_i32_938
  v2019
def k0_off49 (i : grid0.Coords) : Fin 3 → Nat :=
  let c0_939 : Index := 0#32
  let c320_940 : Index := 320#32
  let arg1 : BitVec 32 := BitVec.ofNat 32 (i 1).val
  let c1_i32_891 : BitVec 32 := 1#32
  let v1940 : BitVec 32 := Scalar.subi arg1 c1_i32_891
  let c256_i32_938 : BitVec 32 := 256#32
  let v2019 : BitVec 32 := Scalar.muli v1940 c256_i32_938
  let v2020 : BitVec 32 := v2019
  let v2021 : Index := Scalar.indexCast v2020
  ![0, 320, v2021.toNat]
def k0_mult86 (i : grid0.Coords) : BitVec 32 :=
  let arg1 : BitVec 32 := BitVec.ofNat 32 (i 1).val
  let c256_i32_952 : BitVec 32 := 256#32
  let v2043 : BitVec 32 := Scalar.muli arg1 c256_i32_952
  v2043
def k0_off50 (i : grid0.Coords) : Fin 3 → Nat :=
  let c0_953 : Index := 0#32
  let arg1 : BitVec 32 := BitVec.ofNat 32 (i 1).val
  let c256_i32_952 : BitVec 32 := 256#32
  let v2043 : BitVec 32 := Scalar.muli arg1 c256_i32_952
  let v2044 : BitVec 32 := v2043
  let v2045 : Index := Scalar.indexCast v2044
  let c384_954 : Index := 384#32
  ![0, v2045.toNat, 384]
def k0_mult87 (i : grid0.Coords) : BitVec 32 :=
  let arg1 : BitVec 32 := BitVec.ofNat 32 (i 1).val
  let c256_i32_960 : BitVec 32 := 256#32
  let v2052 : BitVec 32 := Scalar.muli arg1 c256_i32_960
  v2052
def k0_mult88 (i : grid0.Coords) : BitVec 32 :=
  let arg1 : BitVec 32 := BitVec.ofNat 32 (i 1).val
  let c1_i32_968 : BitVec 32 := 1#32
  let v2061 : BitVec 32 := Scalar.subi arg1 c1_i32_968
  let c256_i32_985 : BitVec 32 := 256#32
  let v2089 : BitVec 32 := Scalar.muli v2061 c256_i32_985
  v2089
def k0_off51 (i : grid0.Coords) : Fin 3 → Nat :=
  let c0_986 : Index := 0#32
  let c384_987 : Index := 384#32
  let arg1 : BitVec 32 := BitVec.ofNat 32 (i 1).val
  let c1_i32_968 : BitVec 32 := 1#32
  let v2061 : BitVec 32 := Scalar.subi arg1 c1_i32_968
  let c256_i32_985 : BitVec 32 := 256#32
  let v2089 : BitVec 32 := Scalar.muli v2061 c256_i32_985
  let v2090 : BitVec 32 := v2089
  let v2091 : Index := Scalar.indexCast v2090
  ![0, 384, v2091.toNat]
def k0_mult89 (i : grid0.Coords) : BitVec 32 :=
  let arg1 : BitVec 32 := BitVec.ofNat 32 (i 1).val
  let c1_i32_968 : BitVec 32 := 1#32
  let v2061 : BitVec 32 := Scalar.subi arg1 c1_i32_968
  let c256_i32_1015 : BitVec 32 := 256#32
  let v2140 : BitVec 32 := Scalar.muli v2061 c256_i32_1015
  v2140
def k0_off52 (i : grid0.Coords) : Fin 3 → Nat :=
  let c0_1016 : Index := 0#32
  let c448_1017 : Index := 448#32
  let arg1 : BitVec 32 := BitVec.ofNat 32 (i 1).val
  let c1_i32_968 : BitVec 32 := 1#32
  let v2061 : BitVec 32 := Scalar.subi arg1 c1_i32_968
  let c256_i32_1015 : BitVec 32 := 256#32
  let v2140 : BitVec 32 := Scalar.muli v2061 c256_i32_1015
  let v2141 : BitVec 32 := v2140
  let v2142 : Index := Scalar.indexCast v2141
  ![0, 448, v2142.toNat]
def k0_off53 (i : grid0.Coords) : Fin 4 → Nat :=
  let arg1 : BitVec 32 := BitVec.ofNat 32 (i 1).val
  let c2_i32_500 : BitVec 32 := 2#32
  let c0_i32_501 : BitVec 32 := 0#32
  let v1239 : BitVec 1 := Scalar.cmpi .eq c2_i32_500 c0_i32_501
  let c1_i32_502 : BitVec 32 := 1#32
  let v1240 : BitVec 32 := Scalar.select v1239 c1_i32_502 c2_i32_500
  let v1241 : BitVec 32 := Scalar.remsi arg1 v1240
  let c0_i32_504 : BitVec 32 := 0#32
  let v1243 : BitVec 1 := Scalar.cmpi .slt v1241 c0_i32_504
  let c0_i32_505 : BitVec 32 := 0#32
  let v1244 : BitVec 1 := Scalar.cmpi .slt v1240 c0_i32_505
  let v1245 : BitVec 1 := Scalar.xori v1243 v1244
  let c0_i32_503 : BitVec 32 := 0#32
  let v1242 : BitVec 1 := Scalar.cmpi .ne v1241 c0_i32_503
  let v1246 : BitVec 1 := Scalar.andi v1245 v1242
  let v1247 : BitVec 32 := Scalar.addi v1241 v1240
  let v1248 : BitVec 32 := Scalar.select v1246 v1247 v1241
  let v1249 : Index := Scalar.indexCast v1248
  let c0_506 : Index := 0#32
  let c0_507 : Index := 0#32
  let c0_508 : Index := 0#32
  ![v1249.toNat, 0, 0, 0]
def k0_off54 (i : grid0.Coords) : Fin 3 → Nat :=
  let c0_510 : Index := 0#32
  let c0_511 : Index := 0#32
  let arg1 : BitVec 32 := BitVec.ofNat 32 (i 1).val
  let c256_i32 : BitVec 32 := 256#32
  let v0 : BitVec 32 := Scalar.muli arg1 c256_i32
  let v1 : BitVec 32 := v0
  let v1254 : Index := Scalar.indexCast v1
  ![0, 0, v1254.toNat]
def k0_off55 (i : grid0.Coords) : Fin 4 → Nat :=
  let arg1 : BitVec 32 := BitVec.ofNat 32 (i 1).val
  let c2_i32_528 : BitVec 32 := 2#32
  let c0_i32_529 : BitVec 32 := 0#32
  let v1294 : BitVec 1 := Scalar.cmpi .eq c2_i32_528 c0_i32_529
  let c1_i32_530 : BitVec 32 := 1#32
  let v1295 : BitVec 32 := Scalar.select v1294 c1_i32_530 c2_i32_528
  let v1296 : BitVec 32 := Scalar.remsi arg1 v1295
  let c0_i32_532 : BitVec 32 := 0#32
  let v1298 : BitVec 1 := Scalar.cmpi .slt v1296 c0_i32_532
  let c0_i32_533 : BitVec 32 := 0#32
  let v1299 : BitVec 1 := Scalar.cmpi .slt v1295 c0_i32_533
  let v1300 : BitVec 1 := Scalar.xori v1298 v1299
  let c0_i32_531 : BitVec 32 := 0#32
  let v1297 : BitVec 1 := Scalar.cmpi .ne v1296 c0_i32_531
  let v1301 : BitVec 1 := Scalar.andi v1300 v1297
  let v1302 : BitVec 32 := Scalar.addi v1296 v1295
  let v1303 : BitVec 32 := Scalar.select v1301 v1302 v1296
  let v1304 : Index := Scalar.indexCast v1303
  let c1_534 : Index := 1#32
  let c0_535 : Index := 0#32
  let c0_536 : Index := 0#32
  ![v1304.toNat, 1, 0, 0]
def k0_off56 (i : grid0.Coords) : Fin 3 → Nat :=
  let c0_538 : Index := 0#32
  let c64_539 : Index := 64#32
  let arg1 : BitVec 32 := BitVec.ofNat 32 (i 1).val
  let c256_i32 : BitVec 32 := 256#32
  let v0 : BitVec 32 := Scalar.muli arg1 c256_i32
  let v1 : BitVec 32 := v0
  let v1309 : Index := Scalar.indexCast v1
  ![0, 64, v1309.toNat]
def k0_off57 (i : grid0.Coords) : Fin 4 → Nat :=
  let arg1 : BitVec 32 := BitVec.ofNat 32 (i 1).val
  let c2_i32_556 : BitVec 32 := 2#32
  let c0_i32_557 : BitVec 32 := 0#32
  let v1349 : BitVec 1 := Scalar.cmpi .eq c2_i32_556 c0_i32_557
  let c1_i32_558 : BitVec 32 := 1#32
  let v1350 : BitVec 32 := Scalar.select v1349 c1_i32_558 c2_i32_556
  let v1351 : BitVec 32 := Scalar.remsi arg1 v1350
  let c0_i32_560 : BitVec 32 := 0#32
  let v1353 : BitVec 1 := Scalar.cmpi .slt v1351 c0_i32_560
  let c0_i32_561 : BitVec 32 := 0#32
  let v1354 : BitVec 1 := Scalar.cmpi .slt v1350 c0_i32_561
  let v1355 : BitVec 1 := Scalar.xori v1353 v1354
  let c0_i32_559 : BitVec 32 := 0#32
  let v1352 : BitVec 1 := Scalar.cmpi .ne v1351 c0_i32_559
  let v1356 : BitVec 1 := Scalar.andi v1355 v1352
  let v1357 : BitVec 32 := Scalar.addi v1351 v1350
  let v1358 : BitVec 32 := Scalar.select v1356 v1357 v1351
  let v1359 : Index := Scalar.indexCast v1358
  let c2_562 : Index := 2#32
  let c0_563 : Index := 0#32
  let c0_564 : Index := 0#32
  ![v1359.toNat, 2, 0, 0]
def k0_off58 (i : grid0.Coords) : Fin 3 → Nat :=
  let c0_566 : Index := 0#32
  let c128_567 : Index := 128#32
  let arg1 : BitVec 32 := BitVec.ofNat 32 (i 1).val
  let c256_i32 : BitVec 32 := 256#32
  let v0 : BitVec 32 := Scalar.muli arg1 c256_i32
  let v1 : BitVec 32 := v0
  let v1364 : Index := Scalar.indexCast v1
  ![0, 128, v1364.toNat]
def k0_off59 (i : grid0.Coords) : Fin 4 → Nat :=
  let arg1 : BitVec 32 := BitVec.ofNat 32 (i 1).val
  let c2_i32_584 : BitVec 32 := 2#32
  let c0_i32_585 : BitVec 32 := 0#32
  let v1404 : BitVec 1 := Scalar.cmpi .eq c2_i32_584 c0_i32_585
  let c1_i32_586 : BitVec 32 := 1#32
  let v1405 : BitVec 32 := Scalar.select v1404 c1_i32_586 c2_i32_584
  let v1406 : BitVec 32 := Scalar.remsi arg1 v1405
  let c0_i32_588 : BitVec 32 := 0#32
  let v1408 : BitVec 1 := Scalar.cmpi .slt v1406 c0_i32_588
  let c0_i32_589 : BitVec 32 := 0#32
  let v1409 : BitVec 1 := Scalar.cmpi .slt v1405 c0_i32_589
  let v1410 : BitVec 1 := Scalar.xori v1408 v1409
  let c0_i32_587 : BitVec 32 := 0#32
  let v1407 : BitVec 1 := Scalar.cmpi .ne v1406 c0_i32_587
  let v1411 : BitVec 1 := Scalar.andi v1410 v1407
  let v1412 : BitVec 32 := Scalar.addi v1406 v1405
  let v1413 : BitVec 32 := Scalar.select v1411 v1412 v1406
  let v1414 : Index := Scalar.indexCast v1413
  let c3_590 : Index := 3#32
  let c0_591 : Index := 0#32
  let c0_592 : Index := 0#32
  ![v1414.toNat, 3, 0, 0]
def k0_off60 (i : grid0.Coords) : Fin 3 → Nat :=
  let c0_594 : Index := 0#32
  let c192_595 : Index := 192#32
  let arg1 : BitVec 32 := BitVec.ofNat 32 (i 1).val
  let c256_i32 : BitVec 32 := 256#32
  let v0 : BitVec 32 := Scalar.muli arg1 c256_i32
  let v1 : BitVec 32 := v0
  let v1419 : Index := Scalar.indexCast v1
  ![0, 192, v1419.toNat]
def k0_off61 (i : grid0.Coords) : Fin 4 → Nat :=
  let arg1 : BitVec 32 := BitVec.ofNat 32 (i 1).val
  let c2_i32_612 : BitVec 32 := 2#32
  let c0_i32_613 : BitVec 32 := 0#32
  let v1459 : BitVec 1 := Scalar.cmpi .eq c2_i32_612 c0_i32_613
  let c1_i32_614 : BitVec 32 := 1#32
  let v1460 : BitVec 32 := Scalar.select v1459 c1_i32_614 c2_i32_612
  let v1461 : BitVec 32 := Scalar.remsi arg1 v1460
  let c0_i32_616 : BitVec 32 := 0#32
  let v1463 : BitVec 1 := Scalar.cmpi .slt v1461 c0_i32_616
  let c0_i32_617 : BitVec 32 := 0#32
  let v1464 : BitVec 1 := Scalar.cmpi .slt v1460 c0_i32_617
  let v1465 : BitVec 1 := Scalar.xori v1463 v1464
  let c0_i32_615 : BitVec 32 := 0#32
  let v1462 : BitVec 1 := Scalar.cmpi .ne v1461 c0_i32_615
  let v1466 : BitVec 1 := Scalar.andi v1465 v1462
  let v1467 : BitVec 32 := Scalar.addi v1461 v1460
  let v1468 : BitVec 32 := Scalar.select v1466 v1467 v1461
  let v1469 : Index := Scalar.indexCast v1468
  let c4_618 : Index := 4#32
  let c0_619 : Index := 0#32
  let c0_620 : Index := 0#32
  ![v1469.toNat, 4, 0, 0]
def k0_off62 (i : grid0.Coords) : Fin 3 → Nat :=
  let c0_622 : Index := 0#32
  let c256_623 : Index := 256#32
  let arg1 : BitVec 32 := BitVec.ofNat 32 (i 1).val
  let c256_i32 : BitVec 32 := 256#32
  let v0 : BitVec 32 := Scalar.muli arg1 c256_i32
  let v1 : BitVec 32 := v0
  let v1474 : Index := Scalar.indexCast v1
  ![0, 256, v1474.toNat]
def k0_off63 (i : grid0.Coords) : Fin 4 → Nat :=
  let arg1 : BitVec 32 := BitVec.ofNat 32 (i 1).val
  let c2_i32_640 : BitVec 32 := 2#32
  let c0_i32_641 : BitVec 32 := 0#32
  let v1514 : BitVec 1 := Scalar.cmpi .eq c2_i32_640 c0_i32_641
  let c1_i32_642 : BitVec 32 := 1#32
  let v1515 : BitVec 32 := Scalar.select v1514 c1_i32_642 c2_i32_640
  let v1516 : BitVec 32 := Scalar.remsi arg1 v1515
  let c0_i32_644 : BitVec 32 := 0#32
  let v1518 : BitVec 1 := Scalar.cmpi .slt v1516 c0_i32_644
  let c0_i32_645 : BitVec 32 := 0#32
  let v1519 : BitVec 1 := Scalar.cmpi .slt v1515 c0_i32_645
  let v1520 : BitVec 1 := Scalar.xori v1518 v1519
  let c0_i32_643 : BitVec 32 := 0#32
  let v1517 : BitVec 1 := Scalar.cmpi .ne v1516 c0_i32_643
  let v1521 : BitVec 1 := Scalar.andi v1520 v1517
  let v1522 : BitVec 32 := Scalar.addi v1516 v1515
  let v1523 : BitVec 32 := Scalar.select v1521 v1522 v1516
  let v1524 : Index := Scalar.indexCast v1523
  let c5_646 : Index := 5#32
  let c0_647 : Index := 0#32
  let c0_648 : Index := 0#32
  ![v1524.toNat, 5, 0, 0]
def k0_off64 (i : grid0.Coords) : Fin 3 → Nat :=
  let c0_650 : Index := 0#32
  let c320_651 : Index := 320#32
  let arg1 : BitVec 32 := BitVec.ofNat 32 (i 1).val
  let c256_i32 : BitVec 32 := 256#32
  let v0 : BitVec 32 := Scalar.muli arg1 c256_i32
  let v1 : BitVec 32 := v0
  let v1529 : Index := Scalar.indexCast v1
  ![0, 320, v1529.toNat]
def k0_off65 (i : grid0.Coords) : Fin 4 → Nat :=
  let arg1 : BitVec 32 := BitVec.ofNat 32 (i 1).val
  let c2_i32_668 : BitVec 32 := 2#32
  let c0_i32_669 : BitVec 32 := 0#32
  let v1569 : BitVec 1 := Scalar.cmpi .eq c2_i32_668 c0_i32_669
  let c1_i32_670 : BitVec 32 := 1#32
  let v1570 : BitVec 32 := Scalar.select v1569 c1_i32_670 c2_i32_668
  let v1571 : BitVec 32 := Scalar.remsi arg1 v1570
  let c0_i32_672 : BitVec 32 := 0#32
  let v1573 : BitVec 1 := Scalar.cmpi .slt v1571 c0_i32_672
  let c0_i32_673 : BitVec 32 := 0#32
  let v1574 : BitVec 1 := Scalar.cmpi .slt v1570 c0_i32_673
  let v1575 : BitVec 1 := Scalar.xori v1573 v1574
  let c0_i32_671 : BitVec 32 := 0#32
  let v1572 : BitVec 1 := Scalar.cmpi .ne v1571 c0_i32_671
  let v1576 : BitVec 1 := Scalar.andi v1575 v1572
  let v1577 : BitVec 32 := Scalar.addi v1571 v1570
  let v1578 : BitVec 32 := Scalar.select v1576 v1577 v1571
  let v1579 : Index := Scalar.indexCast v1578
  let c6_674 : Index := 6#32
  let c0_675 : Index := 0#32
  let c0_676 : Index := 0#32
  ![v1579.toNat, 6, 0, 0]
def k0_off66 (i : grid0.Coords) : Fin 3 → Nat :=
  let c0_678 : Index := 0#32
  let c384_679 : Index := 384#32
  let arg1 : BitVec 32 := BitVec.ofNat 32 (i 1).val
  let c256_i32 : BitVec 32 := 256#32
  let v0 : BitVec 32 := Scalar.muli arg1 c256_i32
  let v1 : BitVec 32 := v0
  let v1584 : Index := Scalar.indexCast v1
  ![0, 384, v1584.toNat]
def k0_off67 (i : grid0.Coords) : Fin 4 → Nat :=
  let arg1 : BitVec 32 := BitVec.ofNat 32 (i 1).val
  let c2_i32_696 : BitVec 32 := 2#32
  let c0_i32_697 : BitVec 32 := 0#32
  let v1624 : BitVec 1 := Scalar.cmpi .eq c2_i32_696 c0_i32_697
  let c1_i32_698 : BitVec 32 := 1#32
  let v1625 : BitVec 32 := Scalar.select v1624 c1_i32_698 c2_i32_696
  let v1626 : BitVec 32 := Scalar.remsi arg1 v1625
  let c0_i32_700 : BitVec 32 := 0#32
  let v1628 : BitVec 1 := Scalar.cmpi .slt v1626 c0_i32_700
  let c0_i32_701 : BitVec 32 := 0#32
  let v1629 : BitVec 1 := Scalar.cmpi .slt v1625 c0_i32_701
  let v1630 : BitVec 1 := Scalar.xori v1628 v1629
  let c0_i32_699 : BitVec 32 := 0#32
  let v1627 : BitVec 1 := Scalar.cmpi .ne v1626 c0_i32_699
  let v1631 : BitVec 1 := Scalar.andi v1630 v1627
  let v1632 : BitVec 32 := Scalar.addi v1626 v1625
  let v1633 : BitVec 32 := Scalar.select v1631 v1632 v1626
  let v1634 : Index := Scalar.indexCast v1633
  let c7_702 : Index := 7#32
  let c0_703 : Index := 0#32
  let c0_704 : Index := 0#32
  ![v1634.toNat, 7, 0, 0]
def k0_off68 (i : grid0.Coords) : Fin 3 → Nat :=
  let c0_706 : Index := 0#32
  let c448_707 : Index := 448#32
  let arg1 : BitVec 32 := BitVec.ofNat 32 (i 1).val
  let c256_i32 : BitVec 32 := 256#32
  let v0 : BitVec 32 := Scalar.muli arg1 c256_i32
  let v1 : BitVec 32 := v0
  let v1639 : Index := Scalar.indexCast v1
  ![0, 448, v1639.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
abbrev S8x512x2048 : Shape := ⟨3, ![8, 512, 2048]⟩
abbrev S8x2048x512 : Shape := ⟨3, ![8, 2048, 512]⟩
abbrev S8x8x512 : Shape := ⟨3, ![8, 8, 512]⟩
abbrev S1x512x256 : Shape := ⟨3, ![1, 512, 256]⟩
abbrev S1x2048x512 : Shape := ⟨3, ![1, 2048, 512]⟩
abbrev S1x512x2048 : Shape := ⟨3, ![1, 512, 2048]⟩
abbrev S1x8x512 : Shape := ⟨3, ![1, 8, 512]⟩
abbrev S1x256x512 : Shape := ⟨3, ![1, 256, 512]⟩
abbrev S2x8x256x256 : Shape := ⟨4, ![2, 8, 256, 256]⟩
abbrev S8x1x256 : Shape := ⟨3, ![8, 1, 256]⟩
abbrev S512x256 : Shape := ⟨2, ![512, 256]⟩
abbrev S16x256 : Shape := ⟨2, ![16, 256]⟩
abbrev S8x128 : Shape := ⟨2, ![8, 128]⟩
abbrev S64x256 : Shape := ⟨2, ![64, 256]⟩
abbrev S1x64x256 : Shape := ⟨3, ![1, 64, 256]⟩
abbrev S128x256 : Shape := ⟨2, ![128, 256]⟩
abbrev S1x8x128 : Shape := ⟨3, ![1, 8, 128]⟩
abbrev S16x128 : Shape := ⟨2, ![16, 128]⟩
abbrev S1x256 : Shape := ⟨2, ![1, 256]⟩
abbrev S1x256x128 : Shape := ⟨3, ![1, 256, 128]⟩
abbrev S256x128 : Shape := ⟨2, ![256, 128]⟩
abbrev S256x256 : Shape := ⟨2, ![256, 256]⟩
abbrev S1x1x256x256 : Shape := ⟨4, ![1, 1, 256, 256]⟩
abbrev S256 : Shape := ⟨1, ![256]⟩
abbrev S1x1x256 : Shape := ⟨3, ![1, 1, 256]⟩
abbrev S80x256 : Shape := ⟨2, ![80, 256]⟩
abbrev S256x512 : Shape := ⟨2, ![256, 512]⟩

abbrev nBuf : Space → Nat
  | .hbm => 5
  | .vmem => 14
  | .smem => 0
  | _ => 0

abbrev bufTy : (tb : Table) → Fin (tcTables nBuf tb) → BufTy
  | .hbm, ⟨0, _⟩ => ⟨S8x512x2048, .bf16⟩
  | .hbm, ⟨1, _⟩ => ⟨S8x2048x512, .bf16⟩
  | .hbm, ⟨2, _⟩ => ⟨S8x512x2048, .bf16⟩
  | .hbm, ⟨3, _⟩ => ⟨S8x8x512, .f32⟩
  | .hbm, ⟨4, _⟩ => ⟨S8x2048x512, .bf16⟩
  | .local _ .vmem, ⟨0, _⟩ => ⟨S1x512x256, .bf16⟩
  | .local _ .vmem, ⟨1, _⟩ => ⟨S1x512x256, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x512x2048, .bf16⟩
  | .local _ .vmem, ⟨5, _⟩ => ⟨S1x512x2048, .bf16⟩
  | .local _ .vmem, ⟨6, _⟩ => ⟨S1x8x512, .f32⟩
  | .local _ .vmem, ⟨7, _⟩ => ⟨S1x8x512, .f32⟩
  | .local _ .vmem, ⟨8, _⟩ => ⟨S1x256x512, .bf16⟩
  | .local _ .vmem, ⟨9, _⟩ => ⟨S1x256x512, .bf16⟩
  | .local _ .vmem, ⟨10, _⟩ => ⟨S2x8x256x256, .f32⟩
  | .local _ .vmem, ⟨11, _⟩ => ⟨S8x1x256, .f32⟩
  | .local _ .vmem, ⟨12, _⟩ => ⟨S8x1x256, .f32⟩
  | .local _ .vmem, ⟨13, _⟩ => ⟨S512x256, .f32⟩
  | _, _ => ⟨S8x512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F] [Named F]

def κ : String → Option EReal := fun
  | "mask" => some ⊥
  | _ => none

abbrev grid0 : Pipeline.Grid := ⟨2, ![8, 8], ![false, false]⟩

def k0_mult1 (i : grid0.Coords) : BitVec 32 :=
  let arg1 : BitVec 32 := BitVec.ofNat 32 (i 1).val
  let c256_i32 : BitVec 32 := 256#32
  let v0 : BitVec 32 := Scalar.muli arg1 c256_i32
  v0
def k0_mult2 : BitVec 32 :=
  let c0_i32_415 : BitVec 32 := 0#32
  c0_i32_415
def k0_mult3 : BitVec 32 :=
  let c0_i32_423 : BitVec 32 := 0#32
  c0_i32_423
def k0_mult4 : BitVec 32 :=
  let c0_i32_430 : BitVec 32 := 0#32
  c0_i32_430
def k0_mult5 : BitVec 32 :=
  let c0_i32_437 : BitVec 32 := 0#32
  c0_i32_437
def k0_mult6 : BitVec 32 :=
  let c0_i32_444 : BitVec 32 := 0#32
  c0_i32_444
def k0_mult7 : BitVec 32 :=
  let c0_i32_451 : BitVec 32 := 0#32
  c0_i32_451
def k0_mult8 : BitVec 32 :=
  let c0_i32_458 : BitVec 32 := 0#32
  c0_i32_458
def k0_mult9 : BitVec 32 :=
  let c0_i32_465 : BitVec 32 := 0#32
  c0_i32_465
@[reducible] def k0_t1_loop (i : grid0.Coords) : Scf.Loop 32 :=
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let c1_i32_482 : BitVec 32 := 1#32
  ⟨c0_i32_479, v1215, c1_i32_482⟩
def k0_mult10 (i : grid0.Coords) (k0_t1 : Fin (k0_t1_loop i).trips) : BitVec 32 :=
  let c2_i32_721 : BitVec 32 := 2#32
  let c0_i32_479 : BitVec 32 := 0#32
  let c1_i32_482 : BitVec 32 := 1#32
  let arg11 : BitVec 32 := Scf.iv c0_i32_479 c1_i32_482 k0_t1
  let v1680 : BitVec 32 := Scalar.muli c2_i32_721 arg11
  let c1_i32_722 : BitVec 32 := 1#32
  let v1681 : BitVec 32 := Scalar.addi v1680 c1_i32_722
  let c256_i32_723 : BitVec 32 := 256#32
  let v1682 : BitVec 32 := Scalar.muli v1681 c256_i32_723
  v1682
def k0_off1 (i : grid0.Coords) (k0_t1 : Fin (k0_t1_loop i).trips) (c1_i32_722 : BitVec 32) : Fin 3 → Nat :=
  let c0_724 : Index := 0#32
  let c2_i32_721 : BitVec 32 := 2#32
  let c0_i32_479 : BitVec 32 := 0#32
  let c1_i32_482 : BitVec 32 := 1#32
  let arg11 : BitVec 32 := Scf.iv c0_i32_479 c1_i32_482 k0_t1
  let v1680 : BitVec 32 := Scalar.muli c2_i32_721 arg11
  let v1681 : BitVec 32 := Scalar.addi v1680 c1_i32_722
  let c256_i32_723 : BitVec 32 := 256#32
  let v1682 : BitVec 32 := Scalar.muli v1681 c256_i32_723
  let v1683 : BitVec 32 := v1682
  let v1684 : Index := Scalar.indexCast v1683
  let c0_725 : Index := 0#32
  ![0, v1684.toNat, 0]
def k0_mult11 (i : grid0.Coords) (k0_t1 : Fin (k0_t1_loop i).trips) : BitVec 32 :=
  let c2_i32_721 : BitVec 32 := 2#32
  let c0_i32_479 : BitVec 32 := 0#32
  let c1_i32_482 : BitVec 32 := 1#32
  let arg11 : BitVec 32 := Scf.iv c0_i32_479 c1_i32_482 k0_t1
  let v1680 : BitVec 32 := Scalar.muli c2_i32_721 arg11
  let c1_i32_722 : BitVec 32 := 1#32
  let v1681 : BitVec 32 := Scalar.addi v1680 c1_i32_722
  let c256_i32_731 : BitVec 32 := 256#32
  let v1691 : BitVec 32 := Scalar.muli v1681 c256_i32_731
  v1691
def k0_mult12 (i : grid0.Coords) (k0_t1 : Fin (k0_t1_loop i).trips) : BitVec 32 :=
  let c2_i32_721 : BitVec 32 := 2#32
  let c0_i32_479 : BitVec 32 := 0#32
  let c1_i32_482 : BitVec 32 := 1#32
  let arg11 : BitVec 32 := Scf.iv c0_i32_479 c1_i32_482 k0_t1
  let v1680 : BitVec 32 := Scalar.muli c2_i32_721 arg11
  let c256_i32_755 : BitVec 32 := 256#32
  let v1727 : BitVec 32 := Scalar.muli v1680 c256_i32_755
  v1727
def k0_off2 (i : grid0.Coords) (k0_t1 : Fin (k0_t1_loop i).trips) : Fin 3 → Nat :=
  let c0_756 : Index := 0#32
  let c0_757 : Index := 0#32
  let c2_i32_721 : BitVec 32 := 2#32
  let c0_i32_479 : BitVec 32 := 0#32
  let c1_i32_482 : BitVec 32 := 1#32
  let arg11 : BitVec 32 := Scf.iv c0_i32_479 c1_i32_482 k0_t1
  let v1680 : BitVec 32 := Scalar.muli c2_i32_721 arg11
  let c256_i32_755 : BitVec 32 := 256#32
  let v1727 : BitVec 32 := Scalar.muli v1680 c256_i32_755
  let v1728 : BitVec 32 := v1727
  let v1729 : Index := Scalar.indexCast v1728
  ![0, 0, v1729.toNat]
def k0_mult13 (i : grid0.Coords) (k0_t1 : Fin (k0_t1_loop i).trips) : BitVec 32 :=
  let c2_i32_721 : BitVec 32 := 2#32
  let c0_i32_479 : BitVec 32 := 0#32
  let c1_i32_482 : BitVec 32 := 1#32
  let arg11 : BitVec 32 := Scf.iv c0_i32_479 c1_i32_482 k0_t1
  let v1680 : BitVec 32 := Scalar.muli c2_i32_721 arg11
  let c256_i32_785 : BitVec 32 := 256#32
  let v1778 : BitVec 32 := Scalar.muli v1680 c256_i32_785
  v1778
def k0_off3 (i : grid0.Coords) (k0_t1 : Fin (k0_t1_loop i).trips) : Fin 3 → Nat :=
  let c0_786 : Index := 0#32
  let c64_787 : Index := 64#32
  let c2_i32_721 : BitVec 32 := 2#32
  let c0_i32_479 : BitVec 32 := 0#32
  let c1_i32_482 : BitVec 32 := 1#32
  let arg11 : BitVec 32 := Scf.iv c0_i32_479 c1_i32_482 k0_t1
  let v1680 : BitVec 32 := Scalar.muli c2_i32_721 arg11
  let c256_i32_785 : BitVec 32 := 256#32
  let v1778 : BitVec 32 := Scalar.muli v1680 c256_i32_785
  let v1779 : BitVec 32 := v1778
  let v1780 : Index := Scalar.indexCast v1779
  ![0, 64, v1780.toNat]
def k0_mult14 (i : grid0.Coords) (k0_t1 : Fin (k0_t1_loop i).trips) : BitVec 32 :=
  let c2_i32_721 : BitVec 32 := 2#32
  let c0_i32_479 : BitVec 32 := 0#32
  let c1_i32_482 : BitVec 32 := 1#32
  let arg11 : BitVec 32 := Scf.iv c0_i32_479 c1_i32_482 k0_t1
  let v1680 : BitVec 32 := Scalar.muli c2_i32_721 arg11
  let c1_i32_799 : BitVec 32 := 1#32
  let v1802 : BitVec 32 := Scalar.addi v1680 c1_i32_799
  let c256_i32_800 : BitVec 32 := 256#32
  let v1803 : BitVec 32 := Scalar.muli v1802 c256_i32_800
  v1803
def k0_off4 (i : grid0.Coords) (k0_t1 : Fin (k0_t1_loop i).trips) (c1_i32_799 : BitVec 32) : Fin 3 → Nat :=
  let c0_801 : Index := 0#32
  let c2_i32_721 : BitVec 32 := 2#32
  let c0_i32_479 : BitVec 32 := 0#32
  let c1_i32_482 : BitVec 32 := 1#32
  let arg11 : BitVec 32 := Scf.iv c0_i32_479 c1_i32_482 k0_t1
  let v1680 : BitVec 32 := Scalar.muli c2_i32_721 arg11
  let v1802 : BitVec 32 := Scalar.addi v1680 c1_i32_799
  let c256_i32_800 : BitVec 32 := 256#32
  let v1803 : BitVec 32 := Scalar.muli v1802 c256_i32_800
  let v1804 : BitVec 32 := v1803
  let v1805 : Index := Scalar.indexCast v1804
  let c128_802 : Index := 128#32
  ![0, v1805.toNat, 128]
def k0_mult15 (i : grid0.Coords) (k0_t1 : Fin (k0_t1_loop i).trips) : BitVec 32 :=
  let c2_i32_721 : BitVec 32 := 2#32
  let c0_i32_479 : BitVec 32 := 0#32
  let c1_i32_482 : BitVec 32 := 1#32
  let arg11 : BitVec 32 := Scf.iv c0_i32_479 c1_i32_482 k0_t1
  let v1680 : BitVec 32 := Scalar.muli c2_i32_721 arg11
  let c1_i32_799 : BitVec 32 := 1#32
  let v1802 : BitVec 32 := Scalar.addi v1680 c1_i32_799
  let c256_i32_808 : BitVec 32 := 256#32
  let v1812 : BitVec 32 := Scalar.muli v1802 c256_i32_808
  v1812
def k0_mult16 (i : grid0.Coords) (k0_t1 : Fin (k0_t1_loop i).trips) : BitVec 32 :=
  let c2_i32_721 : BitVec 32 := 2#32
  let c0_i32_479 : BitVec 32 := 0#32
  let c1_i32_482 : BitVec 32 := 1#32
  let arg11 : BitVec 32 := Scf.iv c0_i32_479 c1_i32_482 k0_t1
  let v1680 : BitVec 32 := Scalar.muli c2_i32_721 arg11
  let c256_i32_832 : BitVec 32 := 256#32
  let v1848 : BitVec 32 := Scalar.muli v1680 c256_i32_832
  v1848
def k0_off5 (i : grid0.Coords) (k0_t1 : Fin (k0_t1_loop i).trips) : Fin 3 → Nat :=
  let c0_833 : Index := 0#32
  let c128_834 : Index := 128#32
  let c2_i32_721 : BitVec 32 := 2#32
  let c0_i32_479 : BitVec 32 := 0#32
  let c1_i32_482 : BitVec 32 := 1#32
  let arg11 : BitVec 32 := Scf.iv c0_i32_479 c1_i32_482 k0_t1
  let v1680 : BitVec 32 := Scalar.muli c2_i32_721 arg11
  let c256_i32_832 : BitVec 32 := 256#32
  let v1848 : BitVec 32 := Scalar.muli v1680 c256_i32_832
  let v1849 : BitVec 32 := v1848
  let v1850 : Index := Scalar.indexCast v1849
  ![0, 128, v1850.toNat]
def k0_mult17 (i : grid0.Coords) (k0_t1 : Fin (k0_t1_loop i).trips) : BitVec 32 :=
  let c2_i32_721 : BitVec 32 := 2#32
  let c0_i32_479 : BitVec 32 := 0#32
  let c1_i32_482 : BitVec 32 := 1#32
  let arg11 : BitVec 32 := Scf.iv c0_i32_479 c1_i32_482 k0_t1
  let v1680 : BitVec 32 := Scalar.muli c2_i32_721 arg11
  let c256_i32_862 : BitVec 32 := 256#32
  let v1899 : BitVec 32 := Scalar.muli v1680 c256_i32_862
  v1899
def k0_off6 (i : grid0.Coords) (k0_t1 : Fin (k0_t1_loop i).trips) : Fin 3 → Nat :=
  let c0_863 : Index := 0#32
  let c192_864 : Index := 192#32
  let c2_i32_721 : BitVec 32 := 2#32
  let c0_i32_479 : BitVec 32 := 0#32
  let c1_i32_482 : BitVec 32 := 1#32
  let arg11 : BitVec 32 := Scf.iv c0_i32_479 c1_i32_482 k0_t1
  let v1680 : BitVec 32 := Scalar.muli c2_i32_721 arg11
  let c256_i32_862 : BitVec 32 := 256#32
  let v1899 : BitVec 32 := Scalar.muli v1680 c256_i32_862
  let v1900 : BitVec 32 := v1899
  let v1901 : Index := Scalar.indexCast v1900
  ![0, 192, v1901.toNat]
def k0_mult18 (i : grid0.Coords) (k0_t1 : Fin (k0_t1_loop i).trips) : BitVec 32 :=
  let c2_i32_721 : BitVec 32 := 2#32
  let c0_i32_479 : BitVec 32 := 0#32
  let c1_i32_482 : BitVec 32 := 1#32
  let arg11 : BitVec 32 := Scf.iv c0_i32_479 c1_i32_482 k0_t1
  let v1680 : BitVec 32 := Scalar.muli c2_i32_721 arg11
  let c1_i32_876 : BitVec 32 := 1#32
  let v1923 : BitVec 32 := Scalar.addi v1680 c1_i32_876
  let c256_i32_877 : BitVec 32 := 256#32
  let v1924 : BitVec 32 := Scalar.muli v1923 c256_i32_877
  v1924
def k0_off7 (i : grid0.Coords) (k0_t1 : Fin (k0_t1_loop i).trips) (c1_i32_876 : BitVec 32) : Fin 3 → Nat :=
  let c0_878 : Index := 0#32
  let c2_i32_721 : BitVec 32 := 2#32
  let c0_i32_479 : BitVec 32 := 0#32
  let c1_i32_482 : BitVec 32 := 1#32
  let arg11 : BitVec 32 := Scf.iv c0_i32_479 c1_i32_482 k0_t1
  let v1680 : BitVec 32 := Scalar.muli c2_i32_721 arg11
  let v1923 : BitVec 32 := Scalar.addi v1680 c1_i32_876
  let c256_i32_877 : BitVec 32 := 256#32
  let v1924 : BitVec 32 := Scalar.muli v1923 c256_i32_877
  let v1925 : BitVec 32 := v1924
  let v1926 : Index := Scalar.indexCast v1925
  let c256_879 : Index := 256#32
  ![0, v1926.toNat, 256]
def k0_mult19 (i : grid0.Coords) (k0_t1 : Fin (k0_t1_loop i).trips) : BitVec 32 :=
  let c2_i32_721 : BitVec 32 := 2#32
  let c0_i32_479 : BitVec 32 := 0#32
  let c1_i32_482 : BitVec 32 := 1#32
  let arg11 : BitVec 32 := Scf.iv c0_i32_479 c1_i32_482 k0_t1
  let v1680 : BitVec 32 := Scalar.muli c2_i32_721 arg11
  let c1_i32_876 : BitVec 32 := 1#32
  let v1923 : BitVec 32 := Scalar.addi v1680 c1_i32_876
  let c256_i32_885 : BitVec 32 := 256#32
  let v1933 : BitVec 32 := Scalar.muli v1923 c256_i32_885
  v1933
def k0_mult20 (i : grid0.Coords) (k0_t1 : Fin (k0_t1_loop i).trips) : BitVec 32 :=
  let c2_i32_721 : BitVec 32 := 2#32
  let c0_i32_479 : BitVec 32 := 0#32
  let c1_i32_482 : BitVec 32 := 1#32
  let arg11 : BitVec 32 := Scf.iv c0_i32_479 c1_i32_482 k0_t1
  let v1680 : BitVec 32 := Scalar.muli c2_i32_721 arg11
  let c256_i32_909 : BitVec 32 := 256#32
  let v1969 : BitVec 32 := Scalar.muli v1680 c256_i32_909
  v1969
def k0_off8 (i : grid0.Coords) (k0_t1 : Fin (k0_t1_loop i).trips) : Fin 3 → Nat :=
  let c0_910 : Index := 0#32
  let c256_911 : Index := 256#32
  let c2_i32_721 : BitVec 32 := 2#32
  let c0_i32_479 : BitVec 32 := 0#32
  let c1_i32_482 : BitVec 32 := 1#32
  let arg11 : BitVec 32 := Scf.iv c0_i32_479 c1_i32_482 k0_t1
  let v1680 : BitVec 32 := Scalar.muli c2_i32_721 arg11
  let c256_i32_909 : BitVec 32 := 256#32
  let v1969 : BitVec 32 := Scalar.muli v1680 c256_i32_909
  let v1970 : BitVec 32 := v1969
  let v1971 : Index := Scalar.indexCast v1970
  ![0, 256, v1971.toNat]
def k0_mult21 (i : grid0.Coords) (k0_t1 : Fin (k0_t1_loop i).trips) : BitVec 32 :=
  let c2_i32_721 : BitVec 32 := 2#32
  let c0_i32_479 : BitVec 32 := 0#32
  let c1_i32_482 : BitVec 32 := 1#32
  let arg11 : BitVec 32 := Scf.iv c0_i32_479 c1_i32_482 k0_t1
  let v1680 : BitVec 32 := Scalar.muli c2_i32_721 arg11
  let c256_i32_939 : BitVec 32 := 256#32
  let v2020 : BitVec 32 := Scalar.muli v1680 c256_i32_939
  v2020
def k0_off9 (i : grid0.Coords) (k0_t1 : Fin (k0_t1_loop i).trips) : Fin 3 → Nat :=
  let c0_940 : Index := 0#32
  let c320_941 : Index := 320#32
  let c2_i32_721 : BitVec 32 := 2#32
  let c0_i32_479 : BitVec 32 := 0#32
  let c1_i32_482 : BitVec 32 := 1#32
  let arg11 : BitVec 32 := Scf.iv c0_i32_479 c1_i32_482 k0_t1
  let v1680 : BitVec 32 := Scalar.muli c2_i32_721 arg11
  let c256_i32_939 : BitVec 32 := 256#32
  let v2020 : BitVec 32 := Scalar.muli v1680 c256_i32_939
  let v2021 : BitVec 32 := v2020
  let v2022 : Index := Scalar.indexCast v2021
  ![0, 320, v2022.toNat]
def k0_mult22 (i : grid0.Coords) (k0_t1 : Fin (k0_t1_loop i).trips) : BitVec 32 :=
  let c2_i32_721 : BitVec 32 := 2#32
  let c0_i32_479 : BitVec 32 := 0#32
  let c1_i32_482 : BitVec 32 := 1#32
  let arg11 : BitVec 32 := Scf.iv c0_i32_479 c1_i32_482 k0_t1
  let v1680 : BitVec 32 := Scalar.muli c2_i32_721 arg11
  let c1_i32_953 : BitVec 32 := 1#32
  let v2044 : BitVec 32 := Scalar.addi v1680 c1_i32_953
  let c256_i32_954 : BitVec 32 := 256#32
  let v2045 : BitVec 32 := Scalar.muli v2044 c256_i32_954
  v2045
def k0_off10 (i : grid0.Coords) (k0_t1 : Fin (k0_t1_loop i).trips) (c1_i32_953 : BitVec 32) : Fin 3 → Nat :=
  let c0_955 : Index := 0#32
  let c2_i32_721 : BitVec 32 := 2#32
  let c0_i32_479 : BitVec 32 := 0#32
  let c1_i32_482 : BitVec 32 := 1#32
  let arg11 : BitVec 32 := Scf.iv c0_i32_479 c1_i32_482 k0_t1
  let v1680 : BitVec 32 := Scalar.muli c2_i32_721 arg11
  let v2044 : BitVec 32 := Scalar.addi v1680 c1_i32_953
  let c256_i32_954 : BitVec 32 := 256#32
  let v2045 : BitVec 32 := Scalar.muli v2044 c256_i32_954
  let v2046 : BitVec 32 := v2045
  let v2047 : Index := Scalar.indexCast v2046
  let c384_956 : Index := 384#32
  ![0, v2047.toNat, 384]
def k0_mult23 (i : grid0.Coords) (k0_t1 : Fin (k0_t1_loop i).trips) : BitVec 32 :=
  let c2_i32_721 : BitVec 32 := 2#32
  let c0_i32_479 : BitVec 32 := 0#32
  let c1_i32_482 : BitVec 32 := 1#32
  let arg11 : BitVec 32 := Scf.iv c0_i32_479 c1_i32_482 k0_t1
  let v1680 : BitVec 32 := Scalar.muli c2_i32_721 arg11
  let c1_i32_953 : BitVec 32 := 1#32
  let v2044 : BitVec 32 := Scalar.addi v1680 c1_i32_953
  let c256_i32_962 : BitVec 32 := 256#32
  let v2054 : BitVec 32 := Scalar.muli v2044 c256_i32_962
  v2054
def k0_mult24 (i : grid0.Coords) (k0_t1 : Fin (k0_t1_loop i).trips) : BitVec 32 :=
  let c2_i32_721 : BitVec 32 := 2#32
  let c0_i32_479 : BitVec 32 := 0#32
  let c1_i32_482 : BitVec 32 := 1#32
  let arg11 : BitVec 32 := Scf.iv c0_i32_479 c1_i32_482 k0_t1
  let v1680 : BitVec 32 := Scalar.muli c2_i32_721 arg11
  let c256_i32_986 : BitVec 32 := 256#32
  let v2090 : BitVec 32 := Scalar.muli v1680 c256_i32_986
  v2090
def k0_off11 (i : grid0.Coords) (k0_t1 : Fin (k0_t1_loop i).trips) : Fin 3 → Nat :=
  let c0_987 : Index := 0#32
  let c384_988 : Index := 384#32
  let c2_i32_721 : BitVec 32 := 2#32
  let c0_i32_479 : BitVec 32 := 0#32
  let c1_i32_482 : BitVec 32 := 1#32
  let arg11 : BitVec 32 := Scf.iv c0_i32_479 c1_i32_482 k0_t1
  let v1680 : BitVec 32 := Scalar.muli c2_i32_721 arg11
  let c256_i32_986 : BitVec 32 := 256#32
  let v2090 : BitVec 32 := Scalar.muli v1680 c256_i32_986
  let v2091 : BitVec 32 := v2090
  let v2092 : Index := Scalar.indexCast v2091
  ![0, 384, v2092.toNat]
def k0_mult25 (i : grid0.Coords) (k0_t1 : Fin (k0_t1_loop i).trips) : BitVec 32 :=
  let c2_i32_721 : BitVec 32 := 2#32
  let c0_i32_479 : BitVec 32 := 0#32
  let c1_i32_482 : BitVec 32 := 1#32
  let arg11 : BitVec 32 := Scf.iv c0_i32_479 c1_i32_482 k0_t1
  let v1680 : BitVec 32 := Scalar.muli c2_i32_721 arg11
  let c256_i32_1016 : BitVec 32 := 256#32
  let v2141 : BitVec 32 := Scalar.muli v1680 c256_i32_1016
  v2141
def k0_off12 (i : grid0.Coords) (k0_t1 : Fin (k0_t1_loop i).trips) : Fin 3 → Nat :=
  let c0_1017 : Index := 0#32
  let c448_1018 : Index := 448#32
  let c2_i32_721 : BitVec 32 := 2#32
  let c0_i32_479 : BitVec 32 := 0#32
  let c1_i32_482 : BitVec 32 := 1#32
  let arg11 : BitVec 32 := Scf.iv c0_i32_479 c1_i32_482 k0_t1
  let v1680 : BitVec 32 := Scalar.muli c2_i32_721 arg11
  let c256_i32_1016 : BitVec 32 := 256#32
  let v2141 : BitVec 32 := Scalar.muli v1680 c256_i32_1016
  let v2142 : BitVec 32 := v2141
  let v2143 : Index := Scalar.indexCast v2142
  ![0, 448, v2143.toNat]
def k0_mult26 (i : grid0.Coords) (k0_t1 : Fin (k0_t1_loop i).trips) : BitVec 32 :=
  let c2_i32_721 : BitVec 32 := 2#32
  let c0_i32_479 : BitVec 32 := 0#32
  let c1_i32_482 : BitVec 32 := 1#32
  let arg11 : BitVec 32 := Scf.iv c0_i32_479 c1_i32_482 k0_t1
  let v1680 : BitVec 32 := Scalar.muli c2_i32_721 arg11
  let c2_i32_1030 : BitVec 32 := 2#32
  let v2165 : BitVec 32 := Scalar.addi v1680 c2_i32_1030
  let c256_i32_1031 : BitVec 32 := 256#32
  let v2166 : BitVec 32 := Scalar.muli v2165 c256_i32_1031
  v2166
def k0_mult27 (i : grid0.Coords) (k0_t1 : Fin (k0_t1_loop i).trips) : BitVec 32 :=
  let c2_i32_721 : BitVec 32 := 2#32
  let c0_i32_479 : BitVec 32 := 0#32
  let c1_i32_482 : BitVec 32 := 1#32
  let arg11 : BitVec 32 := Scf.iv c0_i32_479 c1_i32_482 k0_t1
  let v1680 : BitVec 32 := Scalar.muli c2_i32_721 arg11
  let c2_i32_1030 : BitVec 32 := 2#32
  let v2165 : BitVec 32 := Scalar.addi v1680 c2_i32_1030
  let c256_i32_1039 : BitVec 32 := 256#32
  let v2175 : BitVec 32 := Scalar.muli v2165 c256_i32_1039
  v2175
def k0_mult28 (i : grid0.Coords) (k0_t1 : Fin (k0_t1_loop i).trips) : BitVec 32 :=
  let c2_i32_721 : BitVec 32 := 2#32
  let c0_i32_479 : BitVec 32 := 0#32
  let c1_i32_482 : BitVec 32 := 1#32
  let arg11 : BitVec 32 := Scf.iv c0_i32_479 c1_i32_482 k0_t1
  let v1680 : BitVec 32 := Scalar.muli c2_i32_721 arg11
  let c1_i32_1047 : BitVec 32 := 1#32
  let v2184 : BitVec 32 := Scalar.addi v1680 c1_i32_1047
  let c256_i32_1064 : BitVec 32 := 256#32
  let v2212 : BitVec 32 := Scalar.muli v2184 c256_i32_1064
  v2212
def k0_off13 (i : grid0.Coords) (k0_t1 : Fin (k0_t1_loop i).trips) : Fin 3 → Nat :=
  let c0_1065 : Index := 0#32
  let c0_1066 : Index := 0#32
  let c2_i32_721 : BitVec 32 := 2#32
  let c0_i32_479 : BitVec 32 := 0#32
  let c1_i32_482 : BitVec 32 := 1#32
  let arg11 : BitVec 32 := Scf.iv c0_i32_479 c1_i32_482 k0_t1
  let v1680 : BitVec 32 := Scalar.muli c2_i32_721 arg11
  let c1_i32_1047 : BitVec 32 := 1#32
  let v2184 : BitVec 32 := Scalar.addi v1680 c1_i32_1047
  let c256_i32_1064 : BitVec 32 := 256#32
  let v2212 : BitVec 32 := Scalar.muli v2184 c256_i32_1064
  let v2213 : BitVec 32 := v2212
  let v2214 : Index := Scalar.indexCast v2213
  ![0, 0, v2214.toNat]
def k0_mult29 (i : grid0.Coords) (k0_t1 : Fin (k0_t1_loop i).trips) : BitVec 32 :=
  let c2_i32_721 : BitVec 32 := 2#32
  let c0_i32_479 : BitVec 32 := 0#32
  let c1_i32_482 : BitVec 32 := 1#32
  let arg11 : BitVec 32 := Scf.iv c0_i32_479 c1_i32_482 k0_t1
  let v1680 : BitVec 32 := Scalar.muli c2_i32_721 arg11
  let c1_i32_1047 : BitVec 32 := 1#32
  let v2184 : BitVec 32 := Scalar.addi v1680 c1_i32_1047
  let c256_i32_1094 : BitVec 32 := 256#32
  let v2263 : BitVec 32 := Scalar.muli v2184 c256_i32_1094
  v2263
def k0_off14 (i : grid0.Coords) (k0_t1 : Fin (k0_t1_loop i).trips) : Fin 3 → Nat :=
  let c0_1095 : Index := 0#32
  let c64_1096 : Index := 64#32
  let c2_i32_721 : BitVec 32 := 2#32
  let c0_i32_479 : BitVec 32 := 0#32
  let c1_i32_482 : BitVec 32 := 1#32
  let arg11 : BitVec 32 := Scf.iv c0_i32_479 c1_i32_482 k0_t1
  let v1680 : BitVec 32 := Scalar.muli c2_i32_721 arg11
  let c1_i32_1047 : BitVec 32 := 1#32
  let v2184 : BitVec 32 := Scalar.addi v1680 c1_i32_1047
  let c256_i32_1094 : BitVec 32 := 256#32
  let v2263 : BitVec 32 := Scalar.muli v2184 c256_i32_1094
  let v2264 : BitVec 32 := v2263
  let v2265 : Index := Scalar.indexCast v2264
  ![0, 64, v2265.toNat]
def k0_mult30 (i : grid0.Coords) (k0_t1 : Fin (k0_t1_loop i).trips) : BitVec 32 :=
  let c2_i32_721 : BitVec 32 := 2#32
  let c0_i32_479 : BitVec 32 := 0#32
  let c1_i32_482 : BitVec 32 := 1#32
  let arg11 : BitVec 32 := Scf.iv c0_i32_479 c1_i32_482 k0_t1
  let v1680 : BitVec 32 := Scalar.muli c2_i32_721 arg11
  let c2_i32_1108 : BitVec 32 := 2#32
  let v2287 : BitVec 32 := Scalar.addi v1680 c2_i32_1108
  let c256_i32_1109 : BitVec 32 := 256#32
  let v2288 : BitVec 32 := Scalar.muli v2287 c256_i32_1109
  v2288
def k0_mult31 (i : grid0.Coords) (k0_t1 : Fin (k0_t1_loop i).trips) : BitVec 32 :=
  let c2_i32_721 : BitVec 32 := 2#32
  let c0_i32_479 : BitVec 32 := 0#32
  let c1_i32_482 : BitVec 32 := 1#32
  let arg11 : BitVec 32 := Scf.iv c0_i32_479 c1_i32_482 k0_t1
  let v1680 : BitVec 32 := Scalar.muli c2_i32_721 arg11
  let c2_i32_1108 : BitVec 32 := 2#32
  let v2287 : BitVec 32 := Scalar.addi v1680 c2_i32_1108
  let c256_i32_1117 : BitVec 32 := 256#32
  let v2297 : BitVec 32 := Scalar.muli v2287 c256_i32_1117
  v2297
def k0_mult32 (i : grid0.Coords) (k0_t1 : Fin (k0_t1_loop i).trips) : BitVec 32 :=
  let c2_i32_721 : BitVec 32 := 2#32
  let c0_i32_479 : BitVec 32 := 0#32
  let c1_i32_482 : BitVec 32 := 1#32
  let arg11 : BitVec 32 := Scf.iv c0_i32_479 c1_i32_482 k0_t1
  let v1680 : BitVec 32 := Scalar.muli c2_i32_721 arg11
  let c1_i32_1125 : BitVec 32 := 1#32
  let v2306 : BitVec 32 := Scalar.addi v1680 c1_i32_1125
  let c256_i32_1142 : BitVec 32 := 256#32
  let v2334 : BitVec 32 := Scalar.muli v2306 c256_i32_1142
  v2334
def k0_off15 (i : grid0.Coords) (k0_t1 : Fin (k0_t1_loop i).trips) : Fin 3 → Nat :=
  let c0_1143 : Index := 0#32
  let c128_1144 : Index := 128#32
  let c2_i32_721 : BitVec 32 := 2#32
  let c0_i32_479 : BitVec 32 := 0#32
  let c1_i32_482 : BitVec 32 := 1#32
  let arg11 : BitVec 32 := Scf.iv c0_i32_479 c1_i32_482 k0_t1
  let v1680 : BitVec 32 := Scalar.muli c2_i32_721 arg11
  let c1_i32_1125 : BitVec 32 := 1#32
  let v2306 : BitVec 32 := Scalar.addi v1680 c1_i32_1125
  let c256_i32_1142 : BitVec 32 := 256#32
  let v2334 : BitVec 32 := Scalar.muli v2306 c256_i32_1142
  let v2335 : BitVec 32 := v2334
  let v2336 : Index := Scalar.indexCast v2335
  ![0, 128, v2336.toNat]
def k0_mult33 (i : grid0.Coords) (k0_t1 : Fin (k0_t1_loop i).trips) : BitVec 32 :=
  let c2_i32_721 : BitVec 32 := 2#32
  let c0_i32_479 : BitVec 32 := 0#32
  let c1_i32_482 : BitVec 32 := 1#32
  let arg11 : BitVec 32 := Scf.iv c0_i32_479 c1_i32_482 k0_t1
  let v1680 : BitVec 32 := Scalar.muli c2_i32_721 arg11
  let c1_i32_1125 : BitVec 32 := 1#32
  let v2306 : BitVec 32 := Scalar.addi v1680 c1_i32_1125
  let c256_i32_1172 : BitVec 32 := 256#32
  let v2385 : BitVec 32 := Scalar.muli v2306 c256_i32_1172
  v2385
def k0_off16 (i : grid0.Coords) (k0_t1 : Fin (k0_t1_loop i).trips) : Fin 3 → Nat :=
  let c0_1173 : Index := 0#32
  let c192_1174 : Index := 192#32
  let c2_i32_721 : BitVec 32 := 2#32
  let c0_i32_479 : BitVec 32 := 0#32
  let c1_i32_482 : BitVec 32 := 1#32
  let arg11 : BitVec 32 := Scf.iv c0_i32_479 c1_i32_482 k0_t1
  let v1680 : BitVec 32 := Scalar.muli c2_i32_721 arg11
  let c1_i32_1125 : BitVec 32 := 1#32
  let v2306 : BitVec 32 := Scalar.addi v1680 c1_i32_1125
  let c256_i32_1172 : BitVec 32 := 256#32
  let v2385 : BitVec 32 := Scalar.muli v2306 c256_i32_1172
  let v2386 : BitVec 32 := v2385
  let v2387 : Index := Scalar.indexCast v2386
  ![0, 192, v2387.toNat]
def k0_mult34 (i : grid0.Coords) (k0_t1 : Fin (k0_t1_loop i).trips) : BitVec 32 :=
  let c2_i32_721 : BitVec 32 := 2#32
  let c0_i32_479 : BitVec 32 := 0#32
  let c1_i32_482 : BitVec 32 := 1#32
  let arg11 : BitVec 32 := Scf.iv c0_i32_479 c1_i32_482 k0_t1
  let v1680 : BitVec 32 := Scalar.muli c2_i32_721 arg11
  let c2_i32_1186 : BitVec 32 := 2#32
  let v2409 : BitVec 32 := Scalar.addi v1680 c2_i32_1186
  let c256_i32_1187 : BitVec 32 := 256#32
  let v2410 : BitVec 32 := Scalar.muli v2409 c256_i32_1187
  v2410
def k0_mult35 (i : grid0.Coords) (k0_t1 : Fin (k0_t1_loop i).trips) : BitVec 32 :=
  let c2_i32_721 : BitVec 32 := 2#32
  let c0_i32_479 : BitVec 32 := 0#32
  let c1_i32_482 : BitVec 32 := 1#32
  let arg11 : BitVec 32 := Scf.iv c0_i32_479 c1_i32_482 k0_t1
  let v1680 : BitVec 32 := Scalar.muli c2_i32_721 arg11
  let c2_i32_1186 : BitVec 32 := 2#32
  let v2409 : BitVec 32 := Scalar.addi v1680 c2_i32_1186
  let c256_i32_1195 : BitVec 32 := 256#32
  let v2419 : BitVec 32 := Scalar.muli v2409 c256_i32_1195
  v2419
def k0_mult36 (i : grid0.Coords) (k0_t1 : Fin (k0_t1_loop i).trips) : BitVec 32 :=
  let c2_i32_721 : BitVec 32 := 2#32
  let c0_i32_479 : BitVec 32 := 0#32
  let c1_i32_482 : BitVec 32 := 1#32
  let arg11 : BitVec 32 := Scf.iv c0_i32_479 c1_i32_482 k0_t1
  let v1680 : BitVec 32 := Scalar.muli c2_i32_721 arg11
  let c1_i32_1203 : BitVec 32 := 1#32
  let v2428 : BitVec 32 := Scalar.addi v1680 c1_i32_1203
  let c256_i32_1220 : BitVec 32 := 256#32
  let v2456 : BitVec 32 := Scalar.muli v2428 c256_i32_1220
  v2456
def k0_off17 (i : grid0.Coords) (k0_t1 : Fin (k0_t1_loop i).trips) : Fin 3 → Nat :=
  let c0_1221 : Index := 0#32
  let c256_1222 : Index := 256#32
  let c2_i32_721 : BitVec 32 := 2#32
  let c0_i32_479 : BitVec 32 := 0#32
  let c1_i32_482 : BitVec 32 := 1#32
  let arg11 : BitVec 32 := Scf.iv c0_i32_479 c1_i32_482 k0_t1
  let v1680 : BitVec 32 := Scalar.muli c2_i32_721 arg11
  let c1_i32_1203 : BitVec 32 := 1#32
  let v2428 : BitVec 32 := Scalar.addi v1680 c1_i32_1203
  let c256_i32_1220 : BitVec 32 := 256#32
  let v2456 : BitVec 32 := Scalar.muli v2428 c256_i32_1220
  let v2457 : BitVec 32 := v2456
  let v2458 : Index := Scalar.indexCast v2457
  ![0, 256, v2458.toNat]
def k0_mult37 (i : grid0.Coords) (k0_t1 : Fin (k0_t1_loop i).trips) : BitVec 32 :=
  let c2_i32_721 : BitVec 32 := 2#32
  let c0_i32_479 : BitVec 32 := 0#32
  let c1_i32_482 : BitVec 32 := 1#32
  let arg11 : BitVec 32 := Scf.iv c0_i32_479 c1_i32_482 k0_t1
  let v1680 : BitVec 32 := Scalar.muli c2_i32_721 arg11
  let c1_i32_1203 : BitVec 32 := 1#32
  let v2428 : BitVec 32 := Scalar.addi v1680 c1_i32_1203
  let c256_i32_1250 : BitVec 32 := 256#32
  let v2507 : BitVec 32 := Scalar.muli v2428 c256_i32_1250
  v2507
def k0_off18 (i : grid0.Coords) (k0_t1 : Fin (k0_t1_loop i).trips) : Fin 3 → Nat :=
  let c0_1251 : Index := 0#32
  let c320_1252 : Index := 320#32
  let c2_i32_721 : BitVec 32 := 2#32
  let c0_i32_479 : BitVec 32 := 0#32
  let c1_i32_482 : BitVec 32 := 1#32
  let arg11 : BitVec 32 := Scf.iv c0_i32_479 c1_i32_482 k0_t1
  let v1680 : BitVec 32 := Scalar.muli c2_i32_721 arg11
  let c1_i32_1203 : BitVec 32 := 1#32
  let v2428 : BitVec 32 := Scalar.addi v1680 c1_i32_1203
  let c256_i32_1250 : BitVec 32 := 256#32
  let v2507 : BitVec 32 := Scalar.muli v2428 c256_i32_1250
  let v2508 : BitVec 32 := v2507
  let v2509 : Index := Scalar.indexCast v2508
  ![0, 320, v2509.toNat]
def k0_mult38 (i : grid0.Coords) (k0_t1 : Fin (k0_t1_loop i).trips) : BitVec 32 :=
  let c2_i32_721 : BitVec 32 := 2#32
  let c0_i32_479 : BitVec 32 := 0#32
  let c1_i32_482 : BitVec 32 := 1#32
  let arg11 : BitVec 32 := Scf.iv c0_i32_479 c1_i32_482 k0_t1
  let v1680 : BitVec 32 := Scalar.muli c2_i32_721 arg11
  let c2_i32_1264 : BitVec 32 := 2#32
  let v2531 : BitVec 32 := Scalar.addi v1680 c2_i32_1264
  let c256_i32_1265 : BitVec 32 := 256#32
  let v2532 : BitVec 32 := Scalar.muli v2531 c256_i32_1265
  v2532
def k0_mult39 (i : grid0.Coords) (k0_t1 : Fin (k0_t1_loop i).trips) : BitVec 32 :=
  let c2_i32_721 : BitVec 32 := 2#32
  let c0_i32_479 : BitVec 32 := 0#32
  let c1_i32_482 : BitVec 32 := 1#32
  let arg11 : BitVec 32 := Scf.iv c0_i32_479 c1_i32_482 k0_t1
  let v1680 : BitVec 32 := Scalar.muli c2_i32_721 arg11
  let c2_i32_1264 : BitVec 32 := 2#32
  let v2531 : BitVec 32 := Scalar.addi v1680 c2_i32_1264
  let c256_i32_1273 : BitVec 32 := 256#32
  let v2541 : BitVec 32 := Scalar.muli v2531 c256_i32_1273
  v2541
def k0_mult40 (i : grid0.Coords) (k0_t1 : Fin (k0_t1_loop i).trips) : BitVec 32 :=
  let c2_i32_721 : BitVec 32 := 2#32
  let c0_i32_479 : BitVec 32 := 0#32
  let c1_i32_482 : BitVec 32 := 1#32
  let arg11 : BitVec 32 := Scf.iv c0_i32_479 c1_i32_482 k0_t1
  let v1680 : BitVec 32 := Scalar.muli c2_i32_721 arg11
  let c1_i32_1281 : BitVec 32 := 1#32
  let v2550 : BitVec 32 := Scalar.addi v1680 c1_i32_1281
  let c256_i32_1298 : BitVec 32 := 256#32
  let v2578 : BitVec 32 := Scalar.muli v2550 c256_i32_1298
  v2578
def k0_off19 (i : grid0.Coords) (k0_t1 : Fin (k0_t1_loop i).trips) : Fin 3 → Nat :=
  let c0_1299 : Index := 0#32
  let c384_1300 : Index := 384#32
  let c2_i32_721 : BitVec 32 := 2#32
  let c0_i32_479 : BitVec 32 := 0#32
  let c1_i32_482 : BitVec 32 := 1#32
  let arg11 : BitVec 32 := Scf.iv c0_i32_479 c1_i32_482 k0_t1
  let v1680 : BitVec 32 := Scalar.muli c2_i32_721 arg11
  let c1_i32_1281 : BitVec 32 := 1#32
  let v2550 : BitVec 32 := Scalar.addi v1680 c1_i32_1281
  let c256_i32_1298 : BitVec 32 := 256#32
  let v2578 : BitVec 32 := Scalar.muli v2550 c256_i32_1298
  let v2579 : BitVec 32 := v2578
  let v2580 : Index := Scalar.indexCast v2579
  ![0, 384, v2580.toNat]
def k0_mult41 (i : grid0.Coords) (k0_t1 : Fin (k0_t1_loop i).trips) : BitVec 32 :=
  let c2_i32_721 : BitVec 32 := 2#32
  let c0_i32_479 : BitVec 32 := 0#32
  let c1_i32_482 : BitVec 32 := 1#32
  let arg11 : BitVec 32 := Scf.iv c0_i32_479 c1_i32_482 k0_t1
  let v1680 : BitVec 32 := Scalar.muli c2_i32_721 arg11
  let c1_i32_1281 : BitVec 32 := 1#32
  let v2550 : BitVec 32 := Scalar.addi v1680 c1_i32_1281
  let c256_i32_1328 : BitVec 32 := 256#32
  let v2629 : BitVec 32 := Scalar.muli v2550 c256_i32_1328
  v2629
def k0_off20 (i : grid0.Coords) (k0_t1 : Fin (k0_t1_loop i).trips) : Fin 3 → Nat :=
  let c0_1329 : Index := 0#32
  let c448_1330 : Index := 448#32
  let c2_i32_721 : BitVec 32 := 2#32
  let c0_i32_479 : BitVec 32 := 0#32
  let c1_i32_482 : BitVec 32 := 1#32
  let arg11 : BitVec 32 := Scf.iv c0_i32_479 c1_i32_482 k0_t1
  let v1680 : BitVec 32 := Scalar.muli c2_i32_721 arg11
  let c1_i32_1281 : BitVec 32 := 1#32
  let v2550 : BitVec 32 := Scalar.addi v1680 c1_i32_1281
  let c256_i32_1328 : BitVec 32 := 256#32
  let v2629 : BitVec 32 := Scalar.muli v2550 c256_i32_1328
  let v2630 : BitVec 32 := v2629
  let v2631 : Index := Scalar.indexCast v2630
  ![0, 448, v2631.toNat]
@[reducible] def k0_t2_loop (i : grid0.Coords) : Scf.Loop 32 :=
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let v1212 : BitVec 32 := Scalar.addi c0_i32_479 v1211
  let c1_i32_483 : BitVec 32 := 1#32
  ⟨v1215, v1212, c1_i32_483⟩
def k0_mult42 (i : grid0.Coords) (k0_t2 : Fin (k0_t2_loop i).trips) : BitVec 32 :=
  let c2_i32_721 : BitVec 32 := 2#32
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let c1_i32_483 : BitVec 32 := 1#32
  let arg11 : BitVec 32 := Scf.iv v1215 c1_i32_483 k0_t2
  let v1680 : BitVec 32 := Scalar.muli c2_i32_721 arg11
  let c1_i32_722 : BitVec 32 := 1#32
  let v1681 : BitVec 32 := Scalar.addi v1680 c1_i32_722
  let c256_i32_723 : BitVec 32 := 256#32
  let v1682 : BitVec 32 := Scalar.muli v1681 c256_i32_723
  v1682
def k0_off21 (i : grid0.Coords) (k0_t2 : Fin (k0_t2_loop i).trips) (c1_i32_722 : BitVec 32) : Fin 3 → Nat :=
  let c0_724 : Index := 0#32
  let c2_i32_721 : BitVec 32 := 2#32
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let c1_i32_483 : BitVec 32 := 1#32
  let arg11 : BitVec 32 := Scf.iv v1215 c1_i32_483 k0_t2
  let v1680 : BitVec 32 := Scalar.muli c2_i32_721 arg11
  let v1681 : BitVec 32 := Scalar.addi v1680 c1_i32_722
  let c256_i32_723 : BitVec 32 := 256#32
  let v1682 : BitVec 32 := Scalar.muli v1681 c256_i32_723
  let v1683 : BitVec 32 := v1682
  let v1684 : Index := Scalar.indexCast v1683
  let c0_725 : Index := 0#32
  ![0, v1684.toNat, 0]
def k0_mult43 (i : grid0.Coords) (k0_t2 : Fin (k0_t2_loop i).trips) : BitVec 32 :=
  let c2_i32_721 : BitVec 32 := 2#32
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let c1_i32_483 : BitVec 32 := 1#32
  let arg11 : BitVec 32 := Scf.iv v1215 c1_i32_483 k0_t2
  let v1680 : BitVec 32 := Scalar.muli c2_i32_721 arg11
  let c1_i32_722 : BitVec 32 := 1#32
  let v1681 : BitVec 32 := Scalar.addi v1680 c1_i32_722
  let c256_i32_731 : BitVec 32 := 256#32
  let v1691 : BitVec 32 := Scalar.muli v1681 c256_i32_731
  v1691
def k0_mult44 (i : grid0.Coords) (k0_t2 : Fin (k0_t2_loop i).trips) : BitVec 32 :=
  let c2_i32_721 : BitVec 32 := 2#32
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let c1_i32_483 : BitVec 32 := 1#32
  let arg11 : BitVec 32 := Scf.iv v1215 c1_i32_483 k0_t2
  let v1680 : BitVec 32 := Scalar.muli c2_i32_721 arg11
  let c256_i32_755 : BitVec 32 := 256#32
  let v1727 : BitVec 32 := Scalar.muli v1680 c256_i32_755
  v1727
def k0_off22 (i : grid0.Coords) (k0_t2 : Fin (k0_t2_loop i).trips) : Fin 3 → Nat :=
  let c0_756 : Index := 0#32
  let c0_757 : Index := 0#32
  let c2_i32_721 : BitVec 32 := 2#32
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let c1_i32_483 : BitVec 32 := 1#32
  let arg11 : BitVec 32 := Scf.iv v1215 c1_i32_483 k0_t2
  let v1680 : BitVec 32 := Scalar.muli c2_i32_721 arg11
  let c256_i32_755 : BitVec 32 := 256#32
  let v1727 : BitVec 32 := Scalar.muli v1680 c256_i32_755
  let v1728 : BitVec 32 := v1727
  let v1729 : Index := Scalar.indexCast v1728
  ![0, 0, v1729.toNat]
def k0_mult45 (i : grid0.Coords) (k0_t2 : Fin (k0_t2_loop i).trips) : BitVec 32 :=
  let c2_i32_721 : BitVec 32 := 2#32
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let c1_i32_483 : BitVec 32 := 1#32
  let arg11 : BitVec 32 := Scf.iv v1215 c1_i32_483 k0_t2
  let v1680 : BitVec 32 := Scalar.muli c2_i32_721 arg11
  let c256_i32_785 : BitVec 32 := 256#32
  let v1778 : BitVec 32 := Scalar.muli v1680 c256_i32_785
  v1778
def k0_off23 (i : grid0.Coords) (k0_t2 : Fin (k0_t2_loop i).trips) : Fin 3 → Nat :=
  let c0_786 : Index := 0#32
  let c64_787 : Index := 64#32
  let c2_i32_721 : BitVec 32 := 2#32
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let c1_i32_483 : BitVec 32 := 1#32
  let arg11 : BitVec 32 := Scf.iv v1215 c1_i32_483 k0_t2
  let v1680 : BitVec 32 := Scalar.muli c2_i32_721 arg11
  let c256_i32_785 : BitVec 32 := 256#32
  let v1778 : BitVec 32 := Scalar.muli v1680 c256_i32_785
  let v1779 : BitVec 32 := v1778
  let v1780 : Index := Scalar.indexCast v1779
  ![0, 64, v1780.toNat]
def k0_mult46 (i : grid0.Coords) (k0_t2 : Fin (k0_t2_loop i).trips) : BitVec 32 :=
  let c2_i32_721 : BitVec 32 := 2#32
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let c1_i32_483 : BitVec 32 := 1#32
  let arg11 : BitVec 32 := Scf.iv v1215 c1_i32_483 k0_t2
  let v1680 : BitVec 32 := Scalar.muli c2_i32_721 arg11
  let c1_i32_799 : BitVec 32 := 1#32
  let v1802 : BitVec 32 := Scalar.addi v1680 c1_i32_799
  let c256_i32_800 : BitVec 32 := 256#32
  let v1803 : BitVec 32 := Scalar.muli v1802 c256_i32_800
  v1803
def k0_off24 (i : grid0.Coords) (k0_t2 : Fin (k0_t2_loop i).trips) (c1_i32_799 : BitVec 32) : Fin 3 → Nat :=
  let c0_801 : Index := 0#32
  let c2_i32_721 : BitVec 32 := 2#32
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let c1_i32_483 : BitVec 32 := 1#32
  let arg11 : BitVec 32 := Scf.iv v1215 c1_i32_483 k0_t2
  let v1680 : BitVec 32 := Scalar.muli c2_i32_721 arg11
  let v1802 : BitVec 32 := Scalar.addi v1680 c1_i32_799
  let c256_i32_800 : BitVec 32 := 256#32
  let v1803 : BitVec 32 := Scalar.muli v1802 c256_i32_800
  let v1804 : BitVec 32 := v1803
  let v1805 : Index := Scalar.indexCast v1804
  let c128_802 : Index := 128#32
  ![0, v1805.toNat, 128]
def k0_mult47 (i : grid0.Coords) (k0_t2 : Fin (k0_t2_loop i).trips) : BitVec 32 :=
  let c2_i32_721 : BitVec 32 := 2#32
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let c1_i32_483 : BitVec 32 := 1#32
  let arg11 : BitVec 32 := Scf.iv v1215 c1_i32_483 k0_t2
  let v1680 : BitVec 32 := Scalar.muli c2_i32_721 arg11
  let c1_i32_799 : BitVec 32 := 1#32
  let v1802 : BitVec 32 := Scalar.addi v1680 c1_i32_799
  let c256_i32_808 : BitVec 32 := 256#32
  let v1812 : BitVec 32 := Scalar.muli v1802 c256_i32_808
  v1812
def k0_mult48 (i : grid0.Coords) (k0_t2 : Fin (k0_t2_loop i).trips) : BitVec 32 :=
  let c2_i32_721 : BitVec 32 := 2#32
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let c1_i32_483 : BitVec 32 := 1#32
  let arg11 : BitVec 32 := Scf.iv v1215 c1_i32_483 k0_t2
  let v1680 : BitVec 32 := Scalar.muli c2_i32_721 arg11
  let c256_i32_832 : BitVec 32 := 256#32
  let v1848 : BitVec 32 := Scalar.muli v1680 c256_i32_832
  v1848
def k0_off25 (i : grid0.Coords) (k0_t2 : Fin (k0_t2_loop i).trips) : Fin 3 → Nat :=
  let c0_833 : Index := 0#32
  let c128_834 : Index := 128#32
  let c2_i32_721 : BitVec 32 := 2#32
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let c1_i32_483 : BitVec 32 := 1#32
  let arg11 : BitVec 32 := Scf.iv v1215 c1_i32_483 k0_t2
  let v1680 : BitVec 32 := Scalar.muli c2_i32_721 arg11
  let c256_i32_832 : BitVec 32 := 256#32
  let v1848 : BitVec 32 := Scalar.muli v1680 c256_i32_832
  let v1849 : BitVec 32 := v1848
  let v1850 : Index := Scalar.indexCast v1849
  ![0, 128, v1850.toNat]
def k0_mult49 (i : grid0.Coords) (k0_t2 : Fin (k0_t2_loop i).trips) : BitVec 32 :=
  let c2_i32_721 : BitVec 32 := 2#32
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let c1_i32_483 : BitVec 32 := 1#32
  let arg11 : BitVec 32 := Scf.iv v1215 c1_i32_483 k0_t2
  let v1680 : BitVec 32 := Scalar.muli c2_i32_721 arg11
  let c256_i32_862 : BitVec 32 := 256#32
  let v1899 : BitVec 32 := Scalar.muli v1680 c256_i32_862
  v1899
def k0_off26 (i : grid0.Coords) (k0_t2 : Fin (k0_t2_loop i).trips) : Fin 3 → Nat :=
  let c0_863 : Index := 0#32
  let c192_864 : Index := 192#32
  let c2_i32_721 : BitVec 32 := 2#32
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let c1_i32_483 : BitVec 32 := 1#32
  let arg11 : BitVec 32 := Scf.iv v1215 c1_i32_483 k0_t2
  let v1680 : BitVec 32 := Scalar.muli c2_i32_721 arg11
  let c256_i32_862 : BitVec 32 := 256#32
  let v1899 : BitVec 32 := Scalar.muli v1680 c256_i32_862
  let v1900 : BitVec 32 := v1899
  let v1901 : Index := Scalar.indexCast v1900
  ![0, 192, v1901.toNat]
def k0_mult50 (i : grid0.Coords) (k0_t2 : Fin (k0_t2_loop i).trips) : BitVec 32 :=
  let c2_i32_721 : BitVec 32 := 2#32
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let c1_i32_483 : BitVec 32 := 1#32
  let arg11 : BitVec 32 := Scf.iv v1215 c1_i32_483 k0_t2
  let v1680 : BitVec 32 := Scalar.muli c2_i32_721 arg11
  let c1_i32_876 : BitVec 32 := 1#32
  let v1923 : BitVec 32 := Scalar.addi v1680 c1_i32_876
  let c256_i32_877 : BitVec 32 := 256#32
  let v1924 : BitVec 32 := Scalar.muli v1923 c256_i32_877
  v1924
def k0_off27 (i : grid0.Coords) (k0_t2 : Fin (k0_t2_loop i).trips) (c1_i32_876 : BitVec 32) : Fin 3 → Nat :=
  let c0_878 : Index := 0#32
  let c2_i32_721 : BitVec 32 := 2#32
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let c1_i32_483 : BitVec 32 := 1#32
  let arg11 : BitVec 32 := Scf.iv v1215 c1_i32_483 k0_t2
  let v1680 : BitVec 32 := Scalar.muli c2_i32_721 arg11
  let v1923 : BitVec 32 := Scalar.addi v1680 c1_i32_876
  let c256_i32_877 : BitVec 32 := 256#32
  let v1924 : BitVec 32 := Scalar.muli v1923 c256_i32_877
  let v1925 : BitVec 32 := v1924
  let v1926 : Index := Scalar.indexCast v1925
  let c256_879 : Index := 256#32
  ![0, v1926.toNat, 256]
def k0_mult51 (i : grid0.Coords) (k0_t2 : Fin (k0_t2_loop i).trips) : BitVec 32 :=
  let c2_i32_721 : BitVec 32 := 2#32
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let c1_i32_483 : BitVec 32 := 1#32
  let arg11 : BitVec 32 := Scf.iv v1215 c1_i32_483 k0_t2
  let v1680 : BitVec 32 := Scalar.muli c2_i32_721 arg11
  let c1_i32_876 : BitVec 32 := 1#32
  let v1923 : BitVec 32 := Scalar.addi v1680 c1_i32_876
  let c256_i32_885 : BitVec 32 := 256#32
  let v1933 : BitVec 32 := Scalar.muli v1923 c256_i32_885
  v1933
def k0_mult52 (i : grid0.Coords) (k0_t2 : Fin (k0_t2_loop i).trips) : BitVec 32 :=
  let c2_i32_721 : BitVec 32 := 2#32
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let c1_i32_483 : BitVec 32 := 1#32
  let arg11 : BitVec 32 := Scf.iv v1215 c1_i32_483 k0_t2
  let v1680 : BitVec 32 := Scalar.muli c2_i32_721 arg11
  let c256_i32_909 : BitVec 32 := 256#32
  let v1969 : BitVec 32 := Scalar.muli v1680 c256_i32_909
  v1969
def k0_off28 (i : grid0.Coords) (k0_t2 : Fin (k0_t2_loop i).trips) : Fin 3 → Nat :=
  let c0_910 : Index := 0#32
  let c256_911 : Index := 256#32
  let c2_i32_721 : BitVec 32 := 2#32
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let c1_i32_483 : BitVec 32 := 1#32
  let arg11 : BitVec 32 := Scf.iv v1215 c1_i32_483 k0_t2
  let v1680 : BitVec 32 := Scalar.muli c2_i32_721 arg11
  let c256_i32_909 : BitVec 32 := 256#32
  let v1969 : BitVec 32 := Scalar.muli v1680 c256_i32_909
  let v1970 : BitVec 32 := v1969
  let v1971 : Index := Scalar.indexCast v1970
  ![0, 256, v1971.toNat]
def k0_mult53 (i : grid0.Coords) (k0_t2 : Fin (k0_t2_loop i).trips) : BitVec 32 :=
  let c2_i32_721 : BitVec 32 := 2#32
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let c1_i32_483 : BitVec 32 := 1#32
  let arg11 : BitVec 32 := Scf.iv v1215 c1_i32_483 k0_t2
  let v1680 : BitVec 32 := Scalar.muli c2_i32_721 arg11
  let c256_i32_939 : BitVec 32 := 256#32
  let v2020 : BitVec 32 := Scalar.muli v1680 c256_i32_939
  v2020
def k0_off29 (i : grid0.Coords) (k0_t2 : Fin (k0_t2_loop i).trips) : Fin 3 → Nat :=
  let c0_940 : Index := 0#32
  let c320_941 : Index := 320#32
  let c2_i32_721 : BitVec 32 := 2#32
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let c1_i32_483 : BitVec 32 := 1#32
  let arg11 : BitVec 32 := Scf.iv v1215 c1_i32_483 k0_t2
  let v1680 : BitVec 32 := Scalar.muli c2_i32_721 arg11
  let c256_i32_939 : BitVec 32 := 256#32
  let v2020 : BitVec 32 := Scalar.muli v1680 c256_i32_939
  let v2021 : BitVec 32 := v2020
  let v2022 : Index := Scalar.indexCast v2021
  ![0, 320, v2022.toNat]
def k0_mult54 (i : grid0.Coords) (k0_t2 : Fin (k0_t2_loop i).trips) : BitVec 32 :=
  let c2_i32_721 : BitVec 32 := 2#32
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let c1_i32_483 : BitVec 32 := 1#32
  let arg11 : BitVec 32 := Scf.iv v1215 c1_i32_483 k0_t2
  let v1680 : BitVec 32 := Scalar.muli c2_i32_721 arg11
  let c1_i32_953 : BitVec 32 := 1#32
  let v2044 : BitVec 32 := Scalar.addi v1680 c1_i32_953
  let c256_i32_954 : BitVec 32 := 256#32
  let v2045 : BitVec 32 := Scalar.muli v2044 c256_i32_954
  v2045
def k0_off30 (i : grid0.Coords) (k0_t2 : Fin (k0_t2_loop i).trips) (c1_i32_953 : BitVec 32) : Fin 3 → Nat :=
  let c0_955 : Index := 0#32
  let c2_i32_721 : BitVec 32 := 2#32
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let c1_i32_483 : BitVec 32 := 1#32
  let arg11 : BitVec 32 := Scf.iv v1215 c1_i32_483 k0_t2
  let v1680 : BitVec 32 := Scalar.muli c2_i32_721 arg11
  let v2044 : BitVec 32 := Scalar.addi v1680 c1_i32_953
  let c256_i32_954 : BitVec 32 := 256#32
  let v2045 : BitVec 32 := Scalar.muli v2044 c256_i32_954
  let v2046 : BitVec 32 := v2045
  let v2047 : Index := Scalar.indexCast v2046
  let c384_956 : Index := 384#32
  ![0, v2047.toNat, 384]
def k0_mult55 (i : grid0.Coords) (k0_t2 : Fin (k0_t2_loop i).trips) : BitVec 32 :=
  let c2_i32_721 : BitVec 32 := 2#32
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let c1_i32_483 : BitVec 32 := 1#32
  let arg11 : BitVec 32 := Scf.iv v1215 c1_i32_483 k0_t2
  let v1680 : BitVec 32 := Scalar.muli c2_i32_721 arg11
  let c1_i32_953 : BitVec 32 := 1#32
  let v2044 : BitVec 32 := Scalar.addi v1680 c1_i32_953
  let c256_i32_962 : BitVec 32 := 256#32
  let v2054 : BitVec 32 := Scalar.muli v2044 c256_i32_962
  v2054
def k0_mult56 (i : grid0.Coords) (k0_t2 : Fin (k0_t2_loop i).trips) : BitVec 32 :=
  let c2_i32_721 : BitVec 32 := 2#32
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let c1_i32_483 : BitVec 32 := 1#32
  let arg11 : BitVec 32 := Scf.iv v1215 c1_i32_483 k0_t2
  let v1680 : BitVec 32 := Scalar.muli c2_i32_721 arg11
  let c256_i32_986 : BitVec 32 := 256#32
  let v2090 : BitVec 32 := Scalar.muli v1680 c256_i32_986
  v2090
def k0_off31 (i : grid0.Coords) (k0_t2 : Fin (k0_t2_loop i).trips) : Fin 3 → Nat :=
  let c0_987 : Index := 0#32
  let c384_988 : Index := 384#32
  let c2_i32_721 : BitVec 32 := 2#32
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let c1_i32_483 : BitVec 32 := 1#32
  let arg11 : BitVec 32 := Scf.iv v1215 c1_i32_483 k0_t2
  let v1680 : BitVec 32 := Scalar.muli c2_i32_721 arg11
  let c256_i32_986 : BitVec 32 := 256#32
  let v2090 : BitVec 32 := Scalar.muli v1680 c256_i32_986
  let v2091 : BitVec 32 := v2090
  let v2092 : Index := Scalar.indexCast v2091
  ![0, 384, v2092.toNat]
def k0_mult57 (i : grid0.Coords) (k0_t2 : Fin (k0_t2_loop i).trips) : BitVec 32 :=
  let c2_i32_721 : BitVec 32 := 2#32
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let c1_i32_483 : BitVec 32 := 1#32
  let arg11 : BitVec 32 := Scf.iv v1215 c1_i32_483 k0_t2
  let v1680 : BitVec 32 := Scalar.muli c2_i32_721 arg11
  let c256_i32_1016 : BitVec 32 := 256#32
  let v2141 : BitVec 32 := Scalar.muli v1680 c256_i32_1016
  v2141
def k0_off32 (i : grid0.Coords) (k0_t2 : Fin (k0_t2_loop i).trips) : Fin 3 → Nat :=
  let c0_1017 : Index := 0#32
  let c448_1018 : Index := 448#32
  let c2_i32_721 : BitVec 32 := 2#32
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let c1_i32_483 : BitVec 32 := 1#32
  let arg11 : BitVec 32 := Scf.iv v1215 c1_i32_483 k0_t2
  let v1680 : BitVec 32 := Scalar.muli c2_i32_721 arg11
  let c256_i32_1016 : BitVec 32 := 256#32
  let v2141 : BitVec 32 := Scalar.muli v1680 c256_i32_1016
  let v2142 : BitVec 32 := v2141
  let v2143 : Index := Scalar.indexCast v2142
  ![0, 448, v2143.toNat]
def k0_mult58 (i : grid0.Coords) (k0_t2 : Fin (k0_t2_loop i).trips) : BitVec 32 :=
  let c2_i32_721 : BitVec 32 := 2#32
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let c1_i32_483 : BitVec 32 := 1#32
  let arg11 : BitVec 32 := Scf.iv v1215 c1_i32_483 k0_t2
  let v1680 : BitVec 32 := Scalar.muli c2_i32_721 arg11
  let c2_i32_1030 : BitVec 32 := 2#32
  let v2165 : BitVec 32 := Scalar.addi v1680 c2_i32_1030
  let c256_i32_1031 : BitVec 32 := 256#32
  let v2166 : BitVec 32 := Scalar.muli v2165 c256_i32_1031
  v2166
def k0_mult59 (i : grid0.Coords) (k0_t2 : Fin (k0_t2_loop i).trips) : BitVec 32 :=
  let c2_i32_721 : BitVec 32 := 2#32
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let c1_i32_483 : BitVec 32 := 1#32
  let arg11 : BitVec 32 := Scf.iv v1215 c1_i32_483 k0_t2
  let v1680 : BitVec 32 := Scalar.muli c2_i32_721 arg11
  let c2_i32_1030 : BitVec 32 := 2#32
  let v2165 : BitVec 32 := Scalar.addi v1680 c2_i32_1030
  let c256_i32_1039 : BitVec 32 := 256#32
  let v2175 : BitVec 32 := Scalar.muli v2165 c256_i32_1039
  v2175
def k0_mult60 (i : grid0.Coords) (k0_t2 : Fin (k0_t2_loop i).trips) : BitVec 32 :=
  let c2_i32_721 : BitVec 32 := 2#32
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let c1_i32_483 : BitVec 32 := 1#32
  let arg11 : BitVec 32 := Scf.iv v1215 c1_i32_483 k0_t2
  let v1680 : BitVec 32 := Scalar.muli c2_i32_721 arg11
  let c1_i32_1047 : BitVec 32 := 1#32
  let v2184 : BitVec 32 := Scalar.addi v1680 c1_i32_1047
  let c256_i32_1064 : BitVec 32 := 256#32
  let v2212 : BitVec 32 := Scalar.muli v2184 c256_i32_1064
  v2212
def k0_off33 (i : grid0.Coords) (k0_t2 : Fin (k0_t2_loop i).trips) : Fin 3 → Nat :=
  let c0_1065 : Index := 0#32
  let c0_1066 : Index := 0#32
  let c2_i32_721 : BitVec 32 := 2#32
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let c1_i32_483 : BitVec 32 := 1#32
  let arg11 : BitVec 32 := Scf.iv v1215 c1_i32_483 k0_t2
  let v1680 : BitVec 32 := Scalar.muli c2_i32_721 arg11
  let c1_i32_1047 : BitVec 32 := 1#32
  let v2184 : BitVec 32 := Scalar.addi v1680 c1_i32_1047
  let c256_i32_1064 : BitVec 32 := 256#32
  let v2212 : BitVec 32 := Scalar.muli v2184 c256_i32_1064
  let v2213 : BitVec 32 := v2212
  let v2214 : Index := Scalar.indexCast v2213
  ![0, 0, v2214.toNat]
def k0_mult61 (i : grid0.Coords) (k0_t2 : Fin (k0_t2_loop i).trips) : BitVec 32 :=
  let c2_i32_721 : BitVec 32 := 2#32
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let c1_i32_483 : BitVec 32 := 1#32
  let arg11 : BitVec 32 := Scf.iv v1215 c1_i32_483 k0_t2
  let v1680 : BitVec 32 := Scalar.muli c2_i32_721 arg11
  let c1_i32_1047 : BitVec 32 := 1#32
  let v2184 : BitVec 32 := Scalar.addi v1680 c1_i32_1047
  let c256_i32_1094 : BitVec 32 := 256#32
  let v2263 : BitVec 32 := Scalar.muli v2184 c256_i32_1094
  v2263
def k0_off34 (i : grid0.Coords) (k0_t2 : Fin (k0_t2_loop i).trips) : Fin 3 → Nat :=
  let c0_1095 : Index := 0#32
  let c64_1096 : Index := 64#32
  let c2_i32_721 : BitVec 32 := 2#32
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let c1_i32_483 : BitVec 32 := 1#32
  let arg11 : BitVec 32 := Scf.iv v1215 c1_i32_483 k0_t2
  let v1680 : BitVec 32 := Scalar.muli c2_i32_721 arg11
  let c1_i32_1047 : BitVec 32 := 1#32
  let v2184 : BitVec 32 := Scalar.addi v1680 c1_i32_1047
  let c256_i32_1094 : BitVec 32 := 256#32
  let v2263 : BitVec 32 := Scalar.muli v2184 c256_i32_1094
  let v2264 : BitVec 32 := v2263
  let v2265 : Index := Scalar.indexCast v2264
  ![0, 64, v2265.toNat]
def k0_mult62 (i : grid0.Coords) (k0_t2 : Fin (k0_t2_loop i).trips) : BitVec 32 :=
  let c2_i32_721 : BitVec 32 := 2#32
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let c1_i32_483 : BitVec 32 := 1#32
  let arg11 : BitVec 32 := Scf.iv v1215 c1_i32_483 k0_t2
  let v1680 : BitVec 32 := Scalar.muli c2_i32_721 arg11
  let c2_i32_1108 : BitVec 32 := 2#32
  let v2287 : BitVec 32 := Scalar.addi v1680 c2_i32_1108
  let c256_i32_1109 : BitVec 32 := 256#32
  let v2288 : BitVec 32 := Scalar.muli v2287 c256_i32_1109
  v2288
def k0_mult63 (i : grid0.Coords) (k0_t2 : Fin (k0_t2_loop i).trips) : BitVec 32 :=
  let c2_i32_721 : BitVec 32 := 2#32
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let c1_i32_483 : BitVec 32 := 1#32
  let arg11 : BitVec 32 := Scf.iv v1215 c1_i32_483 k0_t2
  let v1680 : BitVec 32 := Scalar.muli c2_i32_721 arg11
  let c2_i32_1108 : BitVec 32 := 2#32
  let v2287 : BitVec 32 := Scalar.addi v1680 c2_i32_1108
  let c256_i32_1117 : BitVec 32 := 256#32
  let v2297 : BitVec 32 := Scalar.muli v2287 c256_i32_1117
  v2297
def k0_mult64 (i : grid0.Coords) (k0_t2 : Fin (k0_t2_loop i).trips) : BitVec 32 :=
  let c2_i32_721 : BitVec 32 := 2#32
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let c1_i32_483 : BitVec 32 := 1#32
  let arg11 : BitVec 32 := Scf.iv v1215 c1_i32_483 k0_t2
  let v1680 : BitVec 32 := Scalar.muli c2_i32_721 arg11
  let c1_i32_1125 : BitVec 32 := 1#32
  let v2306 : BitVec 32 := Scalar.addi v1680 c1_i32_1125
  let c256_i32_1142 : BitVec 32 := 256#32
  let v2334 : BitVec 32 := Scalar.muli v2306 c256_i32_1142
  v2334
def k0_off35 (i : grid0.Coords) (k0_t2 : Fin (k0_t2_loop i).trips) : Fin 3 → Nat :=
  let c0_1143 : Index := 0#32
  let c128_1144 : Index := 128#32
  let c2_i32_721 : BitVec 32 := 2#32
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let c1_i32_483 : BitVec 32 := 1#32
  let arg11 : BitVec 32 := Scf.iv v1215 c1_i32_483 k0_t2
  let v1680 : BitVec 32 := Scalar.muli c2_i32_721 arg11
  let c1_i32_1125 : BitVec 32 := 1#32
  let v2306 : BitVec 32 := Scalar.addi v1680 c1_i32_1125
  let c256_i32_1142 : BitVec 32 := 256#32
  let v2334 : BitVec 32 := Scalar.muli v2306 c256_i32_1142
  let v2335 : BitVec 32 := v2334
  let v2336 : Index := Scalar.indexCast v2335
  ![0, 128, v2336.toNat]
def k0_mult65 (i : grid0.Coords) (k0_t2 : Fin (k0_t2_loop i).trips) : BitVec 32 :=
  let c2_i32_721 : BitVec 32 := 2#32
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let c1_i32_483 : BitVec 32 := 1#32
  let arg11 : BitVec 32 := Scf.iv v1215 c1_i32_483 k0_t2
  let v1680 : BitVec 32 := Scalar.muli c2_i32_721 arg11
  let c1_i32_1125 : BitVec 32 := 1#32
  let v2306 : BitVec 32 := Scalar.addi v1680 c1_i32_1125
  let c256_i32_1172 : BitVec 32 := 256#32
  let v2385 : BitVec 32 := Scalar.muli v2306 c256_i32_1172
  v2385
def k0_off36 (i : grid0.Coords) (k0_t2 : Fin (k0_t2_loop i).trips) : Fin 3 → Nat :=
  let c0_1173 : Index := 0#32
  let c192_1174 : Index := 192#32
  let c2_i32_721 : BitVec 32 := 2#32
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let c1_i32_483 : BitVec 32 := 1#32
  let arg11 : BitVec 32 := Scf.iv v1215 c1_i32_483 k0_t2
  let v1680 : BitVec 32 := Scalar.muli c2_i32_721 arg11
  let c1_i32_1125 : BitVec 32 := 1#32
  let v2306 : BitVec 32 := Scalar.addi v1680 c1_i32_1125
  let c256_i32_1172 : BitVec 32 := 256#32
  let v2385 : BitVec 32 := Scalar.muli v2306 c256_i32_1172
  let v2386 : BitVec 32 := v2385
  let v2387 : Index := Scalar.indexCast v2386
  ![0, 192, v2387.toNat]
def k0_mult66 (i : grid0.Coords) (k0_t2 : Fin (k0_t2_loop i).trips) : BitVec 32 :=
  let c2_i32_721 : BitVec 32 := 2#32
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let c1_i32_483 : BitVec 32 := 1#32
  let arg11 : BitVec 32 := Scf.iv v1215 c1_i32_483 k0_t2
  let v1680 : BitVec 32 := Scalar.muli c2_i32_721 arg11
  let c2_i32_1186 : BitVec 32 := 2#32
  let v2409 : BitVec 32 := Scalar.addi v1680 c2_i32_1186
  let c256_i32_1187 : BitVec 32 := 256#32
  let v2410 : BitVec 32 := Scalar.muli v2409 c256_i32_1187
  v2410
def k0_mult67 (i : grid0.Coords) (k0_t2 : Fin (k0_t2_loop i).trips) : BitVec 32 :=
  let c2_i32_721 : BitVec 32 := 2#32
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let c1_i32_483 : BitVec 32 := 1#32
  let arg11 : BitVec 32 := Scf.iv v1215 c1_i32_483 k0_t2
  let v1680 : BitVec 32 := Scalar.muli c2_i32_721 arg11
  let c2_i32_1186 : BitVec 32 := 2#32
  let v2409 : BitVec 32 := Scalar.addi v1680 c2_i32_1186
  let c256_i32_1195 : BitVec 32 := 256#32
  let v2419 : BitVec 32 := Scalar.muli v2409 c256_i32_1195
  v2419
def k0_mult68 (i : grid0.Coords) (k0_t2 : Fin (k0_t2_loop i).trips) : BitVec 32 :=
  let c2_i32_721 : BitVec 32 := 2#32
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let c1_i32_483 : BitVec 32 := 1#32
  let arg11 : BitVec 32 := Scf.iv v1215 c1_i32_483 k0_t2
  let v1680 : BitVec 32 := Scalar.muli c2_i32_721 arg11
  let c1_i32_1203 : BitVec 32 := 1#32
  let v2428 : BitVec 32 := Scalar.addi v1680 c1_i32_1203
  let c256_i32_1220 : BitVec 32 := 256#32
  let v2456 : BitVec 32 := Scalar.muli v2428 c256_i32_1220
  v2456
def k0_off37 (i : grid0.Coords) (k0_t2 : Fin (k0_t2_loop i).trips) : Fin 3 → Nat :=
  let c0_1221 : Index := 0#32
  let c256_1222 : Index := 256#32
  let c2_i32_721 : BitVec 32 := 2#32
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let c1_i32_483 : BitVec 32 := 1#32
  let arg11 : BitVec 32 := Scf.iv v1215 c1_i32_483 k0_t2
  let v1680 : BitVec 32 := Scalar.muli c2_i32_721 arg11
  let c1_i32_1203 : BitVec 32 := 1#32
  let v2428 : BitVec 32 := Scalar.addi v1680 c1_i32_1203
  let c256_i32_1220 : BitVec 32 := 256#32
  let v2456 : BitVec 32 := Scalar.muli v2428 c256_i32_1220
  let v2457 : BitVec 32 := v2456
  let v2458 : Index := Scalar.indexCast v2457
  ![0, 256, v2458.toNat]
def k0_mult69 (i : grid0.Coords) (k0_t2 : Fin (k0_t2_loop i).trips) : BitVec 32 :=
  let c2_i32_721 : BitVec 32 := 2#32
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let c1_i32_483 : BitVec 32 := 1#32
  let arg11 : BitVec 32 := Scf.iv v1215 c1_i32_483 k0_t2
  let v1680 : BitVec 32 := Scalar.muli c2_i32_721 arg11
  let c1_i32_1203 : BitVec 32 := 1#32
  let v2428 : BitVec 32 := Scalar.addi v1680 c1_i32_1203
  let c256_i32_1250 : BitVec 32 := 256#32
  let v2507 : BitVec 32 := Scalar.muli v2428 c256_i32_1250
  v2507
def k0_off38 (i : grid0.Coords) (k0_t2 : Fin (k0_t2_loop i).trips) : Fin 3 → Nat :=
  let c0_1251 : Index := 0#32
  let c320_1252 : Index := 320#32
  let c2_i32_721 : BitVec 32 := 2#32
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let c1_i32_483 : BitVec 32 := 1#32
  let arg11 : BitVec 32 := Scf.iv v1215 c1_i32_483 k0_t2
  let v1680 : BitVec 32 := Scalar.muli c2_i32_721 arg11
  let c1_i32_1203 : BitVec 32 := 1#32
  let v2428 : BitVec 32 := Scalar.addi v1680 c1_i32_1203
  let c256_i32_1250 : BitVec 32 := 256#32
  let v2507 : BitVec 32 := Scalar.muli v2428 c256_i32_1250
  let v2508 : BitVec 32 := v2507
  let v2509 : Index := Scalar.indexCast v2508
  ![0, 320, v2509.toNat]
def k0_mult70 (i : grid0.Coords) (k0_t2 : Fin (k0_t2_loop i).trips) : BitVec 32 :=
  let c2_i32_721 : BitVec 32 := 2#32
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let c1_i32_483 : BitVec 32 := 1#32
  let arg11 : BitVec 32 := Scf.iv v1215 c1_i32_483 k0_t2
  let v1680 : BitVec 32 := Scalar.muli c2_i32_721 arg11
  let c2_i32_1264 : BitVec 32 := 2#32
  let v2531 : BitVec 32 := Scalar.addi v1680 c2_i32_1264
  let c256_i32_1265 : BitVec 32 := 256#32
  let v2532 : BitVec 32 := Scalar.muli v2531 c256_i32_1265
  v2532
def k0_mult71 (i : grid0.Coords) (k0_t2 : Fin (k0_t2_loop i).trips) : BitVec 32 :=
  let c2_i32_721 : BitVec 32 := 2#32
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let c1_i32_483 : BitVec 32 := 1#32
  let arg11 : BitVec 32 := Scf.iv v1215 c1_i32_483 k0_t2
  let v1680 : BitVec 32 := Scalar.muli c2_i32_721 arg11
  let c2_i32_1264 : BitVec 32 := 2#32
  let v2531 : BitVec 32 := Scalar.addi v1680 c2_i32_1264
  let c256_i32_1273 : BitVec 32 := 256#32
  let v2541 : BitVec 32 := Scalar.muli v2531 c256_i32_1273
  v2541
def k0_mult72 (i : grid0.Coords) (k0_t2 : Fin (k0_t2_loop i).trips) : BitVec 32 :=
  let c2_i32_721 : BitVec 32 := 2#32
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let c1_i32_483 : BitVec 32 := 1#32
  let arg11 : BitVec 32 := Scf.iv v1215 c1_i32_483 k0_t2
  let v1680 : BitVec 32 := Scalar.muli c2_i32_721 arg11
  let c1_i32_1281 : BitVec 32 := 1#32
  let v2550 : BitVec 32 := Scalar.addi v1680 c1_i32_1281
  let c256_i32_1298 : BitVec 32 := 256#32
  let v2578 : BitVec 32 := Scalar.muli v2550 c256_i32_1298
  v2578
def k0_off39 (i : grid0.Coords) (k0_t2 : Fin (k0_t2_loop i).trips) : Fin 3 → Nat :=
  let c0_1299 : Index := 0#32
  let c384_1300 : Index := 384#32
  let c2_i32_721 : BitVec 32 := 2#32
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let c1_i32_483 : BitVec 32 := 1#32
  let arg11 : BitVec 32 := Scf.iv v1215 c1_i32_483 k0_t2
  let v1680 : BitVec 32 := Scalar.muli c2_i32_721 arg11
  let c1_i32_1281 : BitVec 32 := 1#32
  let v2550 : BitVec 32 := Scalar.addi v1680 c1_i32_1281
  let c256_i32_1298 : BitVec 32 := 256#32
  let v2578 : BitVec 32 := Scalar.muli v2550 c256_i32_1298
  let v2579 : BitVec 32 := v2578
  let v2580 : Index := Scalar.indexCast v2579
  ![0, 384, v2580.toNat]
def k0_mult73 (i : grid0.Coords) (k0_t2 : Fin (k0_t2_loop i).trips) : BitVec 32 :=
  let c2_i32_721 : BitVec 32 := 2#32
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let c1_i32_483 : BitVec 32 := 1#32
  let arg11 : BitVec 32 := Scf.iv v1215 c1_i32_483 k0_t2
  let v1680 : BitVec 32 := Scalar.muli c2_i32_721 arg11
  let c1_i32_1281 : BitVec 32 := 1#32
  let v2550 : BitVec 32 := Scalar.addi v1680 c1_i32_1281
  let c256_i32_1328 : BitVec 32 := 256#32
  let v2629 : BitVec 32 := Scalar.muli v2550 c256_i32_1328
  v2629
def k0_off40 (i : grid0.Coords) (k0_t2 : Fin (k0_t2_loop i).trips) : Fin 3 → Nat :=
  let c0_1329 : Index := 0#32
  let c448_1330 : Index := 448#32
  let c2_i32_721 : BitVec 32 := 2#32
  let c0_i32_479 : BitVec 32 := 0#32
  let arg1 : BitVec 32 := BitVec.ofNat 32 (i 1).val
  let c0_i32_473 : BitVec 32 := 0#32
  let v1195 : BitVec 1 := Scalar.cmpi .sgt arg1 c0_i32_473
  let v1196 : BitVec 32 := Scalar.extui v1195
  let c0_i32_474 : BitVec 32 := 0#32
  let v1197 : BitVec 1 := Scalar.cmpi .slt arg1 c0_i32_474
  let v1198 : BitVec 32 := Scalar.extui v1197
  let v1199 : BitVec 32 := Scalar.subi v1196 v1198
  let c2_i32_472 : BitVec 32 := 2#32
  let c0_i32_475 : BitVec 32 := 0#32
  let v1200 : BitVec 1 := Scalar.cmpi .sgt c2_i32_472 c0_i32_475
  let v1201 : BitVec 32 := Scalar.extui v1200
  let c0_i32_476 : BitVec 32 := 0#32
  let v1202 : BitVec 1 := Scalar.cmpi .slt c2_i32_472 c0_i32_476
  let v1203 : BitVec 32 := Scalar.extui v1202
  let v1204 : BitVec 32 := Scalar.subi v1201 v1203
  let v1205 : BitVec 1 := Scalar.cmpi .ne v1199 v1204
  let v1206 : BitVec 32 := Scalar.remsi arg1 c2_i32_472
  let c0_i32_477 : BitVec 32 := 0#32
  let v1207 : BitVec 1 := Scalar.cmpi .ne v1206 c0_i32_477
  let v1208 : BitVec 1 := Scalar.andi v1205 v1207
  let v1194 : BitVec 32 := Scalar.divsi arg1 c2_i32_472
  let c1_i32_478 : BitVec 32 := 1#32
  let v1209 : BitVec 32 := Scalar.subi v1194 c1_i32_478
  let v1210 : BitVec 32 := Scalar.select v1208 v1209 v1194
  let v1211 : BitVec 32 := Scalar.subi v1210 c0_i32_479
  let c1_i32_481 : BitVec 32 := 1#32
  let v1213 : BitVec 32 := Scalar.divsi v1211 c1_i32_481
  let v1214 : BitVec 32 := Scalar.muli v1213 c1_i32_481
  let v1215 : BitVec 32 := Scalar.addi c0_i32_479 v1214
  let c1_i32_483 : BitVec 32 := 1#32
  let arg11 : BitVec 32 := Scf.iv v1215 c1_i32_483 k0_t2
  let v1680 : BitVec 32 := Scalar.muli c2_i32_721 arg11
  let c1_i32_1281 : BitVec 32 := 1#32
  let v2550 : BitVec 32 := Scalar.addi v1680 c1_i32_1281
  let c256_i32_1328 : BitVec 32 := 256#32
  let v2629 : BitVec 32 := Scalar.muli v2550 c256_i32_1328
  let v2630 : BitVec 32 := v2629
  let v2631 : Index := Scalar.indexCast v2630
  ![0, 448, v2631.toNat]
def k0_cond1 (i : grid0.Coords) : BitVec 1 :=
  let arg1 : BitVec 32 := BitVec.ofNat 32 (i 1).val
  let c2_i32_484 : BitVec 32 := 2#32
  let c0_i32_485 : BitVec 32 := 0#32
  let v1218 : BitVec 1 := Scalar.cmpi .eq c2_i32_484 c0_i32_485
  let c1_i32_486 : BitVec 32 := 1#32
  let v1219 : BitVec 32 := Scalar.select v1218 c1_i32_486 c2_i32_484
  let v1220 : BitVec 32 := Scalar.remsi arg1 v1219
  let c0_i32_488 : BitVec 32 := 0#32
  let v1222 : BitVec 1 := Scalar.cmpi .slt v1220 c0_i32_488
  let c0_i32_489 : BitVec 32 := 0#32
  let v1223 : BitVec 1 := Scalar.cmpi .slt v1219 c0_i32_489
  let v1224 : BitVec 1 := Scalar.xori v1222 v1223
  let c0_i32_487 : BitVec 32 := 0#32
  let v1221 : BitVec 1 := Scalar.cmpi .ne v1220 c0_i32_487
  let v1225 : BitVec 1 := Scalar.andi v1224 v1221
  let v1226 : BitVec 32 := Scalar.addi v1220 v1219
  let v1227 : BitVec 32 := Scalar.select v1225 v1226 v1220
  let c1_i32_490 : BitVec 32 := 1#32
  let v1228 : BitVec 1 := Scalar.cmpi .eq v1227 c1_i32_490
  let v1229 : BitVec 32 := Scalar.extui v1228
  let c0_i32_491 : BitVec 32 := 0#32
  let v1230 : BitVec 1 := Scalar.cmpi .ne v1229 c0_i32_491
  v1230

def k0_mult74 (i : grid0.Coords) : BitVec 32 :=
  let arg1 : BitVec 32 := BitVec.ofNat 32 (i 1).val
  let c256_i32_721 : BitVec 32 := 256#32
  let v1680 : BitVec 32 := Scalar.muli arg1 c256_i32_721
  v1680
def k0_off41 (i : grid0.Coords) : Fin 3 → Nat :=
  let c0_722 : Index := 0#32
  let arg1 : BitVec 32 := BitVec.ofNat 32 (i 1).val
  let c256_i32_721 : BitVec 32 := 256#32
  let v1680 : BitVec 32 := Scalar.muli arg1 c256_i32_721
  let v1681 : BitVec 32 := v1680
  let v1682 : Index := Scalar.indexCast v1681
  let c0_723 : Index := 0#32
  ![0, v1682.toNat, 0]
def k0_mult75 (i : grid0.Coords) : BitVec 32 :=
  let arg1 : BitVec 32 := BitVec.ofNat 32 (i 1).val
  let c256_i32_729 : BitVec 32 := 256#32
  let v1689 : BitVec 32 := Scalar.muli arg1 c256_i32_729
  v1689
def k0_mult76 (i : grid0.Coords) : BitVec 32 :=
  let arg1 : BitVec 32 := BitVec.ofNat 32 (i 1).val
  let c1_i32_737 : BitVec 32 := 1#32
  let v1698 : BitVec 32 := Scalar.subi arg1 c1_i32_737
  let c256_i32_754 : BitVec 32 := 256#32
  let v1726 : BitVec 32 := Scalar.muli v1698 c256_i32_754
  v1726
def k0_off42 (i : grid0.Coords) : Fin 3 → Nat :=
  let c0_755 : Index := 0#32
  let c0_756 : Index := 0#32
  let arg1 : BitVec 32 := BitVec.ofNat 32 (i 1).val
  let c1_i32_737 : BitVec 32 := 1#32
  let v1698 : BitVec 32 := Scalar.subi arg1 c1_i32_737
  let c256_i32_754 : BitVec 32 := 256#32
  let v1726 : BitVec 32 := Scalar.muli v1698 c256_i32_754
  let v1727 : BitVec 32 := v1726
  let v1728 : Index := Scalar.indexCast v1727
  ![0, 0, v1728.toNat]
def k0_mult77 (i : grid0.Coords) : BitVec 32 :=
  let arg1 : BitVec 32 := BitVec.ofNat 32 (i 1).val
  let c1_i32_737 : BitVec 32 := 1#32
  let v1698 : BitVec 32 := Scalar.subi arg1 c1_i32_737
  let c256_i32_784 : BitVec 32 := 256#32
  let v1777 : BitVec 32 := Scalar.muli v1698 c256_i32_784
  v1777
def k0_off43 (i : grid0.Coords) : Fin 3 → Nat :=
  let c0_785 : Index := 0#32
  let c64_786 : Index := 64#32
  let arg1 : BitVec 32 := BitVec.ofNat 32 (i 1).val
  let c1_i32_737 : BitVec 32 := 1#32
  let v1698 : BitVec 32 := Scalar.subi arg1 c1_i32_737
  let c256_i32_784 : BitVec 32 := 256#32
  let v1777 : BitVec 32 := Scalar.muli v1698 c256_i32_784
  let v1778 : BitVec 32 := v1777
  let v1779 : Index := Scalar.indexCast v1778
  ![0, 64, v1779.toNat]
def k0_mult78 (i : grid0.Coords) : BitVec 32 :=
  let arg1 : BitVec 32 := BitVec.ofNat 32 (i 1).val
  let c256_i32_798 : BitVec 32 := 256#32
  let v1801 : BitVec 32 := Scalar.muli arg1 c256_i32_798
  v1801
def k0_off44 (i : grid0.Coords) : Fin 3 → Nat :=
  let c0_799 : Index := 0#32
  let arg1 : BitVec 32 := BitVec.ofNat 32 (i 1).val
  let c256_i32_798 : BitVec 32 := 256#32
  let v1801 : BitVec 32 := Scalar.muli arg1 c256_i32_798
  let v1802 : BitVec 32 := v1801
  let v1803 : Index := Scalar.indexCast v1802
  let c128_800 : Index := 128#32
  ![0, v1803.toNat, 128]
def k0_mult79 (i : grid0.Coords) : BitVec 32 :=
  let arg1 : BitVec 32 := BitVec.ofNat 32 (i 1).val
  let c256_i32_806 : BitVec 32 := 256#32
  let v1810 : BitVec 32 := Scalar.muli arg1 c256_i32_806
  v1810
def k0_mult80 (i : grid0.Coords) : BitVec 32 :=
  let arg1 : BitVec 32 := BitVec.ofNat 32 (i 1).val
  let c1_i32_814 : BitVec 32 := 1#32
  let v1819 : BitVec 32 := Scalar.subi arg1 c1_i32_814
  let c256_i32_831 : BitVec 32 := 256#32
  let v1847 : BitVec 32 := Scalar.muli v1819 c256_i32_831
  v1847
def k0_off45 (i : grid0.Coords) : Fin 3 → Nat :=
  let c0_832 : Index := 0#32
  let c128_833 : Index := 128#32
  let arg1 : BitVec 32 := BitVec.ofNat 32 (i 1).val
  let c1_i32_814 : BitVec 32 := 1#32
  let v1819 : BitVec 32 := Scalar.subi arg1 c1_i32_814
  let c256_i32_831 : BitVec 32 := 256#32
  let v1847 : BitVec 32 := Scalar.muli v1819 c256_i32_831
  let v1848 : BitVec 32 := v1847
  let v1849 : Index := Scalar.indexCast v1848
  ![0, 128, v1849.toNat]
def k0_mult81 (i : grid0.Coords) : BitVec 32 :=
  let arg1 : BitVec 32 := BitVec.ofNat 32 (i 1).val
  let c1_i32_814 : BitVec 32 := 1#32
  let v1819 : BitVec 32 := Scalar.subi arg1 c1_i32_814
  let c256_i32_861 : BitVec 32 := 256#32
  let v1898 : BitVec 32 := Scalar.muli v1819 c256_i32_861
  v1898
def k0_off46 (i : grid0.Coords) : Fin 3 → Nat :=
  let c0_862 : Index := 0#32
  let c192_863 : Index := 192#32
  let arg1 : BitVec 32 := BitVec.ofNat 32 (i 1).val
  let c1_i32_814 : BitVec 32 := 1#32
  let v1819 : BitVec 32 := Scalar.subi arg1 c1_i32_814
  let c256_i32_861 : BitVec 32 := 256#32
  let v1898 : BitVec 32 := Scalar.muli v1819 c256_i32_861
  let v1899 : BitVec 32 := v1898
  let v1900 : Index := Scalar.indexCast v1899
  ![0, 192, v1900.toNat]
def k0_mult82 (i : grid0.Coords) : BitVec 32 :=
  let arg1 : BitVec 32 := BitVec.ofNat 32 (i 1).val
  let c256_i32_875 : BitVec 32 := 256#32
  let v1922 : BitVec 32 := Scalar.muli arg1 c256_i32_875
  v1922
def k0_off47 (i : grid0.Coords) : Fin 3 → Nat :=
  let c0_876 : Index := 0#32
  let arg1 : BitVec 32 := BitVec.ofNat 32 (i 1).val
  let c256_i32_875 : BitVec 32 := 256#32
  let v1922 : BitVec 32 := Scalar.muli arg1 c256_i32_875
  let v1923 : BitVec 32 := v1922
  let v1924 : Index := Scalar.indexCast v1923
  let c256_877 : Index := 256#32
  ![0, v1924.toNat, 256]
def k0_mult83 (i : grid0.Coords) : BitVec 32 :=
  let arg1 : BitVec 32 := BitVec.ofNat 32 (i 1).val
  let c256_i32_883 : BitVec 32 := 256#32
  let v1931 : BitVec 32 := Scalar.muli arg1 c256_i32_883
  v1931
def k0_mult84 (i : grid0.Coords) : BitVec 32 :=
  let arg1 : BitVec 32 := BitVec.ofNat 32 (i 1).val
  let c1_i32_891 : BitVec 32 := 1#32
  let v1940 : BitVec 32 := Scalar.subi arg1 c1_i32_891
  let c256_i32_908 : BitVec 32 := 256#32
  let v1968 : BitVec 32 := Scalar.muli v1940 c256_i32_908
  v1968
def k0_off48 (i : grid0.Coords) : Fin 3 → Nat :=
  let c0_909 : Index := 0#32
  let c256_910 : Index := 256#32
  let arg1 : BitVec 32 := BitVec.ofNat 32 (i 1).val
  let c1_i32_891 : BitVec 32 := 1#32
  let v1940 : BitVec 32 := Scalar.subi arg1 c1_i32_891
  let c256_i32_908 : BitVec 32 := 256#32
  let v1968 : BitVec 32 := Scalar.muli v1940 c256_i32_908
  let v1969 : BitVec 32 := v1968
  let v1970 : Index := Scalar.indexCast v1969
  ![0, 256, v1970.toNat]
def k0_mult85 (i : grid0.Coords) : BitVec 32 :=
  let arg1 : BitVec 32 := BitVec.ofNat 32 (i 1).val
  let c1_i32_891 : BitVec 32 := 1#32
  let v1940 : BitVec 32 := Scalar.subi arg1 c1_i32_891
  let c256_i32_938 : BitVec 32 := 256#32
  let v2019 : BitVec 32 := Scalar.muli v1940 c256_i32_938
  v2019
def k0_off49 (i : grid0.Coords) : Fin 3 → Nat :=
  let c0_939 : Index := 0#32
  let c320_940 : Index := 320#32
  let arg1 : BitVec 32 := BitVec.ofNat 32 (i 1).val
  let c1_i32_891 : BitVec 32 := 1#32
  let v1940 : BitVec 32 := Scalar.subi arg1 c1_i32_891
  let c256_i32_938 : BitVec 32 := 256#32
  let v2019 : BitVec 32 := Scalar.muli v1940 c256_i32_938
  let v2020 : BitVec 32 := v2019
  let v2021 : Index := Scalar.indexCast v2020
  ![0, 320, v2021.toNat]
def k0_mult86 (i : grid0.Coords) : BitVec 32 :=
  let arg1 : BitVec 32 := BitVec.ofNat 32 (i 1).val
  let c256_i32_952 : BitVec 32 := 256#32
  let v2043 : BitVec 32 := Scalar.muli arg1 c256_i32_952
  v2043
def k0_off50 (i : grid0.Coords) : Fin 3 → Nat :=
  let c0_953 : Index := 0#32
  let arg1 : BitVec 32 := BitVec.ofNat 32 (i 1).val
  let c256_i32_952 : BitVec 32 := 256#32
  let v2043 : BitVec 32 := Scalar.muli arg1 c256_i32_952
  let v2044 : BitVec 32 := v2043
  let v2045 : Index := Scalar.indexCast v2044
  let c384_954 : Index := 384#32
  ![0, v2045.toNat, 384]
def k0_mult87 (i : grid0.Coords) : BitVec 32 :=
  let arg1 : BitVec 32 := BitVec.ofNat 32 (i 1).val
  let c256_i32_960 : BitVec 32 := 256#32
  let v2052 : BitVec 32 := Scalar.muli arg1 c256_i32_960
  v2052
def k0_mult88 (i : grid0.Coords) : BitVec 32 :=
  let arg1 : BitVec 32 := BitVec.ofNat 32 (i 1).val
  let c1_i32_968 : BitVec 32 := 1#32
  let v2061 : BitVec 32 := Scalar.subi arg1 c1_i32_968
  let c256_i32_985 : BitVec 32 := 256#32
  let v2089 : BitVec 32 := Scalar.muli v2061 c256_i32_985
  v2089
def k0_off51 (i : grid0.Coords) : Fin 3 → Nat :=
  let c0_986 : Index := 0#32
  let c384_987 : Index := 384#32
  let arg1 : BitVec 32 := BitVec.ofNat 32 (i 1).val
  let c1_i32_968 : BitVec 32 := 1#32
  let v2061 : BitVec 32 := Scalar.subi arg1 c1_i32_968
  let c256_i32_985 : BitVec 32 := 256#32
  let v2089 : BitVec 32 := Scalar.muli v2061 c256_i32_985
  let v2090 : BitVec 32 := v2089
  let v2091 : Index := Scalar.indexCast v2090
  ![0, 384, v2091.toNat]
def k0_mult89 (i : grid0.Coords) : BitVec 32 :=
  let arg1 : BitVec 32 := BitVec.ofNat 32 (i 1).val
  let c1_i32_968 : BitVec 32 := 1#32
  let v2061 : BitVec 32 := Scalar.subi arg1 c1_i32_968
  let c256_i32_1015 : BitVec 32 := 256#32
  let v2140 : BitVec 32 := Scalar.muli v2061 c256_i32_1015
  v2140
def k0_off52 (i : grid0.Coords) : Fin 3 → Nat :=
  let c0_1016 : Index := 0#32
  let c448_1017 : Index := 448#32
  let arg1 : BitVec 32 := BitVec.ofNat 32 (i 1).val
  let c1_i32_968 : BitVec 32 := 1#32
  let v2061 : BitVec 32 := Scalar.subi arg1 c1_i32_968
  let c256_i32_1015 : BitVec 32 := 256#32
  let v2140 : BitVec 32 := Scalar.muli v2061 c256_i32_1015
  let v2141 : BitVec 32 := v2140
  let v2142 : Index := Scalar.indexCast v2141
  ![0, 448, v2142.toNat]
def k0_off53 (i : grid0.Coords) : Fin 4 → Nat :=
  let arg1 : BitVec 32 := BitVec.ofNat 32 (i 1).val
  let c2_i32_500 : BitVec 32 := 2#32
  let c0_i32_501 : BitVec 32 := 0#32
  let v1239 : BitVec 1 := Scalar.cmpi .eq c2_i32_500 c0_i32_501
  let c1_i32_502 : BitVec 32 := 1#32
  let v1240 : BitVec 32 := Scalar.select v1239 c1_i32_502 c2_i32_500
  let v1241 : BitVec 32 := Scalar.remsi arg1 v1240
  let c0_i32_504 : BitVec 32 := 0#32
  let v1243 : BitVec 1 := Scalar.cmpi .slt v1241 c0_i32_504
  let c0_i32_505 : BitVec 32 := 0#32
  let v1244 : BitVec 1 := Scalar.cmpi .slt v1240 c0_i32_505
  let v1245 : BitVec 1 := Scalar.xori v1243 v1244
  let c0_i32_503 : BitVec 32 := 0#32
  let v1242 : BitVec 1 := Scalar.cmpi .ne v1241 c0_i32_503
  let v1246 : BitVec 1 := Scalar.andi v1245 v1242
  let v1247 : BitVec 32 := Scalar.addi v1241 v1240
  let v1248 : BitVec 32 := Scalar.select v1246 v1247 v1241
  let v1249 : Index := Scalar.indexCast v1248
  let c0_506 : Index := 0#32
  let c0_507 : Index := 0#32
  let c0_508 : Index := 0#32
  ![v1249.toNat, 0, 0, 0]
def k0_off54 (i : grid0.Coords) : Fin 3 → Nat :=
  let c0_510 : Index := 0#32
  let c0_511 : Index := 0#32
  let arg1 : BitVec 32 := BitVec.ofNat 32 (i 1).val
  let c256_i32 : BitVec 32 := 256#32
  let v0 : BitVec 32 := Scalar.muli arg1 c256_i32
  let v1 : BitVec 32 := v0
  let v1254 : Index := Scalar.indexCast v1
  ![0, 0, v1254.toNat]
def k0_off55 (i : grid0.Coords) : Fin 4 → Nat :=
  let arg1 : BitVec 32 := BitVec.ofNat 32 (i 1).val
  let c2_i32_528 : BitVec 32 := 2#32
  let c0_i32_529 : BitVec 32 := 0#32
  let v1294 : BitVec 1 := Scalar.cmpi .eq c2_i32_528 c0_i32_529
  let c1_i32_530 : BitVec 32 := 1#32
  let v1295 : BitVec 32 := Scalar.select v1294 c1_i32_530 c2_i32_528
  let v1296 : BitVec 32 := Scalar.remsi arg1 v1295
  let c0_i32_532 : BitVec 32 := 0#32
  let v1298 : BitVec 1 := Scalar.cmpi .slt v1296 c0_i32_532
  let c0_i32_533 : BitVec 32 := 0#32
  let v1299 : BitVec 1 := Scalar.cmpi .slt v1295 c0_i32_533
  let v1300 : BitVec 1 := Scalar.xori v1298 v1299
  let c0_i32_531 : BitVec 32 := 0#32
  let v1297 : BitVec 1 := Scalar.cmpi .ne v1296 c0_i32_531
  let v1301 : BitVec 1 := Scalar.andi v1300 v1297
  let v1302 : BitVec 32 := Scalar.addi v1296 v1295
  let v1303 : BitVec 32 := Scalar.select v1301 v1302 v1296
  let v1304 : Index := Scalar.indexCast v1303
  let c1_534 : Index := 1#32
  let c0_535 : Index := 0#32
  let c0_536 : Index := 0#32
  ![v1304.toNat, 1, 0, 0]
def k0_off56 (i : grid0.Coords) : Fin 3 → Nat :=
  let c0_538 : Index := 0#32
  let c64_539 : Index := 64#32
  let arg1 : BitVec 32 := BitVec.ofNat 32 (i 1).val
  let c256_i32 : BitVec 32 := 256#32
  let v0 : BitVec 32 := Scalar.muli arg1 c256_i32
  let v1 : BitVec 32 := v0
  let v1309 : Index := Scalar.indexCast v1
  ![0, 64, v1309.toNat]
def k0_off57 (i : grid0.Coords) : Fin 4 → Nat :=
  let arg1 : BitVec 32 := BitVec.ofNat 32 (i 1).val
  let c2_i32_556 : BitVec 32 := 2#32
  let c0_i32_557 : BitVec 32 := 0#32
  let v1349 : BitVec 1 := Scalar.cmpi .eq c2_i32_556 c0_i32_557
  let c1_i32_558 : BitVec 32 := 1#32
  let v1350 : BitVec 32 := Scalar.select v1349 c1_i32_558 c2_i32_556
  let v1351 : BitVec 32 := Scalar.remsi arg1 v1350
  let c0_i32_560 : BitVec 32 := 0#32
  let v1353 : BitVec 1 := Scalar.cmpi .slt v1351 c0_i32_560
  let c0_i32_561 : BitVec 32 := 0#32
  let v1354 : BitVec 1 := Scalar.cmpi .slt v1350 c0_i32_561
  let v1355 : BitVec 1 := Scalar.xori v1353 v1354
  let c0_i32_559 : BitVec 32 := 0#32
  let v1352 : BitVec 1 := Scalar.cmpi .ne v1351 c0_i32_559
  let v1356 : BitVec 1 := Scalar.andi v1355 v1352
  let v1357 : BitVec 32 := Scalar.addi v1351 v1350
  let v1358 : BitVec 32 := Scalar.select v1356 v1357 v1351
  let v1359 : Index := Scalar.indexCast v1358
  let c2_562 : Index := 2#32
  let c0_563 : Index := 0#32
  let c0_564 : Index := 0#32
  ![v1359.toNat, 2, 0, 0]
def k0_off58 (i : grid0.Coords) : Fin 3 → Nat :=
  let c0_566 : Index := 0#32
  let c128_567 : Index := 128#32
  let arg1 : BitVec 32 := BitVec.ofNat 32 (i 1).val
  let c256_i32 : BitVec 32 := 256#32
  let v0 : BitVec 32 := Scalar.muli arg1 c256_i32
  let v1 : BitVec 32 := v0
  let v1364 : Index := Scalar.indexCast v1
  ![0, 128, v1364.toNat]
def k0_off59 (i : grid0.Coords) : Fin 4 → Nat :=
  let arg1 : BitVec 32 := BitVec.ofNat 32 (i 1).val
  let c2_i32_584 : BitVec 32 := 2#32
  let c0_i32_585 : BitVec 32 := 0#32
  let v1404 : BitVec 1 := Scalar.cmpi .eq c2_i32_584 c0_i32_585
  let c1_i32_586 : BitVec 32 := 1#32
  let v1405 : BitVec 32 := Scalar.select v1404 c1_i32_586 c2_i32_584
  let v1406 : BitVec 32 := Scalar.remsi arg1 v1405
  let c0_i32_588 : BitVec 32 := 0#32
  let v1408 : BitVec 1 := Scalar.cmpi .slt v1406 c0_i32_588
  let c0_i32_589 : BitVec 32 := 0#32
  let v1409 : BitVec 1 := Scalar.cmpi .slt v1405 c0_i32_589
  let v1410 : BitVec 1 := Scalar.xori v1408 v1409
  let c0_i32_587 : BitVec 32 := 0#32
  let v1407 : BitVec 1 := Scalar.cmpi .ne v1406 c0_i32_587
  let v1411 : BitVec 1 := Scalar.andi v1410 v1407
  let v1412 : BitVec 32 := Scalar.addi v1406 v1405
  let v1413 : BitVec 32 := Scalar.select v1411 v1412 v1406
  let v1414 : Index := Scalar.indexCast v1413
  let c3_590 : Index := 3#32
  let c0_591 : Index := 0#32
  let c0_592 : Index := 0#32
  ![v1414.toNat, 3, 0, 0]
def k0_off60 (i : grid0.Coords) : Fin 3 → Nat :=
  let c0_594 : Index := 0#32
  let c192_595 : Index := 192#32
  let arg1 : BitVec 32 := BitVec.ofNat 32 (i 1).val
  let c256_i32 : BitVec 32 := 256#32
  let v0 : BitVec 32 := Scalar.muli arg1 c256_i32
  let v1 : BitVec 32 := v0
  let v1419 : Index := Scalar.indexCast v1
  ![0, 192, v1419.toNat]
def k0_off61 (i : grid0.Coords) : Fin 4 → Nat :=
  let arg1 : BitVec 32 := BitVec.ofNat 32 (i 1).val
  let c2_i32_612 : BitVec 32 := 2#32
  let c0_i32_613 : BitVec 32 := 0#32
  let v1459 : BitVec 1 := Scalar.cmpi .eq c2_i32_612 c0_i32_613
  let c1_i32_614 : BitVec 32 := 1#32
  let v1460 : BitVec 32 := Scalar.select v1459 c1_i32_614 c2_i32_612
  let v1461 : BitVec 32 := Scalar.remsi arg1 v1460
  let c0_i32_616 : BitVec 32 := 0#32
  let v1463 : BitVec 1 := Scalar.cmpi .slt v1461 c0_i32_616
  let c0_i32_617 : BitVec 32 := 0#32
  let v1464 : BitVec 1 := Scalar.cmpi .slt v1460 c0_i32_617
  let v1465 : BitVec 1 := Scalar.xori v1463 v1464
  let c0_i32_615 : BitVec 32 := 0#32
  let v1462 : BitVec 1 := Scalar.cmpi .ne v1461 c0_i32_615
  let v1466 : BitVec 1 := Scalar.andi v1465 v1462
  let v1467 : BitVec 32 := Scalar.addi v1461 v1460
  let v1468 : BitVec 32 := Scalar.select v1466 v1467 v1461
  let v1469 : Index := Scalar.indexCast v1468
  let c4_618 : Index := 4#32
  let c0_619 : Index := 0#32
  let c0_620 : Index := 0#32
  ![v1469.toNat, 4, 0, 0]
def k0_off62 (i : grid0.Coords) : Fin 3 → Nat :=
  let c0_622 : Index := 0#32
  let c256_623 : Index := 256#32
  let arg1 : BitVec 32 := BitVec.ofNat 32 (i 1).val
  let c256_i32 : BitVec 32 := 256#32
  let v0 : BitVec 32 := Scalar.muli arg1 c256_i32
  let v1 : BitVec 32 := v0
  let v1474 : Index := Scalar.indexCast v1
  ![0, 256, v1474.toNat]
def k0_off63 (i : grid0.Coords) : Fin 4 → Nat :=
  let arg1 : BitVec 32 := BitVec.ofNat 32 (i 1).val
  let c2_i32_640 : BitVec 32 := 2#32
  let c0_i32_641 : BitVec 32 := 0#32
  let v1514 : BitVec 1 := Scalar.cmpi .eq c2_i32_640 c0_i32_641
  let c1_i32_642 : BitVec 32 := 1#32
  let v1515 : BitVec 32 := Scalar.select v1514 c1_i32_642 c2_i32_640
  let v1516 : BitVec 32 := Scalar.remsi arg1 v1515
  let c0_i32_644 : BitVec 32 := 0#32
  let v1518 : BitVec 1 := Scalar.cmpi .slt v1516 c0_i32_644
  let c0_i32_645 : BitVec 32 := 0#32
  let v1519 : BitVec 1 := Scalar.cmpi .slt v1515 c0_i32_645
  let v1520 : BitVec 1 := Scalar.xori v1518 v1519
  let c0_i32_643 : BitVec 32 := 0#32
  let v1517 : BitVec 1 := Scalar.cmpi .ne v1516 c0_i32_643
  let v1521 : BitVec 1 := Scalar.andi v1520 v1517
  let v1522 : BitVec 32 := Scalar.addi v1516 v1515
  let v1523 : BitVec 32 := Scalar.select v1521 v1522 v1516
  let v1524 : Index := Scalar.indexCast v1523
  let c5_646 : Index := 5#32
  let c0_647 : Index := 0#32
  let c0_648 : Index := 0#32
  ![v1524.toNat, 5, 0, 0]
def k0_off64 (i : grid0.Coords) : Fin 3 → Nat :=
  let c0_650 : Index := 0#32
  let c320_651 : Index := 320#32
  let arg1 : BitVec 32 := BitVec.ofNat 32 (i 1).val
  let c256_i32 : BitVec 32 := 256#32
  let v0 : BitVec 32 := Scalar.muli arg1 c256_i32
  let v1 : BitVec 32 := v0
  let v1529 : Index := Scalar.indexCast v1
  ![0, 320, v1529.toNat]
def k0_off65 (i : grid0.Coords) : Fin 4 → Nat :=
  let arg1 : BitVec 32 := BitVec.ofNat 32 (i 1).val
  let c2_i32_668 : BitVec 32 := 2#32
  let c0_i32_669 : BitVec 32 := 0#32
  let v1569 : BitVec 1 := Scalar.cmpi .eq c2_i32_668 c0_i32_669
  let c1_i32_670 : BitVec 32 := 1#32
  let v1570 : BitVec 32 := Scalar.select v1569 c1_i32_670 c2_i32_668
  let v1571 : BitVec 32 := Scalar.remsi arg1 v1570
  let c0_i32_672 : BitVec 32 := 0#32
  let v1573 : BitVec 1 := Scalar.cmpi .slt v1571 c0_i32_672
  let c0_i32_673 : BitVec 32 := 0#32
  let v1574 : BitVec 1 := Scalar.cmpi .slt v1570 c0_i32_673
  let v1575 : BitVec 1 := Scalar.xori v1573 v1574
  let c0_i32_671 : BitVec 32 := 0#32
  let v1572 : BitVec 1 := Scalar.cmpi .ne v1571 c0_i32_671
  let v1576 : BitVec 1 := Scalar.andi v1575 v1572
  let v1577 : BitVec 32 := Scalar.addi v1571 v1570
  let v1578 : BitVec 32 := Scalar.select v1576 v1577 v1571
  let v1579 : Index := Scalar.indexCast v1578
  let c6_674 : Index := 6#32
  let c0_675 : Index := 0#32
  let c0_676 : Index := 0#32
  ![v1579.toNat, 6, 0, 0]
def k0_off66 (i : grid0.Coords) : Fin 3 → Nat :=
  let c0_678 : Index := 0#32
  let c384_679 : Index := 384#32
  let arg1 : BitVec 32 := BitVec.ofNat 32 (i 1).val
  let c256_i32 : BitVec 32 := 256#32
  let v0 : BitVec 32 := Scalar.muli arg1 c256_i32
  let v1 : BitVec 32 := v0
  let v1584 : Index := Scalar.indexCast v1
  ![0, 384, v1584.toNat]
def k0_off67 (i : grid0.Coords) : Fin 4 → Nat :=
  let arg1 : BitVec 32 := BitVec.ofNat 32 (i 1).val
  let c2_i32_696 : BitVec 32 := 2#32
  let c0_i32_697 : BitVec 32 := 0#32
  let v1624 : BitVec 1 := Scalar.cmpi .eq c2_i32_696 c0_i32_697
  let c1_i32_698 : BitVec 32 := 1#32
  let v1625 : BitVec 32 := Scalar.select v1624 c1_i32_698 c2_i32_696
  let v1626 : BitVec 32 := Scalar.remsi arg1 v1625
  let c0_i32_700 : BitVec 32 := 0#32
  let v1628 : BitVec 1 := Scalar.cmpi .slt v1626 c0_i32_700
  let c0_i32_701 : BitVec 32 := 0#32
  let v1629 : BitVec 1 := Scalar.cmpi .slt v1625 c0_i32_701
  let v1630 : BitVec 1 := Scalar.xori v1628 v1629
  let c0_i32_699 : BitVec 32 := 0#32
  let v1627 : BitVec 1 := Scalar.cmpi .ne v1626 c0_i32_699
  let v1631 : BitVec 1 := Scalar.andi v1630 v1627
  let v1632 : BitVec 32 := Scalar.addi v1626 v1625
  let v1633 : BitVec 32 := Scalar.select v1631 v1632 v1626
  let v1634 : Index := Scalar.indexCast v1633
  let c7_702 : Index := 7#32
  let c0_703 : Index := 0#32
  let c0_704 : Index := 0#32
  ![v1634.toNat, 7, 0, 0]
def k0_off68 (i : grid0.Coords) : Fin 3 → Nat :=
  let c0_706 : Index := 0#32
  let c448_707 : Index := 448#32
  let arg1 : BitVec 32 := BitVec.ofNat 32 (i 1).val
  let c256_i32 : BitVec 32 := 256#32
  let v0 : BitVec 32 := Scalar.muli arg1 c256_i32
  let v1 : BitVec 32 := v0
  let v1639 : Index := Scalar.indexCast v1
  ![0, 448, v1639.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S8x512x2048 : Shape := ⟨3, ![8, 512, 2048]⟩
abbrev S8x2048x512 : Shape := ⟨3, ![8, 2048, 512]⟩
abbrev S8x8x512 : Shape := ⟨3, ![8, 8, 512]⟩
abbrev S8x8x64x2048 : Shape := ⟨4, ![8, 8, 64, 2048]⟩
abbrev S8x8x2048x64 : Shape := ⟨4, ![8, 8, 2048, 64]⟩
abbrev S8x2048x8x64 : Shape := ⟨4, ![8, 2048, 8, 64]⟩
abbrev S8x8x8x64 : Shape := ⟨4, ![8, 8, 8, 64]⟩
abbrev S2048 : Shape := ⟨1, ![2048]⟩
abbrev S_ : Shape := ⟨0, ![]⟩
abbrev S8x8x2048x8 : Shape := ⟨4, ![8, 8, 2048, 8]⟩
abbrev S8 : Shape := ⟨1, ![8]⟩
abbrev S1x8 : Shape := ⟨2, ![1, 8]⟩
abbrev S2048x1 : Shape := ⟨2, ![2048, 1]⟩
abbrev S2048x8 : Shape := ⟨2, ![2048, 8]⟩
abbrev S8x8x2048x3 : Shape := ⟨4, ![8, 8, 2048, 3]⟩
abbrev S8x8x2048x3x1 : Shape := ⟨5, ![8, 8, 2048, 3, 1]⟩
abbrev S1x1x1x1x2048 : Shape := ⟨5, ![1, 1, 1, 1, 2048]⟩
abbrev S8x8x2048x3x2048 : Shape := ⟨5, ![8, 8, 2048, 3, 2048]⟩
abbrev S1x1x2048x1 : Shape := ⟨4, ![1, 1, 2048, 1]⟩
abbrev S8x8x2048x2048 : Shape := ⟨4, ![8, 8, 2048, 2048]⟩
abbrev S1x2048 : Shape := ⟨2, ![1, 2048]⟩
abbrev S2048x2048 : Shape := ⟨2, ![2048, 2048]⟩
abbrev S1x1x2048x2048 : Shape := ⟨4, ![1, 1, 2048, 2048]⟩
abbrev S8x8x2048 : Shape := ⟨3, ![8, 8, 2048]⟩
abbrev S8x8x2048x1 : Shape := ⟨4, ![8, 8, 2048, 1]⟩

abbrev nBuf : Space → Nat
  | .hbm => 105
  | .vmem => 0
  | .smem => 0
  | _ => 0

abbrev bufTy : (tb : Table) → Fin (tcTables nBuf tb) → BufTy
  | .hbm, ⟨0, _⟩ => ⟨S8x512x2048, .bf16⟩
  | .hbm, ⟨1, _⟩ => ⟨S8x2048x512, .bf16⟩
  | .hbm, ⟨2, _⟩ => ⟨S8x512x2048, .bf16⟩
  | .hbm, ⟨3, _⟩ => ⟨S8x8x512, .f32⟩
  | .hbm, ⟨4, _⟩ => ⟨S8x512x2048, .f32⟩
  | .hbm, ⟨5, _⟩ => ⟨S8x8x64x2048, .f32⟩
  | .hbm, ⟨6, _⟩ => ⟨S8x8x2048x64, .f32⟩
  | .hbm, ⟨7, _⟩ => ⟨S8x2048x512, .f32⟩
  | .hbm, ⟨8, _⟩ => ⟨S8x2048x8x64, .f32⟩
  | .hbm, ⟨9, _⟩ => ⟨S8x8x2048x64, .f32⟩
  | .hbm, ⟨10, _⟩ => ⟨S8x512x2048, .f32⟩
  | .hbm, ⟨11, _⟩ => ⟨S8x8x64x2048, .f32⟩
  | .hbm, ⟨12, _⟩ => ⟨S8x8x2048x64, .f32⟩
  | .hbm, ⟨13, _⟩ => ⟨S8x8x8x64, .f32⟩
  | .hbm, ⟨14, _⟩ => ⟨S8x8x8x64, .f32⟩
  | .hbm, ⟨15, _⟩ => ⟨S2048, .i32⟩
  | .hbm, ⟨16, _⟩ => ⟨S_, .i32⟩
  | .hbm, ⟨17, _⟩ => ⟨S_, .i32⟩
  | .hbm, ⟨18, _⟩ => ⟨S2048, .i32⟩
  | .hbm, ⟨19, _⟩ => ⟨S2048, .i32⟩
  | .hbm, ⟨20, _⟩ => ⟨S2048, .i32⟩
  | .hbm, ⟨21, _⟩ => ⟨S_, .i32⟩
  | .hbm, ⟨22, _⟩ => ⟨S2048, .i32⟩
  | .hbm, ⟨23, _⟩ => ⟨S2048, .i1⟩
  | .hbm, ⟨24, _⟩ => ⟨S2048, .i32⟩
  | .hbm, ⟨25, _⟩ => ⟨S2048, .i32⟩
  | .hbm, ⟨26, _⟩ => ⟨S_, .i32⟩
  | .hbm, ⟨27, _⟩ => ⟨S2048, .i32⟩
  | .hbm, ⟨28, _⟩ => ⟨S2048, .i1⟩
  | .hbm, ⟨29, _⟩ => ⟨S2048, .i1⟩
  | .hbm, ⟨30, _⟩ => ⟨S_, .i32⟩
  | .hbm, ⟨31, _⟩ => ⟨S2048, .i32⟩
  | .hbm, ⟨32, _⟩ => ⟨S2048, .i32⟩
  | .hbm, ⟨33, _⟩ => ⟨S2048, .i32⟩
  | .hbm, ⟨34, _⟩ => ⟨S8x8x2048x8, .f32⟩
  | .hbm, ⟨35, _⟩ => ⟨S8, .i32⟩
  | .hbm, ⟨36, _⟩ => ⟨S1x8, .i32⟩
  | .hbm, ⟨37, _⟩ => ⟨S2048x1, .i32⟩
  | .hbm, ⟨38, _⟩ => ⟨S2048x8, .i32⟩
  | .hbm, ⟨39, _⟩ => ⟨S2048x8, .i32⟩
  | .hbm, ⟨40, _⟩ => ⟨S2048x8, .i1⟩
  | .hbm, ⟨41, _⟩ => ⟨S_, .f32⟩
  | .hbm, ⟨42, _⟩ => ⟨S_, .f32⟩
  | .hbm, ⟨43, _⟩ => ⟨S8x8x2048x8, .i1⟩
  | .hbm, ⟨44, _⟩ => ⟨S8x8x2048x8, .f32⟩
  | .hbm, ⟨45, _⟩ => ⟨S8x8x2048x8, .f32⟩
  | .hbm, ⟨46, _⟩ => ⟨S8x8x2048x3, .f32⟩
  | .hbm, ⟨47, _⟩ => ⟨S8x8x2048x3, .i32⟩
  | .hbm, ⟨48, _⟩ => ⟨S8x8x2048x3x1, .i32⟩
  | .hbm, ⟨49, _⟩ => ⟨S1x1x1x1x2048, .i32⟩
  | .hbm, ⟨50, _⟩ => ⟨S8x8x2048x3x2048, .i32⟩
  | .hbm, ⟨51, _⟩ => ⟨S8x8x2048x3x2048, .i32⟩
  | .hbm, ⟨52, _⟩ => ⟨S8x8x2048x3x2048, .i1⟩
  | .hbm, ⟨53, _⟩ => ⟨S2048x1, .i32⟩
  | .hbm, ⟨54, _⟩ => ⟨S1x1x2048x1, .i32⟩
  | .hbm, ⟨55, _⟩ => ⟨S8x8x2048x3, .i32⟩
  | .hbm, ⟨56, _⟩ => ⟨S8x8x2048x3, .i1⟩
  | .hbm, ⟨57, _⟩ => ⟨S8x8x2048x3x1, .i1⟩
  | .hbm, ⟨58, _⟩ => ⟨S8x8x2048x3x2048, .i1⟩
  | .hbm, ⟨59, _⟩ => ⟨S8x8x2048x3x2048, .i1⟩
  | .hbm, ⟨60, _⟩ => ⟨S_, .i1⟩
  | .hbm, ⟨61, _⟩ => ⟨S8x8x2048x2048, .i1⟩
  | .hbm, ⟨62, _⟩ => ⟨S1x2048, .i32⟩
  | .hbm, ⟨63, _⟩ => ⟨S2048x1, .i32⟩
  | .hbm, ⟨64, _⟩ => ⟨S2048x2048, .i32⟩
  | .hbm, ⟨65, _⟩ => ⟨S2048x2048, .i32⟩
  | .hbm, ⟨66, _⟩ => ⟨S2048x2048, .i1⟩
  | .hbm, ⟨67, _⟩ => ⟨S1x2048, .i32⟩
  | .hbm, ⟨68, _⟩ => ⟨S2048x1, .i32⟩
  | .hbm, ⟨69, _⟩ => ⟨S2048x2048, .i32⟩
  | .hbm, ⟨70, _⟩ => ⟨S2048x2048, .i32⟩
  | .hbm, ⟨71, _⟩ => ⟨S2048x2048, .i1⟩
  | .hbm, ⟨72, _⟩ => ⟨S2048x2048, .i1⟩
  | .hbm, ⟨73, _⟩ => ⟨S1x1x2048x2048, .i1⟩
  | .hbm, ⟨74, _⟩ => ⟨S8x8x2048x2048, .i1⟩
  | .hbm, ⟨75, _⟩ => ⟨S8x8x2048x2048, .i1⟩
  | .hbm, ⟨76, _⟩ => ⟨S8x8x2048x2048, .f32⟩
  | .hbm, ⟨77, _⟩ => ⟨S_, .f32⟩
  | .hbm, ⟨78, _⟩ => ⟨S_, .f32⟩
  | .hbm, ⟨79, _⟩ => ⟨S8x8x2048x2048, .f32⟩
  | .hbm, ⟨80, _⟩ => ⟨S8x8x2048x2048, .f32⟩
  | .hbm, ⟨81, _⟩ => ⟨S_, .f32⟩
  | .hbm, ⟨82, _⟩ => ⟨S_, .f32⟩
  | .hbm, ⟨83, _⟩ => ⟨S8x8x2048x2048, .f32⟩
  | .hbm, ⟨84, _⟩ => ⟨S8x8x2048x2048, .f32⟩
  | .hbm, ⟨85, _⟩ => ⟨S_, .f32⟩
  | .hbm, ⟨86, _⟩ => ⟨S8x8x2048, .f32⟩
  | .hbm, ⟨87, _⟩ => ⟨S8x8x2048x1, .f32⟩
  | .hbm, ⟨88, _⟩ => ⟨S8x8x2048x2048, .f32⟩
  | .hbm, ⟨89, _⟩ => ⟨S8x8x2048x2048, .f32⟩
  | .hbm, ⟨90, _⟩ => ⟨S8x8x2048x2048, .f32⟩
  | .hbm, ⟨91, _⟩ => ⟨S8x8x2048x2048, .f32⟩
  | .hbm, ⟨92, _⟩ => ⟨S8x8x2048x2048, .f32⟩
  | .hbm, ⟨93, _⟩ => ⟨S_, .f32⟩
  | .hbm, ⟨94, _⟩ => ⟨S8x8x2048, .f32⟩
  | .hbm, ⟨95, _⟩ => ⟨S8x8x2048x1, .f32⟩
  | .hbm, ⟨96, _⟩ => ⟨S_, .f32⟩
  | .hbm, ⟨97, _⟩ => ⟨S8x8x2048x1, .f32⟩
  | .hbm, ⟨98, _⟩ => ⟨S8x8x2048x1, .f32⟩
  | .hbm, ⟨99, _⟩ => ⟨S8x8x2048x2048, .f32⟩
  | .hbm, ⟨100, _⟩ => ⟨S8x8x2048x2048, .f32⟩
  | .hbm, ⟨101, _⟩ => ⟨S8x8x2048x64, .f32⟩
  | .hbm, ⟨102, _⟩ => ⟨S8x2048x8x64, .f32⟩
  | .hbm, ⟨103, _⟩ => ⟨S8x2048x512, .f32⟩
  | .hbm, ⟨104, _⟩ => ⟨S8x2048x512, .bf16⟩
  | _, _ => ⟨S8x512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_c : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_0 : Ref sig .tc := ⟨.hbm, 30, rfl⟩
abbrev main_call0_v12 : Ref sig .tc := ⟨.hbm, 31, rfl⟩
abbrev main_call0_v13 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v20 : Ref sig .tc := ⟨.hbm, 45, rfl⟩
abbrev main_values : Ref sig .tc := ⟨.hbm, 46, rfl⟩
abbrev main_indices : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_c_0 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_1 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_2 : Ref sig .tc := ⟨.hbm, 81, rfl⟩
abbrev main_call2_v0 : Ref sig .tc := ⟨.hbm, 82, rfl⟩
abbrev main_call2_v1 : Ref sig .tc := ⟨.hbm, 83, rfl⟩
abbrev main_v52 : Ref sig .tc := ⟨.hbm, 84, rfl⟩
abbrev main_cst_3 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_cst_4 : Ref sig .tc := ⟨.hbm, 93, rfl⟩
abbrev main_v60 : Ref sig .tc := ⟨.hbm, 94, rfl⟩
abbrev main_v61 : Ref sig .tc := ⟨.hbm, 95, rfl⟩
abbrev main_cst_5 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩

abbrev nD : Nat := 1
abbrev τ : Topo := Topo.v7x

variable {F : FTy → Type} [FloatOps F]
-- ==== Ffn.lean ====
abbrev S16384x1024 : Shape := ⟨2, ![16384, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1024 : Shape := ⟨1, ![1024]⟩
abbrev S2x1x1024 : Shape := ⟨3, ![2, 1, 1024]⟩
abbrev S1x1024 : Shape := ⟨2, ![1, 1024]⟩
abbrev S1024x1024 : Shape := ⟨2, ![1024, 1024]⟩
abbrev S1x1x1024 : Shape := ⟨3, ![1, 1, 1024]⟩
abbrev S1x1024x2816 : Shape := ⟨3, ![1, 1024, 2816]⟩
abbrev S1x2816x1024 : Shape := ⟨3, ![1, 2816, 1024]⟩
abbrev S1024x2816 : Shape := ⟨2, ![1024, 2816]⟩
abbrev S1024x1 : Shape := ⟨2, ![1024, 1]⟩
abbrev S1x1024x256 : Shape := ⟨3, ![1, 1024, 256]⟩
abbrev S1024x256 : Shape := ⟨2, ![1024, 256]⟩
abbrev S2816x1024 : Shape := ⟨2, ![2816, 1024]⟩

abbrev nBuf : Space → Nat
  | .hbm => 12
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S2x1024x2816, .f32⟩
  | .hbm, ⟨3, _⟩ => ⟨S2x1024x2816, .f32⟩
  | .hbm, ⟨4, _⟩ => ⟨S2x2816x1024, .f32⟩
  | .hbm, ⟨5, _⟩ => ⟨S1024, .f32⟩
  | .hbm, ⟨6, _⟩ => ⟨S2x1x1024, .f32⟩
  | .hbm, ⟨7, _⟩ => ⟨S2x1024x2816, .bf16⟩
  | .hbm, ⟨8, _⟩ => ⟨S2x1024x2816, .bf16⟩
  | .hbm, ⟨9, _⟩ => ⟨S2x2816x1024, .bf16⟩
  | .hbm, ⟨10, _⟩ => ⟨S1x1024, .f32⟩
  | .hbm, ⟨11, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x1024x2816, .bf16⟩
  | .local _ .vmem, ⟨4, _⟩ => ⟨S1x1024x2816, .bf16⟩
  | .local _ .vmem, ⟨5, _⟩ => ⟨S1x2816x1024, .bf16⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnReferenceIdeal.lean ====
abbrev S16384x1024 : Shape := ⟨2, ![16384, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1024 : Shape := ⟨1, ![1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1x1024x2816 : Shape := ⟨3, ![1, 1024, 2816]⟩
abbrev S1024x2816 : Shape := ⟨2, ![1024, 2816]⟩
abbrev S16384x2816 : Shape := ⟨2, ![16384, 2816]⟩
abbrev S1x2816x1024 : Shape := ⟨3, ![1, 2816, 1024]⟩
abbrev S2816x1024 : Shape := ⟨2, ![2816, 1024]⟩

abbrev nBuf : Space → Nat
  | .hbm => 63
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S2x1024x2816, .f32⟩
  | .hbm, ⟨3, _⟩ => ⟨S2x1024x2816, .f32⟩
  | .hbm, ⟨4, _⟩ => ⟨S2x2816x1024, .f32⟩
  | .hbm, ⟨5, _⟩ => ⟨S1024, .f32⟩
  | .hbm, ⟨6, _⟩ => ⟨S1x1024, .f32⟩
  | .hbm, ⟨7, _⟩ => ⟨S1024, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S1x1024, .f32⟩
  | .hbm, ⟨22, _⟩ => ⟨S16384x1024, .f32⟩
  | .hbm, ⟨23, _⟩ => ⟨S16384x1024, .f32⟩
  | .hbm, ⟨24, _⟩ => ⟨S1x1024x2816, .f32⟩
  | .hbm, ⟨25, _⟩ => ⟨S1024x2816, .f32⟩
  | .hbm, ⟨26, _⟩ => ⟨S16384x2816, .f32⟩
  | .hbm, ⟨27, _⟩ => ⟨S16384x2816, .f32⟩
  | .hbm, ⟨28, _⟩ => ⟨S16384x2816, .f32⟩
  | .hbm, ⟨29, _⟩ => ⟨S_, .f32⟩
  | .hbm, ⟨30, _⟩ => ⟨S16384x2816, .f32⟩
  | .hbm, ⟨31, _⟩ => ⟨S16384x2816, .f32⟩
  | .hbm, ⟨32, _⟩ => ⟨S_, .f32⟩
  | .hbm, ⟨33, _⟩ => ⟨S16384x2816, .f32⟩
  | .hbm, ⟨34, _⟩ => ⟨S16384x2816, .f32⟩
  | .hbm, ⟨35, _⟩ => ⟨S16384x2816, .f32⟩
  | .hbm, ⟨36, _⟩ => ⟨S1x1024x2816, .f32⟩
  | .hbm, ⟨37, _⟩ => ⟨S1024x2816, .f32⟩
  | .hbm, ⟨38, _⟩ => ⟨S16384x2816, .f32⟩
  | .hbm, ⟨39, _⟩ => ⟨S16384x2816, .f32⟩
  | .hbm, ⟨40, _⟩ => ⟨S1x2816x1024, .f32⟩
  | .hbm, ⟨41, _⟩ => ⟨S2816x1024, .f32⟩
  | .hbm, ⟨42, _⟩ => ⟨S16384x1024, .f32⟩
  | .hbm, ⟨43, _⟩ => ⟨S_, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S_, .f32⟩
  | .hbm, ⟨49, _⟩ => ⟨S16384, .f32⟩
  | .hbm, ⟨50, _⟩ => ⟨S16384x1, .f32⟩
  | .hbm, ⟨51, _⟩ => ⟨S_, .f32⟩
  | .hbm, ⟨52, _⟩ => ⟨S16384x1, .f32⟩
  | .hbm, ⟨53, _⟩ => ⟨S16384x1, .f32⟩
  | .hbm, ⟨54, _⟩ => ⟨S_, .f32⟩
  | .hbm, ⟨55, _⟩ => ⟨S16384x1, .f32⟩
  | .hbm, ⟨56, _⟩ => ⟨S16384x1, .f32⟩
  | .hbm, ⟨57, _⟩ => ⟨S16384x1, .f32⟩
  | .hbm, ⟨58, _⟩ => ⟨S16384x1024, .f32⟩
  | .hbm, ⟨59, _⟩ => ⟨S16384x1024, .f32⟩
  | .hbm, ⟨60, _⟩ => ⟨S1x1024, .f32⟩
  | .hbm, ⟨61, _⟩ => ⟨S16384x1024, .f32⟩
  | .hbm, ⟨62, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_3 : Ref sig .tc := ⟨.hbm, 48, rfl⟩
abbrev main_v30 : Ref sig .tc := ⟨.hbm, 49, rfl⟩
abbrev main_v31 : Ref sig .tc := ⟨.hbm, 50, rfl⟩
abbrev main_cst_4 : Ref sig .tc := ⟨.hbm, 51, rfl⟩
abbrev main_v32 : Ref sig .tc := ⟨.hbm, 52, rfl⟩
abbrev main_v33 : Ref sig .tc := ⟨.hbm, 53, rfl⟩
abbrev main_cst_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩

abbrev nD : Nat := 1
abbrev τ : Topo := Topo.v7x

variable {F : FTy → Type} [FloatOps F]
-- ==== FfnMid.lean ====
abbrev S16384x1024 : Shape := ⟨2, ![16384, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1024 : Shape := ⟨1, ![1024]⟩
abbrev S2x1x1024 : Shape := ⟨3, ![2, 1, 1024]⟩
abbrev S1x1024 : Shape := ⟨2, ![1, 1024]⟩
abbrev S1024x1024 : Shape := ⟨2, ![1024, 1024]⟩
abbrev S1x1x1024 : Shape := ⟨3, ![1, 1, 1024]⟩
abbrev S1x1024x2816 : Shape := ⟨3, ![1, 1024, 2816]⟩
abbrev S1x2816x1024 : Shape := ⟨3, ![1, 2816, 1024]⟩
abbrev S1024x2816 : Shape := ⟨2, ![1024, 2816]⟩
abbrev S1024x1 : Shape := ⟨2, ![1024, 1]⟩
abbrev S1x1024x256 : Shape := ⟨3, ![1, 1024, 256]⟩
abbrev S1024x256 : Shape := ⟨2, ![1024, 256]⟩
abbrev S2816x1024 : Shape := ⟨2, ![2816, 1024]⟩

abbrev nBuf : Space → Nat
  | .hbm => 12
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S2x1024x2816, .f32⟩
  | .hbm, ⟨3, _⟩ => ⟨S2x1024x2816, .f32⟩
  | .hbm, ⟨4, _⟩ => ⟨S2x2816x1024, .f32⟩
  | .hbm, ⟨5, _⟩ => ⟨S1024, .f32⟩
  | .hbm, ⟨6, _⟩ => ⟨S2x1x1024, .f32⟩
  | .hbm, ⟨7, _⟩ => ⟨S2x1024x2816, .bf16⟩
  | .hbm, ⟨8, _⟩ => ⟨S2x1024x2816, .bf16⟩
  | .hbm, ⟨9, _⟩ => ⟨S2x2816x1024, .bf16⟩
  | .hbm, ⟨10, _⟩ => ⟨S1x1024, .f32⟩
  | .hbm, ⟨11, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x1024x2816, .bf16⟩
  | .local _ .vmem, ⟨4, _⟩ => ⟨S1x1024x2816, .bf16⟩
  | .local _ .vmem, ⟨5, _⟩ => ⟨S1x2816x1024, .bf16⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnMidIdeal.lean ====
abbrev S16384x1024 : Shape := ⟨2, ![16384, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1024 : Shape := ⟨1, ![1024]⟩
abbrev S2x1x1024 : Shape := ⟨3, ![2, 1, 1024]⟩
abbrev S1x1024 : Shape := ⟨2, ![1, 1024]⟩
abbrev S1024x1024 : Shape := ⟨2, ![1024, 1024]⟩
abbrev S1x1x1024 : Shape := ⟨3, ![1, 1, 1024]⟩
abbrev S1x1024x2816 : Shape := ⟨3, ![1, 1024, 2816]⟩
abbrev S1x2816x1024 : Shape := ⟨3, ![1, 2816, 1024]⟩
abbrev S1024x2816 : Shape := ⟨2, ![1024, 2816]⟩
abbrev S1024x1 : Shape := ⟨2, ![1024, 1]⟩
abbrev S1x1024x256 : Shape := ⟨3, ![1, 1024, 256]⟩
abbrev S1024x256 : Shape := ⟨2, ![1024, 256]⟩
abbrev S2816x1024 : Shape := ⟨2, ![2816, 1024]⟩

abbrev nBuf : Space → Nat
  | .hbm => 12
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S2x1024x2816, .f32⟩
  | .hbm, ⟨3, _⟩ => ⟨S2x1024x2816, .f32⟩
  | .hbm, ⟨4, _⟩ => ⟨S2x2816x1024, .f32⟩
  | .hbm, ⟨5, _⟩ => ⟨S1024, .f32⟩
  | .hbm, ⟨6, _⟩ => ⟨S2x1x1024, .f32⟩
  | .hbm, ⟨7, _⟩ => ⟨S2x1024x2816, .bf16⟩
  | .hbm, ⟨8, _⟩ => ⟨S2x1024x2816, .bf16⟩
  | .hbm, ⟨9, _⟩ => ⟨S2x2816x1024, .bf16⟩
  | .hbm, ⟨10, _⟩ => ⟨S1x1024, .f32⟩
  | .hbm, ⟨11, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x1024x2816, .bf16⟩
  | .local _ .vmem, ⟨4, _⟩ => ⟨S1x1024x2816, .bf16⟩
  | .local _ .vmem, ⟨5, _⟩ => ⟨S1x2816x1024, .bf16⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnMidReferenceIdeal.lean ====
abbrev S16384x1024 : Shape := ⟨2, ![16384, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1024 : Shape := ⟨1, ![1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1x1024x2816 : Shape := ⟨3, ![1, 1024, 2816]⟩
abbrev S1024x2816 : Shape := ⟨2, ![1024, 2816]⟩
abbrev S16384x2816 : Shape := ⟨2, ![16384, 2816]⟩
abbrev S1x2816x1024 : Shape := ⟨3, ![1, 2816, 1024]⟩
abbrev S2816x1024 : Shape := ⟨2, ![2816, 1024]⟩

abbrev nBuf : Space → Nat
  | .hbm => 47
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S2x1024x2816, .f32⟩
  | .hbm, ⟨3, _⟩ => ⟨S2x1024x2816, .f32⟩
  | .hbm, ⟨4, _⟩ => ⟨S2x2816x1024, .f32⟩
  | .hbm, ⟨5, _⟩ => ⟨S1024, .f32⟩
  | .hbm, ⟨6, _⟩ => ⟨S1x1024, .f32⟩
  | .hbm, ⟨7, _⟩ => ⟨S1024, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S1x1024, .f32⟩
  | .hbm, ⟨22, _⟩ => ⟨S16384x1024, .f32⟩
  | .hbm, ⟨23, _⟩ => ⟨S16384x1024, .f32⟩
  | .hbm, ⟨24, _⟩ => ⟨S1x1024x2816, .f32⟩
  | .hbm, ⟨25, _⟩ => ⟨S1024x2816, .f32⟩
  | .hbm, ⟨26, _⟩ => ⟨S16384x2816, .f32⟩
  | .hbm, ⟨27, _⟩ => ⟨S16384x2816, .f32⟩
  | .hbm, ⟨28, _⟩ => ⟨S16384x2816, .f32⟩
  | .hbm, ⟨29, _⟩ => ⟨S_, .f32⟩
  | .hbm, ⟨30, _⟩ => ⟨S16384x2816, .f32⟩
  | .hbm, ⟨31, _⟩ => ⟨S16384x2816, .f32⟩
  | .hbm, ⟨32, _⟩ => ⟨S_, .f32⟩
  | .hbm, ⟨33, _⟩ => ⟨S16384x2816, .f32⟩
  | .hbm, ⟨34, _⟩ => ⟨S16384x2816, .f32⟩
  | .hbm, ⟨35, _⟩ => ⟨S16384x2816, .f32⟩
  | .hbm, ⟨36, _⟩ => ⟨S1x1024x2816, .f32⟩
  | .hbm, ⟨37, _⟩ => ⟨S1024x2816, .f32⟩
  | .hbm, ⟨38, _⟩ => ⟨S16384x2816, .f32⟩
  | .hbm, ⟨39, _⟩ => ⟨S16384x2816, .f32⟩
  | .hbm, ⟨40, _⟩ => ⟨S1x2816x1024, .f32⟩
  | .hbm, ⟨41, _⟩ => ⟨S2816x1024, .f32⟩
  | .hbm, ⟨42, _⟩ => ⟨S16384x1024, .f32⟩
  | .hbm, ⟨43, _⟩ => ⟨S_, .f32⟩
  | .hbm, ⟨44, _⟩ => ⟨S16384x1024, .f32⟩
  | .hbm, ⟨45, _⟩ => ⟨S16384x1024, .f32⟩
  | .hbm, ⟨46, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩

abbrev nD : Nat := 1
abbrev τ : Topo := Topo.v7x

variable {F : FTy → Type} [FloatOps F]
-- ==== FfnFirst.lean ====
abbrev S16384x1024 : Shape := ⟨2, ![16384, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1024 : Shape := ⟨1, ![1024]⟩
abbrev S2x1x1024 : Shape := ⟨3, ![2, 1, 1024]⟩
abbrev S1x1024 : Shape := ⟨2, ![1, 1024]⟩
abbrev S1024x1024 : Shape := ⟨2, ![1024, 1024]⟩
abbrev S1x1x1024 : Shape := ⟨3, ![1, 1, 1024]⟩
abbrev S1x1024x2816 : Shape := ⟨3, ![1, 1024, 2816]⟩
abbrev S1x2816x1024 : Shape := ⟨3, ![1, 2816, 1024]⟩
abbrev S1024x2816 : Shape := ⟨2, ![1024, 2816]⟩
abbrev S1024x1 : Shape := ⟨2, ![1024, 1]⟩
abbrev S1x1024x256 : Shape := ⟨3, ![1, 1024, 256]⟩
abbrev S1024x256 : Shape := ⟨2, ![1024, 256]⟩
abbrev S2816x1024 : Shape := ⟨2, ![2816, 1024]⟩

abbrev nBuf : Space → Nat
  | .hbm => 12
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S2x1024x2816, .f32⟩
  | .hbm, ⟨3, _⟩ => ⟨S2x1024x2816, .f32⟩
  | .hbm, ⟨4, _⟩ => ⟨S2x2816x1024, .f32⟩
  | .hbm, ⟨5, _⟩ => ⟨S1024, .f32⟩
  | .hbm, ⟨6, _⟩ => ⟨S2x1x1024, .f32⟩
  | .hbm, ⟨7, _⟩ => ⟨S2x1024x2816, .bf16⟩
  | .hbm, ⟨8, _⟩ => ⟨S2x1024x2816, .bf16⟩
  | .hbm, ⟨9, _⟩ => ⟨S2x2816x1024, .bf16⟩
  | .hbm, ⟨10, _⟩ => ⟨S1x1024, .f32⟩
  | .hbm, ⟨11, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x1024x2816, .bf16⟩
  | .local _ .vmem, ⟨4, _⟩ => ⟨S1x1024x2816, .bf16⟩
  | .local _ .vmem, ⟨5, _⟩ => ⟨S1x2816x1024, .bf16⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnFirstReferenceIdeal.lean ====
abbrev S16384x1024 : Shape := ⟨2, ![16384, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1024 : Shape := ⟨1, ![1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1x1024x2816 : Shape := ⟨3, ![1, 1024, 2816]⟩
abbrev S1024x2816 : Shape := ⟨2, ![1024, 2816]⟩
abbrev S16384x2816 : Shape := ⟨2, ![16384, 2816]⟩
abbrev S1x2816x1024 : Shape := ⟨3, ![1, 2816, 1024]⟩
abbrev S2816x1024 : Shape := ⟨2, ![2816, 1024]⟩

abbrev nBuf : Space → Nat
  | .hbm => 47
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S2x1024x2816, .f32⟩
  | .hbm, ⟨3, _⟩ => ⟨S2x1024x2816, .f32⟩
  | .hbm, ⟨4, _⟩ => ⟨S2x2816x1024, .f32⟩
  | .hbm, ⟨5, _⟩ => ⟨S1024, .f32⟩
  | .hbm, ⟨6, _⟩ => ⟨S1x1024, .f32⟩
  | .hbm, ⟨7, _⟩ => ⟨S1024, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S1x1024, .f32⟩
  | .hbm, ⟨22, _⟩ => ⟨S16384x1024, .f32⟩
  | .hbm, ⟨23, _⟩ => ⟨S16384x1024, .f32⟩
  | .hbm, ⟨24, _⟩ => ⟨S1x1024x2816, .f32⟩
  | .hbm, ⟨25, _⟩ => ⟨S1024x2816, .f32⟩
  | .hbm, ⟨26, _⟩ => ⟨S16384x2816, .f32⟩
  | .hbm, ⟨27, _⟩ => ⟨S16384x2816, .f32⟩
  | .hbm, ⟨28, _⟩ => ⟨S16384x2816, .f32⟩
  | .hbm, ⟨29, _⟩ => ⟨S_, .f32⟩
  | .hbm, ⟨30, _⟩ => ⟨S16384x2816, .f32⟩
  | .hbm, ⟨31, _⟩ => ⟨S16384x2816, .f32⟩
  | .hbm, ⟨32, _⟩ => ⟨S_, .f32⟩
  | .hbm, ⟨33, _⟩ => ⟨S16384x2816, .f32⟩
  | .hbm, ⟨34, _⟩ => ⟨S16384x2816, .f32⟩
  | .hbm, ⟨35, _⟩ => ⟨S16384x2816, .f32⟩
  | .hbm, ⟨36, _⟩ => ⟨S1x1024x2816, .f32⟩
  | .hbm, ⟨37, _⟩ => ⟨S1024x2816, .f32⟩
  | .hbm, ⟨38, _⟩ => ⟨S16384x2816, .f32⟩
  | .hbm, ⟨39, _⟩ => ⟨S16384x2816, .f32⟩
  | .hbm, ⟨40, _⟩ => ⟨S1x2816x1024, .f32⟩
  | .hbm, ⟨41, _⟩ => ⟨S2816x1024, .f32⟩
  | .hbm, ⟨42, _⟩ => ⟨S16384x1024, .f32⟩
  | .hbm, ⟨43, _⟩ => ⟨S_, .f32⟩
  | .hbm, ⟨44, _⟩ => ⟨S16384x1024, .f32⟩
  | .hbm, ⟨45, _⟩ => ⟨S16384x1024, .f32⟩
  | .hbm, ⟨46, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩

abbrev nD : Nat := 1
abbrev τ : Topo := Topo.v7x

variable {F : FTy → Type} [FloatOps F]
-- ==== Merge.lean ====
abbrev S16384x1024 : Shape := ⟨2, ![16384, 1024]⟩
abbrev S2x1024 : Shape := ⟨2, ![2, 1024]⟩
abbrev S8x2048x512 : Shape := ⟨3, ![8, 2048, 512]⟩
abbrev S2x1024x2048 : Shape := ⟨3, ![2, 1024, 2048]⟩
abbrev S2x512x1024 : Shape := ⟨3, ![2, 512, 1024]⟩
abbrev S2x1024x1024 : Shape := ⟨3, ![2, 1024, 1024]⟩
abbrev S2x1x1024 : Shape := ⟨3, ![2, 1, 1024]⟩
abbrev S1024x1024 : Shape := ⟨2, ![1024, 1024]⟩
abbrev S1x1x1024 : Shape := ⟨3, ![1, 1, 1024]⟩
abbrev S1x1024x512 : Shape := ⟨3, ![1, 1024, 512]⟩
abbrev S1x1024x2048 : Shape := ⟨3, ![1, 1024, 2048]⟩
abbrev S1x512x1024 : Shape := ⟨3, ![1, 512, 1024]⟩
abbrev S1x1024x1024 : Shape := ⟨3, ![1, 1024, 1024]⟩
abbrev S1x1024 : Shape := ⟨2, ![1, 1024]⟩
abbrev S1024 : Shape := ⟨1, ![1024]⟩
abbrev S1024x1 : Shape := ⟨2, ![1024, 1]⟩
abbrev S1024x512 : Shape := ⟨2, ![1024, 512]⟩
abbrev S512x1024 : Shape := ⟨2, ![512, 1024]⟩

abbrev nBuf : Space → Nat
  | .hbm => 13
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S8x2048x512, .bf16⟩
  | .hbm, ⟨3, _⟩ => ⟨S8x2048x512, .bf16⟩
  | .hbm, ⟨4, _⟩ => ⟨S2x1024x2048, .bf16⟩
  | .hbm, ⟨5, _⟩ => ⟨S2x512x1024, .f32⟩
  | .hbm, ⟨6, _⟩ => ⟨S2x512x1024, .f32⟩
  | .hbm, ⟨7, _⟩ => ⟨S2x1024x1024, .f32⟩
  | .hbm, ⟨8, _⟩ => ⟨S2x1x1024, .f32⟩
  | .hbm, ⟨9, _⟩ => ⟨S2x512x1024, .bf16⟩
  | .hbm, ⟨10, _⟩ => ⟨S2x512x1024, .bf16⟩
  | .hbm, ⟨11, _⟩ => ⟨S2x1024x1024, .bf16⟩
  | .hbm, ⟨12, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x1024x512, .bf16⟩
  | .local _ .vmem, ⟨7, _⟩ => ⟨S1x1024x2048, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x1024x1024, .bf16⟩
  | .local _ .vmem, ⟨11, _⟩ => ⟨S1024x1024, .f32⟩
  | .local _ .vmem, ⟨12, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_3 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MergeIdeal.lean ====
abbrev S16384x1024 : Shape := ⟨2, ![16384, 1024]⟩
abbrev S2x1024 : Shape := ⟨2, ![2, 1024]⟩
abbrev S8x2048x512 : Shape := ⟨3, ![8, 2048, 512]⟩
abbrev S2x1024x2048 : Shape := ⟨3, ![2, 1024, 2048]⟩
abbrev S2x512x1024 : Shape := ⟨3, ![2, 512, 1024]⟩
abbrev S2x1024x1024 : Shape := ⟨3, ![2, 1024, 1024]⟩
abbrev S2x1x1024 : Shape := ⟨3, ![2, 1, 1024]⟩
abbrev S1024x1024 : Shape := ⟨2, ![1024, 1024]⟩
abbrev S1x1x1024 : Shape := ⟨3, ![1, 1, 1024]⟩
abbrev S1x1024x512 : Shape := ⟨3, ![1, 1024, 512]⟩
abbrev S1x1024x2048 : Shape := ⟨3, ![1, 1024, 2048]⟩
abbrev S1x512x1024 : Shape := ⟨3, ![1, 512, 1024]⟩
abbrev S1x1024x1024 : Shape := ⟨3, ![1, 1024, 1024]⟩
abbrev S1x1024 : Shape := ⟨2, ![1, 1024]⟩
abbrev S1024 : Shape := ⟨1, ![1024]⟩
abbrev S1024x1 : Shape := ⟨2, ![1024, 1]⟩
abbrev S1024x512 : Shape := ⟨2, ![1024, 512]⟩
abbrev S512x1024 : Shape := ⟨2, ![512, 1024]⟩

abbrev nBuf : Space → Nat
  | .hbm => 13
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S8x2048x512, .bf16⟩
  | .hbm, ⟨3, _⟩ => ⟨S8x2048x512, .bf16⟩
  | .hbm, ⟨4, _⟩ => ⟨S2x1024x2048, .bf16⟩
  | .hbm, ⟨5, _⟩ => ⟨S2x512x1024, .f32⟩
  | .hbm, ⟨6, _⟩ => ⟨S2x512x1024, .f32⟩
  | .hbm, ⟨7, _⟩ => ⟨S2x1024x1024, .f32⟩
  | .hbm, ⟨8, _⟩ => ⟨S2x1x1024, .f32⟩
  | .hbm, ⟨9, _⟩ => ⟨S2x512x1024, .bf16⟩
  | .hbm, ⟨10, _⟩ => ⟨S2x512x1024, .bf16⟩
  | .hbm, ⟨11, _⟩ => ⟨S2x1024x1024, .bf16⟩
  | .hbm, ⟨12, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x1024x512, .bf16⟩
  | .local _ .vmem, ⟨7, _⟩ => ⟨S1x1024x2048, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x1024x1024, .bf16⟩
  | .local _ .vmem, ⟨11, _⟩ => ⟨S1024x1024, .f32⟩
  | .local _ .vmem, ⟨12, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_3 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MergeReferenceIdeal.lean ====
abbrev S16384x1024 : Shape := ⟨2, ![16384, 1024]⟩
abbrev S2x1024 : Shape := ⟨2, ![2, 1024]⟩
abbrev S8x2048x512 : Shape := ⟨3, ![8, 2048, 512]⟩
abbrev S2x1024x2048 : Shape := ⟨3, ![2, 1024, 2048]⟩
abbrev S2x512x1024 : Shape := ⟨3, ![2, 512, 1024]⟩
abbrev S2x1024x1024 : Shape := ⟨3, ![2, 1024, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1024 : Shape := ⟨1, ![1024]⟩
abbrev S1x1024x2048 : Shape := ⟨3, ![1, 1024, 2048]⟩
abbrev S1024x2048 : Shape := ⟨2, ![1024, 2048]⟩
abbrev S16384x512 : Shape := ⟨2, ![16384, 512]⟩
abbrev S1x512x1024 : Shape := ⟨3, ![1, 512, 1024]⟩
abbrev S512x1024 : Shape := ⟨2, ![512, 1024]⟩
abbrev S1024x1024 : Shape := ⟨2, ![1024, 1024]⟩
abbrev S1x1024x1024 : Shape := ⟨3, ![1, 1024, 1024]⟩

abbrev nBuf : Space → Nat
  | .hbm => 66
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S8x2048x512, .bf16⟩
  | .hbm, ⟨3, _⟩ => ⟨S8x2048x512, .bf16⟩
  | .hbm, ⟨4, _⟩ => ⟨S2x1024x2048, .bf16⟩
  | .hbm, ⟨5, _⟩ => ⟨S2x512x1024, .f32⟩
  | .hbm, ⟨6, _⟩ => ⟨S2x512x1024, .f32⟩
  | .hbm, ⟨7, _⟩ => ⟨S2x1024x1024, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S1x1024, .f32⟩
  | .hbm, ⟨22, _⟩ => ⟨S1024, .f32⟩
  | .hbm, ⟨23, _⟩ => ⟨S1x1024, .f32⟩
  | .hbm, ⟨24, _⟩ => ⟨S16384x1024, .f32⟩
  | .hbm, ⟨25, _⟩ => ⟨S16384x1024, .f32⟩
  | .hbm, ⟨26, _⟩ => ⟨S1x1024x2048, .bf16⟩
  | .hbm, ⟨27, _⟩ => ⟨S1024x2048, .bf16⟩
  | .hbm, ⟨28, _⟩ => ⟨S1024x2048, .f32⟩
  | .hbm, ⟨29, _⟩ => ⟨S16384x512, .bf16⟩
  | .hbm, ⟨30, _⟩ => ⟨S16384x512, .f32⟩
  | .hbm, ⟨31, _⟩ => ⟨S1x512x1024, .f32⟩
  | .hbm, ⟨32, _⟩ => ⟨S512x1024, .f32⟩
  | .hbm, ⟨33, _⟩ => ⟨S16384x1024, .f32⟩
  | .hbm, ⟨34, _⟩ => ⟨S16384x512, .bf16⟩
  | .hbm, ⟨35, _⟩ => ⟨S16384x512, .f32⟩
  | .hbm, ⟨36, _⟩ => ⟨S1x512x1024, .f32⟩
  | .hbm, ⟨37, _⟩ => ⟨S512x1024, .f32⟩
  | .hbm, ⟨38, _⟩ => ⟨S16384x1024, .f32⟩
  | .hbm, ⟨39, _⟩ => ⟨S1024x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S_, .f32⟩
  | .hbm, ⟨44, _⟩ => ⟨S16384x1024, .f32⟩
  | .hbm, ⟨45, _⟩ => ⟨S16384x1024, .f32⟩
  | .hbm, ⟨46, _⟩ => ⟨S_, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S1024x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S_, .f32⟩
  | .hbm, ⟨55, _⟩ => ⟨S16384x1024, .f32⟩
  | .hbm, ⟨56, _⟩ => ⟨S16384x1024, .f32⟩
  | .hbm, ⟨57, _⟩ => ⟨S_, .f32⟩
  | .hbm, ⟨58, _⟩ => ⟨S16384x1024, .f32⟩
  | .hbm, ⟨59, _⟩ => ⟨S16384x1024, .f32⟩
  | .hbm, ⟨60, _⟩ => ⟨S16384x1024, .f32⟩
  | .hbm, ⟨61, _⟩ => ⟨S16384x1024, .f32⟩
  | .hbm, ⟨62, _⟩ => ⟨S1x1024x1024, .f32⟩
  | .hbm, ⟨63, _⟩ => ⟨S1024x1024, .f32⟩
  | .hbm, ⟨64, _⟩ => ⟨S16384x1024, .f32⟩
  | .hbm, ⟨65, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_2 : Ref sig .tc := ⟨.hbm, 43, rfl⟩
abbrev main_v32 : Ref sig .tc := ⟨.hbm, 44, rfl⟩
abbrev main_v33 : Ref sig .tc := ⟨.hbm, 45, rfl⟩
abbrev main_cst_3 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_4 : Ref sig .tc := ⟨.hbm, 54, rfl⟩
abbrev main_v41 : Ref sig .tc := ⟨.hbm, 55, rfl⟩
abbrev main_v42 : Ref sig .tc := ⟨.hbm, 56, rfl⟩
abbrev main_cst_5 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩

abbrev nD : Nat := 1
abbrev τ : Topo := Topo.v7x

variable {F : FTy → Type} [FloatOps F]
-- ==== MergeFirst.lean ====
abbrev S16384x1024 : Shape := ⟨2, ![16384, 1024]⟩
abbrev S2x1024 : Shape := ⟨2, ![2, 1024]⟩
abbrev S8x2048x512 : Shape := ⟨3, ![8, 2048, 512]⟩
abbrev S2x1024x2048 : Shape := ⟨3, ![2, 1024, 2048]⟩
abbrev S2x512x1024 : Shape := ⟨3, ![2, 512, 1024]⟩
abbrev S2x1024x1024 : Shape := ⟨3, ![2, 1024, 1024]⟩
abbrev S2x1x1024 : Shape := ⟨3, ![2, 1, 1024]⟩
abbrev S1024x1024 : Shape := ⟨2, ![1024, 1024]⟩
abbrev S1x1x1024 : Shape := ⟨3, ![1, 1, 1024]⟩
abbrev S1x1024x512 : Shape := ⟨3, ![1, 1024, 512]⟩
abbrev S1x1024x2048 : Shape := ⟨3, ![1, 1024, 2048]⟩
abbrev S1x512x1024 : Shape := ⟨3, ![1, 512, 1024]⟩
abbrev S1x1024x1024 : Shape := ⟨3, ![1, 1024, 1024]⟩
abbrev S1x1024 : Shape := ⟨2, ![1, 1024]⟩
abbrev S1024 : Shape := ⟨1, ![1024]⟩
abbrev S1024x1 : Shape := ⟨2, ![1024, 1]⟩
abbrev S1024x512 : Shape := ⟨2, ![1024, 512]⟩
abbrev S512x1024 : Shape := ⟨2, ![512, 1024]⟩

abbrev nBuf : Space → Nat
  | .hbm => 13
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S8x2048x512, .bf16⟩
  | .hbm, ⟨3, _⟩ => ⟨S8x2048x512, .bf16⟩
  | .hbm, ⟨4, _⟩ => ⟨S2x1024x2048, .bf16⟩
  | .hbm, ⟨5, _⟩ => ⟨S2x512x1024, .f32⟩
  | .hbm, ⟨6, _⟩ => ⟨S2x512x1024, .f32⟩
  | .hbm, ⟨7, _⟩ => ⟨S2x1024x1024, .f32⟩
  | .hbm, ⟨8, _⟩ => ⟨S2x1x1024, .f32⟩
  | .hbm, ⟨9, _⟩ => ⟨S2x512x1024, .bf16⟩
  | .hbm, ⟨10, _⟩ => ⟨S2x512x1024, .bf16⟩
  | .hbm, ⟨11, _⟩ => ⟨S2x1024x1024, .bf16⟩
  | .hbm, ⟨12, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x1024x512, .bf16⟩
  | .local _ .vmem, ⟨7, _⟩ => ⟨S1x1024x2048, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x1024x1024, .bf16⟩
  | .local _ .vmem, ⟨11, _⟩ => ⟨S1024x1024, .f32⟩
  | .local _ .vmem, ⟨12, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_3 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MergeFirstReferenceIdeal.lean ====
abbrev S16384x1024 : Shape := ⟨2, ![16384, 1024]⟩
abbrev S2x1024 : Shape := ⟨2, ![2, 1024]⟩
abbrev S8x2048x512 : Shape := ⟨3, ![8, 2048, 512]⟩
abbrev S2x1024x2048 : Shape := ⟨3, ![2, 1024, 2048]⟩
abbrev S2x512x1024 : Shape := ⟨3, ![2, 512, 1024]⟩
abbrev S2x1024x1024 : Shape := ⟨3, ![2, 1024, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1024 : Shape := ⟨1, ![1024]⟩
abbrev S1x1024x2048 : Shape := ⟨3, ![1, 1024, 2048]⟩
abbrev S1024x2048 : Shape := ⟨2, ![1024, 2048]⟩
abbrev S16384x512 : Shape := ⟨2, ![16384, 512]⟩
abbrev S1x512x1024 : Shape := ⟨3, ![1, 512, 1024]⟩
abbrev S512x1024 : Shape := ⟨2, ![512, 1024]⟩
abbrev S1024x1024 : Shape := ⟨2, ![1024, 1024]⟩
abbrev S1x1024x1024 : Shape := ⟨3, ![1, 1024, 1024]⟩

abbrev nBuf : Space → Nat
  | .hbm => 66
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S8x2048x512, .bf16⟩
  | .hbm, ⟨3, _⟩ => ⟨S8x2048x512, .bf16⟩
  | .hbm, ⟨4, _⟩ => ⟨S2x1024x2048, .bf16⟩
  | .hbm, ⟨5, _⟩ => ⟨S2x512x1024, .f32⟩
  | .hbm, ⟨6, _⟩ => ⟨S2x512x1024, .f32⟩
  | .hbm, ⟨7, _⟩ => ⟨S2x1024x1024, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S1x1024, .f32⟩
  | .hbm, ⟨22, _⟩ => ⟨S1024, .f32⟩
  | .hbm, ⟨23, _⟩ => ⟨S1x1024, .f32⟩
  | .hbm, ⟨24, _⟩ => ⟨S16384x1024, .f32⟩
  | .hbm, ⟨25, _⟩ => ⟨S16384x1024, .f32⟩
  | .hbm, ⟨26, _⟩ => ⟨S1x1024x2048, .bf16⟩
  | .hbm, ⟨27, _⟩ => ⟨S1024x2048, .bf16⟩
  | .hbm, ⟨28, _⟩ => ⟨S1024x2048, .f32⟩
  | .hbm, ⟨29, _⟩ => ⟨S16384x512, .bf16⟩
  | .hbm, ⟨30, _⟩ => ⟨S16384x512, .f32⟩
  | .hbm, ⟨31, _⟩ => ⟨S1x512x1024, .f32⟩
  | .hbm, ⟨32, _⟩ => ⟨S512x1024, .f32⟩
  | .hbm, ⟨33, _⟩ => ⟨S16384x1024, .f32⟩
  | .hbm, ⟨34, _⟩ => ⟨S16384x512, .bf16⟩
  | .hbm, ⟨35, _⟩ => ⟨S16384x512, .f32⟩
  | .hbm, ⟨36, _⟩ => ⟨S1x512x1024, .f32⟩
  | .hbm, ⟨37, _⟩ => ⟨S512x1024, .f32⟩
  | .hbm, ⟨38, _⟩ => ⟨S16384x1024, .f32⟩
  | .hbm, ⟨39, _⟩ => ⟨S1024x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S_, .f32⟩
  | .hbm, ⟨44, _⟩ => ⟨S16384x1024, .f32⟩
  | .hbm, ⟨45, _⟩ => ⟨S16384x1024, .f32⟩
  | .hbm, ⟨46, _⟩ => ⟨S_, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S1024x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S_, .f32⟩
  | .hbm, ⟨55, _⟩ => ⟨S16384x1024, .f32⟩
  | .hbm, ⟨56, _⟩ => ⟨S16384x1024, .f32⟩
  | .hbm, ⟨57, _⟩ => ⟨S_, .f32⟩
  | .hbm, ⟨58, _⟩ => ⟨S16384x1024, .f32⟩
  | .hbm, ⟨59, _⟩ => ⟨S16384x1024, .f32⟩
  | .hbm, ⟨60, _⟩ => ⟨S16384x1024, .f32⟩
  | .hbm, ⟨61, _⟩ => ⟨S16384x1024, .f32⟩
  | .hbm, ⟨62, _⟩ => ⟨S1x1024x1024, .f32⟩
  | .hbm, ⟨63, _⟩ => ⟨S1024x1024, .f32⟩
  | .hbm, ⟨64, _⟩ => ⟨S16384x1024, .f32⟩
  | .hbm, ⟨65, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_2 : Ref sig .tc := ⟨.hbm, 43, rfl⟩
abbrev main_v32 : Ref sig .tc := ⟨.hbm, 44, rfl⟩
abbrev main_v33 : Ref sig .tc := ⟨.hbm, 45, rfl⟩
abbrev main_cst_3 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_4 : Ref sig .tc := ⟨.hbm, 54, rfl⟩
abbrev main_v41 : Ref sig .tc := ⟨.hbm, 55, rfl⟩
abbrev main_v42 : Ref sig .tc := ⟨.hbm, 56, rfl⟩
abbrev main_cst_5 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩

abbrev nD : Nat := 1
abbrev τ : Topo := Topo.v7x

variable {F : FTy → Type} [FloatOps F]
-- ==== Proj.lean ====
abbrev S16384x1024 : Shape := ⟨2, ![16384, 1024]⟩
abbrev S2x1024 : Shape := ⟨2, ![2, 1024]⟩
abbrev S2x1024x2944 : Shape := ⟨3, ![2, 1024, 2944]⟩
abbrev S2048x32 : Shape := ⟨2, ![2048, 32]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S2x1x1024 : Shape := ⟨3, ![2, 1, 1024]⟩
abbrev S8x512x2048 : Shape := ⟨3, ![8, 512, 2048]⟩
abbrev S8x2048x128 : Shape := ⟨3, ![8, 2048, 128]⟩
abbrev S8x2048x256 : Shape := ⟨3, ![8, 2048, 256]⟩
abbrev S8x256x2048 : Shape := ⟨3, ![8, 256, 2048]⟩
abbrev S8x2048x512 : Shape := ⟨3, ![8, 2048, 512]⟩
abbrev S8x128x2048 : Shape := ⟨3, ![8, 128, 2048]⟩
abbrev S16x4x512 : Shape := ⟨3, ![16, 4, 512]⟩
abbrev S1024x1024 : Shape := ⟨2, ![1024, 1024]⟩
abbrev S1x1x1024 : Shape := ⟨3, ![1, 1, 1024]⟩
abbrev S1x1024x2944 : Shape := ⟨3, ![1, 1024, 2944]⟩
abbrev S1024x128 : Shape := ⟨2, ![1024, 128]⟩
abbrev S1x512x1024 : Shape := ⟨3, ![1, 512, 1024]⟩
abbrev S1x1024x128 : Shape := ⟨3, ![1, 1024, 128]⟩
abbrev S1x1024x256 : Shape := ⟨3, ![1, 1024, 256]⟩
abbrev S1x256x1024 : Shape := ⟨3, ![1, 256, 1024]⟩
abbrev S1x1024x512 : Shape := ⟨3, ![1, 1024, 512]⟩
abbrev S1x128x1024 : Shape := ⟨3, ![1, 128, 1024]⟩
abbrev S1x4x512 : Shape := ⟨3, ![1, 4, 512]⟩
abbrev S1x1024 : Shape := ⟨2, ![1, 1024]⟩
abbrev S1024 : Shape := ⟨1, ![1024]⟩
abbrev S1024x1 : Shape := ⟨2, ![1024, 1]⟩
abbrev S1024x512 : Shape := ⟨2, ![1024, 512]⟩
abbrev S512x1024 : Shape := ⟨2, ![512, 1024]⟩
abbrev S1024x256 : Shape := ⟨2, ![1024, 256]⟩
abbrev S256x1024 : Shape := ⟨2, ![256, 1024]⟩
abbrev S256x512 : Shape := ⟨2, ![256, 512]⟩
abbrev S512 : Shape := ⟨1, ![512]⟩
abbrev S1x512 : Shape := ⟨2, ![1, 512]⟩
abbrev S4x512 : Shape := ⟨2, ![4, 512]⟩
abbrev S128x1024 : Shape := ⟨2, ![128, 1024]⟩

abbrev nBuf : Space → Nat
  | .hbm => 25
  | .vmem => 28
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S2x1024x2944, .bf16⟩
  | .hbm, ⟨3, _⟩ => ⟨S2048x32, .f32⟩
  | .hbm, ⟨4, _⟩ => ⟨S2048x32, .f32⟩
  | .hbm, ⟨5, _⟩ => ⟨S2048x64, .f32⟩
  | .hbm, ⟨6, _⟩ => ⟨S1x2048x1x64, .f32⟩
  | .hbm, ⟨7, _⟩ => ⟨S1x2048x2x64, .f32⟩
  | .hbm, ⟨8, _⟩ => ⟨S2048x128, .f32⟩
  | .hbm, ⟨9, _⟩ => ⟨S2048x32, .f32⟩
  | .hbm, ⟨10, _⟩ => ⟨S2048x64, .f32⟩
  | .hbm, ⟨11, _⟩ => ⟨S1x2048x1x64, .f32⟩
  | .hbm, ⟨12, _⟩ => ⟨S1x2048x2x64, .f32⟩
  | .hbm, ⟨13, _⟩ => ⟨S2048x128, .f32⟩
  | .hbm, ⟨14, _⟩ => ⟨S2x1x1024, .f32⟩
  | .hbm, ⟨15, _⟩ => ⟨S8x512x2048, .bf16⟩
  | .hbm, ⟨16, _⟩ => ⟨S8x2048x128, .f32⟩
  | .hbm, ⟨17, _⟩ => ⟨S8x2048x128, .f32⟩
  | .hbm, ⟨18, _⟩ => ⟨S8x2048x256, .bf16⟩
  | .hbm, ⟨19, _⟩ => ⟨S8x256x2048, .bf16⟩
  | .hbm, ⟨20, _⟩ => ⟨S8x512x2048, .bf16⟩
  | .hbm, ⟨21, _⟩ => ⟨S8x2048x512, .bf16⟩
  | .hbm, ⟨22, _⟩ => ⟨S8x512x2048, .bf16⟩
  | .hbm, ⟨23, _⟩ => ⟨S8x128x2048, .f32⟩
  | .hbm, ⟨24, _⟩ => ⟨S16x4x512, .f32⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x1024x2944, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1x512x1024, .bf16⟩
  | .local _ .vmem, ⟨9, _⟩ => ⟨S1x512x1024, .bf16⟩
  | .local _ .vmem, ⟨10, _⟩ => ⟨S1x1024x128, .f32⟩
  | .local _ .vmem, ⟨11, _⟩ => ⟨S1x1024x128, .f32⟩
  | .local _ .vmem, ⟨12, _⟩ => ⟨S1x1024x128, .f32⟩
  | .local _ .vmem, ⟨13, _⟩ => ⟨S1x1024x128, .f32⟩
  | .local _ .vmem, ⟨14, _⟩ => ⟨S1x1024x256, .bf16⟩
  | .local _ .vmem, ⟨15, _⟩ => ⟨S1x1024x256, .bf16⟩
  | .local _ .vmem, ⟨16, _⟩ => ⟨S1x256x1024, .bf16⟩
  | .local _ .vmem, ⟨17, _⟩ => ⟨S1x256x1024, .bf16⟩
  | .local _ .vmem, ⟨18, _⟩ => ⟨S1x512x1024, .bf16⟩
  | .local _ .vmem, ⟨19, _⟩ => ⟨S1x512x1024, .bf16⟩
  | .local _ .vmem, ⟨20, _⟩ => ⟨S1x1024x512, .bf16⟩
  | .local _ .vmem, ⟨21, _⟩ => ⟨S1x1024x512, .bf16⟩
  | .local _ .vmem, ⟨22, _⟩ => ⟨S1x512x1024, .bf16⟩
  | .local _ .vmem, ⟨23, _⟩ => ⟨S1x512x1024, .bf16⟩
  | .local _ .vmem, ⟨24, _⟩ => ⟨S1x128x1024, .f32⟩
  | .local _ .vmem, ⟨25, _⟩ => ⟨S1x128x1024, .f32⟩
  | .local _ .vmem, ⟨26, _⟩ => ⟨S1x4x512, .f32⟩
  | .local _ .vmem, ⟨27, _⟩ => ⟨S1x4x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_v10_2 : Ref sig .tc := ⟨.hbm, 17, rfl⟩
abbrev main_v10_3 : Ref sig .tc := ⟨.hbm, 18, rfl⟩
abbrev main_v10_4 : Ref sig .tc := ⟨.hbm, 19, rfl⟩
abbrev main_v10_5 : Ref sig .tc := ⟨.hbm, 20, rfl⟩
abbrev main_v10_6 : Ref sig .tc := ⟨.hbm, 21, rfl⟩
abbrev main_v10_7 : Ref sig .tc := ⟨.hbm, 22, rfl⟩
abbrev main_v10_8 : Ref sig .tc := ⟨.hbm, 23, rfl⟩
abbrev main_v10_9 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_6 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_7 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_8 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_9 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_10 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_11 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_12 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_13 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2944 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x128x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x4x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ProjIdeal.lean ====
abbrev S16384x1024 : Shape := ⟨2, ![16384, 1024]⟩
abbrev S2x1024 : Shape := ⟨2, ![2, 1024]⟩
abbrev S2x1024x2944 : Shape := ⟨3, ![2, 1024, 2944]⟩
abbrev S2048x32 : Shape := ⟨2, ![2048, 32]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S2x1x1024 : Shape := ⟨3, ![2, 1, 1024]⟩
abbrev S8x512x2048 : Shape := ⟨3, ![8, 512, 2048]⟩
abbrev S8x2048x128 : Shape := ⟨3, ![8, 2048, 128]⟩
abbrev S8x2048x256 : Shape := ⟨3, ![8, 2048, 256]⟩
abbrev S8x256x2048 : Shape := ⟨3, ![8, 256, 2048]⟩
abbrev S8x2048x512 : Shape := ⟨3, ![8, 2048, 512]⟩
abbrev S8x128x2048 : Shape := ⟨3, ![8, 128, 2048]⟩
abbrev S16x4x512 : Shape := ⟨3, ![16, 4, 512]⟩
abbrev S1024x1024 : Shape := ⟨2, ![1024, 1024]⟩
abbrev S1x1x1024 : Shape := ⟨3, ![1, 1, 1024]⟩
abbrev S1x1024x2944 : Shape := ⟨3, ![1, 1024, 2944]⟩
abbrev S1024x128 : Shape := ⟨2, ![1024, 128]⟩
abbrev S1x512x1024 : Shape := ⟨3, ![1, 512, 1024]⟩
abbrev S1x1024x128 : Shape := ⟨3, ![1, 1024, 128]⟩
abbrev S1x1024x256 : Shape := ⟨3, ![1, 1024, 256]⟩
abbrev S1x256x1024 : Shape := ⟨3, ![1, 256, 1024]⟩
abbrev S1x1024x512 : Shape := ⟨3, ![1, 1024, 512]⟩
abbrev S1x128x1024 : Shape := ⟨3, ![1, 128, 1024]⟩
abbrev S1x4x512 : Shape := ⟨3, ![1, 4, 512]⟩
abbrev S1x1024 : Shape := ⟨2, ![1, 1024]⟩
abbrev S1024 : Shape := ⟨1, ![1024]⟩
abbrev S1024x1 : Shape := ⟨2, ![1024, 1]⟩
abbrev S1024x512 : Shape := ⟨2, ![1024, 512]⟩
abbrev S512x1024 : Shape := ⟨2, ![512, 1024]⟩
abbrev S1024x256 : Shape := ⟨2, ![1024, 256]⟩
abbrev S256x1024 : Shape := ⟨2, ![256, 1024]⟩
abbrev S256x512 : Shape := ⟨2, ![256, 512]⟩
abbrev S512 : Shape := ⟨1, ![512]⟩
abbrev S1x512 : Shape := ⟨2, ![1, 512]⟩
abbrev S4x512 : Shape := ⟨2, ![4, 512]⟩
abbrev S128x1024 : Shape := ⟨2, ![128, 1024]⟩

abbrev nBuf : Space → Nat
  | .hbm => 25
  | .vmem => 28
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S2x1024x2944, .bf16⟩
  | .hbm, ⟨3, _⟩ => ⟨S2048x32, .f32⟩
  | .hbm, ⟨4, _⟩ => ⟨S2048x32, .f32⟩
  | .hbm, ⟨5, _⟩ => ⟨S2048x64, .f32⟩
  | .hbm, ⟨6, _⟩ => ⟨S1x2048x1x64, .f32⟩
  | .hbm, ⟨7, _⟩ => ⟨S1x2048x2x64, .f32⟩
  | .hbm, ⟨8, _⟩ => ⟨S2048x128, .f32⟩
  | .hbm, ⟨9, _⟩ => ⟨S2048x32, .f32⟩
  | .hbm, ⟨10, _⟩ => ⟨S2048x64, .f32⟩
  | .hbm, ⟨11, _⟩ => ⟨S1x2048x1x64, .f32⟩
  | .hbm, ⟨12, _⟩ => ⟨S1x2048x2x64, .f32⟩
  | .hbm, ⟨13, _⟩ => ⟨S2048x128, .f32⟩
  | .hbm, ⟨14, _⟩ => ⟨S2x1x1024, .f32⟩
  | .hbm, ⟨15, _⟩ => ⟨S8x512x2048, .bf16⟩
  | .hbm, ⟨16, _⟩ => ⟨S8x2048x128, .f32⟩
  | .hbm, ⟨17, _⟩ => ⟨S8x2048x128, .f32⟩
  | .hbm, ⟨18, _⟩ => ⟨S8x2048x256, .bf16⟩
  | .hbm, ⟨19, _⟩ => ⟨S8x256x2048, .bf16⟩
  | .hbm, ⟨20, _⟩ => ⟨S8x512x2048, .bf16⟩
  | .hbm, ⟨21, _⟩ => ⟨S8x2048x512, .bf16⟩
  | .hbm, ⟨22, _⟩ => ⟨S8x512x2048, .bf16⟩
  | .hbm, ⟨23, _⟩ => ⟨S8x128x2048, .f32⟩
  | .hbm, ⟨24, _⟩ => ⟨S16x4x512, .f32⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x1024x2944, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1x512x1024, .bf16⟩
  | .local _ .vmem, ⟨9, _⟩ => ⟨S1x512x1024, .bf16⟩
  | .local _ .vmem, ⟨10, _⟩ => ⟨S1x1024x128, .f32⟩
  | .local _ .vmem, ⟨11, _⟩ => ⟨S1x1024x128, .f32⟩
  | .local _ .vmem, ⟨12, _⟩ => ⟨S1x1024x128, .f32⟩
  | .local _ .vmem, ⟨13, _⟩ => ⟨S1x1024x128, .f32⟩
  | .local _ .vmem, ⟨14, _⟩ => ⟨S1x1024x256, .bf16⟩
  | .local _ .vmem, ⟨15, _⟩ => ⟨S1x1024x256, .bf16⟩
  | .local _ .vmem, ⟨16, _⟩ => ⟨S1x256x1024, .bf16⟩
  | .local _ .vmem, ⟨17, _⟩ => ⟨S1x256x1024, .bf16⟩
  | .local _ .vmem, ⟨18, _⟩ => ⟨S1x512x1024, .bf16⟩
  | .local _ .vmem, ⟨19, _⟩ => ⟨S1x512x1024, .bf16⟩
  | .local _ .vmem, ⟨20, _⟩ => ⟨S1x1024x512, .bf16⟩
  | .local _ .vmem, ⟨21, _⟩ => ⟨S1x1024x512, .bf16⟩
  | .local _ .vmem, ⟨22, _⟩ => ⟨S1x512x1024, .bf16⟩
  | .local _ .vmem, ⟨23, _⟩ => ⟨S1x512x1024, .bf16⟩
  | .local _ .vmem, ⟨24, _⟩ => ⟨S1x128x1024, .f32⟩
  | .local _ .vmem, ⟨25, _⟩ => ⟨S1x128x1024, .f32⟩
  | .local _ .vmem, ⟨26, _⟩ => ⟨S1x4x512, .f32⟩
  | .local _ .vmem, ⟨27, _⟩ => ⟨S1x4x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_v10_2 : Ref sig .tc := ⟨.hbm, 17, rfl⟩
abbrev main_v10_3 : Ref sig .tc := ⟨.hbm, 18, rfl⟩
abbrev main_v10_4 : Ref sig .tc := ⟨.hbm, 19, rfl⟩
abbrev main_v10_5 : Ref sig .tc := ⟨.hbm, 20, rfl⟩
abbrev main_v10_6 : Ref sig .tc := ⟨.hbm, 21, rfl⟩
abbrev main_v10_7 : Ref sig .tc := ⟨.hbm, 22, rfl⟩
abbrev main_v10_8 : Ref sig .tc := ⟨.hbm, 23, rfl⟩
abbrev main_v10_9 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_6 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_7 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_8 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_9 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_10 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_11 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_12 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_13 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2944 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x128x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x4x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ProjReferenceIdeal.lean ====
abbrev S16384x1024 : Shape := ⟨2, ![16384, 1024]⟩
abbrev S2x1024 : Shape := ⟨2, ![2, 1024]⟩
abbrev S2x1024x2944 : Shape := ⟨3, ![2, 1024, 2944]⟩
abbrev S2048x32 : Shape := ⟨2, ![2048, 32]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1024 : Shape := ⟨1, ![1024]⟩
abbrev S1x1024x2944 : Shape := ⟨3, ![1, 1024, 2944]⟩
abbrev S1024x2944 : Shape := ⟨2, ![1024, 2944]⟩
abbrev S1024x512 : Shape := ⟨2, ![1024, 512]⟩
abbrev S16384x512 : Shape := ⟨2, ![16384, 512]⟩
abbrev S8x2048x512 : Shape := ⟨3, ![8, 2048, 512]⟩
abbrev S8x2048x8x64 : Shape := ⟨4, ![8, 2048, 8, 64]⟩
abbrev S8x2048x8x32 : Shape := ⟨4, ![8, 2048, 8, 32]⟩
abbrev S1x2048x1x32 : Shape := ⟨4, ![1, 2048, 1, 32]⟩
abbrev S1024x128 : Shape := ⟨2, ![1024, 128]⟩
abbrev S16384x128 : Shape := ⟨2, ![16384, 128]⟩
abbrev S8x2048x128 : Shape := ⟨3, ![8, 2048, 128]⟩
abbrev S16x4x256x512 : Shape := ⟨4, ![16, 4, 256, 512]⟩
abbrev S16x4x512 : Shape := ⟨3, ![16, 4, 512]⟩
abbrev S8x512x2048 : Shape := ⟨3, ![8, 512, 2048]⟩
abbrev S8x2048x2x64 : Shape := ⟨4, ![8, 2048, 2, 64]⟩
abbrev S8x2048x2x32 : Shape := ⟨4, ![8, 2048, 2, 32]⟩
abbrev S8x2048x256 : Shape := ⟨3, ![8, 2048, 256]⟩
abbrev S8x256x2048 : Shape := ⟨3, ![8, 256, 2048]⟩
abbrev S8x128x2048 : Shape := ⟨3, ![8, 128, 2048]⟩

abbrev nBuf : Space → Nat
  | .hbm => 177
  | .vmem => 0
  | .smem => 0
  | _ => 0

abbrev hbmTy0_0 (i : Nat) : BufTy := match i % 128 with
  | 0 => ⟨S16384x1024, .f32⟩
  | 1 => ⟨S2x1024, .f32⟩
  | 2 => ⟨S2x1024x2944, .bf16⟩
  | 3 => ⟨S2048x32, .f32⟩
  | 4 => ⟨S2048x32, .f32⟩
  | 5 => ⟨S16384x1024, .f32⟩
  | 6 => ⟨S_, .f32⟩
  | 7 => ⟨S16384, .f32⟩
  | 8 => ⟨S16384x1, .f32⟩
  | 9 => ⟨S_, .f32⟩
  | 10 => ⟨S16384x1, .f32⟩
  | 11 => ⟨S16384x1, .f32⟩
  | 12 => ⟨S_, .f32⟩
  | 13 => ⟨S16384x1, .f32⟩
  | 14 => ⟨S16384x1, .f32⟩
  | 15 => ⟨S16384x1, .f32⟩
  | 16 => ⟨S16384x1024, .f32⟩
  | 17 => ⟨S16384x1024, .f32⟩
  | 18 => ⟨S1x1024, .f32⟩
  | 19 => ⟨S1024, .f32⟩
  | 20 => ⟨S1x1024, .f32⟩
  | 21 => ⟨S16384x1024, .f32⟩
  | 22 => ⟨S16384x1024, .f32⟩
  | 23 => ⟨S1x1024x2944, .bf16⟩
  | 24 => ⟨S1024x2944, .bf16⟩
  | 25 => ⟨S1024x2944, .f32⟩
  | 26 => ⟨S1024x512, .f32⟩
  | 27 => ⟨S16384x512, .f32⟩
  | 28 => ⟨S8x2048x512, .f32⟩
  | 29 => ⟨S8x2048x8x64, .f32⟩
  | 30 => ⟨S8x2048x8x32, .f32⟩
  | 31 => ⟨S8x2048x8x32, .f32⟩
  | 32 => ⟨S1x2048x1x32, .f32⟩
  | 33 => ⟨S1x2048x1x32, .f32⟩
  | 34 => ⟨S8x2048x8x32, .f32⟩
  | 35 => ⟨S8x2048x8x32, .f32⟩
  | 36 => ⟨S8x2048x8x32, .f32⟩
  | 37 => ⟨S8x2048x8x32, .f32⟩
  | 38 => ⟨S8x2048x8x32, .f32⟩
  | 39 => ⟨S8x2048x8x32, .f32⟩
  | 40 => ⟨S8x2048x8x32, .f32⟩
  | 41 => ⟨S8x2048x8x32, .f32⟩
  | 42 => ⟨S8x2048x8x32, .f32⟩
  | 43 => ⟨S8x2048x8x32, .f32⟩
  | 44 => ⟨S8x2048x8x64, .f32⟩
  | 45 => ⟨S8x2048x512, .f32⟩
  | 46 => ⟨S1024x128, .f32⟩
  | 47 => ⟨S16384x128, .f32⟩
  | 48 => ⟨S8x2048x128, .f32⟩
  | 49 => ⟨S1024x128, .f32⟩
  | 50 => ⟨S16384x128, .f32⟩
  | 51 => ⟨S8x2048x128, .f32⟩
  | 52 => ⟨S1024x128, .f32⟩
  | 53 => ⟨S16384x128, .f32⟩
  | 54 => ⟨S8x2048x128, .f32⟩
  | 55 => ⟨S1024x128, .f32⟩
  | 56 => ⟨S16384x128, .f32⟩
  | 57 => ⟨S8x2048x128, .f32⟩
  | 58 => ⟨S16x4x256x512, .f32⟩
  | 59 => ⟨S_, .f32⟩
  | 60 => ⟨S16x4x512, .f32⟩
  | 61 => ⟨S_, .f32⟩
  | 62 => ⟨S16x4x512, .f32⟩
  | 63 => ⟨S16x4x512, .f32⟩
  | 64 => ⟨S1024x512, .f32⟩
  | 65 => ⟨S16384x512, .f32⟩
  | 66 => ⟨S8x2048x512, .f32⟩
  | 67 => ⟨S8x2048x8x64, .f32⟩
  | 68 => ⟨S8x2048x8x32, .f32⟩
  | 69 => ⟨S8x2048x8x32, .f32⟩
  | 70 => ⟨S1x2048x1x32, .f32⟩
  | 71 => ⟨S1x2048x1x32, .f32⟩
  | 72 => ⟨S8x2048x8x32, .f32⟩
  | 73 => ⟨S8x2048x8x32, .f32⟩
  | 74 => ⟨S8x2048x8x32, .f32⟩
  | 75 => ⟨S8x2048x8x32, .f32⟩
  | 76 => ⟨S8x2048x8x32, .f32⟩
  | 77 => ⟨S8x2048x8x32, .f32⟩
  | 78 => ⟨S8x2048x8x32, .f32⟩
  | 79 => ⟨S8x2048x8x32, .f32⟩
  | 80 => ⟨S8x2048x8x32, .f32⟩
  | 81 => ⟨S8x2048x8x32, .f32⟩
  | 82 => ⟨S8x2048x8x64, .f32⟩
  | 83 => ⟨S8x2048x512, .f32⟩
  | 84 => ⟨S_, .f32⟩
  | 85 => ⟨S8x2048x512, .f32⟩
  | 86 => ⟨S8x2048x512, .f32⟩
  | 87 => ⟨S8x512x2048, .f32⟩
  | 88 => ⟨S8x512x2048, .bf16⟩
  | 89 => ⟨S1024x128, .f32⟩
  | 90 => ⟨S16384x128, .f32⟩
  | 91 => ⟨S8x2048x128, .f32⟩
  | 92 => ⟨S1024x128, .f32⟩
  | 93 => ⟨S16384x128, .f32⟩
  | 94 => ⟨S8x2048x128, .f32⟩
  | 95 => ⟨S8x2048x2x64, .f32⟩
  | 96 => ⟨S8x2048x2x32, .f32⟩
  | 97 => ⟨S8x2048x2x32, .f32⟩
  | 98 => ⟨S1x2048x1x32, .f32⟩
  | 99 => ⟨S1x2048x1x32, .f32⟩
  | 100 => ⟨S8x2048x2x32, .f32⟩
  | 101 => ⟨S8x2048x2x32, .f32⟩
  | 102 => ⟨S8x2048x2x32, .f32⟩
  | 103 => ⟨S8x2048x2x32, .f32⟩
  | 104 => ⟨S8x2048x2x32, .f32⟩
  | 105 => ⟨S8x2048x2x32, .f32⟩
  | 106 => ⟨S8x2048x2x32, .f32⟩
  | 107 => ⟨S8x2048x2x32, .f32⟩
  | 108 => ⟨S8x2048x2x32, .f32⟩
  | 109 => ⟨S8x2048x2x32, .f32⟩
  | 110 => ⟨S8x2048x2x64, .f32⟩
  | 111 => ⟨S8x2048x128, .f32⟩
  | 112 => ⟨S8x2048x2x64, .f32⟩
  | 113 => ⟨S8x2048x2x32, .f32⟩
  | 114 => ⟨S8x2048x2x32, .f32⟩
  | 115 => ⟨S1x2048x1x32, .f32⟩
  | 116 => ⟨S1x2048x1x32, .f32⟩
  | 117 => ⟨S8x2048x2x32, .f32⟩
  | 118 => ⟨S8x2048x2x32, .f32⟩
  | 119 => ⟨S8x2048x2x32, .f32⟩
  | 120 => ⟨S8x2048x2x32, .f32⟩
  | 121 => ⟨S8x2048x2x32, .f32⟩
  | 122 => ⟨S8x2048x2x32, .f32⟩
  | 123 => ⟨S8x2048x2x32, .f32⟩
  | 124 => ⟨S8x2048x2x32, .f32⟩
  | 125 => ⟨S8x2048x2x32, .f32⟩
  | 126 => ⟨S8x2048x2x32, .f32⟩
  | 127 => ⟨S8x2048x2x64, .f32⟩
  | _ => ⟨S16384x1024, .f32⟩

abbrev hbmTy0_1 (i : Nat) : BufTy := match i % 128 with
  | 0 => ⟨S8x2048x128, .f32⟩
  | 1 => ⟨S8x2048x256, .f32⟩
  | 2 => ⟨S8x2048x256, .bf16⟩
  | 3 => ⟨S8x2048x256, .f32⟩
  | 4 => ⟨S8x256x2048, .f32⟩
  | 5 => ⟨S8x256x2048, .bf16⟩
  | 6 => ⟨S1024x512, .f32⟩
  | 7 => ⟨S16384x512, .f32⟩
  | 8 => ⟨S8x2048x512, .f32⟩
  | 9 => ⟨S8x2048x8x64, .f32⟩
  | 10 => ⟨S8x2048x8x32, .f32⟩
  | 11 => ⟨S8x2048x8x32, .f32⟩
  | 12 => ⟨S1x2048x1x32, .f32⟩
  | 13 => ⟨S1x2048x1x32, .f32⟩
  | 14 => ⟨S8x2048x8x32, .f32⟩
  | 15 => ⟨S8x2048x8x32, .f32⟩
  | 16 => ⟨S8x2048x8x32, .f32⟩
  | 17 => ⟨S8x2048x8x32, .f32⟩
  | 18 => ⟨S8x2048x8x32, .f32⟩
  | 19 => ⟨S8x2048x8x32, .f32⟩
  | 20 => ⟨S8x2048x8x32, .f32⟩
  | 21 => ⟨S8x2048x8x32, .f32⟩
  | 22 => ⟨S8x2048x8x32, .f32⟩
  | 23 => ⟨S8x2048x8x32, .f32⟩
  | 24 => ⟨S8x2048x8x64, .f32⟩
  | 25 => ⟨S8x2048x512, .f32⟩
  | 26 => ⟨S_, .f32⟩
  | 27 => ⟨S8x2048x512, .f32⟩
  | 28 => ⟨S8x2048x512, .f32⟩
  | 29 => ⟨S8x512x2048, .f32⟩
  | 30 => ⟨S8x512x2048, .bf16⟩
  | 31 => ⟨S8x2048x512, .bf16⟩
  | 32 => ⟨S1024x512, .f32⟩
  | 33 => ⟨S16384x512, .f32⟩
  | 34 => ⟨S8x2048x512, .f32⟩
  | 35 => ⟨S8x512x2048, .f32⟩
  | 36 => ⟨S8x512x2048, .bf16⟩
  | 37 => ⟨S1024x128, .f32⟩
  | 38 => ⟨S16384x128, .f32⟩
  | 39 => ⟨S8x2048x128, .f32⟩
  | 40 => ⟨S8x2048x128, .f32⟩
  | 41 => ⟨S8x2048x128, .f32⟩
  | 42 => ⟨S_, .f32⟩
  | 43 => ⟨S8x2048x128, .f32⟩
  | 44 => ⟨S8x2048x128, .f32⟩
  | 45 => ⟨S_, .f32⟩
  | 46 => ⟨S8x2048x128, .f32⟩
  | 47 => ⟨S8x2048x128, .f32⟩
  | 48 => ⟨S8x128x2048, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_cst_2 : Ref sig .tc := ⟨.hbm, 59, rfl⟩
abbrev main_v51 : Ref sig .tc := ⟨.hbm, 60, rfl⟩
abbrev main_cst_3 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_cst_4 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩
abbrev main_v139 : Ref sig .tc := ⟨.hbm, 150, rfl⟩
abbrev main_v140 : Ref sig .tc := ⟨.hbm, 151, rfl⟩
abbrev main_v141 : Ref sig .tc := ⟨.hbm, 152, rfl⟩
abbrev main_v142 : Ref sig .tc := ⟨.hbm, 153, rfl⟩
abbrev main_cst_5 : Ref sig .tc := ⟨.hbm, 154, rfl⟩
abbrev main_v143 : Ref sig .tc := ⟨.hbm, 155, rfl⟩
abbrev main_v144 : Ref sig .tc := ⟨.hbm, 156, rfl⟩
abbrev main_v145 : Ref sig .tc := ⟨.hbm, 157, rfl⟩
abbrev main_v146 : Ref sig .tc := ⟨.hbm, 158, rfl⟩
abbrev main_v147 : Ref sig .tc := ⟨.hbm, 159, rfl⟩
abbrev main_v148 : Ref sig .tc := ⟨.hbm, 160, rfl⟩
abbrev main_v149 : Ref sig .tc := ⟨.hbm, 161, rfl⟩
abbrev main_v150 : Ref sig .tc := ⟨.hbm, 162, rfl⟩
abbrev main_v151 : Ref sig .tc := ⟨.hbm, 163, rfl⟩
abbrev main_v152 : Ref sig .tc := ⟨.hbm, 164, rfl⟩
abbrev main_v153 : Ref sig .tc := ⟨.hbm, 165, rfl⟩
abbrev main_v154 : Ref sig .tc := ⟨.hbm, 166, rfl⟩
abbrev main_v155 : Ref sig .tc := ⟨.hbm, 167, rfl⟩
abbrev main_v156 : Ref sig .tc := ⟨.hbm, 168, rfl⟩
abbrev main_v157 : Ref sig .tc := ⟨.hbm, 169, rfl⟩
abbrev main_cst_6 : Ref sig .tc := ⟨.hbm, 170, rfl⟩
abbrev main_v158 : Ref sig .tc := ⟨.hbm, 171, rfl⟩
abbrev main_v159 : Ref sig .tc := ⟨.hbm, 172, rfl⟩
abbrev main_cst_7 : Ref sig .tc := ⟨.hbm, 173, rfl⟩
abbrev main_v160 : Ref sig .tc := ⟨.hbm, 174, rfl⟩
abbrev main_v161 : Ref sig .tc := ⟨.hbm, 175, rfl⟩
abbrev main_v162 : Ref sig .tc := ⟨.hbm, 176, rfl⟩

abbrev nD : Nat := 1
abbrev τ : Topo := Topo.v7x

variable {F : FTy → Type} [FloatOps F]
-- ==== ProjFirst.lean ====
abbrev S16384x1024 : Shape := ⟨2, ![16384, 1024]⟩
abbrev S2x1024 : Shape := ⟨2, ![2, 1024]⟩
abbrev S2x1024x2944 : Shape := ⟨3, ![2, 1024, 2944]⟩
abbrev S2048x32 : Shape := ⟨2, ![2048, 32]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S2x1x1024 : Shape := ⟨3, ![2, 1, 1024]⟩
abbrev S8x512x2048 : Shape := ⟨3, ![8, 512, 2048]⟩
abbrev S8x2048x128 : Shape := ⟨3, ![8, 2048, 128]⟩
abbrev S8x2048x256 : Shape := ⟨3, ![8, 2048, 256]⟩
abbrev S8x256x2048 : Shape := ⟨3, ![8, 256, 2048]⟩
abbrev S8x2048x512 : Shape := ⟨3, ![8, 2048, 512]⟩
abbrev S8x128x2048 : Shape := ⟨3, ![8, 128, 2048]⟩
abbrev S16x4x512 : Shape := ⟨3, ![16, 4, 512]⟩
abbrev S1024x1024 : Shape := ⟨2, ![1024, 1024]⟩
abbrev S1x1x1024 : Shape := ⟨3, ![1, 1, 1024]⟩
abbrev S1x1024x2944 : Shape := ⟨3, ![1, 1024, 2944]⟩
abbrev S1024x128 : Shape := ⟨2, ![1024, 128]⟩
abbrev S1x512x1024 : Shape := ⟨3, ![1, 512, 1024]⟩
abbrev S1x1024x128 : Shape := ⟨3, ![1, 1024, 128]⟩
abbrev S1x1024x256 : Shape := ⟨3, ![1, 1024, 256]⟩
abbrev S1x256x1024 : Shape := ⟨3, ![1, 256, 1024]⟩
abbrev S1x1024x512 : Shape := ⟨3, ![1, 1024, 512]⟩
abbrev S1x128x1024 : Shape := ⟨3, ![1, 128, 1024]⟩
abbrev S1x4x512 : Shape := ⟨3, ![1, 4, 512]⟩
abbrev S1x1024 : Shape := ⟨2, ![1, 1024]⟩
abbrev S1024 : Shape := ⟨1, ![1024]⟩
abbrev S1024x1 : Shape := ⟨2, ![1024, 1]⟩
abbrev S1024x512 : Shape := ⟨2, ![1024, 512]⟩
abbrev S512x1024 : Shape := ⟨2, ![512, 1024]⟩
abbrev S1024x256 : Shape := ⟨2, ![1024, 256]⟩
abbrev S256x1024 : Shape := ⟨2, ![256, 1024]⟩
abbrev S256x512 : Shape := ⟨2, ![256, 512]⟩
abbrev S512 : Shape := ⟨1, ![512]⟩
abbrev S1x512 : Shape := ⟨2, ![1, 512]⟩
abbrev S4x512 : Shape := ⟨2, ![4, 512]⟩
abbrev S128x1024 : Shape := ⟨2, ![128, 1024]⟩

abbrev nBuf : Space → Nat
  | .hbm => 25
  | .vmem => 28
  | .smem => 0
  | _ => 0

abbrev bufTy : (tb : Table) → Fin (tcTables nBuf tb) → BufTy
  | .hbm, ⟨0, _⟩ => ⟨S16384x1024, .f32⟩
  | .hbm, ⟨1, _⟩ => ⟨S2x1024, .f32⟩
  | .hbm, ⟨2, _⟩ => ⟨S2x1024x2944, .bf16⟩
  | .hbm, ⟨3, _⟩ => ⟨S2048x32, .f32⟩
  | .hbm, ⟨4, _⟩ => ⟨S2048x32, .f32⟩
  | .hbm, ⟨5, _⟩ => ⟨S2048x64, .f32⟩
  | .hbm, ⟨6, _⟩ => ⟨S1x2048x1x64, .f32⟩
  | .hbm, ⟨7, _⟩ => ⟨S1x2048x2x64, .f32⟩
  | .hbm, ⟨8, _⟩ => ⟨S2048x128, .f32⟩
  | .hbm, ⟨9, _⟩ => ⟨S2048x32, .f32⟩
  | .hbm, ⟨10, _⟩ => ⟨S2048x64, .f32⟩
  | .hbm, ⟨11, _⟩ => ⟨S1x2048x1x64, .f32⟩
  | .hbm, ⟨12, _⟩ => ⟨S1x2048x2x64, .f32⟩
  | .hbm, ⟨13, _⟩ => ⟨S2048x128, .f32⟩
  | .hbm, ⟨14, _⟩ => ⟨S2x1x1024, .f32⟩
  | .hbm, ⟨15, _⟩ => ⟨S8x512x2048, .bf16⟩
  | .hbm, ⟨16, _⟩ => ⟨S8x2048x128, .f32⟩
  | .hbm, ⟨17, _⟩ => ⟨S8x2048x128, .f32⟩
  | .hbm, ⟨18, _⟩ => ⟨S8x2048x256, .bf16⟩
  | .hbm, ⟨19, _⟩ => ⟨S8x256x2048, .bf16⟩
  | .hbm, ⟨20, _⟩ => ⟨S8x512x2048, .bf16⟩
  | .hbm, ⟨21, _⟩ => ⟨S8x2048x512, .bf16⟩
  | .hbm, ⟨22, _⟩ => ⟨S8x512x2048, .bf16⟩
  | .hbm, ⟨23, _⟩ => ⟨S8x128x2048, .f32⟩
  | .hbm, ⟨24, _⟩ => ⟨S16x4x512, .f32⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x1024x2944, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1x512x1024, .bf16⟩
  | .local _ .vmem, ⟨9, _⟩ => ⟨S1x512x1024, .bf16⟩
  | .local _ .vmem, ⟨10, _⟩ => ⟨S1x1024x128, .f32⟩
  | .local _ .vmem, ⟨11, _⟩ => ⟨S1x1024x128, .f32⟩
  | .local _ .vmem, ⟨12, _⟩ => ⟨S1x1024x128, .f32⟩
  | .local _ .vmem, ⟨13, _⟩ => ⟨S1x1024x128, .f32⟩
  | .local _ .vmem, ⟨14, _⟩ => ⟨S1x1024x256, .bf16⟩
  | .local _ .vmem, ⟨15, _⟩ => ⟨S1x1024x256, .bf16⟩
  | .local _ .vmem, ⟨16, _⟩ => ⟨S1x256x1024, .bf16⟩
  | .local _ .vmem, ⟨17, _⟩ => ⟨S1x256x1024, .bf16⟩
  | .local _ .vmem, ⟨18, _⟩ => ⟨S1x512x1024, .bf16⟩
  | .local _ .vmem, ⟨19, _⟩ => ⟨S1x512x1024, .bf16⟩
  | .local _ .vmem, ⟨20, _⟩ => ⟨S1x1024x512, .bf16⟩
  | .local _ .vmem, ⟨21, _⟩ => ⟨S1x1024x512, .bf16⟩
  | .local _ .vmem, ⟨22, _⟩ => ⟨S1x512x1024, .bf16⟩
  | .local _ .vmem, ⟨23, _⟩ => ⟨S1x512x1024, .bf16⟩
  | .local _ .vmem, ⟨24, _⟩ => ⟨S1x128x1024, .f32⟩
  | .local _ .vmem, ⟨25, _⟩ => ⟨S1x128x1024, .f32⟩
  | .local _ .vmem, ⟨26, _⟩ => ⟨S1x4x512, .f32⟩
  | .local _ .vmem, ⟨27, _⟩ => ⟨S1x4x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_v10_2 : Ref sig .tc := ⟨.hbm, 17, rfl⟩
abbrev main_v10_3 : Ref sig .tc := ⟨.hbm, 18, rfl⟩
abbrev main_v10_4 : Ref sig .tc := ⟨.hbm, 19, rfl⟩
abbrev main_v10_5 : Ref sig .tc := ⟨.hbm, 20, rfl⟩
abbrev main_v10_6 : Ref sig .tc := ⟨.hbm, 21, rfl⟩
abbrev main_v10_7 : Ref sig .tc := ⟨.hbm, 22, rfl⟩
abbrev main_v10_8 : Ref sig .tc := ⟨.hbm, 23, rfl⟩
abbrev main_v10_9 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_6 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_7 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_8 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_9 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_10 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_11 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_12 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_13 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2944 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x128x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x4x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ProjFirstReferenceIdeal.lean ====
abbrev S16384x1024 : Shape := ⟨2, ![16384, 1024]⟩
abbrev S2x1024 : Shape := ⟨2, ![2, 1024]⟩
abbrev S2x1024x2944 : Shape := ⟨3, ![2, 1024, 2944]⟩
abbrev S2048x32 : Shape := ⟨2, ![2048, 32]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1024 : Shape := ⟨1, ![1024]⟩
abbrev S1x1024x2944 : Shape := ⟨3, ![1, 1024, 2944]⟩
abbrev S1024x2944 : Shape := ⟨2, ![1024, 2944]⟩
abbrev S1024x512 : Shape := ⟨2, ![1024, 512]⟩
abbrev S16384x512 : Shape := ⟨2, ![16384, 512]⟩
abbrev S8x2048x512 : Shape := ⟨3, ![8, 2048, 512]⟩
abbrev S8x2048x8x64 : Shape := ⟨4, ![8, 2048, 8, 64]⟩
abbrev S8x2048x8x32 : Shape := ⟨4, ![8, 2048, 8, 32]⟩
abbrev S1x2048x1x32 : Shape := ⟨4, ![1, 2048, 1, 32]⟩
abbrev S1024x128 : Shape := ⟨2, ![1024, 128]⟩
abbrev S16384x128 : Shape := ⟨2, ![16384, 128]⟩
abbrev S8x2048x128 : Shape := ⟨3, ![8, 2048, 128]⟩
abbrev S16x4x256x512 : Shape := ⟨4, ![16, 4, 256, 512]⟩
abbrev S16x4x512 : Shape := ⟨3, ![16, 4, 512]⟩
abbrev S8x512x2048 : Shape := ⟨3, ![8, 512, 2048]⟩
abbrev S8x2048x2x64 : Shape := ⟨4, ![8, 2048, 2, 64]⟩
abbrev S8x2048x2x32 : Shape := ⟨4, ![8, 2048, 2, 32]⟩
abbrev S8x2048x256 : Shape := ⟨3, ![8, 2048, 256]⟩
abbrev S8x256x2048 : Shape := ⟨3, ![8, 256, 2048]⟩
abbrev S8x128x2048 : Shape := ⟨3, ![8, 128, 2048]⟩

abbrev nBuf : Space → Nat
  | .hbm => 177
  | .vmem => 0
  | .smem => 0
  | _ => 0

abbrev hbmTy0_0 (i : Nat) : BufTy := match i % 128 with
  | 0 => ⟨S16384x1024, .f32⟩
  | 1 => ⟨S2x1024, .f32⟩
  | 2 => ⟨S2x1024x2944, .bf16⟩
  | 3 => ⟨S2048x32, .f32⟩
  | 4 => ⟨S2048x32, .f32⟩
  | 5 => ⟨S16384x1024, .f32⟩
  | 6 => ⟨S_, .f32⟩
  | 7 => ⟨S16384, .f32⟩
  | 8 => ⟨S16384x1, .f32⟩
  | 9 => ⟨S_, .f32⟩
  | 10 => ⟨S16384x1, .f32⟩
  | 11 => ⟨S16384x1, .f32⟩
  | 12 => ⟨S_, .f32⟩
  | 13 => ⟨S16384x1, .f32⟩
  | 14 => ⟨S16384x1, .f32⟩
  | 15 => ⟨S16384x1, .f32⟩
  | 16 => ⟨S16384x1024, .f32⟩
  | 17 => ⟨S16384x1024, .f32⟩
  | 18 => ⟨S1x1024, .f32⟩
  | 19 => ⟨S1024, .f32⟩
  | 20 => ⟨S1x1024, .f32⟩
  | 21 => ⟨S16384x1024, .f32⟩
  | 22 => ⟨S16384x1024, .f32⟩
  | 23 => ⟨S1x1024x2944, .bf16⟩
  | 24 => ⟨S1024x2944, .bf16⟩
  | 25 => ⟨S1024x2944, .f32⟩
  | 26 => ⟨S1024x512, .f32⟩
  | 27 => ⟨S16384x512, .f32⟩
  | 28 => ⟨S8x2048x512, .f32⟩
  | 29 => ⟨S8x2048x8x64, .f32⟩
  | 30 => ⟨S8x2048x8x32, .f32⟩
  | 31 => ⟨S8x2048x8x32, .f32⟩
  | 32 => ⟨S1x2048x1x32, .f32⟩
  | 33 => ⟨S1x2048x1x32, .f32⟩
  | 34 => ⟨S8x2048x8x32, .f32⟩
  | 35 => ⟨S8x2048x8x32, .f32⟩
  | 36 => ⟨S8x2048x8x32, .f32⟩
  | 37 => ⟨S8x2048x8x32, .f32⟩
  | 38 => ⟨S8x2048x8x32, .f32⟩
  | 39 => ⟨S8x2048x8x32, .f32⟩
  | 40 => ⟨S8x2048x8x32, .f32⟩
  | 41 => ⟨S8x2048x8x32, .f32⟩
  | 42 => ⟨S8x2048x8x32, .f32⟩
  | 43 => ⟨S8x2048x8x32, .f32⟩
  | 44 => ⟨S8x2048x8x64, .f32⟩
  | 45 => ⟨S8x2048x512, .f32⟩
  | 46 => ⟨S1024x128, .f32⟩
  | 47 => ⟨S16384x128, .f32⟩
  | 48 => ⟨S8x2048x128, .f32⟩
  | 49 => ⟨S1024x128, .f32⟩
  | 50 => ⟨S16384x128, .f32⟩
  | 51 => ⟨S8x2048x128, .f32⟩
  | 52 => ⟨S1024x128, .f32⟩
  | 53 => ⟨S16384x128, .f32⟩
  | 54 => ⟨S8x2048x128, .f32⟩
  | 55 => ⟨S1024x128, .f32⟩
  | 56 => ⟨S16384x128, .f32⟩
  | 57 => ⟨S8x2048x128, .f32⟩
  | 58 => ⟨S16x4x256x512, .f32⟩
  | 59 => ⟨S_, .f32⟩
  | 60 => ⟨S16x4x512, .f32⟩
  | 61 => ⟨S_, .f32⟩
  | 62 => ⟨S16x4x512, .f32⟩
  | 63 => ⟨S16x4x512, .f32⟩
  | 64 => ⟨S1024x512, .f32⟩
  | 65 => ⟨S16384x512, .f32⟩
  | 66 => ⟨S8x2048x512, .f32⟩
  | 67 => ⟨S8x2048x8x64, .f32⟩
  | 68 => ⟨S8x2048x8x32, .f32⟩
  | 69 => ⟨S8x2048x8x32, .f32⟩
  | 70 => ⟨S1x2048x1x32, .f32⟩
  | 71 => ⟨S1x2048x1x32, .f32⟩
  | 72 => ⟨S8x2048x8x32, .f32⟩
  | 73 => ⟨S8x2048x8x32, .f32⟩
  | 74 => ⟨S8x2048x8x32, .f32⟩
  | 75 => ⟨S8x2048x8x32, .f32⟩
  | 76 => ⟨S8x2048x8x32, .f32⟩
  | 77 => ⟨S8x2048x8x32, .f32⟩
  | 78 => ⟨S8x2048x8x32, .f32⟩
  | 79 => ⟨S8x2048x8x32, .f32⟩
  | 80 => ⟨S8x2048x8x32, .f32⟩
  | 81 => ⟨S8x2048x8x32, .f32⟩
  | 82 => ⟨S8x2048x8x64, .f32⟩
  | 83 => ⟨S8x2048x512, .f32⟩
  | 84 => ⟨S_, .f32⟩
  | 85 => ⟨S8x2048x512, .f32⟩
  | 86 => ⟨S8x2048x512, .f32⟩
  | 87 => ⟨S8x512x2048, .f32⟩
  | 88 => ⟨S8x512x2048, .bf16⟩
  | 89 => ⟨S1024x128, .f32⟩
  | 90 => ⟨S16384x128, .f32⟩
  | 91 => ⟨S8x2048x128, .f32⟩
  | 92 => ⟨S1024x128, .f32⟩
  | 93 => ⟨S16384x128, .f32⟩
  | 94 => ⟨S8x2048x128, .f32⟩
  | 95 => ⟨S8x2048x2x64, .f32⟩
  | 96 => ⟨S8x2048x2x32, .f32⟩
  | 97 => ⟨S8x2048x2x32, .f32⟩
  | 98 => ⟨S1x2048x1x32, .f32⟩
  | 99 => ⟨S1x2048x1x32, .f32⟩
  | 100 => ⟨S8x2048x2x32, .f32⟩
  | 101 => ⟨S8x2048x2x32, .f32⟩
  | 102 => ⟨S8x2048x2x32, .f32⟩
  | 103 => ⟨S8x2048x2x32, .f32⟩
  | 104 => ⟨S8x2048x2x32, .f32⟩
  | 105 => ⟨S8x2048x2x32, .f32⟩
  | 106 => ⟨S8x2048x2x32, .f32⟩
  | 107 => ⟨S8x2048x2x32, .f32⟩
  | 108 => ⟨S8x2048x2x32, .f32⟩
  | 109 => ⟨S8x2048x2x32, .f32⟩
  | 110 => ⟨S8x2048x2x64, .f32⟩
  | 111 => ⟨S8x2048x128, .f32⟩
  | 112 => ⟨S8x2048x2x64, .f32⟩
  | 113 => ⟨S8x2048x2x32, .f32⟩
  | 114 => ⟨S8x2048x2x32, .f32⟩
  | 115 => ⟨S1x2048x1x32, .f32⟩
  | 116 => ⟨S1x2048x1x32, .f32⟩
  | 117 => ⟨S8x2048x2x32, .f32⟩
  | 118 => ⟨S8x2048x2x32, .f32⟩
  | 119 => ⟨S8x2048x2x32, .f32⟩
  | 120 => ⟨S8x2048x2x32, .f32⟩
  | 121 => ⟨S8x2048x2x32, .f32⟩
  | 122 => ⟨S8x2048x2x32, .f32⟩
  | 123 => ⟨S8x2048x2x32, .f32⟩
  | 124 => ⟨S8x2048x2x32, .f32⟩
  | 125 => ⟨S8x2048x2x32, .f32⟩
  | 126 => ⟨S8x2048x2x32, .f32⟩
  | 127 => ⟨S8x2048x2x64, .f32⟩
  | _ => ⟨S16384x1024, .f32⟩

abbrev hbmTy0_1 (i : Nat) : BufTy := match i % 128 with
  | 0 => ⟨S8x2048x128, .f32⟩
  | 1 => ⟨S8x2048x256, .f32⟩
  | 2 => ⟨S8x2048x256, .bf16⟩
  | 3 => ⟨S8x2048x256, .f32⟩
  | 4 => ⟨S8x256x2048, .f32⟩
  | 5 => ⟨S8x256x2048, .bf16⟩
  | 6 => ⟨S1024x512, .f32⟩
  | 7 => ⟨S16384x512, .f32⟩
  | 8 => ⟨S8x2048x512, .f32⟩
  | 9 => ⟨S8x2048x8x64, .f32⟩
  | 10 => ⟨S8x2048x8x32, .f32⟩
  | 11 => ⟨S8x2048x8x32, .f32⟩
  | 12 => ⟨S1x2048x1x32, .f32⟩
  | 13 => ⟨S1x2048x1x32, .f32⟩
  | 14 => ⟨S8x2048x8x32, .f32⟩
  | 15 => ⟨S8x2048x8x32, .f32⟩
  | 16 => ⟨S8x2048x8x32, .f32⟩
  | 17 => ⟨S8x2048x8x32, .f32⟩
  | 18 => ⟨S8x2048x8x32, .f32⟩
  | 19 => ⟨S8x2048x8x32, .f32⟩
  | 20 => ⟨S8x2048x8x32, .f32⟩
  | 21 => ⟨S8x2048x8x32, .f32⟩
  | 22 => ⟨S8x2048x8x32, .f32⟩
  | 23 => ⟨S8x2048x8x32, .f32⟩
  | 24 => ⟨S8x2048x8x64, .f32⟩
  | 25 => ⟨S8x2048x512, .f32⟩
  | 26 => ⟨S_, .f32⟩
  | 27 => ⟨S8x2048x512, .f32⟩
  | 28 => ⟨S8x2048x512, .f32⟩
  | 29 => ⟨S8x512x2048, .f32⟩
  | 30 => ⟨S8x512x2048, .bf16⟩
  | 31 => ⟨S8x2048x512, .bf16⟩
  | 32 => ⟨S1024x512, .f32⟩
  | 33 => ⟨S16384x512, .f32⟩
  | 34 => ⟨S8x2048x512, .f32⟩
  | 35 => ⟨S8x512x2048, .f32⟩
  | 36 => ⟨S8x512x2048, .bf16⟩
  | 37 => ⟨S1024x128, .f32⟩
  | 38 => ⟨S16384x128, .f32⟩
  | 39 => ⟨S8x2048x128, .f32⟩
  | 40 => ⟨S8x2048x128, .f32⟩
  | 41 => ⟨S8x2048x128, .f32⟩
  | 42 => ⟨S_, .f32⟩
  | 43 => ⟨S8x2048x128, .f32⟩
  | 44 => ⟨S8x2048x128, .f32⟩
  | 45 => ⟨S_, .f32⟩
  | 46 => ⟨S8x2048x128, .f32⟩
  | 47 => ⟨S8x2048x128, .f32⟩
  | 48 => ⟨S8x128x2048, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_cst_2 : Ref sig .tc := ⟨.hbm, 59, rfl⟩
abbrev main_v51 : Ref sig .tc := ⟨.hbm, 60, rfl⟩
abbrev main_cst_3 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_cst_4 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩
abbrev main_v139 : Ref sig .tc := ⟨.hbm, 150, rfl⟩
abbrev main_v140 : Ref sig .tc := ⟨.hbm, 151, rfl⟩
abbrev main_v141 : Ref sig .tc := ⟨.hbm, 152, rfl⟩
abbrev main_v142 : Ref sig .tc := ⟨.hbm, 153, rfl⟩
abbrev main_cst_5 : Ref sig .tc := ⟨.hbm, 154, rfl⟩
abbrev main_v143 : Ref sig .tc := ⟨.hbm, 155, rfl⟩
abbrev main_v144 : Ref sig .tc := ⟨.hbm, 156, rfl⟩
abbrev main_v145 : Ref sig .tc := ⟨.hbm, 157, rfl⟩
abbrev main_v146 : Ref sig .tc := ⟨.hbm, 158, rfl⟩
abbrev main_v147 : Ref sig .tc := ⟨.hbm, 159, rfl⟩
abbrev main_v148 : Ref sig .tc := ⟨.hbm, 160, rfl⟩
abbrev main_v149 : Ref sig .tc := ⟨.hbm, 161, rfl⟩
abbrev main_v150 : Ref sig .tc := ⟨.hbm, 162, rfl⟩
abbrev main_v151 : Ref sig .tc := ⟨.hbm, 163, rfl⟩
abbrev main_v152 : Ref sig .tc := ⟨.hbm, 164, rfl⟩
abbrev main_v153 : Ref sig .tc := ⟨.hbm, 165, rfl⟩
abbrev main_v154 : Ref sig .tc := ⟨.hbm, 166, rfl⟩
abbrev main_v155 : Ref sig .tc := ⟨.hbm, 167, rfl⟩
abbrev main_v156 : Ref sig .tc := ⟨.hbm, 168, rfl⟩
abbrev main_v157 : Ref sig .tc := ⟨.hbm, 169, rfl⟩
abbrev main_cst_6 : Ref sig .tc := ⟨.hbm, 170, rfl⟩
abbrev main_v158 : Ref sig .tc := ⟨.hbm, 171, rfl⟩
abbrev main_v159 : Ref sig .tc := ⟨.hbm, 172, rfl⟩
abbrev main_cst_7 : Ref sig .tc := ⟨.hbm, 173, rfl⟩
abbrev main_v160 : Ref sig .tc := ⟨.hbm, 174, rfl⟩
abbrev main_v161 : Ref sig .tc := ⟨.hbm, 175, rfl⟩
abbrev main_v162 : Ref sig .tc := ⟨.hbm, 176, rfl⟩

abbrev nD : Nat := 1
abbrev τ : Topo := Topo.v7x

variable {F : FTy → Type} [FloatOps F]
-- ==== Compress.lean ====
abbrev S8x2048x128 : Shape := ⟨3, ![8, 2048, 128]⟩
abbrev S32x64 : Shape := ⟨2, ![32, 64]⟩
abbrev S2048x128 : Shape := ⟨2, ![2048, 128]⟩
abbrev S128x64 : Shape := ⟨2, ![128, 64]⟩
abbrev S128x32 : Shape := ⟨2, ![128, 32]⟩
abbrev S1x128x1x64 : Shape := ⟨4, ![1, 128, 1, 64]⟩
abbrev S1x128x2x64 : Shape := ⟨4, ![1, 128, 2, 64]⟩
abbrev S128x128 : Shape := ⟨2, ![128, 128]⟩
abbrev S1024x128 : Shape := ⟨2, ![1024, 128]⟩
abbrev S16x64x128 : Shape := ⟨3, ![16, 64, 128]⟩
abbrev S_ : Shape := ⟨0, ![]⟩
abbrev S16x64x512 : Shape := ⟨3, ![16, 64, 512]⟩
abbrev S16x128x512 : Shape := ⟨3, ![16, 128, 512]⟩
abbrev S2048x512 : Shape := ⟨2, ![2048, 512]⟩
abbrev S256x128 : Shape := ⟨2, ![256, 128]⟩
abbrev S1x2048 : Shape := ⟨2, ![1, 2048]⟩
abbrev S8x128x128 : Shape := ⟨3, ![8, 128, 128]⟩
abbrev S1x2048x128 : Shape := ⟨3, ![1, 2048, 128]⟩
abbrev S1x128x128 : Shape := ⟨3, ![1, 128, 128]⟩
abbrev S128x512 : Shape := ⟨2, ![128, 512]⟩
abbrev S128x256 : Shape := ⟨2, ![128, 256]⟩
abbrev S8x2048 : Shape := ⟨2, ![8, 2048]⟩
abbrev S8x128 : Shape := ⟨2, ![8, 128]⟩
abbrev S1x128 : Shape := ⟨2, ![1, 128]⟩
abbrev S1x256 : Shape := ⟨2, ![1, 256]⟩

abbrev nBuf : Space → Nat
  | .hbm => 59
  | .vmem => 18
  | .smem => 0
  | _ => 0

abbrev bufTy : (tb : Table) → Fin (tcTables nBuf tb) → BufTy
  | .hbm, ⟨0, _⟩ => ⟨S8x2048x128, .f32⟩
  | .hbm, ⟨1, _⟩ => ⟨S8x2048x128, .f32⟩
  | .hbm, ⟨2, _⟩ => ⟨S32x64, .f32⟩
  | .hbm, ⟨3, _⟩ => ⟨S2048x128, .f32⟩
  | .hbm, ⟨4, _⟩ => ⟨S128x64, .f32⟩
  | .hbm, ⟨5, _⟩ => ⟨S32x64, .f32⟩
  | .hbm, ⟨6, _⟩ => ⟨S2048x128, .f32⟩
  | .hbm, ⟨7, _⟩ => ⟨S128x64, .f32⟩
  | .hbm, ⟨8, _⟩ => ⟨S128x32, .f32⟩
  | .hbm, ⟨9, _⟩ => ⟨S128x32, .f32⟩
  | .hbm, ⟨10, _⟩ => ⟨S128x64, .f32⟩
  | .hbm, ⟨11, _⟩ => ⟨S1x128x1x64, .f32⟩
  | .hbm, ⟨12, _⟩ => ⟨S1x128x2x64, .f32⟩
  | .hbm, ⟨13, _⟩ => ⟨S128x128, .f32⟩
  | .hbm, ⟨14, _⟩ => ⟨S128x32, .f32⟩
  | .hbm, ⟨15, _⟩ => ⟨S128x64, .f32⟩
  | .hbm, ⟨16, _⟩ => ⟨S1x128x1x64, .f32⟩
  | .hbm, ⟨17, _⟩ => ⟨S1x128x2x64, .f32⟩
  | .hbm, ⟨18, _⟩ => ⟨S128x128, .f32⟩
  | .hbm, ⟨19, _⟩ => ⟨S1024x128, .f32⟩
  | .hbm, ⟨20, _⟩ => ⟨S16x64x128, .f32⟩
  | .hbm, ⟨21, _⟩ => ⟨S1024x128, .f32⟩
  | .hbm, ⟨22, _⟩ => ⟨S16x64x128, .f32⟩
  | .hbm, ⟨23, _⟩ => ⟨S_, .f32⟩
  | .hbm, ⟨24, _⟩ => ⟨S16x64x128, .f32⟩
  | .hbm, ⟨25, _⟩ => ⟨S16x64x512, .f32⟩
  | .hbm, ⟨26, _⟩ => ⟨S16x64x512, .f32⟩
  | .hbm, ⟨27, _⟩ => ⟨S16x128x512, .f32⟩
  | .hbm, ⟨28, _⟩ => ⟨S2048x512, .f32⟩
  | .hbm, ⟨29, _⟩ => ⟨S2048x512, .bf16⟩
  | .hbm, ⟨30, _⟩ => ⟨S_, .f32⟩
  | .hbm, ⟨31, _⟩ => ⟨S128x64, .f32⟩
  | .hbm, ⟨32, _⟩ => ⟨S128x128, .f32⟩
  | .hbm, ⟨33, _⟩ => ⟨S128x128, .f32⟩
  | .hbm, ⟨34, _⟩ => ⟨S256x128, .f32⟩
  | .hbm, ⟨35, _⟩ => ⟨S2048x128, .bf16⟩
  | .hbm, ⟨36, _⟩ => ⟨S1x2048, .f32⟩
  | .hbm, ⟨37, _⟩ => ⟨S256x128, .bf16⟩
  | .hbm, ⟨38, _⟩ => ⟨S1024x128, .f32⟩
  | .hbm, ⟨39, _⟩ => ⟨S16x64x128, .f32⟩
  | .hbm, ⟨40, _⟩ => ⟨S1024x128, .f32⟩
  | .hbm, ⟨41, _⟩ => ⟨S16x64x128, .f32⟩
  | .hbm, ⟨42, _⟩ => ⟨S_, .f32⟩
  | .hbm, ⟨43, _⟩ => ⟨S16x64x128, .f32⟩
  | .hbm, ⟨44, _⟩ => ⟨S16x64x512, .f32⟩
  | .hbm, ⟨45, _⟩ => ⟨S16x64x512, .f32⟩
  | .hbm, ⟨46, _⟩ => ⟨S16x128x512, .f32⟩
  | .hbm, ⟨47, _⟩ => ⟨S2048x512, .f32⟩
  | .hbm, ⟨48, _⟩ => ⟨S2048x512, .bf16⟩
  | .hbm, ⟨49, _⟩ => ⟨S_, .f32⟩
  | .hbm, ⟨50, _⟩ => ⟨S128x64, .f32⟩
  | .hbm, ⟨51, _⟩ => ⟨S128x128, .f32⟩
  | .hbm, ⟨52, _⟩ => ⟨S128x128, .f32⟩
  | .hbm, ⟨53, _⟩ => ⟨S256x128, .f32⟩
  | .hbm, ⟨54, _⟩ => ⟨S2048x128, .bf16⟩
  | .hbm, ⟨55, _⟩ => ⟨S1x2048, .f32⟩
  | .hbm, ⟨56, _⟩ => ⟨S256x128, .bf16⟩
  | .hbm, ⟨57, _⟩ => ⟨S8x128x128, .bf16⟩
  | .hbm, ⟨58, _⟩ => ⟨S8x128x128, .bf16⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S2048x512, .bf16⟩
  | .local _ .vmem, ⟨5, _⟩ => ⟨S2048x128, .bf16⟩
  | .local _ .vmem, ⟨6, _⟩ => ⟨S1x2048, .f32⟩
  | .local _ .vmem, ⟨7, _⟩ => ⟨S256x128, .bf16⟩
  | .local _ .vmem, ⟨8, _⟩ => ⟨S2048x512, .bf16⟩
  | .local _ .vmem, ⟨9, _⟩ => ⟨S2048x128, .bf16⟩
  | .local _ .vmem, ⟨10, _⟩ => ⟨S1x2048, .f32⟩
  | .local _ .vmem, ⟨11, _⟩ => ⟨S256x128, .bf16⟩
  | .local _ .vmem, ⟨12, _⟩ => ⟨S128x128, .f32⟩
  | .local _ .vmem, ⟨13, _⟩ => ⟨S128x128, .f32⟩
  | .local _ .vmem, ⟨14, _⟩ => ⟨S1x128x128, .bf16⟩
  | .local _ .vmem, ⟨15, _⟩ => ⟨S1x128x128, .bf16⟩
  | .local _ .vmem, ⟨16, _⟩ => ⟨S1x128x128, .bf16⟩
  | .local _ .vmem, ⟨17, _⟩ => ⟨S1x128x128, .bf16⟩
  | _, _ => ⟨S8x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_0 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_1 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_2 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43_0 : Ref sig .tc := ⟨.hbm, 57, rfl⟩
abbrev main_v43_1 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15
abbrev cc0_sem13_0 : DmaSem sig := 16
abbrev cc0_sem13_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x128x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x128x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== CompressReferenceIdeal.lean ====
abbrev S8x2048x128 : Shape := ⟨3, ![8, 2048, 128]⟩
abbrev S32x64 : Shape := ⟨2, ![32, 64]⟩
abbrev S2048x128 : Shape := ⟨2, ![2048, 128]⟩
abbrev S128x64 : Shape := ⟨2, ![128, 64]⟩
abbrev S128x32 : Shape := ⟨2, ![128, 32]⟩
abbrev S8x128x16x2x64 : Shape := ⟨5, ![8, 128, 16, 2, 64]⟩
abbrev S8x2x128x16x64 : Shape := ⟨5, ![8, 2, 128, 16, 64]⟩
abbrev S8x2x127x16x64 : Shape := ⟨5, ![8, 2, 127, 16, 64]⟩
abbrev S8x2x1x16x64 : Shape := ⟨5, ![8, 2, 1, 16, 64]⟩
abbrev S8x2x128x32x64 : Shape := ⟨5, ![8, 2, 128, 32, 64]⟩
abbrev S1x2048 : Shape := ⟨2, ![1, 2048]⟩
abbrev S1x128 : Shape := ⟨2, ![1, 128]⟩
abbrev S8x2x128x2048 : Shape := ⟨4, ![8, 2, 128, 2048]⟩
abbrev S8x2x128x128 : Shape := ⟨4, ![8, 2, 128, 128]⟩
abbrev S128 : Shape := ⟨1, ![128]⟩
abbrev S1x1x1x128 : Shape := ⟨4, ![1, 1, 1, 128]⟩
abbrev S_ : Shape := ⟨0, ![]⟩
abbrev S8x2x128x64 : Shape := ⟨4, ![8, 2, 128, 64]⟩
abbrev S8x2x128x32 : Shape := ⟨4, ![8, 2, 128, 32]⟩
abbrev S1x1x128x32 : Shape := ⟨4, ![1, 1, 128, 32]⟩
abbrev S8x128x2x64 : Shape := ⟨4, ![8, 128, 2, 64]⟩
abbrev S8x128x128 : Shape := ⟨3, ![8, 128, 128]⟩

abbrev nBuf : Space → Nat
  | .hbm => 97
  | .vmem => 0
  | .smem => 0
  | _ => 0

abbrev bufTy : (tb : Table) → Fin (tcTables nBuf tb) → BufTy
  | .hbm, ⟨0, _⟩ => ⟨S8x2048x128, .f32⟩
  | .hbm, ⟨1, _⟩ => ⟨S8x2048x128, .f32⟩
  | .hbm, ⟨2, _⟩ => ⟨S32x64, .f32⟩
  | .hbm, ⟨3, _⟩ => ⟨S2048x128, .f32⟩
  | .hbm, ⟨4, _⟩ => ⟨S128x64, .f32⟩
  | .hbm, ⟨5, _⟩ => ⟨S32x64, .f32⟩
  | .hbm, ⟨6, _⟩ => ⟨S2048x128, .f32⟩
  | .hbm, ⟨7, _⟩ => ⟨S128x64, .f32⟩
  | .hbm, ⟨8, _⟩ => ⟨S128x32, .f32⟩
  | .hbm, ⟨9, _⟩ => ⟨S128x32, .f32⟩
  | .hbm, ⟨10, _⟩ => ⟨S8x128x16x2x64, .f32⟩
  | .hbm, ⟨11, _⟩ => ⟨S8x2x128x16x64, .f32⟩
  | .hbm, ⟨12, _⟩ => ⟨S8x2x127x16x64, .f32⟩
  | .hbm, ⟨13, _⟩ => ⟨S8x2x1x16x64, .f32⟩
  | .hbm, ⟨14, _⟩ => ⟨S8x2x128x16x64, .f32⟩
  | .hbm, ⟨15, _⟩ => ⟨S8x2x128x32x64, .f32⟩
  | .hbm, ⟨16, _⟩ => ⟨S1x2048, .f32⟩
  | .hbm, ⟨17, _⟩ => ⟨S1x128, .f32⟩
  | .hbm, ⟨18, _⟩ => ⟨S8x2x128x2048, .f32⟩
  | .hbm, ⟨19, _⟩ => ⟨S8x2x128x128, .f32⟩
  | .hbm, ⟨20, _⟩ => ⟨S128, .f32⟩
  | .hbm, ⟨21, _⟩ => ⟨S1x1x1x128, .f32⟩
  | .hbm, ⟨22, _⟩ => ⟨S8x2x128x128, .f32⟩
  | .hbm, ⟨23, _⟩ => ⟨S8x2x128x128, .f32⟩
  | .hbm, ⟨24, _⟩ => ⟨S8x2x128x128, .f32⟩
  | .hbm, ⟨25, _⟩ => ⟨S8x2x128x128, .f32⟩
  | .hbm, ⟨26, _⟩ => ⟨S_, .f32⟩
  | .hbm, ⟨27, _⟩ => ⟨S8x2x128x128, .f32⟩
  | .hbm, ⟨28, _⟩ => ⟨S8x2x128x128, .f32⟩
  | .hbm, ⟨29, _⟩ => ⟨S8x2x128x128, .f32⟩
  | .hbm, ⟨30, _⟩ => ⟨S_, .f32⟩
  | .hbm, ⟨31, _⟩ => ⟨S8x2x128x128, .f32⟩
  | .hbm, ⟨32, _⟩ => ⟨S8x2x128x128, .f32⟩
  | .hbm, ⟨33, _⟩ => ⟨S8x2x128x128, .f32⟩
  | .hbm, ⟨34, _⟩ => ⟨S_, .f32⟩
  | .hbm, ⟨35, _⟩ => ⟨S8x2x128x128, .f32⟩
  | .hbm, ⟨36, _⟩ => ⟨S8x2x128x128, .f32⟩
  | .hbm, ⟨37, _⟩ => ⟨S_, .f32⟩
  | .hbm, ⟨38, _⟩ => ⟨S8x2x128x128, .f32⟩
  | .hbm, ⟨39, _⟩ => ⟨S8x2x128x128, .f32⟩
  | .hbm, ⟨40, _⟩ => ⟨S8x2x128x128, .f32⟩
  | .hbm, ⟨41, _⟩ => ⟨S8x2x128x64, .f32⟩
  | .hbm, ⟨42, _⟩ => ⟨S8x2x128x32, .f32⟩
  | .hbm, ⟨43, _⟩ => ⟨S8x2x128x32, .f32⟩
  | .hbm, ⟨44, _⟩ => ⟨S1x1x128x32, .f32⟩
  | .hbm, ⟨45, _⟩ => ⟨S8x2x128x32, .f32⟩
  | .hbm, ⟨46, _⟩ => ⟨S8x2x128x32, .f32⟩
  | .hbm, ⟨47, _⟩ => ⟨S1x1x128x32, .f32⟩
  | .hbm, ⟨48, _⟩ => ⟨S8x2x128x32, .f32⟩
  | .hbm, ⟨49, _⟩ => ⟨S8x2x128x32, .f32⟩
  | .hbm, ⟨50, _⟩ => ⟨S8x2x128x32, .f32⟩
  | .hbm, ⟨51, _⟩ => ⟨S1x1x128x32, .f32⟩
  | .hbm, ⟨52, _⟩ => ⟨S8x2x128x32, .f32⟩
  | .hbm, ⟨53, _⟩ => ⟨S8x2x128x32, .f32⟩
  | .hbm, ⟨54, _⟩ => ⟨S1x1x128x32, .f32⟩
  | .hbm, ⟨55, _⟩ => ⟨S8x2x128x32, .f32⟩
  | .hbm, ⟨56, _⟩ => ⟨S8x2x128x32, .f32⟩
  | .hbm, ⟨57, _⟩ => ⟨S8x2x128x32, .f32⟩
  | .hbm, ⟨58, _⟩ => ⟨S8x2x128x64, .f32⟩
  | .hbm, ⟨59, _⟩ => ⟨S8x128x2x64, .f32⟩
  | .hbm, ⟨60, _⟩ => ⟨S8x128x128, .f32⟩
  | .hbm, ⟨61, _⟩ => ⟨S8x128x128, .bf16⟩
  | .hbm, ⟨62, _⟩ => ⟨S8x128x16x2x64, .f32⟩
  | .hbm, ⟨63, _⟩ => ⟨S8x2x128x16x64, .f32⟩
  | .hbm, ⟨64, _⟩ => ⟨S8x2x127x16x64, .f32⟩
  | .hbm, ⟨65, _⟩ => ⟨S8x2x1x16x64, .f32⟩
  | .hbm, ⟨66, _⟩ => ⟨S8x2x128x16x64, .f32⟩
  | .hbm, ⟨67, _⟩ => ⟨S8x2x128x32x64, .f32⟩
  | .hbm, ⟨68, _⟩ => ⟨S1x2048, .f32⟩
  | .hbm, ⟨69, _⟩ => ⟨S1x128, .f32⟩
  | .hbm, ⟨70, _⟩ => ⟨S8x2x128x2048, .f32⟩
  | .hbm, ⟨71, _⟩ => ⟨S8x2x128x128, .f32⟩
  | .hbm, ⟨72, _⟩ => ⟨S128, .f32⟩
  | .hbm, ⟨73, _⟩ => ⟨S1x1x1x128, .f32⟩
  | .hbm, ⟨74, _⟩ => ⟨S8x2x128x128, .f32⟩
  | .hbm, ⟨75, _⟩ => ⟨S8x2x128x128, .f32⟩
  | .hbm, ⟨76, _⟩ => ⟨S8x2x128x128, .f32⟩
  | .hbm, ⟨77, _⟩ => ⟨S8x2x128x128, .f32⟩
  | .hbm, ⟨78, _⟩ => ⟨S_, .f32⟩
  | .hbm, ⟨79, _⟩ => ⟨S8x2x128x128, .f32⟩
  | .hbm, ⟨80, _⟩ => ⟨S8x2x128x128, .f32⟩
  | .hbm, ⟨81, _⟩ => ⟨S8x2x128x128, .f32⟩
  | .hbm, ⟨82, _⟩ => ⟨S_, .f32⟩
  | .hbm, ⟨83, _⟩ => ⟨S8x2x128x128, .f32⟩
  | .hbm, ⟨84, _⟩ => ⟨S8x2x128x128, .f32⟩
  | .hbm, ⟨85, _⟩ => ⟨S8x2x128x128, .f32⟩
  | .hbm, ⟨86, _⟩ => ⟨S_, .f32⟩
  | .hbm, ⟨87, _⟩ => ⟨S8x2x128x128, .f32⟩
  | .hbm, ⟨88, _⟩ => ⟨S8x2x128x128, .f32⟩
  | .hbm, ⟨89, _⟩ => ⟨S_, .f32⟩
  | .hbm, ⟨90, _⟩ => ⟨S8x2x128x128, .f32⟩
  | .hbm, ⟨91, _⟩ => ⟨S8x2x128x128, .f32⟩
  | .hbm, ⟨92, _⟩ => ⟨S8x2x128x128, .f32⟩
  | .hbm, ⟨93, _⟩ => ⟨S8x2x128x64, .f32⟩
  | .hbm, ⟨94, _⟩ => ⟨S8x128x2x64, .f32⟩
  | .hbm, ⟨95, _⟩ => ⟨S8x128x128, .f32⟩
  | .hbm, ⟨96, _⟩ => ⟨S8x128x128, .bf16⟩
  | _, _ => ⟨S8x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_0 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_1 : Ref sig .tc := ⟨.hbm, 34, rfl⟩
abbrev main_v22 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_cst_3 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_cst_4 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_cst_5 : Ref sig .tc := ⟨.hbm, 86, rfl⟩
abbrev main_v70 : Ref sig .tc := ⟨.hbm, 87, rfl⟩
abbrev main_v71 : Ref sig .tc := ⟨.hbm, 88, rfl⟩
abbrev main_cst_6 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩

abbrev nD : Nat := 1
abbrev τ : Topo := Topo.v7x

variable {F : FTy → Type} [FloatOps F]
-- ==== Proof.FfnBlock.lean ====
/- What the feed-forward kernel leaves in its output array, in closed form. -/
module

public import proofs.«01_k».proof.Proof.Gen.FfnIdeal.Value
public import Idealize.ShloMosaic.PureOps.Ideal
public import Idealize.ShloMosaic.Lib.Pointwise
public import Idealize.ShloMosaic.Lib.VecWindow
public import Idealize.ShloMosaic.Lib.Pipeline.ValueKit

@[expose] public section

set_option maxRecDepth 16384

noncomputable section

namespace Cert.FfnIdeal.Hand

open Cert.FfnIdeal Cert.FfnIdeal.Gen Idealize.ShloMosaic Idealize.ShloMosaic.TcCoe Idealize.SL.Sem
open Idealize.ShloMosaic.Pointwise

/-- The factor of the root-mean-square norm of a row. -/
def inv (x : Fin 1024 → EReal) : EReal :=
  Ideal.rsqrt (Ideal.div (∑ k, x k * x k) (Ideal.ofBits FTy.f32 1149239296#32) + Ideal.ofBits FTy.f32 897988541#32)

/-- A product of the normed row with a column, the norm's factor outside. -/
def prj (x g w : Fin 1024 → EReal) : EReal := (∑ k, x k * g k * w k) * inv x

/-- The gated product of the two projections. -/
def act (x g wg wu : Fin 1024 → EReal) : EReal :=
  prj x g wg * Ideal.logistic (prj x g wg) * prj x g wu

/-- The gated products that the kernel gathers in its scratch, from the blocks it is given. -/
def acts (x0 : Vec Ideal S1024x1024 .f32) (x1 : Vec Ideal S1x1x1024 .f32) (x2 x3 : Vec Ideal S1x1024x2816 .bf16) :
    Vec Ideal S1024x2816 .bf16 :=
  fun y => act (fun k => x0 (ix2 (y 0) k)) (fun k => x1 (ix3 0 0 k)) (fun k => x2 (ix3 0 k (y 1))) (fun k => x3 (ix3 0 k (y 1)))

/-- One chunk of 256 columns, loaded from the weights at column `off`, agrees with the gated products there. -/
theorem chunk (x0 : Vec Ideal S1024x1024 .f32) (x1 : Vec Ideal S1x1x1024 .f32) (x2 x3 : Vec Ideal S1x1024x2816 .bf16)
    (off : ℕ) (h : ∀ a, (![0, 0, off] : Fin 3 → ℕ) a + S1x1024x256.size a ≤ S1x1024x2816.size a)
    (h' : ∀ a, (![0, off] : Fin 2 → ℕ) a + S1024x256.size a ≤ S1024x2816.size a) (x : S1024x256.Idx) :
    k0_pay7 (k0_pay2 x0 x1) (k0_pay3 x0) (View.ld x2 (Rect.unit (s := S1x1024x2816) ![0, 0, off] S1x1024x256.size h))
        (View.ld x3 (Rect.unit (s := S1x1024x2816) ![0, 0, off] S1x1024x256.size h)) x
      = acts x0 x1 x2 x3 ((Rect.unit (s := S1024x2816) ![0, off] S1024x256.size h').emb x) := by
  have e0 : (Rect.unit (s := S1024x2816) ![0, off] S1024x256.size h').emb x 0 = x 0 := by
    apply Fin.ext; rw [ValueKit.rect_emb_unit_val]; exact Nat.zero_add _
  have e3 : ((Rect.unit (s := S1024x2816) ![0, off] S1024x256.size h').emb x 1 : ℕ) = off + (x 1 : ℕ) := by
    rw [ValueKit.rect_emb_unit_val]; rfl
  have e1 : ∀ k, (Rect.unit (s := S1x1024x2816) ![0, 0, off] S1x1024x256.size h).emb (ix3 0 k (x 1))
      = ix3 0 k ((Rect.unit (s := S1024x2816) ![0, off] S1024x256.size h').emb x 1) := fun k => by
    funext a; apply Fin.ext; rw [ValueKit.rect_emb_unit_val]
    fin_cases a
    · simp
    · simp
    · exact e3.symm
  have hx : x = ix2 (x 0) (x 1) := by funext a; fin_cases a <;> rfl
  have key : ∀ (w v : Vec Ideal S1x1024x256 .bf16) (r : Fin 1024) (l : Fin 256),
      k0_pay7 (k0_pay2 x0 x1) (k0_pay3 x0) w v (ix2 r l)
        = act (fun k => x0 (ix2 r k)) (fun k => x1 (ix3 0 0 k)) (fun k => w (ix3 0 k l)) (fun k => v (ix3 0 k l)) := by
    intro w v r l
    pointwise [k0_pay7, k0_pay2, k0_pay3]
    rfl
  refine (congrArg _ hx).trans ((key _ _ _ _).trans ?_)
  unfold acts
  rw [e0]
  have e2 : ∀ (w : Vec Ideal S1x1024x2816 .bf16), (fun k => View.ld w (Rect.unit (s := S1x1024x2816) ![0, 0, off] S1x1024x256.size h) (ix3 0 k (x 1)))
      = fun k => w (ix3 0 k ((Rect.unit (s := S1024x2816) ![0, off] S1024x256.size h').emb x 1)) := fun w => by
    funext k; exact congrArg w (e1 k)
  rw [e2, e2]

/-- The row after the feed-forward half step. -/
def mid (x g : Fin 1024 → EReal) (wg wu : Fin 1024 → Fin 2816 → EReal) (wd : Fin 2816 → Fin 1024 → EReal) (d : Fin 1024) : EReal :=
  x d + Ideal.ofBits FTy.f32 1056964608#32 * ∑ f, act x g (fun k => wg k f) (fun k => wu k f) * wd f d

/-- The row after the half step and the final norm. -/
def row (x g : Fin 1024 → EReal) (wg wu : Fin 1024 → Fin 2816 → EReal) (wd : Fin 2816 → Fin 1024 → EReal) (n : Fin 1024 → EReal)
    (d : Fin 1024) : EReal :=
  mid x g wg wu wd d * inv (mid x g wg wu wd) * n d

variable (m : (ℓ : Loc nD τ sig) → Buf (Elt Ideal) ℓ)

/-- A read of the whole scratch gives a function that every covering piece agrees with. -/
theorem readCov_full {sig : RefSig} {κ : Kind} {sp : Space} (v : View sig κ sp S1024x2816 .bf16) (L : List (View.Piece (Elt Ideal) S1024x2816 .bf16)) (G : Vec Ideal S1024x2816 .bf16)
    (hc : ∀ y : S1024x2816.Idx, ∃ p ∈ L, y ∈ p.1.set) (hp : ∀ p ∈ L, ∀ x : p.1.shape.Idx, p.2 x = G (p.1.emb x)) :
    v.readCov (Val := Elt Ideal) L
      (Rect.unit (s := S1024x2816) ![0, 0] ![1024, 2816] inb_S1024x2816_S1024x2816_0_0) = G := by
  rw [View.readCov_eq_canon_ld (Val := Elt Ideal) _ L _ hc]
  funext y
  exact (congrArg (View.canon (Val := Elt Ideal) L) (Rect.emb_unit_full inb_S1024x2816_S1024x2816_0_0 y)).trans
    (View.canon_apply_of_pieces G L hp _ (hc _))

set_option maxHeartbeats 1000000 in
/-- What the body leaves in its output block at a point. -/
theorem outs_apply (c : Dev nD) (t : Fin cfg0.N) (r d : Fin 1024) :
    outsAt0 m c t (ix2 r d) = row (fun k => iblk m c 0 t (ix2 r k)) (fun k => iblk m c 1 t (ix3 0 0 k))
      (fun k f => iblk m c 2 t (ix3 0 k f)) (fun k f => iblk m c 3 t (ix3 0 k f)) (fun f e => iblk m c 4 t (ix3 0 f e))
      (fun k => iblk m c 5 t (ix2 0 k)) d := by
  unfold outsAt0
  frame_out
  generalize iblk m c 0 t = x0
  generalize iblk m c 1 t = x1
  generalize iblk m c 2 t = x2
  generalize iblk m c 3 t = x3
  generalize iblk m c 4 t = x4
  generalize iblk m c 5 t = x5
  generalize hT : View.readCov (Val := Elt Ideal) (View.whole cc0_scratch0) _ _ = T
  have hT' : T = acts x0 x1 x2 x3 := by
    subst hT
    refine readCov_full _ _ _ ?_ ?_
    · exact View.cover_of_tiledL _ S1024x256.size (by sl_kernel_rfl)
    simp only [List.forall_mem_cons, List.not_mem_nil, false_implies, implies_true, and_true]
    exact ⟨chunk x0 x1 x2 x3 2560 _ _, chunk x0 x1 x2 x3 2304 _ _, chunk x0 x1 x2 x3 2048 _ _, chunk x0 x1 x2 x3 1792 _ _,
      chunk x0 x1 x2 x3 1536 _ _, chunk x0 x1 x2 x3 1280 _ _, chunk x0 x1 x2 x3 1024 _ _, chunk x0 x1 x2 x3 768 _ _,
      chunk x0 x1 x2 x3 512 _ _, chunk x0 x1 x2 x3 256 _ _, chunk x0 x1 x2 x3 0 _ _⟩
  clear hT
  subst hT'
  have h22 : ∀ e : Fin 1024, k0_pay22 x0 (acts x0 x1 x2 x3) x4 (ix2 r e)
      = mid (fun k => x0 (ix2 r k)) (fun k => x1 (ix3 0 0 k)) (fun k f => x2 (ix3 0 k f)) (fun k f => x3 (ix3 0 k f))
          (fun f e => x4 (ix3 0 f e)) e := by
    intro e
    pointwise [k0_pay22]
    rfl
  pointwise [k0_pay1, k0_pay23, k0_pay24]
  simp only [h22]
  rfl

end Cert.FfnIdeal.Hand

end
-- ==== Proof.FfnValue.lean ====
/- The array that the feed-forward kernel leaves, in closed form over the arguments. -/
module

public import proofs.«01_k».proof.Proof.FfnBlock

@[expose] public section

set_option maxRecDepth 16384

noncomputable section

namespace Cert.FfnIdeal.Hand

open Cert.FfnIdeal Cert.FfnIdeal.Gen Idealize.ShloMosaic Idealize.ShloMosaic.TcCoe Idealize.SL.Sem
open Idealize.ShloMosaic.Pointwise

variable (m : (ℓ : Loc nD τ sig) → Buf (Elt Ideal) ℓ)

/-- The result in closed form, row by row. -/
def G (x0 : Vec Ideal S16384x1024 .f32) (x1 : Vec Ideal S2x1024 .f32) (x2 x3 : Vec Ideal S2x1024x2816 .f32)
    (x4 : Vec Ideal S2x2816x1024 .f32) (x5 : Vec Ideal S1024 .f32) : Vec Ideal S16384x1024 .f32 :=
  fun i => row (fun k => x0 (ix2 (i 0) k)) (fun k => x1 (ix2 1 k)) (fun k f => x2 (ix3 1 k f)) (fun k f => x3 (ix3 1 k f))
    (fun f e => x4 (ix3 1 f e)) (fun k => x5 (ix1 k)) (i 1)

theorem idx (t : Fin cfg0.N) : win0_0.index t = ![(t : ℕ), 0] ∧ win0_1.index t = ![1, 0, 0] ∧ win0_2.index t = ![1, 0, 0]
    ∧ win0_3.index t = ![1, 0, 0] ∧ win0_4.index t = ![1, 0, 0] ∧ win0_5.index t = ![0, 0] ∧ win0_6.index t = ![(t : ℕ), 0] := by
  revert t; decide +kernel

theorem v0 (c : Dev nD) : V m c main_v0 = shapeCast S2x1x1024 (m ((c : Thread nD τ).loc main_arg1)) shapeCasts_S2x1024_S2x1x1024 := by
  unfold V; after_results_simp; rfl
theorem v1 (c : Dev nD) : V m c main_v1 = (m ((c : Thread nD τ).loc main_arg2) : Vec Ideal S2x1024x2816 .f32) := by
  unfold V; after_results_simp; rfl
theorem v2 (c : Dev nD) : V m c main_v2 = (m ((c : Thread nD τ).loc main_arg3) : Vec Ideal S2x1024x2816 .f32) := by
  unfold V; after_results_simp; rfl
theorem v3 (c : Dev nD) : V m c main_v3 = (m ((c : Thread nD τ).loc main_arg4) : Vec Ideal S2x2816x1024 .f32) := by
  unfold V; after_results_simp; rfl
theorem v4 (c : Dev nD) : V m c main_v4 = shapeCast S1x1024 (m ((c : Thread nD τ).loc main_arg5)) shapeCasts_S1024_S1x1024 := by
  unfold V; after_results_simp; rfl

/-- Where a point's rows lie in the array. -/
def at_ (t : Fin cfg0.N) (r : Fin 1024) : Fin 16384 := ⟨(t : ℕ) * 1024 + r, by
  have : (t : ℕ) < 16 := t.isLt.trans_eq (by decide)
  omega⟩

theorem b0 (c : Dev nD) (t : Fin cfg0.N) (r k : Fin 1024) :
    iblk m c 0 t (ix2 r k) = m ((c : Thread nD τ).loc main_arg0) (ix2 (at_ t r) k) := by
  blk_ext [iblk, at_, (idx t).1]
theorem b1 (c : Dev nD) (t : Fin cfg0.N) (k : Fin 1024) :
    iblk m c 1 t (ix3 0 0 k) = m ((c : Thread nD τ).loc main_arg1) (ix2 1 k) := by
  have h : iblk m c 1 t (ix3 0 0 k) = V m c main_v0 (ix3 1 0 k) := by
    blk_ext [iblk, (idx t).2.1]
  rw [h, v0]
  pointwise
theorem b2 (c : Dev nD) (t : Fin cfg0.N) (k : Fin 1024) (f : Fin 2816) :
    iblk m c 2 t (ix3 0 k f) = m ((c : Thread nD τ).loc main_arg2) (ix3 1 k f) := by
  have h : iblk m c 2 t (ix3 0 k f) = V m c main_v1 (ix3 1 k f) := by
    blk_ext [iblk, (idx t).2.2.1]
  rw [h, v1]
theorem b3 (c : Dev nD) (t : Fin cfg0.N) (k : Fin 1024) (f : Fin 2816) :
    iblk m c 3 t (ix3 0 k f) = m ((c : Thread nD τ).loc main_arg3) (ix3 1 k f) := by
  have h : iblk m c 3 t (ix3 0 k f) = V m c main_v2 (ix3 1 k f) := by
    blk_ext [iblk, (idx t).2.2.2.1]
  rw [h, v2]
theorem b4 (c : Dev nD) (t : Fin cfg0.N) (f : Fin 2816) (k : Fin 1024) :
    iblk m c 4 t (ix3 0 f k) = m ((c : Thread nD τ).loc main_arg4) (ix3 1 f k) := by
  have h : iblk m c 4 t (ix3 0 f k) = V m c main_v3 (ix3 1 f k) := by
    blk_ext [iblk, (idx t).2.2.2.2.1]
  rw [h, v3]
theorem b5 (c : Dev nD) (t : Fin cfg0.N) (k : Fin 1024) :
    iblk m c 5 t (ix2 0 k) = m ((c : Thread nD τ).loc main_arg5) (ix1 k) := by
  have h : iblk m c 5 t (ix2 0 k) = V m c main_v4 (ix2 0 k) := by
    blk_ext [iblk, (idx t).2.2.2.2.2.1]
  rw [h, v4]
  pointwise

/-- The output array after the run. -/
theorem arr (c : Dev nD) : (dats m 0 c).arrAt 6 cfg0.N = G (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) := by
  refine (dats m 0 c).arrAt_eq_of_covers 6 _ (by decide +kernel) fun t hf y => ?_
  blk_simp
  rw [after0_6]
  have hy : y = ix2 (y 0) (y 1) := by funext a; fin_cases a <;> rfl
  refine (congrArg _ hy).trans ((outs_apply m c t (y 0) (y 1)).trans ?_)
  have h0 : (fun k => iblk m c 0 t (ix2 (y 0) k)) = fun k => m ((c : Thread nD τ).loc main_arg0) (ix2 (at_ t (y 0)) k) :=
    funext fun k => b0 m c t (y 0) k
  refine (congrArg (fun z => row z _ _ _ _ _ (y 1)) h0).trans ?_
  simp only [b1, b2, b3, b4, b5]
  have e : ((cfg0.win 6).blk t).view.emb y = ix2 (at_ t (y 0)) (y 1) := by
    blk_ext [at_, (idx t).2.2.2.2.2.2]
  rw [e]
  rfl

end Cert.FfnIdeal.Hand

end
-- ==== Proof.Ext.lean ====
/- Facts about extended reals that the proofs share. -/
module

public import Idealize.ShloMosaic.PureOps.Ideal

@[expose] public section

noncomputable section

namespace Cert.Ext

open Idealize.ShloMosaic

/-- A factor that is neither negative nor infinite goes into a finite sum from the right. -/
theorem sum_mul {ι : Type} (s : Finset ι) (f : ι → EReal) (r : EReal) (h0 : 0 ≤ r) (ht : r ≠ ⊤) :
    (∑ k ∈ s, f k) * r = ∑ k ∈ s, f k * r := by
  classical
  induction s using Finset.induction_on with
  | empty => simp
  | insert a s ha ih => rw [Finset.sum_insert ha, Finset.sum_insert ha, EReal.right_distrib_of_nonneg_of_ne_top h0 ht, ih]

/-- The square of an extended real is not negative. -/
theorem mul_self_nonneg (x : EReal) : 0 ≤ x * x := by
  induction x with
  | bot => simp
  | coe r => rw [← EReal.coe_mul]; exact_mod_cast _root_.mul_self_nonneg r
  | top => simp

/-- The reciprocal square root of a positive extended real is neither negative nor infinite. -/
theorem rsqrt_pos {x : EReal} (h : 0 < x) : 0 ≤ Ideal.rsqrt x ∧ Ideal.rsqrt x ≠ ⊤ := by
  induction x with
  | bot => simp at h
  | coe r =>
    have hr : 0 < r := by exact_mod_cast h
    have : Ideal.rsqrt (r : EReal) = ((Real.sqrt r)⁻¹ : ℝ) := by
      show (if r < 0 then (⊥ : EReal) else if r = 0 then ⊤ else ((Real.sqrt r)⁻¹ : ℝ)) = _
      rw [if_neg hr.not_gt, if_neg hr.ne']
    rw [this]
    refine ⟨?_, EReal.coe_ne_top _⟩
    exact_mod_cast inv_nonneg.mpr (Real.sqrt_nonneg r)
  | top => exact ⟨le_refl _, EReal.zero_ne_top⟩

end Cert.Ext

end
-- ==== Proof.FfnRef.lean ====
/- The feed-forward reference at an element, and that it is the kernel's value there. -/
module

public import proofs.«01_k».proof.Proof.FfnValue
public import proofs.«01_k».proof.Proof.Ext
public import proofs.«01_k».proof.Proof.Gen.FfnReferenceIdeal.Read

@[expose] public section

set_option maxRecDepth 16384

noncomputable section

namespace Cert.FfnReferenceIdeal.Hand

open Cert.FfnReferenceIdeal Cert.FfnReferenceIdeal.Read Idealize.ShloMosaic Idealize.ShloMosaic.TcCoe Idealize.SL.Sem
open Idealize.ShloMosaic.Pointwise
open Cert.FfnIdeal.Hand (inv prj act mid row G)

/-- The mean square of a row plus the small literal is positive. -/
theorem meanEps_pos (x : Fin 1024 → EReal) :
    0 < Ideal.div (∑ k, x k * x k) (Ideal.ofBits FTy.f32 1149239296#32) + Ideal.ofBits FTy.f32 897988541#32 := by
  have h1 : Ideal.ofBits FTy.f32 1149239296#32 = ((1024 : ℝ) : EReal) := by
    simp [Ideal.ofBits, Ideal.ieee, -EReal.coe_mul]; norm_num
  have h2 : 0 < Ideal.ofBits FTy.f32 897988541#32 := by
    simp [Ideal.ofBits, Ideal.ieee, -EReal.coe_mul]
  have h3 : 0 ≤ Ideal.div (∑ k, x k * x k) (Ideal.ofBits FTy.f32 1149239296#32) := by
    rw [h1]
    unfold Ideal.div
    rw [if_neg (by exact_mod_cast (by norm_num : (1024 : ℝ) ≠ 0)), ← EReal.coe_inv]
    exact mul_nonneg (Finset.sum_nonneg fun k _ => Ext.mul_self_nonneg _) (by exact_mod_cast (by norm_num : (0 : ℝ) ≤ 1024⁻¹))
  exact lt_of_lt_of_le h2 (le_add_of_nonneg_left h3)

/-- The norm's factor inside the product of a projection, or outside it. -/
theorem prj_eq (x g w : Fin 1024 → EReal) : (∑ k, x k * inv x * g k * w k) = prj x g w := by
  unfold prj
  obtain ⟨h0, ht⟩ := Ext.rsqrt_pos (meanEps_pos x)
  refine Eq.trans ?_ (Ext.sum_mul _ _ _ h0 ht).symm
  refine Finset.sum_congr rfl fun k _ => ?_
  show _ = x k * g k * w k * inv x
  rw [mul_right_comm (x k) (inv x), mul_right_comm (x k * g k)]

variable (x0 : Vec Ideal S16384x1024 .f32) (x1 : Vec Ideal S2x1024 .f32) (x2 x3 : Vec Ideal S2x1024x2816 .f32)
    (x4 : Vec Ideal S2x2816x1024 .f32) (x5 : Vec Ideal S1024 .f32)

theorem at9 (r : Fin 16384) (j : Fin 1) :
    val_main_v9 (F := Ideal) x0 (ix2 r j) = inv (fun k => x0 (ix2 r k)) := by
  rw [val_main_v9_apply, val_main_v8_apply, val_main_v7_apply, val_main_v6_apply, val_main_v5_apply, val_main_v4_apply,
    val_main_v3_apply, val_main_cst_apply, val_main_cst_0_apply, val_main_cst_1_apply]
  have e : ∀ k, val_main_v2 (F := Ideal) x0 (idx_main_v3 (idx_main_v4 (ix2 r j)) k) = x0 (ix2 r k) * x0 (ix2 r k) := fun k => by
    rw [val_main_v2_apply]
    have : idx_main_v3 (idx_main_v4 (ix2 r j)) k = ix2 r k := by funext a; fin_cases a <;> rfl
    rw [this]; rfl
  simp only [e]
  rw [show (FloatOps.ofBits (F := Ideal) .f32 0x00000000#32) = (0 : EReal) from Ideal.ofBits_zero_f32, zero_add]
  rfl

theorem at14 (r : Fin 16384) (k : Fin 1024) :
    val_main_v14 (F := Ideal) x0 x1 (ix2 r k) = x0 (ix2 r k) * inv (fun k => x0 (ix2 r k)) * x1 (ix2 1 k) := by
  rw [val_main_v14_apply, val_main_v13_apply, val_main_v12_apply, val_main_v11_apply, val_main_v10_apply,
    val_main_v1_apply, val_main_v0_apply]
  have e1 : idx_main_v10 (ix2 r k) = ix2 r 0 := by funext a; fin_cases a <;> rfl
  have e2 : idx_main_v0 (idx_main_v1 (idx_main_v12 (idx_main_v13 (ix2 r k)))) = ix2 1 k := by
    funext a; fin_cases a <;> first | rfl | (apply Fin.ext; simp; done) | (apply Fin.ext; simp; omega)
  rw [e1, at9, e2]
  rfl

theorem at17 (r : Fin 16384) (f : Fin 2816) : val_main_v17 (F := Ideal) x0 x1 x2 (ix2 r f)
    = prj (fun k => x0 (ix2 r k)) (fun k => x1 (ix2 1 k)) (fun k => x2 (ix3 1 k f)) := by
  rw [val_main_v17_apply, ← prj_eq]
  refine Finset.sum_congr rfl fun k _ => ?_
  have e1 : lidx_main_v17 (ix2 r f) k = ix2 r k := by funext a; fin_cases a <;> rfl
  have e2 : idx_main_v15 (idx_main_v16 (ridx_main_v17 (ix2 r f) k)) = ix3 1 k f := by
    funext a; fin_cases a <;> first | rfl | (apply Fin.ext; simp; done) | (apply Fin.ext; simp; omega)
  rw [e1, at14, val_main_v16_apply, val_main_v15_apply, e2]

theorem at21 (r : Fin 16384) (f : Fin 2816) : val_main_v21 (F := Ideal) x0 x1 x3 (ix2 r f)
    = prj (fun k => x0 (ix2 r k)) (fun k => x1 (ix2 1 k)) (fun k => x3 (ix3 1 k f)) := by
  rw [val_main_v21_apply, ← prj_eq]
  refine Finset.sum_congr rfl fun k _ => ?_
  have e1 : lidx_main_v21 (ix2 r f) k = ix2 r k := by funext a; fin_cases a <;> rfl
  have e2 : idx_main_v19 (idx_main_v20 (ridx_main_v21 (ix2 r f) k)) = ix3 1 k f := by
    funext a; fin_cases a <;> first | rfl | (apply Fin.ext; simp; done) | (apply Fin.ext; simp; omega)
  rw [e1, at14, val_main_v20_apply, val_main_v19_apply, e2]

theorem at22 (r : Fin 16384) (f : Fin 2816) : val_main_v22 (F := Ideal) x0 x1 x2 x3 (ix2 r f)
    = act (fun k => x0 (ix2 r k)) (fun k => x1 (ix2 1 k)) (fun k => x2 (ix3 1 k f)) (fun k => x3 (ix3 1 k f)) := by
  rw [val_main_v22_apply, val_main_v18_apply, at21, val_main_call0_v5_apply, val_main_call0_v4_apply, val_main_call0_v3_apply,
    val_main_call0_v2_apply, val_main_call0_v1_apply, val_main_call0_v0_apply, val_main_call0_cst_apply, val_main_call0_cst_0_apply,
    at17]
  unfold act
  rw [show (FloatOps.ofBits (F := Ideal) .f32 0x3F800000#32) = (1 : EReal) from Ideal.ofBits_one_f32]
  rfl

theorem at28 (r : Fin 16384) (d : Fin 1024) : val_main_v28 (F := Ideal) x0 x1 x2 x3 x4 (ix2 r d)
    = mid (fun k => x0 (ix2 r k)) (fun k => x1 (ix2 1 k)) (fun k f => x2 (ix3 1 k f)) (fun k f => x3 (ix3 1 k f))
        (fun f e => x4 (ix3 1 f e)) d := by
  rw [val_main_v28_apply, val_main_v27_apply, val_main_v26_apply, val_main_cst_2_apply, val_main_v25_apply]
  have e : ∀ f, val_main_v22 (F := Ideal) x0 x1 x2 x3 (lidx_main_v25 (ix2 r d) f) * val_main_v24 (F := Ideal) x4 (ridx_main_v25 (ix2 r d) f)
      = act (fun k => x0 (ix2 r k)) (fun k => x1 (ix2 1 k)) (fun k => x2 (ix3 1 k f)) (fun k => x3 (ix3 1 k f)) * x4 (ix3 1 f d) := fun f => by
    have e1 : lidx_main_v25 (ix2 r d) f = ix2 r f := by funext a; fin_cases a <;> rfl
    have e2 : idx_main_v23 (idx_main_v24 (ridx_main_v25 (ix2 r d) f)) = ix3 1 f d := by
      funext a; fin_cases a <;> first | rfl | (apply Fin.ext; simp; done) | (apply Fin.ext; simp; omega)
    rw [e1, at22, val_main_v24_apply, val_main_v23_apply, e2]
  simp only [e]
  rfl

theorem at36 (r : Fin 16384) (j : Fin 1) : val_main_v36 (F := Ideal) x0 x1 x2 x3 x4 (ix2 r j)
    = inv (mid (fun k => x0 (ix2 r k)) (fun k => x1 (ix2 1 k)) (fun k f => x2 (ix3 1 k f)) (fun k f => x3 (ix3 1 k f))
        (fun f e => x4 (ix3 1 f e))) := by
  rw [val_main_v36_apply, val_main_v35_apply, val_main_v34_apply, val_main_v33_apply, val_main_v32_apply, val_main_v31_apply,
    val_main_v30_apply, val_main_cst_3_apply, val_main_cst_4_apply, val_main_cst_5_apply]
  have e : ∀ k, val_main_v29 (F := Ideal) x0 x1 x2 x3 x4 (idx_main_v30 (idx_main_v31 (ix2 r j)) k)
      = mid (fun k => x0 (ix2 r k)) (fun k => x1 (ix2 1 k)) (fun k f => x2 (ix3 1 k f)) (fun k f => x3 (ix3 1 k f))
        (fun f e => x4 (ix3 1 f e)) k * mid (fun k => x0 (ix2 r k)) (fun k => x1 (ix2 1 k)) (fun k f => x2 (ix3 1 k f)) (fun k f => x3 (ix3 1 k f))
        (fun f e => x4 (ix3 1 f e)) k := fun k => by
    rw [val_main_v29_apply]
    have : idx_main_v30 (idx_main_v31 (ix2 r j)) k = ix2 r k := by funext a; fin_cases a <;> rfl
    rw [this, at28]; rfl
  simp only [e]
  rw [show (FloatOps.ofBits (F := Ideal) .f32 0x00000000#32) = (0 : EReal) from Ideal.ofBits_zero_f32, zero_add]
  rfl

theorem at41 (r : Fin 16384) (d : Fin 1024) : val_main_v41 (F := Ideal) x0 x1 x2 x3 x4 x5 (ix2 r d) = G x0 x1 x2 x3 x4 x5 (ix2 r d) := by
  rw [val_main_v41_apply, val_main_v40_apply, val_main_v39_apply, val_main_v38_apply, val_main_v37_apply]
  have e1 : idx_main_v37 (ix2 r d) = ix2 r 0 := by funext a; fin_cases a <;> rfl
  have e2 : idx_main_v39 (idx_main_v40 (ix2 r d)) = ix1 d := by funext a; fin_cases a; rfl
  rw [e1, e2, at28, at36]
  rfl

/-- The reference's result is the kernel's closed form. -/
theorem result : val_main_v41 (F := Ideal) x0 x1 x2 x3 x4 x5 = G x0 x1 x2 x3 x4 x5 := by
  funext i
  have hi : i = ix2 (i 0) (i 1) := by funext a; fin_cases a <;> rfl
  exact (congrArg _ hi).trans ((at41 x0 x1 x2 x3 x4 x5 (i 0) (i 1)).trans (congrArg _ hi.symm))

end Cert.FfnReferenceIdeal.Hand

end
-- ==== Proof.FfnMidValue.lean ====
/- What the feed-forward kernel without the final norm leaves in its output array, in closed form. -/
module

public import proofs.«01_k».proof.Proof.Gen.FfnMidIdeal.Value
public import proofs.«01_k».proof.Proof.FfnBlock

@[expose] public section

set_option maxRecDepth 16384

noncomputable section

namespace Cert.FfnMidIdeal.Hand

open Cert.FfnMidIdeal Cert.FfnMidIdeal.Gen Idealize.ShloMosaic Idealize.ShloMosaic.TcCoe Idealize.SL.Sem
open Idealize.ShloMosaic.Pointwise
open Cert.FfnIdeal.Hand (inv prj act acts mid chunk readCov_full)

variable (m : (ℓ : Loc nD τ sig) → Buf (Elt Ideal) ℓ)

set_option maxHeartbeats 1000000 in
/-- What the body leaves in its output block at a point. -/
theorem outs_apply (c : Dev nD) (t : Fin cfg0.N) (r d : Fin 1024) :
    outsAt0 m c t (ix2 r d) = mid (fun k => iblk m c 0 t (ix2 r k)) (fun k => iblk m c 1 t (ix3 0 0 k))
      (fun k f => iblk m c 2 t (ix3 0 k f)) (fun k f => iblk m c 3 t (ix3 0 k f)) (fun f e => iblk m c 4 t (ix3 0 f e)) d := by
  unfold outsAt0
  frame_out
  generalize iblk m c 0 t = x0
  generalize iblk m c 1 t = x1
  generalize iblk m c 2 t = x2
  generalize iblk m c 3 t = x3
  generalize iblk m c 4 t = x4
  generalize hT : View.readCov (Val := Elt Ideal) (View.whole cc0_scratch0) _ _ = T
  have hT' : T = acts x0 x1 x2 x3 := by
    subst hT
    refine readCov_full _ _ _ ?_ ?_
    · exact View.cover_of_tiledL _ S1024x256.size (by sl_kernel_rfl)
    simp only [List.forall_mem_cons, List.not_mem_nil, false_implies, implies_true, and_true]
    exact ⟨chunk x0 x1 x2 x3 2560 _ _, chunk x0 x1 x2 x3 2304 _ _, chunk x0 x1 x2 x3 2048 _ _, chunk x0 x1 x2 x3 1792 _ _,
      chunk x0 x1 x2 x3 1536 _ _, chunk x0 x1 x2 x3 1280 _ _, chunk x0 x1 x2 x3 1024 _ _, chunk x0 x1 x2 x3 768 _ _,
      chunk x0 x1 x2 x3 512 _ _, chunk x0 x1 x2 x3 256 _ _, chunk x0 x1 x2 x3 0 _ _⟩
  clear hT
  subst hT'
  pointwise [k0_pay1, k0_pay3]
  rfl

/-- The result in closed form, row by row. -/
def G (x0 : Vec Ideal S16384x1024 .f32) (x1 : Vec Ideal S2x1024 .f32) (x2 x3 : Vec Ideal S2x1024x2816 .f32)
    (x4 : Vec Ideal S2x2816x1024 .f32) : Vec Ideal S16384x1024 .f32 :=
  fun i => mid (fun k => x0 (ix2 (i 0) k)) (fun k => x1 (ix2 1 k)) (fun k f => x2 (ix3 1 k f)) (fun k f => x3 (ix3 1 k f))
    (fun f e => x4 (ix3 1 f e)) (i 1)

theorem idx (t : Fin cfg0.N) : win0_0.index t = ![(t : ℕ), 0] ∧ win0_1.index t = ![1, 0, 0] ∧ win0_2.index t = ![1, 0, 0]
    ∧ win0_3.index t = ![1, 0, 0] ∧ win0_4.index t = ![1, 0, 0] ∧ win0_5.index t = ![0, 0] ∧ win0_6.index t = ![(t : ℕ), 0] := by
  revert t; decide +kernel

theorem v0 (c : Dev nD) : V m c main_v0 = shapeCast S2x1x1024 (m ((c : Thread nD τ).loc main_arg1)) shapeCasts_S2x1024_S2x1x1024 := by
  unfold V; after_results_simp; rfl
theorem v1 (c : Dev nD) : V m c main_v1 = (m ((c : Thread nD τ).loc main_arg2) : Vec Ideal S2x1024x2816 .f32) := by
  unfold V; after_results_simp; rfl
theorem v2 (c : Dev nD) : V m c main_v2 = (m ((c : Thread nD τ).loc main_arg3) : Vec Ideal S2x1024x2816 .f32) := by
  unfold V; after_results_simp; rfl
theorem v3 (c : Dev nD) : V m c main_v3 = (m ((c : Thread nD τ).loc main_arg4) : Vec Ideal S2x2816x1024 .f32) := by
  unfold V; after_results_simp; rfl

/-- Where a point's rows lie in the array. -/
def at_ (t : Fin cfg0.N) (r : Fin 1024) : Fin 16384 := ⟨(t : ℕ) * 1024 + r, by
  have : (t : ℕ) < 16 := t.isLt.trans_eq (by decide)
  omega⟩

theorem b0 (c : Dev nD) (t : Fin cfg0.N) (r k : Fin 1024) :
    iblk m c 0 t (ix2 r k) = m ((c : Thread nD τ).loc main_arg0) (ix2 (at_ t r) k) := by
  blk_ext [iblk, at_, (idx t).1]
theorem b1 (c : Dev nD) (t : Fin cfg0.N) (k : Fin 1024) :
    iblk m c 1 t (ix3 0 0 k) = m ((c : Thread nD τ).loc main_arg1) (ix2 1 k) := by
  have h : iblk m c 1 t (ix3 0 0 k) = V m c main_v0 (ix3 1 0 k) := by
    blk_ext [iblk, (idx t).2.1]
  rw [h, v0]
  pointwise
theorem b2 (c : Dev nD) (t : Fin cfg0.N) (k : Fin 1024) (f : Fin 2816) :
    iblk m c 2 t (ix3 0 k f) = m ((c : Thread nD τ).loc main_arg2) (ix3 1 k f) := by
  have h : iblk m c 2 t (ix3 0 k f) = V m c main_v1 (ix3 1 k f) := by
    blk_ext [iblk, (idx t).2.2.1]
  rw [h, v1]
theorem b3 (c : Dev nD) (t : Fin cfg0.N) (k : Fin 1024) (f : Fin 2816) :
    iblk m c 3 t (ix3 0 k f) = m ((c : Thread nD τ).loc main_arg3) (ix3 1 k f) := by
  have h : iblk m c 3 t (ix3 0 k f) = V m c main_v2 (ix3 1 k f) := by
    blk_ext [iblk, (idx t).2.2.2.1]
  rw [h, v2]
theorem b4 (c : Dev nD) (t : Fin cfg0.N) (f : Fin 2816) (k : Fin 1024) :
    iblk m c 4 t (ix3 0 f k) = m ((c : Thread nD τ).loc main_arg4) (ix3 1 f k) := by
  have h : iblk m c 4 t (ix3 0 f k) = V m c main_v3 (ix3 1 f k) := by
    blk_ext [iblk, (idx t).2.2.2.2.1]
  rw [h, v3]

/-- The output array after the run. -/
theorem arr (c : Dev nD) : (dats m 0 c).arrAt 6 cfg0.N = G (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  have hy : y = ix2 (y 0) (y 1) := by funext a; fin_cases a <;> rfl
  refine (congrArg _ hy).trans ((outs_apply m c t (y 0) (y 1)).trans ?_)
  have h0 : (fun k => iblk m c 0 t (ix2 (y 0) k)) = fun k => m ((c : Thread nD τ).loc main_arg0) (ix2 (at_ t (y 0)) k) :=
    funext fun k => b0 m c t (y 0) k
  refine (congrArg (fun z => mid z _ _ _ _ (y 1)) h0).trans ?_
  simp only [b1, b2, b3, b4]
  have e : ((cfg0.win 6).blk t).view.emb y = ix2 (at_ t (y 0)) (y 1) := by
    blk_ext [at_, (idx t).2.2.2.2.2.2]
  rw [e]
  rfl

end Cert.FfnMidIdeal.Hand

end
-- ==== Proof.FfnMidRef.lean ====
/- The feed-forward reference at an element, and that it is the kernel's value there. -/
module

public import proofs.«01_k».proof.Proof.FfnMidValue
public import proofs.«01_k».proof.Proof.FfnRef
public import proofs.«01_k».proof.Proof.Gen.FfnMidReferenceIdeal.Read

@[expose] public section

set_option maxRecDepth 16384

noncomputable section

namespace Cert.FfnMidReferenceIdeal.Hand

open Cert.FfnMidReferenceIdeal Cert.FfnMidReferenceIdeal.Read Idealize.ShloMosaic Idealize.ShloMosaic.TcCoe Idealize.SL.Sem
open Idealize.ShloMosaic.Pointwise
open Cert.FfnIdeal.Hand (inv prj act mid)
open Cert.FfnReferenceIdeal.Hand (prj_eq)
open Cert.FfnMidIdeal.Hand (G)

variable (x0 : Vec Ideal S16384x1024 .f32) (x1 : Vec Ideal S2x1024 .f32) (x2 x3 : Vec Ideal S2x1024x2816 .f32)
    (x4 : Vec Ideal S2x2816x1024 .f32)

theorem at9 (r : Fin 16384) (j : Fin 1) :
    val_main_v9 (F := Ideal) x0 (ix2 r j) = inv (fun k => x0 (ix2 r k)) := by
  rw [val_main_v9_apply, val_main_v8_apply, val_main_v7_apply, val_main_v6_apply, val_main_v5_apply, val_main_v4_apply,
    val_main_v3_apply, val_main_cst_apply, val_main_cst_0_apply, val_main_cst_1_apply]
  have e : ∀ k, val_main_v2 (F := Ideal) x0 (idx_main_v3 (idx_main_v4 (ix2 r j)) k) = x0 (ix2 r k) * x0 (ix2 r k) := fun k => by
    rw [val_main_v2_apply]
    have : idx_main_v3 (idx_main_v4 (ix2 r j)) k = ix2 r k := by funext a; fin_cases a <;> rfl
    rw [this]; rfl
  simp only [e]
  rw [show (FloatOps.ofBits (F := Ideal) .f32 0x00000000#32) = (0 : EReal) from Ideal.ofBits_zero_f32, zero_add]
  rfl

theorem at14 (r : Fin 16384) (k : Fin 1024) :
    val_main_v14 (F := Ideal) x0 x1 (ix2 r k) = x0 (ix2 r k) * inv (fun k => x0 (ix2 r k)) * x1 (ix2 1 k) := by
  rw [val_main_v14_apply, val_main_v13_apply, val_main_v12_apply, val_main_v11_apply, val_main_v10_apply,
    val_main_v1_apply, val_main_v0_apply]
  have e1 : idx_main_v10 (ix2 r k) = ix2 r 0 := by funext a; fin_cases a <;> rfl
  have e2 : idx_main_v0 (idx_main_v1 (idx_main_v12 (idx_main_v13 (ix2 r k)))) = ix2 1 k := by
    funext a; fin_cases a <;> first | rfl | (apply Fin.ext; simp; done) | (apply Fin.ext; simp; omega)
  rw [e1, at9, e2]
  rfl

theorem at17 (r : Fin 16384) (f : Fin 2816) : val_main_v17 (F := Ideal) x0 x1 x2 (ix2 r f)
    = prj (fun k => x0 (ix2 r k)) (fun k => x1 (ix2 1 k)) (fun k => x2 (ix3 1 k f)) := by
  rw [val_main_v17_apply, ← prj_eq]
  refine Finset.sum_congr rfl fun k _ => ?_
  have e1 : lidx_main_v17 (ix2 r f) k = ix2 r k := by funext a; fin_cases a <;> rfl
  have e2 : idx_main_v15 (idx_main_v16 (ridx_main_v17 (ix2 r f) k)) = ix3 1 k f := by
    funext a; fin_cases a <;> first | rfl | (apply Fin.ext; simp; done) | (apply Fin.ext; simp; omega)
  rw [e1, at14, val_main_v16_apply, val_main_v15_apply, e2]

theorem at21 (r : Fin 16384) (f : Fin 2816) : val_main_v21 (F := Ideal) x0 x1 x3 (ix2 r f)
    = prj (fun k => x0 (ix2 r k)) (fun k => x1 (ix2 1 k)) (fun k => x3 (ix3 1 k f)) := by
  rw [val_main_v21_apply, ← prj_eq]
  refine Finset.sum_congr rfl fun k _ => ?_
  have e1 : lidx_main_v21 (ix2 r f) k = ix2 r k := by funext a; fin_cases a <;> rfl
  have e2 : idx_main_v19 (idx_main_v20 (ridx_main_v21 (ix2 r f) k)) = ix3 1 k f := by
    funext a; fin_cases a <;> first | rfl | (apply Fin.ext; simp; done) | (apply Fin.ext; simp; omega)
  rw [e1, at14, val_main_v20_apply, val_main_v19_apply, e2]

theorem at22 (r : Fin 16384) (f : Fin 2816) : val_main_v22 (F := Ideal) x0 x1 x2 x3 (ix2 r f)
    = act (fun k => x0 (ix2 r k)) (fun k => x1 (ix2 1 k)) (fun k => x2 (ix3 1 k f)) (fun k => x3 (ix3 1 k f)) := by
  rw [val_main_v22_apply, val_main_v18_apply, at21, val_main_call0_v5_apply, val_main_call0_v4_apply, val_main_call0_v3_apply,
    val_main_call0_v2_apply, val_main_call0_v1_apply, val_main_call0_v0_apply, val_main_call0_cst_apply, val_main_call0_cst_0_apply,
    at17]
  unfold act
  rw [show (FloatOps.ofBits (F := Ideal) .f32 0x3F800000#32) = (1 : EReal) from Ideal.ofBits_one_f32]
  rfl

theorem at28 (r : Fin 16384) (d : Fin 1024) : val_main_v28 (F := Ideal) x0 x1 x2 x3 x4 (ix2 r d)
    = mid (fun k => x0 (ix2 r k)) (fun k => x1 (ix2 1 k)) (fun k f => x2 (ix3 1 k f)) (fun k f => x3 (ix3 1 k f))
        (fun f e => x4 (ix3 1 f e)) d := by
  rw [val_main_v28_apply, val_main_v27_apply, val_main_v26_apply, val_main_cst_2_apply, val_main_v25_apply]
  have e : ∀ f, val_main_v22 (F := Ideal) x0 x1 x2 x3 (lidx_main_v25 (ix2 r d) f) * val_main_v24 (F := Ideal) x4 (ridx_main_v25 (ix2 r d) f)
      = act (fun k => x0 (ix2 r k)) (fun k => x1 (ix2 1 k)) (fun k => x2 (ix3 1 k f)) (fun k => x3 (ix3 1 k f)) * x4 (ix3 1 f d) := fun f => by
    have e1 : lidx_main_v25 (ix2 r d) f = ix2 r f := by funext a; fin_cases a <;> rfl
    have e2 : idx_main_v23 (idx_main_v24 (ridx_main_v25 (ix2 r d) f)) = ix3 1 f d := by
      funext a; fin_cases a <;> first | rfl | (apply Fin.ext; simp; done) | (apply Fin.ext; simp; omega)
    rw [e1, at22, val_main_v24_apply, val_main_v23_apply, e2]
  simp only [e]
  rfl

theorem atG (r : Fin 16384) (d : Fin 1024) : val_main_v28 (F := Ideal) x0 x1 x2 x3 x4 (ix2 r d) = G x0 x1 x2 x3 x4 (ix2 r d) :=
  at28 x0 x1 x2 x3 x4 r d

/-- The reference's result is the kernel's closed form. -/
theorem result : val_main_v28 (F := Ideal) x0 x1 x2 x3 x4 = G x0 x1 x2 x3 x4 := by
  funext i
  have hi : i = ix2 (i 0) (i 1) := by funext a; fin_cases a <;> rfl
  exact (congrArg _ hi).trans ((atG x0 x1 x2 x3 x4 (i 0) (i 1)).trans (congrArg _ hi.symm))

end Cert.FfnMidReferenceIdeal.Hand

end
-- ==== Proof.FfnFirstValue.lean ====
/- What the feed-forward kernel without the final norm leaves in its output array, in closed form. -/
module

public import proofs.«01_k».proof.Proof.Gen.FfnFirstIdeal.Value
public import proofs.«01_k».proof.Proof.FfnBlock

@[expose] public section

set_option maxRecDepth 16384

noncomputable section

namespace Cert.FfnFirstIdeal.Hand

open Cert.FfnFirstIdeal Cert.FfnFirstIdeal.Gen Idealize.ShloMosaic Idealize.ShloMosaic.TcCoe Idealize.SL.Sem
open Idealize.ShloMosaic.Pointwise
open Cert.FfnIdeal.Hand (inv prj act acts mid chunk readCov_full)

variable (m : (ℓ : Loc nD τ sig) → Buf (Elt Ideal) ℓ)

set_option maxHeartbeats 1000000 in
/-- What the body leaves in its output block at a point. -/
theorem outs_apply (c : Dev nD) (t : Fin cfg0.N) (r d : Fin 1024) :
    outsAt0 m c t (ix2 r d) = mid (fun k => iblk m c 0 t (ix2 r k)) (fun k => iblk m c 1 t (ix3 0 0 k))
      (fun k f => iblk m c 2 t (ix3 0 k f)) (fun k f => iblk m c 3 t (ix3 0 k f)) (fun f e => iblk m c 4 t (ix3 0 f e)) d := by
  unfold outsAt0
  frame_out
  generalize iblk m c 0 t = x0
  generalize iblk m c 1 t = x1
  generalize iblk m c 2 t = x2
  generalize iblk m c 3 t = x3
  generalize iblk m c 4 t = x4
  generalize hT : View.readCov (Val := Elt Ideal) (View.whole cc0_scratch0) _ _ = T
  have hT' : T = acts x0 x1 x2 x3 := by
    subst hT
    refine readCov_full _ _ _ ?_ ?_
    · exact View.cover_of_tiledL _ S1024x256.size (by sl_kernel_rfl)
    simp only [List.forall_mem_cons, List.not_mem_nil, false_implies, implies_true, and_true]
    exact ⟨chunk x0 x1 x2 x3 2560 _ _, chunk x0 x1 x2 x3 2304 _ _, chunk x0 x1 x2 x3 2048 _ _, chunk x0 x1 x2 x3 1792 _ _,
      chunk x0 x1 x2 x3 1536 _ _, chunk x0 x1 x2 x3 1280 _ _, chunk x0 x1 x2 x3 1024 _ _, chunk x0 x1 x2 x3 768 _ _,
      chunk x0 x1 x2 x3 512 _ _, chunk x0 x1 x2 x3 256 _ _, chunk x0 x1 x2 x3 0 _ _⟩
  clear hT
  subst hT'
  pointwise [k0_pay1, k0_pay3]
  rfl

/-- The result in closed form, row by row. -/
def G (x0 : Vec Ideal S16384x1024 .f32) (x1 : Vec Ideal S2x1024 .f32) (x2 x3 : Vec Ideal S2x1024x2816 .f32)
    (x4 : Vec Ideal S2x2816x1024 .f32) : Vec Ideal S16384x1024 .f32 :=
  fun i => mid (fun k => x0 (ix2 (i 0) k)) (fun k => x1 (ix2 0 k)) (fun k f => x2 (ix3 0 k f)) (fun k f => x3 (ix3 0 k f))
    (fun f e => x4 (ix3 0 f e)) (i 1)

theorem idx (t : Fin cfg0.N) : win0_0.index t = ![(t : ℕ), 0] ∧ win0_1.index t = ![0, 0, 0] ∧ win0_2.index t = ![0, 0, 0]
    ∧ win0_3.index t = ![0, 0, 0] ∧ win0_4.index t = ![0, 0, 0] ∧ win0_5.index t = ![0, 0] ∧ win0_6.index t = ![(t : ℕ), 0] := by
  revert t; decide +kernel

theorem v0 (c : Dev nD) : V m c main_v0 = shapeCast S2x1x1024 (m ((c : Thread nD τ).loc main_arg1)) shapeCasts_S2x1024_S2x1x1024 := by
  unfold V; after_results_simp; rfl
theorem v1 (c : Dev nD) : V m c main_v1 = (m ((c : Thread nD τ).loc main_arg2) : Vec Ideal S2x1024x2816 .f32) := by
  unfold V; after_results_simp; rfl
theorem v2 (c : Dev nD) : V m c main_v2 = (m ((c : Thread nD τ).loc main_arg3) : Vec Ideal S2x1024x2816 .f32) := by
  unfold V; after_results_simp; rfl
theorem v3 (c : Dev nD) : V m c main_v3 = (m ((c : Thread nD τ).loc main_arg4) : Vec Ideal S2x2816x1024 .f32) := by
  unfold V; after_results_simp; rfl

/-- Where a point's rows lie in the array. -/
def at_ (t : Fin cfg0.N) (r : Fin 1024) : Fin 16384 := ⟨(t : ℕ) * 1024 + r, by
  have : (t : ℕ) < 16 := t.isLt.trans_eq (by decide)
  omega⟩

theorem b0 (c : Dev nD) (t : Fin cfg0.N) (r k : Fin 1024) :
    iblk m c 0 t (ix2 r k) = m ((c : Thread nD τ).loc main_arg0) (ix2 (at_ t r) k) := by
  blk_ext [iblk, at_, (idx t).1]
theorem b1 (c : Dev nD) (t : Fin cfg0.N) (k : Fin 1024) :
    iblk m c 1 t (ix3 0 0 k) = m ((c : Thread nD τ).loc main_arg1) (ix2 0 k) := by
  have h : iblk m c 1 t (ix3 0 0 k) = V m c main_v0 (ix3 0 0 k) := by
    blk_ext [iblk, (idx t).2.1]
  rw [h, v0]
  pointwise
theorem b2 (c : Dev nD) (t : Fin cfg0.N) (k : Fin 1024) (f : Fin 2816) :
    iblk m c 2 t (ix3 0 k f) = m ((c : Thread nD τ).loc main_arg2) (ix3 0 k f) := by
  have h : iblk m c 2 t (ix3 0 k f) = V m c main_v1 (ix3 0 k f) := by
    blk_ext [iblk, (idx t).2.2.1]
  rw [h, v1]
theorem b3 (c : Dev nD) (t : Fin cfg0.N) (k : Fin 1024) (f : Fin 2816) :
    iblk m c 3 t (ix3 0 k f) = m ((c : Thread nD τ).loc main_arg3) (ix3 0 k f) := by
  have h : iblk m c 3 t (ix3 0 k f) = V m c main_v2 (ix3 0 k f) := by
    blk_ext [iblk, (idx t).2.2.2.1]
  rw [h, v2]
theorem b4 (c : Dev nD) (t : Fin cfg0.N) (f : Fin 2816) (k : Fin 1024) :
    iblk m c 4 t (ix3 0 f k) = m ((c : Thread nD τ).loc main_arg4) (ix3 0 f k) := by
  have h : iblk m c 4 t (ix3 0 f k) = V m c main_v3 (ix3 0 f k) := by
    blk_ext [iblk, (idx t).2.2.2.2.1]
  rw [h, v3]

/-- The output array after the run. -/
theorem arr (c : Dev nD) : (dats m 0 c).arrAt 6 cfg0.N = G (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  have hy : y = ix2 (y 0) (y 1) := by funext a; fin_cases a <;> rfl
  refine (congrArg _ hy).trans ((outs_apply m c t (y 0) (y 1)).trans ?_)
  have h0 : (fun k => iblk m c 0 t (ix2 (y 0) k)) = fun k => m ((c : Thread nD τ).loc main_arg0) (ix2 (at_ t (y 0)) k) :=
    funext fun k => b0 m c t (y 0) k
  refine (congrArg (fun z => mid z _ _ _ _ (y 1)) h0).trans ?_
  simp only [b1, b2, b3, b4]
  have e : ((cfg0.win 6).blk t).view.emb y = ix2 (at_ t (y 0)) (y 1) := by
    blk_ext [at_, (idx t).2.2.2.2.2.2]
  rw [e]
  rfl

end Cert.FfnFirstIdeal.Hand

end
-- ==== Proof.FfnFirstRef.lean ====
/- The feed-forward reference at an element, and that it is the kernel's value there. -/
module

public import proofs.«01_k».proof.Proof.FfnFirstValue
public import proofs.«01_k».proof.Proof.FfnRef
public import proofs.«01_k».proof.Proof.Gen.FfnFirstReferenceIdeal.Read

@[expose] public section

set_option maxRecDepth 16384

noncomputable section

namespace Cert.FfnFirstReferenceIdeal.Hand

open Cert.FfnFirstReferenceIdeal Cert.FfnFirstReferenceIdeal.Read Idealize.ShloMosaic Idealize.ShloMosaic.TcCoe Idealize.SL.Sem
open Idealize.ShloMosaic.Pointwise
open Cert.FfnIdeal.Hand (inv prj act mid)
open Cert.FfnReferenceIdeal.Hand (prj_eq)
open Cert.FfnFirstIdeal.Hand (G)

variable (x0 : Vec Ideal S16384x1024 .f32) (x1 : Vec Ideal S2x1024 .f32) (x2 x3 : Vec Ideal S2x1024x2816 .f32)
    (x4 : Vec Ideal S2x2816x1024 .f32)

theorem at9 (r : Fin 16384) (j : Fin 1) :
    val_main_v9 (F := Ideal) x0 (ix2 r j) = inv (fun k => x0 (ix2 r k)) := by
  rw [val_main_v9_apply, val_main_v8_apply, val_main_v7_apply, val_main_v6_apply, val_main_v5_apply, val_main_v4_apply,
    val_main_v3_apply, val_main_cst_apply, val_main_cst_0_apply, val_main_cst_1_apply]
  have e : ∀ k, val_main_v2 (F := Ideal) x0 (idx_main_v3 (idx_main_v4 (ix2 r j)) k) = x0 (ix2 r k) * x0 (ix2 r k) := fun k => by
    rw [val_main_v2_apply]
    have : idx_main_v3 (idx_main_v4 (ix2 r j)) k = ix2 r k := by funext a; fin_cases a <;> rfl
    rw [this]; rfl
  simp only [e]
  rw [show (FloatOps.ofBits (F := Ideal) .f32 0x00000000#32) = (0 : EReal) from Ideal.ofBits_zero_f32, zero_add]
  rfl

theorem at14 (r : Fin 16384) (k : Fin 1024) :
    val_main_v14 (F := Ideal) x0 x1 (ix2 r k) = x0 (ix2 r k) * inv (fun k => x0 (ix2 r k)) * x1 (ix2 0 k) := by
  rw [val_main_v14_apply, val_main_v13_apply, val_main_v12_apply, val_main_v11_apply, val_main_v10_apply,
    val_main_v1_apply, val_main_v0_apply]
  have e1 : idx_main_v10 (ix2 r k) = ix2 r 0 := by funext a; fin_cases a <;> rfl
  have e2 : idx_main_v0 (idx_main_v1 (idx_main_v12 (idx_main_v13 (ix2 r k)))) = ix2 0 k := by
    funext a; fin_cases a <;> first | rfl | (apply Fin.ext; simp; done) | (apply Fin.ext; simp; omega)
  rw [e1, at9, e2]
  rfl

theorem at17 (r : Fin 16384) (f : Fin 2816) : val_main_v17 (F := Ideal) x0 x1 x2 (ix2 r f)
    = prj (fun k => x0 (ix2 r k)) (fun k => x1 (ix2 0 k)) (fun k => x2 (ix3 0 k f)) := by
  rw [val_main_v17_apply, ← prj_eq]
  refine Finset.sum_congr rfl fun k _ => ?_
  have e1 : lidx_main_v17 (ix2 r f) k = ix2 r k := by funext a; fin_cases a <;> rfl
  have e2 : idx_main_v15 (idx_main_v16 (ridx_main_v17 (ix2 r f) k)) = ix3 0 k f := by
    funext a; fin_cases a <;> first | rfl | (apply Fin.ext; simp; done) | (apply Fin.ext; simp; omega)
  rw [e1, at14, val_main_v16_apply, val_main_v15_apply, e2]

theorem at21 (r : Fin 16384) (f : Fin 2816) : val_main_v21 (F := Ideal) x0 x1 x3 (ix2 r f)
    = prj (fun k => x0 (ix2 r k)) (fun k => x1 (ix2 0 k)) (fun k => x3 (ix3 0 k f)) := by
  rw [val_main_v21_apply, ← prj_eq]
  refine Finset.sum_congr rfl fun k _ => ?_
  have e1 : lidx_main_v21 (ix2 r f) k = ix2 r k := by funext a; fin_cases a <;> rfl
  have e2 : idx_main_v19 (idx_main_v20 (ridx_main_v21 (ix2 r f) k)) = ix3 0 k f := by
    funext a; fin_cases a <;> first | rfl | (apply Fin.ext; simp; done) | (apply Fin.ext; simp; omega)
  rw [e1, at14, val_main_v20_apply, val_main_v19_apply, e2]

theorem at22 (r : Fin 16384) (f : Fin 2816) : val_main_v22 (F := Ideal) x0 x1 x2 x3 (ix2 r f)
    = act (fun k => x0 (ix2 r k)) (fun k => x1 (ix2 0 k)) (fun k => x2 (ix3 0 k f)) (fun k => x3 (ix3 0 k f)) := by
  rw [val_main_v22_apply, val_main_v18_apply, at21, val_main_call0_v5_apply, val_main_call0_v4_apply, val_main_call0_v3_apply,
    val_main_call0_v2_apply, val_main_call0_v1_apply, val_main_call0_v0_apply, val_main_call0_cst_apply, val_main_call0_cst_0_apply,
    at17]
  unfold act
  rw [show (FloatOps.ofBits (F := Ideal) .f32 0x3F800000#32) = (1 : EReal) from Ideal.ofBits_one_f32]
  rfl

theorem at28 (r : Fin 16384) (d : Fin 1024) : val_main_v28 (F := Ideal) x0 x1 x2 x3 x4 (ix2 r d)
    = mid (fun k => x0 (ix2 r k)) (fun k => x1 (ix2 0 k)) (fun k f => x2 (ix3 0 k f)) (fun k f => x3 (ix3 0 k f))
        (fun f e => x4 (ix3 0 f e)) d := by
  rw [val_main_v28_apply, val_main_v27_apply, val_main_v26_apply, val_main_cst_2_apply, val_main_v25_apply]
  have e : ∀ f, val_main_v22 (F := Ideal) x0 x1 x2 x3 (lidx_main_v25 (ix2 r d) f) * val_main_v24 (F := Ideal) x4 (ridx_main_v25 (ix2 r d) f)
      = act (fun k => x0 (ix2 r k)) (fun k => x1 (ix2 0 k)) (fun k => x2 (ix3 0 k f)) (fun k => x3 (ix3 0 k f)) * x4 (ix3 0 f d) := fun f => by
    have e1 : lidx_main_v25 (ix2 r d) f = ix2 r f := by funext a; fin_cases a <;> rfl
    have e2 : idx_main_v23 (idx_main_v24 (ridx_main_v25 (ix2 r d) f)) = ix3 0 f d := by
      funext a; fin_cases a <;> first | rfl | (apply Fin.ext; simp; done) | (apply Fin.ext; simp; omega)
    rw [e1, at22, val_main_v24_apply, val_main_v23_apply, e2]
  simp only [e]
  rfl

theorem atG (r : Fin 16384) (d : Fin 1024) : val_main_v28 (F := Ideal) x0 x1 x2 x3 x4 (ix2 r d) = G x0 x1 x2 x3 x4 (ix2 r d) :=
  at28 x0 x1 x2 x3 x4 r d

/-- The reference's result is the kernel's closed form. -/
theorem result : val_main_v28 (F := Ideal) x0 x1 x2 x3 x4 = G x0 x1 x2 x3 x4 := by
  funext i
  have hi : i = ix2 (i 0) (i 1) := by funext a; fin_cases a <;> rfl
  exact (congrArg _ hi).trans ((atG x0 x1 x2 x3 x4 (i 0) (i 1)).trans (congrArg _ hi.symm))

end Cert.FfnFirstReferenceIdeal.Hand

end
-- ==== Proof.MergeValue.lean ====
/- What the merge kernel leaves in its output array, in closed form over the arguments. -/
module

public import proofs.«01_k».proof.Proof.Gen.MergeIdeal.Value
public import proofs.«01_k».proof.Proof.FfnBlock

@[expose] public section

set_option maxRecDepth 16384

noncomputable section

namespace Cert.MergeIdeal.Hand

open Cert.MergeIdeal Cert.MergeIdeal.Gen Idealize.ShloMosaic Idealize.ShloMosaic.TcCoe Idealize.SL.Sem
open Idealize.ShloMosaic.Pointwise
open Cert.FfnIdeal.Hand (inv)

/-- A gate: the logistic of the normed row times a column. -/
def gate (x g w : Fin 1024 → EReal) : EReal := Ideal.logistic (∑ k, x k * inv x * g k * w k)

/-- The gated sum of the two branches, at a feature. -/
def both (x g : Fin 1024 → EReal) (a b : Fin 512 → EReal) (wa wb : Fin 1024 → Fin 1024 → EReal) (pa pb : Fin 512 → Fin 1024 → EReal)
    (e : Fin 1024) : EReal :=
  gate x g (fun k => wa k e) * (∑ j, a j * pa j e) + gate x g (fun k => wb k e) * (∑ j, b j * pb j e)

/-- The row after the merge. -/
def row (x g : Fin 1024 → EReal) (a b : Fin 512 → EReal) (wa wb : Fin 1024 → Fin 1024 → EReal) (pa pb : Fin 512 → Fin 1024 → EReal)
    (wo : Fin 1024 → Fin 1024 → EReal) (d : Fin 1024) : EReal :=
  x d + ∑ e, both x g a b wa wb pa pb e * wo e d

/-- A column of the first half of the gate weights, and of the second. -/
def lo (e : Fin 1024) : Fin 2048 := ⟨e, by omega⟩
def hi (e : Fin 1024) : Fin 2048 := ⟨1024 + e, by omega⟩

theorem ldLo (w : Vec Ideal S1x1024x2048 .bf16) (k e : Fin 1024) :
    View.ld w (Rect.unit (s := S1x1024x2048) ![0, 0, 0] S1x1024x1024.size inb_S1x1024x2048_S1x1024x1024_0_0_0) (ix3 0 k e) = w (ix3 0 k (lo e)) := by
  have h : (Rect.unit (s := S1x1024x2048) ![0, 0, 0] S1x1024x1024.size inb_S1x1024x2048_S1x1024x1024_0_0_0).emb (ix3 0 k e) = ix3 0 k (lo e) := by
    funext a; apply Fin.ext; rw [ValueKit.rect_emb_unit_val]
    fin_cases a <;> simp [lo]
  exact congrArg w h
theorem ldHi (w : Vec Ideal S1x1024x2048 .bf16) (k e : Fin 1024) :
    View.ld w (Rect.unit (s := S1x1024x2048) ![0, 0, 1024] S1x1024x1024.size inb_S1x1024x2048_S1x1024x1024_0_0_1024) (ix3 0 k e) = w (ix3 0 k (hi e)) := by
  have h : (Rect.unit (s := S1x1024x2048) ![0, 0, 1024] S1x1024x1024.size inb_S1x1024x2048_S1x1024x1024_0_0_1024).emb (ix3 0 k e) = ix3 0 k (hi e) := by
    funext a; apply Fin.ext; rw [ValueKit.rect_emb_unit_val]
    fin_cases a <;> simp [hi]
  exact congrArg w h

variable (m : (ℓ : Loc nD τ sig) → Buf (Elt Ideal) ℓ)

set_option maxHeartbeats 1000000 in
/-- What the body leaves in its output block. -/
theorem outs_apply (x0 : Vec Ideal S1024x1024 .f32) (x1 : Vec Ideal S1x1x1024 .f32) (x2 x3 : Vec Ideal S1x1024x512 .bf16)
    (x4 : Vec Ideal S1x1024x2048 .bf16) (x5 x6 : Vec Ideal S1x512x1024 .bf16) (x7 : Vec Ideal S1x1024x1024 .bf16) (r d : Fin 1024) :
    out0_8 x0 x1 x2 x3 x4 x5 x6 x7 (ix2 r d) = row (fun k => x0 (ix2 r k)) (fun k => x1 (ix3 0 0 k))
      (fun j => x2 (ix3 0 r j)) (fun j => x3 (ix3 0 r j))
      (fun k e => x4 (ix3 0 k (lo e))) (fun k e => x4 (ix3 0 k (hi e)))
      (fun j e => x5 (ix3 0 j e)) (fun j e => x6 (ix3 0 j e)) (fun e f => x7 (ix3 0 e f)) d := by
  unfold out0_8
  frame_out
  have e1 := ldLo x4
  have e2 := ldHi x4
  revert e1 e2
  generalize View.ld x4 r0_4 = wl
  generalize View.ld x4 r0_5 = wh
  intro e1 e2
  pointwise [k0_pay1, k0_pay2, k0_pay3, k0_pay4]
  simp only [e1, e2]
  rfl

/-- The batch row and the place in it of a row of the flat array. -/
def seqRow (r : Fin 16384) : Fin 8 := ⟨(r : ℕ) / 2048, by omega⟩
def seqPos (r : Fin 16384) : Fin 2048 := ⟨(r : ℕ) % 2048, by omega⟩

/-- The result in closed form, at an element. -/
def elem (x0 : Vec Ideal S16384x1024 .f32) (x1 : Vec Ideal S2x1024 .f32) (x2 x3 : Vec Ideal S8x2048x512 .bf16) (x4 : Vec Ideal S2x1024x2048 .bf16)
    (x5 x6 : Vec Ideal S2x512x1024 .f32) (x7 : Vec Ideal S2x1024x1024 .f32) (r : Fin 16384) (d : Fin 1024) : EReal :=
  row (fun k => x0 (ix2 r k)) (fun k => x1 (ix2 1 k)) (fun j => x2 (ix3 (seqRow r) (seqPos r) j)) (fun j => x3 (ix3 (seqRow r) (seqPos r) j))
    (fun k e => x4 (ix3 1 k (lo e))) (fun k e => x4 (ix3 1 k (hi e)))
    (fun j e => x5 (ix3 1 j e)) (fun j e => x6 (ix3 1 j e)) (fun e f => x7 (ix3 1 e f)) d

/-- The result in closed form. -/
def G (x0 : Vec Ideal S16384x1024 .f32) (x1 : Vec Ideal S2x1024 .f32) (x2 x3 : Vec Ideal S8x2048x512 .bf16) (x4 : Vec Ideal S2x1024x2048 .bf16)
    (x5 x6 : Vec Ideal S2x512x1024 .f32) (x7 : Vec Ideal S2x1024x1024 .f32) : Vec Ideal S16384x1024 .f32 :=
  fun i => elem x0 x1 x2 x3 x4 x5 x6 x7 (i 0) (i 1)

theorem idx (t : Fin cfg0.N) : win0_0.index t = ![(t : ℕ), 0] ∧ win0_1.index t = ![1, 0, 0]
    ∧ win0_2.index t = ![(t : ℕ) / 2, (t : ℕ) % 2, 0] ∧ win0_3.index t = ![(t : ℕ) / 2, (t : ℕ) % 2, 0]
    ∧ win0_4.index t = ![1, 0, 0] ∧ win0_5.index t = ![1, 0, 0] ∧ win0_6.index t = ![1, 0, 0] ∧ win0_7.index t = ![1, 0, 0]
    ∧ win0_8.index t = ![(t : ℕ), 0] := by
  revert t; decide +kernel

theorem v0 (c : Dev nD) : V m c main_v0 = shapeCast S2x1x1024 (m ((c : Thread nD τ).loc main_arg1)) shapeCasts_S2x1024_S2x1x1024 := by
  unfold V; after_results_simp; rfl
theorem v1 (c : Dev nD) : V m c main_v1 = (m ((c : Thread nD τ).loc main_arg5) : Vec Ideal S2x512x1024 .f32) := by
  unfold V; after_results_simp; rfl
theorem v2 (c : Dev nD) : V m c main_v2 = (m ((c : Thread nD τ).loc main_arg6) : Vec Ideal S2x512x1024 .f32) := by
  unfold V; after_results_simp; rfl
theorem v3 (c : Dev nD) : V m c main_v3 = (m ((c : Thread nD τ).loc main_arg7) : Vec Ideal S2x1024x1024 .f32) := by
  unfold V; after_results_simp; rfl

theorem lt16 (t : Fin cfg0.N) : (t : ℕ) < 16 := t.isLt.trans_eq (by decide)

/-- Where a point's rows lie in the array. -/
def at_ (t : Fin cfg0.N) (r : Fin 1024) : Fin 16384 := ⟨(t : ℕ) * 1024 + r, by have := lt16 t; omega⟩
def hiT (t : Fin cfg0.N) : Fin 8 := ⟨(t : ℕ) / 2, by have := lt16 t; omega⟩
def loT (t : Fin cfg0.N) (r : Fin 1024) : Fin 2048 := ⟨(t : ℕ) % 2 * 1024 + r, by omega⟩

theorem b0 (c : Dev nD) (t : Fin cfg0.N) (r k : Fin 1024) :
    iblk m c 0 t (ix2 r k) = m ((c : Thread nD τ).loc main_arg0) (ix2 (at_ t r) k) := by
  blk_ext [iblk, at_, (idx t).1]
theorem b1 (c : Dev nD) (t : Fin cfg0.N) (k : Fin 1024) :
    iblk m c 1 t (ix3 0 0 k) = m ((c : Thread nD τ).loc main_arg1) (ix2 1 k) := by
  have h : iblk m c 1 t (ix3 0 0 k) = V m c main_v0 (ix3 1 0 k) := by
    blk_ext [iblk, (idx t).2.1]
  rw [h, v0]
  pointwise
theorem b2 (c : Dev nD) (t : Fin cfg0.N) (r : Fin 1024) (j : Fin 512) :
    iblk m c 2 t (ix3 0 r j) = m ((c : Thread nD τ).loc main_arg2) (ix3 (hiT t) (loT t r) j) := by
  blk_ext [iblk, hiT, loT, (idx t).2.2.1]
theorem b3 (c : Dev nD) (t : Fin cfg0.N) (r : Fin 1024) (j : Fin 512) :
    iblk m c 3 t (ix3 0 r j) = m ((c : Thread nD τ).loc main_arg3) (ix3 (hiT t) (loT t r) j) := by
  blk_ext [iblk, hiT, loT, (idx t).2.2.2.1]
theorem b4 (c : Dev nD) (t : Fin cfg0.N) (k : Fin 1024) (e : Fin 2048) :
    iblk m c 4 t (ix3 0 k e) = m ((c : Thread nD τ).loc main_arg4) (ix3 1 k e) := by
  blk_ext [iblk, (idx t).2.2.2.2.1]
theorem b5 (c : Dev nD) (t : Fin cfg0.N) (j : Fin 512) (e : Fin 1024) :
    iblk m c 5 t (ix3 0 j e) = m ((c : Thread nD τ).loc main_arg5) (ix3 1 j e) := by
  have h : iblk m c 5 t (ix3 0 j e) = V m c main_v1 (ix3 1 j e) := by
    blk_ext [iblk, (idx t).2.2.2.2.2.1]
  rw [h, v1]
theorem b6 (c : Dev nD) (t : Fin cfg0.N) (j : Fin 512) (e : Fin 1024) :
    iblk m c 6 t (ix3 0 j e) = m ((c : Thread nD τ).loc main_arg6) (ix3 1 j e) := by
  have h : iblk m c 6 t (ix3 0 j e) = V m c main_v2 (ix3 1 j e) := by
    blk_ext [iblk, (idx t).2.2.2.2.2.2.1]
  rw [h, v2]
theorem b7 (c : Dev nD) (t : Fin cfg0.N) (e f : Fin 1024) :
    iblk m c 7 t (ix3 0 e f) = m ((c : Thread nD τ).loc main_arg7) (ix3 1 e f) := by
  have h : iblk m c 7 t (ix3 0 e f) = V m c main_v3 (ix3 1 e f) := by
    blk_ext [iblk, (idx t).2.2.2.2.2.2.2.1]
  rw [h, v3]

/-- The output array after the run. -/
theorem arr (c : Dev nD) : (dats m 0 c).arrAt 8 cfg0.N = G (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) := by
  refine (dats m 0 c).arrAt_eq_of_covers 8 _ (by decide +kernel) fun t hf y => ?_
  blk_simp
  rw [after0_8]
  have hy : y = ix2 (y 0) (y 1) := by funext a; fin_cases a <;> rfl
  refine (congrArg _ hy).trans ((outs_apply _ _ _ _ _ _ _ _ (y 0) (y 1)).trans ?_)
  have h0 : (fun k => iblk m c 0 t (ix2 (y 0) k)) = fun k => m ((c : Thread nD τ).loc main_arg0) (ix2 (at_ t (y 0)) k) :=
    funext fun k => b0 m c t (y 0) k
  have h2 : (fun j => iblk m c 2 t (ix3 0 (y 0) j)) = fun j => m ((c : Thread nD τ).loc main_arg2) (ix3 (hiT t) (loT t (y 0)) j) :=
    funext fun j => b2 m c t (y 0) j
  have h3 : (fun j => iblk m c 3 t (ix3 0 (y 0) j)) = fun j => m ((c : Thread nD τ).loc main_arg3) (ix3 (hiT t) (loT t (y 0)) j) :=
    funext fun j => b3 m c t (y 0) j
  refine (congrArg (fun z => row z _ _ _ _ _ _ _ _ (y 1)) h0).trans ?_
  refine (congrArg (fun z => row _ _ z _ _ _ _ _ _ (y 1)) h2).trans ?_
  refine (congrArg (fun z => row _ _ _ z _ _ _ _ _ (y 1)) h3).trans ?_
  simp only [b1, b4, b5, b6, b7]
  have e : ((cfg0.win 8).blk t).view.emb y = ix2 (at_ t (y 0)) (y 1) := by
    blk_ext [at_, (idx t).2.2.2.2.2.2.2.2]
  rw [e]
  have ht := lt16 t
  have e1 : seqRow (at_ t (y 0)) = hiT t := by
    apply Fin.ext
    have hr : (y 0 : ℕ) < 1024 := (y 0).isLt
    show ((t : ℕ) * 1024 + (y 0 : ℕ)) / 2048 = (t : ℕ) / 2; omega
  have e2 : seqPos (at_ t (y 0)) = loT t (y 0) := by
    apply Fin.ext
    have hr : (y 0 : ℕ) < 1024 := (y 0).isLt
    show ((t : ℕ) * 1024 + (y 0 : ℕ)) % 2048 = (t : ℕ) % 2 * 1024 + (y 0 : ℕ); omega
  show _ = elem _ _ _ _ _ _ _ _ (at_ t (y 0)) (y 1)
  unfold elem
  rw [e1, e2]

end Cert.MergeIdeal.Hand

end
-- ==== Proof.MergeRef.lean ====
/- The merge reference at an element, and that it is the kernel's value there. -/
module

public import proofs.«01_k».proof.Proof.MergeValue
public import proofs.«01_k».proof.Proof.Gen.MergeReferenceIdeal.Read

@[expose] public section

set_option maxRecDepth 16384

noncomputable section

namespace Cert.MergeReferenceIdeal.Hand

open Cert.MergeReferenceIdeal Cert.MergeReferenceIdeal.Read Idealize.ShloMosaic Idealize.ShloMosaic.TcCoe Idealize.SL.Sem
open Idealize.ShloMosaic.Pointwise
open Cert.FfnIdeal.Hand (inv)
open Cert.MergeIdeal.Hand (gate both row lo hi seqRow seqPos elem G)

variable (x0 : Vec Ideal S16384x1024 .f32) (x1 : Vec Ideal S2x1024 .f32) (x2 x3 : Vec Ideal S8x2048x512 .bf16)
    (x4 : Vec Ideal S2x1024x2048 .bf16) (x5 x6 : Vec Ideal S2x512x1024 .f32) (x7 : Vec Ideal S2x1024x1024 .f32)

theorem at7 (r : Fin 16384) (j : Fin 1) :
    val_main_v7 (F := Ideal) x0 (ix2 r j) = inv (fun k => x0 (ix2 r k)) := by
  rw [val_main_v7_apply, val_main_v6_apply, val_main_v5_apply, val_main_v4_apply, val_main_v3_apply, val_main_v2_apply,
    val_main_v1_apply, val_main_cst_apply, val_main_cst_0_apply, val_main_cst_1_apply]
  have e : ∀ k, val_main_v0 (F := Ideal) x0 (idx_main_v1 (idx_main_v2 (ix2 r j)) k) = x0 (ix2 r k) * x0 (ix2 r k) := fun k => by
    rw [val_main_v0_apply]
    have : idx_main_v1 (idx_main_v2 (ix2 r j)) k = ix2 r k := by funext a; fin_cases a <;> rfl
    rw [this]; rfl
  simp only [e]
  rw [show (FloatOps.ofBits (F := Ideal) .f32 0x00000000#32) = (0 : EReal) from Ideal.ofBits_zero_f32, zero_add]
  rfl

theorem at14 (r : Fin 16384) (k : Fin 1024) :
    val_main_v14 (F := Ideal) x0 x1 (ix2 r k) = x0 (ix2 r k) * inv (fun k => x0 (ix2 r k)) * x1 (ix2 1 k) := by
  rw [val_main_v14_apply, val_main_v13_apply, val_main_v12_apply, val_main_v11_apply, val_main_v10_apply,
    val_main_v9_apply, val_main_v8_apply]
  have e1 : idx_main_v8 (ix2 r k) = ix2 r 0 := by funext a; fin_cases a <;> rfl
  have e2 : idx_main_v10 (idx_main_v11 (idx_main_v12 (idx_main_v13 (ix2 r k)))) = ix2 1 k := by
    funext a; fin_cases a <;> first | rfl | (apply Fin.ext; simp; done) | (apply Fin.ext; simp; omega)
  rw [e1, at7, e2]
  rfl

theorem at29 (r : Fin 16384) (e : Fin 1024) : val_main_v29 (F := Ideal) x0 x1 x4 (ix2 r e)
    = ∑ k, x0 (ix2 r k) * inv (fun k => x0 (ix2 r k)) * x1 (ix2 1 k) * x4 (ix3 1 k (lo e)) := by
  rw [val_main_v29_apply]
  refine Finset.sum_congr rfl fun k _ => ?_
  have e1 : lidx_main_v29 (ix2 r e) k = ix2 r k := by funext a; fin_cases a <;> rfl
  have e2 : idx_main_v15 (idx_main_v16 (idx_main_v28 (ridx_main_v29 (ix2 r e) k))) = ix3 1 k (lo e) := by
    funext a; fin_cases a <;> first | rfl | (apply Fin.ext; simp [lo]; done) | (apply Fin.ext; simp [lo]; omega)
  rw [e1, at14, val_main_v28_apply, val_main_v17_apply, val_main_v16_apply, val_main_v15_apply, e2]
  rfl

theorem at38 (r : Fin 16384) (e : Fin 1024) : val_main_v38 (F := Ideal) x0 x1 x4 (ix2 r e)
    = ∑ k, x0 (ix2 r k) * inv (fun k => x0 (ix2 r k)) * x1 (ix2 1 k) * x4 (ix3 1 k (hi e)) := by
  rw [val_main_v38_apply]
  refine Finset.sum_congr rfl fun k _ => ?_
  have e1 : lidx_main_v38 (ix2 r e) k = ix2 r k := by funext a; fin_cases a <;> rfl
  have e2 : idx_main_v15 (idx_main_v16 (idx_main_v37 (ridx_main_v38 (ix2 r e) k))) = ix3 1 k (hi e) := by
    funext a; fin_cases a <;> first | rfl | (apply Fin.ext; simp [hi]; done) | (apply Fin.ext; simp [hi]; omega)
  rw [e1, at14, val_main_v37_apply, val_main_v17_apply, val_main_v16_apply, val_main_v15_apply, e2]
  rfl

theorem at22 (r : Fin 16384) (e : Fin 1024) : val_main_v22 (F := Ideal) x2 x5 (ix2 r e)
    = ∑ j, x2 (ix3 (seqRow r) (seqPos r) j) * x5 (ix3 1 j e) := by
  rw [val_main_v22_apply]
  refine Finset.sum_congr rfl fun k _ => ?_
  have e1 : idx_main_v18 (lidx_main_v22 (ix2 r e) k) = ix3 (seqRow r) (seqPos r) k := by
    have := k.isLt
    funext a; fin_cases a <;> first | rfl | (apply Fin.ext; simp [seqRow, seqPos]; done) | (apply Fin.ext; simp [seqRow, seqPos]; omega)
  have e2 : idx_main_v20 (idx_main_v21 (ridx_main_v22 (ix2 r e) k)) = ix3 1 k e := by
    funext a; fin_cases a <;> first | rfl | (apply Fin.ext; simp; done) | (apply Fin.ext; simp; omega)
  rw [val_main_v19_apply, val_main_v18_apply, e1, val_main_v21_apply, val_main_v20_apply, e2]
  rfl

theorem at27 (r : Fin 16384) (e : Fin 1024) : val_main_v27 (F := Ideal) x3 x6 (ix2 r e)
    = ∑ j, x3 (ix3 (seqRow r) (seqPos r) j) * x6 (ix3 1 j e) := by
  rw [val_main_v27_apply]
  refine Finset.sum_congr rfl fun k _ => ?_
  have e1 : idx_main_v23 (lidx_main_v27 (ix2 r e) k) = ix3 (seqRow r) (seqPos r) k := by
    have := k.isLt
    funext a; fin_cases a <;> first | rfl | (apply Fin.ext; simp [seqRow, seqPos]; done) | (apply Fin.ext; simp [seqRow, seqPos]; omega)
  have e2 : idx_main_v25 (idx_main_v26 (ridx_main_v27 (ix2 r e) k)) = ix3 1 k e := by
    funext a; fin_cases a <;> first | rfl | (apply Fin.ext; simp; done) | (apply Fin.ext; simp; omega)
  rw [val_main_v24_apply, val_main_v23_apply, e1, val_main_v26_apply, val_main_v25_apply, e2]
  rfl

theorem at46 (r : Fin 16384) (e : Fin 1024) : val_main_v46 (F := Ideal) x0 x1 x2 x3 x4 x5 x6 (ix2 r e)
    = both (fun k => x0 (ix2 r k)) (fun k => x1 (ix2 1 k)) (fun j => x2 (ix3 (seqRow r) (seqPos r) j)) (fun j => x3 (ix3 (seqRow r) (seqPos r) j))
    (fun k e => x4 (ix3 1 k (lo e))) (fun k e => x4 (ix3 1 k (hi e)))
    (fun j e => x5 (ix3 1 j e)) (fun j e => x6 (ix3 1 j e)) e := by
  rw [val_main_v46_apply, val_main_v36_apply, val_main_v35_apply, val_main_v34_apply, val_main_v33_apply, val_main_v32_apply,
    val_main_v31_apply, val_main_v30_apply, val_main_cst_2_apply, val_main_cst_3_apply, at29, at22,
    val_main_v45_apply, val_main_v44_apply, val_main_v43_apply, val_main_v42_apply, val_main_v41_apply,
    val_main_v40_apply, val_main_v39_apply, val_main_cst_4_apply, val_main_cst_5_apply, at38, at27]
  rw [show (FloatOps.ofBits (F := Ideal) .f32 0x3F800000#32) = (1 : EReal) from Ideal.ofBits_one_f32]
  rfl

theorem at50 (r : Fin 16384) (d : Fin 1024) : val_main_v50 (F := Ideal) x0 x1 x2 x3 x4 x5 x6 x7 (ix2 r d)
    = elem x0 x1 x2 x3 x4 x5 x6 x7 r d := by
  rw [val_main_v50_apply, val_main_v49_apply]
  have e : ∀ f, val_main_v46 (F := Ideal) x0 x1 x2 x3 x4 x5 x6 (lidx_main_v49 (ix2 r d) f) * val_main_v48 (F := Ideal) x7 (ridx_main_v49 (ix2 r d) f)
      = both (fun k => x0 (ix2 r k)) (fun k => x1 (ix2 1 k)) (fun j => x2 (ix3 (seqRow r) (seqPos r) j)) (fun j => x3 (ix3 (seqRow r) (seqPos r) j))
        (fun k e => x4 (ix3 1 k (lo e))) (fun k e => x4 (ix3 1 k (hi e)))
        (fun j e => x5 (ix3 1 j e)) (fun j e => x6 (ix3 1 j e)) f * x7 (ix3 1 f d) := fun f => by
    have e1 : lidx_main_v49 (ix2 r d) f = ix2 r f := by funext a; fin_cases a <;> rfl
    have e2 : idx_main_v47 (idx_main_v48 (ridx_main_v49 (ix2 r d) f)) = ix3 1 f d := by
      funext a; fin_cases a <;> first | rfl | (apply Fin.ext; simp; done) | (apply Fin.ext; simp; omega)
    rw [e1, at46, val_main_v48_apply, val_main_v47_apply, e2]
  simp only [e]
  rfl

/-- The reference's result is the kernel's closed form. -/
theorem result : val_main_v50 (F := Ideal) x0 x1 x2 x3 x4 x5 x6 x7 = G x0 x1 x2 x3 x4 x5 x6 x7 := by
  funext i
  have hi : i = ix2 (i 0) (i 1) := by funext a; fin_cases a <;> rfl
  exact (congrArg _ hi).trans ((at50 x0 x1 x2 x3 x4 x5 x6 x7 (i 0) (i 1)).trans rfl)

end Cert.MergeReferenceIdeal.Hand

end
-- ==== Proof.MergeFirstValue.lean ====
/- What the merge kernel of the first layer leaves in its output array, in closed form over the arguments. -/
module

public import proofs.«01_k».proof.Proof.Gen.MergeFirstIdeal.Value
public import proofs.«01_k».proof.Proof.MergeValue

@[expose] public section

set_option maxRecDepth 16384

noncomputable section

namespace Cert.MergeFirstIdeal.Hand

open Cert.MergeFirstIdeal Cert.MergeFirstIdeal.Gen Idealize.ShloMosaic Idealize.ShloMosaic.TcCoe Idealize.SL.Sem
open Idealize.ShloMosaic.Pointwise
open Cert.FfnIdeal.Hand (inv)

open Cert.MergeIdeal.Hand (row lo hi ldLo ldHi seqRow seqPos)

variable (m : (ℓ : Loc nD τ sig) → Buf (Elt Ideal) ℓ)

set_option maxHeartbeats 1000000 in
/-- What the body leaves in its output block. -/
theorem outs_apply (x0 : Vec Ideal S1024x1024 .f32) (x1 : Vec Ideal S1x1x1024 .f32) (x2 x3 : Vec Ideal S1x1024x512 .bf16)
    (x4 : Vec Ideal S1x1024x2048 .bf16) (x5 x6 : Vec Ideal S1x512x1024 .bf16) (x7 : Vec Ideal S1x1024x1024 .bf16) (r d : Fin 1024) :
    out0_8 x0 x1 x2 x3 x4 x5 x6 x7 (ix2 r d) = row (fun k => x0 (ix2 r k)) (fun k => x1 (ix3 0 0 k))
      (fun j => x2 (ix3 0 r j)) (fun j => x3 (ix3 0 r j))
      (fun k e => x4 (ix3 0 k (lo e))) (fun k e => x4 (ix3 0 k (hi e)))
      (fun j e => x5 (ix3 0 j e)) (fun j e => x6 (ix3 0 j e)) (fun e f => x7 (ix3 0 e f)) d := by
  unfold out0_8
  frame_out
  have e1 := ldLo x4
  have e2 := ldHi x4
  revert e1 e2
  generalize View.ld x4 r0_4 = wl
  generalize View.ld x4 r0_5 = wh
  intro e1 e2
  pointwise [k0_pay1, k0_pay2, k0_pay3, k0_pay4]
  simp only [e1, e2]
  rfl

/-- The result in closed form, at an element. -/
def elem (x0 : Vec Ideal S16384x1024 .f32) (x1 : Vec Ideal S2x1024 .f32) (x2 x3 : Vec Ideal S8x2048x512 .bf16) (x4 : Vec Ideal S2x1024x2048 .bf16)
    (x5 x6 : Vec Ideal S2x512x1024 .f32) (x7 : Vec Ideal S2x1024x1024 .f32) (r : Fin 16384) (d : Fin 1024) : EReal :=
  row (fun k => x0 (ix2 r k)) (fun k => x1 (ix2 0 k)) (fun j => x2 (ix3 (seqRow r) (seqPos r) j)) (fun j => x3 (ix3 (seqRow r) (seqPos r) j))
    (fun k e => x4 (ix3 0 k (lo e))) (fun k e => x4 (ix3 0 k (hi e)))
    (fun j e => x5 (ix3 0 j e)) (fun j e => x6 (ix3 0 j e)) (fun e f => x7 (ix3 0 e f)) d

/-- The result in closed form. -/
def G (x0 : Vec Ideal S16384x1024 .f32) (x1 : Vec Ideal S2x1024 .f32) (x2 x3 : Vec Ideal S8x2048x512 .bf16) (x4 : Vec Ideal S2x1024x2048 .bf16)
    (x5 x6 : Vec Ideal S2x512x1024 .f32) (x7 : Vec Ideal S2x1024x1024 .f32) : Vec Ideal S16384x1024 .f32 :=
  fun i => elem x0 x1 x2 x3 x4 x5 x6 x7 (i 0) (i 1)

theorem idx (t : Fin cfg0.N) : win0_0.index t = ![(t : ℕ), 0] ∧ win0_1.index t = ![0, 0, 0]
    ∧ win0_2.index t = ![(t : ℕ) / 2, (t : ℕ) % 2, 0] ∧ win0_3.index t = ![(t : ℕ) / 2, (t : ℕ) % 2, 0]
    ∧ win0_4.index t = ![0, 0, 0] ∧ win0_5.index t = ![0, 0, 0] ∧ win0_6.index t = ![0, 0, 0] ∧ win0_7.index t = ![0, 0, 0]
    ∧ win0_8.index t = ![(t : ℕ), 0] := by
  revert t; decide +kernel

theorem v0 (c : Dev nD) : V m c main_v0 = shapeCast S2x1x1024 (m ((c : Thread nD τ).loc main_arg1)) shapeCasts_S2x1024_S2x1x1024 := by
  unfold V; after_results_simp; rfl
theorem v1 (c : Dev nD) : V m c main_v1 = (m ((c : Thread nD τ).loc main_arg5) : Vec Ideal S2x512x1024 .f32) := by
  unfold V; after_results_simp; rfl
theorem v2 (c : Dev nD) : V m c main_v2 = (m ((c : Thread nD τ).loc main_arg6) : Vec Ideal S2x512x1024 .f32) := by
  unfold V; after_results_simp; rfl
theorem v3 (c : Dev nD) : V m c main_v3 = (m ((c : Thread nD τ).loc main_arg7) : Vec Ideal S2x1024x1024 .f32) := by
  unfold V; after_results_simp; rfl

theorem lt16 (t : Fin cfg0.N) : (t : ℕ) < 16 := t.isLt.trans_eq (by decide)

/-- Where a point's rows lie in the array. -/
def at_ (t : Fin cfg0.N) (r : Fin 1024) : Fin 16384 := ⟨(t : ℕ) * 1024 + r, by have := lt16 t; omega⟩
def hiT (t : Fin cfg0.N) : Fin 8 := ⟨(t : ℕ) / 2, by have := lt16 t; omega⟩
def loT (t : Fin cfg0.N) (r : Fin 1024) : Fin 2048 := ⟨(t : ℕ) % 2 * 1024 + r, by omega⟩

theorem b0 (c : Dev nD) (t : Fin cfg0.N) (r k : Fin 1024) :
    iblk m c 0 t (ix2 r k) = m ((c : Thread nD τ).loc main_arg0) (ix2 (at_ t r) k) := by
  blk_ext [iblk, at_, (idx t).1]
theorem b1 (c : Dev nD) (t : Fin cfg0.N) (k : Fin 1024) :
    iblk m c 1 t (ix3 0 0 k) = m ((c : Thread nD τ).loc main_arg1) (ix2 0 k) := by
  have h : iblk m c 1 t (ix3 0 0 k) = V m c main_v0 (ix3 0 0 k) := by
    blk_ext [iblk, (idx t).2.1]
  rw [h, v0]
  pointwise
theorem b2 (c : Dev nD) (t : Fin cfg0.N) (r : Fin 1024) (j : Fin 512) :
    iblk m c 2 t (ix3 0 r j) = m ((c : Thread nD τ).loc main_arg2) (ix3 (hiT t) (loT t r) j) := by
  blk_ext [iblk, hiT, loT, (idx t).2.2.1]
theorem b3 (c : Dev nD) (t : Fin cfg0.N) (r : Fin 1024) (j : Fin 512) :
    iblk m c 3 t (ix3 0 r j) = m ((c : Thread nD τ).loc main_arg3) (ix3 (hiT t) (loT t r) j) := by
  blk_ext [iblk, hiT, loT, (idx t).2.2.2.1]
theorem b4 (c : Dev nD) (t : Fin cfg0.N) (k : Fin 1024) (e : Fin 2048) :
    iblk m c 4 t (ix3 0 k e) = m ((c : Thread nD τ).loc main_arg4) (ix3 0 k e) := by
  blk_ext [iblk, (idx t).2.2.2.2.1]
theorem b5 (c : Dev nD) (t : Fin cfg0.N) (j : Fin 512) (e : Fin 1024) :
    iblk m c 5 t (ix3 0 j e) = m ((c : Thread nD τ).loc main_arg5) (ix3 0 j e) := by
  have h : iblk m c 5 t (ix3 0 j e) = V m c main_v1 (ix3 0 j e) := by
    blk_ext [iblk, (idx t).2.2.2.2.2.1]
  rw [h, v1]
theorem b6 (c : Dev nD) (t : Fin cfg0.N) (j : Fin 512) (e : Fin 1024) :
    iblk m c 6 t (ix3 0 j e) = m ((c : Thread nD τ).loc main_arg6) (ix3 0 j e) := by
  have h : iblk m c 6 t (ix3 0 j e) = V m c main_v2 (ix3 0 j e) := by
    blk_ext [iblk, (idx t).2.2.2.2.2.2.1]
  rw [h, v2]
theorem b7 (c : Dev nD) (t : Fin cfg0.N) (e f : Fin 1024) :
    iblk m c 7 t (ix3 0 e f) = m ((c : Thread nD τ).loc main_arg7) (ix3 0 e f) := by
  have h : iblk m c 7 t (ix3 0 e f) = V m c main_v3 (ix3 0 e f) := by
    blk_ext [iblk, (idx t).2.2.2.2.2.2.2.1]
  rw [h, v3]

/-- The output array after the run. -/
theorem arr (c : Dev nD) : (dats m 0 c).arrAt 8 cfg0.N = G (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) := by
  refine (dats m 0 c).arrAt_eq_of_covers 8 _ (by decide +kernel) fun t hf y => ?_
  blk_simp
  rw [after0_8]
  have hy : y = ix2 (y 0) (y 1) := by funext a; fin_cases a <;> rfl
  refine (congrArg _ hy).trans ((outs_apply _ _ _ _ _ _ _ _ (y 0) (y 1)).trans ?_)
  have h0 : (fun k => iblk m c 0 t (ix2 (y 0) k)) = fun k => m ((c : Thread nD τ).loc main_arg0) (ix2 (at_ t (y 0)) k) :=
    funext fun k => b0 m c t (y 0) k
  have h2 : (fun j => iblk m c 2 t (ix3 0 (y 0) j)) = fun j => m ((c : Thread nD τ).loc main_arg2) (ix3 (hiT t) (loT t (y 0)) j) :=
    funext fun j => b2 m c t (y 0) j
  have h3 : (fun j => iblk m c 3 t (ix3 0 (y 0) j)) = fun j => m ((c : Thread nD τ).loc main_arg3) (ix3 (hiT t) (loT t (y 0)) j) :=
    funext fun j => b3 m c t (y 0) j
  refine (congrArg (fun z => row z _ _ _ _ _ _ _ _ (y 1)) h0).trans ?_
  refine (congrArg (fun z => row _ _ z _ _ _ _ _ _ (y 1)) h2).trans ?_
  refine (congrArg (fun z => row _ _ _ z _ _ _ _ _ (y 1)) h3).trans ?_
  simp only [b1, b4, b5, b6, b7]
  have e : ((cfg0.win 8).blk t).view.emb y = ix2 (at_ t (y 0)) (y 1) := by
    blk_ext [at_, (idx t).2.2.2.2.2.2.2.2]
  rw [e]
  have ht := lt16 t
  have e1 : seqRow (at_ t (y 0)) = hiT t := by
    apply Fin.ext
    have hr : (y 0 : ℕ) < 1024 := (y 0).isLt
    show ((t : ℕ) * 1024 + (y 0 : ℕ)) / 2048 = (t : ℕ) / 2; omega
  have e2 : seqPos (at_ t (y 0)) = loT t (y 0) := by
    apply Fin.ext
    have hr : (y 0 : ℕ) < 1024 := (y 0).isLt
    show ((t : ℕ) * 1024 + (y 0 : ℕ)) % 2048 = (t : ℕ) % 2 * 1024 + (y 0 : ℕ); omega
  show _ = elem _ _ _ _ _ _ _ _ (at_ t (y 0)) (y 1)
  unfold elem
  rw [e1, e2]

end Cert.MergeFirstIdeal.Hand

end
-- ==== Proof.MergeFirstRef.lean ====
/- The first layer's merge reference at an element, and that it is the kernel's value there. -/
module

public import proofs.«01_k».proof.Proof.MergeFirstValue
public import proofs.«01_k».proof.Proof.Gen.MergeFirstReferenceIdeal.Read

@[expose] public section

set_option maxRecDepth 16384

noncomputable section

namespace Cert.MergeFirstReferenceIdeal.Hand

open Cert.MergeFirstReferenceIdeal Cert.MergeFirstReferenceIdeal.Read Idealize.ShloMosaic Idealize.ShloMosaic.TcCoe Idealize.SL.Sem
open Idealize.ShloMosaic.Pointwise
open Cert.FfnIdeal.Hand (inv)
open Cert.MergeIdeal.Hand (gate both row lo hi seqRow seqPos)
open Cert.MergeFirstIdeal.Hand (elem G)

variable (x0 : Vec Ideal S16384x1024 .f32) (x1 : Vec Ideal S2x1024 .f32) (x2 x3 : Vec Ideal S8x2048x512 .bf16)
    (x4 : Vec Ideal S2x1024x2048 .bf16) (x5 x6 : Vec Ideal S2x512x1024 .f32) (x7 : Vec Ideal S2x1024x1024 .f32)

theorem at7 (r : Fin 16384) (j : Fin 1) :
    val_main_v7 (F := Ideal) x0 (ix2 r j) = inv (fun k => x0 (ix2 r k)) := by
  rw [val_main_v7_apply, val_main_v6_apply, val_main_v5_apply, val_main_v4_apply, val_main_v3_apply, val_main_v2_apply,
    val_main_v1_apply, val_main_cst_apply, val_main_cst_0_apply, val_main_cst_1_apply]
  have e : ∀ k, val_main_v0 (F := Ideal) x0 (idx_main_v1 (idx_main_v2 (ix2 r j)) k) = x0 (ix2 r k) * x0 (ix2 r k) := fun k => by
    rw [val_main_v0_apply]
    have : idx_main_v1 (idx_main_v2 (ix2 r j)) k = ix2 r k := by funext a; fin_cases a <;> rfl
    rw [this]; rfl
  simp only [e]
  rw [show (FloatOps.ofBits (F := Ideal) .f32 0x00000000#32) = (0 : EReal) from Ideal.ofBits_zero_f32, zero_add]
  rfl

theorem at14 (r : Fin 16384) (k : Fin 1024) :
    val_main_v14 (F := Ideal) x0 x1 (ix2 r k) = x0 (ix2 r k) * inv (fun k => x0 (ix2 r k)) * x1 (ix2 0 k) := by
  rw [val_main_v14_apply, val_main_v13_apply, val_main_v12_apply, val_main_v11_apply, val_main_v10_apply,
    val_main_v9_apply, val_main_v8_apply]
  have e1 : idx_main_v8 (ix2 r k) = ix2 r 0 := by funext a; fin_cases a <;> rfl
  have e2 : idx_main_v10 (idx_main_v11 (idx_main_v12 (idx_main_v13 (ix2 r k)))) = ix2 0 k := by
    funext a; fin_cases a <;> first | rfl | (apply Fin.ext; simp; done) | (apply Fin.ext; simp; omega)
  rw [e1, at7, e2]
  rfl

theorem at29 (r : Fin 16384) (e : Fin 1024) : val_main_v29 (F := Ideal) x0 x1 x4 (ix2 r e)
    = ∑ k, x0 (ix2 r k) * inv (fun k => x0 (ix2 r k)) * x1 (ix2 0 k) * x4 (ix3 0 k (lo e)) := by
  rw [val_main_v29_apply]
  refine Finset.sum_congr rfl fun k _ => ?_
  have e1 : lidx_main_v29 (ix2 r e) k = ix2 r k := by funext a; fin_cases a <;> rfl
  have e2 : idx_main_v15 (idx_main_v16 (idx_main_v28 (ridx_main_v29 (ix2 r e) k))) = ix3 0 k (lo e) := by
    funext a; fin_cases a <;> first | rfl | (apply Fin.ext; simp [lo]; done) | (apply Fin.ext; simp [lo]; omega)
  rw [e1, at14, val_main_v28_apply, val_main_v17_apply, val_main_v16_apply, val_main_v15_apply, e2]
  rfl

theorem at38 (r : Fin 16384) (e : Fin 1024) : val_main_v38 (F := Ideal) x0 x1 x4 (ix2 r e)
    = ∑ k, x0 (ix2 r k) * inv (fun k => x0 (ix2 r k)) * x1 (ix2 0 k) * x4 (ix3 0 k (hi e)) := by
  rw [val_main_v38_apply]
  refine Finset.sum_congr rfl fun k _ => ?_
  have e1 : lidx_main_v38 (ix2 r e) k = ix2 r k := by funext a; fin_cases a <;> rfl
  have e2 : idx_main_v15 (idx_main_v16 (idx_main_v37 (ridx_main_v38 (ix2 r e) k))) = ix3 0 k (hi e) := by
    funext a; fin_cases a <;> first | rfl | (apply Fin.ext; simp [hi]; done) | (apply Fin.ext; simp [hi]; omega)
  rw [e1, at14, val_main_v37_apply, val_main_v17_apply, val_main_v16_apply, val_main_v15_apply, e2]
  rfl

theorem at22 (r : Fin 16384) (e : Fin 1024) : val_main_v22 (F := Ideal) x2 x5 (ix2 r e)
    = ∑ j, x2 (ix3 (seqRow r) (seqPos r) j) * x5 (ix3 0 j e) := by
  rw [val_main_v22_apply]
  refine Finset.sum_congr rfl fun k _ => ?_
  have e1 : idx_main_v18 (lidx_main_v22 (ix2 r e) k) = ix3 (seqRow r) (seqPos r) k := by
    have := k.isLt
    funext a; fin_cases a <;> first | rfl | (apply Fin.ext; simp [seqRow, seqPos]; done) | (apply Fin.ext; simp [seqRow, seqPos]; omega)
  have e2 : idx_main_v20 (idx_main_v21 (ridx_main_v22 (ix2 r e) k)) = ix3 0 k e := by
    funext a; fin_cases a <;> first | rfl | (apply Fin.ext; simp; done) | (apply Fin.ext; simp; omega)
  rw [val_main_v19_apply, val_main_v18_apply, e1, val_main_v21_apply, val_main_v20_apply, e2]
  rfl

theorem at27 (r : Fin 16384) (e : Fin 1024) : val_main_v27 (F := Ideal) x3 x6 (ix2 r e)
    = ∑ j, x3 (ix3 (seqRow r) (seqPos r) j) * x6 (ix3 0 j e) := by
  rw [val_main_v27_apply]
  refine Finset.sum_congr rfl fun k _ => ?_
  have e1 : idx_main_v23 (lidx_main_v27 (ix2 r e) k) = ix3 (seqRow r) (seqPos r) k := by
    have := k.isLt
    funext a; fin_cases a <;> first | rfl | (apply Fin.ext; simp [seqRow, seqPos]; done) | (apply Fin.ext; simp [seqRow, seqPos]; omega)
  have e2 : idx_main_v25 (idx_main_v26 (ridx_main_v27 (ix2 r e) k)) = ix3 0 k e := by
    funext a; fin_cases a <;> first | rfl | (apply Fin.ext; simp; done) | (apply Fin.ext; simp; omega)
  rw [val_main_v24_apply, val_main_v23_apply, e1, val_main_v26_apply, val_main_v25_apply, e2]
  rfl

theorem at46 (r : Fin 16384) (e : Fin 1024) : val_main_v46 (F := Ideal) x0 x1 x2 x3 x4 x5 x6 (ix2 r e)
    = both (fun k => x0 (ix2 r k)) (fun k => x1 (ix2 0 k)) (fun j => x2 (ix3 (seqRow r) (seqPos r) j)) (fun j => x3 (ix3 (seqRow r) (seqPos r) j))
    (fun k e => x4 (ix3 0 k (lo e))) (fun k e => x4 (ix3 0 k (hi e)))
    (fun j e => x5 (ix3 0 j e)) (fun j e => x6 (ix3 0 j e)) e := by
  rw [val_main_v46_apply, val_main_v36_apply, val_main_v35_apply, val_main_v34_apply, val_main_v33_apply, val_main_v32_apply,
    val_main_v31_apply, val_main_v30_apply, val_main_cst_2_apply, val_main_cst_3_apply, at29, at22,
    val_main_v45_apply, val_main_v44_apply, val_main_v43_apply, val_main_v42_apply, val_main_v41_apply,
    val_main_v40_apply, val_main_v39_apply, val_main_cst_4_apply, val_main_cst_5_apply, at38, at27]
  rw [show (FloatOps.ofBits (F := Ideal) .f32 0x3F800000#32) = (1 : EReal) from Ideal.ofBits_one_f32]
  rfl

theorem at50 (r : Fin 16384) (d : Fin 1024) : val_main_v50 (F := Ideal) x0 x1 x2 x3 x4 x5 x6 x7 (ix2 r d)
    = elem x0 x1 x2 x3 x4 x5 x6 x7 r d := by
  rw [val_main_v50_apply, val_main_v49_apply]
  have e : ∀ f, val_main_v46 (F := Ideal) x0 x1 x2 x3 x4 x5 x6 (lidx_main_v49 (ix2 r d) f) * val_main_v48 (F := Ideal) x7 (ridx_main_v49 (ix2 r d) f)
      = both (fun k => x0 (ix2 r k)) (fun k => x1 (ix2 0 k)) (fun j => x2 (ix3 (seqRow r) (seqPos r) j)) (fun j => x3 (ix3 (seqRow r) (seqPos r) j))
        (fun k e => x4 (ix3 0 k (lo e))) (fun k e => x4 (ix3 0 k (hi e)))
        (fun j e => x5 (ix3 0 j e)) (fun j e => x6 (ix3 0 j e)) f * x7 (ix3 0 f d) := fun f => by
    have e1 : lidx_main_v49 (ix2 r d) f = ix2 r f := by funext a; fin_cases a <;> rfl
    have e2 : idx_main_v47 (idx_main_v48 (ridx_main_v49 (ix2 r d) f)) = ix3 0 f d := by
      funext a; fin_cases a <;> first | rfl | (apply Fin.ext; simp; done) | (apply Fin.ext; simp; omega)
    rw [e1, at46, val_main_v48_apply, val_main_v47_apply, e2]
  simp only [e]
  rfl

/-- The reference's result is the kernel's closed form. -/
theorem result : val_main_v50 (F := Ideal) x0 x1 x2 x3 x4 x5 x6 x7 = G x0 x1 x2 x3 x4 x5 x6 x7 := by
  funext i
  have hi : i = ix2 (i 0) (i 1) := by funext a; fin_cases a <;> rfl
  exact (congrArg _ hi).trans ((at50 x0 x1 x2 x3 x4 x5 x6 x7 (i 0) (i 1)).trans rfl)

end Cert.MergeFirstReferenceIdeal.Hand

end
-- ==== Proof.ProjBlock.lean ====
/- The projection kernel on one block of rows: the normed rows times columns of the weight, and the rotation of pairs of columns. -/
module

public import proofs.«01_k».proof.Proof.Gen.ProjIdeal.Value
public import proofs.«01_k».proof.Proof.FfnBlock

@[expose] public section

set_option maxRecDepth 16384

noncomputable section

namespace Cert.ProjIdeal.Hand

open Cert.ProjIdeal Cert.ProjIdeal.Gen Idealize.ShloMosaic Idealize.ShloMosaic.TcCoe Idealize.SL.Sem
open Idealize.ShloMosaic.Pointwise
open Cert.FfnIdeal.Hand (inv)

/-- A column of the weight, and a column of the tables. -/
def col (c : ℕ) : Fin 2944 := ⟨c % 2944, Nat.mod_lt _ (by decide)⟩
def ang (c : ℕ) : Fin 32 := ⟨c % 32, Nat.mod_lt _ (by decide)⟩

/-- The normed row times a column of the weight. -/
def prod (x g : Fin 1024 → EReal) (w : Fin 1024 → Fin 2944 → EReal) (c : ℕ) : EReal :=
  ∑ k, x k * inv x * g k * w k (col c)

/-- The rotated pair of columns: column `c` and its partner, 32 columns on or back. -/
def rope (y : ℕ → EReal) (cs sn : Fin 32 → EReal) (c : ℕ) : EReal :=
  y c * cs (ang c) + (if c % 64 < 32 then y (c + 32) * -sn (ang c) else y (c - 32) * sn (ang c))

variable {y : ℕ → EReal} {cs sn : Fin 32 → EReal}

/-- A slab of 128 columns, rotated. -/
def slab (z tc ts : FVec Ideal S1024x128 .f32) : FVec Ideal S1024x128 .f32 :=
  addf (mulf z tc) (mulf (select (cmpi .slt (andi (iota .tc S1024x128 32 [1] iota_S1024x128_d1_w32) (broadcast S1024x128 63#32)) (broadcast S1024x128 32#32))
    (dynamicRotate 1 96#32 none z rotates_S1024x128_d1) (dynamicRotate 1 32#32 none z rotates_S1024x128_d1)) ts)

theorem half (l : Fin 128) : IntOp.cmpi CmpIPredicate.slt (IntOp.andi (BitVec.ofNat 32 (l : ℕ)) 63#32) 32#32 = if (l : ℕ) % 64 < 32 then 1#1 else 0#1 := by
  revert l; decide +kernel

theorem slab_apply (z tc ts : FVec Ideal S1024x128 .f32) (r : Fin 1024) (c : ℕ) (hc : c % 128 = 0)
    (hz : ∀ l : Fin 128, z (ix2 r l) = y (c + l)) (ht : ∀ l : Fin 128, tc (ix2 r l) = cs (ang l))
    (hs : ∀ l : Fin 128, ts (ix2 r l) = if (l : ℕ) % 64 < 32 then -sn (ang l) else sn (ang l)) (l : Fin 128) :
    slab z tc ts (ix2 r l) = rope y cs sn (c + l) := by
  pointwise [slab]
  rw [half, hz, hz, hz, ht, hs]
  unfold rope
  have hl := l.isLt
  have ha : ang (c + l) = ang l := by apply Fin.ext; show (c + (l : ℕ)) % 32 = (l : ℕ) % 32; omega
  have hm : (c + (l : ℕ)) % 64 = (l : ℕ) % 64 := by omega
  rw [ha, hm]
  by_cases h : (l : ℕ) % 64 < 32
  · rw [if_pos h, if_pos h, if_pos h]
    have e : c + ((l : ℕ) + 128 - 96) % 128 = c + l + 32 := by omega
    rw [← e]; rfl
  · rw [if_neg h, if_neg h, if_neg h]
    have e : c + ((l : ℕ) + 128 - 32) % 128 = c + l - 32 := by omega
    rw [← e]; rfl

/-- Four slabs side by side, and two. -/
theorem cat4 (a b d e : FVec Ideal S1024x128 .f32) (r : Fin 1024) (f : ℕ → EReal)
    (ha : ∀ l : Fin 128, a (ix2 r l) = f l) (hb : ∀ l : Fin 128, b (ix2 r l) = f (128 + l))
    (hd : ∀ l : Fin 128, d (ix2 r l) = f (256 + l)) (he : ∀ l : Fin 128, e (ix2 r l) = f (384 + l)) (l : Fin 512) :
    concatenate S1024x512 1 [⟨S1024x128, a⟩, ⟨S1024x128, b⟩, ⟨S1024x128, d⟩, ⟨S1024x128, e⟩] concatenates_S1024x128_S1024x128_S1024x128_S1024x128_S1024x512_d1 (ix2 r l) = f l := by
  have hl := l.isLt
  pointwise
  by_cases h1 : (l : ℕ) < 128
  · refine (dif_pos h1).trans (ha _)
  refine (dif_neg h1).trans ?_
  by_cases h2 : (l : ℕ) - 128 < 128
  · refine (dif_pos h2).trans ((hb _).trans (congrArg f ?_))
    show 128 + ((l : ℕ) - 128) = l; omega
  refine (dif_neg h2).trans ?_
  by_cases h3 : (l : ℕ) - 128 - 128 < 128
  · refine (dif_pos h3).trans ((hd _).trans (congrArg f ?_))
    show 256 + ((l : ℕ) - 128 - 128) = l; omega
  · refine (dif_neg h3).trans ((he _).trans (congrArg f ?_))
    show 384 + ((l : ℕ) - 128 - 128 - 128) = l; omega
theorem cat2 (a b : FVec Ideal S1024x128 .f32) (r : Fin 1024) (f : ℕ → EReal)
    (ha : ∀ l : Fin 128, a (ix2 r l) = f l) (hb : ∀ l : Fin 128, b (ix2 r l) = f (128 + l)) (l : Fin 256) :
    concatenate S1024x256 1 [⟨S1024x128, a⟩, ⟨S1024x128, b⟩] concatenates_S1024x128_S1024x128_S1024x256_d1 (ix2 r l) = f l := by
  have hl := l.isLt
  pointwise
  by_cases h1 : (l : ℕ) < 128
  · refine (dif_pos h1).trans (ha _)
  · refine (dif_neg h1).trans ((hb _).trans (congrArg f ?_))
    show 128 + ((l : ℕ) - 128) = l; omega

/-- 128 columns of a product from column `o`. -/
def part (Y : FVec Ideal S1024x512 .f32) (o : ℕ) (h : S1024x512.Slices ![0, o] S1024x128) : FVec Ideal S1024x128 .f32 :=
  extractStridedSlice S1024x128 ![0, o] Y h

theorem part_apply (Y : FVec Ideal S1024x512 .f32) (o : ℕ) (h : S1024x512.Slices ![0, o] S1024x128) (r : Fin 1024) (c : ℕ) (ho : o + 128 ≤ 512)
    (hY : ∀ e : Fin 512, Y (ix2 r e) = y (c + e)) (l : Fin 128) : part Y o h (ix2 r l) = y (c + o + l) := by
  have hl := l.isLt
  have e : part Y o h (ix2 r l) = Y (ix2 r ⟨o + l, by omega⟩) := by
    unfold part
    pointwise
  rw [e, hY]
  exact congrArg y (by show c + (o + (l : ℕ)) = c + o + l; omega)

/-- The product of 512 columns, rotated. -/
def wide (Y : FVec Ideal S1024x512 .f32) (tc ts : FVec Ideal S1024x128 .f32) : FVec Ideal S1024x512 .f32 :=
  concatenate S1024x512 1 [⟨S1024x128, slab (part Y 0 slices_S1024x512_o0_0_S1024x128) tc ts⟩, ⟨S1024x128, slab (part Y 128 slices_S1024x512_o0_128_S1024x128) tc ts⟩,
    ⟨S1024x128, slab (part Y 256 slices_S1024x512_o0_256_S1024x128) tc ts⟩, ⟨S1024x128, slab (part Y 384 slices_S1024x512_o0_384_S1024x128) tc ts⟩]
    concatenates_S1024x128_S1024x128_S1024x128_S1024x128_S1024x512_d1

theorem wide_apply (Y : FVec Ideal S1024x512 .f32) (tc ts : FVec Ideal S1024x128 .f32) (r : Fin 1024) (c : ℕ) (hc : c % 128 = 0)
    (hY : ∀ e : Fin 512, Y (ix2 r e) = y (c + e)) (ht : ∀ l : Fin 128, tc (ix2 r l) = cs (ang l))
    (hs : ∀ l : Fin 128, ts (ix2 r l) = if (l : ℕ) % 64 < 32 then -sn (ang l) else sn (ang l)) (l : Fin 512) :
    wide Y tc ts (ix2 r l) = rope y cs sn (c + l) := by
  refine cat4 _ _ _ _ r (fun n => rope y cs sn (c + n)) ?_ ?_ ?_ ?_ l
  · intro l
    exact slab_apply _ _ _ r c hc (part_apply Y 0 _ r c (by decide) hY) ht hs l
  · intro l
    refine (slab_apply _ _ _ r (c + 128) (by omega) (part_apply Y 128 _ r c (by decide) hY) ht hs l).trans ?_
    exact congrArg (rope y cs sn) (Nat.add_assoc _ _ _)
  · intro l
    refine (slab_apply _ _ _ r (c + 256) (by omega) (part_apply Y 256 _ r c (by decide) hY) ht hs l).trans ?_
    exact congrArg (rope y cs sn) (Nat.add_assoc _ _ _)
  · intro l
    refine (slab_apply _ _ _ r (c + 384) (by omega) (part_apply Y 384 _ r c (by decide) hY) ht hs l).trans ?_
    exact congrArg (rope y cs sn) (Nat.add_assoc _ _ _)

/-- The products of a row of the block. -/
def rowY (x0 : Vec Ideal S1024x1024 .f32) (x1 : Vec Ideal S1x1x1024 .f32) (x2 : Vec Ideal S1x1024x2944 .bf16) (r : Fin 1024) : ℕ → EReal :=
  prod (fun k => x0 (ix2 r k)) (fun k => x1 (ix3 0 0 k)) (fun k c => x2 (ix3 0 k c))

/-- A product of 512 columns, of 256, and of 128. -/
def mm (x0 : Vec Ideal S1024x1024 .f32) (x1 : Vec Ideal S1x1x1024 .f32) (w : Vec Ideal S1x1024x512 .bf16) : FVec Ideal S1024x512 .f32 :=
  k0_pay17 (k0_pay2 x0 x1) w

theorem ld512 (x2 : Vec Ideal S1x1024x2944 .bf16) (o : ℕ) (h : ∀ a, (![0, 0, o] : Fin 3 → ℕ) a + S1x1024x512.size a ≤ S1x1024x2944.size a)
    (k : Fin 1024) (e : Fin 512) :
    View.ld x2 (Rect.unit (s := S1x1024x2944) ![0, 0, o] S1x1024x512.size h) (ix3 0 k e) = x2 (ix3 0 k (col (o + e))) := by
  have h2 : o + 512 ≤ 2944 := h 2
  have he := e.isLt
  have h' : (Rect.unit (s := S1x1024x2944) ![0, 0, o] S1x1024x512.size h).emb (ix3 0 k e) = ix3 0 k (col (o + e)) := by
    funext a; apply Fin.ext; rw [ValueKit.rect_emb_unit_val]
    fin_cases a
    · simp
    · simp
    · show o + (e : ℕ) = (o + (e : ℕ)) % 2944; omega
  exact congrArg x2 h'
theorem ld256 (x2 : Vec Ideal S1x1024x2944 .bf16) (o : ℕ) (h : ∀ a, (![0, 0, o] : Fin 3 → ℕ) a + S1x1024x256.size a ≤ S1x1024x2944.size a)
    (k : Fin 1024) (e : Fin 256) :
    View.ld x2 (Rect.unit (s := S1x1024x2944) ![0, 0, o] S1x1024x256.size h) (ix3 0 k e) = x2 (ix3 0 k (col (o + e))) := by
  have h2 : o + 256 ≤ 2944 := h 2
  have he := e.isLt
  have h' : (Rect.unit (s := S1x1024x2944) ![0, 0, o] S1x1024x256.size h).emb (ix3 0 k e) = ix3 0 k (col (o + e)) := by
    funext a; apply Fin.ext; rw [ValueKit.rect_emb_unit_val]
    fin_cases a
    · simp
    · simp
    · show o + (e : ℕ) = (o + (e : ℕ)) % 2944; omega
  exact congrArg x2 h'
theorem ld128 (x2 : Vec Ideal S1x1024x2944 .bf16) (o : ℕ) (h : ∀ a, (![0, 0, o] : Fin 3 → ℕ) a + S1x1024x128.size a ≤ S1x1024x2944.size a)
    (k : Fin 1024) (e : Fin 128) :
    View.ld x2 (Rect.unit (s := S1x1024x2944) ![0, 0, o] S1x1024x128.size h) (ix3 0 k e) = x2 (ix3 0 k (col (o + e))) := by
  have h2 : o + 128 ≤ 2944 := h 2
  have he := e.isLt
  have h' : (Rect.unit (s := S1x1024x2944) ![0, 0, o] S1x1024x128.size h).emb (ix3 0 k e) = ix3 0 k (col (o + e)) := by
    funext a; apply Fin.ext; rw [ValueKit.rect_emb_unit_val]
    fin_cases a
    · simp
    · simp
    · show o + (e : ℕ) = (o + (e : ℕ)) % 2944; omega
  exact congrArg x2 h'

theorem mm_apply (x0 : Vec Ideal S1024x1024 .f32) (x1 : Vec Ideal S1x1x1024 .f32) (x2 : Vec Ideal S1x1024x2944 .bf16) (w : Vec Ideal S1x1024x512 .bf16) (o : ℕ)
    (hw : ∀ (k : Fin 1024) (e : Fin 512), w (ix3 0 k e) = x2 (ix3 0 k (col (o + e)))) (r : Fin 1024) (e : Fin 512) :
    mm x0 x1 w (ix2 r e) = rowY x0 x1 x2 r (o + e) := by
  unfold mm
  pointwise [k0_pay17, k0_pay2]
  simp only [hw]
  rfl
theorem mm256_apply (x0 : Vec Ideal S1024x1024 .f32) (x1 : Vec Ideal S1x1x1024 .f32) (x2 : Vec Ideal S1x1024x2944 .bf16) (w : Vec Ideal S1x1024x256 .bf16) (o : ℕ)
    (hw : ∀ (k : Fin 1024) (e : Fin 256), w (ix3 0 k e) = x2 (ix3 0 k (col (o + e)))) (r : Fin 1024) (e : Fin 256) :
    k0_pay10 (k0_pay2 x0 x1) w (ix2 r e) = rowY x0 x1 x2 r (o + e) := by
  pointwise [k0_pay10, k0_pay2]
  simp only [hw]
  rfl

section Outs

variable (x0 : Vec Ideal S1024x1024 .f32) (x1 : Vec Ideal S1x1x1024 .f32) (x2 : Vec Ideal S1x1024x2944 .bf16) (x3 x4 : Vec Ideal S1024x128 .f32)

/-- The products transposed to lie along the sequence, scaled for the scores. -/
def scaled (Y : FVec Ideal S1024x512 .f32) : FVec Ideal S1x512x1024 .bf16 :=
  shapeCast S1x512x1024 (truncf .bf16 (transpose S512x1024 [1, 0] (mulf Y (broadcast S1024x512 (Scalar.ofBits .f32 0x3E38AA3B#32))) transposes_S1024x512_p1_0_S512x1024) bitsLt_bf16_f32)
    shapeCasts_S512x1024_S1x512x1024

/-- The factor of the scores. -/
def factor : EReal := Ideal.ofBits FTy.f32 0x3E38AA3B#32

theorem scaled_apply (Y : FVec Ideal S1024x512 .f32) (r : Fin 1024) (e : Fin 512) : scaled Y (ix3 0 e r) = Y (ix2 r e) * factor := by
  unfold scaled
  pointwise
  rfl

theorem k3 (z : Vec Ideal S1024x128 .f32) (i : S1024x128.Idx) : k0_pay3 z i = z i := by
  have hi : i = ix2 (i 0) (i 1) := by funext a; fin_cases a <;> rfl
  rw [hi]
  generalize i 0 = a
  generalize i 1 = b
  pointwise [k0_pay3]
theorem k4 (z : Vec Ideal S1024x128 .f32) (i : S1024x128.Idx) : k0_pay4 z i = z i := by
  have hi : i = ix2 (i 0) (i 1) := by funext a; fin_cases a <;> rfl
  rw [hi]
  generalize i 0 = a
  generalize i 1 = b
  pointwise [k0_pay4]

theorem out5 : out0_5 x0 x1 x2 x3 x4 = scaled (wide (mm x0 x1 (View.ld x2 r0_3)) (k0_pay3 x3) (k0_pay4 x4)) := by
  unfold_out out0_5
  frame_out
  rfl
theorem out10 : out0_10 x0 x1 x2 x3 x4 = scaled (wide (mm x0 x1 (View.ld x2 r0_10)) (k0_pay3 x3) (k0_pay4 x4)) := by
  unfold_out out0_10
  frame_out
  rfl
theorem out11 : out0_11 x0 x1 x2 x3 x4 = k0_pay28 (truncf .bf16 (wide (mm x0 x1 (View.ld x2 r0_11)) (k0_pay3 x3) (k0_pay4 x4)) bitsLt_bf16_f32) := by
  unfold_out out0_11
  frame_out
  rfl
theorem out14 : out0_14 x0 x1 x2 x3 x4 = k0_pay29 (wide (mm x0 x1 (View.ld x2 r0_11)) (k0_pay3 x3) (k0_pay4 x4)) := by
  unfold_out out0_14
  frame_out
  rfl
theorem out8 : out0_8 x0 x1 x2 x3 x4 = k0_pay15 (concatenate S1024x256 1 [⟨S1024x128, slab (part (mm x0 x1 (View.ld x2 r0_7)) 0 slices_S1024x512_o0_0_S1024x128) (k0_pay3 x3) (k0_pay4 x4)⟩,
    ⟨S1024x128, slab (part (mm x0 x1 (View.ld x2 r0_7)) 256 slices_S1024x512_o0_256_S1024x128) (k0_pay3 x3) (k0_pay4 x4)⟩] concatenates_S1024x128_S1024x128_S1024x256_d1) := by
  unfold_out out0_8
  frame_out
  rfl
theorem out9 : out0_9 x0 x1 x2 x3 x4 = shapeCast S1x256x1024 (truncf .bf16 (transpose S256x1024 [1, 0] (concatenate S1024x256 1 [⟨S1024x128, part (mm x0 x1 (View.ld x2 r0_7)) 128 slices_S1024x512_o0_128_S1024x128⟩,
    ⟨S1024x128, part (mm x0 x1 (View.ld x2 r0_7)) 384 slices_S1024x512_o0_384_S1024x128⟩] concatenates_S1024x128_S1024x128_S1024x256_d1) transposes_S1024x256_p1_0_S256x1024) bitsLt_bf16_f32) shapeCasts_S256x1024_S1x256x1024 := by
  unfold_out out0_9
  frame_out
  rfl
theorem out6 : out0_6 x0 x1 x2 x3 x4 = k0_pay11 (k0_pay2 x0 x1) (View.ld x2 r0_5) := by
  unfold_out out0_6
  frame_out
theorem out7 : out0_7 x0 x1 x2 x3 x4 = k0_pay12 (k0_pay2 x0 x1) (View.ld x2 r0_5) := by
  unfold_out out0_7
  frame_out
theorem out12 : out0_12 x0 x1 x2 x3 x4 = k0_pay30 (k0_pay2 x0 x1) (View.ld x2 r0_14) := by
  unfold_out out0_12
  frame_out
theorem out13 : out0_13 x0 x1 x2 x3 x4 = k0_pay1 (k0_pay2 x0 x1) (View.ld x2 r0_15) := by
  unfold_out out0_13
  frame_out

theorem mm_ld (o : ℕ) (h : ∀ a, (![0, 0, o] : Fin 3 → ℕ) a + S1x1024x512.size a ≤ S1x1024x2944.size a) (r : Fin 1024) (e : Fin 512) :
    mm x0 x1 (View.ld x2 (Rect.unit (s := S1x1024x2944) ![0, 0, o] S1x1024x512.size h)) (ix2 r e) = rowY x0 x1 x2 r (o + e) :=
  mm_apply x0 x1 x2 _ o (ld512 x2 o h) r e

/-- The rotated products of a row, from the tables' rows. -/
theorem wide_ld (o : ℕ) (h : ∀ a, (![0, 0, o] : Fin 3 → ℕ) a + S1x1024x512.size a ≤ S1x1024x2944.size a) (ho : o % 128 = 0) (r : Fin 1024)
    (ht : ∀ l : Fin 128, x3 (ix2 r l) = cs (ang l)) (hs : ∀ l : Fin 128, x4 (ix2 r l) = if (l : ℕ) % 64 < 32 then -sn (ang l) else sn (ang l)) (e : Fin 512) :
    wide (mm x0 x1 (View.ld x2 (Rect.unit (s := S1x1024x2944) ![0, 0, o] S1x1024x512.size h))) (k0_pay3 x3) (k0_pay4 x4) (ix2 r e)
      = rope (rowY x0 x1 x2 r) cs sn (o + e) :=
  wide_apply _ _ _ r o ho (mm_ld x0 x1 x2 o h r) (fun l => (k3 x3 _).trans (ht l)) (fun l => (k4 x4 _).trans (hs l)) e

theorem el5 (r : Fin 1024) (e : Fin 512)
    (ht : ∀ l : Fin 128, x3 (ix2 r l) = cs (ang l)) (hs : ∀ l : Fin 128, x4 (ix2 r l) = if (l : ℕ) % 64 < 32 then -sn (ang l) else sn (ang l)) :
    out0_5 x0 x1 x2 x3 x4 (ix3 0 e r) = rope (rowY x0 x1 x2 r) cs sn (0 + e) * factor := by
  rw [out5, scaled_apply, wide_ld x0 x1 x2 x3 x4 0 _ (by decide) r ht hs]
theorem el10 (r : Fin 1024) (e : Fin 512)
    (ht : ∀ l : Fin 128, x3 (ix2 r l) = cs (ang l)) (hs : ∀ l : Fin 128, x4 (ix2 r l) = if (l : ℕ) % 64 < 32 then -sn (ang l) else sn (ang l)) :
    out0_10 x0 x1 x2 x3 x4 (ix3 0 e r) = rope (rowY x0 x1 x2 r) cs sn (1280 + e) * factor := by
  rw [out10, scaled_apply, wide_ld x0 x1 x2 x3 x4 1280 _ (by decide) r ht hs]
theorem el11 (r : Fin 1024) (e : Fin 512)
    (ht : ∀ l : Fin 128, x3 (ix2 r l) = cs (ang l)) (hs : ∀ l : Fin 128, x4 (ix2 r l) = if (l : ℕ) % 64 < 32 then -sn (ang l) else sn (ang l)) :
    out0_11 x0 x1 x2 x3 x4 (ix3 0 r e) = rope (rowY x0 x1 x2 r) cs sn (1792 + e) := by
  rw [out11, ← wide_ld x0 x1 x2 x3 x4 1792 inb_S1x1024x2944_S1x1024x512_0_0_1792 (by decide) r ht hs]
  generalize wide _ _ _ = z
  pointwise [k0_pay28]
theorem el14 (j : Fin 4) (e : Fin 512) (Z : Fin 1024 → EReal)
    (hZ : ∀ r : Fin 1024, wide (mm x0 x1 (View.ld x2 r0_11)) (k0_pay3 x3) (k0_pay4 x4) (ix2 r e) = Z r) :
    out0_14 x0 x1 x2 x3 x4 (ix3 0 j e) = Ideal.div (∑ i : Fin 256, Z ⟨(j : ℕ) * 256 + i, by omega⟩) (Ideal.ofBits FTy.f32 0x43800000#32) := by
  rw [out14]
  revert hZ
  generalize wide _ _ _ = z
  intro hZ
  have hj := j.isLt
  have key : ∀ f : Fin 256 → Fin 1024, (∀ x : Fin 256, (f x : ℕ) = (j : ℕ) * 256 + x) →
      Ideal.div (∑ x, z (ix2 (f x) e)) (Ideal.ofBits FTy.f32 0x43800000#32)
        = Ideal.div (∑ i : Fin 256, Z ⟨(j : ℕ) * 256 + i, by omega⟩) (Ideal.ofBits FTy.f32 0x43800000#32) := fun f hf =>
    congrArg (fun s => Ideal.div s (Ideal.ofBits FTy.f32 0x43800000#32))
      (Finset.sum_congr rfl fun x _ => (hZ _).trans (congrArg Z (Fin.ext (hf x))))
  pointwise [k0_pay29]
  by_cases h1 : (j : ℕ) < 1
  · refine (dif_pos h1).trans (key _ fun x => ?_)
    show (x : ℕ) = _; omega
  refine (dif_neg h1).trans ?_
  by_cases h2 : (j : ℕ) - 1 < 1
  · refine (dif_pos h2).trans (key _ fun x => ?_)
    show 256 + (x : ℕ) = _; omega
  refine (dif_neg h2).trans ?_
  by_cases h3 : (j : ℕ) - 1 - 1 < 1
  · refine (dif_pos h3).trans (key _ fun x => ?_)
    show 512 + (x : ℕ) = _; omega
  · refine (dif_neg h3).trans (key _ fun x => ?_)
    show 768 + (x : ℕ) = _; omega
theorem el6 (r : Fin 1024) (e : Fin 128) : out0_6 x0 x1 x2 x3 x4 (ix3 0 r e) = rowY x0 x1 x2 r (512 + e) := by
  have h := mm256_apply x0 x1 x2 (View.ld x2 r0_5) 512 (ld256 x2 512 _) r ⟨e, by omega⟩
  rw [out6, ← h]
  pointwise [k0_pay11]
theorem el7 (r : Fin 1024) (e : Fin 128) : out0_7 x0 x1 x2 x3 x4 (ix3 0 r e) = rowY x0 x1 x2 r (640 + e) := by
  have h := mm256_apply x0 x1 x2 (View.ld x2 r0_5) 512 (ld256 x2 512 _) r ⟨128 + e, by omega⟩
  have e1 : 640 + (e : ℕ) = 512 + (128 + (e : ℕ)) := by omega
  rw [out7, e1]
  refine Eq.trans ?_ h
  pointwise [k0_pay12]
theorem el8 (r : Fin 1024) (e : Fin 256)
    (ht : ∀ l : Fin 128, x3 (ix2 r l) = cs (ang l)) (hs : ∀ l : Fin 128, x4 (ix2 r l) = if (l : ℕ) % 64 < 32 then -sn (ang l) else sn (ang l)) :
    out0_8 x0 x1 x2 x3 x4 (ix3 0 r e) = rope (rowY x0 x1 x2 r) cs sn (if (e : ℕ) < 128 then 768 + e else 896 + e) := by
  rw [out8]
  have h := cat2 (slab (part (mm x0 x1 (View.ld x2 r0_7)) 0 slices_S1024x512_o0_0_S1024x128) (k0_pay3 x3) (k0_pay4 x4))
    (slab (part (mm x0 x1 (View.ld x2 r0_7)) 256 slices_S1024x512_o0_256_S1024x128) (k0_pay3 x3) (k0_pay4 x4)) r
    (fun n => rope (rowY x0 x1 x2 r) cs sn (if n < 128 then 768 + n else 896 + n))
    (fun l => (slab_apply _ _ _ r 768 (by decide) (part_apply _ 0 _ r 768 (by decide) (mm_ld x0 x1 x2 768 _ r)) (fun l => (k3 x3 _).trans (ht l)) (fun l => (k4 x4 _).trans (hs l)) l).trans
      (congrArg (rope (rowY x0 x1 x2 r) cs sn) (if_pos l.isLt).symm))
    (fun l => (slab_apply _ _ _ r 1024 (by decide) (part_apply _ 256 _ r 768 (by decide) (mm_ld x0 x1 x2 768 _ r)) (fun l => (k3 x3 _).trans (ht l)) (fun l => (k4 x4 _).trans (hs l)) l).trans
      (congrArg (rope (rowY x0 x1 x2 r) cs sn) ((if_neg (by omega)).trans (by omega)).symm)) e
  refine Eq.trans ?_ h
  generalize concatenate S1024x256 1 _ _ = z
  pointwise [k0_pay15]
theorem el9 (r : Fin 1024) (e : Fin 256) :
    out0_9 x0 x1 x2 x3 x4 (ix3 0 e r) = rowY x0 x1 x2 r (if (e : ℕ) < 128 then 896 + e else 1024 + e) := by
  rw [out9]
  have h := cat2 (part (mm x0 x1 (View.ld x2 r0_7)) 128 slices_S1024x512_o0_128_S1024x128) (part (mm x0 x1 (View.ld x2 r0_7)) 384 slices_S1024x512_o0_384_S1024x128) r
    (fun n => rowY x0 x1 x2 r (if n < 128 then 896 + n else 1024 + n))
    (fun l => (part_apply _ 128 _ r 768 (by decide) (mm_ld x0 x1 x2 768 _ r) l).trans (congrArg (rowY x0 x1 x2 r) (if_pos l.isLt).symm))
    (fun l => (part_apply _ 384 _ r 768 (by decide) (mm_ld x0 x1 x2 768 _ r) l).trans
      (congrArg (rowY x0 x1 x2 r) ((if_neg (by omega)).trans (by omega)).symm)) e
  refine Eq.trans ?_ h
  generalize concatenate S1024x256 1 _ _ = z
  pointwise
theorem el12 (r : Fin 1024) (e : Fin 512) : out0_12 x0 x1 x2 x3 x4 (ix3 0 e r) = rowY x0 x1 x2 r (2304 + e) := by
  rw [out12, ← mm_ld x0 x1 x2 2304 inb_S1x1024x2944_S1x1024x512_0_0_2304]
  unfold mm
  generalize k0_pay2 x0 x1 = h
  pointwise [k0_pay30, k0_pay17]
theorem el13 (r : Fin 1024) (e : Fin 128) : out0_13 x0 x1 x2 x3 x4 (ix3 0 e r) = Ideal.logistic (rowY x0 x1 x2 r (2816 + e)) := by
  rw [out13]
  have h := ld128 x2 2816 inb_S1x1024x2944_S1x1024x128_0_0_2816
  revert h
  generalize View.ld x2 r0_15 = w
  intro h
  pointwise [k0_pay1, k0_pay2]
  simp only [h]
  rfl

end Outs

end Cert.ProjIdeal.Hand

end
-- ==== Proof.ProjValue.lean ====
/- What the projection kernel leaves in its ten output arrays, in closed form over the arguments. -/
module

public import proofs.«01_k».proof.Proof.ProjBlock
public import proofs.«01_k».proof.Proof.MergeValue

@[expose] public section

set_option maxRecDepth 16384

noncomputable section

namespace Cert.ProjIdeal.Hand

open Cert.ProjIdeal Cert.ProjIdeal.Gen Idealize.ShloMosaic Idealize.ShloMosaic.TcCoe Idealize.SL.Sem
open Idealize.ShloMosaic.Pointwise
open Cert.FfnIdeal.Hand (inv)

/-- The row of the flat array for a place in a sequence. -/
def flat (b : Fin 8) (s : Fin 2048) : Fin 16384 := ⟨(b : ℕ) * 2048 + s, by omega⟩

section Closed

variable (x0 : Vec Ideal S16384x1024 .f32) (x1 : Vec Ideal S2x1024 .f32) (x2 : Vec Ideal S2x1024x2944 .bf16) (x3 x4 : Vec Ideal S2048x32 .f32)

/-- The products of a row of the sequence with the columns of the weight. -/
def Y (b : Fin 8) (s : Fin 2048) : ℕ → EReal :=
  prod (fun k => x0 (ix2 (flat b s) k)) (fun k => x1 (ix2 1 k)) (fun k c => x2 (ix3 1 k c))

/-- The products rotated by the place in the sequence. -/
def R (b : Fin 8) (s : Fin 2048) : ℕ → EReal :=
  rope (Y x0 x1 x2 b s) (fun l => x3 (ix2 s l)) (fun l => x4 (ix2 s l))

/-- A place in a group of 256 places of a tile of 1024. -/
def spot (t : Fin 16) (j : Fin 4) (i : Fin 256) : Fin 2048 := ⟨(t : ℕ) % 2 * 1024 + (j : ℕ) * 256 + i, by omega⟩
def half2 (t : Fin 16) : Fin 8 := ⟨(t : ℕ) / 2, by omega⟩

/-- The ten results in closed form. -/
def G5 : Vec Ideal S8x512x2048 .bf16 := fun i => R x0 x1 x2 x3 x4 (i 0) (i 2) (0 + (i 1 : ℕ)) * factor
def G6 : Vec Ideal S8x2048x128 .f32 := fun i => Y x0 x1 x2 (i 0) (i 1) (512 + (i 2 : ℕ))
def G7 : Vec Ideal S8x2048x128 .f32 := fun i => Y x0 x1 x2 (i 0) (i 1) (640 + (i 2 : ℕ))
def G8 : Vec Ideal S8x2048x256 .bf16 := fun i => R x0 x1 x2 x3 x4 (i 0) (i 1) (if (i 2 : ℕ) < 128 then 768 + (i 2 : ℕ) else 896 + (i 2 : ℕ))
def G9 : Vec Ideal S8x256x2048 .bf16 := fun i => Y x0 x1 x2 (i 0) (i 2) (if (i 1 : ℕ) < 128 then 896 + (i 1 : ℕ) else 1024 + (i 1 : ℕ))
def G10 : Vec Ideal S8x512x2048 .bf16 := fun i => R x0 x1 x2 x3 x4 (i 0) (i 2) (1280 + (i 1 : ℕ)) * factor
def G11 : Vec Ideal S8x2048x512 .bf16 := fun i => R x0 x1 x2 x3 x4 (i 0) (i 1) (1792 + (i 2 : ℕ))
def G12 : Vec Ideal S8x512x2048 .bf16 := fun i => Y x0 x1 x2 (i 0) (i 2) (2304 + (i 1 : ℕ))
def G13 : Vec Ideal S8x128x2048 .f32 := fun i => Ideal.logistic (Y x0 x1 x2 (i 0) (i 2) (2816 + (i 1 : ℕ)))
def G14 : Vec Ideal S16x4x512 .f32 := fun i =>
  Ideal.div (∑ k : Fin 256, R x0 x1 x2 x3 x4 (half2 (i 0)) (spot (i 0) (i 1) k) (1792 + (i 2 : ℕ))) (Ideal.ofBits FTy.f32 0x43800000#32)

end Closed

variable (m : (ℓ : Loc nD τ sig) → Buf (Elt Ideal) ℓ)

/-- The arguments as the call finds them. -/
abbrev a0 (c : Dev nD) : Vec Ideal S16384x1024 .f32 := m ((c : Thread nD τ).loc main_arg0)
abbrev a1 (c : Dev nD) : Vec Ideal S2x1024 .f32 := m ((c : Thread nD τ).loc main_arg1)
abbrev a2 (c : Dev nD) : Vec Ideal S2x1024x2944 .bf16 := m ((c : Thread nD τ).loc main_arg2)
abbrev a3 (c : Dev nD) : Vec Ideal S2048x32 .f32 := m ((c : Thread nD τ).loc main_arg3)
abbrev a4 (c : Dev nD) : Vec Ideal S2048x32 .f32 := m ((c : Thread nD τ).loc main_arg4)

theorem idx (t : Fin cfg0.N) : win0_0.index t = ![(t : ℕ), 0] ∧ win0_1.index t = ![1, 0, 0]
    ∧ win0_2.index t = ![1, 0, 0] ∧ win0_3.index t = ![(t : ℕ) % 2, 0] ∧ win0_4.index t = ![(t : ℕ) % 2, 0] := by
  revert t; decide +kernel
theorem idx' (t : Fin cfg0.N) : win0_5.index t = ![(t : ℕ) / 2, 0, (t : ℕ) % 2] ∧ win0_6.index t = ![(t : ℕ) / 2, (t : ℕ) % 2, 0]
    ∧ win0_7.index t = ![(t : ℕ) / 2, (t : ℕ) % 2, 0] ∧ win0_8.index t = ![(t : ℕ) / 2, (t : ℕ) % 2, 0]
    ∧ win0_9.index t = ![(t : ℕ) / 2, 0, (t : ℕ) % 2] ∧ win0_10.index t = ![(t : ℕ) / 2, 0, (t : ℕ) % 2]
    ∧ win0_11.index t = ![(t : ℕ) / 2, (t : ℕ) % 2, 0] ∧ win0_12.index t = ![(t : ℕ) / 2, 0, (t : ℕ) % 2]
    ∧ win0_13.index t = ![(t : ℕ) / 2, 0, (t : ℕ) % 2] ∧ win0_14.index t = ![(t : ℕ), 0, 0] := by
  revert t; decide +kernel

/-- A table of 32 angles laid twice side by side, the second time after a change of sign or not, and that twice again. -/
def tile (a b : Vec Ideal S2048x32 .f32) : Vec Ideal S2048x128 .f32 :=
  shapeCast S2048x128 (broadcastInDim S1x2048x2x64 ![0, 1, 2, 3] bcast_S1x2048x1x64_S1x2048x2x64_0_1_2_3
    (shapeCast S1x2048x1x64 (concatenate S2048x64 1 [⟨S2048x32, a⟩, ⟨S2048x32, b⟩] concatenates_S2048x32_S2048x32_S2048x64_d1)
      shapeCasts_S2048x64_S1x2048x1x64 : Vec Ideal S1x2048x1x64 .f32)) shapeCasts_S1x2048x2x64_S2048x128

theorem tile_apply (a b : Vec Ideal S2048x32 .f32) (s : Fin 2048) (l : Fin 128) :
    tile a b (ix2 s l) = if (l : ℕ) % 64 < 32 then a (ix2 s (ang l)) else b (ix2 s (ang l)) := by
  have hl := l.isLt
  unfold tile
  pointwise
  by_cases h : (l : ℕ) % 64 < 32
  · rw [if_pos h]
    refine (dif_pos h).trans (congrArg (fun z => a (ix2 s z)) (Fin.ext ?_))
    show (l : ℕ) % 64 = (l : ℕ) % 32; omega
  · rw [if_neg h]
    refine (dif_neg h).trans (congrArg (fun z => b (ix2 s z)) (Fin.ext ?_))
    show (l : ℕ) % 64 - 32 = (l : ℕ) % 32; omega

theorem v3 (c : Dev nD) : V m c main_v3 = tile (m ((c : Thread nD τ).loc main_arg3)) (m ((c : Thread nD τ).loc main_arg3)) := by
  unfold V; after_results_simp; rfl
theorem v8 (c : Dev nD) : V m c main_v8 = tile (Host.negf (F := Ideal) (s := S2048x32) (φ := .f32) (m ((c : Thread nD τ).loc main_arg4))) (m ((c : Thread nD τ).loc main_arg4)) := by
  unfold V; after_results_simp; rfl
theorem v9 (c : Dev nD) : V m c main_v9 = shapeCast S2x1x1024 (m ((c : Thread nD τ).loc main_arg1)) shapeCasts_S2x1024_S2x1x1024 := by
  unfold V; after_results_simp; rfl

theorem lt16 (t : Fin cfg0.N) : (t : ℕ) < 16 := t.isLt.trans_eq (by decide)

/-- Where a point's rows lie in the array, and in the sequences. -/
def at_ (t : Fin cfg0.N) (r : Fin 1024) : Fin 16384 := ⟨(t : ℕ) * 1024 + r, by have := lt16 t; omega⟩
def hiT (t : Fin cfg0.N) : Fin 8 := ⟨(t : ℕ) / 2, by have := lt16 t; omega⟩
def loT (t : Fin cfg0.N) (r : Fin 1024) : Fin 2048 := ⟨(t : ℕ) % 2 * 1024 + r, by omega⟩
theorem flat_at (t : Fin cfg0.N) (r : Fin 1024) : at_ t r = flat (hiT t) (loT t r) := by
  apply Fin.ext
  show (t : ℕ) * 1024 + (r : ℕ) = (t : ℕ) / 2 * 2048 + ((t : ℕ) % 2 * 1024 + (r : ℕ)); omega

theorem b0 (c : Dev nD) (t : Fin cfg0.N) (r k : Fin 1024) :
    iblk m c 0 t (ix2 r k) = a0 m c (ix2 (flat (hiT t) (loT t r)) k) := by
  rw [← flat_at]
  blk_ext [iblk, at_, (idx t).1]
theorem b1 (c : Dev nD) (t : Fin cfg0.N) (k : Fin 1024) :
    iblk m c 1 t (ix3 0 0 k) = a1 m c (ix2 1 k) := by
  have h : iblk m c 1 t (ix3 0 0 k) = V m c main_v9 (ix3 1 0 k) := by
    blk_ext [iblk, (idx t).2.1]
  rw [h, v9]
  pointwise
theorem b2 (c : Dev nD) (t : Fin cfg0.N) (k : Fin 1024) (e : Fin 2944) :
    iblk m c 2 t (ix3 0 k e) = a2 m c (ix3 1 k e) := by
  blk_ext [iblk, (idx t).2.2.1]
theorem b3 (c : Dev nD) (t : Fin cfg0.N) (r : Fin 1024) (l : Fin 128) :
    iblk m c 3 t (ix2 r l) = a3 m c (ix2 (loT t r) (ang l)) := by
  have h : iblk m c 3 t (ix2 r l) = V m c main_v3 (ix2 (loT t r) l) := by
    blk_ext [iblk, loT, (idx t).2.2.2.1]
  rw [h, v3, tile_apply, ite_self]
theorem b4 (c : Dev nD) (t : Fin cfg0.N) (r : Fin 1024) (l : Fin 128) :
    iblk m c 4 t (ix2 r l) = if (l : ℕ) % 64 < 32 then -a4 m c (ix2 (loT t r) (ang l)) else a4 m c (ix2 (loT t r) (ang l)) := by
  have h : iblk m c 4 t (ix2 r l) = V m c main_v8 (ix2 (loT t r) l) := by
    blk_ext [iblk, loT, (idx t).2.2.2.2]
  rw [h, v8, tile_apply]
  rfl

/-- The products of a row of a point's block. -/
theorem rowY_blk (c : Dev nD) (t : Fin cfg0.N) (r : Fin 1024) :
    rowY (iblk m c 0 t) (iblk m c 1 t) (iblk m c 2 t) r
      = Y (a0 m c) (a1 m c) (a2 m c) (hiT t) (loT t r) := by
  unfold rowY Y
  simp only [b0, b1, b2]

/-- The tables' rows at a point, as the rotation takes them. -/
theorem tabC (c : Dev nD) (t : Fin cfg0.N) (r : Fin 1024) (l : Fin 128) :
    iblk m c 3 t (ix2 r l) = (fun k => a3 m c (ix2 (loT t r) k)) (ang l) := b3 m c t r l
theorem tabS (c : Dev nD) (t : Fin cfg0.N) (r : Fin 1024) (l : Fin 128) :
    iblk m c 4 t (ix2 r l) = if (l : ℕ) % 64 < 32 then -(fun k => a4 m c (ix2 (loT t r) k)) (ang l)
      else (fun k => a4 m c (ix2 (loT t r) k)) (ang l) := b4 m c t r l

theorem pt5 (c : Dev nD) (t : Fin cfg0.N) (r : Fin 1024) (e : Fin 512) :
    out0_5 (iblk m c 0 t) (iblk m c 1 t) (iblk m c 2 t) (iblk m c 3 t) (iblk m c 4 t) (ix3 0 e r) = G5 (a0 m c) (a1 m c) (a2 m c) (a3 m c) (a4 m c) (ix3 (hiT t) e (loT t r)) := by
  refine (el5 (cs := fun k => a3 m c (ix2 (loT t r) k)) (sn := fun k => a4 m c (ix2 (loT t r) k)) (iblk m c 0 t) (iblk m c 1 t) (iblk m c 2 t) (iblk m c 3 t) (iblk m c 4 t) r e (tabC m c t r) (tabS m c t r)).trans ?_
  rw [rowY_blk]
  rfl
theorem arr5 (c : Dev nD) : (dats m 0 c).arrAt 5 cfg0.N = G5 (a0 m c) (a1 m c) (a2 m c) (a3 m c) (a4 m c) := by
  refine (dats m 0 c).arrAt_eq_of_covers 5 _ (by decide +kernel) fun t hf y => ?_
  blk_simp
  rw [after0_5]
  have hy : y = ix3 0 (y 1) (y 2) := by
    funext a; fin_cases a
    · exact Subsingleton.elim (α := Fin 1) _ _
    · rfl
    · rfl
  have e : ((cfg0.win 5).blk t).view.emb y = ix3 (hiT t) (y 1) (loT t (y 2)) := by
    blk_ext [hiT, loT, (idx' t).1]
  exact (congrArg _ hy).trans ((pt5 m c t (y 2) (y 1)).trans (congrArg (G5 (a0 m c) (a1 m c) (a2 m c) (a3 m c) (a4 m c)) e.symm))
theorem pt6 (c : Dev nD) (t : Fin cfg0.N) (r : Fin 1024) (e : Fin 128) :
    out0_6 (iblk m c 0 t) (iblk m c 1 t) (iblk m c 2 t) (iblk m c 3 t) (iblk m c 4 t) (ix3 0 r e) = G6 (a0 m c) (a1 m c) (a2 m c) (ix3 (hiT t) (loT t r) e) := by
  refine (el6 (iblk m c 0 t) (iblk m c 1 t) (iblk m c 2 t) (iblk m c 3 t) (iblk m c 4 t) r e).trans ?_
  rw [rowY_blk]
  rfl
theorem arr6 (c : Dev nD) : (dats m 0 c).arrAt 6 cfg0.N = G6 (a0 m c) (a1 m c) (a2 m c) := by
  refine (dats m 0 c).arrAt_eq_of_covers 6 _ (by decide +kernel) fun t hf y => ?_
  blk_simp
  rw [after0_6]
  have hy : y = ix3 0 (y 1) (y 2) := by
    funext a; fin_cases a
    · exact Subsingleton.elim (α := Fin 1) _ _
    · rfl
    · rfl
  have e : ((cfg0.win 6).blk t).view.emb y = ix3 (hiT t) (loT t (y 1)) (y 2) := by
    blk_ext [hiT, loT, (idx' t).2.1]
  exact (congrArg _ hy).trans ((pt6 m c t (y 1) (y 2)).trans (congrArg (G6 (a0 m c) (a1 m c) (a2 m c)) e.symm))
theorem pt7 (c : Dev nD) (t : Fin cfg0.N) (r : Fin 1024) (e : Fin 128) :
    out0_7 (iblk m c 0 t) (iblk m c 1 t) (iblk m c 2 t) (iblk m c 3 t) (iblk m c 4 t) (ix3 0 r e) = G7 (a0 m c) (a1 m c) (a2 m c) (ix3 (hiT t) (loT t r) e) := by
  refine (el7 (iblk m c 0 t) (iblk m c 1 t) (iblk m c 2 t) (iblk m c 3 t) (iblk m c 4 t) r e).trans ?_
  rw [rowY_blk]
  rfl
theorem arr7 (c : Dev nD) : (dats m 0 c).arrAt 7 cfg0.N = G7 (a0 m c) (a1 m c) (a2 m c) := by
  refine (dats m 0 c).arrAt_eq_of_covers 7 _ (by decide +kernel) fun t hf y => ?_
  blk_simp
  rw [after0_7]
  have hy : y = ix3 0 (y 1) (y 2) := by
    funext a; fin_cases a
    · exact Subsingleton.elim (α := Fin 1) _ _
    · rfl
    · rfl
  have e : ((cfg0.win 7).blk t).view.emb y = ix3 (hiT t) (loT t (y 1)) (y 2) := by
    blk_ext [hiT, loT, (idx' t).2.2.1]
  exact (congrArg _ hy).trans ((pt7 m c t (y 1) (y 2)).trans (congrArg (G7 (a0 m c) (a1 m c) (a2 m c)) e.symm))
theorem pt8 (c : Dev nD) (t : Fin cfg0.N) (r : Fin 1024) (e : Fin 256) :
    out0_8 (iblk m c 0 t) (iblk m c 1 t) (iblk m c 2 t) (iblk m c 3 t) (iblk m c 4 t) (ix3 0 r e) = G8 (a0 m c) (a1 m c) (a2 m c) (a3 m c) (a4 m c) (ix3 (hiT t) (loT t r) e) := by
  refine (el8 (cs := fun k => a3 m c (ix2 (loT t r) k)) (sn := fun k => a4 m c (ix2 (loT t r) k)) (iblk m c 0 t) (iblk m c 1 t) (iblk m c 2 t) (iblk m c 3 t) (iblk m c 4 t) r e (tabC m c t r) (tabS m c t r)).trans ?_
  rw [rowY_blk]
  rfl
theorem arr8 (c : Dev nD) : (dats m 0 c).arrAt 8 cfg0.N = G8 (a0 m c) (a1 m c) (a2 m c) (a3 m c) (a4 m c) := by
  refine (dats m 0 c).arrAt_eq_of_covers 8 _ (by decide +kernel) fun t hf y => ?_
  blk_simp
  rw [after0_8]
  have hy : y = ix3 0 (y 1) (y 2) := by
    funext a; fin_cases a
    · exact Subsingleton.elim (α := Fin 1) _ _
    · rfl
    · rfl
  have e : ((cfg0.win 8).blk t).view.emb y = ix3 (hiT t) (loT t (y 1)) (y 2) := by
    blk_ext [hiT, loT, (idx' t).2.2.2.1]
  exact (congrArg _ hy).trans ((pt8 m c t (y 1) (y 2)).trans (congrArg (G8 (a0 m c) (a1 m c) (a2 m c) (a3 m c) (a4 m c)) e.symm))
theorem pt9 (c : Dev nD) (t : Fin cfg0.N) (r : Fin 1024) (e : Fin 256) :
    out0_9 (iblk m c 0 t) (iblk m c 1 t) (iblk m c 2 t) (iblk m c 3 t) (iblk m c 4 t) (ix3 0 e r) = G9 (a0 m c) (a1 m c) (a2 m c) (ix3 (hiT t) e (loT t r)) := by
  refine (el9 (iblk m c 0 t) (iblk m c 1 t) (iblk m c 2 t) (iblk m c 3 t) (iblk m c 4 t) r e).trans ?_
  rw [rowY_blk]
  rfl
theorem arr9 (c : Dev nD) : (dats m 0 c).arrAt 9 cfg0.N = G9 (a0 m c) (a1 m c) (a2 m c) := by
  refine (dats m 0 c).arrAt_eq_of_covers 9 _ (by decide +kernel) fun t hf y => ?_
  blk_simp
  rw [after0_9]
  have hy : y = ix3 0 (y 1) (y 2) := by
    funext a; fin_cases a
    · exact Subsingleton.elim (α := Fin 1) _ _
    · rfl
    · rfl
  have e : ((cfg0.win 9).blk t).view.emb y = ix3 (hiT t) (y 1) (loT t (y 2)) := by
    blk_ext [hiT, loT, (idx' t).2.2.2.2.1]
  exact (congrArg _ hy).trans ((pt9 m c t (y 2) (y 1)).trans (congrArg (G9 (a0 m c) (a1 m c) (a2 m c)) e.symm))
theorem pt10 (c : Dev nD) (t : Fin cfg0.N) (r : Fin 1024) (e : Fin 512) :
    out0_10 (iblk m c 0 t) (iblk m c 1 t) (iblk m c 2 t) (iblk m c 3 t) (iblk m c 4 t) (ix3 0 e r) = G10 (a0 m c) (a1 m c) (a2 m c) (a3 m c) (a4 m c) (ix3 (hiT t) e (loT t r)) := by
  refine (el10 (cs := fun k => a3 m c (ix2 (loT t r) k)) (sn := fun k => a4 m c (ix2 (loT t r) k)) (iblk m c 0 t) (iblk m c 1 t) (iblk m c 2 t) (iblk m c 3 t) (iblk m c 4 t) r e (tabC m c t r) (tabS m c t r)).trans ?_
  rw [rowY_blk]
  rfl
theorem arr10 (c : Dev nD) : (dats m 0 c).arrAt 10 cfg0.N = G10 (a0 m c) (a1 m c) (a2 m c) (a3 m c) (a4 m c) := by
  refine (dats m 0 c).arrAt_eq_of_covers 10 _ (by decide +kernel) fun t hf y => ?_
  blk_simp
  rw [after0_10]
  have hy : y = ix3 0 (y 1) (y 2) := by
    funext a; fin_cases a
    · exact Subsingleton.elim (α := Fin 1) _ _
    · rfl
    · rfl
  have e : ((cfg0.win 10).blk t).view.emb y = ix3 (hiT t) (y 1) (loT t (y 2)) := by
    blk_ext [hiT, loT, (idx' t).2.2.2.2.2.1]
  exact (congrArg _ hy).trans ((pt10 m c t (y 2) (y 1)).trans (congrArg (G10 (a0 m c) (a1 m c) (a2 m c) (a3 m c) (a4 m c)) e.symm))
theorem pt11 (c : Dev nD) (t : Fin cfg0.N) (r : Fin 1024) (e : Fin 512) :
    out0_11 (iblk m c 0 t) (iblk m c 1 t) (iblk m c 2 t) (iblk m c 3 t) (iblk m c 4 t) (ix3 0 r e) = G11 (a0 m c) (a1 m c) (a2 m c) (a3 m c) (a4 m c) (ix3 (hiT t) (loT t r) e) := by
  refine (el11 (cs := fun k => a3 m c (ix2 (loT t r) k)) (sn := fun k => a4 m c (ix2 (loT t r) k)) (iblk m c 0 t) (iblk m c 1 t) (iblk m c 2 t) (iblk m c 3 t) (iblk m c 4 t) r e (tabC m c t r) (tabS m c t r)).trans ?_
  rw [rowY_blk]
  rfl
theorem arr11 (c : Dev nD) : (dats m 0 c).arrAt 11 cfg0.N = G11 (a0 m c) (a1 m c) (a2 m c) (a3 m c) (a4 m c) := by
  refine (dats m 0 c).arrAt_eq_of_covers 11 _ (by decide +kernel) fun t hf y => ?_
  blk_simp
  rw [after0_11]
  have hy : y = ix3 0 (y 1) (y 2) := by
    funext a; fin_cases a
    · exact Subsingleton.elim (α := Fin 1) _ _
    · rfl
    · rfl
  have e : ((cfg0.win 11).blk t).view.emb y = ix3 (hiT t) (loT t (y 1)) (y 2) := by
    blk_ext [hiT, loT, (idx' t).2.2.2.2.2.2.1]
  exact (congrArg _ hy).trans ((pt11 m c t (y 1) (y 2)).trans (congrArg (G11 (a0 m c) (a1 m c) (a2 m c) (a3 m c) (a4 m c)) e.symm))
theorem pt12 (c : Dev nD) (t : Fin cfg0.N) (r : Fin 1024) (e : Fin 512) :
    out0_12 (iblk m c 0 t) (iblk m c 1 t) (iblk m c 2 t) (iblk m c 3 t) (iblk m c 4 t) (ix3 0 e r) = G12 (a0 m c) (a1 m c) (a2 m c) (ix3 (hiT t) e (loT t r)) := by
  refine (el12 (iblk m c 0 t) (iblk m c 1 t) (iblk m c 2 t) (iblk m c 3 t) (iblk m c 4 t) r e).trans ?_
  rw [rowY_blk]
  rfl
theorem arr12 (c : Dev nD) : (dats m 0 c).arrAt 12 cfg0.N = G12 (a0 m c) (a1 m c) (a2 m c) := by
  refine (dats m 0 c).arrAt_eq_of_covers 12 _ (by decide +kernel) fun t hf y => ?_
  blk_simp
  rw [after0_12]
  have hy : y = ix3 0 (y 1) (y 2) := by
    funext a; fin_cases a
    · exact Subsingleton.elim (α := Fin 1) _ _
    · rfl
    · rfl
  have e : ((cfg0.win 12).blk t).view.emb y = ix3 (hiT t) (y 1) (loT t (y 2)) := by
    blk_ext [hiT, loT, (idx' t).2.2.2.2.2.2.2.1]
  exact (congrArg _ hy).trans ((pt12 m c t (y 2) (y 1)).trans (congrArg (G12 (a0 m c) (a1 m c) (a2 m c)) e.symm))
theorem pt13 (c : Dev nD) (t : Fin cfg0.N) (r : Fin 1024) (e : Fin 128) :
    out0_13 (iblk m c 0 t) (iblk m c 1 t) (iblk m c 2 t) (iblk m c 3 t) (iblk m c 4 t) (ix3 0 e r) = G13 (a0 m c) (a1 m c) (a2 m c) (ix3 (hiT t) e (loT t r)) := by
  refine (el13 (iblk m c 0 t) (iblk m c 1 t) (iblk m c 2 t) (iblk m c 3 t) (iblk m c 4 t) r e).trans ?_
  rw [rowY_blk]
  rfl
theorem arr13 (c : Dev nD) : (dats m 0 c).arrAt 13 cfg0.N = G13 (a0 m c) (a1 m c) (a2 m c) := by
  refine (dats m 0 c).arrAt_eq_of_covers 13 _ (by decide +kernel) fun t hf y => ?_
  blk_simp
  rw [after0_13]
  have hy : y = ix3 0 (y 1) (y 2) := by
    funext a; fin_cases a
    · exact Subsingleton.elim (α := Fin 1) _ _
    · rfl
    · rfl
  have e : ((cfg0.win 13).blk t).view.emb y = ix3 (hiT t) (y 1) (loT t (y 2)) := by
    blk_ext [hiT, loT, (idx' t).2.2.2.2.2.2.2.2.1]
  exact (congrArg _ hy).trans ((pt13 m c t (y 2) (y 1)).trans (congrArg (G13 (a0 m c) (a1 m c) (a2 m c)) e.symm))
theorem pt14 (c : Dev nD) (t : Fin cfg0.N) (j : Fin 4) (e : Fin 512) :
    out0_14 (iblk m c 0 t) (iblk m c 1 t) (iblk m c 2 t) (iblk m c 3 t) (iblk m c 4 t) (ix3 0 j e) = G14 (a0 m c) (a1 m c) (a2 m c) (a3 m c) (a4 m c) (ix3 ⟨(t : ℕ), lt16 t⟩ j e) := by
  have hZ : ∀ r : Fin 1024, _ = R (a0 m c) (a1 m c) (a2 m c) (a3 m c) (a4 m c) (hiT t) (loT t r) (1792 + (e : ℕ)) := fun r =>
    (wide_ld (cs := fun k => a3 m c (ix2 (loT t r) k)) (sn := fun k => a4 m c (ix2 (loT t r) k)) (iblk m c 0 t) (iblk m c 1 t) (iblk m c 2 t) (iblk m c 3 t) (iblk m c 4 t) 1792 inb_S1x1024x2944_S1x1024x512_0_0_1792 (by decide) r
      (tabC m c t r) (tabS m c t r) e).trans (congrArg (fun z => rope z _ _ (1792 + (e : ℕ))) (rowY_blk m c t r))
  refine (el14 (iblk m c 0 t) (iblk m c 1 t) (iblk m c 2 t) (iblk m c 3 t) (iblk m c 4 t) j e _ hZ).trans ?_
  refine congrArg (fun s => Ideal.div s (Ideal.ofBits FTy.f32 0x43800000#32)) (Finset.sum_congr rfl fun k _ => ?_)
  refine congrArg (fun z => R (a0 m c) (a1 m c) (a2 m c) (a3 m c) (a4 m c) (hiT t) z (1792 + (e : ℕ))) (Fin.ext ?_)
  show (t : ℕ) % 2 * 1024 + ((j : ℕ) * 256 + (k : ℕ)) = (t : ℕ) % 2 * 1024 + (j : ℕ) * 256 + (k : ℕ); omega
theorem arr14 (c : Dev nD) : (dats m 0 c).arrAt 14 cfg0.N = G14 (a0 m c) (a1 m c) (a2 m c) (a3 m c) (a4 m c) := by
  refine (dats m 0 c).arrAt_eq_of_covers 14 _ (by decide +kernel) fun t hf y => ?_
  blk_simp
  rw [after0_14]
  have hy : y = ix3 0 (y 1) (y 2) := by
    funext a; fin_cases a
    · exact Subsingleton.elim (α := Fin 1) _ _
    · rfl
    · rfl
  have e : ((cfg0.win 14).blk t).view.emb y = ix3 ⟨(t : ℕ), lt16 t⟩ (y 1) (y 2) := by
    blk_ext [(idx' t).2.2.2.2.2.2.2.2.2]
  exact (congrArg _ hy).trans ((pt14 m c t (y 1) (y 2)).trans (congrArg (G14 (a0 m c) (a1 m c) (a2 m c) (a3 m c) (a4 m c)) e.symm))

end Cert.ProjIdeal.Hand

end
-- ==== Proof.ProjFirstValue.lean ====
/- What the projection of the first layer leaves in its ten output arrays, in closed form over the arguments. -/
module

public import proofs.«01_k».proof.Proof.ProjValue
public import proofs.«01_k».proof.Proof.Gen.ProjFirstIdeal.Value

@[expose] public section

set_option maxRecDepth 16384

noncomputable section

namespace Cert.ProjFirstIdeal.Hand

open Cert.ProjFirstIdeal Cert.ProjFirstIdeal.Gen Idealize.ShloMosaic Idealize.ShloMosaic.TcCoe Idealize.SL.Sem
open Idealize.ShloMosaic.Pointwise
open Cert.ProjIdeal.Hand (ang prod rope rowY factor flat spot half2 tile tile_apply wide_ld)

/- The body of the second layer's call computes the same of its blocks. -/
section Same

variable (x0 : Vec Ideal S1024x1024 .f32) (x1 : Vec Ideal S1x1x1024 .f32) (x2 : Vec Ideal S1x1024x2944 .bf16) (x3 x4 : Vec Ideal S1024x128 .f32)

theorem s5 : out0_5 x0 x1 x2 x3 x4 = Cert.ProjIdeal.Gen.out0_5 x0 x1 x2 x3 x4 := rfl
theorem s6 : out0_6 x0 x1 x2 x3 x4 = Cert.ProjIdeal.Gen.out0_6 x0 x1 x2 x3 x4 := rfl
theorem s7 : out0_7 x0 x1 x2 x3 x4 = Cert.ProjIdeal.Gen.out0_7 x0 x1 x2 x3 x4 := rfl
theorem s8 : out0_8 x0 x1 x2 x3 x4 = Cert.ProjIdeal.Gen.out0_8 x0 x1 x2 x3 x4 := rfl
theorem s9 : out0_9 x0 x1 x2 x3 x4 = Cert.ProjIdeal.Gen.out0_9 x0 x1 x2 x3 x4 := rfl
theorem s10 : out0_10 x0 x1 x2 x3 x4 = Cert.ProjIdeal.Gen.out0_10 x0 x1 x2 x3 x4 := rfl
theorem s11 : out0_11 x0 x1 x2 x3 x4 = Cert.ProjIdeal.Gen.out0_11 x0 x1 x2 x3 x4 := rfl
theorem s12 : out0_12 x0 x1 x2 x3 x4 = Cert.ProjIdeal.Gen.out0_12 x0 x1 x2 x3 x4 := rfl
theorem s13 : out0_13 x0 x1 x2 x3 x4 = Cert.ProjIdeal.Gen.out0_13 x0 x1 x2 x3 x4 := rfl
theorem s14 : out0_14 x0 x1 x2 x3 x4 = Cert.ProjIdeal.Gen.out0_14 x0 x1 x2 x3 x4 := rfl

end Same

section Closed

variable (x0 : Vec Ideal S16384x1024 .f32) (x1 : Vec Ideal S2x1024 .f32) (x2 : Vec Ideal S2x1024x2944 .bf16) (x3 x4 : Vec Ideal S2048x32 .f32)

/-- The products of a row of the sequence with the columns of the weight. -/
def Y (b : Fin 8) (s : Fin 2048) : ℕ → EReal :=
  prod (fun k => x0 (ix2 (flat b s) k)) (fun k => x1 (ix2 0 k)) (fun k c => x2 (ix3 0 k c))

/-- The products rotated by the place in the sequence. -/
def R (b : Fin 8) (s : Fin 2048) : ℕ → EReal :=
  rope (Y x0 x1 x2 b s) (fun l => x3 (ix2 s l)) (fun l => x4 (ix2 s l))

/-- The ten results in closed form. -/
def G5 : Vec Ideal S8x512x2048 .bf16 := fun i => R x0 x1 x2 x3 x4 (i 0) (i 2) (0 + (i 1 : ℕ)) * factor
def G6 : Vec Ideal S8x2048x128 .f32 := fun i => Y x0 x1 x2 (i 0) (i 1) (512 + (i 2 : ℕ))
def G7 : Vec Ideal S8x2048x128 .f32 := fun i => Y x0 x1 x2 (i 0) (i 1) (640 + (i 2 : ℕ))
def G8 : Vec Ideal S8x2048x256 .bf16 := fun i => R x0 x1 x2 x3 x4 (i 0) (i 1) (if (i 2 : ℕ) < 128 then 768 + (i 2 : ℕ) else 896 + (i 2 : ℕ))
def G9 : Vec Ideal S8x256x2048 .bf16 := fun i => Y x0 x1 x2 (i 0) (i 2) (if (i 1 : ℕ) < 128 then 896 + (i 1 : ℕ) else 1024 + (i 1 : ℕ))
def G10 : Vec Ideal S8x512x2048 .bf16 := fun i => R x0 x1 x2 x3 x4 (i 0) (i 2) (1280 + (i 1 : ℕ)) * factor
def G11 : Vec Ideal S8x2048x512 .bf16 := fun i => R x0 x1 x2 x3 x4 (i 0) (i 1) (1792 + (i 2 : ℕ))
def G12 : Vec Ideal S8x512x2048 .bf16 := fun i => Y x0 x1 x2 (i 0) (i 2) (2304 + (i 1 : ℕ))
def G13 : Vec Ideal S8x128x2048 .f32 := fun i => Ideal.logistic (Y x0 x1 x2 (i 0) (i 2) (2816 + (i 1 : ℕ)))
def G14 : Vec Ideal S16x4x512 .f32 := fun i =>
  Ideal.div (∑ k : Fin 256, R x0 x1 x2 x3 x4 (half2 (i 0)) (spot (i 0) (i 1) k) (1792 + (i 2 : ℕ))) (Ideal.ofBits FTy.f32 0x43800000#32)

end Closed

variable (m : (ℓ : Loc nD τ sig) → Buf (Elt Ideal) ℓ)

/-- The arguments as the call finds them. -/
abbrev a0 (c : Dev nD) : Vec Ideal S16384x1024 .f32 := m ((c : Thread nD τ).loc main_arg0)
abbrev a1 (c : Dev nD) : Vec Ideal S2x1024 .f32 := m ((c : Thread nD τ).loc main_arg1)
abbrev a2 (c : Dev nD) : Vec Ideal S2x1024x2944 .bf16 := m ((c : Thread nD τ).loc main_arg2)
abbrev a3 (c : Dev nD) : Vec Ideal S2048x32 .f32 := m ((c : Thread nD τ).loc main_arg3)
abbrev a4 (c : Dev nD) : Vec Ideal S2048x32 .f32 := m ((c : Thread nD τ).loc main_arg4)

theorem idx (t : Fin cfg0.N) : win0_0.index t = ![(t : ℕ), 0] ∧ win0_1.index t = ![0, 0, 0]
    ∧ win0_2.index t = ![0, 0, 0] ∧ win0_3.index t = ![(t : ℕ) % 2, 0] ∧ win0_4.index t = ![(t : ℕ) % 2, 0] := by
  revert t; decide +kernel
theorem idx' (t : Fin cfg0.N) : win0_5.index t = ![(t : ℕ) / 2, 0, (t : ℕ) % 2] ∧ win0_6.index t = ![(t : ℕ) / 2, (t : ℕ) % 2, 0]
    ∧ win0_7.index t = ![(t : ℕ) / 2, (t : ℕ) % 2, 0] ∧ win0_8.index t = ![(t : ℕ) / 2, (t : ℕ) % 2, 0]
    ∧ win0_9.index t = ![(t : ℕ) / 2, 0, (t : ℕ) % 2] ∧ win0_10.index t = ![(t : ℕ) / 2, 0, (t : ℕ) % 2]
    ∧ win0_11.index t = ![(t : ℕ) / 2, (t : ℕ) % 2, 0] ∧ win0_12.index t = ![(t : ℕ) / 2, 0, (t : ℕ) % 2]
    ∧ win0_13.index t = ![(t : ℕ) / 2, 0, (t : ℕ) % 2] ∧ win0_14.index t = ![(t : ℕ), 0, 0] := by
  revert t; decide +kernel

theorem v3 (c : Dev nD) : V m c main_v3 = tile (m ((c : Thread nD τ).loc main_arg3)) (m ((c : Thread nD τ).loc main_arg3)) := by
  unfold V; after_results_simp; rfl
theorem v8 (c : Dev nD) : V m c main_v8 = tile (Host.negf (F := Ideal) (s := S2048x32) (φ := .f32) (m ((c : Thread nD τ).loc main_arg4))) (m ((c : Thread nD τ).loc main_arg4)) := by
  unfold V; after_results_simp; rfl
theorem v9 (c : Dev nD) : V m c main_v9 = shapeCast S2x1x1024 (m ((c : Thread nD τ).loc main_arg1)) shapeCasts_S2x1024_S2x1x1024 := by
  unfold V; after_results_simp; rfl

theorem lt16 (t : Fin cfg0.N) : (t : ℕ) < 16 := t.isLt.trans_eq (by decide)

/-- Where a point's rows lie in the array, and in the sequences. -/
def at_ (t : Fin cfg0.N) (r : Fin 1024) : Fin 16384 := ⟨(t : ℕ) * 1024 + r, by have := lt16 t; omega⟩
def hiT (t : Fin cfg0.N) : Fin 8 := ⟨(t : ℕ) / 2, by have := lt16 t; omega⟩
def loT (t : Fin cfg0.N) (r : Fin 1024) : Fin 2048 := ⟨(t : ℕ) % 2 * 1024 + r, by omega⟩
theorem flat_at (t : Fin cfg0.N) (r : Fin 1024) : at_ t r = flat (hiT t) (loT t r) := by
  apply Fin.ext
  show (t : ℕ) * 1024 + (r : ℕ) = (t : ℕ) / 2 * 2048 + ((t : ℕ) % 2 * 1024 + (r : ℕ)); omega

theorem b0 (c : Dev nD) (t : Fin cfg0.N) (r k : Fin 1024) :
    iblk m c 0 t (ix2 r k) = a0 m c (ix2 (flat (hiT t) (loT t r)) k) := by
  rw [← flat_at]
  blk_ext [iblk, at_, (idx t).1]
theorem b1 (c : Dev nD) (t : Fin cfg0.N) (k : Fin 1024) :
    iblk m c 1 t (ix3 0 0 k) = a1 m c (ix2 0 k) := by
  have h : iblk m c 1 t (ix3 0 0 k) = V m c main_v9 (ix3 0 0 k) := by
    blk_ext [iblk, (idx t).2.1]
  rw [h, v9]
  pointwise
theorem b2 (c : Dev nD) (t : Fin cfg0.N) (k : Fin 1024) (e : Fin 2944) :
    iblk m c 2 t (ix3 0 k e) = a2 m c (ix3 0 k e) := by
  blk_ext [iblk, (idx t).2.2.1]
theorem b3 (c : Dev nD) (t : Fin cfg0.N) (r : Fin 1024) (l : Fin 128) :
    iblk m c 3 t (ix2 r l) = a3 m c (ix2 (loT t r) (ang l)) := by
  have h : iblk m c 3 t (ix2 r l) = V m c main_v3 (ix2 (loT t r) l) := by
    blk_ext [iblk, loT, (idx t).2.2.2.1]
  rw [h, v3, tile_apply, ite_self]
theorem b4 (c : Dev nD) (t : Fin cfg0.N) (r : Fin 1024) (l : Fin 128) :
    iblk m c 4 t (ix2 r l) = if (l : ℕ) % 64 < 32 then -a4 m c (ix2 (loT t r) (ang l)) else a4 m c (ix2 (loT t r) (ang l)) := by
  have h : iblk m c 4 t (ix2 r l) = V m c main_v8 (ix2 (loT t r) l) := by
    blk_ext [iblk, loT, (idx t).2.2.2.2]
  rw [h, v8, tile_apply]
  rfl

/-- The products of a row of a point's block. -/
theorem rowY_blk (c : Dev nD) (t : Fin cfg0.N) (r : Fin 1024) :
    rowY (iblk m c 0 t) (iblk m c 1 t) (iblk m c 2 t) r
      = Y (a0 m c) (a1 m c) (a2 m c) (hiT t) (loT t r) := by
  unfold rowY Y
  simp only [b0, b1, b2]

/-- The tables' rows at a point, as the rotation takes them. -/
theorem tabC (c : Dev nD) (t : Fin cfg0.N) (r : Fin 1024) (l : Fin 128) :
    iblk m c 3 t (ix2 r l) = (fun k => a3 m c (ix2 (loT t r) k)) (ang l) := b3 m c t r l
theorem tabS (c : Dev nD) (t : Fin cfg0.N) (r : Fin 1024) (l : Fin 128) :
    iblk m c 4 t (ix2 r l) = if (l : ℕ) % 64 < 32 then -(fun k => a4 m c (ix2 (loT t r) k)) (ang l)
      else (fun k => a4 m c (ix2 (loT t r) k)) (ang l) := b4 m c t r l

theorem pt5 (c : Dev nD) (t : Fin cfg0.N) (r : Fin 1024) (e : Fin 512) :
    out0_5 (iblk m c 0 t) (iblk m c 1 t) (iblk m c 2 t) (iblk m c 3 t) (iblk m c 4 t) (ix3 0 e r) = G5 (a0 m c) (a1 m c) (a2 m c) (a3 m c) (a4 m c) (ix3 (hiT t) e (loT t r)) := by
  rw [s5]
  refine (Cert.ProjIdeal.Hand.el5 (cs := fun k => a3 m c (ix2 (loT t r) k)) (sn := fun k => a4 m c (ix2 (loT t r) k)) (iblk m c 0 t) (iblk m c 1 t) (iblk m c 2 t) (iblk m c 3 t) (iblk m c 4 t) r e (tabC m c t r) (tabS m c t r)).trans ?_
  rw [rowY_blk]
  rfl
theorem arr5 (c : Dev nD) : (dats m 0 c).arrAt 5 cfg0.N = G5 (a0 m c) (a1 m c) (a2 m c) (a3 m c) (a4 m c) := by
  refine (dats m 0 c).arrAt_eq_of_covers 5 _ (by decide +kernel) fun t hf y => ?_
  blk_simp
  rw [after0_5]
  have hy : y = ix3 0 (y 1) (y 2) := by
    funext a; fin_cases a
    · exact Subsingleton.elim (α := Fin 1) _ _
    · rfl
    · rfl
  have e : ((cfg0.win 5).blk t).view.emb y = ix3 (hiT t) (y 1) (loT t (y 2)) := by
    blk_ext [hiT, loT, (idx' t).1]
  exact (congrArg _ hy).trans ((pt5 m c t (y 2) (y 1)).trans (congrArg (G5 (a0 m c) (a1 m c) (a2 m c) (a3 m c) (a4 m c)) e.symm))
theorem pt6 (c : Dev nD) (t : Fin cfg0.N) (r : Fin 1024) (e : Fin 128) :
    out0_6 (iblk m c 0 t) (iblk m c 1 t) (iblk m c 2 t) (iblk m c 3 t) (iblk m c 4 t) (ix3 0 r e) = G6 (a0 m c) (a1 m c) (a2 m c) (ix3 (hiT t) (loT t r) e) := by
  rw [s6]
  refine (Cert.ProjIdeal.Hand.el6 (iblk m c 0 t) (iblk m c 1 t) (iblk m c 2 t) (iblk m c 3 t) (iblk m c 4 t) r e).trans ?_
  rw [rowY_blk]
  rfl
theorem arr6 (c : Dev nD) : (dats m 0 c).arrAt 6 cfg0.N = G6 (a0 m c) (a1 m c) (a2 m c) := by
  refine (dats m 0 c).arrAt_eq_of_covers 6 _ (by decide +kernel) fun t hf y => ?_
  blk_simp
  rw [after0_6]
  have hy : y = ix3 0 (y 1) (y 2) := by
    funext a; fin_cases a
    · exact Subsingleton.elim (α := Fin 1) _ _
    · rfl
    · rfl
  have e : ((cfg0.win 6).blk t).view.emb y = ix3 (hiT t) (loT t (y 1)) (y 2) := by
    blk_ext [hiT, loT, (idx' t).2.1]
  exact (congrArg _ hy).trans ((pt6 m c t (y 1) (y 2)).trans (congrArg (G6 (a0 m c) (a1 m c) (a2 m c)) e.symm))
theorem pt7 (c : Dev nD) (t : Fin cfg0.N) (r : Fin 1024) (e : Fin 128) :
    out0_7 (iblk m c 0 t) (iblk m c 1 t) (iblk m c 2 t) (iblk m c 3 t) (iblk m c 4 t) (ix3 0 r e) = G7 (a0 m c) (a1 m c) (a2 m c) (ix3 (hiT t) (loT t r) e) := by
  rw [s7]
  refine (Cert.ProjIdeal.Hand.el7 (iblk m c 0 t) (iblk m c 1 t) (iblk m c 2 t) (iblk m c 3 t) (iblk m c 4 t) r e).trans ?_
  rw [rowY_blk]
  rfl
theorem arr7 (c : Dev nD) : (dats m 0 c).arrAt 7 cfg0.N = G7 (a0 m c) (a1 m c) (a2 m c) := by
  refine (dats m 0 c).arrAt_eq_of_covers 7 _ (by decide +kernel) fun t hf y => ?_
  blk_simp
  rw [after0_7]
  have hy : y = ix3 0 (y 1) (y 2) := by
    funext a; fin_cases a
    · exact Subsingleton.elim (α := Fin 1) _ _
    · rfl
    · rfl
  have e : ((cfg0.win 7).blk t).view.emb y = ix3 (hiT t) (loT t (y 1)) (y 2) := by
    blk_ext [hiT, loT, (idx' t).2.2.1]
  exact (congrArg _ hy).trans ((pt7 m c t (y 1) (y 2)).trans (congrArg (G7 (a0 m c) (a1 m c) (a2 m c)) e.symm))
theorem pt8 (c : Dev nD) (t : Fin cfg0.N) (r : Fin 1024) (e : Fin 256) :
    out0_8 (iblk m c 0 t) (iblk m c 1 t) (iblk m c 2 t) (iblk m c 3 t) (iblk m c 4 t) (ix3 0 r e) = G8 (a0 m c) (a1 m c) (a2 m c) (a3 m c) (a4 m c) (ix3 (hiT t) (loT t r) e) := by
  rw [s8]
  refine (Cert.ProjIdeal.Hand.el8 (cs := fun k => a3 m c (ix2 (loT t r) k)) (sn := fun k => a4 m c (ix2 (loT t r) k)) (iblk m c 0 t) (iblk m c 1 t) (iblk m c 2 t) (iblk m c 3 t) (iblk m c 4 t) r e (tabC m c t r) (tabS m c t r)).trans ?_
  rw [rowY_blk]
  rfl
theorem arr8 (c : Dev nD) : (dats m 0 c).arrAt 8 cfg0.N = G8 (a0 m c) (a1 m c) (a2 m c) (a3 m c) (a4 m c) := by
  refine (dats m 0 c).arrAt_eq_of_covers 8 _ (by decide +kernel) fun t hf y => ?_
  blk_simp
  rw [after0_8]
  have hy : y = ix3 0 (y 1) (y 2) := by
    funext a; fin_cases a
    · exact Subsingleton.elim (α := Fin 1) _ _
    · rfl
    · rfl
  have e : ((cfg0.win 8).blk t).view.emb y = ix3 (hiT t) (loT t (y 1)) (y 2) := by
    blk_ext [hiT, loT, (idx' t).2.2.2.1]
  exact (congrArg _ hy).trans ((pt8 m c t (y 1) (y 2)).trans (congrArg (G8 (a0 m c) (a1 m c) (a2 m c) (a3 m c) (a4 m c)) e.symm))
theorem pt9 (c : Dev nD) (t : Fin cfg0.N) (r : Fin 1024) (e : Fin 256) :
    out0_9 (iblk m c 0 t) (iblk m c 1 t) (iblk m c 2 t) (iblk m c 3 t) (iblk m c 4 t) (ix3 0 e r) = G9 (a0 m c) (a1 m c) (a2 m c) (ix3 (hiT t) e (loT t r)) := by
  rw [s9]
  refine (Cert.ProjIdeal.Hand.el9 (iblk m c 0 t) (iblk m c 1 t) (iblk m c 2 t) (iblk m c 3 t) (iblk m c 4 t) r e).trans ?_
  rw [rowY_blk]
  rfl
theorem arr9 (c : Dev nD) : (dats m 0 c).arrAt 9 cfg0.N = G9 (a0 m c) (a1 m c) (a2 m c) := by
  refine (dats m 0 c).arrAt_eq_of_covers 9 _ (by decide +kernel) fun t hf y => ?_
  blk_simp
  rw [after0_9]
  have hy : y = ix3 0 (y 1) (y 2) := by
    funext a; fin_cases a
    · exact Subsingleton.elim (α := Fin 1) _ _
    · rfl
    · rfl
  have e : ((cfg0.win 9).blk t).view.emb y = ix3 (hiT t) (y 1) (loT t (y 2)) := by
    blk_ext [hiT, loT, (idx' t).2.2.2.2.1]
  exact (congrArg _ hy).trans ((pt9 m c t (y 2) (y 1)).trans (congrArg (G9 (a0 m c) (a1 m c) (a2 m c)) e.symm))
theorem pt10 (c : Dev nD) (t : Fin cfg0.N) (r : Fin 1024) (e : Fin 512) :
    out0_10 (iblk m c 0 t) (iblk m c 1 t) (iblk m c 2 t) (iblk m c 3 t) (iblk m c 4 t) (ix3 0 e r) = G10 (a0 m c) (a1 m c) (a2 m c) (a3 m c) (a4 m c) (ix3 (hiT t) e (loT t r)) := by
  rw [s10]
  refine (Cert.ProjIdeal.Hand.el10 (cs := fun k => a3 m c (ix2 (loT t r) k)) (sn := fun k => a4 m c (ix2 (loT t r) k)) (iblk m c 0 t) (iblk m c 1 t) (iblk m c 2 t) (iblk m c 3 t) (iblk m c 4 t) r e (tabC m c t r) (tabS m c t r)).trans ?_
  rw [rowY_blk]
  rfl
theorem arr10 (c : Dev nD) : (dats m 0 c).arrAt 10 cfg0.N = G10 (a0 m c) (a1 m c) (a2 m c) (a3 m c) (a4 m c) := by
  refine (dats m 0 c).arrAt_eq_of_covers 10 _ (by decide +kernel) fun t hf y => ?_
  blk_simp
  rw [after0_10]
  have hy : y = ix3 0 (y 1) (y 2) := by
    funext a; fin_cases a
    · exact Subsingleton.elim (α := Fin 1) _ _
    · rfl
    · rfl
  have e : ((cfg0.win 10).blk t).view.emb y = ix3 (hiT t) (y 1) (loT t (y 2)) := by
    blk_ext [hiT, loT, (idx' t).2.2.2.2.2.1]
  exact (congrArg _ hy).trans ((pt10 m c t (y 2) (y 1)).trans (congrArg (G10 (a0 m c) (a1 m c) (a2 m c) (a3 m c) (a4 m c)) e.symm))
theorem pt11 (c : Dev nD) (t : Fin cfg0.N) (r : Fin 1024) (e : Fin 512) :
    out0_11 (iblk m c 0 t) (iblk m c 1 t) (iblk m c 2 t) (iblk m c 3 t) (iblk m c 4 t) (ix3 0 r e) = G11 (a0 m c) (a1 m c) (a2 m c) (a3 m c) (a4 m c) (ix3 (hiT t) (loT t r) e) := by
  rw [s11]
  refine (Cert.ProjIdeal.Hand.el11 (cs := fun k => a3 m c (ix2 (loT t r) k)) (sn := fun k => a4 m c (ix2 (loT t r) k)) (iblk m c 0 t) (iblk m c 1 t) (iblk m c 2 t) (iblk m c 3 t) (iblk m c 4 t) r e (tabC m c t r) (tabS m c t r)).trans ?_
  rw [rowY_blk]
  rfl
theorem arr11 (c : Dev nD) : (dats m 0 c).arrAt 11 cfg0.N = G11 (a0 m c) (a1 m c) (a2 m c) (a3 m c) (a4 m c) := by
  refine (dats m 0 c).arrAt_eq_of_covers 11 _ (by decide +kernel) fun t hf y => ?_
  blk_simp
  rw [after0_11]
  have hy : y = ix3 0 (y 1) (y 2) := by
    funext a; fin_cases a
    · exact Subsingleton.elim (α := Fin 1) _ _
    · rfl
    · rfl
  have e : ((cfg0.win 11).blk t).view.emb y = ix3 (hiT t) (loT t (y 1)) (y 2) := by
    blk_ext [hiT, loT, (idx' t).2.2.2.2.2.2.1]
  exact (congrArg _ hy).trans ((pt11 m c t (y 1) (y 2)).trans (congrArg (G11 (a0 m c) (a1 m c) (a2 m c) (a3 m c) (a4 m c)) e.symm))
theorem pt12 (c : Dev nD) (t : Fin cfg0.N) (r : Fin 1024) (e : Fin 512) :
    out0_12 (iblk m c 0 t) (iblk m c 1 t) (iblk m c 2 t) (iblk m c 3 t) (iblk m c 4 t) (ix3 0 e r) = G12 (a0 m c) (a1 m c) (a2 m c) (ix3 (hiT t) e (loT t r)) := by
  rw [s12]
  refine (Cert.ProjIdeal.Hand.el12 (iblk m c 0 t) (iblk m c 1 t) (iblk m c 2 t) (iblk m c 3 t) (iblk m c 4 t) r e).trans ?_
  rw [rowY_blk]
  rfl
theorem arr12 (c : Dev nD) : (dats m 0 c).arrAt 12 cfg0.N = G12 (a0 m c) (a1 m c) (a2 m c) := by
  refine (dats m 0 c).arrAt_eq_of_covers 12 _ (by decide +kernel) fun t hf y => ?_
  blk_simp
  rw [after0_12]
  have hy : y = ix3 0 (y 1) (y 2) := by
    funext a; fin_cases a
    · exact Subsingleton.elim (α := Fin 1) _ _
    · rfl
    · rfl
  have e : ((cfg0.win 12).blk t).view.emb y = ix3 (hiT t) (y 1) (loT t (y 2)) := by
    blk_ext [hiT, loT, (idx' t).2.2.2.2.2.2.2.1]
  exact (congrArg _ hy).trans ((pt12 m c t (y 2) (y 1)).trans (congrArg (G12 (a0 m c) (a1 m c) (a2 m c)) e.symm))
theorem pt13 (c : Dev nD) (t : Fin cfg0.N) (r : Fin 1024) (e : Fin 128) :
    out0_13 (iblk m c 0 t) (iblk m c 1 t) (iblk m c 2 t) (iblk m c 3 t) (iblk m c 4 t) (ix3 0 e r) = G13 (a0 m c) (a1 m c) (a2 m c) (ix3 (hiT t) e (loT t r)) := by
  rw [s13]
  refine (Cert.ProjIdeal.Hand.el13 (iblk m c 0 t) (iblk m c 1 t) (iblk m c 2 t) (iblk m c 3 t) (iblk m c 4 t) r e).trans ?_
  rw [rowY_blk]
  rfl
theorem arr13 (c : Dev nD) : (dats m 0 c).arrAt 13 cfg0.N = G13 (a0 m c) (a1 m c) (a2 m c) := by
  refine (dats m 0 c).arrAt_eq_of_covers 13 _ (by decide +kernel) fun t hf y => ?_
  blk_simp
  rw [after0_13]
  have hy : y = ix3 0 (y 1) (y 2) := by
    funext a; fin_cases a
    · exact Subsingleton.elim (α := Fin 1) _ _
    · rfl
    · rfl
  have e : ((cfg0.win 13).blk t).view.emb y = ix3 (hiT t) (y 1) (loT t (y 2)) := by
    blk_ext [hiT, loT, (idx' t).2.2.2.2.2.2.2.2.1]
  exact (congrArg _ hy).trans ((pt13 m c t (y 2) (y 1)).trans (congrArg (G13 (a0 m c) (a1 m c) (a2 m c)) e.symm))
theorem pt14 (c : Dev nD) (t : Fin cfg0.N) (j : Fin 4) (e : Fin 512) :
    out0_14 (iblk m c 0 t) (iblk m c 1 t) (iblk m c 2 t) (iblk m c 3 t) (iblk m c 4 t) (ix3 0 j e) = G14 (a0 m c) (a1 m c) (a2 m c) (a3 m c) (a4 m c) (ix3 ⟨(t : ℕ), lt16 t⟩ j e) := by
  have hZ : ∀ r : Fin 1024, _ = R (a0 m c) (a1 m c) (a2 m c) (a3 m c) (a4 m c) (hiT t) (loT t r) (1792 + (e : ℕ)) := fun r =>
    (wide_ld (cs := fun k => a3 m c (ix2 (loT t r) k)) (sn := fun k => a4 m c (ix2 (loT t r) k)) (iblk m c 0 t) (iblk m c 1 t) (iblk m c 2 t) (iblk m c 3 t) (iblk m c 4 t) 1792 inb_S1x1024x2944_S1x1024x512_0_0_1792 (by decide) r
      (tabC m c t r) (tabS m c t r) e).trans (congrArg (fun z => rope z _ _ (1792 + (e : ℕ))) (rowY_blk m c t r))
  rw [s14]
  refine (Cert.ProjIdeal.Hand.el14 (iblk m c 0 t) (iblk m c 1 t) (iblk m c 2 t) (iblk m c 3 t) (iblk m c 4 t) j e _ hZ).trans ?_
  refine congrArg (fun s => Ideal.div s (Ideal.ofBits FTy.f32 0x43800000#32)) (Finset.sum_congr rfl fun k _ => ?_)
  refine congrArg (fun z => R (a0 m c) (a1 m c) (a2 m c) (a3 m c) (a4 m c) (hiT t) z (1792 + (e : ℕ))) (Fin.ext ?_)
  show (t : ℕ) % 2 * 1024 + ((j : ℕ) * 256 + (k : ℕ)) = (t : ℕ) % 2 * 1024 + (j : ℕ) * 256 + (k : ℕ); omega
theorem arr14 (c : Dev nD) : (dats m 0 c).arrAt 14 cfg0.N = G14 (a0 m c) (a1 m c) (a2 m c) (a3 m c) (a4 m c) := by
  refine (dats m 0 c).arrAt_eq_of_covers 14 _ (by decide +kernel) fun t hf y => ?_
  blk_simp
  rw [after0_14]
  have hy : y = ix3 0 (y 1) (y 2) := by
    funext a; fin_cases a
    · exact Subsingleton.elim (α := Fin 1) _ _
    · rfl
    · rfl
  have e : ((cfg0.win 14).blk t).view.emb y = ix3 ⟨(t : ℕ), lt16 t⟩ (y 1) (y 2) := by
    blk_ext [(idx' t).2.2.2.2.2.2.2.2.2]
  exact (congrArg _ hy).trans ((pt14 m c t (y 1) (y 2)).trans (congrArg (G14 (a0 m c) (a1 m c) (a2 m c) (a3 m c) (a4 m c)) e.symm))

end Cert.ProjFirstIdeal.Hand

end
-- ==== Proof.ProjFirstRef.lean ====
/- The reference of the first layer's projection at an element, and that its ten results are the kernel's. -/
module

public import proofs.«01_k».proof.Proof.ProjFirstValue
public import proofs.«01_k».proof.Proof.ProjRef
public import proofs.«01_k».proof.Proof.Gen.ProjFirstReferenceIdeal.Read

@[expose] public section

set_option maxRecDepth 16384

noncomputable section

namespace Cert.ProjFirstReferenceIdeal.Hand

open Cert.ProjFirstReferenceIdeal Cert.ProjFirstReferenceIdeal.Read Idealize.ShloMosaic Idealize.ShloMosaic.TcCoe Idealize.SL.Sem
open Idealize.ShloMosaic.Pointwise
open Cert.FfnIdeal.Hand (inv)
open Cert.ProjReferenceIdeal.Hand (rope_lo rope_hi head8 head2 both)
open Cert.ProjIdeal.Hand (col ang prod rope flat spot half2 factor)
open Cert.ProjFirstIdeal.Hand (Y R G5 G6 G7 G8 G9 G10 G11 G12 G13 G14)

variable (x0 : Vec Ideal S16384x1024 .f32) (x1 : Vec Ideal S2x1024 .f32) (x2 : Vec Ideal S2x1024x2944 .bf16) (x3 x4 : Vec Ideal S2048x32 .f32)

theorem at7 (r : Fin 16384) (j : Fin 1) :
    val_main_v7 (F := Ideal) x0 (ix2 r j) = inv (fun k => x0 (ix2 r k)) := by
  rw [val_main_v7_apply, val_main_v6_apply, val_main_v5_apply, val_main_v4_apply, val_main_v3_apply, val_main_v2_apply,
    val_main_v1_apply, val_main_cst_apply, val_main_cst_0_apply, val_main_cst_1_apply]
  have e : ∀ k, val_main_v0 (F := Ideal) x0 (idx_main_v1 (idx_main_v2 (ix2 r j)) k) = x0 (ix2 r k) * x0 (ix2 r k) := fun k => by
    rw [val_main_v0_apply]
    have : idx_main_v1 (idx_main_v2 (ix2 r j)) k = ix2 r k := by funext a; fin_cases a <;> rfl
    rw [this]; rfl
  simp only [e]
  rw [show (FloatOps.ofBits (F := Ideal) .f32 0x00000000#32) = (0 : EReal) from Ideal.ofBits_zero_f32, zero_add]
  rfl

theorem at14 (r : Fin 16384) (k : Fin 1024) :
    val_main_v14 (F := Ideal) x0 x1 (ix2 r k) = x0 (ix2 r k) * inv (fun k => x0 (ix2 r k)) * x1 (ix2 0 k) := by
  rw [val_main_v14_apply, val_main_v13_apply, val_main_v12_apply, val_main_v11_apply, val_main_v10_apply,
    val_main_v9_apply, val_main_v8_apply]
  have e1 : idx_main_v8 (ix2 r k) = ix2 r 0 := by funext a; fin_cases a <;> rfl
  have e2 : idx_main_v10 (idx_main_v11 (idx_main_v12 (idx_main_v13 (ix2 r k)))) = ix2 0 k := by
    funext a; fin_cases a <;> first | rfl | (apply Fin.ext; simp; done) | (apply Fin.ext; simp; omega)
  rw [e1, at7, e2]
  rfl

/-- An entry of the layer's weight. -/
theorem at17 (k : Fin 1024) (c : Fin 2944) : val_main_v17 (F := Ideal) x2 (ix2 k c) = x2 (ix3 0 k c) := by
  have hk := k.isLt
  have hc := c.isLt
  have e2 : idx_main_v15 (idx_main_v16 (ix2 k c)) = ix3 0 k c := by
    funext a; fin_cases a <;> first | rfl | (apply Fin.ext; simp; done) | (apply Fin.ext; simp; omega)
  rw [val_main_v17_apply, val_main_v16_apply, val_main_v15_apply, e2]
  rfl

theorem at20 (b : Fin 8) (s : Fin 2048) (e : Fin 512) : val_main_v20 (F := Ideal) x0 x1 x2 (ix3 b s e) = Y x0 x1 x2 b s (1792 + e) := by
  have hb := b.isLt
  have hs := s.isLt
  have he := e.isLt
  have e0 : idx_main_v20 (ix3 b s e) = ix2 (flat b s) e := by
    funext a; fin_cases a
    · apply Fin.ext; show (((b : ℕ) * 2048 + (s : ℕ)) * 512 + (e : ℕ)) / 512 = (b : ℕ) * 2048 + (s : ℕ); omega
    · apply Fin.ext; show (((b : ℕ) * 2048 + (s : ℕ)) * 512 + (e : ℕ)) % 512 = (e : ℕ); omega
  rw [val_main_v20_apply, e0, val_main_v19_apply]
  unfold Y prod
  refine Finset.sum_congr rfl fun k _ => ?_
  have e1 : lidx_main_v19 (ix2 (flat b s) e) k = ix2 (flat b s) k := by funext a; fin_cases a <;> rfl
  have e2 : idx_main_v18 (ridx_main_v19 (ix2 (flat b s) e) k) = ix2 k (col (1792 + e)) := by
    funext a; fin_cases a
    · rfl
    · apply Fin.ext; show 1792 + (e : ℕ) = (1792 + (e : ℕ)) % 2944; omega
  rw [e1, at14, val_main_v18_apply, e2, at17]

theorem at40 (b : Fin 8) (s : Fin 2048) (e : Fin 128) : val_main_v40 (F := Ideal) x0 x1 x2 (ix3 b s e) = Y x0 x1 x2 b s (768 + e) := by
  have hb := b.isLt
  have hs := s.isLt
  have he := e.isLt
  have e0 : idx_main_v40 (ix3 b s e) = ix2 (flat b s) e := by
    funext a; fin_cases a
    · apply Fin.ext; show (((b : ℕ) * 2048 + (s : ℕ)) * 128 + (e : ℕ)) / 128 = (b : ℕ) * 2048 + (s : ℕ); omega
    · apply Fin.ext; show (((b : ℕ) * 2048 + (s : ℕ)) * 128 + (e : ℕ)) % 128 = (e : ℕ); omega
  rw [val_main_v40_apply, e0, val_main_v39_apply]
  unfold Y prod
  refine Finset.sum_congr rfl fun k _ => ?_
  have e1 : lidx_main_v39 (ix2 (flat b s) e) k = ix2 (flat b s) k := by funext a; fin_cases a <;> rfl
  have e2 : idx_main_v38 (ridx_main_v39 (ix2 (flat b s) e) k) = ix2 k (col (768 + e)) := by
    funext a; fin_cases a
    · rfl
    · apply Fin.ext; show 768 + (e : ℕ) = (768 + (e : ℕ)) % 2944; omega
  rw [e1, at14, val_main_v38_apply, e2, at17]

theorem at43 (b : Fin 8) (s : Fin 2048) (e : Fin 128) : val_main_v43 (F := Ideal) x0 x1 x2 (ix3 b s e) = Y x0 x1 x2 b s (896 + e) := by
  have hb := b.isLt
  have hs := s.isLt
  have he := e.isLt
  have e0 : idx_main_v43 (ix3 b s e) = ix2 (flat b s) e := by
    funext a; fin_cases a
    · apply Fin.ext; show (((b : ℕ) * 2048 + (s : ℕ)) * 128 + (e : ℕ)) / 128 = (b : ℕ) * 2048 + (s : ℕ); omega
    · apply Fin.ext; show (((b : ℕ) * 2048 + (s : ℕ)) * 128 + (e : ℕ)) % 128 = (e : ℕ); omega
  rw [val_main_v43_apply, e0, val_main_v42_apply]
  unfold Y prod
  refine Finset.sum_congr rfl fun k _ => ?_
  have e1 : lidx_main_v42 (ix2 (flat b s) e) k = ix2 (flat b s) k := by funext a; fin_cases a <;> rfl
  have e2 : idx_main_v41 (ridx_main_v42 (ix2 (flat b s) e) k) = ix2 k (col (896 + e)) := by
    funext a; fin_cases a
    · rfl
    · apply Fin.ext; show 896 + (e : ℕ) = (896 + (e : ℕ)) % 2944; omega
  rw [e1, at14, val_main_v41_apply, e2, at17]

theorem at46 (b : Fin 8) (s : Fin 2048) (e : Fin 128) : val_main_v46 (F := Ideal) x0 x1 x2 (ix3 b s e) = Y x0 x1 x2 b s (1024 + e) := by
  have hb := b.isLt
  have hs := s.isLt
  have he := e.isLt
  have e0 : idx_main_v46 (ix3 b s e) = ix2 (flat b s) e := by
    funext a; fin_cases a
    · apply Fin.ext; show (((b : ℕ) * 2048 + (s : ℕ)) * 128 + (e : ℕ)) / 128 = (b : ℕ) * 2048 + (s : ℕ); omega
    · apply Fin.ext; show (((b : ℕ) * 2048 + (s : ℕ)) * 128 + (e : ℕ)) % 128 = (e : ℕ); omega
  rw [val_main_v46_apply, e0, val_main_v45_apply]
  unfold Y prod
  refine Finset.sum_congr rfl fun k _ => ?_
  have e1 : lidx_main_v45 (ix2 (flat b s) e) k = ix2 (flat b s) k := by funext a; fin_cases a <;> rfl
  have e2 : idx_main_v44 (ridx_main_v45 (ix2 (flat b s) e) k) = ix2 k (col (1024 + e)) := by
    funext a; fin_cases a
    · rfl
    · apply Fin.ext; show 1024 + (e : ℕ) = (1024 + (e : ℕ)) % 2944; omega
  rw [e1, at14, val_main_v44_apply, e2, at17]

theorem at49 (b : Fin 8) (s : Fin 2048) (e : Fin 128) : val_main_v49 (F := Ideal) x0 x1 x2 (ix3 b s e) = Y x0 x1 x2 b s (1152 + e) := by
  have hb := b.isLt
  have hs := s.isLt
  have he := e.isLt
  have e0 : idx_main_v49 (ix3 b s e) = ix2 (flat b s) e := by
    funext a; fin_cases a
    · apply Fin.ext; show (((b : ℕ) * 2048 + (s : ℕ)) * 128 + (e : ℕ)) / 128 = (b : ℕ) * 2048 + (s : ℕ); omega
    · apply Fin.ext; show (((b : ℕ) * 2048 + (s : ℕ)) * 128 + (e : ℕ)) % 128 = (e : ℕ); omega
  rw [val_main_v49_apply, e0, val_main_v48_apply]
  unfold Y prod
  refine Finset.sum_congr rfl fun k _ => ?_
  have e1 : lidx_main_v48 (ix2 (flat b s) e) k = ix2 (flat b s) k := by funext a; fin_cases a <;> rfl
  have e2 : idx_main_v47 (ridx_main_v48 (ix2 (flat b s) e) k) = ix2 k (col (1152 + e)) := by
    funext a; fin_cases a
    · rfl
    · apply Fin.ext; show 1152 + (e : ℕ) = (1152 + (e : ℕ)) % 2944; omega
  rw [e1, at14, val_main_v47_apply, e2, at17]

theorem at56 (b : Fin 8) (s : Fin 2048) (e : Fin 512) : val_main_v56 (F := Ideal) x0 x1 x2 (ix3 b s e) = Y x0 x1 x2 b s (0 + e) := by
  have hb := b.isLt
  have hs := s.isLt
  have he := e.isLt
  have e0 : idx_main_v56 (ix3 b s e) = ix2 (flat b s) e := by
    funext a; fin_cases a
    · apply Fin.ext; show (((b : ℕ) * 2048 + (s : ℕ)) * 512 + (e : ℕ)) / 512 = (b : ℕ) * 2048 + (s : ℕ); omega
    · apply Fin.ext; show (((b : ℕ) * 2048 + (s : ℕ)) * 512 + (e : ℕ)) % 512 = (e : ℕ); omega
  rw [val_main_v56_apply, e0, val_main_v55_apply]
  unfold Y prod
  refine Finset.sum_congr rfl fun k _ => ?_
  have e1 : lidx_main_v55 (ix2 (flat b s) e) k = ix2 (flat b s) k := by funext a; fin_cases a <;> rfl
  have e2 : idx_main_v54 (ridx_main_v55 (ix2 (flat b s) e) k) = ix2 k (col (0 + e)) := by
    funext a; fin_cases a
    · rfl
    · apply Fin.ext; show (e : ℕ) = (0 + (e : ℕ)) % 2944; omega
  rw [e1, at14, val_main_v54_apply, e2, at17]

theorem at80 (b : Fin 8) (s : Fin 2048) (e : Fin 128) : val_main_v80 (F := Ideal) x0 x1 x2 (ix3 b s e) = Y x0 x1 x2 b s (512 + e) := by
  have hb := b.isLt
  have hs := s.isLt
  have he := e.isLt
  have e0 : idx_main_v80 (ix3 b s e) = ix2 (flat b s) e := by
    funext a; fin_cases a
    · apply Fin.ext; show (((b : ℕ) * 2048 + (s : ℕ)) * 128 + (e : ℕ)) / 128 = (b : ℕ) * 2048 + (s : ℕ); omega
    · apply Fin.ext; show (((b : ℕ) * 2048 + (s : ℕ)) * 128 + (e : ℕ)) % 128 = (e : ℕ); omega
  rw [val_main_v80_apply, e0, val_main_v79_apply]
  unfold Y prod
  refine Finset.sum_congr rfl fun k _ => ?_
  have e1 : lidx_main_v79 (ix2 (flat b s) e) k = ix2 (flat b s) k := by funext a; fin_cases a <;> rfl
  have e2 : idx_main_v78 (ridx_main_v79 (ix2 (flat b s) e) k) = ix2 k (col (512 + e)) := by
    funext a; fin_cases a
    · rfl
    · apply Fin.ext; show 512 + (e : ℕ) = (512 + (e : ℕ)) % 2944; omega
  rw [e1, at14, val_main_v78_apply, e2, at17]

theorem at83 (b : Fin 8) (s : Fin 2048) (e : Fin 128) : val_main_v83 (F := Ideal) x0 x1 x2 (ix3 b s e) = Y x0 x1 x2 b s (640 + e) := by
  have hb := b.isLt
  have hs := s.isLt
  have he := e.isLt
  have e0 : idx_main_v83 (ix3 b s e) = ix2 (flat b s) e := by
    funext a; fin_cases a
    · apply Fin.ext; show (((b : ℕ) * 2048 + (s : ℕ)) * 128 + (e : ℕ)) / 128 = (b : ℕ) * 2048 + (s : ℕ); omega
    · apply Fin.ext; show (((b : ℕ) * 2048 + (s : ℕ)) * 128 + (e : ℕ)) % 128 = (e : ℕ); omega
  rw [val_main_v83_apply, e0, val_main_v82_apply]
  unfold Y prod
  refine Finset.sum_congr rfl fun k _ => ?_
  have e1 : lidx_main_v82 (ix2 (flat b s) e) k = ix2 (flat b s) k := by funext a; fin_cases a <;> rfl
  have e2 : idx_main_v81 (ridx_main_v82 (ix2 (flat b s) e) k) = ix2 k (col (640 + e)) := by
    funext a; fin_cases a
    · rfl
    · apply Fin.ext; show 640 + (e : ℕ) = (640 + (e : ℕ)) % 2944; omega
  rw [e1, at14, val_main_v81_apply, e2, at17]

theorem at125 (b : Fin 8) (s : Fin 2048) (e : Fin 512) : val_main_v125 (F := Ideal) x0 x1 x2 (ix3 b s e) = Y x0 x1 x2 b s (1280 + e) := by
  have hb := b.isLt
  have hs := s.isLt
  have he := e.isLt
  have e0 : idx_main_v125 (ix3 b s e) = ix2 (flat b s) e := by
    funext a; fin_cases a
    · apply Fin.ext; show (((b : ℕ) * 2048 + (s : ℕ)) * 512 + (e : ℕ)) / 512 = (b : ℕ) * 2048 + (s : ℕ); omega
    · apply Fin.ext; show (((b : ℕ) * 2048 + (s : ℕ)) * 512 + (e : ℕ)) % 512 = (e : ℕ); omega
  rw [val_main_v125_apply, e0, val_main_v124_apply]
  unfold Y prod
  refine Finset.sum_congr rfl fun k _ => ?_
  have e1 : lidx_main_v124 (ix2 (flat b s) e) k = ix2 (flat b s) k := by funext a; fin_cases a <;> rfl
  have e2 : idx_main_v123 (ridx_main_v124 (ix2 (flat b s) e) k) = ix2 k (col (1280 + e)) := by
    funext a; fin_cases a
    · rfl
    · apply Fin.ext; show 1280 + (e : ℕ) = (1280 + (e : ℕ)) % 2944; omega
  rw [e1, at14, val_main_v123_apply, e2, at17]

theorem at150 (b : Fin 8) (s : Fin 2048) (e : Fin 512) : val_main_v150 (F := Ideal) x0 x1 x2 (ix3 b s e) = Y x0 x1 x2 b s (2304 + e) := by
  have hb := b.isLt
  have hs := s.isLt
  have he := e.isLt
  have e0 : idx_main_v150 (ix3 b s e) = ix2 (flat b s) e := by
    funext a; fin_cases a
    · apply Fin.ext; show (((b : ℕ) * 2048 + (s : ℕ)) * 512 + (e : ℕ)) / 512 = (b : ℕ) * 2048 + (s : ℕ); omega
    · apply Fin.ext; show (((b : ℕ) * 2048 + (s : ℕ)) * 512 + (e : ℕ)) % 512 = (e : ℕ); omega
  rw [val_main_v150_apply, e0, val_main_v149_apply]
  unfold Y prod
  refine Finset.sum_congr rfl fun k _ => ?_
  have e1 : lidx_main_v149 (ix2 (flat b s) e) k = ix2 (flat b s) k := by funext a; fin_cases a <;> rfl
  have e2 : idx_main_v148 (ridx_main_v149 (ix2 (flat b s) e) k) = ix2 k (col (2304 + e)) := by
    funext a; fin_cases a
    · rfl
    · apply Fin.ext; show 2304 + (e : ℕ) = (2304 + (e : ℕ)) % 2944; omega
  rw [e1, at14, val_main_v148_apply, e2, at17]

theorem at155 (b : Fin 8) (s : Fin 2048) (e : Fin 128) : val_main_v155 (F := Ideal) x0 x1 x2 (ix3 b s e) = Y x0 x1 x2 b s (2816 + e) := by
  have hb := b.isLt
  have hs := s.isLt
  have he := e.isLt
  have e0 : idx_main_v155 (ix3 b s e) = ix2 (flat b s) e := by
    funext a; fin_cases a
    · apply Fin.ext; show (((b : ℕ) * 2048 + (s : ℕ)) * 128 + (e : ℕ)) / 128 = (b : ℕ) * 2048 + (s : ℕ); omega
    · apply Fin.ext; show (((b : ℕ) * 2048 + (s : ℕ)) * 128 + (e : ℕ)) % 128 = (e : ℕ); omega
  rw [val_main_v155_apply, e0, val_main_v154_apply]
  unfold Y prod
  refine Finset.sum_congr rfl fun k _ => ?_
  have e1 : lidx_main_v154 (ix2 (flat b s) e) k = ix2 (flat b s) k := by funext a; fin_cases a <;> rfl
  have e2 : idx_main_v153 (ridx_main_v154 (ix2 (flat b s) e) k) = ix2 k (col (2816 + e)) := by
    funext a; fin_cases a
    · rfl
    · apply Fin.ext; show 2816 + (e : ℕ) = (2816 + (e : ℕ)) % 2944; omega
  rw [e1, at14, val_main_v153_apply, e2, at17]

/-- Rotated, 512 columns from column 1792. -/
theorem rot37 (b : Fin 8) (s : Fin 2048) (e : Fin 512) : val_main_v37 (F := Ideal) x0 x1 x2 x3 x4 (ix3 b s e) = R x0 x1 x2 x3 x4 b s (1792 + e) := by
  have hb := b.isLt
  have hs := s.isLt
  have he := e.isLt
  have lo : ∀ (h : Fin 8) (j : Fin 32), val_main_v22 (F := Ideal) x0 x1 x2 (ix4 b s h j) = Y x0 x1 x2 b s (1792 + (h : ℕ) * 64 + j) := fun h j => by
    have hh := h.isLt
    have hj := j.isLt
    have e0 : idx_main_v21 (idx_main_v22 (ix4 b s h j)) = ix3 b s ⟨(h : ℕ) * 64 + j, by omega⟩ := by
      funext a; fin_cases a <;> (apply Fin.ext; simp; try omega)
    rw [val_main_v22_apply, val_main_v21_apply, e0, at20]
    exact congrArg (Y x0 x1 x2 b s) (Nat.add_assoc _ _ _).symm
  have hi : ∀ (h : Fin 8) (j : Fin 32), val_main_v23 (F := Ideal) x0 x1 x2 (ix4 b s h j) = Y x0 x1 x2 b s (1792 + (h : ℕ) * 64 + 32 + j) := fun h j => by
    have hh := h.isLt
    have hj := j.isLt
    have e0 : idx_main_v21 (idx_main_v23 (ix4 b s h j)) = ix3 b s ⟨(h : ℕ) * 64 + 32 + j, by omega⟩ := by
      funext a; fin_cases a <;> (apply Fin.ext; simp; try omega)
    rw [val_main_v23_apply, val_main_v21_apply, e0, at20]
    exact congrArg (Y x0 x1 x2 b s) (by show 1792 + ((h : ℕ) * 64 + 32 + (j : ℕ)) = 1792 + (h : ℕ) * 64 + 32 + (j : ℕ); omega)
  have c1 : ∀ (h : Fin 8) (j : Fin 32), val_main_v26 (F := Ideal) x3 (ix4 b s h j) = x3 (ix2 s j) := fun h j => by
    rw [val_main_v26_apply, val_main_v24_apply]
    exact congrArg x3 (by funext a; fin_cases a <;> rfl)
  have c2 : ∀ (h : Fin 8) (j : Fin 32), val_main_v28 (F := Ideal) x4 (ix4 b s h j) = x4 (ix2 s j) := fun h j => by
    rw [val_main_v28_apply, val_main_v25_apply]
    exact congrArg x4 (by funext a; fin_cases a <;> rfl)
  have c3 : ∀ (h : Fin 8) (j : Fin 32), val_main_v31 (F := Ideal) x3 (ix4 b s h j) = x3 (ix2 s j) := fun h j => by
    rw [val_main_v31_apply, val_main_v24_apply]
    exact congrArg x3 (by funext a; fin_cases a <;> rfl)
  have c4 : ∀ (h : Fin 8) (j : Fin 32), val_main_v33 (F := Ideal) x4 (ix4 b s h j) = x4 (ix2 s j) := fun h j => by
    rw [val_main_v33_apply, val_main_v25_apply]
    exact congrArg x4 (by funext a; fin_cases a <;> rfl)
  have u : ∀ (h : Fin 8) (j : Fin 32), val_main_v30 (F := Ideal) x0 x1 x2 x3 x4 (ix4 b s h j) = R x0 x1 x2 x3 x4 b s (1792 + (h : ℕ) * 64 + j) := fun h j => by
    rw [val_main_v30_apply, val_main_v27_apply, val_main_v29_apply, lo, hi, c1, c2]
    exact (rope_lo (Y x0 x1 x2 b s) (fun l => x3 (ix2 s l)) (fun l => x4 (ix2 s l)) (1792 + (h : ℕ) * 64) (by omega) j).symm
  have v : ∀ (h : Fin 8) (j : Fin 32), val_main_v35 (F := Ideal) x0 x1 x2 x3 x4 (ix4 b s h j) = R x0 x1 x2 x3 x4 b s (1792 + (h : ℕ) * 64 + (32 + j)) := fun h j => by
    rw [val_main_v35_apply, val_main_v32_apply, val_main_v34_apply, lo, hi, c3, c4, ← Nat.add_assoc]
    exact (rope_hi (Y x0 x1 x2 b s) (fun l => x3 (ix2 s l)) (fun l => x4 (ix2 s l)) (1792 + (h : ℕ) * 64) (by omega) j).symm
  have e0 : idx_main_v37 (ix3 b s e) = ix4 b s ⟨(e : ℕ) / 64, by omega⟩ ⟨(e : ℕ) % 64, by omega⟩ := by
    funext a; fin_cases a <;> (apply Fin.ext; simp; try omega)
  rw [val_main_v37_apply, e0]
  unfold val_main_v36
  refine (head8 _ _ _ (fun n => R x0 x1 x2 x3 x4 b s (1792 + ((e : ℕ) / 64) * 64 + n)) b s ⟨(e : ℕ) / 64, by omega⟩ (u _) (v _) _).trans ?_
  exact congrArg (R x0 x1 x2 x3 x4 b s) (by show 1792 + (e : ℕ) / 64 * 64 + (e : ℕ) % 64 = 1792 + (e : ℕ); omega)

/-- Rotated, 512 columns from column 0. -/
theorem rot73 (b : Fin 8) (s : Fin 2048) (e : Fin 512) : val_main_v73 (F := Ideal) x0 x1 x2 x3 x4 (ix3 b s e) = R x0 x1 x2 x3 x4 b s (0 + e) := by
  have hb := b.isLt
  have hs := s.isLt
  have he := e.isLt
  have lo : ∀ (h : Fin 8) (j : Fin 32), val_main_v58 (F := Ideal) x0 x1 x2 (ix4 b s h j) = Y x0 x1 x2 b s (0 + (h : ℕ) * 64 + j) := fun h j => by
    have hh := h.isLt
    have hj := j.isLt
    have e0 : idx_main_v57 (idx_main_v58 (ix4 b s h j)) = ix3 b s ⟨(h : ℕ) * 64 + j, by omega⟩ := by
      funext a; fin_cases a <;> (apply Fin.ext; simp; try omega)
    rw [val_main_v58_apply, val_main_v57_apply, e0, at56]
    exact congrArg (Y x0 x1 x2 b s) (Nat.add_assoc _ _ _).symm
  have hi : ∀ (h : Fin 8) (j : Fin 32), val_main_v59 (F := Ideal) x0 x1 x2 (ix4 b s h j) = Y x0 x1 x2 b s (0 + (h : ℕ) * 64 + 32 + j) := fun h j => by
    have hh := h.isLt
    have hj := j.isLt
    have e0 : idx_main_v57 (idx_main_v59 (ix4 b s h j)) = ix3 b s ⟨(h : ℕ) * 64 + 32 + j, by omega⟩ := by
      funext a; fin_cases a <;> (apply Fin.ext; simp; try omega)
    rw [val_main_v59_apply, val_main_v57_apply, e0, at56]
    exact congrArg (Y x0 x1 x2 b s) (by show 0 + ((h : ℕ) * 64 + 32 + (j : ℕ)) = 0 + (h : ℕ) * 64 + 32 + (j : ℕ); omega)
  have c1 : ∀ (h : Fin 8) (j : Fin 32), val_main_v62 (F := Ideal) x3 (ix4 b s h j) = x3 (ix2 s j) := fun h j => by
    rw [val_main_v62_apply, val_main_v60_apply]
    exact congrArg x3 (by funext a; fin_cases a <;> rfl)
  have c2 : ∀ (h : Fin 8) (j : Fin 32), val_main_v64 (F := Ideal) x4 (ix4 b s h j) = x4 (ix2 s j) := fun h j => by
    rw [val_main_v64_apply, val_main_v61_apply]
    exact congrArg x4 (by funext a; fin_cases a <;> rfl)
  have c3 : ∀ (h : Fin 8) (j : Fin 32), val_main_v67 (F := Ideal) x3 (ix4 b s h j) = x3 (ix2 s j) := fun h j => by
    rw [val_main_v67_apply, val_main_v60_apply]
    exact congrArg x3 (by funext a; fin_cases a <;> rfl)
  have c4 : ∀ (h : Fin 8) (j : Fin 32), val_main_v69 (F := Ideal) x4 (ix4 b s h j) = x4 (ix2 s j) := fun h j => by
    rw [val_main_v69_apply, val_main_v61_apply]
    exact congrArg x4 (by funext a; fin_cases a <;> rfl)
  have u : ∀ (h : Fin 8) (j : Fin 32), val_main_v66 (F := Ideal) x0 x1 x2 x3 x4 (ix4 b s h j) = R x0 x1 x2 x3 x4 b s (0 + (h : ℕ) * 64 + j) := fun h j => by
    rw [val_main_v66_apply, val_main_v63_apply, val_main_v65_apply, lo, hi, c1, c2]
    exact (rope_lo (Y x0 x1 x2 b s) (fun l => x3 (ix2 s l)) (fun l => x4 (ix2 s l)) (0 + (h : ℕ) * 64) (by omega) j).symm
  have v : ∀ (h : Fin 8) (j : Fin 32), val_main_v71 (F := Ideal) x0 x1 x2 x3 x4 (ix4 b s h j) = R x0 x1 x2 x3 x4 b s (0 + (h : ℕ) * 64 + (32 + j)) := fun h j => by
    rw [val_main_v71_apply, val_main_v68_apply, val_main_v70_apply, lo, hi, c3, c4, ← Nat.add_assoc]
    exact (rope_hi (Y x0 x1 x2 b s) (fun l => x3 (ix2 s l)) (fun l => x4 (ix2 s l)) (0 + (h : ℕ) * 64) (by omega) j).symm
  have e0 : idx_main_v73 (ix3 b s e) = ix4 b s ⟨(e : ℕ) / 64, by omega⟩ ⟨(e : ℕ) % 64, by omega⟩ := by
    funext a; fin_cases a <;> (apply Fin.ext; simp; try omega)
  rw [val_main_v73_apply, e0]
  unfold val_main_v72
  refine (head8 _ _ _ (fun n => R x0 x1 x2 x3 x4 b s (0 + ((e : ℕ) / 64) * 64 + n)) b s ⟨(e : ℕ) / 64, by omega⟩ (u _) (v _) _).trans ?_
  exact congrArg (R x0 x1 x2 x3 x4 b s) (by show 0 + (e : ℕ) / 64 * 64 + (e : ℕ) % 64 = 0 + (e : ℕ); omega)

/-- Rotated, 128 columns from column 768. -/
theorem rot100 (b : Fin 8) (s : Fin 2048) (e : Fin 128) : val_main_v100 (F := Ideal) x0 x1 x2 x3 x4 (ix3 b s e) = R x0 x1 x2 x3 x4 b s (768 + e) := by
  have hb := b.isLt
  have hs := s.isLt
  have he := e.isLt
  have lo : ∀ (h : Fin 2) (j : Fin 32), val_main_v85 (F := Ideal) x0 x1 x2 (ix4 b s h j) = Y x0 x1 x2 b s (768 + (h : ℕ) * 64 + j) := fun h j => by
    have hh := h.isLt
    have hj := j.isLt
    have e0 : idx_main_v84 (idx_main_v85 (ix4 b s h j)) = ix3 b s ⟨(h : ℕ) * 64 + j, by omega⟩ := by
      funext a; fin_cases a <;> (apply Fin.ext; simp; try omega)
    rw [val_main_v85_apply, val_main_v84_apply, e0, at40]
    exact congrArg (Y x0 x1 x2 b s) (Nat.add_assoc _ _ _).symm
  have hi : ∀ (h : Fin 2) (j : Fin 32), val_main_v86 (F := Ideal) x0 x1 x2 (ix4 b s h j) = Y x0 x1 x2 b s (768 + (h : ℕ) * 64 + 32 + j) := fun h j => by
    have hh := h.isLt
    have hj := j.isLt
    have e0 : idx_main_v84 (idx_main_v86 (ix4 b s h j)) = ix3 b s ⟨(h : ℕ) * 64 + 32 + j, by omega⟩ := by
      funext a; fin_cases a <;> (apply Fin.ext; simp; try omega)
    rw [val_main_v86_apply, val_main_v84_apply, e0, at40]
    exact congrArg (Y x0 x1 x2 b s) (by show 768 + ((h : ℕ) * 64 + 32 + (j : ℕ)) = 768 + (h : ℕ) * 64 + 32 + (j : ℕ); omega)
  have c1 : ∀ (h : Fin 2) (j : Fin 32), val_main_v89 (F := Ideal) x3 (ix4 b s h j) = x3 (ix2 s j) := fun h j => by
    rw [val_main_v89_apply, val_main_v87_apply]
    exact congrArg x3 (by funext a; fin_cases a <;> rfl)
  have c2 : ∀ (h : Fin 2) (j : Fin 32), val_main_v91 (F := Ideal) x4 (ix4 b s h j) = x4 (ix2 s j) := fun h j => by
    rw [val_main_v91_apply, val_main_v88_apply]
    exact congrArg x4 (by funext a; fin_cases a <;> rfl)
  have c3 : ∀ (h : Fin 2) (j : Fin 32), val_main_v94 (F := Ideal) x3 (ix4 b s h j) = x3 (ix2 s j) := fun h j => by
    rw [val_main_v94_apply, val_main_v87_apply]
    exact congrArg x3 (by funext a; fin_cases a <;> rfl)
  have c4 : ∀ (h : Fin 2) (j : Fin 32), val_main_v96 (F := Ideal) x4 (ix4 b s h j) = x4 (ix2 s j) := fun h j => by
    rw [val_main_v96_apply, val_main_v88_apply]
    exact congrArg x4 (by funext a; fin_cases a <;> rfl)
  have u : ∀ (h : Fin 2) (j : Fin 32), val_main_v93 (F := Ideal) x0 x1 x2 x3 x4 (ix4 b s h j) = R x0 x1 x2 x3 x4 b s (768 + (h : ℕ) * 64 + j) := fun h j => by
    rw [val_main_v93_apply, val_main_v90_apply, val_main_v92_apply, lo, hi, c1, c2]
    exact (rope_lo (Y x0 x1 x2 b s) (fun l => x3 (ix2 s l)) (fun l => x4 (ix2 s l)) (768 + (h : ℕ) * 64) (by omega) j).symm
  have v : ∀ (h : Fin 2) (j : Fin 32), val_main_v98 (F := Ideal) x0 x1 x2 x3 x4 (ix4 b s h j) = R x0 x1 x2 x3 x4 b s (768 + (h : ℕ) * 64 + (32 + j)) := fun h j => by
    rw [val_main_v98_apply, val_main_v95_apply, val_main_v97_apply, lo, hi, c3, c4, ← Nat.add_assoc]
    exact (rope_hi (Y x0 x1 x2 b s) (fun l => x3 (ix2 s l)) (fun l => x4 (ix2 s l)) (768 + (h : ℕ) * 64) (by omega) j).symm
  have e0 : idx_main_v100 (ix3 b s e) = ix4 b s ⟨(e : ℕ) / 64, by omega⟩ ⟨(e : ℕ) % 64, by omega⟩ := by
    funext a; fin_cases a <;> (apply Fin.ext; simp; try omega)
  rw [val_main_v100_apply, e0]
  unfold val_main_v99
  refine (head2 _ _ _ (fun n => R x0 x1 x2 x3 x4 b s (768 + ((e : ℕ) / 64) * 64 + n)) b s ⟨(e : ℕ) / 64, by omega⟩ (u _) (v _) _).trans ?_
  exact congrArg (R x0 x1 x2 x3 x4 b s) (by show 768 + (e : ℕ) / 64 * 64 + (e : ℕ) % 64 = 768 + (e : ℕ); omega)

/-- Rotated, 128 columns from column 1024. -/
theorem rot117 (b : Fin 8) (s : Fin 2048) (e : Fin 128) : val_main_v117 (F := Ideal) x0 x1 x2 x3 x4 (ix3 b s e) = R x0 x1 x2 x3 x4 b s (1024 + e) := by
  have hb := b.isLt
  have hs := s.isLt
  have he := e.isLt
  have lo : ∀ (h : Fin 2) (j : Fin 32), val_main_v102 (F := Ideal) x0 x1 x2 (ix4 b s h j) = Y x0 x1 x2 b s (1024 + (h : ℕ) * 64 + j) := fun h j => by
    have hh := h.isLt
    have hj := j.isLt
    have e0 : idx_main_v101 (idx_main_v102 (ix4 b s h j)) = ix3 b s ⟨(h : ℕ) * 64 + j, by omega⟩ := by
      funext a; fin_cases a <;> (apply Fin.ext; simp; try omega)
    rw [val_main_v102_apply, val_main_v101_apply, e0, at46]
    exact congrArg (Y x0 x1 x2 b s) (Nat.add_assoc _ _ _).symm
  have hi : ∀ (h : Fin 2) (j : Fin 32), val_main_v103 (F := Ideal) x0 x1 x2 (ix4 b s h j) = Y x0 x1 x2 b s (1024 + (h : ℕ) * 64 + 32 + j) := fun h j => by
    have hh := h.isLt
    have hj := j.isLt
    have e0 : idx_main_v101 (idx_main_v103 (ix4 b s h j)) = ix3 b s ⟨(h : ℕ) * 64 + 32 + j, by omega⟩ := by
      funext a; fin_cases a <;> (apply Fin.ext; simp; try omega)
    rw [val_main_v103_apply, val_main_v101_apply, e0, at46]
    exact congrArg (Y x0 x1 x2 b s) (by show 1024 + ((h : ℕ) * 64 + 32 + (j : ℕ)) = 1024 + (h : ℕ) * 64 + 32 + (j : ℕ); omega)
  have c1 : ∀ (h : Fin 2) (j : Fin 32), val_main_v106 (F := Ideal) x3 (ix4 b s h j) = x3 (ix2 s j) := fun h j => by
    rw [val_main_v106_apply, val_main_v104_apply]
    exact congrArg x3 (by funext a; fin_cases a <;> rfl)
  have c2 : ∀ (h : Fin 2) (j : Fin 32), val_main_v108 (F := Ideal) x4 (ix4 b s h j) = x4 (ix2 s j) := fun h j => by
    rw [val_main_v108_apply, val_main_v105_apply]
    exact congrArg x4 (by funext a; fin_cases a <;> rfl)
  have c3 : ∀ (h : Fin 2) (j : Fin 32), val_main_v111 (F := Ideal) x3 (ix4 b s h j) = x3 (ix2 s j) := fun h j => by
    rw [val_main_v111_apply, val_main_v104_apply]
    exact congrArg x3 (by funext a; fin_cases a <;> rfl)
  have c4 : ∀ (h : Fin 2) (j : Fin 32), val_main_v113 (F := Ideal) x4 (ix4 b s h j) = x4 (ix2 s j) := fun h j => by
    rw [val_main_v113_apply, val_main_v105_apply]
    exact congrArg x4 (by funext a; fin_cases a <;> rfl)
  have u : ∀ (h : Fin 2) (j : Fin 32), val_main_v110 (F := Ideal) x0 x1 x2 x3 x4 (ix4 b s h j) = R x0 x1 x2 x3 x4 b s (1024 + (h : ℕ) * 64 + j) := fun h j => by
    rw [val_main_v110_apply, val_main_v107_apply, val_main_v109_apply, lo, hi, c1, c2]
    exact (rope_lo (Y x0 x1 x2 b s) (fun l => x3 (ix2 s l)) (fun l => x4 (ix2 s l)) (1024 + (h : ℕ) * 64) (by omega) j).symm
  have v : ∀ (h : Fin 2) (j : Fin 32), val_main_v115 (F := Ideal) x0 x1 x2 x3 x4 (ix4 b s h j) = R x0 x1 x2 x3 x4 b s (1024 + (h : ℕ) * 64 + (32 + j)) := fun h j => by
    rw [val_main_v115_apply, val_main_v112_apply, val_main_v114_apply, lo, hi, c3, c4, ← Nat.add_assoc]
    exact (rope_hi (Y x0 x1 x2 b s) (fun l => x3 (ix2 s l)) (fun l => x4 (ix2 s l)) (1024 + (h : ℕ) * 64) (by omega) j).symm
  have e0 : idx_main_v117 (ix3 b s e) = ix4 b s ⟨(e : ℕ) / 64, by omega⟩ ⟨(e : ℕ) % 64, by omega⟩ := by
    funext a; fin_cases a <;> (apply Fin.ext; simp; try omega)
  rw [val_main_v117_apply, e0]
  unfold val_main_v116
  refine (head2 _ _ _ (fun n => R x0 x1 x2 x3 x4 b s (1024 + ((e : ℕ) / 64) * 64 + n)) b s ⟨(e : ℕ) / 64, by omega⟩ (u _) (v _) _).trans ?_
  exact congrArg (R x0 x1 x2 x3 x4 b s) (by show 1024 + (e : ℕ) / 64 * 64 + (e : ℕ) % 64 = 1024 + (e : ℕ); omega)

/-- Rotated, 512 columns from column 1280. -/
theorem rot142 (b : Fin 8) (s : Fin 2048) (e : Fin 512) : val_main_v142 (F := Ideal) x0 x1 x2 x3 x4 (ix3 b s e) = R x0 x1 x2 x3 x4 b s (1280 + e) := by
  have hb := b.isLt
  have hs := s.isLt
  have he := e.isLt
  have lo : ∀ (h : Fin 8) (j : Fin 32), val_main_v127 (F := Ideal) x0 x1 x2 (ix4 b s h j) = Y x0 x1 x2 b s (1280 + (h : ℕ) * 64 + j) := fun h j => by
    have hh := h.isLt
    have hj := j.isLt
    have e0 : idx_main_v126 (idx_main_v127 (ix4 b s h j)) = ix3 b s ⟨(h : ℕ) * 64 + j, by omega⟩ := by
      funext a; fin_cases a <;> (apply Fin.ext; simp; try omega)
    rw [val_main_v127_apply, val_main_v126_apply, e0, at125]
    exact congrArg (Y x0 x1 x2 b s) (Nat.add_assoc _ _ _).symm
  have hi : ∀ (h : Fin 8) (j : Fin 32), val_main_v128 (F := Ideal) x0 x1 x2 (ix4 b s h j) = Y x0 x1 x2 b s (1280 + (h : ℕ) * 64 + 32 + j) := fun h j => by
    have hh := h.isLt
    have hj := j.isLt
    have e0 : idx_main_v126 (idx_main_v128 (ix4 b s h j)) = ix3 b s ⟨(h : ℕ) * 64 + 32 + j, by omega⟩ := by
      funext a; fin_cases a <;> (apply Fin.ext; simp; try omega)
    rw [val_main_v128_apply, val_main_v126_apply, e0, at125]
    exact congrArg (Y x0 x1 x2 b s) (by show 1280 + ((h : ℕ) * 64 + 32 + (j : ℕ)) = 1280 + (h : ℕ) * 64 + 32 + (j : ℕ); omega)
  have c1 : ∀ (h : Fin 8) (j : Fin 32), val_main_v131 (F := Ideal) x3 (ix4 b s h j) = x3 (ix2 s j) := fun h j => by
    rw [val_main_v131_apply, val_main_v129_apply]
    exact congrArg x3 (by funext a; fin_cases a <;> rfl)
  have c2 : ∀ (h : Fin 8) (j : Fin 32), val_main_v133 (F := Ideal) x4 (ix4 b s h j) = x4 (ix2 s j) := fun h j => by
    rw [val_main_v133_apply, val_main_v130_apply]
    exact congrArg x4 (by funext a; fin_cases a <;> rfl)
  have c3 : ∀ (h : Fin 8) (j : Fin 32), val_main_v136 (F := Ideal) x3 (ix4 b s h j) = x3 (ix2 s j) := fun h j => by
    rw [val_main_v136_apply, val_main_v129_apply]
    exact congrArg x3 (by funext a; fin_cases a <;> rfl)
  have c4 : ∀ (h : Fin 8) (j : Fin 32), val_main_v138 (F := Ideal) x4 (ix4 b s h j) = x4 (ix2 s j) := fun h j => by
    rw [val_main_v138_apply, val_main_v130_apply]
    exact congrArg x4 (by funext a; fin_cases a <;> rfl)
  have u : ∀ (h : Fin 8) (j : Fin 32), val_main_v135 (F := Ideal) x0 x1 x2 x3 x4 (ix4 b s h j) = R x0 x1 x2 x3 x4 b s (1280 + (h : ℕ) * 64 + j) := fun h j => by
    rw [val_main_v135_apply, val_main_v132_apply, val_main_v134_apply, lo, hi, c1, c2]
    exact (rope_lo (Y x0 x1 x2 b s) (fun l => x3 (ix2 s l)) (fun l => x4 (ix2 s l)) (1280 + (h : ℕ) * 64) (by omega) j).symm
  have v : ∀ (h : Fin 8) (j : Fin 32), val_main_v140 (F := Ideal) x0 x1 x2 x3 x4 (ix4 b s h j) = R x0 x1 x2 x3 x4 b s (1280 + (h : ℕ) * 64 + (32 + j)) := fun h j => by
    rw [val_main_v140_apply, val_main_v137_apply, val_main_v139_apply, lo, hi, c3, c4, ← Nat.add_assoc]
    exact (rope_hi (Y x0 x1 x2 b s) (fun l => x3 (ix2 s l)) (fun l => x4 (ix2 s l)) (1280 + (h : ℕ) * 64) (by omega) j).symm
  have e0 : idx_main_v142 (ix3 b s e) = ix4 b s ⟨(e : ℕ) / 64, by omega⟩ ⟨(e : ℕ) % 64, by omega⟩ := by
    funext a; fin_cases a <;> (apply Fin.ext; simp; try omega)
  rw [val_main_v142_apply, e0]
  unfold val_main_v141
  refine (head8 _ _ _ (fun n => R x0 x1 x2 x3 x4 b s (1280 + ((e : ℕ) / 64) * 64 + n)) b s ⟨(e : ℕ) / 64, by omega⟩ (u _) (v _) _).trans ?_
  exact congrArg (R x0 x1 x2 x3 x4 b s) (by show 1280 + (e : ℕ) / 64 * 64 + (e : ℕ) % 64 = 1280 + (e : ℕ); omega)

theorem el5 (b : Fin 8) (u : Fin 512) (v : Fin 2048) : val_main_v77 (F := Ideal) x0 x1 x2 x3 x4 (ix3 b u v) = G5 x0 x1 x2 x3 x4 (ix3 b u v) := by
  have e0 : idx_main_v76 (ix3 b u v) = ix3 b v u := by funext a; fin_cases a <;> rfl
  rw [val_main_v77_apply, val_main_v76_apply, e0, val_main_v75_apply, val_main_v74_apply, val_main_cst_4_apply, rot73]
  rfl
theorem result5 : val_main_v77 (F := Ideal) x0 x1 x2 x3 x4 = G5 x0 x1 x2 x3 x4 := by
  funext i
  have hi : i = ix3 (i 0) (i 1) (i 2) := by funext a; fin_cases a <;> rfl
  rw [hi]
  exact el5 x0 x1 x2 x3 x4 (i 0) (i 1) (i 2)
theorem el6 (b : Fin 8) (u : Fin 2048) (v : Fin 128) : val_main_v80 (F := Ideal) x0 x1 x2 (ix3 b u v) = G6 x0 x1 x2 (ix3 b u v) := by
  exact at80 x0 x1 x2 b u v
theorem result6 : val_main_v80 (F := Ideal) x0 x1 x2 = G6 x0 x1 x2 := by
  funext i
  have hi : i = ix3 (i 0) (i 1) (i 2) := by funext a; fin_cases a <;> rfl
  rw [hi]
  exact el6 x0 x1 x2 (i 0) (i 1) (i 2)
theorem el7 (b : Fin 8) (u : Fin 2048) (v : Fin 128) : val_main_v83 (F := Ideal) x0 x1 x2 (ix3 b u v) = G7 x0 x1 x2 (ix3 b u v) := by
  exact at83 x0 x1 x2 b u v
theorem result7 : val_main_v83 (F := Ideal) x0 x1 x2 = G7 x0 x1 x2 := by
  funext i
  have hi : i = ix3 (i 0) (i 1) (i 2) := by funext a; fin_cases a <;> rfl
  rw [hi]
  exact el7 x0 x1 x2 (i 0) (i 1) (i 2)
theorem el8 (b : Fin 8) (u : Fin 2048) (v : Fin 256) : val_main_v119 (F := Ideal) x0 x1 x2 x3 x4 (ix3 b u v) = G8 x0 x1 x2 x3 x4 (ix3 b u v) := by
  rw [val_main_v119_apply]
  unfold val_main_v118
  exact both _ _ _ (fun n => R x0 x1 x2 x3 x4 b u (if n < 128 then 768 + n else 896 + n)) b u
    (fun e => (rot100 x0 x1 x2 x3 x4 b u e).trans (congrArg (R x0 x1 x2 x3 x4 b u) (if_pos e.isLt).symm))
    (fun e => (rot117 x0 x1 x2 x3 x4 b u e).trans (congrArg (R x0 x1 x2 x3 x4 b u) ((if_neg (by omega)).trans (by omega)).symm)) v
theorem result8 : val_main_v119 (F := Ideal) x0 x1 x2 x3 x4 = G8 x0 x1 x2 x3 x4 := by
  funext i
  have hi : i = ix3 (i 0) (i 1) (i 2) := by funext a; fin_cases a <;> rfl
  rw [hi]
  exact el8 x0 x1 x2 x3 x4 (i 0) (i 1) (i 2)
theorem el9 (b : Fin 8) (u : Fin 256) (v : Fin 2048) : val_main_v122 (F := Ideal) x0 x1 x2 (ix3 b u v) = G9 x0 x1 x2 (ix3 b u v) := by
  have e0 : idx_main_v121 (ix3 b u v) = ix3 b v u := by funext a; fin_cases a <;> rfl
  rw [val_main_v122_apply, val_main_v121_apply, e0]
  unfold val_main_v120
  exact both _ _ _ (fun n => Y x0 x1 x2 b v (if n < 128 then 896 + n else 1024 + n)) b v
    (fun e => (at43 x0 x1 x2 b v e).trans (congrArg (Y x0 x1 x2 b v) (if_pos e.isLt).symm))
    (fun e => (at49 x0 x1 x2 b v e).trans (congrArg (Y x0 x1 x2 b v) ((if_neg (by omega)).trans (by omega)).symm)) u
theorem result9 : val_main_v122 (F := Ideal) x0 x1 x2 = G9 x0 x1 x2 := by
  funext i
  have hi : i = ix3 (i 0) (i 1) (i 2) := by funext a; fin_cases a <;> rfl
  rw [hi]
  exact el9 x0 x1 x2 (i 0) (i 1) (i 2)
theorem el10 (b : Fin 8) (u : Fin 512) (v : Fin 2048) : val_main_v146 (F := Ideal) x0 x1 x2 x3 x4 (ix3 b u v) = G10 x0 x1 x2 x3 x4 (ix3 b u v) := by
  have e0 : idx_main_v145 (ix3 b u v) = ix3 b v u := by funext a; fin_cases a <;> rfl
  rw [val_main_v146_apply, val_main_v145_apply, e0, val_main_v144_apply, val_main_v143_apply, val_main_cst_5_apply, rot142]
  rfl
theorem result10 : val_main_v146 (F := Ideal) x0 x1 x2 x3 x4 = G10 x0 x1 x2 x3 x4 := by
  funext i
  have hi : i = ix3 (i 0) (i 1) (i 2) := by funext a; fin_cases a <;> rfl
  rw [hi]
  exact el10 x0 x1 x2 x3 x4 (i 0) (i 1) (i 2)
theorem el11 (b : Fin 8) (u : Fin 2048) (v : Fin 512) : val_main_v147 (F := Ideal) x0 x1 x2 x3 x4 (ix3 b u v) = G11 x0 x1 x2 x3 x4 (ix3 b u v) := by
  rw [val_main_v147_apply, rot37]
  rfl
theorem result11 : val_main_v147 (F := Ideal) x0 x1 x2 x3 x4 = G11 x0 x1 x2 x3 x4 := by
  funext i
  have hi : i = ix3 (i 0) (i 1) (i 2) := by funext a; fin_cases a <;> rfl
  rw [hi]
  exact el11 x0 x1 x2 x3 x4 (i 0) (i 1) (i 2)
theorem el12 (b : Fin 8) (u : Fin 512) (v : Fin 2048) : val_main_v152 (F := Ideal) x0 x1 x2 (ix3 b u v) = G12 x0 x1 x2 (ix3 b u v) := by
  have e0 : idx_main_v151 (ix3 b u v) = ix3 b v u := by funext a; fin_cases a <;> rfl
  rw [val_main_v152_apply, val_main_v151_apply, e0, at150]
  rfl
theorem result12 : val_main_v152 (F := Ideal) x0 x1 x2 = G12 x0 x1 x2 := by
  funext i
  have hi : i = ix3 (i 0) (i 1) (i 2) := by funext a; fin_cases a <;> rfl
  rw [hi]
  exact el12 x0 x1 x2 (i 0) (i 1) (i 2)
theorem el13 (b : Fin 8) (u : Fin 128) (v : Fin 2048) : val_main_v162 (F := Ideal) x0 x1 x2 (ix3 b u v) = G13 x0 x1 x2 (ix3 b u v) := by
  have e0 : idx_main_v162 (ix3 b u v) = ix3 b v u := by funext a; fin_cases a <;> rfl
  rw [val_main_v162_apply, e0, val_main_v161_apply, val_main_v160_apply, val_main_v159_apply, val_main_v158_apply, val_main_v157_apply,
    val_main_v156_apply, val_main_cst_6_apply, val_main_cst_7_apply, at155]
  rw [show (FloatOps.ofBits (F := Ideal) .f32 0x3F800000#32) = (1 : EReal) from Ideal.ofBits_one_f32]
  rfl
theorem result13 : val_main_v162 (F := Ideal) x0 x1 x2 = G13 x0 x1 x2 := by
  funext i
  have hi : i = ix3 (i 0) (i 1) (i 2) := by funext a; fin_cases a <;> rfl
  rw [hi]
  exact el13 x0 x1 x2 (i 0) (i 1) (i 2)
theorem at53 (b : Fin 16) (u : Fin 4) (v : Fin 512) : val_main_v53 (F := Ideal) x0 x1 x2 x3 x4 (ix3 b u v) = G14 x0 x1 x2 x3 x4 (ix3 b u v) := by
  have hb := b.isLt
  have hu := u.isLt
  have hv := v.isLt
  have e : ∀ k : Fin 256, val_main_v50 (F := Ideal) x0 x1 x2 x3 x4 (idx_main_v51 (ix3 b u v) k) = R x0 x1 x2 x3 x4 (half2 b) (spot b u k) (1792 + v) := fun k => by
    have hk := k.isLt
    have e0 : idx_main_v50 (idx_main_v51 (ix3 b u v) k) = ix3 (half2 b) (spot b u k) v := by
      funext a; fin_cases a <;> (apply Fin.ext; simp [half2, spot]; try omega)
    rw [val_main_v50_apply, e0, rot37]
  rw [val_main_v53_apply, val_main_v52_apply, val_main_v51_apply, val_main_cst_2_apply, val_main_cst_3_apply]
  simp only [e]
  rw [show (FloatOps.ofBits (F := Ideal) .f32 0x00000000#32) = (0 : EReal) from Ideal.ofBits_zero_f32, zero_add]
  rfl
theorem result14 : val_main_v53 (F := Ideal) x0 x1 x2 x3 x4 = G14 x0 x1 x2 x3 x4 := by
  funext i
  have hi : i = ix3 (i 0) (i 1) (i 2) := by funext a; fin_cases a <;> rfl
  rw [hi]
  exact at53 x0 x1 x2 x3 x4 (i 0) (i 1) (i 2)

end Cert.ProjFirstReferenceIdeal.Hand

end
-- ==== Proof.MobaEven.lean ====
module

public import proofs.«01_k».proof.Proof.Gen.KernelIdeal.Loops

@[expose] public section

set_option maxRecDepth 65536

noncomputable section

namespace Cert.KernelIdeal.Hand

open Idealize.ShloMosaic Idealize.ShloMosaic.TcCoe Idealize.ShloMosaic.Tactic Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The slot the diagonal block's scores are read from at such a grid point. -/
theorem off53_even (i : grid0.Coords) (hc : ¬ k0_cond1 i = 1#1) : k0_off53 i = ![0, 0, 0, 0] := by
  revert hc; unfold k0_off53 k0_cond1; generalize i 1 = x; revert x; decide +kernel

instance closed53_even (i : grid0.Coords) [h : Fact (¬ k0_cond1 i = 1#1)] : ClosedOff (k0_off53 i) := ⟨![0, 0, 0, 0], off53_even i h.out⟩

/-- The slot the diagonal block's scores are read from at such a grid point. -/
theorem off55_even (i : grid0.Coords) (hc : ¬ k0_cond1 i = 1#1) : k0_off55 i = ![0, 1, 0, 0] := by
  revert hc; unfold k0_off55 k0_cond1; generalize i 1 = x; revert x; decide +kernel

instance closed55_even (i : grid0.Coords) [h : Fact (¬ k0_cond1 i = 1#1)] : ClosedOff (k0_off55 i) := ⟨![0, 1, 0, 0], off55_even i h.out⟩

/-- The slot the diagonal block's scores are read from at such a grid point. -/
theorem off57_even (i : grid0.Coords) (hc : ¬ k0_cond1 i = 1#1) : k0_off57 i = ![0, 2, 0, 0] := by
  revert hc; unfold k0_off57 k0_cond1; generalize i 1 = x; revert x; decide +kernel

instance closed57_even (i : grid0.Coords) [h : Fact (¬ k0_cond1 i = 1#1)] : ClosedOff (k0_off57 i) := ⟨![0, 2, 0, 0], off57_even i h.out⟩

/-- The slot the diagonal block's scores are read from at such a grid point. -/
theorem off59_even (i : grid0.Coords) (hc : ¬ k0_cond1 i = 1#1) : k0_off59 i = ![0, 3, 0, 0] := by
  revert hc; unfold k0_off59 k0_cond1; generalize i 1 = x; revert x; decide +kernel

instance closed59_even (i : grid0.Coords) [h : Fact (¬ k0_cond1 i = 1#1)] : ClosedOff (k0_off59 i) := ⟨![0, 3, 0, 0], off59_even i h.out⟩

/-- The slot the diagonal block's scores are read from at such a grid point. -/
theorem off61_even (i : grid0.Coords) (hc : ¬ k0_cond1 i = 1#1) : k0_off61 i = ![0, 4, 0, 0] := by
  revert hc; unfold k0_off61 k0_cond1; generalize i 1 = x; revert x; decide +kernel

instance closed61_even (i : grid0.Coords) [h : Fact (¬ k0_cond1 i = 1#1)] : ClosedOff (k0_off61 i) := ⟨![0, 4, 0, 0], off61_even i h.out⟩

/-- The slot the diagonal block's scores are read from at such a grid point. -/
theorem off63_even (i : grid0.Coords) (hc : ¬ k0_cond1 i = 1#1) : k0_off63 i = ![0, 5, 0, 0] := by
  revert hc; unfold k0_off63 k0_cond1; generalize i 1 = x; revert x; decide +kernel

instance closed63_even (i : grid0.Coords) [h : Fact (¬ k0_cond1 i = 1#1)] : ClosedOff (k0_off63 i) := ⟨![0, 5, 0, 0], off63_even i h.out⟩

/-- The slot the diagonal block's scores are read from at such a grid point. -/
theorem off65_even (i : grid0.Coords) (hc : ¬ k0_cond1 i = 1#1) : k0_off65 i = ![0, 6, 0, 0] := by
  revert hc; unfold k0_off65 k0_cond1; generalize i 1 = x; revert x; decide +kernel

instance closed65_even (i : grid0.Coords) [h : Fact (¬ k0_cond1 i = 1#1)] : ClosedOff (k0_off65 i) := ⟨![0, 6, 0, 0], off65_even i h.out⟩

/-- The slot the diagonal block's scores are read from at such a grid point. -/
theorem off67_even (i : grid0.Coords) (hc : ¬ k0_cond1 i = 1#1) : k0_off67 i = ![0, 7, 0, 0] := by
  revert hc; unfold k0_off67 k0_cond1; generalize i 1 = x; revert x; decide +kernel

instance closed67_even (i : grid0.Coords) [h : Fact (¬ k0_cond1 i = 1#1)] : ClosedOff (k0_off67 i) := ⟨![0, 7, 0, 0], off67_even i h.out⟩

set_option maxHeartbeats 0 in
/-- The attention's body at a grid point whose block number is even, on whole buffers of any contents: what it
    leaves in the output's buffer, as pieces, with the proof that it gives the four inputs back unchanged. -/
def runEven (c : Dev nD) (i : grid0.Coords) (arg2 : Memref sig .tc .vmem S1x512x256 .bf16) (harg2 : arg2.IsWhole) (arg3 : Memref sig .tc .vmem S1x2048x512 .bf16) (harg3 : arg3.IsWhole) (arg4 : Memref sig .tc .vmem S1x512x2048 .bf16) (harg4 : arg4.IsWhole) (arg5 : Memref sig .tc .vmem S1x8x512 .f32) (harg5 : arg5.IsWhole) (arg6 : Memref sig .tc .vmem S1x256x512 .bf16) (harg6 : arg6.IsWhole) (arg7 : Memref sig .tc .vmem S2x8x256x256 .f32) (harg7 : arg7.IsWhole) (arg8 : Memref sig .tc .vmem S8x1x256 .f32) (harg8 : arg8.IsWhole) (arg9 : Memref sig .tc .vmem S8x1x256 .f32) (harg9 : arg9.IsWhole) (arg10 : Memref sig .tc .vmem S512x256 .f32) (harg10 : arg10.IsWhole)
    (hc : ¬ k0_cond1 i = 1#1)
    (f2 : BufTy.Contents (Elt F) arg2.view.ty) (f3 : BufTy.Contents (Elt F) arg3.view.ty) (f4 : BufTy.Contents (Elt F) arg4.view.ty) (f5 : BufTy.Contents (Elt F) arg5.view.ty)
    (f7 : BufTy.Contents (Elt F) arg7.view.ty) (f8 : BufTy.Contents (Elt F) arg8.view.ty) (f9 : BufTy.Contents (Elt F) arg9.view.ty) (f10 : BufTy.Contents (Elt F) arg10.view.ty) :
    { L6 : List (View.Piece (Elt F) S1x256x512 .bf16) //
      ∀ (E : Set ℕ) (f6 : BufTy.Contents (Elt F) arg6.view.ty) (K : PUnit → sProp 𝕄),
        iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10)
            ∗ (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} arg6.view.writes (Elt F) f6 L6) ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f))) -∗ K ⟨⟩))
          ⊢ wp frame (wpE (defs₀ (F := F)) Variants.none c none) E (cc0_moba i arg2 harg2 arg3 harg3 arg4 harg4 arg5 harg5 arg6 harg6 arg7 harg7 arg8 harg8 arg9 harg9 arg10 harg10) K } := by
  refine ⟨?_, fun E f6 K => ?run⟩
  case run =>
    haveI : Fact (¬ k0_cond1 i = 1#1) := ⟨hc⟩
    simp only [cc0_moba_eq_skeleton]; unfold cc0_moba_skel
    iintro ⟨H2, H3, H4, H5, H6, H7, H8, H9, H10, Hk⟩
    sl_exec_parts (disch := exact hc)
    sl_step
    iapply Hk
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    iexists _; iexact H10

end Cert.KernelIdeal.Hand

end
-- ==== Proof.MobaOdd.lean ====
module

public import proofs.«01_k».proof.Proof.Gen.KernelIdeal.Loops

@[expose] public section

set_option maxRecDepth 65536

noncomputable section

namespace Cert.KernelIdeal.Hand

open Idealize.ShloMosaic Idealize.ShloMosaic.TcCoe Idealize.ShloMosaic.Tactic Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The slot the diagonal block's scores are read from at such a grid point. -/
theorem off53_odd (i : grid0.Coords) (hc : k0_cond1 i = 1#1) : k0_off53 i = ![1, 0, 0, 0] := by
  revert hc; unfold k0_off53 k0_cond1; generalize i 1 = x; revert x; decide +kernel

instance closed53_odd (i : grid0.Coords) [h : Fact (k0_cond1 i = 1#1)] : ClosedOff (k0_off53 i) := ⟨![1, 0, 0, 0], off53_odd i h.out⟩

/-- The slot the diagonal block's scores are read from at such a grid point. -/
theorem off55_odd (i : grid0.Coords) (hc : k0_cond1 i = 1#1) : k0_off55 i = ![1, 1, 0, 0] := by
  revert hc; unfold k0_off55 k0_cond1; generalize i 1 = x; revert x; decide +kernel

instance closed55_odd (i : grid0.Coords) [h : Fact (k0_cond1 i = 1#1)] : ClosedOff (k0_off55 i) := ⟨![1, 1, 0, 0], off55_odd i h.out⟩

/-- The slot the diagonal block's scores are read from at such a grid point. -/
theorem off57_odd (i : grid0.Coords) (hc : k0_cond1 i = 1#1) : k0_off57 i = ![1, 2, 0, 0] := by
  revert hc; unfold k0_off57 k0_cond1; generalize i 1 = x; revert x; decide +kernel

instance closed57_odd (i : grid0.Coords) [h : Fact (k0_cond1 i = 1#1)] : ClosedOff (k0_off57 i) := ⟨![1, 2, 0, 0], off57_odd i h.out⟩

/-- The slot the diagonal block's scores are read from at such a grid point. -/
theorem off59_odd (i : grid0.Coords) (hc : k0_cond1 i = 1#1) : k0_off59 i = ![1, 3, 0, 0] := by
  revert hc; unfold k0_off59 k0_cond1; generalize i 1 = x; revert x; decide +kernel

instance closed59_odd (i : grid0.Coords) [h : Fact (k0_cond1 i = 1#1)] : ClosedOff (k0_off59 i) := ⟨![1, 3, 0, 0], off59_odd i h.out⟩

/-- The slot the diagonal block's scores are read from at such a grid point. -/
theorem off61_odd (i : grid0.Coords) (hc : k0_cond1 i = 1#1) : k0_off61 i = ![1, 4, 0, 0] := by
  revert hc; unfold k0_off61 k0_cond1; generalize i 1 = x; revert x; decide +kernel

instance closed61_odd (i : grid0.Coords) [h : Fact (k0_cond1 i = 1#1)] : ClosedOff (k0_off61 i) := ⟨![1, 4, 0, 0], off61_odd i h.out⟩

/-- The slot the diagonal block's scores are read from at such a grid point. -/
theorem off63_odd (i : grid0.Coords) (hc : k0_cond1 i = 1#1) : k0_off63 i = ![1, 5, 0, 0] := by
  revert hc; unfold k0_off63 k0_cond1; generalize i 1 = x; revert x; decide +kernel

instance closed63_odd (i : grid0.Coords) [h : Fact (k0_cond1 i = 1#1)] : ClosedOff (k0_off63 i) := ⟨![1, 5, 0, 0], off63_odd i h.out⟩

/-- The slot the diagonal block's scores are read from at such a grid point. -/
theorem off65_odd (i : grid0.Coords) (hc : k0_cond1 i = 1#1) : k0_off65 i = ![1, 6, 0, 0] := by
  revert hc; unfold k0_off65 k0_cond1; generalize i 1 = x; revert x; decide +kernel

instance closed65_odd (i : grid0.Coords) [h : Fact (k0_cond1 i = 1#1)] : ClosedOff (k0_off65 i) := ⟨![1, 6, 0, 0], off65_odd i h.out⟩

/-- The slot the diagonal block's scores are read from at such a grid point. -/
theorem off67_odd (i : grid0.Coords) (hc : k0_cond1 i = 1#1) : k0_off67 i = ![1, 7, 0, 0] := by
  revert hc; unfold k0_off67 k0_cond1; generalize i 1 = x; revert x; decide +kernel

instance closed67_odd (i : grid0.Coords) [h : Fact (k0_cond1 i = 1#1)] : ClosedOff (k0_off67 i) := ⟨![1, 7, 0, 0], off67_odd i h.out⟩

set_option maxHeartbeats 0 in
/-- The attention's body at a grid point whose block number is odd, on whole buffers of any contents: what it
    leaves in the output's buffer, as pieces, with the proof that it gives the four inputs back unchanged. -/
def runOdd (c : Dev nD) (i : grid0.Coords) (arg2 : Memref sig .tc .vmem S1x512x256 .bf16) (harg2 : arg2.IsWhole) (arg3 : Memref sig .tc .vmem S1x2048x512 .bf16) (harg3 : arg3.IsWhole) (arg4 : Memref sig .tc .vmem S1x512x2048 .bf16) (harg4 : arg4.IsWhole) (arg5 : Memref sig .tc .vmem S1x8x512 .f32) (harg5 : arg5.IsWhole) (arg6 : Memref sig .tc .vmem S1x256x512 .bf16) (harg6 : arg6.IsWhole) (arg7 : Memref sig .tc .vmem S2x8x256x256 .f32) (harg7 : arg7.IsWhole) (arg8 : Memref sig .tc .vmem S8x1x256 .f32) (harg8 : arg8.IsWhole) (arg9 : Memref sig .tc .vmem S8x1x256 .f32) (harg9 : arg9.IsWhole) (arg10 : Memref sig .tc .vmem S512x256 .f32) (harg10 : arg10.IsWhole)
    (hc : k0_cond1 i = 1#1)
    (f2 : BufTy.Contents (Elt F) arg2.view.ty) (f3 : BufTy.Contents (Elt F) arg3.view.ty) (f4 : BufTy.Contents (Elt F) arg4.view.ty) (f5 : BufTy.Contents (Elt F) arg5.view.ty)
    (f7 : BufTy.Contents (Elt F) arg7.view.ty) (f8 : BufTy.Contents (Elt F) arg8.view.ty) (f9 : BufTy.Contents (Elt F) arg9.view.ty) (f10 : BufTy.Contents (Elt F) arg10.view.ty) :
    { L6 : List (View.Piece (Elt F) S1x256x512 .bf16) //
      ∀ (E : Set ℕ) (f6 : BufTy.Contents (Elt F) arg6.view.ty) (K : PUnit → sProp 𝕄),
        iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10)
            ∗ (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} arg6.view.writes (Elt F) f6 L6) ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f))) -∗ K ⟨⟩))
          ⊢ wp frame (wpE (defs₀ (F := F)) Variants.none c none) E (cc0_moba i arg2 harg2 arg3 harg3 arg4 harg4 arg5 harg5 arg6 harg6 arg7 harg7 arg8 harg8 arg9 harg9 arg10 harg10) K } := by
  refine ⟨?_, fun E f6 K => ?run⟩
  case run =>
    haveI : Fact (k0_cond1 i = 1#1) := ⟨hc⟩
    simp only [cc0_moba_eq_skeleton]; unfold cc0_moba_skel
    iintro ⟨H2, H3, H4, H5, H6, H7, H8, H9, H10, Hk⟩
    sl_exec_parts (disch := exact hc)
    sl_step
    iapply Hk
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    iexists _; iexact H10

end Cert.KernelIdeal.Hand

end
-- ==== Proof.MobaFrame.lean ====
module

public import proofs.«01_k».proof.Proof.Gen.KernelIdeal.Frame
public import proofs.«01_k».proof.Proof.MobaEven
public import proofs.«01_k».proof.Proof.MobaOdd

@[expose] public section

set_option maxRecDepth 16384

noncomputable section

namespace Cert.KernelIdeal.Hand

open Idealize.ShloMosaic Idealize.ShloMosaic.TcCoe Idealize.ShloMosaic.Tactic Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

/-- Window 0's staging buffer at a grid point, and that it is a whole buffer. -/
abbrev st0 (t : Fin cfg0.N) : Memref sig .tc .vmem S1x512x256 .bf16 := win0_0.stage (cfg0.slots t 0)
theorem st0_whole (t : Fin cfg0.N) : (st0 t).IsWhole := hstage0_0 ((cfg0.slots t 0).cast nbuf0_0)
/-- Window 1's staging buffer at a grid point, and that it is a whole buffer. -/
abbrev st1 (t : Fin cfg0.N) : Memref sig .tc .vmem S1x2048x512 .bf16 := win0_1.stage (cfg0.slots t 1)
theorem st1_whole (t : Fin cfg0.N) : (st1 t).IsWhole := hstage0_1 ((cfg0.slots t 1).cast nbuf0_1)
/-- Window 2's staging buffer at a grid point, and that it is a whole buffer. -/
abbrev st2 (t : Fin cfg0.N) : Memref sig .tc .vmem S1x512x2048 .bf16 := win0_2.stage (cfg0.slots t 2)
theorem st2_whole (t : Fin cfg0.N) : (st2 t).IsWhole := hstage0_2 ((cfg0.slots t 2).cast nbuf0_2)
/-- Window 3's staging buffer at a grid point, and that it is a whole buffer. -/
abbrev st3 (t : Fin cfg0.N) : Memref sig .tc .vmem S1x8x512 .f32 := win0_3.stage (cfg0.slots t 3)
theorem st3_whole (t : Fin cfg0.N) : (st3 t).IsWhole := hstage0_3 ((cfg0.slots t 3).cast nbuf0_3)
/-- Window 4's staging buffer at a grid point, and that it is a whole buffer. -/
abbrev st4 (t : Fin cfg0.N) : Memref sig .tc .vmem S1x256x512 .bf16 := win0_4.stage (cfg0.slots t 4)
theorem st4_whole (t : Fin cfg0.N) : (st4 t).IsWhole := hstage0_4 ((cfg0.slots t 4).cast nbuf0_4)
/-- The kernel's own buffer number 0. -/
abbrev own0 : Memref sig .tc .vmem S2x8x256x256 .f32 := Memref.whole cc0_scratch0
/-- The kernel's own buffer number 1. -/
abbrev own1 : Memref sig .tc .vmem S8x1x256 .f32 := Memref.whole cc0_scratch1
/-- The kernel's own buffer number 2. -/
abbrev own2 : Memref sig .tc .vmem S8x1x256 .f32 := Memref.whole cc0_scratch2
/-- The kernel's own buffer number 3. -/
abbrev own3 : Memref sig .tc .vmem S512x256 .f32 := Memref.whole cc0_scratch3

/-- The invariant between grid points: the four own buffers at some contents, and the generator's register. -/
theorem inv_eq (c : Dev nD) :
    (Pipeline.ΦA spec0 c : sProp 𝕄)
      = iprop(iprop((∃ d, owns (c : Thread nD τ) own0 fullShare d) ∗ (∃ d, owns (c : Thread nD τ) own1 fullShare d) ∗ (∃ d, owns (c : Thread nD τ) own2 fullShare d) ∗ (∃ d, owns (c : Thread nD τ) own3 fullShare d)) ∗ (∃ r, prngReg c r)) := by
  unfold Pipeline.ΦA; rw [scopedRest0_eq]; simp only [own0, own1, own2, own3, owns_whole]; try rfl

variable (m : (ℓ : Loc nD τ sig) → Buf (Elt F) ℓ) (ρ : Dev nD → PrngReg)

/-- The proof data: every input's buffer at its block, the output's at `O`. -/
def data (O : (c : Dev nD) → Fin cfg0.N → Vec F S1x256x512 .bf16) (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => O c t
  Φ _ := Pipeline.ΦA spec0 c
  q _ := fullShare
  owed _ := 0

variable (O : (c : Dev nD) → Fin cfg0.N → Vec F S1x256x512 .bf16)

theorem data_A (c : Dev nD) (w : Fin cfg0.W) : (data m O 0 c).A w = V m c (Pipeline.arrRef spec0 w) := by
  dsimp only [data]
theorem data_after0 (c : Dev nD) (t : Fin cfg0.N) : (data m O 0 c).after 0 t = iblk m c 0 t := by dsimp only [data]
theorem data_after1 (c : Dev nD) (t : Fin cfg0.N) : (data m O 0 c).after 1 t = iblk m c 1 t := by dsimp only [data]
theorem data_after2 (c : Dev nD) (t : Fin cfg0.N) : (data m O 0 c).after 2 t = iblk m c 2 t := by dsimp only [data]
theorem data_after3 (c : Dev nD) (t : Fin cfg0.N) : (data m O 0 c).after 3 t = iblk m c 3 t := by dsimp only [data]
theorem data_after4 (c : Dev nD) (t : Fin cfg0.N) : (data m O 0 c).after 4 t = O c t := by dsimp only [data]
theorem data_before0 (c : Dev nD) (t : Fin cfg0.N) (d) : (data m O 0 c).before 0 t d = iblk m c 0 t :=
  before0_0_of m (data m O 0 c) (data_A m O c 0) (data_after0 m O c) t d
theorem data_before1 (c : Dev nD) (t : Fin cfg0.N) (d) : (data m O 0 c).before 1 t d = iblk m c 1 t :=
  before0_1_of m (data m O 0 c) (data_A m O c 1) (data_after1 m O c) t d
theorem data_before2 (c : Dev nD) (t : Fin cfg0.N) (d) : (data m O 0 c).before 2 t d = iblk m c 2 t :=
  before0_2_of m (data m O 0 c) (data_A m O c 2) (data_after2 m O c) t d
theorem data_before3 (c : Dev nD) (t : Fin cfg0.N) (d) : (data m O 0 c).before 3 t d = iblk m c 3 t :=
  before0_3_of m (data m O 0 c) (data_A m O c 3) (data_after3 m O c) t d

/-- A statement of the contents the body leaves in the output's buffer at a point, from any contents before. -/
def Leaves (P : (c : Dev nD) → Fin cfg0.N → Vec F S1x256x512 .bf16 → Prop) (c : Dev nD) (t : Fin cfg0.N) : Prop :=
  (∀ hc f6 f7 f8 f9 f10, P c t ((st4 t).view.read (Elt F) ((st4 t).view.writes (Elt F) f6
      (runOdd c (grid0.coords t) (st0 t) (st0_whole t) (st1 t) (st1_whole t) (st2 t) (st2_whole t) (st3 t) (st3_whole t) (st4 t) (st4_whole t) own0 (Memref.isWhole_whole _) own1 (Memref.isWhole_whole _) own2 (Memref.isWhole_whole _) own3 (Memref.isWhole_whole _) hc ((st0_whole t).unread (iblk m c 0 t)) ((st1_whole t).unread (iblk m c 1 t)) ((st2_whole t).unread (iblk m c 2 t)) ((st3_whole t).unread (iblk m c 3 t)) f7 f8 f9 f10).1)))
  ∧ (∀ hc f6 f7 f8 f9 f10, P c t ((st4 t).view.read (Elt F) ((st4 t).view.writes (Elt F) f6
      (runEven c (grid0.coords t) (st0 t) (st0_whole t) (st1 t) (st1_whole t) (st2 t) (st2_whole t) (st3 t) (st3_whole t) (st4 t) (st4_whole t) own0 (Memref.isWhole_whole _) own1 (Memref.isWhole_whole _) own2 (Memref.isWhole_whole _) own3 (Memref.isWhole_whole _) hc ((st0_whole t).unread (iblk m c 0 t)) ((st1_whole t).unread (iblk m c 1 t)) ((st2_whole t).unread (iblk m c 2 t)) ((st3_whole t).unread (iblk m c 3 t)) f7 f8 f9 f10).1)))

set_option maxHeartbeats 1600000 in
/-- The body at any grid point: the inputs kept at their blocks, the output's buffer left as `P` says. -/
theorem body_sound (P : (c : Dev nD) → Fin cfg0.N → Vec F S1x256x512 .bf16 → Prop) (c : Dev nD) (t : Fin cfg0.N)
    (hP : Leaves m P c t) (R : sProp 𝕄) :
    iprop(Pipeline.ΦA spec0 c ∗ R
        ∗ owns (c : Thread nD τ) (st0 t) fullShare (iblk m c 0 t) ∗ owns (c : Thread nD τ) (st1 t) fullShare (iblk m c 1 t)
        ∗ owns (c : Thread nD τ) (st2 t) fullShare (iblk m c 2 t) ∗ owns (c : Thread nD τ) (st3 t) fullShare (iblk m c 3 t)
        ∗ (∃ d, owns (c : Thread nD τ) (st4 t) fullShare d))
      ⊢ wp frame (wpE (defs₀ (F := F)) Variants.none c none) Set.univ (bodyAt0 t) (fun _ =>
        iprop(Pipeline.ΦA spec0 c ∗ R
        ∗ owns (c : Thread nD τ) (st0 t) fullShare (iblk m c 0 t) ∗ owns (c : Thread nD τ) (st1 t) fullShare (iblk m c 1 t)
        ∗ owns (c : Thread nD τ) (st2 t) fullShare (iblk m c 2 t) ∗ owns (c : Thread nD τ) (st3 t) fullShare (iblk m c 3 t)
        ∗ (∃ X, ⌜P c t X⌝ ∗ owns (c : Thread nD τ) (st4 t) fullShare X))) := by
  obtain ⟨hOdd, hEven⟩ := hP
  rw [inv_eq]
  unfold owns bodyAt0
  iintro ⟨⟨⟨⟨%d7, %f7, %h7, S0⟩, ⟨%d8, %f8, %h8, S1⟩, ⟨%d9, %f9, %h9, S2⟩, ⟨%d10, %f10, %h10, S3⟩⟩, Hg⟩, Ho, ⟨%f2, %h2, H0⟩, ⟨%f3, %h3, H1⟩, ⟨%f4, %h4, H2⟩, ⟨%f5, %h5, H3⟩, ⟨%d6, %f6, %h6, H4⟩⟩
  obtain rfl := (st0_whole t).eq_unread h2
  obtain rfl := (st1_whole t).eq_unread h3
  obtain rfl := (st2_whole t).eq_unread h4
  obtain rfl := (st3_whole t).eq_unread h5
  by_cases hc : k0_cond1 (grid0.coords t) = 1#1
  · iapply ((runOdd c (grid0.coords t) (st0 t) (st0_whole t) (st1 t) (st1_whole t) (st2 t) (st2_whole t) (st3 t) (st3_whole t) (st4 t) (st4_whole t) own0 (Memref.isWhole_whole _) own1 (Memref.isWhole_whole _) own2 (Memref.isWhole_whole _) own3 (Memref.isWhole_whole _) hc ((st0_whole t).unread (iblk m c 0 t)) ((st1_whole t).unread (iblk m c 1 t)) ((st2_whole t).unread (iblk m c 2 t)) ((st3_whole t).unread (iblk m c 3 t)) f7 f8 f9 f10).2 Set.univ f6 _)
    isplitl [H0]; · iexact H0
    isplitl [H1]; · iexact H1
    isplitl [H2]; · iexact H2
    isplitl [H3]; · iexact H3
    isplitl [H4]; · iexact H4
    isplitl [S0]; · iexact S0
    isplitl [S1]; · iexact S1
    isplitl [S2]; · iexact S2
    isplitl [S3]; · iexact S3
    iintro ⟨H0, H1, H2, H3, H4, ⟨%g7, S0⟩, ⟨%g8, S1⟩, ⟨%g9, S2⟩, ⟨%g10, S3⟩⟩
    isplitl [S0 S1 S2 S3 Hg]
    · isplitl [S0 S1 S2 S3]
      · isplitl [S0]
        · iexists _; iexists _; isplitr
          swap; · iexact S0
          ipureintro; rfl
        isplitl [S1]
        · iexists _; iexists _; isplitr
          swap; · iexact S1
          ipureintro; rfl
        isplitl [S2]
        · iexists _; iexists _; isplitr
          swap; · iexact S2
          ipureintro; rfl
        iexists _; iexists _; isplitr
        swap; · iexact S3
        ipureintro; rfl
      iexact Hg
    isplitl [Ho]; · iexact Ho
    isplitl [H0]
    · iexists _; isplitr
      swap; · iexact H0
      ipureintro; exact (st0_whole t).read_unread _
    isplitl [H1]
    · iexists _; isplitr
      swap; · iexact H1
      ipureintro; exact (st1_whole t).read_unread _
    isplitl [H2]
    · iexists _; isplitr
      swap; · iexact H2
      ipureintro; exact (st2_whole t).read_unread _
    isplitl [H3]
    · iexists _; isplitr
      swap; · iexact H3
      ipureintro; exact (st3_whole t).read_unread _
    iexists _; isplitr
    swap
    · iexists _; isplitr
      swap; · iexact H4
      ipureintro; rfl
    ipureintro; exact hOdd hc f6 f7 f8 f9 f10
  · iapply ((runEven c (grid0.coords t) (st0 t) (st0_whole t) (st1 t) (st1_whole t) (st2 t) (st2_whole t) (st3 t) (st3_whole t) (st4 t) (st4_whole t) own0 (Memref.isWhole_whole _) own1 (Memref.isWhole_whole _) own2 (Memref.isWhole_whole _) own3 (Memref.isWhole_whole _) hc ((st0_whole t).unread (iblk m c 0 t)) ((st1_whole t).unread (iblk m c 1 t)) ((st2_whole t).unread (iblk m c 2 t)) ((st3_whole t).unread (iblk m c 3 t)) f7 f8 f9 f10).2 Set.univ f6 _)
    isplitl [H0]; · iexact H0
    isplitl [H1]; · iexact H1
    isplitl [H2]; · iexact H2
    isplitl [H3]; · iexact H3
    isplitl [H4]; · iexact H4
    isplitl [S0]; · iexact S0
    isplitl [S1]; · iexact S1
    isplitl [S2]; · iexact S2
    isplitl [S3]; · iexact S3
    iintro ⟨H0, H1, H2, H3, H4, ⟨%g7, S0⟩, ⟨%g8, S1⟩, ⟨%g9, S2⟩, ⟨%g10, S3⟩⟩
    isplitl [S0 S1 S2 S3 Hg]
    · isplitl [S0 S1 S2 S3]
      · isplitl [S0]
        · iexists _; iexists _; isplitr
          swap; · iexact S0
          ipureintro; rfl
        isplitl [S1]
        · iexists _; iexists _; isplitr
          swap; · iexact S1
          ipureintro; rfl
        isplitl [S2]
        · iexists _; iexists _; isplitr
          swap; · iexact S2
          ipureintro; rfl
        iexists _; iexists _; isplitr
        swap; · iexact S3
        ipureintro; rfl
      iexact Hg
    isplitl [Ho]; · iexact Ho
    isplitl [H0]
    · iexists _; isplitr
      swap; · iexact H0
      ipureintro; exact (st0_whole t).read_unread _
    isplitl [H1]
    · iexists _; isplitr
      swap; · iexact H1
      ipureintro; exact (st1_whole t).read_unread _
    isplitl [H2]
    · iexists _; isplitr
      swap; · iexact H2
      ipureintro; exact (st2_whole t).read_unread _
    isplitl [H3]
    · iexists _; isplitr
      swap; · iexact H3
      ipureintro; exact (st3_whole t).read_unread _
    iexists _; isplitr
    swap
    · iexists _; isplitr
      swap; · iexact H4
      ipureintro; rfl
    ipureintro; exact hEven hc f6 f7 f8 f9 f10

/-- The body table's row at a point is the body at that point's buffers. -/
theorem row_eq (t : Fin cfg0.N) :
    defs₀ (F := F) .tc cfg0.body (cfg0.bodyArgs t (cfg0.slots t)) = bodyAt0 t := by
  unfold defs₀; rw [Defs.onTc_tc]

/-- The body's obligation for the exact proof data, from what it leaves in the output's buffer. -/
theorem obligation (hO : ∀ c t, Leaves m (fun c t X => X = O c t) c t) (c : Dev nD) :
    BodyObligation (data (F := F) m O 0 c) (defs₀ (F := F)) Variants.none () Set.univ := fun t => by
  rw [bigSep_W0, bigSep_W0, row_eq]
  refine triple_restated (body_sound m (fun c t X => X = O c t) c t (hO c t) ((data m O 0 c).owesAt () t.castSucc)) rfl ?_ fun _ => ?_
  · show iprop(Pipeline.ΦA spec0 c ∗ (data (F := F) m O 0 c).owesAt () t.castSucc
      ∗ (∃ d, owns (c : Thread nD τ) (st0 t) fullShare ((data m O 0 c).before 0 t d)) ∗ (∃ d, owns (c : Thread nD τ) (st1 t) fullShare ((data m O 0 c).before 1 t d))
      ∗ (∃ d, owns (c : Thread nD τ) (st2 t) fullShare ((data m O 0 c).before 2 t d)) ∗ (∃ d, owns (c : Thread nD τ) (st3 t) fullShare ((data m O 0 c).before 3 t d))
      ∗ (∃ d, owns (c : Thread nD τ) (st4 t) fullShare ((data m O 0 c).before 4 t d))) ⊢ _
    simp only [data_before0, data_before1, data_before2, data_before3]
    iintro ⟨HI, Ho, ⟨%d0, H0⟩, ⟨%d1, H1⟩, ⟨%d2, H2⟩, ⟨%d3, H3⟩, ⟨%d4, H4⟩⟩
    isplitl [HI]; · iexact HI
    isplitl [Ho]; · iexact Ho
    isplitl [H0]; · iexact H0
    isplitl [H1]; · iexact H1
    isplitl [H2]; · iexact H2
    isplitl [H3]; · iexact H3
    iexists _; iexact H4
  · show _ ⊢ iprop(Pipeline.ΦA spec0 c ∗ (data (F := F) m O 0 c).owesAt () t.castSucc
      ∗ owns (c : Thread nD τ) (st0 t) fullShare ((data m O 0 c).after 0 t) ∗ owns (c : Thread nD τ) (st1 t) fullShare ((data m O 0 c).after 1 t)
      ∗ owns (c : Thread nD τ) (st2 t) fullShare ((data m O 0 c).after 2 t) ∗ owns (c : Thread nD τ) (st3 t) fullShare ((data m O 0 c).after 3 t)
      ∗ owns (c : Thread nD τ) (st4 t) fullShare ((data m O 0 c).after 4 t))
    rw [data_after0, data_after1, data_after2, data_after3, data_after4]
    iintro ⟨HI, Ho, H0, H1, H2, H3, ⟨%X, %hX, H4⟩⟩
    obtain rfl := hX
    isplitl [HI]; · iexact HI
    isplitl [Ho]; · iexact Ho
    isplitl [H0]; · iexact H0
    isplitl [H1]; · iexact H1
    isplitl [H2]; · iexact H2
    isplitl [H3]; · iexact H3
    iexact H4

/-- The window whose contents the frame says nothing of: the output. -/
def unsaid (w : Fin cfg0.W) : Bool := w.val == 4

/-- The body's obligation with nothing said of the output's buffer. -/
theorem obligation_unsaid (c : Dev nD) :
    BodyObligation (data (F := F) m O 0 c) (defs₀ (F := F)) Variants.none () Set.univ unsaid := fun t => by
  rw [bigSep_W0, bigSep_W0, row_eq]
  refine triple_restated (body_sound m (fun _ _ _ => True) c t ⟨fun _ _ _ _ _ _ => trivial, fun _ _ _ _ _ _ => trivial⟩ ((data m O 0 c).owesAt () t.castSucc)) rfl ?_ fun _ => ?_
  · show iprop(Pipeline.ΦA spec0 c ∗ (data (F := F) m O 0 c).owesAt () t.castSucc
      ∗ (∃ d, owns (c : Thread nD τ) (st0 t) fullShare ((data m O 0 c).before 0 t d)) ∗ (∃ d, owns (c : Thread nD τ) (st1 t) fullShare ((data m O 0 c).before 1 t d))
      ∗ (∃ d, owns (c : Thread nD τ) (st2 t) fullShare ((data m O 0 c).before 2 t d)) ∗ (∃ d, owns (c : Thread nD τ) (st3 t) fullShare ((data m O 0 c).before 3 t d))
      ∗ (∃ X, owns (c : Thread nD τ) (st4 t) fullShare X)) ⊢ _
    simp only [data_before0, data_before1, data_before2, data_before3]
    iintro ⟨HI, Ho, ⟨%d0, H0⟩, ⟨%d1, H1⟩, ⟨%d2, H2⟩, ⟨%d3, H3⟩, ⟨%d4, H4⟩⟩
    isplitl [HI]; · iexact HI
    isplitl [Ho]; · iexact Ho
    isplitl [H0]; · iexact H0
    isplitl [H1]; · iexact H1
    isplitl [H2]; · iexact H2
    isplitl [H3]; · iexact H3
    iexists _; iexact H4
  · show _ ⊢ iprop(Pipeline.ΦA spec0 c ∗ (data (F := F) m O 0 c).owesAt () t.castSucc
      ∗ owns (c : Thread nD τ) (st0 t) fullShare ((data m O 0 c).after 0 t) ∗ owns (c : Thread nD τ) (st1 t) fullShare ((data m O 0 c).after 1 t)
      ∗ owns (c : Thread nD τ) (st2 t) fullShare ((data m O 0 c).after 2 t) ∗ owns (c : Thread nD τ) (st3 t) fullShare ((data m O 0 c).after 3 t)
      ∗ (∃ X, owns (c : Thread nD τ) (st4 t) fullShare X))
    rw [data_after0, data_after1, data_after2, data_after3]
    iintro ⟨HI, Ho, H0, H1, H2, H3, ⟨%X, %hX, H4⟩⟩
    isplitl [HI]; · iexact HI
    isplitl [Ho]; · iexact Ho
    isplitl [H0]; · iexact H0
    isplitl [H1]; · iexact H1
    isplitl [H2]; · iexact H2
    isplitl [H3]; · iexact H3
    iexists _; iexact H4

set_option backward.isDefEq.respectTransparency.types false in
/-- The run with the output's contents named, and every counter back at zero. -/
theorem run_named (hO : ∀ c t, Leaves m (fun c t X => X = O c t) c t) :
    θ_run defs (onTc (τ := τ) (main (F := F))) (s₀ m ρ) (fun r => (Pipeline.FramePost cfgs (data m O) 0 (V m)) r ∧ r.2.sem = fun _ => 0) :=
  Pipeline.θ_run_frame (Q' := _) cfgs (data m O) (0 : Fin 1) launch0 defs₀ Variants.none m ρ main
    (hbody := fun c => (obligation m O hO c).loose) (hshare := fun c => (data m O 0 c).share_full fun _ => rfl)
    (howed := fun _ _ => rfl) (V := V m) (hmain := hmain m Variants.none) (hA := data_A m O) (hΦ := fun _ _ => rfl)

set_option backward.isDefEq.respectTransparency.types false in
/-- The run with nothing said of the output, and every counter back at zero. -/
theorem run_unsaid :
    θ_run defs (onTc (τ := τ) (main (F := F))) (s₀ m ρ) (fun r => Pipeline.RDat.FramePost cfg0 (fun c => (data m O 0 c).toRForget unsaid) (V m) r ∧ r.2.sem = fun _ => 0) :=
  Pipeline.θ_run_frame_forget (Q' := _) cfgs (data m O) (0 : Fin 1) launch0 defs₀ Variants.none unsaid m ρ main
    (hbody := fun c => (obligation_unsaid m O c).loose) (hshare := fun c => (data m O 0 c).share_full fun _ => rfl)
    (howed := fun _ _ => rfl) (V := V m) (hmain := hmain m Variants.none) (hA := data_A m O) (hΦ := fun _ _ => rfl)

/-- The kernel runs, leaves its arguments as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => ⟨h.1.arr_in c 0 rfl, h.1.arr_in c 1 rfl, h.1.arr_in c 2 rfl, h.1.arr_in c 3 rfl⟩, h.2⟩)
    (run_unsaid m ρ (fun c t => iblk m c 4 t))

end Cert.KernelIdeal.Hand

end
-- ==== Proof.CompressBlock.lean ====
/- The compression kernel on one sequence: windows of 32 rows, chunks of 16 rows times the weight, the activation, the second weight. -/
module

public import proofs.«01_k».proof.Proof.Gen.CompressIdeal.Value
public import proofs.«01_k».proof.Proof.ProjBlock
public import Idealize.ShloMosaic.Lib.WholeRead

@[expose] public section

set_option maxRecDepth 16384

noncomputable section

namespace Cert.CompressIdeal.Hand

open Cert.CompressIdeal Cert.CompressIdeal.Gen Idealize.ShloMosaic Idealize.ShloMosaic.TcCoe Idealize.SL.Sem
open Idealize.ShloMosaic.Pointwise

open Cert.ProjIdeal.Hand (ang rope half)

/-- A place among 2048. -/
def at2048 (n : ℕ) : Fin 2048 := ⟨n % 2048, Nat.mod_lt _ (by decide)⟩

/-- The rows of the sequence at place `p` of each chunk of 16. -/
def strided (X : Vec Ideal S1x2048x128 .f32) (p : ℕ) : Vec Ideal S1x128x128 .f32 :=
  fun y => X (ix3 0 (at2048 (16 * (y 1 : ℕ) + p)) (y 2))

/-- 128 rows of the first weight from row `o`. -/
def rowsAt (A : Vec Ideal S2048x512 .bf16) (o : ℕ) : Vec Ideal S128x512 .bf16 :=
  fun y => A (ix2 (at2048 (o + (y 0 : ℕ))) (y 1))

theorem rd {M : Memref sig .tc .vmem S1x2048x128 .f32} (h : M.IsWhole) (X : Vec Ideal S1x2048x128 .f32) (p : ℕ) (hp : p < 16)
    (inb : ∀ a, (![1, 128, 128] : Fin 3 → ℕ) a = 0 ∨ (![0, p, 0] : Fin 3 → ℕ) a + (![1, 16, 1] : Fin 3 → ℕ) a * ((![1, 128, 128] : Fin 3 → ℕ) a - 1) < S1x2048x128.size a) :
    View.readAt (Elt Ideal) M.view { off := ![0, p, 0], size := ![1, 128, 128], stride := ![1, 16, 1], inb := inb } (h.unread X) = strided X p := by
  funext y
  refine (Memref.IsWhole.readAt_unread h X _ y).trans (congrArg X ?_)
  have h1 : (y 1 : ℕ) < 128 := (y 1).isLt
  have h0 : (y 0 : ℕ) < 1 := (y 0).isLt
  funext a; apply Fin.ext
  fin_cases a
  · show 0 + 1 * (y 0 : ℕ) = 0; omega
  · show p + 16 * (y 1 : ℕ) = (16 * (y 1 : ℕ) + p) % 2048; omega
  · show 0 + 1 * (y 2 : ℕ) = (y 2 : ℕ); omega

theorem lw (A : Vec Ideal S2048x512 .bf16) (o : ℕ) (inb : ∀ a, (![o, 0] : Fin 2 → ℕ) a + (![128, 512] : Fin 2 → ℕ) a ≤ S2048x512.size a) :
    View.ld A (Rect.unit (s := S2048x512) ![o, 0] ![128, 512] inb) = rowsAt A o := by
  have h2 : o + 128 ≤ 2048 := inb 0
  funext y
  have hy : (y 0 : ℕ) < 128 := (y 0).isLt
  refine congrArg A ?_
  funext a; apply Fin.ext
  fin_cases a
  · show o + 1 * (y 0 : ℕ) = (o + (y 0 : ℕ)) % 2048; omega
  · show 0 + 1 * (y 1 : ℕ) = (y 1 : ℕ); omega

/-- The chunk's row at place `p` times 128 rows of the weight. -/
def seg (x : Fin 2048 → Fin 128 → EReal) (W : Fin 2048 → Fin 512 → EReal) (n : Fin 128) (e : Fin 512) (p o : ℕ) : EReal :=
  ∑ k : Fin 128, x (at2048 (16 * (n : ℕ) + p)) k * W (at2048 (o + (k : ℕ))) e

/-- The chunk times a column of the weight. -/
def chunk (x : Fin 2048 → Fin 128 → EReal) (W : Fin 2048 → Fin 512 → EReal) (n : Fin 128) (e : Fin 512) : EReal :=
  seg x W n e 0 0 + seg x W n e 1 128 + seg x W n e 2 256 + seg x W n e 3 384 + seg x W n e 4 512 + seg x W n e 5 640 + seg x W n e 6 768 + seg x W n e 7 896 + seg x W n e 8 1024 + seg x W n e 9 1152 + seg x W n e 10 1280 + seg x W n e 11 1408 + seg x W n e 12 1536 + seg x W n e 13 1664 + seg x W n e 14 1792 + seg x W n e 15 1920

/-- The activation. -/
def gelu (x : EReal) : EReal :=
  Ideal.ofBits FTy.f32 0x3F000000#32 * x * (1
    + Ideal.tanh (Ideal.ofBits FTy.f32 0x3F4C422A#32 * (x + Ideal.ofBits FTy.f32 0x3D372713#32 * (x * x * x))))

/-- The next chunk, the first after the last. -/
def next (n : Fin 128) : Fin 128 := ⟨((n : ℕ) + 128 - 127) % 128, Nat.mod_lt _ (by decide)⟩

/-- The hidden value of a window: its two chunks, and the places' own product. -/
def hid (x : Fin 2048 → Fin 128 → EReal) (W : Fin 2048 → Fin 512 → EReal) (p : Fin 2048 → EReal) (w : Fin 2048 → Fin 128 → EReal)
    (n : Fin 128) (f : Fin 256) : EReal :=
  chunk x W n ⟨f, by omega⟩ + chunk x W (next n) ⟨256 + f, by omega⟩ + ∑ q, p q * w q ⟨(f : ℕ) % 128, Nat.mod_lt _ (by decide)⟩

/-- The window's result, a column of the second weight. -/
def res (h : Fin 256 → EReal) (w : Fin 256 → Fin 128 → EReal) (l : Fin 128) : EReal := ∑ f, gelu (h f) * w f l

variable (X : Vec Ideal S1x2048x128 .f32) (A : Vec Ideal S2048x512 .bf16) (P : Vec Ideal S1x2048 .f32) (w : Vec Ideal S2048x128 .bf16)

/-- The hidden values as the kernel reaches them for the keys. -/
def hidK : FVec Ideal S128x256 .f32 :=
  k0_pay7 (k0_pay5 (k0_pay4 (k0_pay2 (strided X 0) (rowsAt A 0) (strided X 1) (rowsAt A 128) (strided X 2) (rowsAt A 256) (strided X 3) (rowsAt A 384)) (k0_pay3 (strided X 4)) (rowsAt A 512) (strided X 5) (rowsAt A 640) (strided X 6) (rowsAt A 768) (strided X 7) (rowsAt A 896) (strided X 8) (rowsAt A 1024)) (strided X 9) (rowsAt A 1152) (strided X 10) (rowsAt A 1280) (strided X 11) (rowsAt A 1408) (strided X 12) (rowsAt A 1536)) (k0_pay6 (strided X 13)) (rowsAt A 1664) (strided X 14) (rowsAt A 1792) (strided X 15) (rowsAt A 1920) P w

theorem hidK_apply (n : Fin 128) (f : Fin 256) :
    hidK X A P w (ix2 n f) = hid (fun r k => X (ix3 0 r k)) (fun r e => A (ix2 r e)) (fun q => P (ix2 0 q)) (fun q e => w (ix2 q e)) n f := by
  unfold hidK
  pointwise [k0_pay7, k0_pay6, k0_pay5, k0_pay4, k0_pay3, k0_pay2]
  have hf := f.isLt
  unfold hid
  refine congrArg₂ (· + ·) rfl ?_
  by_cases h : (f : ℕ) < 128
  · refine (dif_pos h).trans (Finset.sum_congr rfl fun q _ => congrArg (fun z => P (ix2 0 q) * w (ix2 q z)) (Fin.ext ?_))
    show (f : ℕ) = (f : ℕ) % 128; omega
  · refine (dif_neg h).trans (Finset.sum_congr rfl fun q _ => congrArg (fun z => P (ix2 0 q) * w (ix2 q z)) (Fin.ext ?_))
    show (f : ℕ) - 128 = (f : ℕ) % 128; omega

/-- The activated hidden values as the kernel reaches them for the values. -/
def actV : FVec Ideal S128x256 .bf16 :=
  k0_pay20 (k0_pay18 (k0_pay17 (k0_pay15 k0_pay12 (k0_pay13 (strided X 0)) (k0_pay14 (rowsAt A 0)) (strided X 1) (rowsAt A 128) (strided X 2) (rowsAt A 256) (strided X 3) (rowsAt A 384) (strided X 4) (rowsAt A 512)) (k0_pay16 (strided X 5)) (rowsAt A 640) (strided X 6) (rowsAt A 768) (strided X 7) (rowsAt A 896) (strided X 8) (rowsAt A 1024) (strided X 9) (rowsAt A 1152)) (strided X 10) (rowsAt A 1280) (strided X 11) (rowsAt A 1408) (strided X 12) (rowsAt A 1536) (strided X 13) (rowsAt A 1664)) (k0_pay19 (strided X 14)) (rowsAt A 1792) (strided X 15) (rowsAt A 1920) P w

theorem actV_apply (n : Fin 128) (f : Fin 256) :
    actV X A P w (ix2 n f) = gelu (hid (fun r k => X (ix3 0 r k)) (fun r e => A (ix2 r e)) (fun q => P (ix2 0 q)) (fun q e => w (ix2 q e)) n f) := by
  have hf := f.isLt
  unfold actV
  pointwise [k0_pay20, k0_pay19, k0_pay18, k0_pay17, k0_pay16, k0_pay15, k0_pay14, k0_pay13, k0_pay12]
  refine congrArg gelu ?_
  unfold hid
  refine congrArg₂ (· + ·) rfl ?_
  by_cases h : (f : ℕ) < 128
  · refine (dif_pos h).trans (Finset.sum_congr rfl fun q _ => congrArg (fun z => P (ix2 0 q) * w (ix2 q z)) (Fin.ext ?_))
    show (f : ℕ) = (f : ℕ) % 128; omega
  · refine (dif_neg h).trans (Finset.sum_congr rfl fun q _ => congrArg (fun z => P (ix2 0 q) * w (ix2 q z)) (Fin.ext ?_))
    show (f : ℕ) - 128 = (f : ℕ) % 128; omega

theorem pay1 (a : FVec Ideal S128x256 .bf16) (b : Vec Ideal S256x128 .bf16) (n : Fin 128) (l : Fin 128) :
    k0_pay1 a b (ix3 0 n l) = ∑ f : Fin 256, a (ix2 n f) * b (ix2 f l) := by
  pointwise [k0_pay1]

theorem pay11 (h : FVec Ideal S128x256 .f32) (b : Vec Ideal S256x128 .bf16) (tc ts : Vec Ideal S128x128 .f32) (n l : Fin 128) :
    k0_pay11 h (mulf (broadcast S128x256 (Scalar.ofBits .f32 0x3F000000#32)) h) (mulf (mulf h h) h) k0_pay10 b tc ts (ix3 0 n l)
      = res (fun f => h (ix2 n f)) (fun f e => b (ix2 f e)) l * tc (ix2 n l)
        + (if (l : ℕ) % 64 < 32 then res (fun f => h (ix2 n f)) (fun f e => b (ix2 f e)) ⟨((l : ℕ) + 128 - 96) % 128, Nat.mod_lt _ (by decide)⟩
            else res (fun f => h (ix2 n f)) (fun f e => b (ix2 f e)) ⟨((l : ℕ) + 128 - 32) % 128, Nat.mod_lt _ (by decide)⟩) * ts (ix2 n l) := by
  pointwise [k0_pay11, k0_pay10]
  rw [half]
  by_cases hl : (l : ℕ) % 64 < 32
  · rw [if_pos hl, if_pos hl]; rfl
  · rw [if_neg hl, if_neg hl]; rfl

variable (m : (ℓ : Loc nD τ sig) → Buf (Elt Ideal) ℓ)

set_option maxHeartbeats 1000000 in
theorem outsV (c : Dev nD) (t : Fin cfg0.N) (n l : Fin 128) :
    (outsAt0 m c t).2 (ix3 0 n l) = res (hid (fun r k => iblk m c 1 t (ix3 0 r k)) (fun r e => iblk m c 6 t (ix2 r e)) (fun q => iblk m c 8 t (ix2 0 q))
      (fun q e => iblk m c 7 t (ix2 q e)) n) (fun f e => iblk m c 9 t (ix2 f e)) l := by
  unfold outsAt0
  frame_out
  simp (disch := decide) only [rd, lw]
  refine (pay1 (actV (iblk m c 1 t) (iblk m c 6 t) (iblk m c 8 t) (iblk m c 7 t)) _ n l).trans ?_
  simp only [actV_apply]
  rfl

set_option maxHeartbeats 1000000 in
theorem outsK (c : Dev nD) (t : Fin cfg0.N) (n l : Fin 128) :
    (outsAt0 m c t).1 (ix3 0 n l)
      = res (hid (fun r k => iblk m c 0 t (ix3 0 r k)) (fun r e => iblk m c 2 t (ix2 r e)) (fun q => iblk m c 4 t (ix2 0 q))
          (fun q e => iblk m c 3 t (ix2 q e)) n) (fun f e => iblk m c 5 t (ix2 f e)) l * iblk m c 10 t (ix2 n l)
        + (if (l : ℕ) % 64 < 32 then res (hid (fun r k => iblk m c 0 t (ix3 0 r k)) (fun r e => iblk m c 2 t (ix2 r e)) (fun q => iblk m c 4 t (ix2 0 q))
              (fun q e => iblk m c 3 t (ix2 q e)) n) (fun f e => iblk m c 5 t (ix2 f e)) ⟨((l : ℕ) + 128 - 96) % 128, Nat.mod_lt _ (by decide)⟩
            else res (hid (fun r k => iblk m c 0 t (ix3 0 r k)) (fun r e => iblk m c 2 t (ix2 r e)) (fun q => iblk m c 4 t (ix2 0 q))
              (fun q e => iblk m c 3 t (ix2 q e)) n) (fun f e => iblk m c 5 t (ix2 f e)) ⟨((l : ℕ) + 128 - 32) % 128, Nat.mod_lt _ (by decide)⟩)
          * iblk m c 11 t (ix2 n l) := by
  unfold outsAt0
  frame_out
  simp (disch := decide) only [rd, lw]
  refine (pay11 (hidK (iblk m c 0 t) (iblk m c 2 t) (iblk m c 4 t) (iblk m c 3 t)) _ _ _ n l).trans ?_
  simp only [hidK_apply]

end Cert.CompressIdeal.Hand

end
-- ==== Proof.CompressValue.lean ====
/- What the compression kernel leaves in its two output arrays, in closed form over the arguments. -/
module

public import proofs.«01_k».proof.Proof.CompressBlock

@[expose] public section

set_option maxRecDepth 16384

noncomputable section

namespace Cert.CompressIdeal.Hand

open Cert.CompressIdeal Cert.CompressIdeal.Gen Idealize.ShloMosaic Idealize.ShloMosaic.TcCoe Idealize.SL.Sem
open Idealize.ShloMosaic.Pointwise
open Cert.ProjIdeal.Hand (ang rope)

/-- A lane of 128, and one of 64. -/
def lane (k : ℕ) : Fin 128 := ⟨k % 128, Nat.mod_lt _ (by decide)⟩
def lane64 (k : ℕ) : Fin 64 := ⟨k % 64, Nat.mod_lt _ (by decide)⟩

section Closed

variable (x : Fin 2048 → Fin 128 → EReal) (p : Fin 2048 → EReal) (w : Fin 2048 → Fin 128 → EReal) (w2 : Fin 128 → Fin 64 → EReal)

/-- A chunk of sixteen rows of one head, times a column of the half of the first weight that starts at a row. -/
def part (n : Fin 128) (g o : ℕ) (f : Fin 128) : EReal :=
  ∑ j : Fin 16, ∑ d : Fin 64, x (at2048 (16 * (n : ℕ) + j)) (lane (64 * g + d)) * w (at2048 (o + 64 * (j : ℕ) + d)) f

/-- The hidden value of a window of one head. -/
def H (n : Fin 128) (g : ℕ) (f : Fin 128) : EReal := part x w n g 0 f + part x w (next n) g 1024 f + ∑ q, p q * w q f

/-- The compressed value of a window, a lane of the two heads. -/
def C (n : Fin 128) (l : ℕ) : EReal := ∑ f : Fin 128, gelu (H x p w n (l / 64) f) * w2 f (lane64 l)

theorem sum128 (F : Fin 128 → EReal) : ∑ k, F k = ∑ d : Fin 64, F ⟨d, by omega⟩ + ∑ d : Fin 64, F ⟨64 + d, by omega⟩ :=
  Fin.sum_univ_add (a := 64) (b := 64) F
theorem sum256 (F : Fin 256 → EReal) : ∑ k, F k = ∑ d : Fin 128, F ⟨d, by omega⟩ + ∑ d : Fin 128, F ⟨128 + d, by omega⟩ :=
  Fin.sum_univ_add (a := 128) (b := 128) F

/-- The first weight laid out for both heads at once: zero where head and lane differ. -/
def wide (r : Fin 2048) (e : Fin 512) : EReal :=
  if (r : ℕ) % 128 / 64 = (e : ℕ) / 128 % 2 then w (at2048 (1024 * ((e : ℕ) / 256) + 64 * ((r : ℕ) / 128) + (r : ℕ) % 64)) (lane e) else 0
/-- The second weight laid out for both heads at once. -/
def wide2 (f : Fin 256) (l : Fin 128) : EReal :=
  if (f : ℕ) / 128 = (l : ℕ) / 64 then w2 (lane f) (lane64 l) else 0

theorem wide_pos (r : Fin 2048) (e : Fin 512) (h : (r : ℕ) % 128 / 64 = (e : ℕ) / 128 % 2) :
    wide w r e = w (at2048 (1024 * ((e : ℕ) / 256) + 64 * ((r : ℕ) / 128) + (r : ℕ) % 64)) (lane e) := if_pos h
theorem wide_neg (r : Fin 2048) (e : Fin 512) (h : ¬ (r : ℕ) % 128 / 64 = (e : ℕ) / 128 % 2) : wide w r e = 0 := if_neg h
theorem wide2_pos (f : Fin 256) (l : Fin 128) (h : (f : ℕ) / 128 = (l : ℕ) / 64) : wide2 w2 f l = w2 (lane f) (lane64 l) := if_pos h
theorem wide2_neg (f : Fin 256) (l : Fin 128) (h : ¬ (f : ℕ) / 128 = (l : ℕ) / 64) : wide2 w2 f l = 0 := if_neg h

theorem seg_wide (n : Fin 128) (e : Fin 512) (j : Fin 16) :
    seg x (wide w) n e j (128 * (j : ℕ))
      = ∑ d : Fin 64, x (at2048 (16 * (n : ℕ) + j)) (lane (64 * ((e : ℕ) / 128 % 2) + d))
          * w (at2048 (1024 * ((e : ℕ) / 256) + 64 * (j : ℕ) + d)) (lane e) := by
  have hj := j.isLt
  have he := e.isLt
  have at_ : ∀ a : ℕ, ((at2048 a : Fin 2048) : ℕ) = a % 2048 := fun _ => rfl
  unfold seg
  rw [sum128]
  have hg : (e : ℕ) / 128 % 2 = 0 ∨ (e : ℕ) / 128 % 2 = 1 := by omega
  rcases hg with hg | hg
  · have z : ∑ d : Fin 64, x (at2048 (16 * (n : ℕ) + j)) ⟨64 + d, by omega⟩ * wide w (at2048 (128 * (j : ℕ) + (64 + (d : ℕ)))) e = 0 :=
      Finset.sum_eq_zero fun d _ => by
        have hd := d.isLt
        unfold wide
        rw [if_neg (by rw [at_]; omega), mul_zero]
    refine (congrArg₂ (· + ·) (Finset.sum_congr rfl fun d _ => ?_) z).trans (add_zero _)
    have hd := d.isLt
    show x _ ⟨d, _⟩ * wide w (at2048 (128 * (j : ℕ) + (d : ℕ))) e = _
    unfold wide
    rw [if_pos (by rw [at_]; omega)]
    refine congrArg₂ (· * ·) (congrArg _ (Fin.ext ?_)) (congrArg (fun z => w z (lane e)) (Fin.ext ?_))
    · show (d : ℕ) = (64 * ((e : ℕ) / 128 % 2) + (d : ℕ)) % 128; omega
    · rw [at_, at_, at_]; omega
  · have z : ∑ d : Fin 64, x (at2048 (16 * (n : ℕ) + j)) ⟨d, by omega⟩ * wide w (at2048 (128 * (j : ℕ) + (d : ℕ))) e = 0 :=
      Finset.sum_eq_zero fun d _ => by
        have hd := d.isLt
        unfold wide
        rw [if_neg (by rw [at_]; omega), mul_zero]
    refine (congrArg₂ (· + ·) z (Finset.sum_congr rfl fun d _ => ?_)).trans (zero_add _)
    have hd := d.isLt
    show x _ ⟨64 + d, _⟩ * wide w (at2048 (128 * (j : ℕ) + (64 + (d : ℕ)))) e = _
    unfold wide
    rw [if_pos (by rw [at_]; omega)]
    refine congrArg₂ (· * ·) (congrArg _ (Fin.ext ?_)) (congrArg (fun z => w z (lane e)) (Fin.ext ?_))
    · show 64 + (d : ℕ) = (64 * ((e : ℕ) / 128 % 2) + (d : ℕ)) % 128; omega
    · rw [at_, at_, at_]; omega

theorem chunk_sum (W : Fin 2048 → Fin 512 → EReal) (n : Fin 128) (e : Fin 512) :
    chunk x W n e = ∑ j : Fin 16, seg x W n e j (128 * (j : ℕ)) := by
  unfold chunk
  simp only [Fin.sum_univ_castSucc, Fin.sum_univ_zero, zero_add]
  rfl

theorem chunk_wide (n : Fin 128) (e : Fin 512) :
    chunk x (wide w) n e = part x w n ((e : ℕ) / 128 % 2) (1024 * ((e : ℕ) / 256)) (lane e) := by
  rw [chunk_sum]
  exact Finset.sum_congr rfl fun j _ => seg_wide x w n e j

theorem hid_wide (n : Fin 128) (f : Fin 256) : hid x (wide w) p w n f = H x p w n ((f : ℕ) / 128) (lane f) := by
  have hf := f.isLt
  unfold hid H
  rw [chunk_wide, chunk_wide]
  have e1 : (f : ℕ) / 128 % 2 = (f : ℕ) / 128 := by omega
  have e2 : 1024 * ((f : ℕ) / 256) = 0 := by omega
  have e3 : (256 + (f : ℕ)) / 128 % 2 = (f : ℕ) / 128 := by omega
  have e4 : 1024 * ((256 + (f : ℕ)) / 256) = 1024 := by omega
  have e5 : lane (256 + (f : ℕ)) = lane f := Fin.ext (by show (256 + (f : ℕ)) % 128 = (f : ℕ) % 128; omega)
  show part x w n ((f : ℕ) / 128 % 2) (1024 * ((f : ℕ) / 256)) (lane f)
    + part x w (next n) ((256 + (f : ℕ)) / 128 % 2) (1024 * ((256 + (f : ℕ)) / 256)) (lane (256 + (f : ℕ))) + _ = _
  rw [e1, e2, e3, e4, e5]
  rfl

theorem res_wide (n l : Fin 128) : res (hid x (wide w) p w n) (wide2 w2) l = C x p w w2 n l := by
  have hl := l.isLt
  unfold res C
  simp only [hid_wide]
  rw [sum256]
  have hg : (l : ℕ) / 64 = 0 ∨ (l : ℕ) / 64 = 1 := by omega
  rcases hg with hg | hg
  · refine (congrArg₂ (· + ·) (Finset.sum_congr rfl fun f _ => ?_) (Finset.sum_eq_zero fun f _ => ?_)).trans (add_zero _)
    · have hf := f.isLt
      unfold wide2
      rw [if_pos (by show (f : ℕ) / 128 = _; omega)]
      have e1 : (f : ℕ) / 128 = (l : ℕ) / 64 := by omega
      have e2 : lane (f : ℕ) = f := Fin.ext (by show (f : ℕ) % 128 = f; omega)
      show gelu (H x p w n ((f : ℕ) / 128) (lane (f : ℕ))) * w2 (lane (f : ℕ)) (lane64 l) = _
      rw [e1, e2]
    · have hf := f.isLt
      unfold wide2
      rw [if_neg (by show ¬ (128 + (f : ℕ)) / 128 = _; omega), mul_zero]
  · refine (congrArg₂ (· + ·) (Finset.sum_eq_zero fun f _ => ?_) (Finset.sum_congr rfl fun f _ => ?_)).trans (zero_add _)
    · have hf := f.isLt
      unfold wide2
      rw [if_neg (by show ¬ (f : ℕ) / 128 = _; omega), mul_zero]
    · have hf := f.isLt
      unfold wide2
      rw [if_pos (by show (128 + (f : ℕ)) / 128 = _; omega)]
      have e1 : (128 + (f : ℕ)) / 128 = (l : ℕ) / 64 := by omega
      have e2 : lane (128 + (f : ℕ)) = f := Fin.ext (by show (128 + (f : ℕ)) % 128 = f; omega)
      show gelu (H x p w n ((128 + (f : ℕ)) / 128) (lane (128 + (f : ℕ)))) * w2 (lane (128 + (f : ℕ))) (lane64 l) = _
      rw [e1, e2]

end Closed

/-- The two results in closed form: the keys rotated by the place of the window, the values as they are. -/
def G13 (x : Vec Ideal S8x2048x128 .f32) (p : Vec Ideal S32x64 .f32) (w : Vec Ideal S2048x128 .f32) (w2 : Vec Ideal S128x64 .f32) :
    Vec Ideal S8x128x128 .f32 := fun i =>
  C (fun r k => x (ix3 (i 0) r k)) (fun q => p (ix2 ⟨(q : ℕ) / 64, by omega⟩ ⟨(q : ℕ) % 64, by omega⟩)) (fun q e => w (ix2 q e))
    (fun f e => w2 (ix2 f e)) (i 1) (i 2 : ℕ)
def G12 (x : Vec Ideal S8x2048x128 .f32) (p : Vec Ideal S32x64 .f32) (w : Vec Ideal S2048x128 .f32) (w2 : Vec Ideal S128x64 .f32)
    (cs sn : Vec Ideal S128x32 .f32) : Vec Ideal S8x128x128 .f32 := fun i =>
  rope (C (fun r k => x (ix3 (i 0) r k)) (fun q => p (ix2 ⟨(q : ℕ) / 64, by omega⟩ ⟨(q : ℕ) % 64, by omega⟩)) (fun q e => w (ix2 q e))
    (fun f e => w2 (ix2 f e)) (i 1)) (fun j => cs (ix2 (i 1) j)) (fun j => sn (ix2 (i 1) j)) (i 2 : ℕ)

/-- The widened first weight as an array. -/
def big (w : Vec Ideal S2048x128 .f32) : FVec Ideal S2048x512 .bf16 :=
  truncf .bf16 (shapeCast S2048x512 (concatenate S16x128x512 1
    [⟨S16x64x512, (concatenate S16x64x512 2 [⟨S16x64x128, (shapeCast S16x64x128 (extractStridedSlice S1024x128 ![0, 0] w slices_S2048x128_S1024x128_0_0) shapeCasts_S1024x128_S16x64x128 : Vec Ideal S16x64x128 .f32)⟩,
        ⟨S16x64x128, (broadcastInDim S16x64x128 ![] bcast_S_S16x64x128 (constant (F := Ideal) S_ .f32 0x00000000#32) : Vec Ideal S16x64x128 .f32)⟩,
        ⟨S16x64x128, (shapeCast S16x64x128 (extractStridedSlice S1024x128 ![1024, 0] w slices_S2048x128_S1024x128_1024_0) shapeCasts_S1024x128_S16x64x128 : Vec Ideal S16x64x128 .f32)⟩,
        ⟨S16x64x128, (broadcastInDim S16x64x128 ![] bcast_S_S16x64x128 (constant (F := Ideal) S_ .f32 0x00000000#32) : Vec Ideal S16x64x128 .f32)⟩]
        concatenates_S16x64x128_S16x64x128_S16x64x128_S16x64x128_S16x64x512_d2 : Vec Ideal S16x64x512 .f32)⟩,
     ⟨S16x64x512, (concatenate S16x64x512 2 [⟨S16x64x128, (broadcastInDim S16x64x128 ![] bcast_S_S16x64x128 (constant (F := Ideal) S_ .f32 0x00000000#32) : Vec Ideal S16x64x128 .f32)⟩,
        ⟨S16x64x128, (shapeCast S16x64x128 (extractStridedSlice S1024x128 ![0, 0] w slices_S2048x128_S1024x128_0_0) shapeCasts_S1024x128_S16x64x128 : Vec Ideal S16x64x128 .f32)⟩,
        ⟨S16x64x128, (broadcastInDim S16x64x128 ![] bcast_S_S16x64x128 (constant (F := Ideal) S_ .f32 0x00000000#32) : Vec Ideal S16x64x128 .f32)⟩,
        ⟨S16x64x128, (shapeCast S16x64x128 (extractStridedSlice S1024x128 ![1024, 0] w slices_S2048x128_S1024x128_1024_0) shapeCasts_S1024x128_S16x64x128 : Vec Ideal S16x64x128 .f32)⟩]
        concatenates_S16x64x128_S16x64x128_S16x64x128_S16x64x128_S16x64x512_d2 : Vec Ideal S16x64x512 .f32)⟩]
    concatenates_S16x64x512_S16x64x512_S16x128x512_d1 : Vec Ideal S16x128x512 .f32) shapeCasts_S16x128x512_S2048x512 : FVec Ideal S2048x512 .f32) bitsLt_bf16_f32

theorem big_apply (w : Vec Ideal S2048x128 .f32) (r : Fin 2048) (e : Fin 512) : big w (ix2 r e) = wide (fun q f => w (ix2 q f)) r e := by
  have hr := r.isLt
  have he := e.isLt
  unfold big
  pointwise
  by_cases h0 : (r : ℕ) % 128 < 64
  · by_cases h1 : (e : ℕ) < 128
    · refine (dif_pos h0).trans ?_
      refine (dif_pos h1).trans ?_
      refine Eq.trans ?_ (wide_pos _ r e (by omega)).symm
      refine congrArg₂ (fun q f => w (ix2 q f)) (Fin.ext ?_) (Fin.ext ?_) <;> dsimp only [at2048, lane] <;> omega
    · by_cases h2 : (e : ℕ) - 128 < 128
      · refine (dif_pos h0).trans ?_
        refine (dif_neg h1).trans ?_
        refine (dif_pos h2).trans ?_
        exact (wide_neg _ r e (by omega)).symm
      · by_cases h3 : (e : ℕ) - 128 - 128 < 128
        · refine (dif_pos h0).trans ?_
          refine (dif_neg h1).trans ?_
          refine (dif_neg h2).trans ?_
          refine (dif_pos h3).trans ?_
          refine Eq.trans ?_ (wide_pos _ r e (by omega)).symm
          refine congrArg₂ (fun q f => w (ix2 q f)) (Fin.ext ?_) (Fin.ext ?_) <;> dsimp only [at2048, lane] <;> omega
        · refine (dif_pos h0).trans ?_
          refine (dif_neg h1).trans ?_
          refine (dif_neg h2).trans ?_
          refine (dif_neg h3).trans ?_
          exact (wide_neg _ r e (by omega)).symm
  · by_cases h1 : (e : ℕ) < 128
    · refine (dif_neg h0).trans ?_
      refine (dif_pos h1).trans ?_
      exact (wide_neg _ r e (by omega)).symm
    · by_cases h2 : (e : ℕ) - 128 < 128
      · refine (dif_neg h0).trans ?_
        refine (dif_neg h1).trans ?_
        refine (dif_pos h2).trans ?_
        refine Eq.trans ?_ (wide_pos _ r e (by omega)).symm
        refine congrArg₂ (fun q f => w (ix2 q f)) (Fin.ext ?_) (Fin.ext ?_) <;> dsimp only [at2048, lane] <;> omega
      · by_cases h3 : (e : ℕ) - 128 - 128 < 128
        · refine (dif_neg h0).trans ?_
          refine (dif_neg h1).trans ?_
          refine (dif_neg h2).trans ?_
          refine (dif_pos h3).trans ?_
          exact (wide_neg _ r e (by omega)).symm
        · refine (dif_neg h0).trans ?_
          refine (dif_neg h1).trans ?_
          refine (dif_neg h2).trans ?_
          refine (dif_neg h3).trans ?_
          refine Eq.trans ?_ (wide_pos _ r e (by omega)).symm
          refine congrArg₂ (fun q f => w (ix2 q f)) (Fin.ext ?_) (Fin.ext ?_) <;> dsimp only [at2048, lane] <;> omega

/-- The widened second weight as an array. -/
def big2 (w : Vec Ideal S128x64 .f32) : FVec Ideal S256x128 .bf16 :=
  truncf .bf16 (concatenate S256x128 0
    [⟨S128x128, (concatenate S128x128 1 [⟨S128x64, w⟩, ⟨S128x64, (broadcastInDim S128x64 ![] bcast_S_S128x64 (constant (F := Ideal) S_ .f32 0x00000000#32) : Vec Ideal S128x64 .f32)⟩]
        concatenates_S128x64_S128x64_S128x128_d1 : Vec Ideal S128x128 .f32)⟩,
     ⟨S128x128, (concatenate S128x128 1 [⟨S128x64, (broadcastInDim S128x64 ![] bcast_S_S128x64 (constant (F := Ideal) S_ .f32 0x00000000#32) : Vec Ideal S128x64 .f32)⟩, ⟨S128x64, w⟩]
        concatenates_S128x64_S128x64_S128x128_d1 : Vec Ideal S128x128 .f32)⟩]
    concatenates_S128x128_S128x128_S256x128_d0 : FVec Ideal S256x128 .f32) bitsLt_bf16_f32

theorem big2_apply (w : Vec Ideal S128x64 .f32) (f : Fin 256) (l : Fin 128) : big2 w (ix2 f l) = wide2 (fun q e => w (ix2 q e)) f l := by
  have hf := f.isLt
  have hl := l.isLt
  unfold big2
  pointwise
  by_cases h0 : (f : ℕ) < 128
  · by_cases h1 : (l : ℕ) < 64
    · refine (dif_pos h0).trans ?_
      refine (dif_pos h1).trans ?_
      refine Eq.trans ?_ (wide2_pos _ f l (by omega)).symm
      refine congrArg₂ (fun q e => w (ix2 q e)) (Fin.ext ?_) (Fin.ext ?_) <;> dsimp only [lane, lane64] <;> omega
    · refine (dif_pos h0).trans ?_
      refine (dif_neg h1).trans ?_
      exact (wide2_neg _ f l (by omega)).symm
  · by_cases h1 : (l : ℕ) < 64
    · refine (dif_neg h0).trans ?_
      refine (dif_pos h1).trans ?_
      exact (wide2_neg _ f l (by omega)).symm
    · refine (dif_neg h0).trans ?_
      refine (dif_neg h1).trans ?_
      refine Eq.trans ?_ (wide2_pos _ f l (by omega)).symm
      refine congrArg₂ (fun q e => w (ix2 q e)) (Fin.ext ?_) (Fin.ext ?_) <;> dsimp only [lane, lane64] <;> omega

/-- A table of 32 angles laid twice side by side, the second time after a change of sign or not, and that twice again. -/
def tile (a b : Vec Ideal S128x32 .f32) : Vec Ideal S128x128 .f32 :=
  shapeCast S128x128 (broadcastInDim S1x128x2x64 ![0, 1, 2, 3] bcast_S1x128x1x64_S1x128x2x64_0_1_2_3
    (shapeCast S1x128x1x64 (concatenate S128x64 1 [⟨S128x32, a⟩, ⟨S128x32, b⟩] concatenates_S128x32_S128x32_S128x64_d1)
      shapeCasts_S128x64_S1x128x1x64 : Vec Ideal S1x128x1x64 .f32)) shapeCasts_S1x128x2x64_S128x128

theorem tile_apply (a b : Vec Ideal S128x32 .f32) (s l : Fin 128) :
    tile a b (ix2 s l) = if (l : ℕ) % 64 < 32 then a (ix2 s (ang l)) else b (ix2 s (ang l)) := by
  have hl := l.isLt
  unfold tile
  pointwise
  by_cases h : (l : ℕ) % 64 < 32
  · rw [if_pos h]
    refine (dif_pos h).trans (congrArg (fun z => a (ix2 s z)) (Fin.ext ?_))
    show (l : ℕ) % 64 = (l : ℕ) % 32; omega
  · rw [if_neg h]
    refine (dif_neg h).trans (congrArg (fun z => b (ix2 s z)) (Fin.ext ?_))
    show (l : ℕ) % 64 - 32 = (l : ℕ) % 32; omega

variable (m : (ℓ : Loc nD τ sig) → Buf (Elt Ideal) ℓ)

/-- The arguments as the call finds them. -/
abbrev a0 (c : Dev nD) : Vec Ideal S8x2048x128 .f32 := m ((c : Thread nD τ).loc main_arg0)
abbrev a1 (c : Dev nD) : Vec Ideal S8x2048x128 .f32 := m ((c : Thread nD τ).loc main_arg1)
abbrev a2 (c : Dev nD) : Vec Ideal S32x64 .f32 := m ((c : Thread nD τ).loc main_arg2)
abbrev a3 (c : Dev nD) : Vec Ideal S2048x128 .f32 := m ((c : Thread nD τ).loc main_arg3)
abbrev a4 (c : Dev nD) : Vec Ideal S128x64 .f32 := m ((c : Thread nD τ).loc main_arg4)
abbrev a5 (c : Dev nD) : Vec Ideal S32x64 .f32 := m ((c : Thread nD τ).loc main_arg5)
abbrev a6 (c : Dev nD) : Vec Ideal S2048x128 .f32 := m ((c : Thread nD τ).loc main_arg6)
abbrev a7 (c : Dev nD) : Vec Ideal S128x64 .f32 := m ((c : Thread nD τ).loc main_arg7)
abbrev a8 (c : Dev nD) : Vec Ideal S128x32 .f32 := m ((c : Thread nD τ).loc main_arg8)
abbrev a9 (c : Dev nD) : Vec Ideal S128x32 .f32 := m ((c : Thread nD τ).loc main_arg9)

theorem idx (t : Fin cfg0.N) : win0_0.index t = ![(t : ℕ), 0, 0] ∧ win0_1.index t = ![(t : ℕ), 0, 0]
    ∧ win0_2.index t = ![0, 0] ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![0, 0]
    ∧ win0_10.index t = ![0, 0] ∧ win0_11.index t = ![0, 0]
    ∧ win0_12.index t = ![(t : ℕ), 0, 0] ∧ win0_13.index t = ![(t : ℕ), 0, 0] := by
  revert t; decide +kernel

theorem v3 (c : Dev nD) : V m c main_v3 = tile (a8 m c) (a8 m c) := by
  unfold V; after_results_simp; rfl
theorem v8 (c : Dev nD) : V m c main_v8 = tile (Host.negf (F := Ideal) (s := S128x32) (φ := .f32) (a9 m c)) (a9 m c) := by
  unfold V; after_results_simp; rfl
theorem v18 (c : Dev nD) : V m c main_v18 = big (a3 m c) := by
  unfold V; after_results_simp; rfl
theorem v23 (c : Dev nD) : V m c main_v23 = a3 m c := by
  unfold V; after_results_simp; rfl
theorem v24 (c : Dev nD) : V m c main_v24 = shapeCast S1x2048 (a2 m c) shapeCasts_S32x64_S1x2048 := by
  unfold V; after_results_simp; rfl
theorem v25 (c : Dev nD) : V m c main_v25 = big2 (a4 m c) := by
  unfold V; after_results_simp; rfl
theorem v35 (c : Dev nD) : V m c main_v35 = big (a6 m c) := by
  unfold V; after_results_simp; rfl
theorem v40 (c : Dev nD) : V m c main_v40 = a6 m c := by
  unfold V; after_results_simp; rfl
theorem v41 (c : Dev nD) : V m c main_v41 = shapeCast S1x2048 (a5 m c) shapeCasts_S32x64_S1x2048 := by
  unfold V; after_results_simp; rfl
theorem v42 (c : Dev nD) : V m c main_v42 = big2 (a7 m c) := by
  unfold V; after_results_simp; rfl

/-- The sequence of a point. -/
def bat (t : Fin cfg0.N) : Fin 8 := ⟨(t : ℕ), t.isLt.trans_eq (by decide)⟩

theorem b0 (c : Dev nD) (t : Fin cfg0.N) (r : Fin 2048) (k : Fin 128) :
    iblk m c 0 t (ix3 0 r k) = a0 m c (ix3 (bat t) r k) := by
  blk_ext [iblk, bat, (idx t).1]
theorem b1 (c : Dev nD) (t : Fin cfg0.N) (r : Fin 2048) (k : Fin 128) :
    iblk m c 1 t (ix3 0 r k) = a1 m c (ix3 (bat t) r k) := by
  blk_ext [iblk, bat, (idx t).2.1]
theorem b2 (c : Dev nD) (t : Fin cfg0.N) (r : Fin 2048) (e : Fin 512) :
    iblk m c 2 t (ix2 r e) = wide (fun q f => a3 m c (ix2 q f)) r e := by
  have h : iblk m c 2 t (ix2 r e) = V m c main_v18 (ix2 r e) := by
    blk_ext [iblk, (idx t).2.2.1]
  rw [h, v18, big_apply]
theorem b3 (c : Dev nD) (t : Fin cfg0.N) (r : Fin 2048) (e : Fin 128) :
    iblk m c 3 t (ix2 r e) = a3 m c (ix2 r e) := by
  have h : iblk m c 3 t (ix2 r e) = V m c main_v23 (ix2 r e) := by
    blk_ext [iblk, (idx t).2.2.2.1]
  rw [h, v23]
theorem b4 (c : Dev nD) (t : Fin cfg0.N) (q : Fin 2048) :
    iblk m c 4 t (ix2 0 q) = a2 m c (ix2 ⟨(q : ℕ) / 64, by omega⟩ ⟨(q : ℕ) % 64, by omega⟩) := by
  have h : iblk m c 4 t (ix2 0 q) = V m c main_v24 (ix2 0 q) := by
    blk_ext [iblk, (idx t).2.2.2.2.1]
  rw [h, v24]
  pointwise
theorem b5 (c : Dev nD) (t : Fin cfg0.N) (f : Fin 256) (l : Fin 128) :
    iblk m c 5 t (ix2 f l) = wide2 (fun q e => a4 m c (ix2 q e)) f l := by
  have h : iblk m c 5 t (ix2 f l) = V m c main_v25 (ix2 f l) := by
    blk_ext [iblk, (idx t).2.2.2.2.2.1]
  rw [h, v25, big2_apply]
theorem b6 (c : Dev nD) (t : Fin cfg0.N) (r : Fin 2048) (e : Fin 512) :
    iblk m c 6 t (ix2 r e) = wide (fun q f => a6 m c (ix2 q f)) r e := by
  have h : iblk m c 6 t (ix2 r e) = V m c main_v35 (ix2 r e) := by
    blk_ext [iblk, (idx t).2.2.2.2.2.2.1]
  rw [h, v35, big_apply]
theorem b7 (c : Dev nD) (t : Fin cfg0.N) (r : Fin 2048) (e : Fin 128) :
    iblk m c 7 t (ix2 r e) = a6 m c (ix2 r e) := by
  have h : iblk m c 7 t (ix2 r e) = V m c main_v40 (ix2 r e) := by
    blk_ext [iblk, (idx t).2.2.2.2.2.2.2.1]
  rw [h, v40]
theorem b8 (c : Dev nD) (t : Fin cfg0.N) (q : Fin 2048) :
    iblk m c 8 t (ix2 0 q) = a5 m c (ix2 ⟨(q : ℕ) / 64, by omega⟩ ⟨(q : ℕ) % 64, by omega⟩) := by
  have h : iblk m c 8 t (ix2 0 q) = V m c main_v41 (ix2 0 q) := by
    blk_ext [iblk, (idx t).2.2.2.2.2.2.2.2.1]
  rw [h, v41]
  pointwise
theorem b9 (c : Dev nD) (t : Fin cfg0.N) (f : Fin 256) (l : Fin 128) :
    iblk m c 9 t (ix2 f l) = wide2 (fun q e => a7 m c (ix2 q e)) f l := by
  have h : iblk m c 9 t (ix2 f l) = V m c main_v42 (ix2 f l) := by
    blk_ext [iblk, (idx t).2.2.2.2.2.2.2.2.2.1]
  rw [h, v42, big2_apply]
theorem b10 (c : Dev nD) (t : Fin cfg0.N) (n l : Fin 128) :
    iblk m c 10 t (ix2 n l) = a8 m c (ix2 n (ang l)) := by
  have h : iblk m c 10 t (ix2 n l) = V m c main_v3 (ix2 n l) := by
    blk_ext [iblk, (idx t).2.2.2.2.2.2.2.2.2.2.1]
  rw [h, v3, tile_apply, ite_self]
theorem b11 (c : Dev nD) (t : Fin cfg0.N) (n l : Fin 128) :
    iblk m c 11 t (ix2 n l) = if (l : ℕ) % 64 < 32 then -a9 m c (ix2 n (ang l)) else a9 m c (ix2 n (ang l)) := by
  have h : iblk m c 11 t (ix2 n l) = V m c main_v8 (ix2 n l) := by
    blk_ext [iblk, (idx t).2.2.2.2.2.2.2.2.2.2.2.1]
  rw [h, v8, tile_apply]
  rfl

/-- The window's value at a point. -/
theorem resK (c : Dev nD) (t : Fin cfg0.N) (n l : Fin 128) :
    res (hid (fun r k => iblk m c 0 t (ix3 0 r k)) (fun r e => iblk m c 2 t (ix2 r e)) (fun q => iblk m c 4 t (ix2 0 q))
      (fun q e => iblk m c 3 t (ix2 q e)) n) (fun f e => iblk m c 5 t (ix2 f e)) l
      = C (fun r k => a0 m c (ix3 (bat t) r k)) (fun q => a2 m c (ix2 ⟨(q : ℕ) / 64, by omega⟩ ⟨(q : ℕ) % 64, by omega⟩)) (fun q e => a3 m c (ix2 q e))
    (fun f e => a4 m c (ix2 f e)) n l := by
  simp only [b0, b2, b3, b4, b5]
  exact res_wide _ _ _ _ n l
theorem resV (c : Dev nD) (t : Fin cfg0.N) (n l : Fin 128) :
    res (hid (fun r k => iblk m c 1 t (ix3 0 r k)) (fun r e => iblk m c 6 t (ix2 r e)) (fun q => iblk m c 8 t (ix2 0 q))
      (fun q e => iblk m c 7 t (ix2 q e)) n) (fun f e => iblk m c 9 t (ix2 f e)) l
      = C (fun r k => a1 m c (ix3 (bat t) r k)) (fun q => a5 m c (ix2 ⟨(q : ℕ) / 64, by omega⟩ ⟨(q : ℕ) % 64, by omega⟩)) (fun q e => a6 m c (ix2 q e))
    (fun f e => a7 m c (ix2 f e)) n l := by
  simp only [b1, b6, b7, b8, b9]
  exact res_wide _ _ _ _ n l

theorem pt13 (c : Dev nD) (t : Fin cfg0.N) (n l : Fin 128) :
    (outsAt0 m c t).2 (ix3 0 n l) = G13 (a1 m c) (a5 m c) (a6 m c) (a7 m c) (ix3 (bat t) n l) := by
  rw [outsV, resV]
  rfl
theorem pt12 (c : Dev nD) (t : Fin cfg0.N) (n l : Fin 128) :
    (outsAt0 m c t).1 (ix3 0 n l) = G12 (a0 m c) (a2 m c) (a3 m c) (a4 m c) (a8 m c) (a9 m c) (ix3 (bat t) n l) := by
  have hl := l.isLt
  rw [outsK]
  simp only [resK]
  rw [b10, b11]
  unfold G12 rope
  refine congrArg₂ (· + ·) rfl ?_
  show _ = (if (l : ℕ) % 64 < 32 then _ else _)
  by_cases h : (l : ℕ) % 64 < 32
  · rw [if_pos h, if_pos h, if_pos h]
    refine congrArg₂ (· * ·) (congrArg _ ?_) rfl
    show ((l : ℕ) + 128 - 96) % 128 = (l : ℕ) + 32; omega
  · rw [if_neg h, if_neg h, if_neg h]
    refine congrArg₂ (· * ·) (congrArg _ ?_) rfl
    show ((l : ℕ) + 128 - 32) % 128 = (l : ℕ) - 32; omega

theorem arr12 (c : Dev nD) : (dats m 0 c).arrAt 12 cfg0.N = G12 (a0 m c) (a2 m c) (a3 m c) (a4 m c) (a8 m c) (a9 m c) := by
  refine (dats m 0 c).arrAt_eq_of_covers 12 _ (by decide +kernel) fun t hf y => ?_
  blk_simp
  rw [after0_12]
  have hy : y = ix3 0 (y 1) (y 2) := by
    funext a; fin_cases a
    · exact Subsingleton.elim (α := Fin 1) _ _
    · rfl
    · rfl
  have e : ((cfg0.win 12).blk t).view.emb y = ix3 (bat t) (y 1) (y 2) := by
    blk_ext [bat, (idx t).2.2.2.2.2.2.2.2.2.2.2.2.1]
  exact (congrArg _ hy).trans ((pt12 m c t (y 1) (y 2)).trans (congrArg (G12 (a0 m c) (a2 m c) (a3 m c) (a4 m c) (a8 m c) (a9 m c)) e.symm))
theorem arr13 (c : Dev nD) : (dats m 0 c).arrAt 13 cfg0.N = G13 (a1 m c) (a5 m c) (a6 m c) (a7 m c) := by
  refine (dats m 0 c).arrAt_eq_of_covers 13 _ (by decide +kernel) fun t hf y => ?_
  blk_simp
  rw [after0_13]
  have hy : y = ix3 0 (y 1) (y 2) := by
    funext a; fin_cases a
    · exact Subsingleton.elim (α := Fin 1) _ _
    · rfl
    · rfl
  have e : ((cfg0.win 13).blk t).view.emb y = ix3 (bat t) (y 1) (y 2) := by
    blk_ext [bat, (idx t).2.2.2.2.2.2.2.2.2.2.2.2.2]
  exact (congrArg _ hy).trans ((pt13 m c t (y 1) (y 2)).trans (congrArg (G13 (a1 m c) (a5 m c) (a6 m c) (a7 m c)) e.symm))

end Cert.CompressIdeal.Hand

end
-- ==== Proof.CompressRef.lean ====
/- The compression reference at an element, and that its two results are the kernel's. -/
module

public import proofs.«01_k».proof.Proof.CompressValue
public import proofs.«01_k».proof.Proof.ProjRef
public import proofs.«01_k».proof.Proof.Gen.CompressReferenceIdeal.Read

@[expose] public section

set_option maxRecDepth 16384

noncomputable section

namespace Cert.CompressReferenceIdeal.Hand

open Cert.CompressReferenceIdeal Cert.CompressReferenceIdeal.Read Idealize.ShloMosaic Idealize.ShloMosaic.TcCoe Idealize.SL.Sem
open Idealize.ShloMosaic.Pointwise
open Cert.ProjIdeal.Hand (ang rope)
open Cert.ProjReferenceIdeal.Hand (rope_lo rope_hi)
open Cert.CompressIdeal.Hand (at2048 lane lane64 next gelu part H C G12 G13)

/-- A sum over the places of a window, row by row of its two chunks. -/
theorem sum1024 (F : Fin 1024 → EReal) : ∑ q, F q = ∑ j : Fin 16, ∑ d : Fin 64, F ⟨64 * (j : ℕ) + d, by omega⟩ := by
  refine ((Equiv.sum_comp (finProdFinEquiv (m := 16) (n := 64)) F).symm.trans (Fintype.sum_prod_type _)).trans ?_
  refine Finset.sum_congr rfl fun j _ => Finset.sum_congr rfl fun d _ => congrArg F (Fin.ext ?_)
  show (d : ℕ) + 64 * (j : ℕ) = 64 * (j : ℕ) + d; omega
theorem sum2048 (F : Fin 2048 → EReal) : ∑ q, F q = ∑ j : Fin 16, ∑ d : Fin 64, F ⟨64 * (j : ℕ) + d, by omega⟩
    + ∑ j : Fin 16, ∑ d : Fin 64, F ⟨1024 + (64 * (j : ℕ) + d), by omega⟩ :=
  (Fin.sum_univ_add (a := 1024) (b := 1024) F).trans (congrArg₂ (· + ·) (sum1024 _) (sum1024 _))

/-- A window's chunk and the next one, one under the other. -/
theorem cat32 (w : Shape.Concatenates [S8x2x128x16x64, S8x2x128x16x64] S8x2x128x32x64 3) (u v : Vec Ideal S8x2x128x16x64 .f32)
    (b : Fin 8) (g : Fin 2) (n : Fin 128) (r : Fin 32) (d : Fin 64) :
    concatenate S8x2x128x32x64 3 [⟨S8x2x128x16x64, u⟩, ⟨S8x2x128x16x64, v⟩] w (ix5 b g n r d)
      = if h : (r : ℕ) < 16 then u (ix5 b g n ⟨r, h⟩ d) else v (ix5 b g n ⟨(r : ℕ) - 16, by omega⟩ d) := by
  pointwise
/-- The chunks moved on by one, the first after the last. -/
theorem cat128 (w : Shape.Concatenates [S8x2x127x16x64, S8x2x1x16x64] S8x2x128x16x64 2) (u : Vec Ideal S8x2x127x16x64 .f32) (v : Vec Ideal S8x2x1x16x64 .f32)
    (b : Fin 8) (g : Fin 2) (n : Fin 128) (r : Fin 16) (d : Fin 64) :
    concatenate S8x2x128x16x64 2 [⟨S8x2x127x16x64, u⟩, ⟨S8x2x1x16x64, v⟩] w (ix5 b g n r d)
      = if h : (n : ℕ) < 127 then u (ix5 b g ⟨n, h⟩ r d) else v (ix5 b g ⟨(n : ℕ) - 127, by omega⟩ r d) := by
  pointwise
/-- The two halves of a head laid side by side. -/
theorem head (w : Shape.Concatenates [S8x2x128x32, S8x2x128x32] S8x2x128x64 3) (u v : Vec Ideal S8x2x128x32 .f32) (f : ℕ → EReal) (b : Fin 8) (g : Fin 2) (n : Fin 128)
    (hu : ∀ j : Fin 32, u (ix4 b g n j) = f j) (hv : ∀ j : Fin 32, v (ix4 b g n j) = f (32 + j)) (j : Fin 64) :
    concatenate S8x2x128x64 3 [⟨S8x2x128x32, u⟩, ⟨S8x2x128x32, v⟩] w (ix4 b g n j) = f j := by
  have hj := j.isLt
  pointwise
  by_cases h1 : (j : ℕ) < 32
  · exact (dif_pos h1).trans (hu _)
  · refine (dif_neg h1).trans ((hv _).trans (congrArg f ?_))
    show 32 + ((j : ℕ) - 32) = j; omega

variable (x : Vec Ideal S8x2048x128 .f32) (p : Vec Ideal S32x64 .f32) (w : Vec Ideal S2048x128 .f32) (w2 : Vec Ideal S128x64 .f32)
  (cs sn : Vec Ideal S128x32 .f32)

theorem at1 (b : Fin 8) (g : Fin 2) (n : Fin 128) (r : Fin 16) (d : Fin 64) :
    val_main_v1 (F := Ideal) x (ix5 b g n r d) = x (ix3 b (at2048 (16 * (n : ℕ) + r)) (lane (64 * (g : ℕ) + d))) := by
  have hb := b.isLt
  have hg := g.isLt
  have hn := n.isLt
  have hr := r.isLt
  have hd := d.isLt
  rw [val_main_v1_apply, val_main_v0_apply]
  refine congrArg x ?_
  funext a; fin_cases a
  · apply Fin.ext; show (((((b : ℕ) * 128 + (n : ℕ)) * 16 + (r : ℕ)) * 2 + (g : ℕ)) * 64 + (d : ℕ)) / 262144 = (b : ℕ); omega
  · apply Fin.ext; show (((((b : ℕ) * 128 + (n : ℕ)) * 16 + (r : ℕ)) * 2 + (g : ℕ)) * 64 + (d : ℕ)) / 128 % 2048 = (16 * (n : ℕ) + (r : ℕ)) % 2048; omega
  · apply Fin.ext; show (((((b : ℕ) * 128 + (n : ℕ)) * 16 + (r : ℕ)) * 2 + (g : ℕ)) * 64 + (d : ℕ)) % 128 = (64 * (g : ℕ) + (d : ℕ)) % 128; omega

theorem at4 (b : Fin 8) (g : Fin 2) (n : Fin 128) (r : Fin 16) (d : Fin 64) :
    val_main_v4 (F := Ideal) x (ix5 b g n r d) = x (ix3 b (at2048 (16 * (next n : ℕ) + r)) (lane (64 * (g : ℕ) + d))) := by
  have hn := n.isLt
  have hx : ((next n : Fin 128) : ℕ) = ((n : ℕ) + 128 - 127) % 128 := rfl
  refine (cat128 _ _ _ b g n r d).trans ?_
  rw [← at1 x b g (next n) r d]
  by_cases h : (n : ℕ) < 127
  · refine (dif_pos h).trans ?_
    rw [val_main_v2_apply]
    refine congrArg _ ?_
    funext a; fin_cases a <;> first | rfl | (apply Fin.ext; show 1 + (n : ℕ) = ((n : ℕ) + 128 - 127) % 128; omega) | (apply Fin.ext; show (n : ℕ) + 1 = ((n : ℕ) + 128 - 127) % 128; omega)
  · refine (dif_neg h).trans ?_
    rw [val_main_v3_apply]
    refine congrArg _ ?_
    funext a; fin_cases a <;> first | rfl | (apply Fin.ext; show (n : ℕ) - 127 = ((n : ℕ) + 128 - 127) % 128; omega)

theorem at8_lo (b : Fin 8) (g : Fin 2) (n : Fin 128) (j : Fin 16) (d : Fin 64) :
    val_main_v8 (F := Ideal) x (ix4 b g n ⟨64 * (j : ℕ) + d, by omega⟩) = x (ix3 b (at2048 (16 * (n : ℕ) + j)) (lane (64 * (g : ℕ) + d))) := by
  have hb := b.isLt
  have hg := g.isLt
  have hn := n.isLt
  have hj := j.isLt
  have hd := d.isLt
  have e : idx_main_v8 (ix4 b g n ⟨64 * (j : ℕ) + d, by omega⟩) = ix5 b g n ⟨j, by omega⟩ d := by
    funext a; fin_cases a
    · apply Fin.ext; show ((((b : ℕ) * 2 + (g : ℕ)) * 128 + (n : ℕ)) * 2048 + (64 * (j : ℕ) + (d : ℕ))) / 524288 = (b : ℕ); omega
    · apply Fin.ext; show ((((b : ℕ) * 2 + (g : ℕ)) * 128 + (n : ℕ)) * 2048 + (64 * (j : ℕ) + (d : ℕ))) / 262144 % 2 = (g : ℕ); omega
    · apply Fin.ext; show ((((b : ℕ) * 2 + (g : ℕ)) * 128 + (n : ℕ)) * 2048 + (64 * (j : ℕ) + (d : ℕ))) / 2048 % 128 = (n : ℕ); omega
    · apply Fin.ext; show ((((b : ℕ) * 2 + (g : ℕ)) * 128 + (n : ℕ)) * 2048 + (64 * (j : ℕ) + (d : ℕ))) / 64 % 32 = (j : ℕ); omega
    · apply Fin.ext; show ((((b : ℕ) * 2 + (g : ℕ)) * 128 + (n : ℕ)) * 2048 + (64 * (j : ℕ) + (d : ℕ))) % 64 = (d : ℕ); omega
  rw [val_main_v8_apply, e]
  refine (cat32 _ _ _ b g n _ d).trans ((dif_pos hj).trans ?_)
  exact at1 x b g n j d
theorem at8_hi (b : Fin 8) (g : Fin 2) (n : Fin 128) (j : Fin 16) (d : Fin 64) :
    val_main_v8 (F := Ideal) x (ix4 b g n ⟨1024 + (64 * (j : ℕ) + d), by omega⟩) = x (ix3 b (at2048 (16 * (next n : ℕ) + j)) (lane (64 * (g : ℕ) + d))) := by
  have hb := b.isLt
  have hg := g.isLt
  have hn := n.isLt
  have hj := j.isLt
  have hd := d.isLt
  have e : idx_main_v8 (ix4 b g n ⟨1024 + (64 * (j : ℕ) + d), by omega⟩) = ix5 b g n ⟨16 + (j : ℕ), by omega⟩ d := by
    funext a; fin_cases a
    · apply Fin.ext; show ((((b : ℕ) * 2 + (g : ℕ)) * 128 + (n : ℕ)) * 2048 + (1024 + (64 * (j : ℕ) + (d : ℕ)))) / 524288 = (b : ℕ); omega
    · apply Fin.ext; show ((((b : ℕ) * 2 + (g : ℕ)) * 128 + (n : ℕ)) * 2048 + (1024 + (64 * (j : ℕ) + (d : ℕ)))) / 262144 % 2 = (g : ℕ); omega
    · apply Fin.ext; show ((((b : ℕ) * 2 + (g : ℕ)) * 128 + (n : ℕ)) * 2048 + (1024 + (64 * (j : ℕ) + (d : ℕ)))) / 2048 % 128 = (n : ℕ); omega
    · apply Fin.ext; show ((((b : ℕ) * 2 + (g : ℕ)) * 128 + (n : ℕ)) * 2048 + (1024 + (64 * (j : ℕ) + (d : ℕ)))) / 64 % 32 = 16 + (j : ℕ); omega
    · apply Fin.ext; show ((((b : ℕ) * 2 + (g : ℕ)) * 128 + (n : ℕ)) * 2048 + (1024 + (64 * (j : ℕ) + (d : ℕ)))) % 64 = (d : ℕ); omega
  rw [val_main_v8_apply, e]
  refine (cat32 _ _ _ b g n _ d).trans ((dif_neg (by show ¬ 16 + (j : ℕ) < 16; omega)).trans ?_)
  have ej : (⟨16 + (j : ℕ) - 16, by omega⟩ : Fin 16) = j := Fin.ext (by show 16 + (j : ℕ) - 16 = j; omega)
  exact (congrArg (fun z => val_main_v4 (F := Ideal) x (ix5 b g n z d)) ej).trans (at4 x b g n j d)

theorem at13 (b : Fin 8) (g : Fin 2) (n f : Fin 128) :
    val_main_v13 (F := Ideal) x p w (ix4 b g n f)
      = H (fun r k => x (ix3 b r k)) (fun q => p (ix2 ⟨(q : ℕ) / 64, by omega⟩ ⟨(q : ℕ) % 64, by omega⟩)) (fun q e => w (ix2 q e)) n g f := by
  have hf := f.isLt
  rw [val_main_v13_apply, val_main_v9_apply, val_main_v12_apply, val_main_v11_apply, val_main_v10_apply, val_main_v7_apply]
  have e1 : ∀ k, lidx_main_v9 (ix4 b g n f) k = ix4 b g n k := fun k => by funext a; fin_cases a <;> rfl
  have e2 : ∀ k, ridx_main_v9 (ix4 b g n f) k = ix2 k f := fun k => by funext a; fin_cases a <;> rfl
  simp only [e1, e2]
  rw [sum2048]
  simp only [at8_lo, at8_hi]
  unfold H part
  refine congrArg₂ (· + ·) (congrArg₂ (· + ·) ?_ ?_) ?_
  · refine Finset.sum_congr rfl fun j _ => Finset.sum_congr rfl fun d _ => congrArg (fun z => _ * w (ix2 z f)) (Fin.ext ?_)
    show 64 * (j : ℕ) + (d : ℕ) = (0 + 64 * (j : ℕ) + (d : ℕ)) % 2048; omega
  · refine Finset.sum_congr rfl fun j _ => Finset.sum_congr rfl fun d _ => congrArg (fun z => _ * w (ix2 z f)) (Fin.ext ?_)
    show 1024 + (64 * (j : ℕ) + (d : ℕ)) = (1024 + 64 * (j : ℕ) + (d : ℕ)) % 2048; omega
  · refine Finset.sum_congr rfl fun q _ => ?_
    have hq := q.isLt
    rw [val_main_v6_apply]
    refine congrArg₂ (· * ·) (congrArg p ?_) (congrArg w ?_)
    · funext a; fin_cases a <;> first | rfl | (apply Fin.ext; simp; done) | (apply Fin.ext; simp; omega)
    · funext a; fin_cases a <;> first | rfl | (apply Fin.ext; simp; done) | (apply Fin.ext; simp; omega)

theorem at26 (b : Fin 8) (g : Fin 2) (n f : Fin 128) :
    val_main_v26 (F := Ideal) x p w (ix4 b g n f)
      = gelu (H (fun r k => x (ix3 b r k)) (fun q => p (ix2 ⟨(q : ℕ) / 64, by omega⟩ ⟨(q : ℕ) % 64, by omega⟩)) (fun q e => w (ix2 q e)) n g f) := by
  rw [val_main_v26_apply, val_main_v25_apply, val_main_v24_apply, val_main_v23_apply, val_main_v22_apply, val_main_v21_apply,
    val_main_v20_apply, val_main_v19_apply, val_main_v18_apply, val_main_v17_apply, val_main_v16_apply, val_main_v15_apply,
    val_main_v14_apply, val_main_cst_apply, val_main_cst_0_apply, val_main_cst_1_apply, val_main_cst_2_apply, at13]
  rw [show (FloatOps.ofBits (F := Ideal) .f32 0x3F800000#32) = (1 : EReal) from Ideal.ofBits_one_f32]
  exact (mul_left_comm (G := EReal) _ _ _).trans (mul_assoc (G := EReal) _ _ _).symm

theorem at27 (b : Fin 8) (g : Fin 2) (n : Fin 128) (e : Fin 64) :
    val_main_v27 (F := Ideal) x p w w2 (ix4 b g n e)
      = C (fun r k => x (ix3 b r k)) (fun q => p (ix2 ⟨(q : ℕ) / 64, by omega⟩ ⟨(q : ℕ) % 64, by omega⟩)) (fun q e => w (ix2 q e))
          (fun f e => w2 (ix2 f e)) n (64 * (g : ℕ) + e) := by
  have he := e.isLt
  rw [val_main_v27_apply]
  unfold C
  have e1 : ∀ k, lidx_main_v27 (ix4 b g n e) k = ix4 b g n k := fun k => by funext a; fin_cases a <;> rfl
  have e2 : ∀ k, ridx_main_v27 (ix4 b g n e) k = ix2 k e := fun k => by funext a; fin_cases a <;> rfl
  simp only [e1, e2, at26]
  rw [show (64 * (g : ℕ) + (e : ℕ)) / 64 = (g : ℕ) by omega,
    show lane64 (64 * (g : ℕ) + (e : ℕ)) = e from Fin.ext (by show (64 * (g : ℕ) + (e : ℕ)) % 64 = e; omega)]

theorem at44 (b : Fin 8) (g : Fin 2) (n : Fin 128) (e : Fin 64) :
    val_main_v44 (F := Ideal) x p w w2 cs sn (ix4 b g n e)
      = rope (C (fun r k => x (ix3 b r k)) (fun q => p (ix2 ⟨(q : ℕ) / 64, by omega⟩ ⟨(q : ℕ) % 64, by omega⟩)) (fun q e => w (ix2 q e))
          (fun f e => w2 (ix2 f e)) n) (fun j => cs (ix2 n j)) (fun j => sn (ix2 n j)) (64 * (g : ℕ) + e) := by
  refine head _ _ _ (fun z => rope (C (fun r k => x (ix3 b r k)) (fun q => p (ix2 ⟨(q : ℕ) / 64, by omega⟩ ⟨(q : ℕ) % 64, by omega⟩)) (fun q e => w (ix2 q e))
          (fun f e => w2 (ix2 f e)) n) (fun j => cs (ix2 n j)) (fun j => sn (ix2 n j)) (64 * (g : ℕ) + z)) b g n (fun j => ?_) (fun j => ?_) e
  · have hj := j.isLt
    have e28 : idx_main_v28 (ix4 b g n j) = ix4 b g n ⟨j, by omega⟩ := by
      funext a; fin_cases a <;> first | rfl | (apply Fin.ext; simp; done) | (apply Fin.ext; simp; omega)
    have e29 : idx_main_v29 (ix4 b g n j) = ix4 b g n ⟨32 + (j : ℕ), by omega⟩ := by
      funext a; fin_cases a <;> first | rfl | (apply Fin.ext; simp; done) | (apply Fin.ext; simp; omega)
    have ec : idx_main_v30 (idx_main_v31 (ix4 b g n j)) = ix2 n j := by
      funext a; fin_cases a <;> first | rfl | (apply Fin.ext; simp; done) | (apply Fin.ext; simp; omega)
    have es : idx_main_v33 (idx_main_v34 (ix4 b g n j)) = ix2 n j := by
      funext a; fin_cases a <;> first | rfl | (apply Fin.ext; simp; done) | (apply Fin.ext; simp; omega)
    rw [val_main_v36_apply, val_main_v32_apply, val_main_v35_apply, val_main_v28_apply, val_main_v29_apply, val_main_v31_apply,
      val_main_v30_apply, val_main_v34_apply, val_main_v33_apply, e28, e29, ec, es, at27, at27]
    show _ = rope _ _ _ (64 * (g : ℕ) + (j : ℕ))
    rw [rope_lo _ _ _ (64 * (g : ℕ)) (by omega) j, add_assoc]
    rfl
  · have hj := j.isLt
    have e28 : idx_main_v28 (ix4 b g n j) = ix4 b g n ⟨j, by omega⟩ := by
      funext a; fin_cases a <;> first | rfl | (apply Fin.ext; simp; done) | (apply Fin.ext; simp; omega)
    have e29 : idx_main_v29 (ix4 b g n j) = ix4 b g n ⟨32 + (j : ℕ), by omega⟩ := by
      funext a; fin_cases a <;> first | rfl | (apply Fin.ext; simp; done) | (apply Fin.ext; simp; omega)
    have ec : idx_main_v37 (idx_main_v38 (ix4 b g n j)) = ix2 n j := by
      funext a; fin_cases a <;> first | rfl | (apply Fin.ext; simp; done) | (apply Fin.ext; simp; omega)
    have es : idx_main_v40 (idx_main_v41 (ix4 b g n j)) = ix2 n j := by
      funext a; fin_cases a <;> first | rfl | (apply Fin.ext; simp; done) | (apply Fin.ext; simp; omega)
    rw [val_main_v43_apply, val_main_v39_apply, val_main_v42_apply, val_main_v29_apply, val_main_v28_apply, val_main_v38_apply,
      val_main_v37_apply, val_main_v41_apply, val_main_v40_apply, e28, e29, ec, es, at27, at27]
    show _ = rope _ _ _ (64 * (g : ℕ) + (32 + (j : ℕ)))
    rw [← add_assoc, rope_hi _ _ _ (64 * (g : ℕ)) (by omega) j, add_assoc]
    rfl

/-- The keys. -/
theorem result12 : val_main_v47 (F := Ideal) x p w w2 cs sn = G12 x p w w2 cs sn := by
  funext i
  obtain ⟨b, n, l, rfl⟩ : ∃ b n l, i = ix3 b n l := ⟨i 0, i 1, i 2, eq_ix3 i⟩
  have hb := b.isLt
  have hn := n.isLt
  have hl := l.isLt
  have e : idx_main_v45 (idx_main_v46 (ix3 b n l)) = ix4 b ⟨(l : ℕ) / 64, by omega⟩ n ⟨(l : ℕ) % 64, by omega⟩ := by
    funext a; fin_cases a <;> first | rfl | (apply Fin.ext; simp; done) | (apply Fin.ext; simp; omega)
  rw [val_main_v47_apply, val_main_v46_apply, val_main_v45_apply, e]
  refine (at44 x p w w2 cs sn b ⟨(l : ℕ) / 64, by omega⟩ n ⟨(l : ℕ) % 64, by omega⟩).trans ?_
  show rope _ _ _ (64 * ((l : ℕ) / 64) + (l : ℕ) % 64) = _
  rw [show 64 * ((l : ℕ) / 64) + (l : ℕ) % 64 = (l : ℕ) by omega]
  rfl

/-- The values are reached as the keys are before they are rotated. -/
theorem same : val_main_v75 (F := Ideal) x p w w2 = val_main_v27 (F := Ideal) x p w w2 := rfl

theorem result13 : val_main_v78 (F := Ideal) x p w w2 = G13 x p w w2 := by
  funext i
  obtain ⟨b, n, l, rfl⟩ : ∃ b n l, i = ix3 b n l := ⟨i 0, i 1, i 2, eq_ix3 i⟩
  have hb := b.isLt
  have hn := n.isLt
  have hl := l.isLt
  have e : idx_main_v76 (idx_main_v77 (ix3 b n l)) = ix4 b ⟨(l : ℕ) / 64, by omega⟩ n ⟨(l : ℕ) % 64, by omega⟩ := by
    funext a; fin_cases a <;> first | rfl | (apply Fin.ext; simp; done) | (apply Fin.ext; simp; omega)
  rw [val_main_v78_apply, val_main_v77_apply, val_main_v76_apply, same, e]
  refine (at27 x p w w2 b ⟨(l : ℕ) / 64, by omega⟩ n ⟨(l : ℕ) % 64, by omega⟩).trans ?_
  show C _ _ _ _ n (64 * ((l : ℕ) / 64) + (l : ℕ) % 64) = _
  rw [show 64 * ((l : ℕ) / 64) + (l : ℕ) % 64 = (l : ℕ) by omega]
  rfl

end Cert.CompressReferenceIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnReferenceIdeal
public import proofs.«01_k».proof.Proof.Gen.FfnIdeal.Value
public import proofs.«01_k».proof.Proof.Gen.FfnReferenceIdeal.Run
public import proofs.«01_k».proof.Proof.Gen.FfnReferenceIdeal.Read
public import proofs.«01_k».proof.Proof.Gen.FfnMid
public import proofs.«01_k».proof.Proof.Gen.FfnMid.Skeleton
public import proofs.«01_k».proof.Proof.Gen.FfnMid.Launch
public import proofs.«01_k».proof.Proof.Gen.FfnMid.Points
public import proofs.«01_k».proof.Proof.Gen.FfnMid.Frame
public import proofs.«01_k».proof.Proof.Gen.FfnMidIdeal
public import proofs.«01_k».proof.Proof.Gen.FfnMidIdeal.Skeleton
public import proofs.«01_k».proof.Proof.Gen.FfnMidIdeal.Launch
public import proofs.«01_k».proof.Proof.Gen.FfnMidIdeal.Points
public import proofs.«01_k».proof.Proof.Gen.FfnMidIdeal.Frame
public import proofs.«01_k».proof.Proof.Gen.FfnMidIdeal.Value
public import proofs.«01_k».proof.Proof.Gen.FfnMidReferenceIdeal
public import proofs.«01_k».proof.Proof.Gen.FfnMidReferenceIdeal.Run
public import proofs.«01_k».proof.Proof.Gen.FfnMidReferenceIdeal.Read
public import proofs.«01_k».proof.Proof.Gen.FfnFirst
public import proofs.«01_k».proof.Proof.Gen.FfnFirst.Skeleton
public import proofs.«01_k».proof.Proof.Gen.FfnFirst.Launch
public import proofs.«01_k».proof.Proof.Gen.FfnFirst.Points
public import proofs.«01_k».proof.Proof.Gen.FfnFirst.Frame
public import proofs.«01_k».proof.Proof.Gen.FfnFirstIdeal
public import proofs.«01_k».proof.Proof.Gen.FfnFirstIdeal.Skeleton
public import proofs.«01_k».proof.Proof.Gen.FfnFirstIdeal.Launch
public import proofs.«01_k».proof.Proof.Gen.FfnFirstIdeal.Points
public import proofs.«01_k».proof.Proof.Gen.FfnFirstIdeal.Frame
public import proofs.«01_k».proof.Proof.Gen.FfnFirstIdeal.Value
public import proofs.«01_k».proof.Proof.Gen.FfnFirstReferenceIdeal
public import proofs.«01_k».proof.Proof.Gen.FfnFirstReferenceIdeal.Run
public import proofs.«01_k».proof.Proof.Gen.FfnFirstReferenceIdeal.Read
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeReferenceIdeal
public import proofs.«01_k».proof.Proof.Gen.MergeReferenceIdeal.Run
public import proofs.«01_k».proof.Proof.Gen.MergeReferenceIdeal.Read
public import proofs.«01_k».proof.Proof.Gen.MergeFirst
public import proofs.«01_k».proof.Proof.Gen.MergeFirst.Skeleton
public import proofs.«01_k».proof.Proof.Gen.MergeFirst.Launch
public import proofs.«01_k».proof.Proof.Gen.MergeFirst.Points
public import proofs.«01_k».proof.Proof.Gen.MergeFirst.Frame
public import proofs.«01_k».proof.Proof.Gen.MergeFirstIdeal
public import proofs.«01_k».proof.Proof.Gen.MergeFirstIdeal.Skeleton
public import proofs.«01_k».proof.Proof.Gen.MergeFirstIdeal.Launch
public import proofs.«01_k».proof.Proof.Gen.MergeFirstIdeal.Points
public import proofs.«01_k».proof.Proof.Gen.MergeFirstIdeal.Frame
public import proofs.«01_k».proof.Proof.Gen.MergeFirstIdeal.Value
public import proofs.«01_k».proof.Proof.Gen.MergeFirstReferenceIdeal
public import proofs.«01_k».proof.Proof.Gen.MergeFirstReferenceIdeal.Run
public import proofs.«01_k».proof.Proof.Gen.MergeFirstReferenceIdeal.Read
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjIdeal.Value
public import proofs.«01_k».proof.Proof.Gen.ProjReferenceIdeal
public import proofs.«01_k».proof.Proof.Gen.ProjReferenceIdeal.Run
public import proofs.«01_k».proof.Proof.Gen.ProjReferenceIdeal.Read
public import proofs.«01_k».proof.Proof.Gen.ProjFirst
public import proofs.«01_k».proof.Proof.Gen.ProjFirst.Skeleton
public import proofs.«01_k».proof.Proof.Gen.ProjFirst.Launch
public import proofs.«01_k».proof.Proof.Gen.ProjFirst.Points
public import proofs.«01_k».proof.Proof.Gen.ProjFirst.Frame
public import proofs.«01_k».proof.Proof.Gen.ProjFirstIdeal
public import proofs.«01_k».proof.Proof.Gen.ProjFirstIdeal.Skeleton
public import proofs.«01_k».proof.Proof.Gen.ProjFirstIdeal.Launch
public import proofs.«01_k».proof.Proof.Gen.ProjFirstIdeal.Points
public import proofs.«01_k».proof.Proof.Gen.ProjFirstIdeal.Frame
public import proofs.«01_k».proof.Proof.Gen.ProjFirstIdeal.Value
public import proofs.«01_k».proof.Proof.Gen.ProjFirstReferenceIdeal
public import proofs.«01_k».proof.Proof.Gen.ProjFirstReferenceIdeal.Run
public import proofs.«01_k».proof.Proof.Gen.ProjFirstReferenceIdeal.Read
public import proofs.«01_k».proof.Proof.Gen.Compress
public import proofs.«01_k».proof.Proof.Gen.Compress.Skeleton
public import proofs.«01_k».proof.Proof.Gen.Compress.Launch
public import proofs.«01_k».proof.Proof.Gen.Compress.Points
public import proofs.«01_k».proof.Proof.Gen.Compress.Frame
public import proofs.«01_k».proof.Proof.Gen.CompressIdeal
public import proofs.«01_k».proof.Proof.Gen.CompressIdeal.Skeleton
public import proofs.«01_k».proof.Proof.Gen.CompressIdeal.Launch
public import proofs.«01_k».proof.Proof.Gen.CompressIdeal.Points
public import proofs.«01_k».proof.Proof.Gen.CompressIdeal.Frame
public import proofs.«01_k».proof.Proof.Gen.CompressIdeal.Value
public import proofs.«01_k».proof.Proof.Gen.CompressReferenceIdeal
public import proofs.«01_k».proof.Proof.Gen.CompressReferenceIdeal.Run
public import proofs.«01_k».proof.Proof.Gen.CompressReferenceIdeal.Read
public import proofs.«01_k».proof.Proof.FfnRef
public import proofs.«01_k».proof.Proof.FfnMidRef
public import proofs.«01_k».proof.Proof.FfnFirstRef
public import proofs.«01_k».proof.Proof.MergeRef
public import proofs.«01_k».proof.Proof.MergeFirstRef
public import proofs.«01_k».proof.Proof.ProjRef
public import proofs.«01_k».proof.Proof.ProjFirstRef
public import proofs.«01_k».proof.Proof.MobaFrame
public import proofs.«01_k».proof.Proof.MobaBitsFrame
public import proofs.«01_k».proof.Proof.CompressRef
public import Idealize.ShloMosaic.Adequacy
public import Idealize.ShloMosaic.Init

@[expose] public section

noncomputable section

namespace Cert.Proof

open Idealize.ShloMosaic Idealize.SL.Sem

theorem ffn : Cert.algebraic_FfnIdeal_FfnReferenceIdeal := by
  intro m g m' g' _ heq
  refine ⟨fun c => Cert.FfnIdeal.Hand.G (m ((c.tc : Thread Cert.FfnIdeal.nD Cert.FfnIdeal.τ).loc Cert.FfnIdeal.main_arg0)) (m ((c.tc : Thread Cert.FfnIdeal.nD Cert.FfnIdeal.τ).loc Cert.FfnIdeal.main_arg1))
    (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))
    (m ((c.tc : Thread Cert.FfnIdeal.nD Cert.FfnIdeal.τ).loc Cert.FfnIdeal.main_arg5)), ?_, ?_⟩
  · refine (θ_run _ _ _).mono (fun r h c => ?_) (Cert.FfnIdeal.Value.run_blocks m g)
    exact ⟨(h c).1.trans (Cert.FfnIdeal.Hand.arr m c), (h c).2⟩
  · refine (θ_run _ _ _).mono (fun r h c => ?_) (Cert.FfnReferenceIdeal.Value.run m' g')
    refine ⟨(h c).1.trans ?_, (h c).2⟩
    obtain ⟨e0, e1, e2, e3, e4, e5⟩ := heq c
    rw [Cert.FfnReferenceIdeal.Read.val_main_v41_eq, Cert.FfnReferenceIdeal.Hand.result, e0, e1, e2, e3, e4, e5]

theorem ffnMid : Cert.algebraic_FfnMidIdeal_FfnMidReferenceIdeal := by
  intro m g m' g' _ heq
  refine ⟨fun c => Cert.FfnMidIdeal.Hand.G (m ((c.tc : Thread Cert.FfnMidIdeal.nD Cert.FfnMidIdeal.τ).loc Cert.FfnMidIdeal.main_arg0)) (m ((c.tc : Thread Cert.FfnMidIdeal.nD Cert.FfnMidIdeal.τ).loc Cert.FfnMidIdeal.main_arg1)) (m ((c.tc : Thread Cert.FfnMidIdeal.nD Cert.FfnMidIdeal.τ).loc Cert.FfnMidIdeal.main_arg2)) (m ((c.tc : Thread Cert.FfnMidIdeal.nD Cert.FfnMidIdeal.τ).loc Cert.FfnMidIdeal.main_arg3)) (m ((c.tc : Thread Cert.FfnMidIdeal.nD Cert.FfnMidIdeal.τ).loc Cert.FfnMidIdeal.main_arg4)), ?_, ?_⟩
  · refine (θ_run _ _ _).mono (fun r h c => ?_) (Cert.FfnMidIdeal.Value.run_blocks m g)
    exact ⟨(h c).1.trans (Cert.FfnMidIdeal.Hand.arr m c), (h c).2⟩
  · refine (θ_run _ _ _).mono (fun r h c => ?_) (Cert.FfnMidReferenceIdeal.Value.run m' g')
    refine ⟨(h c).1.trans ?_, (h c).2⟩
    obtain ⟨e0, e1, e2, e3, e4, e5⟩ := heq c
    rw [Cert.FfnMidReferenceIdeal.Read.val_main_v28_eq, Cert.FfnMidReferenceIdeal.Hand.result, e0, e1, e2, e3, e4]

theorem ffnFirst : Cert.algebraic_FfnFirstIdeal_FfnFirstReferenceIdeal := by
  intro m g m' g' _ heq
  refine ⟨fun c => Cert.FfnFirstIdeal.Hand.G (m ((c.tc : Thread Cert.FfnFirstIdeal.nD Cert.FfnFirstIdeal.τ).loc Cert.FfnFirstIdeal.main_arg0)) (m ((c.tc : Thread Cert.FfnFirstIdeal.nD Cert.FfnFirstIdeal.τ).loc Cert.FfnFirstIdeal.main_arg1)) (m ((c.tc : Thread Cert.FfnFirstIdeal.nD Cert.FfnFirstIdeal.τ).loc Cert.FfnFirstIdeal.main_arg2)) (m ((c.tc : Thread Cert.FfnFirstIdeal.nD Cert.FfnFirstIdeal.τ).loc Cert.FfnFirstIdeal.main_arg3)) (m ((c.tc : Thread Cert.FfnFirstIdeal.nD Cert.FfnFirstIdeal.τ).loc Cert.FfnFirstIdeal.main_arg4)), ?_, ?_⟩
  · refine (θ_run _ _ _).mono (fun r h c => ?_) (Cert.FfnFirstIdeal.Value.run_blocks m g)
    exact ⟨(h c).1.trans (Cert.FfnFirstIdeal.Hand.arr m c), (h c).2⟩
  · refine (θ_run _ _ _).mono (fun r h c => ?_) (Cert.FfnFirstReferenceIdeal.Value.run m' g')
    refine ⟨(h c).1.trans ?_, (h c).2⟩
    obtain ⟨e0, e1, e2, e3, e4, e5⟩ := heq c
    rw [Cert.FfnFirstReferenceIdeal.Read.val_main_v28_eq, Cert.FfnFirstReferenceIdeal.Hand.result, e0, e1, e2, e3, e4]

theorem merge : Cert.algebraic_MergeIdeal_MergeReferenceIdeal := by
  intro m g m' g' _ heq
  refine ⟨fun c => Cert.MergeIdeal.Hand.G (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)), ?_, ?_⟩
  · refine (θ_run _ _ _).mono (fun r h c => ?_) (Cert.MergeIdeal.Value.run_blocks m g)
    exact ⟨(h c).1.trans (Cert.MergeIdeal.Hand.arr m c), (h c).2⟩
  · refine (θ_run _ _ _).mono (fun r h c => ?_) (Cert.MergeReferenceIdeal.Value.run m' g')
    refine ⟨(h c).1.trans ?_, (h c).2⟩
    obtain ⟨e0, e1, e2, e3, e4, e5, e6, e7⟩ := heq c
    rw [Cert.MergeReferenceIdeal.Read.val_main_v50_eq, Cert.MergeReferenceIdeal.Hand.result, e0, e1, e2, e3, e4, e5, e6, e7]

theorem mergeFirst : Cert.algebraic_MergeFirstIdeal_MergeFirstReferenceIdeal := by
  intro m g m' g' _ heq
  refine ⟨fun c => Cert.MergeFirstIdeal.Hand.G (m ((c.tc : Thread Cert.MergeFirstIdeal.nD Cert.MergeFirstIdeal.τ).loc Cert.MergeFirstIdeal.main_arg0)) (m ((c.tc : Thread Cert.MergeFirstIdeal.nD Cert.MergeFirstIdeal.τ).loc Cert.MergeFirstIdeal.main_arg1)) (m ((c.tc : Thread Cert.MergeFirstIdeal.nD Cert.MergeFirstIdeal.τ).loc Cert.MergeFirstIdeal.main_arg2)) (m ((c.tc : Thread Cert.MergeFirstIdeal.nD Cert.MergeFirstIdeal.τ).loc Cert.MergeFirstIdeal.main_arg3)) (m ((c.tc : Thread Cert.MergeFirstIdeal.nD Cert.MergeFirstIdeal.τ).loc Cert.MergeFirstIdeal.main_arg4)) (m ((c.tc : Thread Cert.MergeFirstIdeal.nD Cert.MergeFirstIdeal.τ).loc Cert.MergeFirstIdeal.main_arg5)) (m ((c.tc : Thread Cert.MergeFirstIdeal.nD Cert.MergeFirstIdeal.τ).loc Cert.MergeFirstIdeal.main_arg6)) (m ((c.tc : Thread Cert.MergeFirstIdeal.nD Cert.MergeFirstIdeal.τ).loc Cert.MergeFirstIdeal.main_arg7)), ?_, ?_⟩
  · refine (θ_run _ _ _).mono (fun r h c => ?_) (Cert.MergeFirstIdeal.Value.run_blocks m g)
    exact ⟨(h c).1.trans (Cert.MergeFirstIdeal.Hand.arr m c), (h c).2⟩
  · refine (θ_run _ _ _).mono (fun r h c => ?_) (Cert.MergeFirstReferenceIdeal.Value.run m' g')
    refine ⟨(h c).1.trans ?_, (h c).2⟩
    obtain ⟨e0, e1, e2, e3, e4, e5, e6, e7⟩ := heq c
    rw [Cert.MergeFirstReferenceIdeal.Read.val_main_v50_eq, Cert.MergeFirstReferenceIdeal.Hand.result, e0, e1, e2, e3, e4, e5, e6, e7]

theorem proj : Cert.algebraic_ProjIdeal_ProjReferenceIdeal := by
  intro m g m' g' _ heq
  refine ⟨fun c => Cert.ProjIdeal.Hand.G5 (Cert.ProjIdeal.Hand.a0 m c) (Cert.ProjIdeal.Hand.a1 m c) (Cert.ProjIdeal.Hand.a2 m c) (Cert.ProjIdeal.Hand.a3 m c) (Cert.ProjIdeal.Hand.a4 m c),
    fun c => Cert.ProjIdeal.Hand.G6 (Cert.ProjIdeal.Hand.a0 m c) (Cert.ProjIdeal.Hand.a1 m c) (Cert.ProjIdeal.Hand.a2 m c),
    fun c => Cert.ProjIdeal.Hand.G7 (Cert.ProjIdeal.Hand.a0 m c) (Cert.ProjIdeal.Hand.a1 m c) (Cert.ProjIdeal.Hand.a2 m c),
    fun c => Cert.ProjIdeal.Hand.G8 (Cert.ProjIdeal.Hand.a0 m c) (Cert.ProjIdeal.Hand.a1 m c) (Cert.ProjIdeal.Hand.a2 m c) (Cert.ProjIdeal.Hand.a3 m c) (Cert.ProjIdeal.Hand.a4 m c),
    fun c => Cert.ProjIdeal.Hand.G9 (Cert.ProjIdeal.Hand.a0 m c) (Cert.ProjIdeal.Hand.a1 m c) (Cert.ProjIdeal.Hand.a2 m c),
    fun c => Cert.ProjIdeal.Hand.G10 (Cert.ProjIdeal.Hand.a0 m c) (Cert.ProjIdeal.Hand.a1 m c) (Cert.ProjIdeal.Hand.a2 m c) (Cert.ProjIdeal.Hand.a3 m c) (Cert.ProjIdeal.Hand.a4 m c),
    fun c => Cert.ProjIdeal.Hand.G11 (Cert.ProjIdeal.Hand.a0 m c) (Cert.ProjIdeal.Hand.a1 m c) (Cert.ProjIdeal.Hand.a2 m c) (Cert.ProjIdeal.Hand.a3 m c) (Cert.ProjIdeal.Hand.a4 m c),
    fun c => Cert.ProjIdeal.Hand.G12 (Cert.ProjIdeal.Hand.a0 m c) (Cert.ProjIdeal.Hand.a1 m c) (Cert.ProjIdeal.Hand.a2 m c),
    fun c => Cert.ProjIdeal.Hand.G13 (Cert.ProjIdeal.Hand.a0 m c) (Cert.ProjIdeal.Hand.a1 m c) (Cert.ProjIdeal.Hand.a2 m c),
    fun c => Cert.ProjIdeal.Hand.G14 (Cert.ProjIdeal.Hand.a0 m c) (Cert.ProjIdeal.Hand.a1 m c) (Cert.ProjIdeal.Hand.a2 m c) (Cert.ProjIdeal.Hand.a3 m c) (Cert.ProjIdeal.Hand.a4 m c), ?_, ?_⟩
  · refine (θ_run _ _ _).mono (fun r h c => ?_) (Cert.ProjIdeal.Value.run_blocks m g)
    exact ⟨(h c).1.trans (Cert.ProjIdeal.Hand.arr5 m c),
      (h c).2.1.trans (Cert.ProjIdeal.Hand.arr6 m c),
      (h c).2.2.1.trans (Cert.ProjIdeal.Hand.arr7 m c),
      (h c).2.2.2.1.trans (Cert.ProjIdeal.Hand.arr8 m c),
      (h c).2.2.2.2.1.trans (Cert.ProjIdeal.Hand.arr9 m c),
      (h c).2.2.2.2.2.1.trans (Cert.ProjIdeal.Hand.arr10 m c),
      (h c).2.2.2.2.2.2.1.trans (Cert.ProjIdeal.Hand.arr11 m c),
      (h c).2.2.2.2.2.2.2.1.trans (Cert.ProjIdeal.Hand.arr12 m c),
      (h c).2.2.2.2.2.2.2.2.1.trans (Cert.ProjIdeal.Hand.arr13 m c),
      (h c).2.2.2.2.2.2.2.2.2.1.trans (Cert.ProjIdeal.Hand.arr14 m c),
      (h c).2.2.2.2.2.2.2.2.2.2⟩
  · refine (θ_run _ _ _).mono (fun r h c => ?_) (Cert.ProjReferenceIdeal.Value.run m' g')
    obtain ⟨e0, e1, e2, e3, e4⟩ := heq c
    refine ⟨(h c).1.trans ?_,
      (h c).2.1.trans ?_,
      (h c).2.2.1.trans ?_,
      (h c).2.2.2.1.trans ?_,
      (h c).2.2.2.2.1.trans ?_,
      (h c).2.2.2.2.2.1.trans ?_,
      (h c).2.2.2.2.2.2.1.trans ?_,
      (h c).2.2.2.2.2.2.2.1.trans ?_,
      (h c).2.2.2.2.2.2.2.2.1.trans ?_,
      (h c).2.2.2.2.2.2.2.2.2.1.trans ?_,
      (h c).2.2.2.2.2.2.2.2.2.2⟩
    · rw [Cert.ProjReferenceIdeal.Read.val_main_v77_eq, Cert.ProjReferenceIdeal.Hand.result5, e0, e1, e2, e3, e4]
    · rw [Cert.ProjReferenceIdeal.Read.val_main_v80_eq, Cert.ProjReferenceIdeal.Hand.result6, e0, e1, e2]
    · rw [Cert.ProjReferenceIdeal.Read.val_main_v83_eq, Cert.ProjReferenceIdeal.Hand.result7, e0, e1, e2]
    · rw [Cert.ProjReferenceIdeal.Read.val_main_v119_eq, Cert.ProjReferenceIdeal.Hand.result8, e0, e1, e2, e3, e4]
    · rw [Cert.ProjReferenceIdeal.Read.val_main_v122_eq, Cert.ProjReferenceIdeal.Hand.result9, e0, e1, e2]
    · rw [Cert.ProjReferenceIdeal.Read.val_main_v146_eq, Cert.ProjReferenceIdeal.Hand.result10, e0, e1, e2, e3, e4]
    · rw [Cert.ProjReferenceIdeal.Read.val_main_v147_eq, Cert.ProjReferenceIdeal.Hand.result11, e0, e1, e2, e3, e4]
    · rw [Cert.ProjReferenceIdeal.Read.val_main_v152_eq, Cert.ProjReferenceIdeal.Hand.result12, e0, e1, e2]
    · rw [Cert.ProjReferenceIdeal.Read.val_main_v162_eq, Cert.ProjReferenceIdeal.Hand.result13, e0, e1, e2]
    · rw [Cert.ProjReferenceIdeal.Read.val_main_v53_eq, Cert.ProjReferenceIdeal.Hand.result14, e0, e1, e2, e3, e4]

theorem projFirst : Cert.algebraic_ProjFirstIdeal_ProjFirstReferenceIdeal := by
  intro m g m' g' _ heq
  refine ⟨fun c => Cert.ProjFirstIdeal.Hand.G5 (Cert.ProjFirstIdeal.Hand.a0 m c) (Cert.ProjFirstIdeal.Hand.a1 m c) (Cert.ProjFirstIdeal.Hand.a2 m c) (Cert.ProjFirstIdeal.Hand.a3 m c) (Cert.ProjFirstIdeal.Hand.a4 m c),
    fun c => Cert.ProjFirstIdeal.Hand.G6 (Cert.ProjFirstIdeal.Hand.a0 m c) (Cert.ProjFirstIdeal.Hand.a1 m c) (Cert.ProjFirstIdeal.Hand.a2 m c),
    fun c => Cert.ProjFirstIdeal.Hand.G7 (Cert.ProjFirstIdeal.Hand.a0 m c) (Cert.ProjFirstIdeal.Hand.a1 m c) (Cert.ProjFirstIdeal.Hand.a2 m c),
    fun c => Cert.ProjFirstIdeal.Hand.G8 (Cert.ProjFirstIdeal.Hand.a0 m c) (Cert.ProjFirstIdeal.Hand.a1 m c) (Cert.ProjFirstIdeal.Hand.a2 m c) (Cert.ProjFirstIdeal.Hand.a3 m c) (Cert.ProjFirstIdeal.Hand.a4 m c),
    fun c => Cert.ProjFirstIdeal.Hand.G9 (Cert.ProjFirstIdeal.Hand.a0 m c) (Cert.ProjFirstIdeal.Hand.a1 m c) (Cert.ProjFirstIdeal.Hand.a2 m c),
    fun c => Cert.ProjFirstIdeal.Hand.G10 (Cert.ProjFirstIdeal.Hand.a0 m c) (Cert.ProjFirstIdeal.Hand.a1 m c) (Cert.ProjFirstIdeal.Hand.a2 m c) (Cert.ProjFirstIdeal.Hand.a3 m c) (Cert.ProjFirstIdeal.Hand.a4 m c),
    fun c => Cert.ProjFirstIdeal.Hand.G11 (Cert.ProjFirstIdeal.Hand.a0 m c) (Cert.ProjFirstIdeal.Hand.a1 m c) (Cert.ProjFirstIdeal.Hand.a2 m c) (Cert.ProjFirstIdeal.Hand.a3 m c) (Cert.ProjFirstIdeal.Hand.a4 m c),
    fun c => Cert.ProjFirstIdeal.Hand.G12 (Cert.ProjFirstIdeal.Hand.a0 m c) (Cert.ProjFirstIdeal.Hand.a1 m c) (Cert.ProjFirstIdeal.Hand.a2 m c),
    fun c => Cert.ProjFirstIdeal.Hand.G13 (Cert.ProjFirstIdeal.Hand.a0 m c) (Cert.ProjFirstIdeal.Hand.a1 m c) (Cert.ProjFirstIdeal.Hand.a2 m c),
    fun c => Cert.ProjFirstIdeal.Hand.G14 (Cert.ProjFirstIdeal.Hand.a0 m c) (Cert.ProjFirstIdeal.Hand.a1 m c) (Cert.ProjFirstIdeal.Hand.a2 m c) (Cert.ProjFirstIdeal.Hand.a3 m c) (Cert.ProjFirstIdeal.Hand.a4 m c), ?_, ?_⟩
  · refine (θ_run _ _ _).mono (fun r h c => ?_) (Cert.ProjFirstIdeal.Value.run_blocks m g)
    exact ⟨(h c).1.trans (Cert.ProjFirstIdeal.Hand.arr5 m c),
      (h c).2.1.trans (Cert.ProjFirstIdeal.Hand.arr6 m c),
      (h c).2.2.1.trans (Cert.ProjFirstIdeal.Hand.arr7 m c),
      (h c).2.2.2.1.trans (Cert.ProjFirstIdeal.Hand.arr8 m c),
      (h c).2.2.2.2.1.trans (Cert.ProjFirstIdeal.Hand.arr9 m c),
      (h c).2.2.2.2.2.1.trans (Cert.ProjFirstIdeal.Hand.arr10 m c),
      (h c).2.2.2.2.2.2.1.trans (Cert.ProjFirstIdeal.Hand.arr11 m c),
      (h c).2.2.2.2.2.2.2.1.trans (Cert.ProjFirstIdeal.Hand.arr12 m c),
      (h c).2.2.2.2.2.2.2.2.1.trans (Cert.ProjFirstIdeal.Hand.arr13 m c),
      (h c).2.2.2.2.2.2.2.2.2.1.trans (Cert.ProjFirstIdeal.Hand.arr14 m c),
      (h c).2.2.2.2.2.2.2.2.2.2⟩
  · refine (θ_run _ _ _).mono (fun r h c => ?_) (Cert.ProjFirstReferenceIdeal.Value.run m' g')
    obtain ⟨e0, e1, e2, e3, e4⟩ := heq c
    refine ⟨(h c).1.trans ?_,
      (h c).2.1.trans ?_,
      (h c).2.2.1.trans ?_,
      (h c).2.2.2.1.trans ?_,
      (h c).2.2.2.2.1.trans ?_,
      (h c).2.2.2.2.2.1.trans ?_,
      (h c).2.2.2.2.2.2.1.trans ?_,
      (h c).2.2.2.2.2.2.2.1.trans ?_,
      (h c).2.2.2.2.2.2.2.2.1.trans ?_,
      (h c).2.2.2.2.2.2.2.2.2.1.trans ?_,
      (h c).2.2.2.2.2.2.2.2.2.2⟩
    · rw [Cert.ProjFirstReferenceIdeal.Read.val_main_v77_eq, Cert.ProjFirstReferenceIdeal.Hand.result5, e0, e1, e2, e3, e4]
    · rw [Cert.ProjFirstReferenceIdeal.Read.val_main_v80_eq, Cert.ProjFirstReferenceIdeal.Hand.result6, e0, e1, e2]
    · rw [Cert.ProjFirstReferenceIdeal.Read.val_main_v83_eq, Cert.ProjFirstReferenceIdeal.Hand.result7, e0, e1, e2]
    · rw [Cert.ProjFirstReferenceIdeal.Read.val_main_v119_eq, Cert.ProjFirstReferenceIdeal.Hand.result8, e0, e1, e2, e3, e4]
    · rw [Cert.ProjFirstReferenceIdeal.Read.val_main_v122_eq, Cert.ProjFirstReferenceIdeal.Hand.result9, e0, e1, e2]
    · rw [Cert.ProjFirstReferenceIdeal.Read.val_main_v146_eq, Cert.ProjFirstReferenceIdeal.Hand.result10, e0, e1, e2, e3, e4]
    · rw [Cert.ProjFirstReferenceIdeal.Read.val_main_v147_eq, Cert.ProjFirstReferenceIdeal.Hand.result11, e0, e1, e2, e3, e4]
    · rw [Cert.ProjFirstReferenceIdeal.Read.val_main_v152_eq, Cert.ProjFirstReferenceIdeal.Hand.result12, e0, e1, e2]
    · rw [Cert.ProjFirstReferenceIdeal.Read.val_main_v162_eq, Cert.ProjFirstReferenceIdeal.Hand.result13, e0, e1, e2]
    · rw [Cert.ProjFirstReferenceIdeal.Read.val_main_v53_eq, Cert.ProjFirstReferenceIdeal.Hand.result14, e0, e1, e2, e3, e4]

theorem compress : Cert.algebraic_CompressIdeal_CompressReferenceIdeal := by
  intro m g m' g' _ heq
  refine ⟨fun c => Cert.CompressIdeal.Hand.G12 (Cert.CompressIdeal.Hand.a0 m c) (Cert.CompressIdeal.Hand.a2 m c) (Cert.CompressIdeal.Hand.a3 m c) (Cert.CompressIdeal.Hand.a4 m c) (Cert.CompressIdeal.Hand.a8 m c) (Cert.CompressIdeal.Hand.a9 m c),
    fun c => Cert.CompressIdeal.Hand.G13 (Cert.CompressIdeal.Hand.a1 m c) (Cert.CompressIdeal.Hand.a5 m c) (Cert.CompressIdeal.Hand.a6 m c) (Cert.CompressIdeal.Hand.a7 m c), ?_, ?_⟩
  · refine (θ_run _ _ _).mono (fun r h c => ?_) (Cert.CompressIdeal.Value.run_blocks m g)
    exact ⟨(h c).1.trans (Cert.CompressIdeal.Hand.arr12 m c),
      (h c).2.1.trans (Cert.CompressIdeal.Hand.arr13 m c),
      (h c).2.2⟩
  · refine (θ_run _ _ _).mono (fun r h c => ?_) (Cert.CompressReferenceIdeal.Value.run m' g')
    obtain ⟨e0, e1, e2, e3, e4, e5, e6, e7, e8, e9⟩ := heq c
    refine ⟨(h c).1.trans ?_,
      (h c).2.1.trans ?_,
      (h c).2.2⟩
    · rw [Cert.CompressReferenceIdeal.Read.val_main_v47_eq, Cert.CompressReferenceIdeal.Hand.result12, e0, e2, e3, e4, e8, e9]
    · rw [Cert.CompressReferenceIdeal.Read.val_main_v78_eq, Cert.CompressReferenceIdeal.Hand.result13, e1, e5, e6, e7]

theorem claim : Cert.Claim := ⟨Cert.Kernel.Gen.facts, Cert.KernelIdeal.Gen.facts, Cert.ReferenceIdeal.Gen.facts, Cert.Ffn.Gen.facts, Cert.FfnIdeal.Gen.facts, Cert.FfnReferenceIdeal.Gen.facts, Cert.FfnMid.Gen.facts, Cert.FfnMidIdeal.Gen.facts, Cert.FfnMidReferenceIdeal.Gen.facts, Cert.FfnFirst.Gen.facts, Cert.FfnFirstIdeal.Gen.facts, Cert.FfnFirstReferenceIdeal.Gen.facts, Cert.Merge.Gen.facts, Cert.MergeIdeal.Gen.facts, Cert.MergeReferenceIdeal.Gen.facts, Cert.MergeFirst.Gen.facts, Cert.MergeFirstIdeal.Gen.facts, Cert.MergeFirstReferenceIdeal.Gen.facts, Cert.Proj.Gen.facts, Cert.ProjIdeal.Gen.facts, Cert.ProjReferenceIdeal.Gen.facts, Cert.ProjFirst.Gen.facts, Cert.ProjFirstIdeal.Gen.facts, Cert.ProjFirstReferenceIdeal.Gen.facts, Cert.Compress.Gen.facts, Cert.CompressIdeal.Gen.facts, Cert.CompressReferenceIdeal.Gen.facts, by
  exact ⟨fun m ρ _ => Cert.Kernel.Hand.frame m ρ,
    fun m ρ _ => Cert.KernelIdeal.Hand.frame m ρ,
    fun m ρ _ => (θ_run _ _ _).mono (fun r h => ⟨fun c => (h c).2, Idealize.ShloMosaic.sem_eq_zero_of_no_sems (by decide) r.2⟩) (Cert.ReferenceIdeal.Value.run m ρ),
    fun m ρ _ => Cert.Ffn.Gen.frame m ρ,
    fun m ρ _ => Cert.FfnIdeal.Gen.frame m ρ,
    fun m ρ _ => (θ_run _ _ _).mono (fun r h => ⟨fun c => (h c).2, Idealize.ShloMosaic.sem_eq_zero_of_no_sems (by decide) r.2⟩) (Cert.FfnReferenceIdeal.Value.run m ρ),
    fun m ρ _ => Cert.FfnMid.Gen.frame m ρ,
    fun m ρ _ => Cert.FfnMidIdeal.Gen.frame m ρ,
    fun m ρ _ => (θ_run _ _ _).mono (fun r h => ⟨fun c => (h c).2, Idealize.ShloMosaic.sem_eq_zero_of_no_sems (by decide) r.2⟩) (Cert.FfnMidReferenceIdeal.Value.run m ρ),
    fun m ρ _ => Cert.FfnFirst.Gen.frame m ρ,
    fun m ρ _ => Cert.FfnFirstIdeal.Gen.frame m ρ,
    fun m ρ _ => (θ_run _ _ _).mono (fun r h => ⟨fun c => (h c).2, Idealize.ShloMosaic.sem_eq_zero_of_no_sems (by decide) r.2⟩) (Cert.FfnFirstReferenceIdeal.Value.run m ρ),
    fun m ρ _ => Cert.Merge.Gen.frame m ρ,
    fun m ρ _ => Cert.MergeIdeal.Gen.frame m ρ,
    fun m ρ _ => (θ_run _ _ _).mono (fun r h => ⟨fun c => (h c).2, Idealize.ShloMosaic.sem_eq_zero_of_no_sems (by decide) r.2⟩) (Cert.MergeReferenceIdeal.Value.run m ρ),
    fun m ρ _ => Cert.MergeFirst.Gen.frame m ρ,
    fun m ρ _ => Cert.MergeFirstIdeal.Gen.frame m ρ,
    fun m ρ _ => (θ_run _ _ _).mono (fun r h => ⟨fun c => (h c).2, Idealize.ShloMosaic.sem_eq_zero_of_no_sems (by decide) r.2⟩) (Cert.MergeFirstReferenceIdeal.Value.run m ρ),
    fun m ρ _ => Cert.Proj.Gen.frame m ρ,
    fun m ρ _ => Cert.ProjIdeal.Gen.frame m ρ,
    fun m ρ _ => (θ_run _ _ _).mono (fun r h => ⟨fun c => (h c).2.2.2.2.2.2.2.2.2.2, Idealize.ShloMosaic.sem_eq_zero_of_no_sems (by decide) r.2⟩) (Cert.ProjReferenceIdeal.Value.run m ρ),
    fun m ρ _ => Cert.ProjFirst.Gen.frame m ρ,
    fun m ρ _ => Cert.ProjFirstIdeal.Gen.frame m ρ,
    fun m ρ _ => (θ_run _ _ _).mono (fun r h => ⟨fun c => (h c).2.2.2.2.2.2.2.2.2.2, Idealize.ShloMosaic.sem_eq_zero_of_no_sems (by decide) r.2⟩) (Cert.ProjFirstReferenceIdeal.Value.run m ρ),
    fun m ρ _ => Cert.Compress.Gen.frame m ρ,
    fun m ρ _ => Cert.CompressIdeal.Gen.frame m ρ,
    fun m ρ _ => (θ_run _ _ _).mono (fun r h => ⟨fun c => (h c).2.2, Idealize.ShloMosaic.sem_eq_zero_of_no_sems (by decide) r.2⟩) (Cert.CompressReferenceIdeal.Value.run m ρ),
    IdealRules.named_const.statement Cert.KernelIdeal.κ "mask" .f32 0xF149F2CA#32 ⊥ rfl, trivial, ffn, trivial, ffnMid, trivial, ffnFirst, trivial, merge, trivial, mergeFirst, trivial, proj, trivial, projFirst, trivial, compress⟩⟩

end Cert.Proof

end
